-- ==== Defs.lean ====
def Pre_LayerIdeal [hPre_layer_in_range : Cert.Pre_layer_in_range.Facts] (m : (ℓ : Loc Cert.LayerIdeal.nD Cert.LayerIdeal.τ Cert.LayerIdeal.sig) → Buf (Elt Ideal) ℓ) : Prop :=
  ∀ c : Dev Cert.LayerIdeal.nD,
    (Cert.Pre_layer_in_range.fn (F := Ideal) (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6)) (m ((c.tc : Thread Cert.LayerIdeal.nD Cert.LayerIdeal.τ).loc Cert.LayerIdeal.main_arg7)) (m ((c.tc : Thread Cert.LayerIdeal.nD Cert.LayerIdeal.τ).loc Cert.LayerIdeal.main_arg8)) (m ((c.tc : Thread Cert.LayerIdeal.nD Cert.LayerIdeal.τ).loc Cert.LayerIdeal.main_arg9)) (m ((c.tc : Thread Cert.LayerIdeal.nD Cert.LayerIdeal.τ).loc Cert.LayerIdeal.main_arg10)) (m ((c.tc : Thread Cert.LayerIdeal.nD Cert.LayerIdeal.τ).loc Cert.LayerIdeal.main_arg11)) (m ((c.tc : Thread Cert.LayerIdeal.nD Cert.LayerIdeal.τ).loc Cert.LayerIdeal.main_arg12))) = (fun _ => 1#1)

def Pre_LayerReferenceIdeal (m : (ℓ : Loc Cert.LayerReferenceIdeal.nD Cert.LayerReferenceIdeal.τ Cert.LayerReferenceIdeal.sig) → Buf (Elt Ideal) ℓ) : Prop :=
  True

def Pre_LayerReferenceIdeal_layer_in_range [hPre_layer_in_range : Cert.Pre_layer_in_range.Facts] (m : (ℓ : Loc Cert.LayerReferenceIdeal.nD Cert.LayerReferenceIdeal.τ Cert.LayerReferenceIdeal.sig) → Buf (Elt Ideal) ℓ) : Prop :=
  ∀ c : Dev Cert.LayerReferenceIdeal.nD,
    (Cert.Pre_layer_in_range.fn (F := Ideal) (m ((c.tc : Thread Cert.LayerReferenceIdeal.nD Cert.LayerReferenceIdeal.τ).loc Cert.LayerReferenceIdeal.main_arg0)) (m ((c.tc : Thread Cert.LayerReferenceIdeal.nD Cert.LayerReferenceIdeal.τ).loc Cert.LayerReferenceIdeal.main_arg1)) (m ((c.tc : Thread Cert.LayerReferenceIdeal.nD Cert.LayerReferenceIdeal.τ).loc Cert.LayerReferenceIdeal.main_arg2)) (m ((c.tc : Thread Cert.LayerReferenceIdeal.nD Cert.LayerReferenceIdeal.τ).loc Cert.LayerReferenceIdeal.main_arg3)) (m ((c.tc : Thread Cert.LayerReferenceIdeal.nD Cert.LayerReferenceIdeal.τ).loc Cert.LayerReferenceIdeal.main_arg4)) (m ((c.tc : Thread Cert.LayerReferenceIdeal.nD Cert.LayerReferenceIdeal.τ).loc Cert.LayerReferenceIdeal.main_arg5)) (m ((c.tc : Thread Cert.LayerReferenceIdeal.nD Cert.LayerReferenceIdeal.τ).loc Cert.LayerReferenceIdeal.main_arg6)) (m ((c.tc : Thread Cert.LayerReferenceIdeal.nD Cert.LayerReferenceIdeal.τ).loc Cert.LayerReferenceIdeal.main_arg7)) (m ((c.tc : Thread Cert.LayerReferenceIdeal.nD Cert.LayerReferenceIdeal.τ).loc Cert.LayerReferenceIdeal.main_arg8)) (m ((c.tc : Thread Cert.LayerReferenceIdeal.nD Cert.LayerReferenceIdeal.τ).loc Cert.LayerReferenceIdeal.main_arg9)) (m ((c.tc : Thread Cert.LayerReferenceIdeal.nD Cert.LayerReferenceIdeal.τ).loc Cert.LayerReferenceIdeal.main_arg10)) (m ((c.tc : Thread Cert.LayerReferenceIdeal.nD Cert.LayerReferenceIdeal.τ).loc Cert.LayerReferenceIdeal.main_arg11)) (m ((c.tc : Thread Cert.LayerReferenceIdeal.nD Cert.LayerReferenceIdeal.τ).loc Cert.LayerReferenceIdeal.main_arg12))) = (fun _ => 1#1)

def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Embed (m : (ℓ : Loc Cert.Embed.nD Cert.Embed.τ Cert.Embed.sig) → Buf (Elt Bits) ℓ) : Prop :=
  True

def Pre_EmbedIdeal (m : (ℓ : Loc Cert.EmbedIdeal.nD Cert.EmbedIdeal.τ Cert.EmbedIdeal.sig) → Buf (Elt Ideal) ℓ) : Prop :=
  True

def Pre_EmbedReferenceIdeal (m : (ℓ : Loc Cert.EmbedReferenceIdeal.nD Cert.EmbedReferenceIdeal.τ Cert.EmbedReferenceIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnReferenceIdeal (m : (ℓ : Loc Cert.AttnReferenceIdeal.nD Cert.AttnReferenceIdeal.τ Cert.AttnReferenceIdeal.sig) → Buf (Elt Ideal) ℓ) : Prop :=
  True

def quiescent_LayerIdeal [hLayerIdeal : Cert.LayerIdeal.Facts] [hPre_layer_in_range : Cert.Pre_layer_in_range.Facts] : Prop :=
  ∀ (m : (ℓ : Loc Cert.LayerIdeal.nD Cert.LayerIdeal.τ Cert.LayerIdeal.sig) → Buf (Elt Ideal) ℓ) (g : Dev Cert.LayerIdeal.nD → PrngReg), Pre_LayerIdeal m →
    θ_run (Cert.LayerIdeal.defs (F := Ideal)) (Cert.LayerIdeal.threads (F := Ideal)) ⟨m, fun _ => 0, g⟩ (fun r => (∀ c : Dev Cert.LayerIdeal.nD,
      r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
      ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
      ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
      ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
      ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
      ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
      ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
      ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
      ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
      ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
      ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10)
      ∧ r.2.mem ((c.tc : Thread Cert.LayerIdeal.nD Cert.LayerIdeal.τ).loc Cert.LayerIdeal.main_arg11) = m ((c.tc : Thread Cert.LayerIdeal.nD Cert.LayerIdeal.τ).loc Cert.LayerIdeal.main_arg11)
      ∧ r.2.mem ((c.tc : Thread Cert.LayerIdeal.nD Cert.LayerIdeal.τ).loc Cert.LayerIdeal.main_arg12) = m ((c.tc : Thread Cert.LayerIdeal.nD Cert.LayerIdeal.τ).loc Cert.LayerIdeal.main_arg12))
      ∧ r.2.sem = fun _ => 0)

def quiescent_LayerReferenceIdeal [hLayerReferenceIdeal : Cert.LayerReferenceIdeal.Facts] : Prop :=
  ∀ (m : (ℓ : Loc Cert.LayerReferenceIdeal.nD Cert.LayerReferenceIdeal.τ Cert.LayerReferenceIdeal.sig) → Buf (Elt Ideal) ℓ) (g : Dev Cert.LayerReferenceIdeal.nD → PrngReg), Pre_LayerReferenceIdeal m →
    θ_run (Cert.LayerReferenceIdeal.defs (F := Ideal)) (onTc (τ := Cert.LayerReferenceIdeal.τ) (Cert.LayerReferenceIdeal.main (F := Ideal))) ⟨m, fun _ => 0, g⟩ (fun r => (∀ c : Dev Cert.LayerReferenceIdeal.nD,
      r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
      ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
      ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
      ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3)
      ∧ r.2.mem ((c.tc : Thread Cert.LayerReferenceIdeal.nD Cert.LayerReferenceIdeal.τ).loc Cert.LayerReferenceIdeal.main_arg4) = m ((c.tc : Thread Cert.LayerReferenceIdeal.nD Cert.LayerReferenceIdeal.τ).loc Cert.LayerReferenceIdeal.main_arg4)
      ∧ r.2.mem ((c.tc : Thread Cert.LayerReferenceIdeal.nD Cert.LayerReferenceIdeal.τ).loc Cert.LayerReferenceIdeal.main_arg5) = m ((c.tc : Thread Cert.LayerReferenceIdeal.nD Cert.LayerReferenceIdeal.τ).loc Cert.LayerReferenceIdeal.main_arg5)
      ∧ r.2.mem ((c.tc : Thread Cert.LayerReferenceIdeal.nD Cert.LayerReferenceIdeal.τ).loc Cert.LayerReferenceIdeal.main_arg6) = m ((c.tc : Thread Cert.LayerReferenceIdeal.nD Cert.LayerReferenceIdeal.τ).loc Cert.LayerReferenceIdeal.main_arg6)
      ∧ r.2.mem ((c.tc : Thread Cert.LayerReferenceIdeal.nD Cert.LayerReferenceIdeal.τ).loc Cert.LayerReferenceIdeal.main_arg7) = m ((c.tc : Thread Cert.LayerReferenceIdeal.nD Cert.LayerReferenceIdeal.τ).loc Cert.LayerReferenceIdeal.main_arg7)
      ∧ r.2.mem ((c.tc : Thread Cert.LayerReferenceIdeal.nD Cert.LayerReferenceIdeal.τ).loc Cert.LayerReferenceIdeal.main_arg8) = m ((c.tc : Thread Cert.LayerReferenceIdeal.nD Cert.LayerReferenceIdeal.τ).loc Cert.LayerReferenceIdeal.main_arg8)
      ∧ r.2.mem ((c.tc : Thread Cert.LayerReferenceIdeal.nD Cert.LayerReferenceIdeal.τ).loc Cert.LayerReferenceIdeal.main_arg9) = m ((c.tc : Thread Cert.LayerReferenceIdeal.nD Cert.LayerReferenceIdeal.τ).loc Cert.LayerReferenceIdeal.main_arg9)
      ∧ r.2.mem ((c.tc : Thread Cert.LayerReferenceIdeal.nD Cert.LayerReferenceIdeal.τ).loc Cert.LayerReferenceIdeal.main_arg10) = m ((c.tc : Thread Cert.LayerReferenceIdeal.nD Cert.LayerReferenceIdeal.τ).loc Cert.LayerReferenceIdeal.main_arg10)
      ∧ r.2.mem ((c.tc : Thread Cert.LayerReferenceIdeal.nD Cert.LayerReferenceIdeal.τ).loc Cert.LayerReferenceIdeal.main_arg11) = m ((c.tc : Thread Cert.LayerReferenceIdeal.nD Cert.LayerReferenceIdeal.τ).loc Cert.LayerReferenceIdeal.main_arg11)
      ∧ r.2.mem ((c.tc : Thread Cert.LayerReferenceIdeal.nD Cert.LayerReferenceIdeal.τ).loc Cert.LayerReferenceIdeal.main_arg12) = m ((c.tc : Thread Cert.LayerReferenceIdeal.nD Cert.LayerReferenceIdeal.τ).loc Cert.LayerReferenceIdeal.main_arg12))
      ∧ r.2.sem = fun _ => 0)

def quiescent_LayerReferenceIdeal_pre_layer_in_range [hLayerReferenceIdeal : Cert.LayerReferenceIdeal.Facts] [hPre_layer_in_range : Cert.Pre_layer_in_range.Facts] : Prop :=
  ∀ (m : (ℓ : Loc Cert.LayerReferenceIdeal.nD Cert.LayerReferenceIdeal.τ Cert.LayerReferenceIdeal.sig) → Buf (Elt Ideal) ℓ) (g : Dev Cert.LayerReferenceIdeal.nD → PrngReg), Pre_LayerReferenceIdeal_layer_in_range m →
    θ_run (Cert.LayerReferenceIdeal.defs (F := Ideal)) (onTc (τ := Cert.LayerReferenceIdeal.τ) (Cert.LayerReferenceIdeal.main (F := Ideal))) ⟨m, fun _ => 0, g⟩ (fun r => (∀ c : Dev Cert.LayerReferenceIdeal.nD,
      r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
      ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
      ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
      ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3)
      ∧ r.2.mem ((c.tc : Thread Cert.LayerReferenceIdeal.nD Cert.LayerReferenceIdeal.τ).loc Cert.LayerReferenceIdeal.main_arg4) = m ((c.tc : Thread Cert.LayerReferenceIdeal.nD Cert.LayerReferenceIdeal.τ).loc Cert.LayerReferenceIdeal.main_arg4)
      ∧ r.2.mem ((c.tc : Thread Cert.LayerReferenceIdeal.nD Cert.LayerReferenceIdeal.τ).loc Cert.LayerReferenceIdeal.main_arg5) = m ((c.tc : Thread Cert.LayerReferenceIdeal.nD Cert.LayerReferenceIdeal.τ).loc Cert.LayerReferenceIdeal.main_arg5)
      ∧ r.2.mem ((c.tc : Thread Cert.LayerReferenceIdeal.nD Cert.LayerReferenceIdeal.τ).loc Cert.LayerReferenceIdeal.main_arg6) = m ((c.tc : Thread Cert.LayerReferenceIdeal.nD Cert.LayerReferenceIdeal.τ).loc Cert.LayerReferenceIdeal.main_arg6)
      ∧ r.2.mem ((c.tc : Thread Cert.LayerReferenceIdeal.nD Cert.LayerReferenceIdeal.τ).loc Cert.LayerReferenceIdeal.main_arg7) = m ((c.tc : Thread Cert.LayerReferenceIdeal.nD Cert.LayerReferenceIdeal.τ).loc Cert.LayerReferenceIdeal.main_arg7)
      ∧ r.2.mem ((c.tc : Thread Cert.LayerReferenceIdeal.nD Cert.LayerReferenceIdeal.τ).loc Cert.LayerReferenceIdeal.main_arg8) = m ((c.tc : Thread Cert.LayerReferenceIdeal.nD Cert.LayerReferenceIdeal.τ).loc Cert.LayerReferenceIdeal.main_arg8)
      ∧ r.2.mem ((c.tc : Thread Cert.LayerReferenceIdeal.nD Cert.LayerReferenceIdeal.τ).loc Cert.LayerReferenceIdeal.main_arg9) = m ((c.tc : Thread Cert.LayerReferenceIdeal.nD Cert.LayerReferenceIdeal.τ).loc Cert.LayerReferenceIdeal.main_arg9)
      ∧ r.2.mem ((c.tc : Thread Cert.LayerReferenceIdeal.nD Cert.LayerReferenceIdeal.τ).loc Cert.LayerReferenceIdeal.main_arg10) = m ((c.tc : Thread Cert.LayerReferenceIdeal.nD Cert.LayerReferenceIdeal.τ).loc Cert.LayerReferenceIdeal.main_arg10)
      ∧ r.2.mem ((c.tc : Thread Cert.LayerReferenceIdeal.nD Cert.LayerReferenceIdeal.τ).loc Cert.LayerReferenceIdeal.main_arg11) = m ((c.tc : Thread Cert.LayerReferenceIdeal.nD Cert.LayerReferenceIdeal.τ).loc Cert.LayerReferenceIdeal.main_arg11)
      ∧ r.2.mem ((c.tc : Thread Cert.LayerReferenceIdeal.nD Cert.LayerReferenceIdeal.τ).loc Cert.LayerReferenceIdeal.main_arg12) = m ((c.tc : Thread Cert.LayerReferenceIdeal.nD Cert.LayerReferenceIdeal.τ).loc Cert.LayerReferenceIdeal.main_arg12))
      ∧ r.2.sem = fun _ => 0)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Embed [hEmbed : Cert.Embed.Facts] : Prop :=
  ∀ (m : (ℓ : Loc Cert.Embed.nD Cert.Embed.τ Cert.Embed.sig) → Buf (Elt Bits) ℓ) (g : Dev Cert.Embed.nD → PrngReg), Pre_Embed m →
    θ_run (Cert.Embed.defs (F := Bits)) (onTc (τ := Cert.Embed.τ) (Cert.Embed.main (F := Bits))) ⟨m, fun _ => 0, g⟩ (fun r => (∀ c : Dev Cert.Embed.nD,
      r.2.mem ((c.tc : Thread Cert.Embed.nD Cert.Embed.τ).loc Cert.Embed.main_arg0) = m ((c.tc : Thread Cert.Embed.nD Cert.Embed.τ).loc Cert.Embed.main_arg0)
      ∧ r.2.mem ((c.tc : Thread Cert.Embed.nD Cert.Embed.τ).loc Cert.Embed.main_arg1) = m ((c.tc : Thread Cert.Embed.nD Cert.Embed.τ).loc Cert.Embed.main_arg1)
      ∧ r.2.mem ((c.tc : Thread Cert.Embed.nD Cert.Embed.τ).loc Cert.Embed.main_arg2) = m ((c.tc : Thread Cert.Embed.nD Cert.Embed.τ).loc Cert.Embed.main_arg2))
      ∧ r.2.sem = fun _ => 0)

def quiescent_EmbedIdeal [hEmbedIdeal : Cert.EmbedIdeal.Facts] : Prop :=
  ∀ (m : (ℓ : Loc Cert.EmbedIdeal.nD Cert.EmbedIdeal.τ Cert.EmbedIdeal.sig) → Buf (Elt Ideal) ℓ) (g : Dev Cert.EmbedIdeal.nD → PrngReg), Pre_EmbedIdeal m →
    θ_run (Cert.EmbedIdeal.defs (F := Ideal)) (onTc (τ := Cert.EmbedIdeal.τ) (Cert.EmbedIdeal.main (F := Ideal))) ⟨m, fun _ => 0, g⟩ (fun r => (∀ c : Dev Cert.EmbedIdeal.nD,
      r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
      ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
      ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2))
      ∧ r.2.sem = fun _ => 0)

def quiescent_EmbedReferenceIdeal [hEmbedReferenceIdeal : Cert.EmbedReferenceIdeal.Facts] : Prop :=
  ∀ (m : (ℓ : Loc Cert.EmbedReferenceIdeal.nD Cert.EmbedReferenceIdeal.τ Cert.EmbedReferenceIdeal.sig) → Buf (Elt Ideal) ℓ) (g : Dev Cert.EmbedReferenceIdeal.nD → PrngReg), Pre_EmbedReferenceIdeal m →
    θ_run (Cert.EmbedReferenceIdeal.defs (F := Ideal)) (onTc (τ := Cert.EmbedReferenceIdeal.τ) (Cert.EmbedReferenceIdeal.main (F := Ideal))) ⟨m, fun _ => 0, g⟩ (fun r => (∀ c : Dev Cert.EmbedReferenceIdeal.nD,
      r.2.mem ((c.tc : Thread Cert.EmbedReferenceIdeal.nD Cert.EmbedReferenceIdeal.τ).loc Cert.EmbedReferenceIdeal.main_arg0) = m ((c.tc : Thread Cert.EmbedReferenceIdeal.nD Cert.EmbedReferenceIdeal.τ).loc Cert.EmbedReferenceIdeal.main_arg0)
      ∧ r.2.mem ((c.tc : Thread Cert.EmbedReferenceIdeal.nD Cert.EmbedReferenceIdeal.τ).loc Cert.EmbedReferenceIdeal.main_arg1) = m ((c.tc : Thread Cert.EmbedReferenceIdeal.nD Cert.EmbedReferenceIdeal.τ).loc Cert.EmbedReferenceIdeal.main_arg1)
      ∧ r.2.mem ((c.tc : Thread Cert.EmbedReferenceIdeal.nD Cert.EmbedReferenceIdeal.τ).loc Cert.EmbedReferenceIdeal.main_arg2) = m ((c.tc : Thread Cert.EmbedReferenceIdeal.nD Cert.EmbedReferenceIdeal.τ).loc Cert.EmbedReferenceIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7)
      ∧ r.2.mem ((c.tc : Thread Cert.Attn.nD Cert.Attn.τ).loc Cert.Attn.main_arg8) = m ((c.tc : Thread Cert.Attn.nD Cert.Attn.τ).loc Cert.Attn.main_arg8)
      ∧ r.2.mem ((c.tc : Thread Cert.Attn.nD Cert.Attn.τ).loc Cert.Attn.main_arg9) = m ((c.tc : Thread Cert.Attn.nD Cert.Attn.τ).loc Cert.Attn.main_arg9)
      ∧ r.2.mem ((c.tc : Thread Cert.Attn.nD Cert.Attn.τ).loc Cert.Attn.main_arg10) = m ((c.tc : Thread Cert.Attn.nD Cert.Attn.τ).loc Cert.Attn.main_arg10)
      ∧ r.2.mem ((c.tc : Thread Cert.Attn.nD Cert.Attn.τ).loc Cert.Attn.main_arg11) = m ((c.tc : Thread Cert.Attn.nD Cert.Attn.τ).loc Cert.Attn.main_arg11))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
      ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
      ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
      ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10)
      ∧ r.2.mem ((c.tc : Thread Cert.AttnIdeal.nD Cert.AttnIdeal.τ).loc Cert.AttnIdeal.main_arg11) = m ((c.tc : Thread Cert.AttnIdeal.nD Cert.AttnIdeal.τ).loc Cert.AttnIdeal.main_arg11))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4)
      ∧ r.2.mem ((c.tc : Thread Cert.AttnReferenceIdeal.nD Cert.AttnReferenceIdeal.τ).loc Cert.AttnReferenceIdeal.main_arg5) = m ((c.tc : Thread Cert.AttnReferenceIdeal.nD Cert.AttnReferenceIdeal.τ).loc Cert.AttnReferenceIdeal.main_arg5)
      ∧ r.2.mem ((c.tc : Thread Cert.AttnReferenceIdeal.nD Cert.AttnReferenceIdeal.τ).loc Cert.AttnReferenceIdeal.main_arg6) = m ((c.tc : Thread Cert.AttnReferenceIdeal.nD Cert.AttnReferenceIdeal.τ).loc Cert.AttnReferenceIdeal.main_arg6)
      ∧ r.2.mem ((c.tc : Thread Cert.AttnReferenceIdeal.nD Cert.AttnReferenceIdeal.τ).loc Cert.AttnReferenceIdeal.main_arg7) = m ((c.tc : Thread Cert.AttnReferenceIdeal.nD Cert.AttnReferenceIdeal.τ).loc Cert.AttnReferenceIdeal.main_arg7)
      ∧ r.2.mem ((c.tc : Thread Cert.AttnReferenceIdeal.nD Cert.AttnReferenceIdeal.τ).loc Cert.AttnReferenceIdeal.main_arg8) = m ((c.tc : Thread Cert.AttnReferenceIdeal.nD Cert.AttnReferenceIdeal.τ).loc Cert.AttnReferenceIdeal.main_arg8)
      ∧ r.2.mem ((c.tc : Thread Cert.AttnReferenceIdeal.nD Cert.AttnReferenceIdeal.τ).loc Cert.AttnReferenceIdeal.main_arg9) = m ((c.tc : Thread Cert.AttnReferenceIdeal.nD Cert.AttnReferenceIdeal.τ).loc Cert.AttnReferenceIdeal.main_arg9)
      ∧ r.2.mem ((c.tc : Thread Cert.AttnReferenceIdeal.nD Cert.AttnReferenceIdeal.τ).loc Cert.AttnReferenceIdeal.main_arg10) = m ((c.tc : Thread Cert.AttnReferenceIdeal.nD Cert.AttnReferenceIdeal.τ).loc Cert.AttnReferenceIdeal.main_arg10)
      ∧ r.2.mem ((c.tc : Thread Cert.AttnReferenceIdeal.nD Cert.AttnReferenceIdeal.τ).loc Cert.AttnReferenceIdeal.main_arg11) = m ((c.tc : Thread Cert.AttnReferenceIdeal.nD Cert.AttnReferenceIdeal.τ).loc Cert.AttnReferenceIdeal.main_arg11))
      ∧ r.2.sem = fun _ => 0)

def algebraic_LayerIdeal_LayerReferenceIdeal [hLayerIdeal : Cert.LayerIdeal.Facts] [hLayerReferenceIdeal : Cert.LayerReferenceIdeal.Facts] [hPre_layer_in_range : Cert.Pre_layer_in_range.Facts] : Prop :=
  ∀ (m : (ℓ : Loc Cert.LayerIdeal.nD Cert.LayerIdeal.τ Cert.LayerIdeal.sig) → Buf (Elt Ideal) ℓ) (g : Dev Cert.LayerIdeal.nD → PrngReg)
    (m' : (ℓ : Loc Cert.LayerReferenceIdeal.nD Cert.LayerReferenceIdeal.τ Cert.LayerReferenceIdeal.sig) → Buf (Elt Ideal) ℓ) (g' : Dev Cert.LayerReferenceIdeal.nD → PrngReg), Pre_LayerIdeal m →
    (∀ c : Dev Cert.LayerIdeal.nD,
      m' ((c.tc : Thread Cert.LayerReferenceIdeal.nD Cert.LayerReferenceIdeal.τ).loc Cert.LayerReferenceIdeal.main_arg0) = m ((c.tc : Thread Cert.LayerIdeal.nD Cert.LayerIdeal.τ).loc Cert.LayerIdeal.main_arg0)
      ∧ m' ((c.tc : Thread Cert.LayerReferenceIdeal.nD Cert.LayerReferenceIdeal.τ).loc Cert.LayerReferenceIdeal.main_arg1) = m ((c.tc : Thread Cert.LayerIdeal.nD Cert.LayerIdeal.τ).loc Cert.LayerIdeal.main_arg1)
      ∧ m' ((c.tc : Thread Cert.LayerReferenceIdeal.nD Cert.LayerReferenceIdeal.τ).loc Cert.LayerReferenceIdeal.main_arg2) = m ((c.tc : Thread Cert.LayerIdeal.nD Cert.LayerIdeal.τ).loc Cert.LayerIdeal.main_arg2)
      ∧ m' ((c.tc : Thread Cert.LayerReferenceIdeal.nD Cert.LayerReferenceIdeal.τ).loc Cert.LayerReferenceIdeal.main_arg3) = m ((c.tc : Thread Cert.LayerIdeal.nD Cert.LayerIdeal.τ).loc Cert.LayerIdeal.main_arg3)
      ∧ m' ((c.tc : Thread Cert.LayerReferenceIdeal.nD Cert.LayerReferenceIdeal.τ).loc Cert.LayerReferenceIdeal.main_arg4) = m ((c.tc : Thread Cert.LayerIdeal.nD Cert.LayerIdeal.τ).loc Cert.LayerIdeal.main_arg4)
      ∧ m' ((c.tc : Thread Cert.LayerReferenceIdeal.nD Cert.LayerReferenceIdeal.τ).loc Cert.LayerReferenceIdeal.main_arg5) = m ((c.tc : Thread Cert.LayerIdeal.nD Cert.LayerIdeal.τ).loc Cert.LayerIdeal.main_arg5)
      ∧ m' ((c.tc : Thread Cert.LayerReferenceIdeal.nD Cert.LayerReferenceIdeal.τ).loc Cert.LayerReferenceIdeal.main_arg6) = m ((c.tc : Thread Cert.LayerIdeal.nD Cert.LayerIdeal.τ).loc Cert.LayerIdeal.main_arg6)
      ∧ m' ((c.tc : Thread Cert.LayerReferenceIdeal.nD Cert.LayerReferenceIdeal.τ).loc Cert.LayerReferenceIdeal.main_arg7) = m ((c.tc : Thread Cert.LayerIdeal.nD Cert.LayerIdeal.τ).loc Cert.LayerIdeal.main_arg7)
      ∧ m' ((c.tc : Thread Cert.LayerReferenceIdeal.nD Cert.LayerReferenceIdeal.τ).loc Cert.LayerReferenceIdeal.main_arg8) = m ((c.tc : Thread Cert.LayerIdeal.nD Cert.LayerIdeal.τ).loc Cert.LayerIdeal.main_arg8)
      ∧ m' ((c.tc : Thread Cert.LayerReferenceIdeal.nD Cert.LayerReferenceIdeal.τ).loc Cert.LayerReferenceIdeal.main_arg9) = m ((c.tc : Thread Cert.LayerIdeal.nD Cert.LayerIdeal.τ).loc Cert.LayerIdeal.main_arg9)
      ∧ m' ((c.tc : Thread Cert.LayerReferenceIdeal.nD Cert.LayerReferenceIdeal.τ).loc Cert.LayerReferenceIdeal.main_arg10) = m ((c.tc : Thread Cert.LayerIdeal.nD Cert.LayerIdeal.τ).loc Cert.LayerIdeal.main_arg10)
      ∧ m' ((c.tc : Thread Cert.LayerReferenceIdeal.nD Cert.LayerReferenceIdeal.τ).loc Cert.LayerReferenceIdeal.main_arg11) = m ((c.tc : Thread Cert.LayerIdeal.nD Cert.LayerIdeal.τ).loc Cert.LayerIdeal.main_arg11)
      ∧ m' ((c.tc : Thread Cert.LayerReferenceIdeal.nD Cert.LayerReferenceIdeal.τ).loc Cert.LayerReferenceIdeal.main_arg12) = m ((c.tc : Thread Cert.LayerIdeal.nD Cert.LayerIdeal.τ).loc Cert.LayerIdeal.main_arg12)) →
    ∃ (v0 : (c : Dev Cert.LayerIdeal.nD) → Buf (Elt Ideal) ((c.tc : Thread Cert.LayerIdeal.nD Cert.LayerIdeal.τ).loc Cert.LayerIdeal.main_v65)),
      θ_run (Cert.LayerIdeal.defs (F := Ideal)) (Cert.LayerIdeal.threads (F := Ideal)) ⟨m, fun _ => 0, g⟩ (fun r => ∀ c : Dev Cert.LayerIdeal.nD,
          r.2.mem ((c.tc : Thread Cert.LayerIdeal.nD Cert.LayerIdeal.τ).loc Cert.LayerIdeal.main_v65) = v0 c
          ∧ r.2.mem ((c.tc : Thread Cert.LayerIdeal.nD Cert.LayerIdeal.τ).loc Cert.LayerIdeal.main_arg0) = m ((c.tc : Thread Cert.LayerIdeal.nD Cert.LayerIdeal.τ).loc Cert.LayerIdeal.main_arg0)
          ∧ r.2.mem ((c.tc : Thread Cert.LayerIdeal.nD Cert.LayerIdeal.τ).loc Cert.LayerIdeal.main_arg1) = m ((c.tc : Thread Cert.LayerIdeal.nD Cert.LayerIdeal.τ).loc Cert.LayerIdeal.main_arg1)
          ∧ r.2.mem ((c.tc : Thread Cert.LayerIdeal.nD Cert.LayerIdeal.τ).loc Cert.LayerIdeal.main_arg2) = m ((c.tc : Thread Cert.LayerIdeal.nD Cert.LayerIdeal.τ).loc Cert.LayerIdeal.main_arg2)
          ∧ r.2.mem ((c.tc : Thread Cert.LayerIdeal.nD Cert.LayerIdeal.τ).loc Cert.LayerIdeal.main_arg3) = m ((c.tc : Thread Cert.LayerIdeal.nD Cert.LayerIdeal.τ).loc Cert.LayerIdeal.main_arg3)
          ∧ r.2.mem ((c.tc : Thread Cert.LayerIdeal.nD Cert.LayerIdeal.τ).loc Cert.LayerIdeal.main_arg4) = m ((c.tc : Thread Cert.LayerIdeal.nD Cert.LayerIdeal.τ).loc Cert.LayerIdeal.main_arg4)
          ∧ r.2.mem ((c.tc : Thread Cert.LayerIdeal.nD Cert.LayerIdeal.τ).loc Cert.LayerIdeal.main_arg5) = m ((c.tc : Thread Cert.LayerIdeal.nD Cert.LayerIdeal.τ).loc Cert.LayerIdeal.main_arg5)
          ∧ r.2.mem ((c.tc : Thread Cert.LayerIdeal.nD Cert.LayerIdeal.τ).loc Cert.LayerIdeal.main_arg6) = m ((c.tc : Thread Cert.LayerIdeal.nD Cert.LayerIdeal.τ).loc Cert.LayerIdeal.main_arg6)
          ∧ r.2.mem ((c.tc : Thread Cert.LayerIdeal.nD Cert.LayerIdeal.τ).loc Cert.LayerIdeal.main_arg7) = m ((c.tc : Thread Cert.LayerIdeal.nD Cert.LayerIdeal.τ).loc Cert.LayerIdeal.main_arg7)
          ∧ r.2.mem ((c.tc : Thread Cert.LayerIdeal.nD Cert.LayerIdeal.τ).loc Cert.LayerIdeal.main_arg8) = m ((c.tc : Thread Cert.LayerIdeal.nD Cert.LayerIdeal.τ).loc Cert.LayerIdeal.main_arg8)
          ∧ r.2.mem ((c.tc : Thread Cert.LayerIdeal.nD Cert.LayerIdeal.τ).loc Cert.LayerIdeal.main_arg9) = m ((c.tc : Thread Cert.LayerIdeal.nD Cert.LayerIdeal.τ).loc Cert.LayerIdeal.main_arg9)
          ∧ r.2.mem ((c.tc : Thread Cert.LayerIdeal.nD Cert.LayerIdeal.τ).loc Cert.LayerIdeal.main_arg10) = m ((c.tc : Thread Cert.LayerIdeal.nD Cert.LayerIdeal.τ).loc Cert.LayerIdeal.main_arg10)
          ∧ r.2.mem ((c.tc : Thread Cert.LayerIdeal.nD Cert.LayerIdeal.τ).loc Cert.LayerIdeal.main_arg11) = m ((c.tc : Thread Cert.LayerIdeal.nD Cert.LayerIdeal.τ).loc Cert.LayerIdeal.main_arg11)
          ∧ r.2.mem ((c.tc : Thread Cert.LayerIdeal.nD Cert.LayerIdeal.τ).loc Cert.LayerIdeal.main_arg12) = m ((c.tc : Thread Cert.LayerIdeal.nD Cert.LayerIdeal.τ).loc Cert.LayerIdeal.main_arg12))
      ∧ θ_run (Cert.LayerReferenceIdeal.defs (F := Ideal)) (onTc (τ := Cert.LayerReferenceIdeal.τ) (Cert.LayerReferenceIdeal.main (F := Ideal))) ⟨m', fun _ => 0, g'⟩ (fun r => ∀ c : Dev Cert.LayerReferenceIdeal.nD,
          r.2.mem ((c.tc : Thread Cert.LayerReferenceIdeal.nD Cert.LayerReferenceIdeal.τ).loc Cert.LayerReferenceIdeal.main_v91) = v0 c
          ∧ r.2.mem ((c.tc : Thread Cert.LayerReferenceIdeal.nD Cert.LayerReferenceIdeal.τ).loc Cert.LayerReferenceIdeal.main_arg0) = m' ((c.tc : Thread Cert.LayerReferenceIdeal.nD Cert.LayerReferenceIdeal.τ).loc Cert.LayerReferenceIdeal.main_arg0)
          ∧ r.2.mem ((c.tc : Thread Cert.LayerReferenceIdeal.nD Cert.LayerReferenceIdeal.τ).loc Cert.LayerReferenceIdeal.main_arg1) = m' ((c.tc : Thread Cert.LayerReferenceIdeal.nD Cert.LayerReferenceIdeal.τ).loc Cert.LayerReferenceIdeal.main_arg1)
          ∧ r.2.mem ((c.tc : Thread Cert.LayerReferenceIdeal.nD Cert.LayerReferenceIdeal.τ).loc Cert.LayerReferenceIdeal.main_arg2) = m' ((c.tc : Thread Cert.LayerReferenceIdeal.nD Cert.LayerReferenceIdeal.τ).loc Cert.LayerReferenceIdeal.main_arg2)
          ∧ r.2.mem ((c.tc : Thread Cert.LayerReferenceIdeal.nD Cert.LayerReferenceIdeal.τ).loc Cert.LayerReferenceIdeal.main_arg3) = m' ((c.tc : Thread Cert.LayerReferenceIdeal.nD Cert.LayerReferenceIdeal.τ).loc Cert.LayerReferenceIdeal.main_arg3)
          ∧ r.2.mem ((c.tc : Thread Cert.LayerReferenceIdeal.nD Cert.LayerReferenceIdeal.τ).loc Cert.LayerReferenceIdeal.main_arg4) = m' ((c.tc : Thread Cert.LayerReferenceIdeal.nD Cert.LayerReferenceIdeal.τ).loc Cert.LayerReferenceIdeal.main_arg4)
          ∧ r.2.mem ((c.tc : Thread Cert.LayerReferenceIdeal.nD Cert.LayerReferenceIdeal.τ).loc Cert.LayerReferenceIdeal.main_arg5) = m' ((c.tc : Thread Cert.LayerReferenceIdeal.nD Cert.LayerReferenceIdeal.τ).loc Cert.LayerReferenceIdeal.main_arg5)
          ∧ r.2.mem ((c.tc : Thread Cert.LayerReferenceIdeal.nD Cert.LayerReferenceIdeal.τ).loc Cert.LayerReferenceIdeal.main_arg6) = m' ((c.tc : Thread Cert.LayerReferenceIdeal.nD Cert.LayerReferenceIdeal.τ).loc Cert.LayerReferenceIdeal.main_arg6)
          ∧ r.2.mem ((c.tc : Thread Cert.LayerReferenceIdeal.nD Cert.LayerReferenceIdeal.τ).loc Cert.LayerReferenceIdeal.main_arg7) = m' ((c.tc : Thread Cert.LayerReferenceIdeal.nD Cert.LayerReferenceIdeal.τ).loc Cert.LayerReferenceIdeal.main_arg7)
          ∧ r.2.mem ((c.tc : Thread Cert.LayerReferenceIdeal.nD Cert.LayerReferenceIdeal.τ).loc Cert.LayerReferenceIdeal.main_arg8) = m' ((c.tc : Thread Cert.LayerReferenceIdeal.nD Cert.LayerReferenceIdeal.τ).loc Cert.LayerReferenceIdeal.main_arg8)
          ∧ r.2.mem ((c.tc : Thread Cert.LayerReferenceIdeal.nD Cert.LayerReferenceIdeal.τ).loc Cert.LayerReferenceIdeal.main_arg9) = m' ((c.tc : Thread Cert.LayerReferenceIdeal.nD Cert.LayerReferenceIdeal.τ).loc Cert.LayerReferenceIdeal.main_arg9)
          ∧ r.2.mem ((c.tc : Thread Cert.LayerReferenceIdeal.nD Cert.LayerReferenceIdeal.τ).loc Cert.LayerReferenceIdeal.main_arg10) = m' ((c.tc : Thread Cert.LayerReferenceIdeal.nD Cert.LayerReferenceIdeal.τ).loc Cert.LayerReferenceIdeal.main_arg10)
          ∧ r.2.mem ((c.tc : Thread Cert.LayerReferenceIdeal.nD Cert.LayerReferenceIdeal.τ).loc Cert.LayerReferenceIdeal.main_arg11) = m' ((c.tc : Thread Cert.LayerReferenceIdeal.nD Cert.LayerReferenceIdeal.τ).loc Cert.LayerReferenceIdeal.main_arg11)
          ∧ r.2.mem ((c.tc : Thread Cert.LayerReferenceIdeal.nD Cert.LayerReferenceIdeal.τ).loc Cert.LayerReferenceIdeal.main_arg12) = m' ((c.tc : Thread Cert.LayerReferenceIdeal.nD Cert.LayerReferenceIdeal.τ).loc Cert.LayerReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v11)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v11) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v8) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Embed_EmbedIdeal : Prop :=
  True

def algebraic_EmbedIdeal_EmbedReferenceIdeal [hEmbedIdeal : Cert.EmbedIdeal.Facts] [hEmbedReferenceIdeal : Cert.EmbedReferenceIdeal.Facts] : Prop :=
  ∀ (m : (ℓ : Loc Cert.EmbedIdeal.nD Cert.EmbedIdeal.τ Cert.EmbedIdeal.sig) → Buf (Elt Ideal) ℓ) (g : Dev Cert.EmbedIdeal.nD → PrngReg)
    (m' : (ℓ : Loc Cert.EmbedReferenceIdeal.nD Cert.EmbedReferenceIdeal.τ Cert.EmbedReferenceIdeal.sig) → Buf (Elt Ideal) ℓ) (g' : Dev Cert.EmbedReferenceIdeal.nD → PrngReg), Pre_EmbedIdeal m →
    (∀ c : Dev Cert.EmbedIdeal.nD,
      m' ((c.tc : Thread Cert.EmbedReferenceIdeal.nD Cert.EmbedReferenceIdeal.τ).loc Cert.EmbedReferenceIdeal.main_arg0) = m ((c.tc : Thread Cert.EmbedIdeal.nD Cert.EmbedIdeal.τ).loc Cert.EmbedIdeal.main_arg0)
      ∧ m' ((c.tc : Thread Cert.EmbedReferenceIdeal.nD Cert.EmbedReferenceIdeal.τ).loc Cert.EmbedReferenceIdeal.main_arg1) = m ((c.tc : Thread Cert.EmbedIdeal.nD Cert.EmbedIdeal.τ).loc Cert.EmbedIdeal.main_arg1)
      ∧ m' ((c.tc : Thread Cert.EmbedReferenceIdeal.nD Cert.EmbedReferenceIdeal.τ).loc Cert.EmbedReferenceIdeal.main_arg2) = m ((c.tc : Thread Cert.EmbedIdeal.nD Cert.EmbedIdeal.τ).loc Cert.EmbedIdeal.main_arg2)) →
    ∃ (v0 : (c : Dev Cert.EmbedIdeal.nD) → Buf (Elt Ideal) ((c.tc : Thread Cert.EmbedIdeal.nD Cert.EmbedIdeal.τ).loc Cert.EmbedIdeal.main_v1)),
      θ_run (Cert.EmbedIdeal.defs (F := Ideal)) (onTc (τ := Cert.EmbedIdeal.τ) (Cert.EmbedIdeal.main (F := Ideal))) ⟨m, fun _ => 0, g⟩ (fun r => ∀ c : Dev Cert.EmbedIdeal.nD,
          r.2.mem ((c.tc : Thread Cert.EmbedIdeal.nD Cert.EmbedIdeal.τ).loc Cert.EmbedIdeal.main_v1) = v0 c
          ∧ r.2.mem ((c.tc : Thread Cert.EmbedIdeal.nD Cert.EmbedIdeal.τ).loc Cert.EmbedIdeal.main_arg0) = m ((c.tc : Thread Cert.EmbedIdeal.nD Cert.EmbedIdeal.τ).loc Cert.EmbedIdeal.main_arg0)
          ∧ r.2.mem ((c.tc : Thread Cert.EmbedIdeal.nD Cert.EmbedIdeal.τ).loc Cert.EmbedIdeal.main_arg1) = m ((c.tc : Thread Cert.EmbedIdeal.nD Cert.EmbedIdeal.τ).loc Cert.EmbedIdeal.main_arg1)
          ∧ r.2.mem ((c.tc : Thread Cert.EmbedIdeal.nD Cert.EmbedIdeal.τ).loc Cert.EmbedIdeal.main_arg2) = m ((c.tc : Thread Cert.EmbedIdeal.nD Cert.EmbedIdeal.τ).loc Cert.EmbedIdeal.main_arg2))
      ∧ θ_run (Cert.EmbedReferenceIdeal.defs (F := Ideal)) (onTc (τ := Cert.EmbedReferenceIdeal.τ) (Cert.EmbedReferenceIdeal.main (F := Ideal))) ⟨m', fun _ => 0, g'⟩ (fun r => ∀ c : Dev Cert.EmbedReferenceIdeal.nD,
          r.2.mem ((c.tc : Thread Cert.EmbedReferenceIdeal.nD Cert.EmbedReferenceIdeal.τ).loc Cert.EmbedReferenceIdeal.main_v3) = v0 c
          ∧ r.2.mem ((c.tc : Thread Cert.EmbedReferenceIdeal.nD Cert.EmbedReferenceIdeal.τ).loc Cert.EmbedReferenceIdeal.main_arg0) = m' ((c.tc : Thread Cert.EmbedReferenceIdeal.nD Cert.EmbedReferenceIdeal.τ).loc Cert.EmbedReferenceIdeal.main_arg0)
          ∧ r.2.mem ((c.tc : Thread Cert.EmbedReferenceIdeal.nD Cert.EmbedReferenceIdeal.τ).loc Cert.EmbedReferenceIdeal.main_arg1) = m' ((c.tc : Thread Cert.EmbedReferenceIdeal.nD Cert.EmbedReferenceIdeal.τ).loc Cert.EmbedReferenceIdeal.main_arg1)
          ∧ r.2.mem ((c.tc : Thread Cert.EmbedReferenceIdeal.nD Cert.EmbedReferenceIdeal.τ).loc Cert.EmbedReferenceIdeal.main_arg2) = m' ((c.tc : Thread Cert.EmbedReferenceIdeal.nD Cert.EmbedReferenceIdeal.τ).loc Cert.EmbedReferenceIdeal.main_arg2))

def preserves_Attn_AttnIdeal : Prop :=
  True

def algebraic_AttnIdeal_AttnReferenceIdeal [hAttnIdeal : Cert.AttnIdeal.Facts] [hAttnReferenceIdeal : Cert.AttnReferenceIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)
      ∧ m' ((c.tc : Thread Cert.AttnReferenceIdeal.nD Cert.AttnReferenceIdeal.τ).loc Cert.AttnReferenceIdeal.main_arg5) = m ((c.tc : Thread Cert.AttnIdeal.nD Cert.AttnIdeal.τ).loc Cert.AttnIdeal.main_arg5)
      ∧ m' ((c.tc : Thread Cert.AttnReferenceIdeal.nD Cert.AttnReferenceIdeal.τ).loc Cert.AttnReferenceIdeal.main_arg6) = m ((c.tc : Thread Cert.AttnIdeal.nD Cert.AttnIdeal.τ).loc Cert.AttnIdeal.main_arg6)
      ∧ m' ((c.tc : Thread Cert.AttnReferenceIdeal.nD Cert.AttnReferenceIdeal.τ).loc Cert.AttnReferenceIdeal.main_arg7) = m ((c.tc : Thread Cert.AttnIdeal.nD Cert.AttnIdeal.τ).loc Cert.AttnIdeal.main_arg7)
      ∧ m' ((c.tc : Thread Cert.AttnReferenceIdeal.nD Cert.AttnReferenceIdeal.τ).loc Cert.AttnReferenceIdeal.main_arg8) = m ((c.tc : Thread Cert.AttnIdeal.nD Cert.AttnIdeal.τ).loc Cert.AttnIdeal.main_arg8)
      ∧ m' ((c.tc : Thread Cert.AttnReferenceIdeal.nD Cert.AttnReferenceIdeal.τ).loc Cert.AttnReferenceIdeal.main_arg9) = m ((c.tc : Thread Cert.AttnIdeal.nD Cert.AttnIdeal.τ).loc Cert.AttnIdeal.main_arg9)
      ∧ m' ((c.tc : Thread Cert.AttnReferenceIdeal.nD Cert.AttnReferenceIdeal.τ).loc Cert.AttnReferenceIdeal.main_arg10) = m ((c.tc : Thread Cert.AttnIdeal.nD Cert.AttnIdeal.τ).loc Cert.AttnIdeal.main_arg10)
      ∧ m' ((c.tc : Thread Cert.AttnReferenceIdeal.nD Cert.AttnReferenceIdeal.τ).loc Cert.AttnReferenceIdeal.main_arg11) = m ((c.tc : Thread Cert.AttnIdeal.nD Cert.AttnIdeal.τ).loc Cert.AttnIdeal.main_arg11)) →
    ∃ (v0 : (c : Dev Cert.AttnIdeal.nD) → Buf (Elt Ideal) ((c.tc : Thread Cert.AttnIdeal.nD Cert.AttnIdeal.τ).loc Cert.AttnIdeal.main_v15)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v15) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7)
          ∧ r.2.mem ((c.tc : Thread Cert.AttnIdeal.nD Cert.AttnIdeal.τ).loc Cert.AttnIdeal.main_arg8) = m ((c.tc : Thread Cert.AttnIdeal.nD Cert.AttnIdeal.τ).loc Cert.AttnIdeal.main_arg8)
          ∧ r.2.mem ((c.tc : Thread Cert.AttnIdeal.nD Cert.AttnIdeal.τ).loc Cert.AttnIdeal.main_arg9) = m ((c.tc : Thread Cert.AttnIdeal.nD Cert.AttnIdeal.τ).loc Cert.AttnIdeal.main_arg9)
          ∧ r.2.mem ((c.tc : Thread Cert.AttnIdeal.nD Cert.AttnIdeal.τ).loc Cert.AttnIdeal.main_arg10) = m ((c.tc : Thread Cert.AttnIdeal.nD Cert.AttnIdeal.τ).loc Cert.AttnIdeal.main_arg10)
          ∧ r.2.mem ((c.tc : Thread Cert.AttnIdeal.nD Cert.AttnIdeal.τ).loc Cert.AttnIdeal.main_arg11) = m ((c.tc : Thread Cert.AttnIdeal.nD Cert.AttnIdeal.τ).loc Cert.AttnIdeal.main_arg11))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v75) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4)
          ∧ r.2.mem ((c.tc : Thread Cert.AttnReferenceIdeal.nD Cert.AttnReferenceIdeal.τ).loc Cert.AttnReferenceIdeal.main_arg5) = m' ((c.tc : Thread Cert.AttnReferenceIdeal.nD Cert.AttnReferenceIdeal.τ).loc Cert.AttnReferenceIdeal.main_arg5)
          ∧ r.2.mem ((c.tc : Thread Cert.AttnReferenceIdeal.nD Cert.AttnReferenceIdeal.τ).loc Cert.AttnReferenceIdeal.main_arg6) = m' ((c.tc : Thread Cert.AttnReferenceIdeal.nD Cert.AttnReferenceIdeal.τ).loc Cert.AttnReferenceIdeal.main_arg6)
          ∧ r.2.mem ((c.tc : Thread Cert.AttnReferenceIdeal.nD Cert.AttnReferenceIdeal.τ).loc Cert.AttnReferenceIdeal.main_arg7) = m' ((c.tc : Thread Cert.AttnReferenceIdeal.nD Cert.AttnReferenceIdeal.τ).loc Cert.AttnReferenceIdeal.main_arg7)
          ∧ r.2.mem ((c.tc : Thread Cert.AttnReferenceIdeal.nD Cert.AttnReferenceIdeal.τ).loc Cert.AttnReferenceIdeal.main_arg8) = m' ((c.tc : Thread Cert.AttnReferenceIdeal.nD Cert.AttnReferenceIdeal.τ).loc Cert.AttnReferenceIdeal.main_arg8)
          ∧ r.2.mem ((c.tc : Thread Cert.AttnReferenceIdeal.nD Cert.AttnReferenceIdeal.τ).loc Cert.AttnReferenceIdeal.main_arg9) = m' ((c.tc : Thread Cert.AttnReferenceIdeal.nD Cert.AttnReferenceIdeal.τ).loc Cert.AttnReferenceIdeal.main_arg9)
          ∧ r.2.mem ((c.tc : Thread Cert.AttnReferenceIdeal.nD Cert.AttnReferenceIdeal.τ).loc Cert.AttnReferenceIdeal.main_arg10) = m' ((c.tc : Thread Cert.AttnReferenceIdeal.nD Cert.AttnReferenceIdeal.τ).loc Cert.AttnReferenceIdeal.main_arg10)
          ∧ r.2.mem ((c.tc : Thread Cert.AttnReferenceIdeal.nD Cert.AttnReferenceIdeal.τ).loc Cert.AttnReferenceIdeal.main_arg11) = m' ((c.tc : Thread Cert.AttnReferenceIdeal.nD Cert.AttnReferenceIdeal.τ).loc Cert.AttnReferenceIdeal.main_arg11))

def Claim : Prop :=
  ∃ (hLayerIdeal : Cert.LayerIdeal.Facts) (hLayerReferenceIdeal : Cert.LayerReferenceIdeal.Facts) (hKernel : Cert.Kernel.Facts) (hKernelIdeal : Cert.KernelIdeal.Facts) (hReferenceIdeal : Cert.ReferenceIdeal.Facts) (hReference : Cert.Reference.Facts) (hEmbed : Cert.Embed.Facts) (hEmbedIdeal : Cert.EmbedIdeal.Facts) (hEmbedReferenceIdeal : Cert.EmbedReferenceIdeal.Facts) (hAttn : Cert.Attn.Facts) (hAttnIdeal : Cert.AttnIdeal.Facts) (hAttnReferenceIdeal : Cert.AttnReferenceIdeal.Facts) (hPre_layer_in_range : Cert.Pre_layer_in_range.Facts) (hPre_in_range : Cert.Pre_in_range.Facts),
    quiescent_LayerIdeal (hLayerIdeal := hLayerIdeal) (hPre_layer_in_range := hPre_layer_in_range)
    ∧ quiescent_LayerReferenceIdeal (hLayerReferenceIdeal := hLayerReferenceIdeal)
    ∧ quiescent_LayerReferenceIdeal_pre_layer_in_range (hLayerReferenceIdeal := hLayerReferenceIdeal) (hPre_layer_in_range := hPre_layer_in_range)
    ∧ quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ quiescent_Embed (hEmbed := hEmbed)
    ∧ quiescent_EmbedIdeal (hEmbedIdeal := hEmbedIdeal)
    ∧ quiescent_EmbedReferenceIdeal (hEmbedReferenceIdeal := hEmbedReferenceIdeal)
    ∧ quiescent_Attn (hAttn := hAttn)
    ∧ quiescent_AttnIdeal (hAttnIdeal := hAttnIdeal)
    ∧ quiescent_AttnReferenceIdeal (hAttnReferenceIdeal := hAttnReferenceIdeal)
    ∧ algebraic_LayerIdeal_LayerReferenceIdeal (hLayerIdeal := hLayerIdeal) (hLayerReferenceIdeal := hLayerReferenceIdeal) (hPre_layer_in_range := hPre_layer_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
    ∧ preserves_Embed_EmbedIdeal
    ∧ algebraic_EmbedIdeal_EmbedReferenceIdeal (hEmbedIdeal := hEmbedIdeal) (hEmbedReferenceIdeal := hEmbedReferenceIdeal)
    ∧ preserves_Attn_AttnIdeal
    ∧ algebraic_AttnIdeal_AttnReferenceIdeal (hAttnIdeal := hAttnIdeal) (hAttnReferenceIdeal := hAttnReferenceIdeal)
-- ==== Pre_in_range.lean ====
abbrev S10000x128 : Shape := ⟨2, ![10000, 128]⟩
abbrev S10240x16 : Shape := ⟨2, ![10240, 16]⟩
abbrev S_ : Shape := ⟨0, ![]⟩

class Facts : Prop where
  bcast_S_S10240x16 : S_.BroadcastsInDim S10240x16 (![] : Fin 0 → Fin S10240x16.rank)
  reducesTo_S10240x16_S_d0_1 : S10240x16.ReducesTo [0, 1] S_
  h_S_ : 0 < S_.numel

variable [Facts]

def fn {F : FTy → Type} [FloatOps F] (main_arg0 : IVec S10000x128 32) (main_arg1 : IVec S10240x16 32) : IVec S_ 1 :=
  let main_c : IVec S_ 32 := constantI S_ 32 0#32
  let main_v0 : IVec S10240x16 32 := broadcastInDim S10240x16 ![] bcast_S_S10240x16 main_c
  let main_v1 : IVec S10240x16 1 := cmpi .sge main_arg1 main_v0
  let main_c_0 : IVec S_ 32 := constantI S_ 32 10000#32
  let main_v2 : IVec S10240x16 32 := broadcastInDim S10240x16 ![] bcast_S_S10240x16 main_c_0
  let main_v3 : IVec S10240x16 1 := cmpi .slt main_arg1 main_v2
  let main_v4 : IVec S10240x16 1 := andi main_v1 main_v3
  let main_c_1 : IVec S_ 1 := constantI S_ 1 1#1
  let main_v5 : IVec S_ 1 := (fun x v => Host.reduce IntOp.andi x v reducesTo_S10240x16_S_d0_1 h_S_) main_v4 main_c_1
  main_v5
-- ==== Pre_layer_in_range.lean ====
abbrev S10000x128 : Shape := ⟨2, ![10000, 128]⟩
abbrev S10240x16 : Shape := ⟨2, ![10240, 16]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S_ : Shape := ⟨0, ![]⟩

class Facts : Prop where
  bcast_S_S10240x16 : S_.BroadcastsInDim S10240x16 (![] : Fin 0 → Fin S10240x16.rank)
  reducesTo_S10240x16_S_d0_1 : S10240x16.ReducesTo [0, 1] S_
  h_S_ : 0 < S_.numel

variable [Facts]

def fn {F : FTy → Type} [FloatOps F] (main_arg0 : IVec S10000x128 32) (main_arg1 : IVec S10240x16 32) (main_arg2 : FVec F S10000x128 .f32) (main_arg3 : FVec F S10000x128 .f32) (main_arg4 : FVec F S128x128 .f32) (main_arg5 : FVec F S128 .f32) (main_arg6 : FVec F S128 .f32) (main_arg7 : FVec F S128x256 .f32) (main_arg8 : FVec F S256 .f32) (main_arg9 : FVec F S256x128 .f32) (main_arg10 : FVec F S128 .f32) (main_arg11 : FVec F S128 .f32) (main_arg12 : FVec F S128 .f32) : IVec S_ 1 :=
  let main_c : IVec S_ 32 := constantI S_ 32 0#32
  let main_v0 : IVec S10240x16 32 := broadcastInDim S10240x16 ![] bcast_S_S10240x16 main_c
  let main_v1 : IVec S10240x16 1 := cmpi .sge main_arg1 main_v0
  let main_c_0 : IVec S_ 32 := constantI S_ 32 10000#32
  let main_v2 : IVec S10240x16 32 := broadcastInDim S10240x16 ![] bcast_S_S10240x16 main_c_0
  let main_v3 : IVec S10240x16 1 := cmpi .slt main_arg1 main_v2
  let main_v4 : IVec S10240x16 1 := andi main_v1 main_v3
  let main_c_1 : IVec S_ 1 := constantI S_ 1 1#1
  let main_v5 : IVec S_ 1 := (fun x v => Host.reduce IntOp.andi x v reducesTo_S10240x16_S_d0_1 h_S_) main_v4 main_c_1
  main_v5
-- ==== LayerIdeal.lean ====
abbrev S10000x128 : Shape := ⟨2, ![10000, 128]⟩
abbrev S10240x16 : Shape := ⟨2, ![10240, 16]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1x163840 : Shape := ⟨2, ![1, 163840]⟩
abbrev S8x8 : Shape := ⟨2, ![8, 8]⟩
abbrev S_ : Shape := ⟨0, ![]⟩
abbrev S16x1 : Shape := ⟨2, ![16, 1]⟩
abbrev S8x1x8x1 : Shape := ⟨4, ![8, 1, 8, 1]⟩
abbrev S1x16x1x1 : Shape := ⟨4, ![1, 16, 1, 1]⟩
abbrev S8x16x8x1 : Shape := ⟨4, ![8, 16, 8, 1]⟩
abbrev S128x8 : Shape := ⟨2, ![128, 8]⟩
abbrev S8x128 : Shape := ⟨2, ![8, 128]⟩
abbrev S1x32000 : Shape := ⟨2, ![1, 32000]⟩
abbrev S32000x128 : Shape := ⟨2, ![32000, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S1x128x128 : Shape := ⟨3, ![1, 128, 128]⟩
abbrev S2000x128 : Shape := ⟨2, ![2000, 128]⟩
abbrev S1x256 : Shape := ⟨2, ![1, 256]⟩
abbrev S200x128 : Shape := ⟨2, ![200, 128]⟩
abbrev S3200x128 : Shape := ⟨2, ![3200, 128]⟩
abbrev S200x1x128 : Shape := ⟨3, ![200, 1, 128]⟩
abbrev S200x16x128 : Shape := ⟨3, ![200, 16, 128]⟩
abbrev S3200x8 : Shape := ⟨2, ![3200, 8]⟩
abbrev S200x16x8 : Shape := ⟨3, ![200, 16, 8]⟩
abbrev S200x8 : Shape := ⟨2, ![200, 8]⟩
abbrev S200x1x8 : Shape := ⟨3, ![200, 1, 8]⟩
abbrev S200 : Shape := ⟨1, ![200]⟩
abbrev S200x1 : Shape := ⟨2, ![200, 1]⟩
abbrev S200x256 : Shape := ⟨2, ![200, 256]⟩

abbrev nBuf : Table → Nat
  | .hbm => 86
  | .local .tc .vmem => 95
  | .local .scVector .vmem => 10
  | _ => 0

abbrev bufTy : (tb : Table) → Fin (nBuf tb) → BufTy
  | .hbm, ⟨0, _⟩ => ⟨S10000x128, .i32⟩
  | .hbm, ⟨1, _⟩ => ⟨S10240x16, .i32⟩
  | .hbm, ⟨2, _⟩ => ⟨S10000x128, .f32⟩
  | .hbm, ⟨3, _⟩ => ⟨S10000x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S1x163840, .i32⟩
  | .hbm, ⟨14, _⟩ => ⟨S8x8, .i32⟩
  | .hbm, ⟨15, _⟩ => ⟨S8x8, .i32⟩
  | .hbm, ⟨16, _⟩ => ⟨S_, .i32⟩
  | .hbm, ⟨17, _⟩ => ⟨S8x8, .i32⟩
  | .hbm, ⟨18, _⟩ => ⟨S8x8, .i32⟩
  | .hbm, ⟨19, _⟩ => ⟨S8x8, .i1⟩
  | .hbm, ⟨20, _⟩ => ⟨S8x8, .f32⟩
  | .hbm, ⟨21, _⟩ => ⟨S_, .f32⟩
  | .hbm, ⟨22, _⟩ => ⟨S16x1, .f32⟩
  | .hbm, ⟨23, _⟩ => ⟨S8x1x8x1, .f32⟩
  | .hbm, ⟨24, _⟩ => ⟨S1x16x1x1, .f32⟩
  | .hbm, ⟨25, _⟩ => ⟨S8x16x8x1, .f32⟩
  | .hbm, ⟨26, _⟩ => ⟨S8x16x8x1, .f32⟩
  | .hbm, ⟨27, _⟩ => ⟨S8x16x8x1, .f32⟩
  | .hbm, ⟨28, _⟩ => ⟨S128x8, .f32⟩
  | .hbm, ⟨29, _⟩ => ⟨S8x128, .f32⟩
  | .hbm, ⟨30, _⟩ => ⟨S1x32000, .i32⟩
  | .hbm, ⟨31, _⟩ => ⟨S32000x128, .i32⟩
  | .hbm, ⟨32, _⟩ => ⟨S2000x128, .f32⟩
  | .hbm, ⟨33, _⟩ => ⟨S2000x128, .f32⟩
  | .hbm, ⟨34, _⟩ => ⟨S1x128, .f32⟩
  | .hbm, ⟨35, _⟩ => ⟨S1x128, .f32⟩
  | .hbm, ⟨36, _⟩ => ⟨S1x256, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S2000x128, .f32⟩
  | .hbm, ⟨41, _⟩ => ⟨S1x32000, .i32⟩
  | .hbm, ⟨42, _⟩ => ⟨S32000x128, .i32⟩
  | .hbm, ⟨43, _⟩ => ⟨S2000x128, .f32⟩
  | .hbm, ⟨44, _⟩ => ⟨S2000x128, .f32⟩
  | .hbm, ⟨45, _⟩ => ⟨S1x128, .f32⟩
  | .hbm, ⟨46, _⟩ => ⟨S1x128, .f32⟩
  | .hbm, ⟨47, _⟩ => ⟨S1x256, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S2000x128, .f32⟩
  | .hbm, ⟨52, _⟩ => ⟨S1x32000, .i32⟩
  | .hbm, ⟨53, _⟩ => ⟨S32000x128, .i32⟩
  | .hbm, ⟨54, _⟩ => ⟨S2000x128, .f32⟩
  | .hbm, ⟨55, _⟩ => ⟨S2000x128, .f32⟩
  | .hbm, ⟨56, _⟩ => ⟨S1x128, .f32⟩
  | .hbm, ⟨57, _⟩ => ⟨S1x128, .f32⟩
  | .hbm, ⟨58, _⟩ => ⟨S1x256, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S2000x128, .f32⟩
  | .hbm, ⟨63, _⟩ => ⟨S1x32000, .i32⟩
  | .hbm, ⟨64, _⟩ => ⟨S32000x128, .i32⟩
  | .hbm, ⟨65, _⟩ => ⟨S2000x128, .f32⟩
  | .hbm, ⟨66, _⟩ => ⟨S2000x128, .f32⟩
  | .hbm, ⟨67, _⟩ => ⟨S1x128, .f32⟩
  | .hbm, ⟨68, _⟩ => ⟨S1x128, .f32⟩
  | .hbm, ⟨69, _⟩ => ⟨S1x256, .f32⟩
  | .hbm, ⟨70, _⟩ => ⟨S1x128, .f32⟩
  | .hbm, ⟨71, _⟩ => ⟨S1x128, .f32⟩
  | .hbm, ⟨72, _⟩ => ⟨S1x128, .f32⟩
  | .hbm, ⟨73, _⟩ => ⟨S2000x128, .f32⟩
  | .hbm, ⟨74, _⟩ => ⟨S1x32000, .i32⟩
  | .hbm, ⟨75, _⟩ => ⟨S32000x128, .i32⟩
  | .hbm, ⟨76, _⟩ => ⟨S2000x128, .f32⟩
  | .hbm, ⟨77, _⟩ => ⟨S2000x128, .f32⟩
  | .hbm, ⟨78, _⟩ => ⟨S1x128, .f32⟩
  | .hbm, ⟨79, _⟩ => ⟨S1x128, .f32⟩
  | .hbm, ⟨80, _⟩ => ⟨S1x256, .f32⟩
  | .hbm, ⟨81, _⟩ => ⟨S1x128, .f32⟩
  | .hbm, ⟨82, _⟩ => ⟨S1x128, .f32⟩
  | .hbm, ⟨83, _⟩ => ⟨S1x128, .f32⟩
  | .hbm, ⟨84, _⟩ => ⟨S2000x128, .f32⟩
  | .hbm, ⟨85, _⟩ => ⟨S10000x128, .f32⟩
  | .local .tc .vmem, ⟨0, _⟩ => ⟨S200x128, .f32⟩
  | .local .tc .vmem, ⟨1, _⟩ => ⟨S200x128, .f32⟩
  | .local .tc .vmem, ⟨2, _⟩ => ⟨S3200x128, .i32⟩
  | .local .tc .vmem, ⟨3, _⟩ => ⟨S3200x128, .i32⟩
  | .local .tc .vmem, ⟨4, _⟩ => ⟨S200x128, .f32⟩
  | .local .tc .vmem, ⟨5, _⟩ => ⟨S200x128, .f32⟩
  | .local .tc .vmem, ⟨6, _⟩ => ⟨S128x8, .f32⟩
  | .local .tc .vmem, ⟨7, _⟩ => ⟨S8x128, .f32⟩
  | .local .tc .vmem, ⟨8, _⟩ => ⟨S128x128, .f32⟩
  | .local .tc .vmem, ⟨9, _⟩ => ⟨S1x128, .f32⟩
  | .local .tc .vmem, ⟨10, _⟩ => ⟨S1x128, .f32⟩
  | .local .tc .vmem, ⟨11, _⟩ => ⟨S128x256, .f32⟩
  | .local .tc .vmem, ⟨12, _⟩ => ⟨S1x256, .f32⟩
  | .local .tc .vmem, ⟨13, _⟩ => ⟨S256x128, .f32⟩
  | .local .tc .vmem, ⟨14, _⟩ => ⟨S1x128, .f32⟩
  | .local .tc .vmem, ⟨15, _⟩ => ⟨S1x128, .f32⟩
  | .local .tc .vmem, ⟨16, _⟩ => ⟨S1x128, .f32⟩
  | .local .tc .vmem, ⟨17, _⟩ => ⟨S200x128, .f32⟩
  | .local .tc .vmem, ⟨18, _⟩ => ⟨S200x128, .f32⟩
  | .local .tc .vmem, ⟨19, _⟩ => ⟨S200x128, .f32⟩
  | .local .tc .vmem, ⟨20, _⟩ => ⟨S200x128, .f32⟩
  | .local .tc .vmem, ⟨21, _⟩ => ⟨S3200x128, .i32⟩
  | .local .tc .vmem, ⟨22, _⟩ => ⟨S3200x128, .i32⟩
  | .local .tc .vmem, ⟨23, _⟩ => ⟨S200x128, .f32⟩
  | .local .tc .vmem, ⟨24, _⟩ => ⟨S200x128, .f32⟩
  | .local .tc .vmem, ⟨25, _⟩ => ⟨S128x8, .f32⟩
  | .local .tc .vmem, ⟨26, _⟩ => ⟨S8x128, .f32⟩
  | .local .tc .vmem, ⟨27, _⟩ => ⟨S128x128, .f32⟩
  | .local .tc .vmem, ⟨28, _⟩ => ⟨S1x128, .f32⟩
  | .local .tc .vmem, ⟨29, _⟩ => ⟨S1x128, .f32⟩
  | .local .tc .vmem, ⟨30, _⟩ => ⟨S128x256, .f32⟩
  | .local .tc .vmem, ⟨31, _⟩ => ⟨S1x256, .f32⟩
  | .local .tc .vmem, ⟨32, _⟩ => ⟨S256x128, .f32⟩
  | .local .tc .vmem, ⟨33, _⟩ => ⟨S1x128, .f32⟩
  | .local .tc .vmem, ⟨34, _⟩ => ⟨S1x128, .f32⟩
  | .local .tc .vmem, ⟨35, _⟩ => ⟨S1x128, .f32⟩
  | .local .tc .vmem, ⟨36, _⟩ => ⟨S200x128, .f32⟩
  | .local .tc .vmem, ⟨37, _⟩ => ⟨S200x128, .f32⟩
  | .local .tc .vmem, ⟨38, _⟩ => ⟨S200x128, .f32⟩
  | .local .tc .vmem, ⟨39, _⟩ => ⟨S200x128, .f32⟩
  | .local .tc .vmem, ⟨40, _⟩ => ⟨S3200x128, .i32⟩
  | .local .tc .vmem, ⟨41, _⟩ => ⟨S3200x128, .i32⟩
  | .local .tc .vmem, ⟨42, _⟩ => ⟨S200x128, .f32⟩
  | .local .tc .vmem, ⟨43, _⟩ => ⟨S200x128, .f32⟩
  | .local .tc .vmem, ⟨44, _⟩ => ⟨S128x8, .f32⟩
  | .local .tc .vmem, ⟨45, _⟩ => ⟨S8x128, .f32⟩
  | .local .tc .vmem, ⟨46, _⟩ => ⟨S128x128, .f32⟩
  | .local .tc .vmem, ⟨47, _⟩ => ⟨S1x128, .f32⟩
  | .local .tc .vmem, ⟨48, _⟩ => ⟨S1x128, .f32⟩
  | .local .tc .vmem, ⟨49, _⟩ => ⟨S128x256, .f32⟩
  | .local .tc .vmem, ⟨50, _⟩ => ⟨S1x256, .f32⟩
  | .local .tc .vmem, ⟨51, _⟩ => ⟨S256x128, .f32⟩
  | .local .tc .vmem, ⟨52, _⟩ => ⟨S1x128, .f32⟩
  | .local .tc .vmem, ⟨53, _⟩ => ⟨S1x128, .f32⟩
  | .local .tc .vmem, ⟨54, _⟩ => ⟨S1x128, .f32⟩
  | .local .tc .vmem, ⟨55, _⟩ => ⟨S200x128, .f32⟩
  | .local .tc .vmem, ⟨56, _⟩ => ⟨S200x128, .f32⟩
  | .local .tc .vmem, ⟨57, _⟩ => ⟨S200x128, .f32⟩
  | .local .tc .vmem, ⟨58, _⟩ => ⟨S200x128, .f32⟩
  | .local .tc .vmem, ⟨59, _⟩ => ⟨S3200x128, .i32⟩
  | .local .tc .vmem, ⟨60, _⟩ => ⟨S3200x128, .i32⟩
  | .local .tc .vmem, ⟨61, _⟩ => ⟨S200x128, .f32⟩
  | .local .tc .vmem, ⟨62, _⟩ => ⟨S200x128, .f32⟩
  | .local .tc .vmem, ⟨63, _⟩ => ⟨S128x8, .f32⟩
  | .local .tc .vmem, ⟨64, _⟩ => ⟨S8x128, .f32⟩
  | .local .tc .vmem, ⟨65, _⟩ => ⟨S128x128, .f32⟩
  | .local .tc .vmem, ⟨66, _⟩ => ⟨S1x128, .f32⟩
  | .local .tc .vmem, ⟨67, _⟩ => ⟨S1x128, .f32⟩
  | .local .tc .vmem, ⟨68, _⟩ => ⟨S128x256, .f32⟩
  | .local .tc .vmem, ⟨69, _⟩ => ⟨S1x256, .f32⟩
  | .local .tc .vmem, ⟨70, _⟩ => ⟨S256x128, .f32⟩
  | .local .tc .vmem, ⟨71, _⟩ => ⟨S1x128, .f32⟩
  | .local .tc .vmem, ⟨72, _⟩ => ⟨S1x128, .f32⟩
  | .local .tc .vmem, ⟨73, _⟩ => ⟨S1x128, .f32⟩
  | .local .tc .vmem, ⟨74, _⟩ => ⟨S200x128, .f32⟩
  | .local .tc .vmem, ⟨75, _⟩ => ⟨S200x128, .f32⟩
  | .local .tc .vmem, ⟨76, _⟩ => ⟨S200x128, .f32⟩
  | .local .tc .vmem, ⟨77, _⟩ => ⟨S200x128, .f32⟩
  | .local .tc .vmem, ⟨78, _⟩ => ⟨S3200x128, .i32⟩
  | .local .tc .vmem, ⟨79, _⟩ => ⟨S3200x128, .i32⟩
  | .local .tc .vmem, ⟨80, _⟩ => ⟨S200x128, .f32⟩
  | .local .tc .vmem, ⟨81, _⟩ => ⟨S200x128, .f32⟩
  | .local .tc .vmem, ⟨82, _⟩ => ⟨S128x8, .f32⟩
  | .local .tc .vmem, ⟨83, _⟩ => ⟨S8x128, .f32⟩
  | .local .tc .vmem, ⟨84, _⟩ => ⟨S128x128, .f32⟩
  | .local .tc .vmem, ⟨85, _⟩ => ⟨S1x128, .f32⟩
  | .local .tc .vmem, ⟨86, _⟩ => ⟨S1x128, .f32⟩
  | .local .tc .vmem, ⟨87, _⟩ => ⟨S128x256, .f32⟩
  | .local .tc .vmem, ⟨88, _⟩ => ⟨S1x256, .f32⟩
  | .local .tc .vmem, ⟨89, _⟩ => ⟨S256x128, .f32⟩
  | .local .tc .vmem, ⟨90, _⟩ => ⟨S1x128, .f32⟩
  | .local .tc .vmem, ⟨91, _⟩ => ⟨S1x128, .f32⟩
  | .local .tc .vmem, ⟨92, _⟩ => ⟨S1x128, .f32⟩
  | .local .tc .vmem, ⟨93, _⟩ => ⟨S200x128, .f32⟩
  | .local .tc .vmem, ⟨94, _⟩ => ⟨S200x128, .f32⟩
  | .local .scVector .vmem, ⟨0, _⟩ => ⟨S2x1x128, .i32⟩
  | .local .scVector .vmem, ⟨1, _⟩ => ⟨S2x128x128, .i32⟩
  | .local .scVector .vmem, ⟨2, _⟩ => ⟨S2x1x128, .i32⟩
  | .local .scVector .vmem, ⟨3, _⟩ => ⟨S2x128x128, .i32⟩
  | .local .scVector .vmem, ⟨4, _⟩ => ⟨S2x1x128, .i32⟩
  | .local .scVector .vmem, ⟨5, _⟩ => ⟨S2x128x128, .i32⟩
  | .local .scVector .vmem, ⟨6, _⟩ => ⟨S2x1x128, .i32⟩
  | .local .scVector .vmem, ⟨7, _⟩ => ⟨S2x128x128, .i32⟩
  | .local .scVector .vmem, ⟨8, _⟩ => ⟨S2x1x128, .i32⟩
  | .local .scVector .vmem, ⟨9, _⟩ => ⟨S2x128x128, .i32⟩
  | _, _ => ⟨S10000x128, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 125 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => false
  | ⟨26, _⟩ => false
  | ⟨27, _⟩ => false
  | ⟨28, _⟩ => false
  | ⟨29, _⟩ => false
  | ⟨30, _⟩ => false
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => false
  | ⟨51, _⟩ => false
  | ⟨52, _⟩ => false
  | ⟨53, _⟩ => false
  | ⟨54, _⟩ => false
  | ⟨55, _⟩ => false
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => false
  | ⟨76, _⟩ => false
  | ⟨77, _⟩ => false
  | ⟨78, _⟩ => false
  | ⟨79, _⟩ => false
  | ⟨80, _⟩ => false
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => false
  | ⟨101, _⟩ => false
  | ⟨102, _⟩ => false
  | ⟨103, _⟩ => false
  | ⟨104, _⟩ => false
  | ⟨105, _⟩ => false
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | _ => false

abbrev sig : RefSig :=
  ofTables nBuf rfl bufTy 4 125 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_c : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_arg0_scv : Ref sig .scVector := ⟨.hbm, 0, rfl⟩
abbrev main_v10_scv : Ref sig .scVector := ⟨.hbm, 30, rfl⟩
abbrev main_v11_scv : Ref sig .scVector := ⟨.hbm, 31, rfl⟩
abbrev main_v21_scv : Ref sig .scVector := ⟨.hbm, 41, rfl⟩
abbrev main_v22_scv : Ref sig .scVector := ⟨.hbm, 42, rfl⟩
abbrev main_v32_scv : Ref sig .scVector := ⟨.hbm, 52, rfl⟩
abbrev main_v33_scv : Ref sig .scVector := ⟨.hbm, 53, rfl⟩
abbrev main_v43_scv : Ref sig .scVector := ⟨.hbm, 63, rfl⟩
abbrev main_v44_scv : Ref sig .scVector := ⟨.hbm, 64, rfl⟩
abbrev main_v54_scv : Ref sig .scVector := ⟨.hbm, 74, rfl⟩
abbrev main_v55_scv : Ref sig .scVector := ⟨.hbm, 75, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg12_0 : Ref sig .tc := ⟨.vmem, 15, rfl⟩
abbrev cc1_stg13_0 : Ref sig .tc := ⟨.vmem, 16, rfl⟩
abbrev cc1_stg14_0 : Ref sig .tc := ⟨.vmem, 17, rfl⟩
abbrev cc1_stg14_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg7_0 : Ref sig .tc := ⟨.vmem, 29, rfl⟩
abbrev cc3_stg8_0 : Ref sig .tc := ⟨.vmem, 30, rfl⟩
abbrev cc3_stg9_0 : Ref sig .tc := ⟨.vmem, 31, rfl⟩
abbrev cc3_stg10_0 : Ref sig .tc := ⟨.vmem, 32, rfl⟩
abbrev cc3_stg11_0 : Ref sig .tc := ⟨.vmem, 33, rfl⟩
abbrev cc3_stg12_0 : Ref sig .tc := ⟨.vmem, 34, rfl⟩
abbrev cc3_stg13_0 : Ref sig .tc := ⟨.vmem, 35, rfl⟩
abbrev cc3_stg14_0 : Ref sig .tc := ⟨.vmem, 36, rfl⟩
abbrev cc3_stg14_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg6_0 : Ref sig .tc := ⟨.vmem, 47, rfl⟩
abbrev cc5_stg7_0 : Ref sig .tc := ⟨.vmem, 48, rfl⟩
abbrev cc5_stg8_0 : Ref sig .tc := ⟨.vmem, 49, rfl⟩
abbrev cc5_stg9_0 : Ref sig .tc := ⟨.vmem, 50, rfl⟩
abbrev cc5_stg10_0 : Ref sig .tc := ⟨.vmem, 51, rfl⟩
abbrev cc5_stg11_0 : Ref sig .tc := ⟨.vmem, 52, rfl⟩
abbrev cc5_stg12_0 : Ref sig .tc := ⟨.vmem, 53, rfl⟩
abbrev cc5_stg13_0 : Ref sig .tc := ⟨.vmem, 54, rfl⟩
abbrev cc5_stg14_0 : Ref sig .tc := ⟨.vmem, 55, rfl⟩
abbrev cc5_stg14_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg2_1 : Ref sig .tc := ⟨.vmem, 62, rfl⟩
abbrev cc7_stg3_0 : Ref sig .tc := ⟨.vmem, 63, rfl⟩
abbrev cc7_stg4_0 : Ref sig .tc := ⟨.vmem, 64, rfl⟩
abbrev cc7_stg5_0 : Ref sig .tc := ⟨.vmem, 65, rfl⟩
abbrev cc7_stg6_0 : Ref sig .tc := ⟨.vmem, 66, rfl⟩
abbrev cc7_stg7_0 : Ref sig .tc := ⟨.vmem, 67, rfl⟩
abbrev cc7_stg8_0 : Ref sig .tc := ⟨.vmem, 68, rfl⟩
abbrev cc7_stg9_0 : Ref sig .tc := ⟨.vmem, 69, rfl⟩
abbrev cc7_stg10_0 : Ref sig .tc := ⟨.vmem, 70, rfl⟩
abbrev cc7_stg11_0 : Ref sig .tc := ⟨.vmem, 71, rfl⟩
abbrev cc7_stg12_0 : Ref sig .tc := ⟨.vmem, 72, rfl⟩
abbrev cc7_stg13_0 : Ref sig .tc := ⟨.vmem, 73, rfl⟩
abbrev cc7_stg14_0 : Ref sig .tc := ⟨.vmem, 74, rfl⟩
abbrev cc7_stg14_1 : Ref sig .tc := ⟨.vmem, 75, rfl⟩
abbrev cc9_stg0_0 : Ref sig .tc := ⟨.vmem, 76, rfl⟩
abbrev cc9_stg0_1 : Ref sig .tc := ⟨.vmem, 77, rfl⟩
abbrev cc9_stg1_0 : Ref sig .tc := ⟨.vmem, 78, rfl⟩
abbrev cc9_stg1_1 : Ref sig .tc := ⟨.vmem, 79, rfl⟩
abbrev cc9_stg2_0 : Ref sig .tc := ⟨.vmem, 80, rfl⟩
abbrev cc9_stg2_1 : Ref sig .tc := ⟨.vmem, 81, rfl⟩
abbrev cc9_stg3_0 : Ref sig .tc := ⟨.vmem, 82, rfl⟩
abbrev cc9_stg4_0 : Ref sig .tc := ⟨.vmem, 83, rfl⟩
abbrev cc9_stg5_0 : Ref sig .tc := ⟨.vmem, 84, rfl⟩
abbrev cc9_stg6_0 : Ref sig .tc := ⟨.vmem, 85, rfl⟩
abbrev cc9_stg7_0 : Ref sig .tc := ⟨.vmem, 86, rfl⟩
abbrev cc9_stg8_0 : Ref sig .tc := ⟨.vmem, 87, rfl⟩
abbrev cc9_stg9_0 : Ref sig .tc := ⟨.vmem, 88, rfl⟩
abbrev cc9_stg10_0 : Ref sig .tc := ⟨.vmem, 89, rfl⟩
abbrev cc9_stg11_0 : Ref sig .tc := ⟨.vmem, 90, rfl⟩
abbrev cc9_stg12_0 : Ref sig .tc := ⟨.vmem, 91, rfl⟩
abbrev cc9_stg13_0 : Ref sig .tc := ⟨.vmem, 92, rfl⟩
abbrev cc9_stg14_0 : Ref sig .tc := ⟨.vmem, 93, rfl⟩
abbrev cc9_stg14_1 : Ref sig .tc := ⟨.vmem, 94, rfl⟩
abbrev cc0_scoped0 : Ref sig .scVector := ⟨.vmem, 0, rfl⟩
abbrev cc0_scoped2 : Ref sig .scVector := ⟨.vmem, 1, rfl⟩
abbrev cc2_scoped0 : Ref sig .scVector := ⟨.vmem, 2, rfl⟩
abbrev cc2_scoped2 : Ref sig .scVector := ⟨.vmem, 3, rfl⟩
abbrev cc4_scoped0 : Ref sig .scVector := ⟨.vmem, 4, rfl⟩
abbrev cc4_scoped2 : Ref sig .scVector := ⟨.vmem, 5, rfl⟩
abbrev cc6_scoped0 : Ref sig .scVector := ⟨.vmem, 6, rfl⟩
abbrev cc6_scoped2 : Ref sig .scVector := ⟨.vmem, 7, rfl⟩
abbrev cc8_scoped0 : Ref sig .scVector := ⟨.vmem, 8, rfl⟩
abbrev cc8_scoped2 : Ref sig .scVector := ⟨.vmem, 9, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem14_0 : DmaSem sig := 23
abbrev cc1_sem14_1 : DmaSem sig := 24
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem7_0 : DmaSem sig := 41
abbrev cc3_sem8_0 : DmaSem sig := 42
abbrev cc3_sem9_0 : DmaSem sig := 43
abbrev cc3_sem10_0 : DmaSem sig := 44
abbrev cc3_sem11_0 : DmaSem sig := 45
abbrev cc3_sem12_0 : DmaSem sig := 46
abbrev cc3_sem13_0 : DmaSem sig := 47
abbrev cc3_sem14_0 : DmaSem sig := 48
abbrev cc3_sem14_1 : DmaSem sig := 49
abbrev cc5_sem0_0 : DmaSem sig := 56
abbrev cc5_sem0_1 : DmaSem sig := 57
abbrev cc5_sem1_0 : DmaSem sig := 58
abbrev cc5_sem1_1 : DmaSem sig := 59
abbrev cc5_sem2_0 : DmaSem sig := 60
abbrev cc5_sem2_1 : DmaSem sig := 61
abbrev cc5_sem3_0 : DmaSem sig := 62
abbrev cc5_sem4_0 : DmaSem sig := 63
abbrev cc5_sem5_0 : DmaSem sig := 64
abbrev cc5_sem6_0 : DmaSem sig := 65
abbrev cc5_sem7_0 : DmaSem sig := 66
abbrev cc5_sem8_0 : DmaSem sig := 67
abbrev cc5_sem9_0 : DmaSem sig := 68
abbrev cc5_sem10_0 : DmaSem sig := 69
abbrev cc5_sem11_0 : DmaSem sig := 70
abbrev cc5_sem12_0 : DmaSem sig := 71
abbrev cc5_sem13_0 : DmaSem sig := 72
abbrev cc5_sem14_0 : DmaSem sig := 73
abbrev cc5_sem14_1 : DmaSem sig := 74
abbrev cc7_sem0_0 : DmaSem sig := 81
abbrev cc7_sem0_1 : DmaSem sig := 82
abbrev cc7_sem1_0 : DmaSem sig := 83
abbrev cc7_sem1_1 : DmaSem sig := 84
abbrev cc7_sem2_0 : DmaSem sig := 85
abbrev cc7_sem2_1 : DmaSem sig := 86
abbrev cc7_sem3_0 : DmaSem sig := 87
abbrev cc7_sem4_0 : DmaSem sig := 88
abbrev cc7_sem5_0 : DmaSem sig := 89
abbrev cc7_sem6_0 : DmaSem sig := 90
abbrev cc7_sem7_0 : DmaSem sig := 91
abbrev cc7_sem8_0 : DmaSem sig := 92
abbrev cc7_sem9_0 : DmaSem sig := 93
abbrev cc7_sem10_0 : DmaSem sig := 94
abbrev cc7_sem11_0 : DmaSem sig := 95
abbrev cc7_sem12_0 : DmaSem sig := 96
abbrev cc7_sem13_0 : DmaSem sig := 97
abbrev cc7_sem14_0 : DmaSem sig := 98
abbrev cc7_sem14_1 : DmaSem sig := 99
abbrev cc9_sem0_0 : DmaSem sig := 106
abbrev cc9_sem0_1 : DmaSem sig := 107
abbrev cc9_sem1_0 : DmaSem sig := 108
abbrev cc9_sem1_1 : DmaSem sig := 109
abbrev cc9_sem2_0 : DmaSem sig := 110
abbrev cc9_sem2_1 : DmaSem sig := 111
abbrev cc9_sem3_0 : DmaSem sig := 112
abbrev cc9_sem4_0 : DmaSem sig := 113
abbrev cc9_sem5_0 : DmaSem sig := 114
abbrev cc9_sem6_0 : DmaSem sig := 115
abbrev cc9_sem7_0 : DmaSem sig := 116
abbrev cc9_sem8_0 : DmaSem sig := 117
abbrev cc9_sem9_0 : DmaSem sig := 118
abbrev cc9_sem10_0 : DmaSem sig := 119
abbrev cc9_sem11_0 : DmaSem sig := 120
abbrev cc9_sem12_0 : DmaSem sig := 121
abbrev cc9_sem13_0 : DmaSem sig := 122
abbrev cc9_sem14_0 : DmaSem sig := 123
abbrev cc9_sem14_1 : DmaSem sig := 124
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k0_cond2 (i : grid0.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k0_off1 : Fin 3 → Nat :=
  let c0_i32_24_r0 : BitVec 32 := 0#32
  let c2_i32_r0 : BitVec 32 := 2#32
  let v80_r0 : BitVec 32 := Scalar.remui c0_i32_24_r0 c2_i32_r0
  let c0_i32_57_r0 : BitVec 32 := 0#32
  let c0_i32_58_r0 : BitVec 32 := 0#32
  ![v80_r0.toNat, 0, 0]
def k0_off2 (i : grid0.Coords) : Fin 2 → Nat :=
  let c0_i32_59_r0 : BitVec 32 := 0#32
  let c128_i32_r0 : BitVec 32 := 128#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v20_r0 : BitVec 32 := Scalar.addi c0_i32_10_r0 v10
  let v81_r0 : BitVec 32 := Scalar.muli c128_i32_r0 v20_r0
  ![0, v81_r0.toNat]
def k0_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k0_t1_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k0_off4 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off5 (i : grid0.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v93_r0 : BitVec 1 := Scalar.cmpi .eq v92_r0 v5
  let c0_i32_66_r0 : BitVec 32 := 0#32
  let v94_r0 : BitVec 32 := Scalar.select v93_r0 c0_i32_66_r0 v92_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k0_off6 (arg6_r0 : BitVec 32) : Fin 1 → Nat :=
  let c2_i32_101_r0 : BitVec 32 := 2#32
  let v167_r0 : BitVec 32 := Scalar.remui arg6_r0 c2_i32_101_r0
  ![v167_r0.toNat]
def k0_off7 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off8 (i : grid0.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k0_off9 (arg7_r0 : BitVec 32) : Fin 1 → Nat :=
  let c2_i32_101_r0 : BitVec 32 := 2#32
  let v168_r0 : BitVec 32 := Scalar.remui arg7_r0 c2_i32_101_r0
  ![v168_r0.toNat]
def k0_off10 (arg8_r0 : BitVec 32) : Fin 3 → Nat :=
  let c2_i32_84_r0 : BitVec 32 := 2#32
  let v132_r0 : BitVec 32 := Scalar.remui arg8_r0 c2_i32_84_r0
  let c0_i32_101_r1 : BitVec 32 := 0#32
  let c0_i32_102_r1 : BitVec 32 := 0#32
  ![v132_r0.toNat, 0, 0]

def k0_chk2 (i : grid0.Coords) (arg8_r0 : BitVec 32) : Prop :=
  (∀ (k0_h1 : k0_cond1 i = 1#1), ∀ a, (k0_off10 arg8_r0) a + S1x128x128.size a ≤ S2x128x128.size a)
theorem k0_off10_inb : ∀ (i : grid0.Coords) (arg8_r0 : BitVec 32) (k0_hw2 : k0_chk2 i arg8_r0), ∀ (k0_h1 : k0_cond1 i = 1#1), ∀ a, (k0_off10 arg8_r0) a + S1x128x128.size a ≤ S2x128x128.size a := fun i arg8_r0 k0_hw2 k0_h1 => k0_hw2 k0_h1

def k0_off11 (arg7_r0 : BitVec 32) : Fin 3 → Nat :=
  let c2_i32_83_r0 : BitVec 32 := 2#32
  let v131_r0 : BitVec 32 := Scalar.remui arg7_r0 c2_i32_83_r0
  let c0_i32_103_r1 : BitVec 32 := 0#32
  let c0_i32_104_r1 : BitVec 32 := 0#32
  ![v131_r0.toNat, 0, 0]

def k0_chk3 (i : grid0.Coords) (arg7_r0 : BitVec 32) : Prop :=
  (∀ (k0_h1 : k0_cond1 i = 1#1), ∀ a, (k0_off11 arg7_r0) a + S1x1x128.size a ≤ S2x1x128.size a)
theorem k0_off11_inb : ∀ (i : grid0.Coords) (arg7_r0 : BitVec 32) (k0_hw3 : k0_chk3 i arg7_r0), ∀ (k0_h1 : k0_cond1 i = 1#1), ∀ a, (k0_off11 arg7_r0) a + S1x1x128.size a ≤ S2x1x128.size a := fun i arg7_r0 k0_hw3 k0_h1 => k0_hw3 k0_h1

def k0_off12 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k0_off13 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k0_off14 (arg8_r0 : BitVec 32) : Fin 1 → Nat :=
  let c2_i32_101_r0 : BitVec 32 := 2#32
  let v167_r0 : BitVec 32 := Scalar.remui arg8_r0 c2_i32_101_r0
  ![v167_r0.toNat]
def k0_off15 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k0_off16 (i : grid0.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_63_r0 : BitVec 32 := 1#32
  let v88_r0 : BitVec 32 := Scalar.subi v5 c1_i32_63_r0
  let v89_r0 : BitVec 32 := Scalar.select v87_r0 v88_r0 v86_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k0_off17 (arg9_r0 : BitVec 32) : Fin 1 → Nat :=
  let c2_i32_101_r0 : BitVec 32 := 2#32
  let v167_r0 : BitVec 32 := Scalar.remui arg9_r0 c2_i32_101_r0
  ![v167_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x128.size a ≤ S2x1x128.size a) ∧
  (∀ (k0_h1 : k0_cond1 i = 1#1), ∀ (k0_h3 : k0_cond3 i k0_t1 arg10_r0 = 1#1), ∀ a, (k0_off5 i arg10_r0) a + S1x128.size a ≤ S1x32000.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x128.size a ≤ S2x1x128.size a) ∧
  (∀ (k0_h1 : k0_cond1 i = 1#1), ∀ (k0_h4 : k0_cond4 i k0_t1 arg10_r0 = 1#1), ∀ a, (k0_off8 i arg10_r0) a + S1x128.size a ≤ S1x32000.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x128x128.size a ≤ S2x128x128.size a) ∧
  (∀ (k0_h1 : k0_cond1 i = 1#1), ∀ (k0_h7 : k0_cond7 i k0_t1 arg10_r0 = 1#1), ∀ a, (k0_off13 i arg10_r0) a + S128x128.size a ≤ S32000x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x128x128.size a ≤ S2x128x128.size a) ∧
  (∀ (k0_h1 : k0_cond1 i = 1#1), ∀ (k0_h9 : k0_cond9 i k0_t1 arg10_r0 = 1#1), ∀ a, (k0_off16 i arg10_r0) a + S128x128.size a ≤ S32000x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x128.size a ≤ S2x1x128.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x128.size a ≤ S1x32000.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x128.size a ≤ S2x1x128.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x128.size a ≤ S1x32000.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x128x128.size a ≤ S2x128x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S128x128.size a ≤ S32000x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x128x128.size a ≤ S2x128x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S128x128.size a ≤ S32000x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k0_off18 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off19 (i : grid0.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v93_r0 : BitVec 1 := Scalar.cmpi .eq v92_r0 v5
  let c0_i32_66_r0 : BitVec 32 := 0#32
  let v94_r0 : BitVec 32 := Scalar.select v93_r0 c0_i32_66_r0 v92_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k0_off20 (arg6_r0 : BitVec 32) : Fin 1 → Nat :=
  let c2_i32_101_r0 : BitVec 32 := 2#32
  let v167_r0 : BitVec 32 := Scalar.remui arg6_r0 c2_i32_101_r0
  ![v167_r0.toNat]
def k0_off21 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off22 (i : grid0.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k0_off23 (arg7_r0 : BitVec 32) : Fin 1 → Nat :=
  let c2_i32_101_r0 : BitVec 32 := 2#32
  let v168_r0 : BitVec 32 := Scalar.remui arg7_r0 c2_i32_101_r0
  ![v168_r0.toNat]
def k0_off24 (arg8_r0 : BitVec 32) : Fin 3 → Nat :=
  let c2_i32_84_r0 : BitVec 32 := 2#32
  let v132_r0 : BitVec 32 := Scalar.remui arg8_r0 c2_i32_84_r0
  let c0_i32_101_r2 : BitVec 32 := 0#32
  let c0_i32_102_r2 : BitVec 32 := 0#32
  ![v132_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x128x128.size a ≤ S2x128x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x128x128.size a ≤ S2x128x128.size a := fun i k0_t2 arg8_r0 k0_hw5 k0_h1 => k0_hw5 k0_h1

def k0_off25 (arg7_r0 : BitVec 32) : Fin 3 → Nat :=
  let c2_i32_83_r0 : BitVec 32 := 2#32
  let v131_r0 : BitVec 32 := Scalar.remui arg7_r0 c2_i32_83_r0
  let c0_i32_103_r2 : BitVec 32 := 0#32
  let c0_i32_104_r2 : BitVec 32 := 0#32
  ![v131_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x128.size a ≤ S2x1x128.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x128.size a ≤ S2x1x128.size a := fun i k0_t2 arg7_r0 k0_hw6 k0_h1 => k0_hw6 k0_h1

def k0_off26 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k0_off27 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k0_off28 (arg8_r0 : BitVec 32) : Fin 1 → Nat :=
  let c2_i32_101_r0 : BitVec 32 := 2#32
  let v167_r0 : BitVec 32 := Scalar.remui arg8_r0 c2_i32_101_r0
  ![v167_r0.toNat]
def k0_off29 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k0_off30 (i : grid0.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_63_r0 : BitVec 32 := 1#32
  let v88_r0 : BitVec 32 := Scalar.subi v5 c1_i32_63_r0
  let v89_r0 : BitVec 32 := Scalar.select v87_r0 v88_r0 v86_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k0_off31 (arg9_r0 : BitVec 32) : Fin 1 → Nat :=
  let c2_i32_101_r0 : BitVec 32 := 2#32
  let v167_r0 : BitVec 32 := Scalar.remui arg9_r0 c2_i32_101_r0
  ![v167_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x128.size a ≤ S2x1x128.size a) ∧
  (∀ (k0_h1 : k0_cond1 i = 1#1), ∀ (k0_h10 : k0_cond10 i k0_t2 arg10_r0 = 1#1), ∀ a, (k0_off19 i arg10_r0) a + S1x128.size a ≤ S1x32000.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x128.size a ≤ S2x1x128.size a) ∧
  (∀ (k0_h1 : k0_cond1 i = 1#1), ∀ (k0_h11 : k0_cond11 i k0_t2 arg10_r0 = 1#1), ∀ a, (k0_off22 i arg10_r0) a + S1x128.size a ≤ S1x32000.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x128x128.size a ≤ S2x128x128.size a) ∧
  (∀ (k0_h1 : k0_cond1 i = 1#1), ∀ (k0_h14 : k0_cond14 i k0_t2 arg10_r0 = 1#1), ∀ a, (k0_off27 i arg10_r0) a + S128x128.size a ≤ S32000x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x128x128.size a ≤ S2x128x128.size a) ∧
  (∀ (k0_h1 : k0_cond1 i = 1#1), ∀ (k0_h16 : k0_cond16 i k0_t2 arg10_r0 = 1#1), ∀ a, (k0_off30 i arg10_r0) a + S128x128.size a ≤ S32000x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x128.size a ≤ S2x1x128.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x128.size a ≤ S1x32000.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x128.size a ≤ S2x1x128.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x128.size a ≤ S1x32000.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x128x128.size a ≤ S2x128x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S128x128.size a ≤ S32000x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x128x128.size a ≤ S2x128x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S128x128.size a ≤ S32000x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k0_off32 (v48_3_r0 : BitVec 32) : Fin 3 → Nat :=
  let c2_i32_r0 : BitVec 32 := 2#32
  let v80_r0 : BitVec 32 := Scalar.remui v48_3_r0 c2_i32_r0
  let c0_i32_57_r0 : BitVec 32 := 0#32
  let c0_i32_58_r0 : BitVec 32 := 0#32
  ![v80_r0.toNat, 0, 0]

def k0_off33 (i : grid0.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_40_r0 : BitVec 32 := 1#32
  let v52_r0 : BitVec 32 := Scalar.subi v5 c1_i32_40_r0
  let v53_r0 : BitVec 32 := Scalar.select v51_r0 v52_r0 v50_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v59_r0 : BitVec 32 := Scalar.addi v53_r0 v10
  let v81_r0 : BitVec 32 := Scalar.muli c128_i32_r0 v59_r0
  let c0_i32_59_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S128x128.size a ≤ S32000x128.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S128x128.size a ≤ S32000x128.size a := fun i v48_4_r0 k0_hw8 k0_h1 k0_h18 => k0_hw8 k0_h1 k0_h18

def k0_off34 (v48_3_r0 : BitVec 32) : Fin 1 → Nat :=
  let c2_i32_r0 : BitVec 32 := 2#32
  let v80_r0 : BitVec 32 := Scalar.remui v48_3_r0 c2_i32_r0
  ![v80_r0.toNat]
def k0_off35 (v48_3_r0 : BitVec 32) : Fin 3 → Nat :=
  let c2_i32_r0 : BitVec 32 := 2#32
  let v80_r0 : BitVec 32 := Scalar.remui v48_3_r0 c2_i32_r0
  let c0_i32_61_r0 : BitVec 32 := 0#32
  let c0_i32_62_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x128x128.size a ≤ S2x128x128.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x128x128.size a ≤ S2x128x128.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x128x128.size a ≤ S2x128x128.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x128x128.size a ≤ S2x128x128.size a := fun i v48_3_r0 k0_hw7 k0_h1 k0_h18 => k0_hw7.2.2 k0_h1 k0_h18

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3200x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S200x128 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev grid2 : Pipeline.Grid := ⟨2, ![2, 16], ![false, false]⟩

def k2_cond1 (i : grid2.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k2_cond2 (i : grid2.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k2_off1 : Fin 3 → Nat :=
  let c0_i32_24_r0 : BitVec 32 := 0#32
  let c2_i32_r0 : BitVec 32 := 2#32
  let v80_r0 : BitVec 32 := Scalar.remui c0_i32_24_r0 c2_i32_r0
  let c0_i32_57_r0 : BitVec 32 := 0#32
  let c0_i32_58_r0 : BitVec 32 := 0#32
  ![v80_r0.toNat, 0, 0]
def k2_off2 (i : grid2.Coords) : Fin 2 → Nat :=
  let c0_i32_59_r0 : BitVec 32 := 0#32
  let c128_i32_r0 : BitVec 32 := 128#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v20_r0 : BitVec 32 := Scalar.addi c0_i32_10_r0 v10
  let v81_r0 : BitVec 32 := Scalar.muli c128_i32_r0 v20_r0
  ![0, v81_r0.toNat]
def k2_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k2_t1_loop (i : grid2.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k2_off4 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k2_cond3 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k2_t1
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k2_off5 (i : grid2.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v93_r0 : BitVec 1 := Scalar.cmpi .eq v92_r0 v5
  let c0_i32_66_r0 : BitVec 32 := 0#32
  let v94_r0 : BitVec 32 := Scalar.select v93_r0 c0_i32_66_r0 v92_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k2_off6 (arg6_r0 : BitVec 32) : Fin 1 → Nat :=
  let c2_i32_101_r0 : BitVec 32 := 2#32
  let v167_r0 : BitVec 32 := Scalar.remui arg6_r0 c2_i32_101_r0
  ![v167_r0.toNat]
def k2_off7 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k2_cond4 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k2_t1
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k2_off8 (i : grid2.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k2_off9 (arg7_r0 : BitVec 32) : Fin 1 → Nat :=
  let c2_i32_101_r0 : BitVec 32 := 2#32
  let v168_r0 : BitVec 32 := Scalar.remui arg7_r0 c2_i32_101_r0
  ![v168_r0.toNat]
def k2_off10 (arg8_r0 : BitVec 32) : Fin 3 → Nat :=
  let c2_i32_84_r0 : BitVec 32 := 2#32
  let v132_r0 : BitVec 32 := Scalar.remui arg8_r0 c2_i32_84_r0
  let c0_i32_101_r1 : BitVec 32 := 0#32
  let c0_i32_102_r1 : BitVec 32 := 0#32
  ![v132_r0.toNat, 0, 0]

def k2_chk2 (i : grid2.Coords) (arg8_r0 : BitVec 32) : Prop :=
  (∀ (k2_h1 : k2_cond1 i = 1#1), ∀ a, (k2_off10 arg8_r0) a + S1x128x128.size a ≤ S2x128x128.size a)
theorem k2_off10_inb : ∀ (i : grid2.Coords) (arg8_r0 : BitVec 32) (k2_hw2 : k2_chk2 i arg8_r0), ∀ (k2_h1 : k2_cond1 i = 1#1), ∀ a, (k2_off10 arg8_r0) a + S1x128x128.size a ≤ S2x128x128.size a := fun i arg8_r0 k2_hw2 k2_h1 => k2_hw2 k2_h1

def k2_off11 (arg7_r0 : BitVec 32) : Fin 3 → Nat :=
  let c2_i32_83_r0 : BitVec 32 := 2#32
  let v131_r0 : BitVec 32 := Scalar.remui arg7_r0 c2_i32_83_r0
  let c0_i32_103_r1 : BitVec 32 := 0#32
  let c0_i32_104_r1 : BitVec 32 := 0#32
  ![v131_r0.toNat, 0, 0]

def k2_chk3 (i : grid2.Coords) (arg7_r0 : BitVec 32) : Prop :=
  (∀ (k2_h1 : k2_cond1 i = 1#1), ∀ a, (k2_off11 arg7_r0) a + S1x1x128.size a ≤ S2x1x128.size a)
theorem k2_off11_inb : ∀ (i : grid2.Coords) (arg7_r0 : BitVec 32) (k2_hw3 : k2_chk3 i arg7_r0), ∀ (k2_h1 : k2_cond1 i = 1#1), ∀ a, (k2_off11 arg7_r0) a + S1x1x128.size a ≤ S2x1x128.size a := fun i arg7_r0 k2_hw3 k2_h1 => k2_hw3 k2_h1

def k2_off12 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k2_cond7 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k2_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k2_off13 (i : grid2.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k2_off14 (arg8_r0 : BitVec 32) : Fin 1 → Nat :=
  let c2_i32_101_r0 : BitVec 32 := 2#32
  let v167_r0 : BitVec 32 := Scalar.remui arg8_r0 c2_i32_101_r0
  ![v167_r0.toNat]
def k2_off15 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k2_cond9 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k2_t1
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k2_off16 (i : grid2.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_63_r0 : BitVec 32 := 1#32
  let v88_r0 : BitVec 32 := Scalar.subi v5 c1_i32_63_r0
  let v89_r0 : BitVec 32 := Scalar.select v87_r0 v88_r0 v86_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k2_off17 (arg9_r0 : BitVec 32) : Fin 1 → Nat :=
  let c2_i32_101_r0 : BitVec 32 := 2#32
  let v167_r0 : BitVec 32 := Scalar.remui arg9_r0 c2_i32_101_r0
  ![v167_r0.toNat]

def k2_chk1 (i : grid2.Coords) (k2_t1 : Fin (k2_t1_loop i).trips) (arg6_r0 : BitVec 32) (arg7_r0 : BitVec 32) (arg8_r0 : BitVec 32) (arg9_r0 : BitVec 32) (arg10_r0 : BitVec 32) : Prop :=
  (∀ (k2_h1 : k2_cond1 i = 1#1), ∀ (k2_h3 : k2_cond3 i k2_t1 arg10_r0 = 1#1), ∀ a, (k2_off4 arg6_r0) a + S1x1x128.size a ≤ S2x1x128.size a) ∧
  (∀ (k2_h1 : k2_cond1 i = 1#1), ∀ (k2_h3 : k2_cond3 i k2_t1 arg10_r0 = 1#1), ∀ a, (k2_off5 i arg10_r0) a + S1x128.size a ≤ S1x32000.size a) ∧
  (∀ (k2_h1 : k2_cond1 i = 1#1), ∀ (k2_h3 : k2_cond3 i k2_t1 arg10_r0 = 1#1), ∀ a, (k2_off6 arg6_r0) a + S1.size a ≤ S2.size a) ∧
  (∀ (k2_h1 : k2_cond1 i = 1#1), ∀ (k2_h4 : k2_cond4 i k2_t1 arg10_r0 = 1#1), ∀ a, (k2_off7 arg7_r0) a + S1x1x128.size a ≤ S2x1x128.size a) ∧
  (∀ (k2_h1 : k2_cond1 i = 1#1), ∀ (k2_h4 : k2_cond4 i k2_t1 arg10_r0 = 1#1), ∀ a, (k2_off8 i arg10_r0) a + S1x128.size a ≤ S1x32000.size a) ∧
  (∀ (k2_h1 : k2_cond1 i = 1#1), ∀ (k2_h4 : k2_cond4 i k2_t1 arg10_r0 = 1#1), ∀ a, (k2_off9 arg7_r0) a + S1.size a ≤ S2.size a) ∧
  (∀ (k2_h1 : k2_cond1 i = 1#1), ∀ (k2_h7 : k2_cond7 i k2_t1 arg10_r0 = 1#1), ∀ a, (k2_off12 arg8_r0) a + S1x128x128.size a ≤ S2x128x128.size a) ∧
  (∀ (k2_h1 : k2_cond1 i = 1#1), ∀ (k2_h7 : k2_cond7 i k2_t1 arg10_r0 = 1#1), ∀ a, (k2_off13 i arg10_r0) a + S128x128.size a ≤ S32000x128.size a) ∧
  (∀ (k2_h1 : k2_cond1 i = 1#1), ∀ (k2_h7 : k2_cond7 i k2_t1 arg10_r0 = 1#1), ∀ a, (k2_off14 arg8_r0) a + S1.size a ≤ S2.size a) ∧
  (∀ (k2_h1 : k2_cond1 i = 1#1), ∀ (k2_h9 : k2_cond9 i k2_t1 arg10_r0 = 1#1), ∀ a, (k2_off15 arg9_r0) a + S1x128x128.size a ≤ S2x128x128.size a) ∧
  (∀ (k2_h1 : k2_cond1 i = 1#1), ∀ (k2_h9 : k2_cond9 i k2_t1 arg10_r0 = 1#1), ∀ a, (k2_off16 i arg10_r0) a + S128x128.size a ≤ S32000x128.size a) ∧
  (∀ (k2_h1 : k2_cond1 i = 1#1), ∀ (k2_h9 : k2_cond9 i k2_t1 arg10_r0 = 1#1), ∀ a, (k2_off17 arg9_r0) a + S1.size a ≤ S2.size a)
theorem k2_off4_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off4 arg6_r0) a + S1x1x128.size a ≤ S2x1x128.size a := fun i k2_t1 arg6_r0 arg7_r0 arg8_r0 arg9_r0 arg10_r0 k2_hw1 k2_h1 k2_h3 => k2_hw1.1 k2_h1 k2_h3
theorem k2_off5_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off5 i arg10_r0) a + S1x128.size a ≤ S1x32000.size a := fun i k2_t1 arg6_r0 arg7_r0 arg8_r0 arg9_r0 arg10_r0 k2_hw1 k2_h1 k2_h3 => k2_hw1.2.1 k2_h1 k2_h3
theorem k2_off6_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off6 arg6_r0) a + S1.size a ≤ S2.size a := fun i k2_t1 arg6_r0 arg7_r0 arg8_r0 arg9_r0 arg10_r0 k2_hw1 k2_h1 k2_h3 => k2_hw1.2.2.1 k2_h1 k2_h3
theorem k2_off7_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off7 arg7_r0) a + S1x1x128.size a ≤ S2x1x128.size a := fun i k2_t1 arg6_r0 arg7_r0 arg8_r0 arg9_r0 arg10_r0 k2_hw1 k2_h1 k2_h4 => k2_hw1.2.2.2.1 k2_h1 k2_h4
theorem k2_off8_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off8 i arg10_r0) a + S1x128.size a ≤ S1x32000.size a := fun i k2_t1 arg6_r0 arg7_r0 arg8_r0 arg9_r0 arg10_r0 k2_hw1 k2_h1 k2_h4 => k2_hw1.2.2.2.2.1 k2_h1 k2_h4
theorem k2_off9_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off9 arg7_r0) a + S1.size a ≤ S2.size a := fun i k2_t1 arg6_r0 arg7_r0 arg8_r0 arg9_r0 arg10_r0 k2_hw1 k2_h1 k2_h4 => k2_hw1.2.2.2.2.2.1 k2_h1 k2_h4
theorem k2_off12_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off12 arg8_r0) a + S1x128x128.size a ≤ S2x128x128.size a := fun i k2_t1 arg6_r0 arg7_r0 arg8_r0 arg9_r0 arg10_r0 k2_hw1 k2_h1 k2_h7 => k2_hw1.2.2.2.2.2.2.1 k2_h1 k2_h7
theorem k2_off13_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off13 i arg10_r0) a + S128x128.size a ≤ S32000x128.size a := fun i k2_t1 arg6_r0 arg7_r0 arg8_r0 arg9_r0 arg10_r0 k2_hw1 k2_h1 k2_h7 => k2_hw1.2.2.2.2.2.2.2.1 k2_h1 k2_h7
theorem k2_off14_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off14 arg8_r0) a + S1.size a ≤ S2.size a := fun i k2_t1 arg6_r0 arg7_r0 arg8_r0 arg9_r0 arg10_r0 k2_hw1 k2_h1 k2_h7 => k2_hw1.2.2.2.2.2.2.2.2.1 k2_h1 k2_h7
theorem k2_off15_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off15 arg9_r0) a + S1x128x128.size a ≤ S2x128x128.size a := fun i k2_t1 arg6_r0 arg7_r0 arg8_r0 arg9_r0 arg10_r0 k2_hw1 k2_h1 k2_h9 => k2_hw1.2.2.2.2.2.2.2.2.2.1 k2_h1 k2_h9
theorem k2_off16_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off16 i arg10_r0) a + S128x128.size a ≤ S32000x128.size a := fun i k2_t1 arg6_r0 arg7_r0 arg8_r0 arg9_r0 arg10_r0 k2_hw1 k2_h1 k2_h9 => k2_hw1.2.2.2.2.2.2.2.2.2.2.1 k2_h1 k2_h9
theorem k2_off17_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off17 arg9_r0) a + S1.size a ≤ S2.size a := fun i k2_t1 arg6_r0 arg7_r0 arg8_r0 arg9_r0 arg10_r0 k2_hw1 k2_h1 k2_h9 => k2_hw1.2.2.2.2.2.2.2.2.2.2.2 k2_h1 k2_h9

@[reducible] def k2_t2_loop (i : grid2.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k2_off18 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k2_cond10 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k2_t2
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k2_off19 (i : grid2.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v93_r0 : BitVec 1 := Scalar.cmpi .eq v92_r0 v5
  let c0_i32_66_r0 : BitVec 32 := 0#32
  let v94_r0 : BitVec 32 := Scalar.select v93_r0 c0_i32_66_r0 v92_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k2_off20 (arg6_r0 : BitVec 32) : Fin 1 → Nat :=
  let c2_i32_101_r0 : BitVec 32 := 2#32
  let v167_r0 : BitVec 32 := Scalar.remui arg6_r0 c2_i32_101_r0
  ![v167_r0.toNat]
def k2_off21 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k2_cond11 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k2_t2
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k2_off22 (i : grid2.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k2_off23 (arg7_r0 : BitVec 32) : Fin 1 → Nat :=
  let c2_i32_101_r0 : BitVec 32 := 2#32
  let v168_r0 : BitVec 32 := Scalar.remui arg7_r0 c2_i32_101_r0
  ![v168_r0.toNat]
def k2_off24 (arg8_r0 : BitVec 32) : Fin 3 → Nat :=
  let c2_i32_84_r0 : BitVec 32 := 2#32
  let v132_r0 : BitVec 32 := Scalar.remui arg8_r0 c2_i32_84_r0
  let c0_i32_101_r2 : BitVec 32 := 0#32
  let c0_i32_102_r2 : BitVec 32 := 0#32
  ![v132_r0.toNat, 0, 0]

def k2_chk5 (i : grid2.Coords) (k2_t2 : Fin (k2_t2_loop i).trips) (arg8_r0 : BitVec 32) : Prop :=
  (∀ (k2_h1 : k2_cond1 i = 1#1), ∀ a, (k2_off24 arg8_r0) a + S1x128x128.size a ≤ S2x128x128.size a)
theorem k2_off24_inb : ∀ (i : grid2.Coords) (k2_t2 : Fin (k2_t2_loop i).trips) (arg8_r0 : BitVec 32) (k2_hw5 : k2_chk5 i k2_t2 arg8_r0), ∀ (k2_h1 : k2_cond1 i = 1#1), ∀ a, (k2_off24 arg8_r0) a + S1x128x128.size a ≤ S2x128x128.size a := fun i k2_t2 arg8_r0 k2_hw5 k2_h1 => k2_hw5 k2_h1

def k2_off25 (arg7_r0 : BitVec 32) : Fin 3 → Nat :=
  let c2_i32_83_r0 : BitVec 32 := 2#32
  let v131_r0 : BitVec 32 := Scalar.remui arg7_r0 c2_i32_83_r0
  let c0_i32_103_r2 : BitVec 32 := 0#32
  let c0_i32_104_r2 : BitVec 32 := 0#32
  ![v131_r0.toNat, 0, 0]

def k2_chk6 (i : grid2.Coords) (k2_t2 : Fin (k2_t2_loop i).trips) (arg7_r0 : BitVec 32) : Prop :=
  (∀ (k2_h1 : k2_cond1 i = 1#1), ∀ a, (k2_off25 arg7_r0) a + S1x1x128.size a ≤ S2x1x128.size a)
theorem k2_off25_inb : ∀ (i : grid2.Coords) (k2_t2 : Fin (k2_t2_loop i).trips) (arg7_r0 : BitVec 32) (k2_hw6 : k2_chk6 i k2_t2 arg7_r0), ∀ (k2_h1 : k2_cond1 i = 1#1), ∀ a, (k2_off25 arg7_r0) a + S1x1x128.size a ≤ S2x1x128.size a := fun i k2_t2 arg7_r0 k2_hw6 k2_h1 => k2_hw6 k2_h1

def k2_off26 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k2_cond14 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k2_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k2_off27 (i : grid2.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k2_off28 (arg8_r0 : BitVec 32) : Fin 1 → Nat :=
  let c2_i32_101_r0 : BitVec 32 := 2#32
  let v167_r0 : BitVec 32 := Scalar.remui arg8_r0 c2_i32_101_r0
  ![v167_r0.toNat]
def k2_off29 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k2_cond16 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k2_t2
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k2_off30 (i : grid2.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_63_r0 : BitVec 32 := 1#32
  let v88_r0 : BitVec 32 := Scalar.subi v5 c1_i32_63_r0
  let v89_r0 : BitVec 32 := Scalar.select v87_r0 v88_r0 v86_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k2_off31 (arg9_r0 : BitVec 32) : Fin 1 → Nat :=
  let c2_i32_101_r0 : BitVec 32 := 2#32
  let v167_r0 : BitVec 32 := Scalar.remui arg9_r0 c2_i32_101_r0
  ![v167_r0.toNat]

def k2_chk4 (i : grid2.Coords) (k2_t2 : Fin (k2_t2_loop i).trips) (arg6_r0 : BitVec 32) (arg7_r0 : BitVec 32) (arg8_r0 : BitVec 32) (arg9_r0 : BitVec 32) (arg10_r0 : BitVec 32) : Prop :=
  (∀ (k2_h1 : k2_cond1 i = 1#1), ∀ (k2_h10 : k2_cond10 i k2_t2 arg10_r0 = 1#1), ∀ a, (k2_off18 arg6_r0) a + S1x1x128.size a ≤ S2x1x128.size a) ∧
  (∀ (k2_h1 : k2_cond1 i = 1#1), ∀ (k2_h10 : k2_cond10 i k2_t2 arg10_r0 = 1#1), ∀ a, (k2_off19 i arg10_r0) a + S1x128.size a ≤ S1x32000.size a) ∧
  (∀ (k2_h1 : k2_cond1 i = 1#1), ∀ (k2_h10 : k2_cond10 i k2_t2 arg10_r0 = 1#1), ∀ a, (k2_off20 arg6_r0) a + S1.size a ≤ S2.size a) ∧
  (∀ (k2_h1 : k2_cond1 i = 1#1), ∀ (k2_h11 : k2_cond11 i k2_t2 arg10_r0 = 1#1), ∀ a, (k2_off21 arg7_r0) a + S1x1x128.size a ≤ S2x1x128.size a) ∧
  (∀ (k2_h1 : k2_cond1 i = 1#1), ∀ (k2_h11 : k2_cond11 i k2_t2 arg10_r0 = 1#1), ∀ a, (k2_off22 i arg10_r0) a + S1x128.size a ≤ S1x32000.size a) ∧
  (∀ (k2_h1 : k2_cond1 i = 1#1), ∀ (k2_h11 : k2_cond11 i k2_t2 arg10_r0 = 1#1), ∀ a, (k2_off23 arg7_r0) a + S1.size a ≤ S2.size a) ∧
  (∀ (k2_h1 : k2_cond1 i = 1#1), ∀ (k2_h14 : k2_cond14 i k2_t2 arg10_r0 = 1#1), ∀ a, (k2_off26 arg8_r0) a + S1x128x128.size a ≤ S2x128x128.size a) ∧
  (∀ (k2_h1 : k2_cond1 i = 1#1), ∀ (k2_h14 : k2_cond14 i k2_t2 arg10_r0 = 1#1), ∀ a, (k2_off27 i arg10_r0) a + S128x128.size a ≤ S32000x128.size a) ∧
  (∀ (k2_h1 : k2_cond1 i = 1#1), ∀ (k2_h14 : k2_cond14 i k2_t2 arg10_r0 = 1#1), ∀ a, (k2_off28 arg8_r0) a + S1.size a ≤ S2.size a) ∧
  (∀ (k2_h1 : k2_cond1 i = 1#1), ∀ (k2_h16 : k2_cond16 i k2_t2 arg10_r0 = 1#1), ∀ a, (k2_off29 arg9_r0) a + S1x128x128.size a ≤ S2x128x128.size a) ∧
  (∀ (k2_h1 : k2_cond1 i = 1#1), ∀ (k2_h16 : k2_cond16 i k2_t2 arg10_r0 = 1#1), ∀ a, (k2_off30 i arg10_r0) a + S128x128.size a ≤ S32000x128.size a) ∧
  (∀ (k2_h1 : k2_cond1 i = 1#1), ∀ (k2_h16 : k2_cond16 i k2_t2 arg10_r0 = 1#1), ∀ a, (k2_off31 arg9_r0) a + S1.size a ≤ S2.size a)
theorem k2_off18_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off18 arg6_r0) a + S1x1x128.size a ≤ S2x1x128.size a := fun i k2_t2 arg6_r0 arg7_r0 arg8_r0 arg9_r0 arg10_r0 k2_hw4 k2_h1 k2_h10 => k2_hw4.1 k2_h1 k2_h10
theorem k2_off19_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off19 i arg10_r0) a + S1x128.size a ≤ S1x32000.size a := fun i k2_t2 arg6_r0 arg7_r0 arg8_r0 arg9_r0 arg10_r0 k2_hw4 k2_h1 k2_h10 => k2_hw4.2.1 k2_h1 k2_h10
theorem k2_off20_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off20 arg6_r0) a + S1.size a ≤ S2.size a := fun i k2_t2 arg6_r0 arg7_r0 arg8_r0 arg9_r0 arg10_r0 k2_hw4 k2_h1 k2_h10 => k2_hw4.2.2.1 k2_h1 k2_h10
theorem k2_off21_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off21 arg7_r0) a + S1x1x128.size a ≤ S2x1x128.size a := fun i k2_t2 arg6_r0 arg7_r0 arg8_r0 arg9_r0 arg10_r0 k2_hw4 k2_h1 k2_h11 => k2_hw4.2.2.2.1 k2_h1 k2_h11
theorem k2_off22_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off22 i arg10_r0) a + S1x128.size a ≤ S1x32000.size a := fun i k2_t2 arg6_r0 arg7_r0 arg8_r0 arg9_r0 arg10_r0 k2_hw4 k2_h1 k2_h11 => k2_hw4.2.2.2.2.1 k2_h1 k2_h11
theorem k2_off23_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off23 arg7_r0) a + S1.size a ≤ S2.size a := fun i k2_t2 arg6_r0 arg7_r0 arg8_r0 arg9_r0 arg10_r0 k2_hw4 k2_h1 k2_h11 => k2_hw4.2.2.2.2.2.1 k2_h1 k2_h11
theorem k2_off26_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off26 arg8_r0) a + S1x128x128.size a ≤ S2x128x128.size a := fun i k2_t2 arg6_r0 arg7_r0 arg8_r0 arg9_r0 arg10_r0 k2_hw4 k2_h1 k2_h14 => k2_hw4.2.2.2.2.2.2.1 k2_h1 k2_h14
theorem k2_off27_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off27 i arg10_r0) a + S128x128.size a ≤ S32000x128.size a := fun i k2_t2 arg6_r0 arg7_r0 arg8_r0 arg9_r0 arg10_r0 k2_hw4 k2_h1 k2_h14 => k2_hw4.2.2.2.2.2.2.2.1 k2_h1 k2_h14
theorem k2_off28_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off28 arg8_r0) a + S1.size a ≤ S2.size a := fun i k2_t2 arg6_r0 arg7_r0 arg8_r0 arg9_r0 arg10_r0 k2_hw4 k2_h1 k2_h14 => k2_hw4.2.2.2.2.2.2.2.2.1 k2_h1 k2_h14
theorem k2_off29_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off29 arg9_r0) a + S1x128x128.size a ≤ S2x128x128.size a := fun i k2_t2 arg6_r0 arg7_r0 arg8_r0 arg9_r0 arg10_r0 k2_hw4 k2_h1 k2_h16 => k2_hw4.2.2.2.2.2.2.2.2.2.1 k2_h1 k2_h16
theorem k2_off30_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off30 i arg10_r0) a + S128x128.size a ≤ S32000x128.size a := fun i k2_t2 arg6_r0 arg7_r0 arg8_r0 arg9_r0 arg10_r0 k2_hw4 k2_h1 k2_h16 => k2_hw4.2.2.2.2.2.2.2.2.2.2.1 k2_h1 k2_h16
theorem k2_off31_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off31 arg9_r0) a + S1.size a ≤ S2.size a := fun i k2_t2 arg6_r0 arg7_r0 arg8_r0 arg9_r0 arg10_r0 k2_hw4 k2_h1 k2_h16 => k2_hw4.2.2.2.2.2.2.2.2.2.2.2 k2_h1 k2_h16

def k2_cond18 (i : grid2.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k2_off32 (v48_3_r0 : BitVec 32) : Fin 3 → Nat :=
  let c2_i32_r0 : BitVec 32 := 2#32
  let v80_r0 : BitVec 32 := Scalar.remui v48_3_r0 c2_i32_r0
  let c0_i32_57_r0 : BitVec 32 := 0#32
  let c0_i32_58_r0 : BitVec 32 := 0#32
  ![v80_r0.toNat, 0, 0]

def k2_off33 (i : grid2.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_40_r0 : BitVec 32 := 1#32
  let v52_r0 : BitVec 32 := Scalar.subi v5 c1_i32_40_r0
  let v53_r0 : BitVec 32 := Scalar.select v51_r0 v52_r0 v50_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v59_r0 : BitVec 32 := Scalar.addi v53_r0 v10
  let v81_r0 : BitVec 32 := Scalar.muli c128_i32_r0 v59_r0
  let c0_i32_59_r0 : BitVec 32 := 0#32
  ![v81_r0.toNat, 0]

def k2_chk8 (i : grid2.Coords) (v48_4_r0 : BitVec 32) : Prop :=
  (∀ (k2_h1 : k2_cond1 i = 1#1), ∀ (k2_h18 : k2_cond18 i = 1#1), ∀ a, (k2_off33 i v48_4_r0) a + S128x128.size a ≤ S32000x128.size a)
theorem k2_off33_inb : ∀ (i : grid2.Coords) (v48_4_r0 : BitVec 32) (k2_hw8 : k2_chk8 i v48_4_r0), ∀ (k2_h1 : k2_cond1 i = 1#1), ∀ (k2_h18 : k2_cond18 i = 1#1), ∀ a, (k2_off33 i v48_4_r0) a + S128x128.size a ≤ S32000x128.size a := fun i v48_4_r0 k2_hw8 k2_h1 k2_h18 => k2_hw8 k2_h1 k2_h18

def k2_off34 (v48_3_r0 : BitVec 32) : Fin 1 → Nat :=
  let c2_i32_r0 : BitVec 32 := 2#32
  let v80_r0 : BitVec 32 := Scalar.remui v48_3_r0 c2_i32_r0
  ![v80_r0.toNat]
def k2_off35 (v48_3_r0 : BitVec 32) : Fin 3 → Nat :=
  let c2_i32_r0 : BitVec 32 := 2#32
  let v80_r0 : BitVec 32 := Scalar.remui v48_3_r0 c2_i32_r0
  let c0_i32_61_r0 : BitVec 32 := 0#32
  let c0_i32_62_r0 : BitVec 32 := 0#32
  ![v80_r0.toNat, 0, 0]

def k2_chk7 (i : grid2.Coords) (v48_3_r0 : BitVec 32) : Prop :=
  (∀ (k2_h1 : k2_cond1 i = 1#1), ∀ (k2_h18 : k2_cond18 i = 1#1), ∀ a, (k2_off32 v48_3_r0) a + S1x128x128.size a ≤ S2x128x128.size a) ∧
  (∀ (k2_h1 : k2_cond1 i = 1#1), ∀ (k2_h18 : k2_cond18 i = 1#1), ∀ a, (k2_off34 v48_3_r0) a + S1.size a ≤ S2.size a) ∧
  (∀ (k2_h1 : k2_cond1 i = 1#1), ∀ (k2_h18 : k2_cond18 i = 1#1), ∀ a, (k2_off35 v48_3_r0) a + S1x128x128.size a ≤ S2x128x128.size a)
theorem k2_off32_inb : ∀ (i : grid2.Coords) (v48_3_r0 : BitVec 32) (k2_hw7 : k2_chk7 i v48_3_r0), ∀ (k2_h1 : k2_cond1 i = 1#1), ∀ (k2_h18 : k2_cond18 i = 1#1), ∀ a, (k2_off32 v48_3_r0) a + S1x128x128.size a ≤ S2x128x128.size a := fun i v48_3_r0 k2_hw7 k2_h1 k2_h18 => k2_hw7.1 k2_h1 k2_h18
theorem k2_off34_inb : ∀ (i : grid2.Coords) (v48_3_r0 : BitVec 32) (k2_hw7 : k2_chk7 i v48_3_r0), ∀ (k2_h1 : k2_cond1 i = 1#1), ∀ (k2_h18 : k2_cond18 i = 1#1), ∀ a, (k2_off34 v48_3_r0) a + S1.size a ≤ S2.size a := fun i v48_3_r0 k2_hw7 k2_h1 k2_h18 => k2_hw7.2.1 k2_h1 k2_h18
theorem k2_off35_inb : ∀ (i : grid2.Coords) (v48_3_r0 : BitVec 32) (k2_hw7 : k2_chk7 i v48_3_r0), ∀ (k2_h1 : k2_cond1 i = 1#1), ∀ (k2_h18 : k2_cond18 i = 1#1), ∀ a, (k2_off35 v48_3_r0) a + S1x128x128.size a ≤ S2x128x128.size a := fun i v48_3_r0 k2_hw7 k2_h1 k2_h18 => k2_hw7.2.2 k2_h1 k2_h18

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S3200x128 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S200x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S256x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 2 → Memref sig .tc .vmem S200x128 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev grid4 : Pipeline.Grid := ⟨2, ![2, 16], ![false, false]⟩

def k4_cond1 (i : grid4.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k4_cond2 (i : grid4.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k4_off1 : Fin 3 → Nat :=
  let c0_i32_24_r0 : BitVec 32 := 0#32
  let c2_i32_r0 : BitVec 32 := 2#32
  let v80_r0 : BitVec 32 := Scalar.remui c0_i32_24_r0 c2_i32_r0
  let c0_i32_57_r0 : BitVec 32 := 0#32
  let c0_i32_58_r0 : BitVec 32 := 0#32
  ![v80_r0.toNat, 0, 0]
def k4_off2 (i : grid4.Coords) : Fin 2 → Nat :=
  let c0_i32_59_r0 : BitVec 32 := 0#32
  let c128_i32_r0 : BitVec 32 := 128#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v20_r0 : BitVec 32 := Scalar.addi c0_i32_10_r0 v10
  let v81_r0 : BitVec 32 := Scalar.muli c128_i32_r0 v20_r0
  ![0, v81_r0.toNat]
def k4_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k4_t1_loop (i : grid4.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k4_off4 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k4_cond3 (i : grid4.Coords) (k4_t1 : Fin (k4_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k4_t1
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k4_off5 (i : grid4.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v93_r0 : BitVec 1 := Scalar.cmpi .eq v92_r0 v5
  let c0_i32_66_r0 : BitVec 32 := 0#32
  let v94_r0 : BitVec 32 := Scalar.select v93_r0 c0_i32_66_r0 v92_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k4_off6 (arg6_r0 : BitVec 32) : Fin 1 → Nat :=
  let c2_i32_101_r0 : BitVec 32 := 2#32
  let v167_r0 : BitVec 32 := Scalar.remui arg6_r0 c2_i32_101_r0
  ![v167_r0.toNat]
def k4_off7 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k4_cond4 (i : grid4.Coords) (k4_t1 : Fin (k4_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k4_t1
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k4_off8 (i : grid4.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k4_off9 (arg7_r0 : BitVec 32) : Fin 1 → Nat :=
  let c2_i32_101_r0 : BitVec 32 := 2#32
  let v168_r0 : BitVec 32 := Scalar.remui arg7_r0 c2_i32_101_r0
  ![v168_r0.toNat]
def k4_off10 (arg8_r0 : BitVec 32) : Fin 3 → Nat :=
  let c2_i32_84_r0 : BitVec 32 := 2#32
  let v132_r0 : BitVec 32 := Scalar.remui arg8_r0 c2_i32_84_r0
  let c0_i32_101_r1 : BitVec 32 := 0#32
  let c0_i32_102_r1 : BitVec 32 := 0#32
  ![v132_r0.toNat, 0, 0]

def k4_chk2 (i : grid4.Coords) (arg8_r0 : BitVec 32) : Prop :=
  (∀ (k4_h1 : k4_cond1 i = 1#1), ∀ a, (k4_off10 arg8_r0) a + S1x128x128.size a ≤ S2x128x128.size a)
theorem k4_off10_inb : ∀ (i : grid4.Coords) (arg8_r0 : BitVec 32) (k4_hw2 : k4_chk2 i arg8_r0), ∀ (k4_h1 : k4_cond1 i = 1#1), ∀ a, (k4_off10 arg8_r0) a + S1x128x128.size a ≤ S2x128x128.size a := fun i arg8_r0 k4_hw2 k4_h1 => k4_hw2 k4_h1

def k4_off11 (arg7_r0 : BitVec 32) : Fin 3 → Nat :=
  let c2_i32_83_r0 : BitVec 32 := 2#32
  let v131_r0 : BitVec 32 := Scalar.remui arg7_r0 c2_i32_83_r0
  let c0_i32_103_r1 : BitVec 32 := 0#32
  let c0_i32_104_r1 : BitVec 32 := 0#32
  ![v131_r0.toNat, 0, 0]

def k4_chk3 (i : grid4.Coords) (arg7_r0 : BitVec 32) : Prop :=
  (∀ (k4_h1 : k4_cond1 i = 1#1), ∀ a, (k4_off11 arg7_r0) a + S1x1x128.size a ≤ S2x1x128.size a)
theorem k4_off11_inb : ∀ (i : grid4.Coords) (arg7_r0 : BitVec 32) (k4_hw3 : k4_chk3 i arg7_r0), ∀ (k4_h1 : k4_cond1 i = 1#1), ∀ a, (k4_off11 arg7_r0) a + S1x1x128.size a ≤ S2x1x128.size a := fun i arg7_r0 k4_hw3 k4_h1 => k4_hw3 k4_h1

def k4_off12 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k4_cond7 (i : grid4.Coords) (k4_t1 : Fin (k4_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k4_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k4_off13 (i : grid4.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k4_off14 (arg8_r0 : BitVec 32) : Fin 1 → Nat :=
  let c2_i32_101_r0 : BitVec 32 := 2#32
  let v167_r0 : BitVec 32 := Scalar.remui arg8_r0 c2_i32_101_r0
  ![v167_r0.toNat]
def k4_off15 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k4_cond9 (i : grid4.Coords) (k4_t1 : Fin (k4_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k4_t1
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k4_off16 (i : grid4.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_63_r0 : BitVec 32 := 1#32
  let v88_r0 : BitVec 32 := Scalar.subi v5 c1_i32_63_r0
  let v89_r0 : BitVec 32 := Scalar.select v87_r0 v88_r0 v86_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k4_off17 (arg9_r0 : BitVec 32) : Fin 1 → Nat :=
  let c2_i32_101_r0 : BitVec 32 := 2#32
  let v167_r0 : BitVec 32 := Scalar.remui arg9_r0 c2_i32_101_r0
  ![v167_r0.toNat]

def k4_chk1 (i : grid4.Coords) (k4_t1 : Fin (k4_t1_loop i).trips) (arg6_r0 : BitVec 32) (arg7_r0 : BitVec 32) (arg8_r0 : BitVec 32) (arg9_r0 : BitVec 32) (arg10_r0 : BitVec 32) : Prop :=
  (∀ (k4_h1 : k4_cond1 i = 1#1), ∀ (k4_h3 : k4_cond3 i k4_t1 arg10_r0 = 1#1), ∀ a, (k4_off4 arg6_r0) a + S1x1x128.size a ≤ S2x1x128.size a) ∧
  (∀ (k4_h1 : k4_cond1 i = 1#1), ∀ (k4_h3 : k4_cond3 i k4_t1 arg10_r0 = 1#1), ∀ a, (k4_off5 i arg10_r0) a + S1x128.size a ≤ S1x32000.size a) ∧
  (∀ (k4_h1 : k4_cond1 i = 1#1), ∀ (k4_h3 : k4_cond3 i k4_t1 arg10_r0 = 1#1), ∀ a, (k4_off6 arg6_r0) a + S1.size a ≤ S2.size a) ∧
  (∀ (k4_h1 : k4_cond1 i = 1#1), ∀ (k4_h4 : k4_cond4 i k4_t1 arg10_r0 = 1#1), ∀ a, (k4_off7 arg7_r0) a + S1x1x128.size a ≤ S2x1x128.size a) ∧
  (∀ (k4_h1 : k4_cond1 i = 1#1), ∀ (k4_h4 : k4_cond4 i k4_t1 arg10_r0 = 1#1), ∀ a, (k4_off8 i arg10_r0) a + S1x128.size a ≤ S1x32000.size a) ∧
  (∀ (k4_h1 : k4_cond1 i = 1#1), ∀ (k4_h4 : k4_cond4 i k4_t1 arg10_r0 = 1#1), ∀ a, (k4_off9 arg7_r0) a + S1.size a ≤ S2.size a) ∧
  (∀ (k4_h1 : k4_cond1 i = 1#1), ∀ (k4_h7 : k4_cond7 i k4_t1 arg10_r0 = 1#1), ∀ a, (k4_off12 arg8_r0) a + S1x128x128.size a ≤ S2x128x128.size a) ∧
  (∀ (k4_h1 : k4_cond1 i = 1#1), ∀ (k4_h7 : k4_cond7 i k4_t1 arg10_r0 = 1#1), ∀ a, (k4_off13 i arg10_r0) a + S128x128.size a ≤ S32000x128.size a) ∧
  (∀ (k4_h1 : k4_cond1 i = 1#1), ∀ (k4_h7 : k4_cond7 i k4_t1 arg10_r0 = 1#1), ∀ a, (k4_off14 arg8_r0) a + S1.size a ≤ S2.size a) ∧
  (∀ (k4_h1 : k4_cond1 i = 1#1), ∀ (k4_h9 : k4_cond9 i k4_t1 arg10_r0 = 1#1), ∀ a, (k4_off15 arg9_r0) a + S1x128x128.size a ≤ S2x128x128.size a) ∧
  (∀ (k4_h1 : k4_cond1 i = 1#1), ∀ (k4_h9 : k4_cond9 i k4_t1 arg10_r0 = 1#1), ∀ a, (k4_off16 i arg10_r0) a + S128x128.size a ≤ S32000x128.size a) ∧
  (∀ (k4_h1 : k4_cond1 i = 1#1), ∀ (k4_h9 : k4_cond9 i k4_t1 arg10_r0 = 1#1), ∀ a, (k4_off17 arg9_r0) a + S1.size a ≤ S2.size a)
theorem k4_off4_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h3 : k4_cond3 i k4_t1 arg10_r0 = 1#1), ∀ a, (k4_off4 arg6_r0) a + S1x1x128.size a ≤ S2x1x128.size a := fun i k4_t1 arg6_r0 arg7_r0 arg8_r0 arg9_r0 arg10_r0 k4_hw1 k4_h1 k4_h3 => k4_hw1.1 k4_h1 k4_h3
theorem k4_off5_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h3 : k4_cond3 i k4_t1 arg10_r0 = 1#1), ∀ a, (k4_off5 i arg10_r0) a + S1x128.size a ≤ S1x32000.size a := fun i k4_t1 arg6_r0 arg7_r0 arg8_r0 arg9_r0 arg10_r0 k4_hw1 k4_h1 k4_h3 => k4_hw1.2.1 k4_h1 k4_h3
theorem k4_off6_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h3 : k4_cond3 i k4_t1 arg10_r0 = 1#1), ∀ a, (k4_off6 arg6_r0) a + S1.size a ≤ S2.size a := fun i k4_t1 arg6_r0 arg7_r0 arg8_r0 arg9_r0 arg10_r0 k4_hw1 k4_h1 k4_h3 => k4_hw1.2.2.1 k4_h1 k4_h3
theorem k4_off7_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h4 : k4_cond4 i k4_t1 arg10_r0 = 1#1), ∀ a, (k4_off7 arg7_r0) a + S1x1x128.size a ≤ S2x1x128.size a := fun i k4_t1 arg6_r0 arg7_r0 arg8_r0 arg9_r0 arg10_r0 k4_hw1 k4_h1 k4_h4 => k4_hw1.2.2.2.1 k4_h1 k4_h4
theorem k4_off8_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h4 : k4_cond4 i k4_t1 arg10_r0 = 1#1), ∀ a, (k4_off8 i arg10_r0) a + S1x128.size a ≤ S1x32000.size a := fun i k4_t1 arg6_r0 arg7_r0 arg8_r0 arg9_r0 arg10_r0 k4_hw1 k4_h1 k4_h4 => k4_hw1.2.2.2.2.1 k4_h1 k4_h4
theorem k4_off9_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h4 : k4_cond4 i k4_t1 arg10_r0 = 1#1), ∀ a, (k4_off9 arg7_r0) a + S1.size a ≤ S2.size a := fun i k4_t1 arg6_r0 arg7_r0 arg8_r0 arg9_r0 arg10_r0 k4_hw1 k4_h1 k4_h4 => k4_hw1.2.2.2.2.2.1 k4_h1 k4_h4
theorem k4_off12_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h7 : k4_cond7 i k4_t1 arg10_r0 = 1#1), ∀ a, (k4_off12 arg8_r0) a + S1x128x128.size a ≤ S2x128x128.size a := fun i k4_t1 arg6_r0 arg7_r0 arg8_r0 arg9_r0 arg10_r0 k4_hw1 k4_h1 k4_h7 => k4_hw1.2.2.2.2.2.2.1 k4_h1 k4_h7
theorem k4_off13_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h7 : k4_cond7 i k4_t1 arg10_r0 = 1#1), ∀ a, (k4_off13 i arg10_r0) a + S128x128.size a ≤ S32000x128.size a := fun i k4_t1 arg6_r0 arg7_r0 arg8_r0 arg9_r0 arg10_r0 k4_hw1 k4_h1 k4_h7 => k4_hw1.2.2.2.2.2.2.2.1 k4_h1 k4_h7
theorem k4_off14_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h7 : k4_cond7 i k4_t1 arg10_r0 = 1#1), ∀ a, (k4_off14 arg8_r0) a + S1.size a ≤ S2.size a := fun i k4_t1 arg6_r0 arg7_r0 arg8_r0 arg9_r0 arg10_r0 k4_hw1 k4_h1 k4_h7 => k4_hw1.2.2.2.2.2.2.2.2.1 k4_h1 k4_h7
theorem k4_off15_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h9 : k4_cond9 i k4_t1 arg10_r0 = 1#1), ∀ a, (k4_off15 arg9_r0) a + S1x128x128.size a ≤ S2x128x128.size a := fun i k4_t1 arg6_r0 arg7_r0 arg8_r0 arg9_r0 arg10_r0 k4_hw1 k4_h1 k4_h9 => k4_hw1.2.2.2.2.2.2.2.2.2.1 k4_h1 k4_h9
theorem k4_off16_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h9 : k4_cond9 i k4_t1 arg10_r0 = 1#1), ∀ a, (k4_off16 i arg10_r0) a + S128x128.size a ≤ S32000x128.size a := fun i k4_t1 arg6_r0 arg7_r0 arg8_r0 arg9_r0 arg10_r0 k4_hw1 k4_h1 k4_h9 => k4_hw1.2.2.2.2.2.2.2.2.2.2.1 k4_h1 k4_h9
theorem k4_off17_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h9 : k4_cond9 i k4_t1 arg10_r0 = 1#1), ∀ a, (k4_off17 arg9_r0) a + S1.size a ≤ S2.size a := fun i k4_t1 arg6_r0 arg7_r0 arg8_r0 arg9_r0 arg10_r0 k4_hw1 k4_h1 k4_h9 => k4_hw1.2.2.2.2.2.2.2.2.2.2.2 k4_h1 k4_h9

@[reducible] def k4_t2_loop (i : grid4.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k4_off18 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k4_cond10 (i : grid4.Coords) (k4_t2 : Fin (k4_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k4_t2
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k4_off19 (i : grid4.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v93_r0 : BitVec 1 := Scalar.cmpi .eq v92_r0 v5
  let c0_i32_66_r0 : BitVec 32 := 0#32
  let v94_r0 : BitVec 32 := Scalar.select v93_r0 c0_i32_66_r0 v92_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k4_off20 (arg6_r0 : BitVec 32) : Fin 1 → Nat :=
  let c2_i32_101_r0 : BitVec 32 := 2#32
  let v167_r0 : BitVec 32 := Scalar.remui arg6_r0 c2_i32_101_r0
  ![v167_r0.toNat]
def k4_off21 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k4_cond11 (i : grid4.Coords) (k4_t2 : Fin (k4_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k4_t2
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k4_off22 (i : grid4.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k4_off23 (arg7_r0 : BitVec 32) : Fin 1 → Nat :=
  let c2_i32_101_r0 : BitVec 32 := 2#32
  let v168_r0 : BitVec 32 := Scalar.remui arg7_r0 c2_i32_101_r0
  ![v168_r0.toNat]
def k4_off24 (arg8_r0 : BitVec 32) : Fin 3 → Nat :=
  let c2_i32_84_r0 : BitVec 32 := 2#32
  let v132_r0 : BitVec 32 := Scalar.remui arg8_r0 c2_i32_84_r0
  let c0_i32_101_r2 : BitVec 32 := 0#32
  let c0_i32_102_r2 : BitVec 32 := 0#32
  ![v132_r0.toNat, 0, 0]

def k4_chk5 (i : grid4.Coords) (k4_t2 : Fin (k4_t2_loop i).trips) (arg8_r0 : BitVec 32) : Prop :=
  (∀ (k4_h1 : k4_cond1 i = 1#1), ∀ a, (k4_off24 arg8_r0) a + S1x128x128.size a ≤ S2x128x128.size a)
theorem k4_off24_inb : ∀ (i : grid4.Coords) (k4_t2 : Fin (k4_t2_loop i).trips) (arg8_r0 : BitVec 32) (k4_hw5 : k4_chk5 i k4_t2 arg8_r0), ∀ (k4_h1 : k4_cond1 i = 1#1), ∀ a, (k4_off24 arg8_r0) a + S1x128x128.size a ≤ S2x128x128.size a := fun i k4_t2 arg8_r0 k4_hw5 k4_h1 => k4_hw5 k4_h1

def k4_off25 (arg7_r0 : BitVec 32) : Fin 3 → Nat :=
  let c2_i32_83_r0 : BitVec 32 := 2#32
  let v131_r0 : BitVec 32 := Scalar.remui arg7_r0 c2_i32_83_r0
  let c0_i32_103_r2 : BitVec 32 := 0#32
  let c0_i32_104_r2 : BitVec 32 := 0#32
  ![v131_r0.toNat, 0, 0]

def k4_chk6 (i : grid4.Coords) (k4_t2 : Fin (k4_t2_loop i).trips) (arg7_r0 : BitVec 32) : Prop :=
  (∀ (k4_h1 : k4_cond1 i = 1#1), ∀ a, (k4_off25 arg7_r0) a + S1x1x128.size a ≤ S2x1x128.size a)
theorem k4_off25_inb : ∀ (i : grid4.Coords) (k4_t2 : Fin (k4_t2_loop i).trips) (arg7_r0 : BitVec 32) (k4_hw6 : k4_chk6 i k4_t2 arg7_r0), ∀ (k4_h1 : k4_cond1 i = 1#1), ∀ a, (k4_off25 arg7_r0) a + S1x1x128.size a ≤ S2x1x128.size a := fun i k4_t2 arg7_r0 k4_hw6 k4_h1 => k4_hw6 k4_h1

def k4_off26 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k4_cond14 (i : grid4.Coords) (k4_t2 : Fin (k4_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k4_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k4_off27 (i : grid4.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k4_off28 (arg8_r0 : BitVec 32) : Fin 1 → Nat :=
  let c2_i32_101_r0 : BitVec 32 := 2#32
  let v167_r0 : BitVec 32 := Scalar.remui arg8_r0 c2_i32_101_r0
  ![v167_r0.toNat]
def k4_off29 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k4_cond16 (i : grid4.Coords) (k4_t2 : Fin (k4_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k4_t2
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k4_off30 (i : grid4.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_63_r0 : BitVec 32 := 1#32
  let v88_r0 : BitVec 32 := Scalar.subi v5 c1_i32_63_r0
  let v89_r0 : BitVec 32 := Scalar.select v87_r0 v88_r0 v86_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k4_off31 (arg9_r0 : BitVec 32) : Fin 1 → Nat :=
  let c2_i32_101_r0 : BitVec 32 := 2#32
  let v167_r0 : BitVec 32 := Scalar.remui arg9_r0 c2_i32_101_r0
  ![v167_r0.toNat]

def k4_chk4 (i : grid4.Coords) (k4_t2 : Fin (k4_t2_loop i).trips) (arg6_r0 : BitVec 32) (arg7_r0 : BitVec 32) (arg8_r0 : BitVec 32) (arg9_r0 : BitVec 32) (arg10_r0 : BitVec 32) : Prop :=
  (∀ (k4_h1 : k4_cond1 i = 1#1), ∀ (k4_h10 : k4_cond10 i k4_t2 arg10_r0 = 1#1), ∀ a, (k4_off18 arg6_r0) a + S1x1x128.size a ≤ S2x1x128.size a) ∧
  (∀ (k4_h1 : k4_cond1 i = 1#1), ∀ (k4_h10 : k4_cond10 i k4_t2 arg10_r0 = 1#1), ∀ a, (k4_off19 i arg10_r0) a + S1x128.size a ≤ S1x32000.size a) ∧
  (∀ (k4_h1 : k4_cond1 i = 1#1), ∀ (k4_h10 : k4_cond10 i k4_t2 arg10_r0 = 1#1), ∀ a, (k4_off20 arg6_r0) a + S1.size a ≤ S2.size a) ∧
  (∀ (k4_h1 : k4_cond1 i = 1#1), ∀ (k4_h11 : k4_cond11 i k4_t2 arg10_r0 = 1#1), ∀ a, (k4_off21 arg7_r0) a + S1x1x128.size a ≤ S2x1x128.size a) ∧
  (∀ (k4_h1 : k4_cond1 i = 1#1), ∀ (k4_h11 : k4_cond11 i k4_t2 arg10_r0 = 1#1), ∀ a, (k4_off22 i arg10_r0) a + S1x128.size a ≤ S1x32000.size a) ∧
  (∀ (k4_h1 : k4_cond1 i = 1#1), ∀ (k4_h11 : k4_cond11 i k4_t2 arg10_r0 = 1#1), ∀ a, (k4_off23 arg7_r0) a + S1.size a ≤ S2.size a) ∧
  (∀ (k4_h1 : k4_cond1 i = 1#1), ∀ (k4_h14 : k4_cond14 i k4_t2 arg10_r0 = 1#1), ∀ a, (k4_off26 arg8_r0) a + S1x128x128.size a ≤ S2x128x128.size a) ∧
  (∀ (k4_h1 : k4_cond1 i = 1#1), ∀ (k4_h14 : k4_cond14 i k4_t2 arg10_r0 = 1#1), ∀ a, (k4_off27 i arg10_r0) a + S128x128.size a ≤ S32000x128.size a) ∧
  (∀ (k4_h1 : k4_cond1 i = 1#1), ∀ (k4_h14 : k4_cond14 i k4_t2 arg10_r0 = 1#1), ∀ a, (k4_off28 arg8_r0) a + S1.size a ≤ S2.size a) ∧
  (∀ (k4_h1 : k4_cond1 i = 1#1), ∀ (k4_h16 : k4_cond16 i k4_t2 arg10_r0 = 1#1), ∀ a, (k4_off29 arg9_r0) a + S1x128x128.size a ≤ S2x128x128.size a) ∧
  (∀ (k4_h1 : k4_cond1 i = 1#1), ∀ (k4_h16 : k4_cond16 i k4_t2 arg10_r0 = 1#1), ∀ a, (k4_off30 i arg10_r0) a + S128x128.size a ≤ S32000x128.size a) ∧
  (∀ (k4_h1 : k4_cond1 i = 1#1), ∀ (k4_h16 : k4_cond16 i k4_t2 arg10_r0 = 1#1), ∀ a, (k4_off31 arg9_r0) a + S1.size a ≤ S2.size a)
theorem k4_off18_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h10 : k4_cond10 i k4_t2 arg10_r0 = 1#1), ∀ a, (k4_off18 arg6_r0) a + S1x1x128.size a ≤ S2x1x128.size a := fun i k4_t2 arg6_r0 arg7_r0 arg8_r0 arg9_r0 arg10_r0 k4_hw4 k4_h1 k4_h10 => k4_hw4.1 k4_h1 k4_h10
theorem k4_off19_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h10 : k4_cond10 i k4_t2 arg10_r0 = 1#1), ∀ a, (k4_off19 i arg10_r0) a + S1x128.size a ≤ S1x32000.size a := fun i k4_t2 arg6_r0 arg7_r0 arg8_r0 arg9_r0 arg10_r0 k4_hw4 k4_h1 k4_h10 => k4_hw4.2.1 k4_h1 k4_h10
theorem k4_off20_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h10 : k4_cond10 i k4_t2 arg10_r0 = 1#1), ∀ a, (k4_off20 arg6_r0) a + S1.size a ≤ S2.size a := fun i k4_t2 arg6_r0 arg7_r0 arg8_r0 arg9_r0 arg10_r0 k4_hw4 k4_h1 k4_h10 => k4_hw4.2.2.1 k4_h1 k4_h10
theorem k4_off21_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h11 : k4_cond11 i k4_t2 arg10_r0 = 1#1), ∀ a, (k4_off21 arg7_r0) a + S1x1x128.size a ≤ S2x1x128.size a := fun i k4_t2 arg6_r0 arg7_r0 arg8_r0 arg9_r0 arg10_r0 k4_hw4 k4_h1 k4_h11 => k4_hw4.2.2.2.1 k4_h1 k4_h11
theorem k4_off22_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h11 : k4_cond11 i k4_t2 arg10_r0 = 1#1), ∀ a, (k4_off22 i arg10_r0) a + S1x128.size a ≤ S1x32000.size a := fun i k4_t2 arg6_r0 arg7_r0 arg8_r0 arg9_r0 arg10_r0 k4_hw4 k4_h1 k4_h11 => k4_hw4.2.2.2.2.1 k4_h1 k4_h11
theorem k4_off23_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h11 : k4_cond11 i k4_t2 arg10_r0 = 1#1), ∀ a, (k4_off23 arg7_r0) a + S1.size a ≤ S2.size a := fun i k4_t2 arg6_r0 arg7_r0 arg8_r0 arg9_r0 arg10_r0 k4_hw4 k4_h1 k4_h11 => k4_hw4.2.2.2.2.2.1 k4_h1 k4_h11
theorem k4_off26_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h14 : k4_cond14 i k4_t2 arg10_r0 = 1#1), ∀ a, (k4_off26 arg8_r0) a + S1x128x128.size a ≤ S2x128x128.size a := fun i k4_t2 arg6_r0 arg7_r0 arg8_r0 arg9_r0 arg10_r0 k4_hw4 k4_h1 k4_h14 => k4_hw4.2.2.2.2.2.2.1 k4_h1 k4_h14
theorem k4_off27_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h14 : k4_cond14 i k4_t2 arg10_r0 = 1#1), ∀ a, (k4_off27 i arg10_r0) a + S128x128.size a ≤ S32000x128.size a := fun i k4_t2 arg6_r0 arg7_r0 arg8_r0 arg9_r0 arg10_r0 k4_hw4 k4_h1 k4_h14 => k4_hw4.2.2.2.2.2.2.2.1 k4_h1 k4_h14
theorem k4_off28_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h14 : k4_cond14 i k4_t2 arg10_r0 = 1#1), ∀ a, (k4_off28 arg8_r0) a + S1.size a ≤ S2.size a := fun i k4_t2 arg6_r0 arg7_r0 arg8_r0 arg9_r0 arg10_r0 k4_hw4 k4_h1 k4_h14 => k4_hw4.2.2.2.2.2.2.2.2.1 k4_h1 k4_h14
theorem k4_off29_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h16 : k4_cond16 i k4_t2 arg10_r0 = 1#1), ∀ a, (k4_off29 arg9_r0) a + S1x128x128.size a ≤ S2x128x128.size a := fun i k4_t2 arg6_r0 arg7_r0 arg8_r0 arg9_r0 arg10_r0 k4_hw4 k4_h1 k4_h16 => k4_hw4.2.2.2.2.2.2.2.2.2.1 k4_h1 k4_h16
theorem k4_off30_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h16 : k4_cond16 i k4_t2 arg10_r0 = 1#1), ∀ a, (k4_off30 i arg10_r0) a + S128x128.size a ≤ S32000x128.size a := fun i k4_t2 arg6_r0 arg7_r0 arg8_r0 arg9_r0 arg10_r0 k4_hw4 k4_h1 k4_h16 => k4_hw4.2.2.2.2.2.2.2.2.2.2.1 k4_h1 k4_h16
theorem k4_off31_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h16 : k4_cond16 i k4_t2 arg10_r0 = 1#1), ∀ a, (k4_off31 arg9_r0) a + S1.size a ≤ S2.size a := fun i k4_t2 arg6_r0 arg7_r0 arg8_r0 arg9_r0 arg10_r0 k4_hw4 k4_h1 k4_h16 => k4_hw4.2.2.2.2.2.2.2.2.2.2.2 k4_h1 k4_h16

def k4_cond18 (i : grid4.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k4_off32 (v48_3_r0 : BitVec 32) : Fin 3 → Nat :=
  let c2_i32_r0 : BitVec 32 := 2#32
  let v80_r0 : BitVec 32 := Scalar.remui v48_3_r0 c2_i32_r0
  let c0_i32_57_r0 : BitVec 32 := 0#32
  let c0_i32_58_r0 : BitVec 32 := 0#32
  ![v80_r0.toNat, 0, 0]

def k4_off33 (i : grid4.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_40_r0 : BitVec 32 := 1#32
  let v52_r0 : BitVec 32 := Scalar.subi v5 c1_i32_40_r0
  let v53_r0 : BitVec 32 := Scalar.select v51_r0 v52_r0 v50_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v59_r0 : BitVec 32 := Scalar.addi v53_r0 v10
  let v81_r0 : BitVec 32 := Scalar.muli c128_i32_r0 v59_r0
  let c0_i32_59_r0 : BitVec 32 := 0#32
  ![v81_r0.toNat, 0]

def k4_chk8 (i : grid4.Coords) (v48_4_r0 : BitVec 32) : Prop :=
  (∀ (k4_h1 : k4_cond1 i = 1#1), ∀ (k4_h18 : k4_cond18 i = 1#1), ∀ a, (k4_off33 i v48_4_r0) a + S128x128.size a ≤ S32000x128.size a)
theorem k4_off33_inb : ∀ (i : grid4.Coords) (v48_4_r0 : BitVec 32) (k4_hw8 : k4_chk8 i v48_4_r0), ∀ (k4_h1 : k4_cond1 i = 1#1), ∀ (k4_h18 : k4_cond18 i = 1#1), ∀ a, (k4_off33 i v48_4_r0) a + S128x128.size a ≤ S32000x128.size a := fun i v48_4_r0 k4_hw8 k4_h1 k4_h18 => k4_hw8 k4_h1 k4_h18

def k4_off34 (v48_3_r0 : BitVec 32) : Fin 1 → Nat :=
  let c2_i32_r0 : BitVec 32 := 2#32
  let v80_r0 : BitVec 32 := Scalar.remui v48_3_r0 c2_i32_r0
  ![v80_r0.toNat]
def k4_off35 (v48_3_r0 : BitVec 32) : Fin 3 → Nat :=
  let c2_i32_r0 : BitVec 32 := 2#32
  let v80_r0 : BitVec 32 := Scalar.remui v48_3_r0 c2_i32_r0
  let c0_i32_61_r0 : BitVec 32 := 0#32
  let c0_i32_62_r0 : BitVec 32 := 0#32
  ![v80_r0.toNat, 0, 0]

def k4_chk7 (i : grid4.Coords) (v48_3_r0 : BitVec 32) : Prop :=
  (∀ (k4_h1 : k4_cond1 i = 1#1), ∀ (k4_h18 : k4_cond18 i = 1#1), ∀ a, (k4_off32 v48_3_r0) a + S1x128x128.size a ≤ S2x128x128.size a) ∧
  (∀ (k4_h1 : k4_cond1 i = 1#1), ∀ (k4_h18 : k4_cond18 i = 1#1), ∀ a, (k4_off34 v48_3_r0) a + S1.size a ≤ S2.size a) ∧
  (∀ (k4_h1 : k4_cond1 i = 1#1), ∀ (k4_h18 : k4_cond18 i = 1#1), ∀ a, (k4_off35 v48_3_r0) a + S1x128x128.size a ≤ S2x128x128.size a)
theorem k4_off32_inb : ∀ (i : grid4.Coords) (v48_3_r0 : BitVec 32) (k4_hw7 : k4_chk7 i v48_3_r0), ∀ (k4_h1 : k4_cond1 i = 1#1), ∀ (k4_h18 : k4_cond18 i = 1#1), ∀ a, (k4_off32 v48_3_r0) a + S1x128x128.size a ≤ S2x128x128.size a := fun i v48_3_r0 k4_hw7 k4_h1 k4_h18 => k4_hw7.1 k4_h1 k4_h18
theorem k4_off34_inb : ∀ (i : grid4.Coords) (v48_3_r0 : BitVec 32) (k4_hw7 : k4_chk7 i v48_3_r0), ∀ (k4_h1 : k4_cond1 i = 1#1), ∀ (k4_h18 : k4_cond18 i = 1#1), ∀ a, (k4_off34 v48_3_r0) a + S1.size a ≤ S2.size a := fun i v48_3_r0 k4_hw7 k4_h1 k4_h18 => k4_hw7.2.1 k4_h1 k4_h18
theorem k4_off35_inb : ∀ (i : grid4.Coords) (v48_3_r0 : BitVec 32) (k4_hw7 : k4_chk7 i v48_3_r0), ∀ (k4_h1 : k4_cond1 i = 1#1), ∀ (k4_h18 : k4_cond18 i = 1#1), ∀ a, (k4_off35 v48_3_r0) a + S1x128x128.size a ≤ S2x128x128.size a := fun i v48_3_r0 k4_hw7 k4_h1 k4_h18 => k4_hw7.2.2 k4_h1 k4_h18

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_14 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S200x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S3200x128 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S200x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x8 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S8x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S128x256 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S1x256 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S256x128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S1x128 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 1 → Memref sig .tc .vmem S1x128 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false]

abbrev stage5_13 : Fin 1 → Memref sig .tc .vmem S1x128 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false]

abbrev stage5_14 : Fin 2 → Memref sig .tc .vmem S200x128 .f32 := fun | 0 => Memref.whole cc5_stg14_0 | 1 => Memref.whole cc5_stg14_1 | ⟨_ + 2, h⟩ => absurd h (Nat.not_lt.2 (Nat.le_add_left _ _))
abbrev sem5_14 : Fin 2 → DmaSem sig := fun | 0 => cc5_sem14_0 | 1 => cc5_sem14_1 | ⟨_ + 2, h⟩ => absurd h (Nat.not_lt.2 (Nat.le_add_left _ _))
abbrev reads5_14 : Fin grid5.rank → Bool := ![true]

abbrev grid6 : Pipeline.Grid := ⟨2, ![2, 16], ![false, false]⟩

def k6_cond1 (i : grid6.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k6_cond2 (i : grid6.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k6_off1 : Fin 3 → Nat :=
  let c0_i32_24_r0 : BitVec 32 := 0#32
  let c2_i32_r0 : BitVec 32 := 2#32
  let v80_r0 : BitVec 32 := Scalar.remui c0_i32_24_r0 c2_i32_r0
  let c0_i32_57_r0 : BitVec 32 := 0#32
  let c0_i32_58_r0 : BitVec 32 := 0#32
  ![v80_r0.toNat, 0, 0]
def k6_off2 (i : grid6.Coords) : Fin 2 → Nat :=
  let c0_i32_59_r0 : BitVec 32 := 0#32
  let c128_i32_r0 : BitVec 32 := 128#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v20_r0 : BitVec 32 := Scalar.addi c0_i32_10_r0 v10
  let v81_r0 : BitVec 32 := Scalar.muli c128_i32_r0 v20_r0
  ![0, v81_r0.toNat]
def k6_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k6_t1_loop (i : grid6.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k6_off4 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k6_cond3 (i : grid6.Coords) (k6_t1 : Fin (k6_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k6_t1
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k6_off5 (i : grid6.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v93_r0 : BitVec 1 := Scalar.cmpi .eq v92_r0 v5
  let c0_i32_66_r0 : BitVec 32 := 0#32
  let v94_r0 : BitVec 32 := Scalar.select v93_r0 c0_i32_66_r0 v92_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k6_off6 (arg6_r0 : BitVec 32) : Fin 1 → Nat :=
  let c2_i32_101_r0 : BitVec 32 := 2#32
  let v167_r0 : BitVec 32 := Scalar.remui arg6_r0 c2_i32_101_r0
  ![v167_r0.toNat]
def k6_off7 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k6_cond4 (i : grid6.Coords) (k6_t1 : Fin (k6_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k6_t1
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k6_off8 (i : grid6.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k6_off9 (arg7_r0 : BitVec 32) : Fin 1 → Nat :=
  let c2_i32_101_r0 : BitVec 32 := 2#32
  let v168_r0 : BitVec 32 := Scalar.remui arg7_r0 c2_i32_101_r0
  ![v168_r0.toNat]
def k6_off10 (arg8_r0 : BitVec 32) : Fin 3 → Nat :=
  let c2_i32_84_r0 : BitVec 32 := 2#32
  let v132_r0 : BitVec 32 := Scalar.remui arg8_r0 c2_i32_84_r0
  let c0_i32_101_r1 : BitVec 32 := 0#32
  let c0_i32_102_r1 : BitVec 32 := 0#32
  ![v132_r0.toNat, 0, 0]

def k6_chk2 (i : grid6.Coords) (arg8_r0 : BitVec 32) : Prop :=
  (∀ (k6_h1 : k6_cond1 i = 1#1), ∀ a, (k6_off10 arg8_r0) a + S1x128x128.size a ≤ S2x128x128.size a)
theorem k6_off10_inb : ∀ (i : grid6.Coords) (arg8_r0 : BitVec 32) (k6_hw2 : k6_chk2 i arg8_r0), ∀ (k6_h1 : k6_cond1 i = 1#1), ∀ a, (k6_off10 arg8_r0) a + S1x128x128.size a ≤ S2x128x128.size a := fun i arg8_r0 k6_hw2 k6_h1 => k6_hw2 k6_h1

def k6_off11 (arg7_r0 : BitVec 32) : Fin 3 → Nat :=
  let c2_i32_83_r0 : BitVec 32 := 2#32
  let v131_r0 : BitVec 32 := Scalar.remui arg7_r0 c2_i32_83_r0
  let c0_i32_103_r1 : BitVec 32 := 0#32
  let c0_i32_104_r1 : BitVec 32 := 0#32
  ![v131_r0.toNat, 0, 0]

def k6_chk3 (i : grid6.Coords) (arg7_r0 : BitVec 32) : Prop :=
  (∀ (k6_h1 : k6_cond1 i = 1#1), ∀ a, (k6_off11 arg7_r0) a + S1x1x128.size a ≤ S2x1x128.size a)
theorem k6_off11_inb : ∀ (i : grid6.Coords) (arg7_r0 : BitVec 32) (k6_hw3 : k6_chk3 i arg7_r0), ∀ (k6_h1 : k6_cond1 i = 1#1), ∀ a, (k6_off11 arg7_r0) a + S1x1x128.size a ≤ S2x1x128.size a := fun i arg7_r0 k6_hw3 k6_h1 => k6_hw3 k6_h1

def k6_off12 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k6_cond7 (i : grid6.Coords) (k6_t1 : Fin (k6_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k6_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k6_off13 (i : grid6.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k6_off14 (arg8_r0 : BitVec 32) : Fin 1 → Nat :=
  let c2_i32_101_r0 : BitVec 32 := 2#32
  let v167_r0 : BitVec 32 := Scalar.remui arg8_r0 c2_i32_101_r0
  ![v167_r0.toNat]
def k6_off15 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k6_cond9 (i : grid6.Coords) (k6_t1 : Fin (k6_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k6_t1
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k6_off16 (i : grid6.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_63_r0 : BitVec 32 := 1#32
  let v88_r0 : BitVec 32 := Scalar.subi v5 c1_i32_63_r0
  let v89_r0 : BitVec 32 := Scalar.select v87_r0 v88_r0 v86_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k6_off17 (arg9_r0 : BitVec 32) : Fin 1 → Nat :=
  let c2_i32_101_r0 : BitVec 32 := 2#32
  let v167_r0 : BitVec 32 := Scalar.remui arg9_r0 c2_i32_101_r0
  ![v167_r0.toNat]

def k6_chk1 (i : grid6.Coords) (k6_t1 : Fin (k6_t1_loop i).trips) (arg6_r0 : BitVec 32) (arg7_r0 : BitVec 32) (arg8_r0 : BitVec 32) (arg9_r0 : BitVec 32) (arg10_r0 : BitVec 32) : Prop :=
  (∀ (k6_h1 : k6_cond1 i = 1#1), ∀ (k6_h3 : k6_cond3 i k6_t1 arg10_r0 = 1#1), ∀ a, (k6_off4 arg6_r0) a + S1x1x128.size a ≤ S2x1x128.size a) ∧
  (∀ (k6_h1 : k6_cond1 i = 1#1), ∀ (k6_h3 : k6_cond3 i k6_t1 arg10_r0 = 1#1), ∀ a, (k6_off5 i arg10_r0) a + S1x128.size a ≤ S1x32000.size a) ∧
  (∀ (k6_h1 : k6_cond1 i = 1#1), ∀ (k6_h3 : k6_cond3 i k6_t1 arg10_r0 = 1#1), ∀ a, (k6_off6 arg6_r0) a + S1.size a ≤ S2.size a) ∧
  (∀ (k6_h1 : k6_cond1 i = 1#1), ∀ (k6_h4 : k6_cond4 i k6_t1 arg10_r0 = 1#1), ∀ a, (k6_off7 arg7_r0) a + S1x1x128.size a ≤ S2x1x128.size a) ∧
  (∀ (k6_h1 : k6_cond1 i = 1#1), ∀ (k6_h4 : k6_cond4 i k6_t1 arg10_r0 = 1#1), ∀ a, (k6_off8 i arg10_r0) a + S1x128.size a ≤ S1x32000.size a) ∧
  (∀ (k6_h1 : k6_cond1 i = 1#1), ∀ (k6_h4 : k6_cond4 i k6_t1 arg10_r0 = 1#1), ∀ a, (k6_off9 arg7_r0) a + S1.size a ≤ S2.size a) ∧
  (∀ (k6_h1 : k6_cond1 i = 1#1), ∀ (k6_h7 : k6_cond7 i k6_t1 arg10_r0 = 1#1), ∀ a, (k6_off12 arg8_r0) a + S1x128x128.size a ≤ S2x128x128.size a) ∧
  (∀ (k6_h1 : k6_cond1 i = 1#1), ∀ (k6_h7 : k6_cond7 i k6_t1 arg10_r0 = 1#1), ∀ a, (k6_off13 i arg10_r0) a + S128x128.size a ≤ S32000x128.size a) ∧
  (∀ (k6_h1 : k6_cond1 i = 1#1), ∀ (k6_h7 : k6_cond7 i k6_t1 arg10_r0 = 1#1), ∀ a, (k6_off14 arg8_r0) a + S1.size a ≤ S2.size a) ∧
  (∀ (k6_h1 : k6_cond1 i = 1#1), ∀ (k6_h9 : k6_cond9 i k6_t1 arg10_r0 = 1#1), ∀ a, (k6_off15 arg9_r0) a + S1x128x128.size a ≤ S2x128x128.size a) ∧
  (∀ (k6_h1 : k6_cond1 i = 1#1), ∀ (k6_h9 : k6_cond9 i k6_t1 arg10_r0 = 1#1), ∀ a, (k6_off16 i arg10_r0) a + S128x128.size a ≤ S32000x128.size a) ∧
  (∀ (k6_h1 : k6_cond1 i = 1#1), ∀ (k6_h9 : k6_cond9 i k6_t1 arg10_r0 = 1#1), ∀ a, (k6_off17 arg9_r0) a + S1.size a ≤ S2.size a)
theorem k6_off4_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h3 : k6_cond3 i k6_t1 arg10_r0 = 1#1), ∀ a, (k6_off4 arg6_r0) a + S1x1x128.size a ≤ S2x1x128.size a := fun i k6_t1 arg6_r0 arg7_r0 arg8_r0 arg9_r0 arg10_r0 k6_hw1 k6_h1 k6_h3 => k6_hw1.1 k6_h1 k6_h3
theorem k6_off5_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h3 : k6_cond3 i k6_t1 arg10_r0 = 1#1), ∀ a, (k6_off5 i arg10_r0) a + S1x128.size a ≤ S1x32000.size a := fun i k6_t1 arg6_r0 arg7_r0 arg8_r0 arg9_r0 arg10_r0 k6_hw1 k6_h1 k6_h3 => k6_hw1.2.1 k6_h1 k6_h3
theorem k6_off6_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h3 : k6_cond3 i k6_t1 arg10_r0 = 1#1), ∀ a, (k6_off6 arg6_r0) a + S1.size a ≤ S2.size a := fun i k6_t1 arg6_r0 arg7_r0 arg8_r0 arg9_r0 arg10_r0 k6_hw1 k6_h1 k6_h3 => k6_hw1.2.2.1 k6_h1 k6_h3
theorem k6_off7_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h4 : k6_cond4 i k6_t1 arg10_r0 = 1#1), ∀ a, (k6_off7 arg7_r0) a + S1x1x128.size a ≤ S2x1x128.size a := fun i k6_t1 arg6_r0 arg7_r0 arg8_r0 arg9_r0 arg10_r0 k6_hw1 k6_h1 k6_h4 => k6_hw1.2.2.2.1 k6_h1 k6_h4
theorem k6_off8_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h4 : k6_cond4 i k6_t1 arg10_r0 = 1#1), ∀ a, (k6_off8 i arg10_r0) a + S1x128.size a ≤ S1x32000.size a := fun i k6_t1 arg6_r0 arg7_r0 arg8_r0 arg9_r0 arg10_r0 k6_hw1 k6_h1 k6_h4 => k6_hw1.2.2.2.2.1 k6_h1 k6_h4
theorem k6_off9_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h4 : k6_cond4 i k6_t1 arg10_r0 = 1#1), ∀ a, (k6_off9 arg7_r0) a + S1.size a ≤ S2.size a := fun i k6_t1 arg6_r0 arg7_r0 arg8_r0 arg9_r0 arg10_r0 k6_hw1 k6_h1 k6_h4 => k6_hw1.2.2.2.2.2.1 k6_h1 k6_h4
theorem k6_off12_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h7 : k6_cond7 i k6_t1 arg10_r0 = 1#1), ∀ a, (k6_off12 arg8_r0) a + S1x128x128.size a ≤ S2x128x128.size a := fun i k6_t1 arg6_r0 arg7_r0 arg8_r0 arg9_r0 arg10_r0 k6_hw1 k6_h1 k6_h7 => k6_hw1.2.2.2.2.2.2.1 k6_h1 k6_h7
theorem k6_off13_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h7 : k6_cond7 i k6_t1 arg10_r0 = 1#1), ∀ a, (k6_off13 i arg10_r0) a + S128x128.size a ≤ S32000x128.size a := fun i k6_t1 arg6_r0 arg7_r0 arg8_r0 arg9_r0 arg10_r0 k6_hw1 k6_h1 k6_h7 => k6_hw1.2.2.2.2.2.2.2.1 k6_h1 k6_h7
theorem k6_off14_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h7 : k6_cond7 i k6_t1 arg10_r0 = 1#1), ∀ a, (k6_off14 arg8_r0) a + S1.size a ≤ S2.size a := fun i k6_t1 arg6_r0 arg7_r0 arg8_r0 arg9_r0 arg10_r0 k6_hw1 k6_h1 k6_h7 => k6_hw1.2.2.2.2.2.2.2.2.1 k6_h1 k6_h7
theorem k6_off15_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h9 : k6_cond9 i k6_t1 arg10_r0 = 1#1), ∀ a, (k6_off15 arg9_r0) a + S1x128x128.size a ≤ S2x128x128.size a := fun i k6_t1 arg6_r0 arg7_r0 arg8_r0 arg9_r0 arg10_r0 k6_hw1 k6_h1 k6_h9 => k6_hw1.2.2.2.2.2.2.2.2.2.1 k6_h1 k6_h9
theorem k6_off16_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h9 : k6_cond9 i k6_t1 arg10_r0 = 1#1), ∀ a, (k6_off16 i arg10_r0) a + S128x128.size a ≤ S32000x128.size a := fun i k6_t1 arg6_r0 arg7_r0 arg8_r0 arg9_r0 arg10_r0 k6_hw1 k6_h1 k6_h9 => k6_hw1.2.2.2.2.2.2.2.2.2.2.1 k6_h1 k6_h9
theorem k6_off17_inb : ∀ (i : grid6.Coords) (k6_t1 : Fin (k6_t1_loop i).trips) (arg6_r0 : BitVec 32) (arg7_r0 : BitVec 32) (arg8_r0 : BitVec 32) (arg9_r0 : BitVec 32) (arg10_r0 : BitVec 32) (k6_hw1 : k6_chk1 i k6_t1 arg6_r0 arg7_r0 arg8_r0 arg9_r0 arg10_r0), ∀ (k6_h1 : k6_cond1 i = 1#1), ∀ (k6_h9 : k6_cond9 i k6_t1 arg10_r0 = 1#1), ∀ a, (k6_off17 arg9_r0) a + S1.size a ≤ S2.size a := fun i k6_t1 arg6_r0 arg7_r0 arg8_r0 arg9_r0 arg10_r0 k6_hw1 k6_h1 k6_h9 => k6_hw1.2.2.2.2.2.2.2.2.2.2.2 k6_h1 k6_h9

@[reducible] def k6_t2_loop (i : grid6.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k6_off18 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k6_cond10 (i : grid6.Coords) (k6_t2 : Fin (k6_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k6_t2
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k6_off19 (i : grid6.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v93_r0 : BitVec 1 := Scalar.cmpi .eq v92_r0 v5
  let c0_i32_66_r0 : BitVec 32 := 0#32
  let v94_r0 : BitVec 32 := Scalar.select v93_r0 c0_i32_66_r0 v92_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k6_off20 (arg6_r0 : BitVec 32) : Fin 1 → Nat :=
  let c2_i32_101_r0 : BitVec 32 := 2#32
  let v167_r0 : BitVec 32 := Scalar.remui arg6_r0 c2_i32_101_r0
  ![v167_r0.toNat]
def k6_off21 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k6_cond11 (i : grid6.Coords) (k6_t2 : Fin (k6_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k6_t2
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k6_off22 (i : grid6.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k6_off23 (arg7_r0 : BitVec 32) : Fin 1 → Nat :=
  let c2_i32_101_r0 : BitVec 32 := 2#32
  let v168_r0 : BitVec 32 := Scalar.remui arg7_r0 c2_i32_101_r0
  ![v168_r0.toNat]
def k6_off24 (arg8_r0 : BitVec 32) : Fin 3 → Nat :=
  let c2_i32_84_r0 : BitVec 32 := 2#32
  let v132_r0 : BitVec 32 := Scalar.remui arg8_r0 c2_i32_84_r0
  let c0_i32_101_r2 : BitVec 32 := 0#32
  let c0_i32_102_r2 : BitVec 32 := 0#32
  ![v132_r0.toNat, 0, 0]

def k6_chk5 (i : grid6.Coords) (k6_t2 : Fin (k6_t2_loop i).trips) (arg8_r0 : BitVec 32) : Prop :=
  (∀ (k6_h1 : k6_cond1 i = 1#1), ∀ a, (k6_off24 arg8_r0) a + S1x128x128.size a ≤ S2x128x128.size a)
theorem k6_off24_inb : ∀ (i : grid6.Coords) (k6_t2 : Fin (k6_t2_loop i).trips) (arg8_r0 : BitVec 32) (k6_hw5 : k6_chk5 i k6_t2 arg8_r0), ∀ (k6_h1 : k6_cond1 i = 1#1), ∀ a, (k6_off24 arg8_r0) a + S1x128x128.size a ≤ S2x128x128.size a := fun i k6_t2 arg8_r0 k6_hw5 k6_h1 => k6_hw5 k6_h1

def k6_off25 (arg7_r0 : BitVec 32) : Fin 3 → Nat :=
  let c2_i32_83_r0 : BitVec 32 := 2#32
  let v131_r0 : BitVec 32 := Scalar.remui arg7_r0 c2_i32_83_r0
  let c0_i32_103_r2 : BitVec 32 := 0#32
  let c0_i32_104_r2 : BitVec 32 := 0#32
  ![v131_r0.toNat, 0, 0]

def k6_chk6 (i : grid6.Coords) (k6_t2 : Fin (k6_t2_loop i).trips) (arg7_r0 : BitVec 32) : Prop :=
  (∀ (k6_h1 : k6_cond1 i = 1#1), ∀ a, (k6_off25 arg7_r0) a + S1x1x128.size a ≤ S2x1x128.size a)
theorem k6_off25_inb : ∀ (i : grid6.Coords) (k6_t2 : Fin (k6_t2_loop i).trips) (arg7_r0 : BitVec 32) (k6_hw6 : k6_chk6 i k6_t2 arg7_r0), ∀ (k6_h1 : k6_cond1 i = 1#1), ∀ a, (k6_off25 arg7_r0) a + S1x1x128.size a ≤ S2x1x128.size a := fun i k6_t2 arg7_r0 k6_hw6 k6_h1 => k6_hw6 k6_h1

def k6_off26 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k6_cond14 (i : grid6.Coords) (k6_t2 : Fin (k6_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k6_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k6_off27 (i : grid6.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k6_off28 (arg8_r0 : BitVec 32) : Fin 1 → Nat :=
  let c2_i32_101_r0 : BitVec 32 := 2#32
  let v167_r0 : BitVec 32 := Scalar.remui arg8_r0 c2_i32_101_r0
  ![v167_r0.toNat]
def k6_off29 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k6_cond16 (i : grid6.Coords) (k6_t2 : Fin (k6_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k6_t2
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k6_off30 (i : grid6.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_63_r0 : BitVec 32 := 1#32
  let v88_r0 : BitVec 32 := Scalar.subi v5 c1_i32_63_r0
  let v89_r0 : BitVec 32 := Scalar.select v87_r0 v88_r0 v86_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k6_off31 (arg9_r0 : BitVec 32) : Fin 1 → Nat :=
  let c2_i32_101_r0 : BitVec 32 := 2#32
  let v167_r0 : BitVec 32 := Scalar.remui arg9_r0 c2_i32_101_r0
  ![v167_r0.toNat]

def k6_chk4 (i : grid6.Coords) (k6_t2 : Fin (k6_t2_loop i).trips) (arg6_r0 : BitVec 32) (arg7_r0 : BitVec 32) (arg8_r0 : BitVec 32) (arg9_r0 : BitVec 32) (arg10_r0 : BitVec 32) : Prop :=
  (∀ (k6_h1 : k6_cond1 i = 1#1), ∀ (k6_h10 : k6_cond10 i k6_t2 arg10_r0 = 1#1), ∀ a, (k6_off18 arg6_r0) a + S1x1x128.size a ≤ S2x1x128.size a) ∧
  (∀ (k6_h1 : k6_cond1 i = 1#1), ∀ (k6_h10 : k6_cond10 i k6_t2 arg10_r0 = 1#1), ∀ a, (k6_off19 i arg10_r0) a + S1x128.size a ≤ S1x32000.size a) ∧
  (∀ (k6_h1 : k6_cond1 i = 1#1), ∀ (k6_h10 : k6_cond10 i k6_t2 arg10_r0 = 1#1), ∀ a, (k6_off20 arg6_r0) a + S1.size a ≤ S2.size a) ∧
  (∀ (k6_h1 : k6_cond1 i = 1#1), ∀ (k6_h11 : k6_cond11 i k6_t2 arg10_r0 = 1#1), ∀ a, (k6_off21 arg7_r0) a + S1x1x128.size a ≤ S2x1x128.size a) ∧
  (∀ (k6_h1 : k6_cond1 i = 1#1), ∀ (k6_h11 : k6_cond11 i k6_t2 arg10_r0 = 1#1), ∀ a, (k6_off22 i arg10_r0) a + S1x128.size a ≤ S1x32000.size a) ∧
  (∀ (k6_h1 : k6_cond1 i = 1#1), ∀ (k6_h11 : k6_cond11 i k6_t2 arg10_r0 = 1#1), ∀ a, (k6_off23 arg7_r0) a + S1.size a ≤ S2.size a) ∧
  (∀ (k6_h1 : k6_cond1 i = 1#1), ∀ (k6_h14 : k6_cond14 i k6_t2 arg10_r0 = 1#1), ∀ a, (k6_off26 arg8_r0) a + S1x128x128.size a ≤ S2x128x128.size a) ∧
  (∀ (k6_h1 : k6_cond1 i = 1#1), ∀ (k6_h14 : k6_cond14 i k6_t2 arg10_r0 = 1#1), ∀ a, (k6_off27 i arg10_r0) a + S128x128.size a ≤ S32000x128.size a) ∧
  (∀ (k6_h1 : k6_cond1 i = 1#1), ∀ (k6_h14 : k6_cond14 i k6_t2 arg10_r0 = 1#1), ∀ a, (k6_off28 arg8_r0) a + S1.size a ≤ S2.size a) ∧
  (∀ (k6_h1 : k6_cond1 i = 1#1), ∀ (k6_h16 : k6_cond16 i k6_t2 arg10_r0 = 1#1), ∀ a, (k6_off29 arg9_r0) a + S1x128x128.size a ≤ S2x128x128.size a) ∧
  (∀ (k6_h1 : k6_cond1 i = 1#1), ∀ (k6_h16 : k6_cond16 i k6_t2 arg10_r0 = 1#1), ∀ a, (k6_off30 i arg10_r0) a + S128x128.size a ≤ S32000x128.size a) ∧
  (∀ (k6_h1 : k6_cond1 i = 1#1), ∀ (k6_h16 : k6_cond16 i k6_t2 arg10_r0 = 1#1), ∀ a, (k6_off31 arg9_r0) a + S1.size a ≤ S2.size a)
theorem k6_off18_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h10 : k6_cond10 i k6_t2 arg10_r0 = 1#1), ∀ a, (k6_off18 arg6_r0) a + S1x1x128.size a ≤ S2x1x128.size a := fun i k6_t2 arg6_r0 arg7_r0 arg8_r0 arg9_r0 arg10_r0 k6_hw4 k6_h1 k6_h10 => k6_hw4.1 k6_h1 k6_h10
theorem k6_off19_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h10 : k6_cond10 i k6_t2 arg10_r0 = 1#1), ∀ a, (k6_off19 i arg10_r0) a + S1x128.size a ≤ S1x32000.size a := fun i k6_t2 arg6_r0 arg7_r0 arg8_r0 arg9_r0 arg10_r0 k6_hw4 k6_h1 k6_h10 => k6_hw4.2.1 k6_h1 k6_h10
theorem k6_off20_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h10 : k6_cond10 i k6_t2 arg10_r0 = 1#1), ∀ a, (k6_off20 arg6_r0) a + S1.size a ≤ S2.size a := fun i k6_t2 arg6_r0 arg7_r0 arg8_r0 arg9_r0 arg10_r0 k6_hw4 k6_h1 k6_h10 => k6_hw4.2.2.1 k6_h1 k6_h10
theorem k6_off21_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h11 : k6_cond11 i k6_t2 arg10_r0 = 1#1), ∀ a, (k6_off21 arg7_r0) a + S1x1x128.size a ≤ S2x1x128.size a := fun i k6_t2 arg6_r0 arg7_r0 arg8_r0 arg9_r0 arg10_r0 k6_hw4 k6_h1 k6_h11 => k6_hw4.2.2.2.1 k6_h1 k6_h11
theorem k6_off22_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h11 : k6_cond11 i k6_t2 arg10_r0 = 1#1), ∀ a, (k6_off22 i arg10_r0) a + S1x128.size a ≤ S1x32000.size a := fun i k6_t2 arg6_r0 arg7_r0 arg8_r0 arg9_r0 arg10_r0 k6_hw4 k6_h1 k6_h11 => k6_hw4.2.2.2.2.1 k6_h1 k6_h11
theorem k6_off23_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h11 : k6_cond11 i k6_t2 arg10_r0 = 1#1), ∀ a, (k6_off23 arg7_r0) a + S1.size a ≤ S2.size a := fun i k6_t2 arg6_r0 arg7_r0 arg8_r0 arg9_r0 arg10_r0 k6_hw4 k6_h1 k6_h11 => k6_hw4.2.2.2.2.2.1 k6_h1 k6_h11
theorem k6_off26_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h14 : k6_cond14 i k6_t2 arg10_r0 = 1#1), ∀ a, (k6_off26 arg8_r0) a + S1x128x128.size a ≤ S2x128x128.size a := fun i k6_t2 arg6_r0 arg7_r0 arg8_r0 arg9_r0 arg10_r0 k6_hw4 k6_h1 k6_h14 => k6_hw4.2.2.2.2.2.2.1 k6_h1 k6_h14
theorem k6_off27_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h14 : k6_cond14 i k6_t2 arg10_r0 = 1#1), ∀ a, (k6_off27 i arg10_r0) a + S128x128.size a ≤ S32000x128.size a := fun i k6_t2 arg6_r0 arg7_r0 arg8_r0 arg9_r0 arg10_r0 k6_hw4 k6_h1 k6_h14 => k6_hw4.2.2.2.2.2.2.2.1 k6_h1 k6_h14
theorem k6_off28_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h14 : k6_cond14 i k6_t2 arg10_r0 = 1#1), ∀ a, (k6_off28 arg8_r0) a + S1.size a ≤ S2.size a := fun i k6_t2 arg6_r0 arg7_r0 arg8_r0 arg9_r0 arg10_r0 k6_hw4 k6_h1 k6_h14 => k6_hw4.2.2.2.2.2.2.2.2.1 k6_h1 k6_h14
theorem k6_off29_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h16 : k6_cond16 i k6_t2 arg10_r0 = 1#1), ∀ a, (k6_off29 arg9_r0) a + S1x128x128.size a ≤ S2x128x128.size a := fun i k6_t2 arg6_r0 arg7_r0 arg8_r0 arg9_r0 arg10_r0 k6_hw4 k6_h1 k6_h16 => k6_hw4.2.2.2.2.2.2.2.2.2.1 k6_h1 k6_h16
theorem k6_off30_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h16 : k6_cond16 i k6_t2 arg10_r0 = 1#1), ∀ a, (k6_off30 i arg10_r0) a + S128x128.size a ≤ S32000x128.size a := fun i k6_t2 arg6_r0 arg7_r0 arg8_r0 arg9_r0 arg10_r0 k6_hw4 k6_h1 k6_h16 => k6_hw4.2.2.2.2.2.2.2.2.2.2.1 k6_h1 k6_h16
theorem k6_off31_inb : ∀ (i : grid6.Coords) (k6_t2 : Fin (k6_t2_loop i).trips) (arg6_r0 : BitVec 32) (arg7_r0 : BitVec 32) (arg8_r0 : BitVec 32) (arg9_r0 : BitVec 32) (arg10_r0 : BitVec 32) (k6_hw4 : k6_chk4 i k6_t2 arg6_r0 arg7_r0 arg8_r0 arg9_r0 arg10_r0), ∀ (k6_h1 : k6_cond1 i = 1#1), ∀ (k6_h16 : k6_cond16 i k6_t2 arg10_r0 = 1#1), ∀ a, (k6_off31 arg9_r0) a + S1.size a ≤ S2.size a := fun i k6_t2 arg6_r0 arg7_r0 arg8_r0 arg9_r0 arg10_r0 k6_hw4 k6_h1 k6_h16 => k6_hw4.2.2.2.2.2.2.2.2.2.2.2 k6_h1 k6_h16

def k6_cond18 (i : grid6.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k6_off32 (v48_3_r0 : BitVec 32) : Fin 3 → Nat :=
  let c2_i32_r0 : BitVec 32 := 2#32
  let v80_r0 : BitVec 32 := Scalar.remui v48_3_r0 c2_i32_r0
  let c0_i32_57_r0 : BitVec 32 := 0#32
  let c0_i32_58_r0 : BitVec 32 := 0#32
  ![v80_r0.toNat, 0, 0]

def k6_off33 (i : grid6.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_40_r0 : BitVec 32 := 1#32
  let v52_r0 : BitVec 32 := Scalar.subi v5 c1_i32_40_r0
  let v53_r0 : BitVec 32 := Scalar.select v51_r0 v52_r0 v50_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v59_r0 : BitVec 32 := Scalar.addi v53_r0 v10
  let v81_r0 : BitVec 32 := Scalar.muli c128_i32_r0 v59_r0
  let c0_i32_59_r0 : BitVec 32 := 0#32
  ![v81_r0.toNat, 0]

def k6_chk8 (i : grid6.Coords) (v48_4_r0 : BitVec 32) : Prop :=
  (∀ (k6_h1 : k6_cond1 i = 1#1), ∀ (k6_h18 : k6_cond18 i = 1#1), ∀ a, (k6_off33 i v48_4_r0) a + S128x128.size a ≤ S32000x128.size a)
theorem k6_off33_inb : ∀ (i : grid6.Coords) (v48_4_r0 : BitVec 32) (k6_hw8 : k6_chk8 i v48_4_r0), ∀ (k6_h1 : k6_cond1 i = 1#1), ∀ (k6_h18 : k6_cond18 i = 1#1), ∀ a, (k6_off33 i v48_4_r0) a + S128x128.size a ≤ S32000x128.size a := fun i v48_4_r0 k6_hw8 k6_h1 k6_h18 => k6_hw8 k6_h1 k6_h18

def k6_off34 (v48_3_r0 : BitVec 32) : Fin 1 → Nat :=
  let c2_i32_r0 : BitVec 32 := 2#32
  let v80_r0 : BitVec 32 := Scalar.remui v48_3_r0 c2_i32_r0
  ![v80_r0.toNat]
def k6_off35 (v48_3_r0 : BitVec 32) : Fin 3 → Nat :=
  let c2_i32_r0 : BitVec 32 := 2#32
  let v80_r0 : BitVec 32 := Scalar.remui v48_3_r0 c2_i32_r0
  let c0_i32_61_r0 : BitVec 32 := 0#32
  let c0_i32_62_r0 : BitVec 32 := 0#32
  ![v80_r0.toNat, 0, 0]

def k6_chk7 (i : grid6.Coords) (v48_3_r0 : BitVec 32) : Prop :=
  (∀ (k6_h1 : k6_cond1 i = 1#1), ∀ (k6_h18 : k6_cond18 i = 1#1), ∀ a, (k6_off32 v48_3_r0) a + S1x128x128.size a ≤ S2x128x128.size a) ∧
  (∀ (k6_h1 : k6_cond1 i = 1#1), ∀ (k6_h18 : k6_cond18 i = 1#1), ∀ a, (k6_off34 v48_3_r0) a + S1.size a ≤ S2.size a) ∧
  (∀ (k6_h1 : k6_cond1 i = 1#1), ∀ (k6_h18 : k6_cond18 i = 1#1), ∀ a, (k6_off35 v48_3_r0) a + S1x128x128.size a ≤ S2x128x128.size a)
theorem k6_off32_inb : ∀ (i : grid6.Coords) (v48_3_r0 : BitVec 32) (k6_hw7 : k6_chk7 i v48_3_r0), ∀ (k6_h1 : k6_cond1 i = 1#1), ∀ (k6_h18 : k6_cond18 i = 1#1), ∀ a, (k6_off32 v48_3_r0) a + S1x128x128.size a ≤ S2x128x128.size a := fun i v48_3_r0 k6_hw7 k6_h1 k6_h18 => k6_hw7.1 k6_h1 k6_h18
theorem k6_off34_inb : ∀ (i : grid6.Coords) (v48_3_r0 : BitVec 32) (k6_hw7 : k6_chk7 i v48_3_r0), ∀ (k6_h1 : k6_cond1 i = 1#1), ∀ (k6_h18 : k6_cond18 i = 1#1), ∀ a, (k6_off34 v48_3_r0) a + S1.size a ≤ S2.size a := fun i v48_3_r0 k6_hw7 k6_h1 k6_h18 => k6_hw7.2.1 k6_h1 k6_h18
theorem k6_off35_inb : ∀ (i : grid6.Coords) (v48_3_r0 : BitVec 32) (k6_hw7 : k6_chk7 i v48_3_r0), ∀ (k6_h1 : k6_cond1 i = 1#1), ∀ (k6_h18 : k6_cond18 i = 1#1), ∀ a, (k6_off35 v48_3_r0) a + S1x128x128.size a ≤ S2x128x128.size a := fun i v48_3_r0 k6_hw7 k6_h1 k6_h18 => k6_hw7.2.2 k6_h1 k6_h18

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_12 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_13 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_14 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S200x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S3200x128 .i32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S200x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S128x8 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S8x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S1x128 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S128x256 .f32 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S1x256 .f32 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S256x128 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 1 → Memref sig .tc .vmem S1x128 .f32 := fun | 0 => Memref.whole cc7_stg11_0 | ⟨_ + 1, h⟩ => absurd h (Nat.not_lt.2 (Nat.le_add_left _ _))
abbrev sem7_11 : Fin 1 → DmaSem sig := fun | 0 => cc7_sem11_0 | ⟨_ + 1, h⟩ => absurd h (Nat.not_lt.2 (Nat.le_add_left _ _))
abbrev reads7_11 : Fin grid7.rank → Bool := ![false]

abbrev stage7_12 : Fin 1 → Memref sig .tc .vmem S1x128 .f32 := fun | 0 => Memref.whole cc7_stg12_0 | ⟨_ + 1, h⟩ => absurd h (Nat.not_lt.2 (Nat.le_add_left _ _))
abbrev sem7_12 : Fin 1 → DmaSem sig := fun | 0 => cc7_sem12_0 | ⟨_ + 1, h⟩ => absurd h (Nat.not_lt.2 (Nat.le_add_left _ _))
abbrev reads7_12 : Fin grid7.rank → Bool := ![false]

abbrev stage7_13 : Fin 1 → Memref sig .tc .vmem S1x128 .f32 := fun | 0 => Memref.whole cc7_stg13_0 | ⟨_ + 1, h⟩ => absurd h (Nat.not_lt.2 (Nat.le_add_left _ _))
abbrev sem7_13 : Fin 1 → DmaSem sig := fun | 0 => cc7_sem13_0 | ⟨_ + 1, h⟩ => absurd h (Nat.not_lt.2 (Nat.le_add_left _ _))
abbrev reads7_13 : Fin grid7.rank → Bool := ![false]

abbrev stage7_14 : Fin 2 → Memref sig .tc .vmem S200x128 .f32 := fun | 0 => Memref.whole cc7_stg14_0 | 1 => Memref.whole cc7_stg14_1 | ⟨_ + 2, h⟩ => absurd h (Nat.not_lt.2 (Nat.le_add_left _ _))
abbrev sem7_14 : Fin 2 → DmaSem sig := fun | 0 => cc7_sem14_0 | 1 => cc7_sem14_1 | ⟨_ + 2, h⟩ => absurd h (Nat.not_lt.2 (Nat.le_add_left _ _))
abbrev reads7_14 : Fin grid7.rank → Bool := ![true]

abbrev grid8 : Pipeline.Grid := ⟨2, ![2, 16], ![false, false]⟩

def k8_cond1 (i : grid8.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k8_cond2 (i : grid8.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k8_off1 : Fin 3 → Nat :=
  let c0_i32_24_r0 : BitVec 32 := 0#32
  let c2_i32_r0 : BitVec 32 := 2#32
  let v80_r0 : BitVec 32 := Scalar.remui c0_i32_24_r0 c2_i32_r0
  let c0_i32_57_r0 : BitVec 32 := 0#32
  let c0_i32_58_r0 : BitVec 32 := 0#32
  ![v80_r0.toNat, 0, 0]
def k8_off2 (i : grid8.Coords) : Fin 2 → Nat :=
  let c0_i32_59_r0 : BitVec 32 := 0#32
  let c128_i32_r0 : BitVec 32 := 128#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v20_r0 : BitVec 32 := Scalar.addi c0_i32_10_r0 v10
  let v81_r0 : BitVec 32 := Scalar.muli c128_i32_r0 v20_r0
  ![0, v81_r0.toNat]
def k8_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k8_t1_loop (i : grid8.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k8_off4 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k8_cond3 (i : grid8.Coords) (k8_t1 : Fin (k8_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k8_t1
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k8_off5 (i : grid8.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v93_r0 : BitVec 1 := Scalar.cmpi .eq v92_r0 v5
  let c0_i32_66_r0 : BitVec 32 := 0#32
  let v94_r0 : BitVec 32 := Scalar.select v93_r0 c0_i32_66_r0 v92_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k8_off6 (arg6_r0 : BitVec 32) : Fin 1 → Nat :=
  let c2_i32_101_r0 : BitVec 32 := 2#32
  let v167_r0 : BitVec 32 := Scalar.remui arg6_r0 c2_i32_101_r0
  ![v167_r0.toNat]
def k8_off7 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k8_cond4 (i : grid8.Coords) (k8_t1 : Fin (k8_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k8_t1
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k8_off8 (i : grid8.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k8_off9 (arg7_r0 : BitVec 32) : Fin 1 → Nat :=
  let c2_i32_101_r0 : BitVec 32 := 2#32
  let v168_r0 : BitVec 32 := Scalar.remui arg7_r0 c2_i32_101_r0
  ![v168_r0.toNat]
def k8_off10 (arg8_r0 : BitVec 32) : Fin 3 → Nat :=
  let c2_i32_84_r0 : BitVec 32 := 2#32
  let v132_r0 : BitVec 32 := Scalar.remui arg8_r0 c2_i32_84_r0
  let c0_i32_101_r1 : BitVec 32 := 0#32
  let c0_i32_102_r1 : BitVec 32 := 0#32
  ![v132_r0.toNat, 0, 0]

def k8_chk2 (i : grid8.Coords) (arg8_r0 : BitVec 32) : Prop :=
  (∀ (k8_h1 : k8_cond1 i = 1#1), ∀ a, (k8_off10 arg8_r0) a + S1x128x128.size a ≤ S2x128x128.size a)
theorem k8_off10_inb : ∀ (i : grid8.Coords) (arg8_r0 : BitVec 32) (k8_hw2 : k8_chk2 i arg8_r0), ∀ (k8_h1 : k8_cond1 i = 1#1), ∀ a, (k8_off10 arg8_r0) a + S1x128x128.size a ≤ S2x128x128.size a := fun i arg8_r0 k8_hw2 k8_h1 => k8_hw2 k8_h1

def k8_off11 (arg7_r0 : BitVec 32) : Fin 3 → Nat :=
  let c2_i32_83_r0 : BitVec 32 := 2#32
  let v131_r0 : BitVec 32 := Scalar.remui arg7_r0 c2_i32_83_r0
  let c0_i32_103_r1 : BitVec 32 := 0#32
  let c0_i32_104_r1 : BitVec 32 := 0#32
  ![v131_r0.toNat, 0, 0]

def k8_chk3 (i : grid8.Coords) (arg7_r0 : BitVec 32) : Prop :=
  (∀ (k8_h1 : k8_cond1 i = 1#1), ∀ a, (k8_off11 arg7_r0) a + S1x1x128.size a ≤ S2x1x128.size a)
theorem k8_off11_inb : ∀ (i : grid8.Coords) (arg7_r0 : BitVec 32) (k8_hw3 : k8_chk3 i arg7_r0), ∀ (k8_h1 : k8_cond1 i = 1#1), ∀ a, (k8_off11 arg7_r0) a + S1x1x128.size a ≤ S2x1x128.size a := fun i arg7_r0 k8_hw3 k8_h1 => k8_hw3 k8_h1

def k8_off12 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k8_cond7 (i : grid8.Coords) (k8_t1 : Fin (k8_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k8_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k8_off13 (i : grid8.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k8_off14 (arg8_r0 : BitVec 32) : Fin 1 → Nat :=
  let c2_i32_101_r0 : BitVec 32 := 2#32
  let v167_r0 : BitVec 32 := Scalar.remui arg8_r0 c2_i32_101_r0
  ![v167_r0.toNat]
def k8_off15 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k8_cond9 (i : grid8.Coords) (k8_t1 : Fin (k8_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k8_t1
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k8_off16 (i : grid8.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_63_r0 : BitVec 32 := 1#32
  let v88_r0 : BitVec 32 := Scalar.subi v5 c1_i32_63_r0
  let v89_r0 : BitVec 32 := Scalar.select v87_r0 v88_r0 v86_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k8_off17 (arg9_r0 : BitVec 32) : Fin 1 → Nat :=
  let c2_i32_101_r0 : BitVec 32 := 2#32
  let v167_r0 : BitVec 32 := Scalar.remui arg9_r0 c2_i32_101_r0
  ![v167_r0.toNat]

def k8_chk1 (i : grid8.Coords) (k8_t1 : Fin (k8_t1_loop i).trips) (arg6_r0 : BitVec 32) (arg7_r0 : BitVec 32) (arg8_r0 : BitVec 32) (arg9_r0 : BitVec 32) (arg10_r0 : BitVec 32) : Prop :=
  (∀ (k8_h1 : k8_cond1 i = 1#1), ∀ (k8_h3 : k8_cond3 i k8_t1 arg10_r0 = 1#1), ∀ a, (k8_off4 arg6_r0) a + S1x1x128.size a ≤ S2x1x128.size a) ∧
  (∀ (k8_h1 : k8_cond1 i = 1#1), ∀ (k8_h3 : k8_cond3 i k8_t1 arg10_r0 = 1#1), ∀ a, (k8_off5 i arg10_r0) a + S1x128.size a ≤ S1x32000.size a) ∧
  (∀ (k8_h1 : k8_cond1 i = 1#1), ∀ (k8_h3 : k8_cond3 i k8_t1 arg10_r0 = 1#1), ∀ a, (k8_off6 arg6_r0) a + S1.size a ≤ S2.size a) ∧
  (∀ (k8_h1 : k8_cond1 i = 1#1), ∀ (k8_h4 : k8_cond4 i k8_t1 arg10_r0 = 1#1), ∀ a, (k8_off7 arg7_r0) a + S1x1x128.size a ≤ S2x1x128.size a) ∧
  (∀ (k8_h1 : k8_cond1 i = 1#1), ∀ (k8_h4 : k8_cond4 i k8_t1 arg10_r0 = 1#1), ∀ a, (k8_off8 i arg10_r0) a + S1x128.size a ≤ S1x32000.size a) ∧
  (∀ (k8_h1 : k8_cond1 i = 1#1), ∀ (k8_h4 : k8_cond4 i k8_t1 arg10_r0 = 1#1), ∀ a, (k8_off9 arg7_r0) a + S1.size a ≤ S2.size a) ∧
  (∀ (k8_h1 : k8_cond1 i = 1#1), ∀ (k8_h7 : k8_cond7 i k8_t1 arg10_r0 = 1#1), ∀ a, (k8_off12 arg8_r0) a + S1x128x128.size a ≤ S2x128x128.size a) ∧
  (∀ (k8_h1 : k8_cond1 i = 1#1), ∀ (k8_h7 : k8_cond7 i k8_t1 arg10_r0 = 1#1), ∀ a, (k8_off13 i arg10_r0) a + S128x128.size a ≤ S32000x128.size a) ∧
  (∀ (k8_h1 : k8_cond1 i = 1#1), ∀ (k8_h7 : k8_cond7 i k8_t1 arg10_r0 = 1#1), ∀ a, (k8_off14 arg8_r0) a + S1.size a ≤ S2.size a) ∧
  (∀ (k8_h1 : k8_cond1 i = 1#1), ∀ (k8_h9 : k8_cond9 i k8_t1 arg10_r0 = 1#1), ∀ a, (k8_off15 arg9_r0) a + S1x128x128.size a ≤ S2x128x128.size a) ∧
  (∀ (k8_h1 : k8_cond1 i = 1#1), ∀ (k8_h9 : k8_cond9 i k8_t1 arg10_r0 = 1#1), ∀ a, (k8_off16 i arg10_r0) a + S128x128.size a ≤ S32000x128.size a) ∧
  (∀ (k8_h1 : k8_cond1 i = 1#1), ∀ (k8_h9 : k8_cond9 i k8_t1 arg10_r0 = 1#1), ∀ a, (k8_off17 arg9_r0) a + S1.size a ≤ S2.size a)
theorem k8_off4_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h3 : k8_cond3 i k8_t1 arg10_r0 = 1#1), ∀ a, (k8_off4 arg6_r0) a + S1x1x128.size a ≤ S2x1x128.size a := fun i k8_t1 arg6_r0 arg7_r0 arg8_r0 arg9_r0 arg10_r0 k8_hw1 k8_h1 k8_h3 => k8_hw1.1 k8_h1 k8_h3
theorem k8_off5_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h3 : k8_cond3 i k8_t1 arg10_r0 = 1#1), ∀ a, (k8_off5 i arg10_r0) a + S1x128.size a ≤ S1x32000.size a := fun i k8_t1 arg6_r0 arg7_r0 arg8_r0 arg9_r0 arg10_r0 k8_hw1 k8_h1 k8_h3 => k8_hw1.2.1 k8_h1 k8_h3
theorem k8_off6_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h3 : k8_cond3 i k8_t1 arg10_r0 = 1#1), ∀ a, (k8_off6 arg6_r0) a + S1.size a ≤ S2.size a := fun i k8_t1 arg6_r0 arg7_r0 arg8_r0 arg9_r0 arg10_r0 k8_hw1 k8_h1 k8_h3 => k8_hw1.2.2.1 k8_h1 k8_h3
theorem k8_off7_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h4 : k8_cond4 i k8_t1 arg10_r0 = 1#1), ∀ a, (k8_off7 arg7_r0) a + S1x1x128.size a ≤ S2x1x128.size a := fun i k8_t1 arg6_r0 arg7_r0 arg8_r0 arg9_r0 arg10_r0 k8_hw1 k8_h1 k8_h4 => k8_hw1.2.2.2.1 k8_h1 k8_h4
theorem k8_off8_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h4 : k8_cond4 i k8_t1 arg10_r0 = 1#1), ∀ a, (k8_off8 i arg10_r0) a + S1x128.size a ≤ S1x32000.size a := fun i k8_t1 arg6_r0 arg7_r0 arg8_r0 arg9_r0 arg10_r0 k8_hw1 k8_h1 k8_h4 => k8_hw1.2.2.2.2.1 k8_h1 k8_h4
theorem k8_off9_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h4 : k8_cond4 i k8_t1 arg10_r0 = 1#1), ∀ a, (k8_off9 arg7_r0) a + S1.size a ≤ S2.size a := fun i k8_t1 arg6_r0 arg7_r0 arg8_r0 arg9_r0 arg10_r0 k8_hw1 k8_h1 k8_h4 => k8_hw1.2.2.2.2.2.1 k8_h1 k8_h4
theorem k8_off12_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h7 : k8_cond7 i k8_t1 arg10_r0 = 1#1), ∀ a, (k8_off12 arg8_r0) a + S1x128x128.size a ≤ S2x128x128.size a := fun i k8_t1 arg6_r0 arg7_r0 arg8_r0 arg9_r0 arg10_r0 k8_hw1 k8_h1 k8_h7 => k8_hw1.2.2.2.2.2.2.1 k8_h1 k8_h7
theorem k8_off13_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h7 : k8_cond7 i k8_t1 arg10_r0 = 1#1), ∀ a, (k8_off13 i arg10_r0) a + S128x128.size a ≤ S32000x128.size a := fun i k8_t1 arg6_r0 arg7_r0 arg8_r0 arg9_r0 arg10_r0 k8_hw1 k8_h1 k8_h7 => k8_hw1.2.2.2.2.2.2.2.1 k8_h1 k8_h7
theorem k8_off14_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h7 : k8_cond7 i k8_t1 arg10_r0 = 1#1), ∀ a, (k8_off14 arg8_r0) a + S1.size a ≤ S2.size a := fun i k8_t1 arg6_r0 arg7_r0 arg8_r0 arg9_r0 arg10_r0 k8_hw1 k8_h1 k8_h7 => k8_hw1.2.2.2.2.2.2.2.2.1 k8_h1 k8_h7
theorem k8_off15_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h9 : k8_cond9 i k8_t1 arg10_r0 = 1#1), ∀ a, (k8_off15 arg9_r0) a + S1x128x128.size a ≤ S2x128x128.size a := fun i k8_t1 arg6_r0 arg7_r0 arg8_r0 arg9_r0 arg10_r0 k8_hw1 k8_h1 k8_h9 => k8_hw1.2.2.2.2.2.2.2.2.2.1 k8_h1 k8_h9
theorem k8_off16_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h9 : k8_cond9 i k8_t1 arg10_r0 = 1#1), ∀ a, (k8_off16 i arg10_r0) a + S128x128.size a ≤ S32000x128.size a := fun i k8_t1 arg6_r0 arg7_r0 arg8_r0 arg9_r0 arg10_r0 k8_hw1 k8_h1 k8_h9 => k8_hw1.2.2.2.2.2.2.2.2.2.2.1 k8_h1 k8_h9
theorem k8_off17_inb : ∀ (i : grid8.Coords) (k8_t1 : Fin (k8_t1_loop i).trips) (arg6_r0 : BitVec 32) (arg7_r0 : BitVec 32) (arg8_r0 : BitVec 32) (arg9_r0 : BitVec 32) (arg10_r0 : BitVec 32) (k8_hw1 : k8_chk1 i k8_t1 arg6_r0 arg7_r0 arg8_r0 arg9_r0 arg10_r0), ∀ (k8_h1 : k8_cond1 i = 1#1), ∀ (k8_h9 : k8_cond9 i k8_t1 arg10_r0 = 1#1), ∀ a, (k8_off17 arg9_r0) a + S1.size a ≤ S2.size a := fun i k8_t1 arg6_r0 arg7_r0 arg8_r0 arg9_r0 arg10_r0 k8_hw1 k8_h1 k8_h9 => k8_hw1.2.2.2.2.2.2.2.2.2.2.2 k8_h1 k8_h9

@[reducible] def k8_t2_loop (i : grid8.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k8_off18 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k8_cond10 (i : grid8.Coords) (k8_t2 : Fin (k8_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k8_t2
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k8_off19 (i : grid8.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v93_r0 : BitVec 1 := Scalar.cmpi .eq v92_r0 v5
  let c0_i32_66_r0 : BitVec 32 := 0#32
  let v94_r0 : BitVec 32 := Scalar.select v93_r0 c0_i32_66_r0 v92_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k8_off20 (arg6_r0 : BitVec 32) : Fin 1 → Nat :=
  let c2_i32_101_r0 : BitVec 32 := 2#32
  let v167_r0 : BitVec 32 := Scalar.remui arg6_r0 c2_i32_101_r0
  ![v167_r0.toNat]
def k8_off21 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k8_cond11 (i : grid8.Coords) (k8_t2 : Fin (k8_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k8_t2
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k8_off22 (i : grid8.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k8_off23 (arg7_r0 : BitVec 32) : Fin 1 → Nat :=
  let c2_i32_101_r0 : BitVec 32 := 2#32
  let v168_r0 : BitVec 32 := Scalar.remui arg7_r0 c2_i32_101_r0
  ![v168_r0.toNat]
def k8_off24 (arg8_r0 : BitVec 32) : Fin 3 → Nat :=
  let c2_i32_84_r0 : BitVec 32 := 2#32
  let v132_r0 : BitVec 32 := Scalar.remui arg8_r0 c2_i32_84_r0
  let c0_i32_101_r2 : BitVec 32 := 0#32
  let c0_i32_102_r2 : BitVec 32 := 0#32
  ![v132_r0.toNat, 0, 0]

def k8_chk5 (i : grid8.Coords) (k8_t2 : Fin (k8_t2_loop i).trips) (arg8_r0 : BitVec 32) : Prop :=
  (∀ (k8_h1 : k8_cond1 i = 1#1), ∀ a, (k8_off24 arg8_r0) a + S1x128x128.size a ≤ S2x128x128.size a)
theorem k8_off24_inb : ∀ (i : grid8.Coords) (k8_t2 : Fin (k8_t2_loop i).trips) (arg8_r0 : BitVec 32) (k8_hw5 : k8_chk5 i k8_t2 arg8_r0), ∀ (k8_h1 : k8_cond1 i = 1#1), ∀ a, (k8_off24 arg8_r0) a + S1x128x128.size a ≤ S2x128x128.size a := fun i k8_t2 arg8_r0 k8_hw5 k8_h1 => k8_hw5 k8_h1

def k8_off25 (arg7_r0 : BitVec 32) : Fin 3 → Nat :=
  let c2_i32_83_r0 : BitVec 32 := 2#32
  let v131_r0 : BitVec 32 := Scalar.remui arg7_r0 c2_i32_83_r0
  let c0_i32_103_r2 : BitVec 32 := 0#32
  let c0_i32_104_r2 : BitVec 32 := 0#32
  ![v131_r0.toNat, 0, 0]

def k8_chk6 (i : grid8.Coords) (k8_t2 : Fin (k8_t2_loop i).trips) (arg7_r0 : BitVec 32) : Prop :=
  (∀ (k8_h1 : k8_cond1 i = 1#1), ∀ a, (k8_off25 arg7_r0) a + S1x1x128.size a ≤ S2x1x128.size a)
theorem k8_off25_inb : ∀ (i : grid8.Coords) (k8_t2 : Fin (k8_t2_loop i).trips) (arg7_r0 : BitVec 32) (k8_hw6 : k8_chk6 i k8_t2 arg7_r0), ∀ (k8_h1 : k8_cond1 i = 1#1), ∀ a, (k8_off25 arg7_r0) a + S1x1x128.size a ≤ S2x1x128.size a := fun i k8_t2 arg7_r0 k8_hw6 k8_h1 => k8_hw6 k8_h1

def k8_off26 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k8_cond14 (i : grid8.Coords) (k8_t2 : Fin (k8_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k8_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k8_off27 (i : grid8.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k8_off28 (arg8_r0 : BitVec 32) : Fin 1 → Nat :=
  let c2_i32_101_r0 : BitVec 32 := 2#32
  let v167_r0 : BitVec 32 := Scalar.remui arg8_r0 c2_i32_101_r0
  ![v167_r0.toNat]
def k8_off29 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k8_cond16 (i : grid8.Coords) (k8_t2 : Fin (k8_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k8_t2
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k8_off30 (i : grid8.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_63_r0 : BitVec 32 := 1#32
  let v88_r0 : BitVec 32 := Scalar.subi v5 c1_i32_63_r0
  let v89_r0 : BitVec 32 := Scalar.select v87_r0 v88_r0 v86_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k8_off31 (arg9_r0 : BitVec 32) : Fin 1 → Nat :=
  let c2_i32_101_r0 : BitVec 32 := 2#32
  let v167_r0 : BitVec 32 := Scalar.remui arg9_r0 c2_i32_101_r0
  ![v167_r0.toNat]

def k8_chk4 (i : grid8.Coords) (k8_t2 : Fin (k8_t2_loop i).trips) (arg6_r0 : BitVec 32) (arg7_r0 : BitVec 32) (arg8_r0 : BitVec 32) (arg9_r0 : BitVec 32) (arg10_r0 : BitVec 32) : Prop :=
  (∀ (k8_h1 : k8_cond1 i = 1#1), ∀ (k8_h10 : k8_cond10 i k8_t2 arg10_r0 = 1#1), ∀ a, (k8_off18 arg6_r0) a + S1x1x128.size a ≤ S2x1x128.size a) ∧
  (∀ (k8_h1 : k8_cond1 i = 1#1), ∀ (k8_h10 : k8_cond10 i k8_t2 arg10_r0 = 1#1), ∀ a, (k8_off19 i arg10_r0) a + S1x128.size a ≤ S1x32000.size a) ∧
  (∀ (k8_h1 : k8_cond1 i = 1#1), ∀ (k8_h10 : k8_cond10 i k8_t2 arg10_r0 = 1#1), ∀ a, (k8_off20 arg6_r0) a + S1.size a ≤ S2.size a) ∧
  (∀ (k8_h1 : k8_cond1 i = 1#1), ∀ (k8_h11 : k8_cond11 i k8_t2 arg10_r0 = 1#1), ∀ a, (k8_off21 arg7_r0) a + S1x1x128.size a ≤ S2x1x128.size a) ∧
  (∀ (k8_h1 : k8_cond1 i = 1#1), ∀ (k8_h11 : k8_cond11 i k8_t2 arg10_r0 = 1#1), ∀ a, (k8_off22 i arg10_r0) a + S1x128.size a ≤ S1x32000.size a) ∧
  (∀ (k8_h1 : k8_cond1 i = 1#1), ∀ (k8_h11 : k8_cond11 i k8_t2 arg10_r0 = 1#1), ∀ a, (k8_off23 arg7_r0) a + S1.size a ≤ S2.size a) ∧
  (∀ (k8_h1 : k8_cond1 i = 1#1), ∀ (k8_h14 : k8_cond14 i k8_t2 arg10_r0 = 1#1), ∀ a, (k8_off26 arg8_r0) a + S1x128x128.size a ≤ S2x128x128.size a) ∧
  (∀ (k8_h1 : k8_cond1 i = 1#1), ∀ (k8_h14 : k8_cond14 i k8_t2 arg10_r0 = 1#1), ∀ a, (k8_off27 i arg10_r0) a + S128x128.size a ≤ S32000x128.size a) ∧
  (∀ (k8_h1 : k8_cond1 i = 1#1), ∀ (k8_h14 : k8_cond14 i k8_t2 arg10_r0 = 1#1), ∀ a, (k8_off28 arg8_r0) a + S1.size a ≤ S2.size a) ∧
  (∀ (k8_h1 : k8_cond1 i = 1#1), ∀ (k8_h16 : k8_cond16 i k8_t2 arg10_r0 = 1#1), ∀ a, (k8_off29 arg9_r0) a + S1x128x128.size a ≤ S2x128x128.size a) ∧
  (∀ (k8_h1 : k8_cond1 i = 1#1), ∀ (k8_h16 : k8_cond16 i k8_t2 arg10_r0 = 1#1), ∀ a, (k8_off30 i arg10_r0) a + S128x128.size a ≤ S32000x128.size a) ∧
  (∀ (k8_h1 : k8_cond1 i = 1#1), ∀ (k8_h16 : k8_cond16 i k8_t2 arg10_r0 = 1#1), ∀ a, (k8_off31 arg9_r0) a + S1.size a ≤ S2.size a)
theorem k8_off18_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h10 : k8_cond10 i k8_t2 arg10_r0 = 1#1), ∀ a, (k8_off18 arg6_r0) a + S1x1x128.size a ≤ S2x1x128.size a := fun i k8_t2 arg6_r0 arg7_r0 arg8_r0 arg9_r0 arg10_r0 k8_hw4 k8_h1 k8_h10 => k8_hw4.1 k8_h1 k8_h10
theorem k8_off19_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h10 : k8_cond10 i k8_t2 arg10_r0 = 1#1), ∀ a, (k8_off19 i arg10_r0) a + S1x128.size a ≤ S1x32000.size a := fun i k8_t2 arg6_r0 arg7_r0 arg8_r0 arg9_r0 arg10_r0 k8_hw4 k8_h1 k8_h10 => k8_hw4.2.1 k8_h1 k8_h10
theorem k8_off20_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h10 : k8_cond10 i k8_t2 arg10_r0 = 1#1), ∀ a, (k8_off20 arg6_r0) a + S1.size a ≤ S2.size a := fun i k8_t2 arg6_r0 arg7_r0 arg8_r0 arg9_r0 arg10_r0 k8_hw4 k8_h1 k8_h10 => k8_hw4.2.2.1 k8_h1 k8_h10
theorem k8_off21_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h11 : k8_cond11 i k8_t2 arg10_r0 = 1#1), ∀ a, (k8_off21 arg7_r0) a + S1x1x128.size a ≤ S2x1x128.size a := fun i k8_t2 arg6_r0 arg7_r0 arg8_r0 arg9_r0 arg10_r0 k8_hw4 k8_h1 k8_h11 => k8_hw4.2.2.2.1 k8_h1 k8_h11
theorem k8_off22_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h11 : k8_cond11 i k8_t2 arg10_r0 = 1#1), ∀ a, (k8_off22 i arg10_r0) a + S1x128.size a ≤ S1x32000.size a := fun i k8_t2 arg6_r0 arg7_r0 arg8_r0 arg9_r0 arg10_r0 k8_hw4 k8_h1 k8_h11 => k8_hw4.2.2.2.2.1 k8_h1 k8_h11
theorem k8_off23_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h11 : k8_cond11 i k8_t2 arg10_r0 = 1#1), ∀ a, (k8_off23 arg7_r0) a + S1.size a ≤ S2.size a := fun i k8_t2 arg6_r0 arg7_r0 arg8_r0 arg9_r0 arg10_r0 k8_hw4 k8_h1 k8_h11 => k8_hw4.2.2.2.2.2.1 k8_h1 k8_h11
theorem k8_off26_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h14 : k8_cond14 i k8_t2 arg10_r0 = 1#1), ∀ a, (k8_off26 arg8_r0) a + S1x128x128.size a ≤ S2x128x128.size a := fun i k8_t2 arg6_r0 arg7_r0 arg8_r0 arg9_r0 arg10_r0 k8_hw4 k8_h1 k8_h14 => k8_hw4.2.2.2.2.2.2.1 k8_h1 k8_h14
theorem k8_off27_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h14 : k8_cond14 i k8_t2 arg10_r0 = 1#1), ∀ a, (k8_off27 i arg10_r0) a + S128x128.size a ≤ S32000x128.size a := fun i k8_t2 arg6_r0 arg7_r0 arg8_r0 arg9_r0 arg10_r0 k8_hw4 k8_h1 k8_h14 => k8_hw4.2.2.2.2.2.2.2.1 k8_h1 k8_h14
theorem k8_off28_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h14 : k8_cond14 i k8_t2 arg10_r0 = 1#1), ∀ a, (k8_off28 arg8_r0) a + S1.size a ≤ S2.size a := fun i k8_t2 arg6_r0 arg7_r0 arg8_r0 arg9_r0 arg10_r0 k8_hw4 k8_h1 k8_h14 => k8_hw4.2.2.2.2.2.2.2.2.1 k8_h1 k8_h14
theorem k8_off29_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h16 : k8_cond16 i k8_t2 arg10_r0 = 1#1), ∀ a, (k8_off29 arg9_r0) a + S1x128x128.size a ≤ S2x128x128.size a := fun i k8_t2 arg6_r0 arg7_r0 arg8_r0 arg9_r0 arg10_r0 k8_hw4 k8_h1 k8_h16 => k8_hw4.2.2.2.2.2.2.2.2.2.1 k8_h1 k8_h16
theorem k8_off30_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h16 : k8_cond16 i k8_t2 arg10_r0 = 1#1), ∀ a, (k8_off30 i arg10_r0) a + S128x128.size a ≤ S32000x128.size a := fun i k8_t2 arg6_r0 arg7_r0 arg8_r0 arg9_r0 arg10_r0 k8_hw4 k8_h1 k8_h16 => k8_hw4.2.2.2.2.2.2.2.2.2.2.1 k8_h1 k8_h16
theorem k8_off31_inb : ∀ (i : grid8.Coords) (k8_t2 : Fin (k8_t2_loop i).trips) (arg6_r0 : BitVec 32) (arg7_r0 : BitVec 32) (arg8_r0 : BitVec 32) (arg9_r0 : BitVec 32) (arg10_r0 : BitVec 32) (k8_hw4 : k8_chk4 i k8_t2 arg6_r0 arg7_r0 arg8_r0 arg9_r0 arg10_r0), ∀ (k8_h1 : k8_cond1 i = 1#1), ∀ (k8_h16 : k8_cond16 i k8_t2 arg10_r0 = 1#1), ∀ a, (k8_off31 arg9_r0) a + S1.size a ≤ S2.size a := fun i k8_t2 arg6_r0 arg7_r0 arg8_r0 arg9_r0 arg10_r0 k8_hw4 k8_h1 k8_h16 => k8_hw4.2.2.2.2.2.2.2.2.2.2.2 k8_h1 k8_h16

def k8_cond18 (i : grid8.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k8_off32 (v48_3_r0 : BitVec 32) : Fin 3 → Nat :=
  let c2_i32_r0 : BitVec 32 := 2#32
  let v80_r0 : BitVec 32 := Scalar.remui v48_3_r0 c2_i32_r0
  let c0_i32_57_r0 : BitVec 32 := 0#32
  let c0_i32_58_r0 : BitVec 32 := 0#32
  ![v80_r0.toNat, 0, 0]

def k8_off33 (i : grid8.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_40_r0 : BitVec 32 := 1#32
  let v52_r0 : BitVec 32 := Scalar.subi v5 c1_i32_40_r0
  let v53_r0 : BitVec 32 := Scalar.select v51_r0 v52_r0 v50_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v59_r0 : BitVec 32 := Scalar.addi v53_r0 v10
  let v81_r0 : BitVec 32 := Scalar.muli c128_i32_r0 v59_r0
  let c0_i32_59_r0 : BitVec 32 := 0#32
  ![v81_r0.toNat, 0]

def k8_chk8 (i : grid8.Coords) (v48_4_r0 : BitVec 32) : Prop :=
  (∀ (k8_h1 : k8_cond1 i = 1#1), ∀ (k8_h18 : k8_cond18 i = 1#1), ∀ a, (k8_off33 i v48_4_r0) a + S128x128.size a ≤ S32000x128.size a)
theorem k8_off33_inb : ∀ (i : grid8.Coords) (v48_4_r0 : BitVec 32) (k8_hw8 : k8_chk8 i v48_4_r0), ∀ (k8_h1 : k8_cond1 i = 1#1), ∀ (k8_h18 : k8_cond18 i = 1#1), ∀ a, (k8_off33 i v48_4_r0) a + S128x128.size a ≤ S32000x128.size a := fun i v48_4_r0 k8_hw8 k8_h1 k8_h18 => k8_hw8 k8_h1 k8_h18

def k8_off34 (v48_3_r0 : BitVec 32) : Fin 1 → Nat :=
  let c2_i32_r0 : BitVec 32 := 2#32
  let v80_r0 : BitVec 32 := Scalar.remui v48_3_r0 c2_i32_r0
  ![v80_r0.toNat]
def k8_off35 (v48_3_r0 : BitVec 32) : Fin 3 → Nat :=
  let c2_i32_r0 : BitVec 32 := 2#32
  let v80_r0 : BitVec 32 := Scalar.remui v48_3_r0 c2_i32_r0
  let c0_i32_61_r0 : BitVec 32 := 0#32
  let c0_i32_62_r0 : BitVec 32 := 0#32
  ![v80_r0.toNat, 0, 0]

def k8_chk7 (i : grid8.Coords) (v48_3_r0 : BitVec 32) : Prop :=
  (∀ (k8_h1 : k8_cond1 i = 1#1), ∀ (k8_h18 : k8_cond18 i = 1#1), ∀ a, (k8_off32 v48_3_r0) a + S1x128x128.size a ≤ S2x128x128.size a) ∧
  (∀ (k8_h1 : k8_cond1 i = 1#1), ∀ (k8_h18 : k8_cond18 i = 1#1), ∀ a, (k8_off34 v48_3_r0) a + S1.size a ≤ S2.size a) ∧
  (∀ (k8_h1 : k8_cond1 i = 1#1), ∀ (k8_h18 : k8_cond18 i = 1#1), ∀ a, (k8_off35 v48_3_r0) a + S1x128x128.size a ≤ S2x128x128.size a)
theorem k8_off32_inb : ∀ (i : grid8.Coords) (v48_3_r0 : BitVec 32) (k8_hw7 : k8_chk7 i v48_3_r0), ∀ (k8_h1 : k8_cond1 i = 1#1), ∀ (k8_h18 : k8_cond18 i = 1#1), ∀ a, (k8_off32 v48_3_r0) a + S1x128x128.size a ≤ S2x128x128.size a := fun i v48_3_r0 k8_hw7 k8_h1 k8_h18 => k8_hw7.1 k8_h1 k8_h18
theorem k8_off34_inb : ∀ (i : grid8.Coords) (v48_3_r0 : BitVec 32) (k8_hw7 : k8_chk7 i v48_3_r0), ∀ (k8_h1 : k8_cond1 i = 1#1), ∀ (k8_h18 : k8_cond18 i = 1#1), ∀ a, (k8_off34 v48_3_r0) a + S1.size a ≤ S2.size a := fun i v48_3_r0 k8_hw7 k8_h1 k8_h18 => k8_hw7.2.1 k8_h1 k8_h18
theorem k8_off35_inb : ∀ (i : grid8.Coords) (v48_3_r0 : BitVec 32) (k8_hw7 : k8_chk7 i v48_3_r0), ∀ (k8_h1 : k8_cond1 i = 1#1), ∀ (k8_h18 : k8_cond18 i = 1#1), ∀ a, (k8_off35 v48_3_r0) a + S1x128x128.size a ≤ S2x128x128.size a := fun i v48_3_r0 k8_hw7 k8_h1 k8_h18 => k8_hw7.2.2 k8_h1 k8_h18

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_11 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_12 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_13 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_14 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S200x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S3200x128 .i32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S200x128 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S128x8 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S8x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S128x128 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S128x256 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S1x256 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev stage9_10 : Fin 1 → Memref sig .tc .vmem S256x128 .f32 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))
abbrev reads9_10 : Fin grid9.rank → Bool := ![false]

abbrev stage9_11 : Fin 1 → Memref sig .tc .vmem S1x128 .f32 := fun | 0 => Memref.whole cc9_stg11_0 | ⟨_ + 1, h⟩ => absurd h (Nat.not_lt.2 (Nat.le_add_left _ _))
abbrev sem9_11 : Fin 1 → DmaSem sig := fun | 0 => cc9_sem11_0 | ⟨_ + 1, h⟩ => absurd h (Nat.not_lt.2 (Nat.le_add_left _ _))
abbrev reads9_11 : Fin grid9.rank → Bool := ![false]

abbrev stage9_12 : Fin 1 → Memref sig .tc .vmem S1x128 .f32 := fun | 0 => Memref.whole cc9_stg12_0 | ⟨_ + 1, h⟩ => absurd h (Nat.not_lt.2 (Nat.le_add_left _ _))
abbrev sem9_12 : Fin 1 → DmaSem sig := fun | 0 => cc9_sem12_0 | ⟨_ + 1, h⟩ => absurd h (Nat.not_lt.2 (Nat.le_add_left _ _))
abbrev reads9_12 : Fin grid9.rank → Bool := ![false]

abbrev stage9_13 : Fin 1 → Memref sig .tc .vmem S1x128 .f32 := fun | 0 => Memref.whole cc9_stg13_0 | ⟨_ + 1, h⟩ => absurd h (Nat.not_lt.2 (Nat.le_add_left _ _))
abbrev sem9_13 : Fin 1 → DmaSem sig := fun | 0 => cc9_sem13_0 | ⟨_ + 1, h⟩ => absurd h (Nat.not_lt.2 (Nat.le_add_left _ _))
abbrev reads9_13 : Fin grid9.rank → Bool := ![false]

abbrev stage9_14 : Fin 2 → Memref sig .tc .vmem S200x128 .f32 := fun | 0 => Memref.whole cc9_stg14_0 | 1 => Memref.whole cc9_stg14_1 | ⟨_ + 2, h⟩ => absurd h (Nat.not_lt.2 (Nat.le_add_left _ _))
abbrev sem9_14 : Fin 2 → DmaSem sig := fun | 0 => cc9_sem14_0 | 1 => cc9_sem14_1 | ⟨_ + 2, h⟩ => absurd h (Nat.not_lt.2 (Nat.le_add_left _ _))
abbrev reads9_14 : Fin grid9.rank → Bool := ![true]

abbrev scKind : Fin 5 → Kind := fun | 0 => .scVector | 1 => .scVector | 2 => .scVector | 3 => .scVector | 4 => .scVector | ⟨_ + 5, h⟩ => absurd h (Nat.not_lt.2 (Nat.le_add_left _ _))
abbrev scNCore : Fin 5 → Nat := fun | 0 => 2 | 1 => 2 | 2 => 2 | 3 => 2 | 4 => 2 | ⟨_ + 5, h⟩ => absurd h (Nat.not_lt.2 (Nat.le_add_left _ _))
abbrev scNSub : Fin 5 → Nat := fun | 0 => 16 | 1 => 16 | 2 => 16 | 3 => 16 | 4 => 16 | ⟨_ + 5, h⟩ => absurd h (Nat.not_lt.2 (Nat.le_add_left _ _))
-- ==== LayerReferenceIdeal.lean ====
abbrev S10000x128 : Shape := ⟨2, ![10000, 128]⟩
abbrev S10240x16 : Shape := ⟨2, ![10240, 16]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S_ : Shape := ⟨0, ![]⟩
abbrev S10000x8x16 : Shape := ⟨3, ![10000, 8, 16]⟩
abbrev S10000x16 : Shape := ⟨2, ![10000, 16]⟩
abbrev S10000x16x1 : Shape := ⟨3, ![10000, 16, 1]⟩
abbrev S10000x16x8x16 : Shape := ⟨4, ![10000, 16, 8, 16]⟩
abbrev S10000x16x8 : Shape := ⟨3, ![10000, 16, 8]⟩
abbrev S10000x8 : Shape := ⟨2, ![10000, 8]⟩
abbrev S10000x1x8 : Shape := ⟨3, ![10000, 1, 8]⟩
abbrev S10000 : Shape := ⟨1, ![10000]⟩
abbrev S10000x1 : Shape := ⟨2, ![10000, 1]⟩
abbrev S1x128 : Shape := ⟨2, ![1, 128]⟩
abbrev S10000x256 : Shape := ⟨2, ![10000, 256]⟩
abbrev S1x256 : Shape := ⟨2, ![1, 256]⟩

abbrev nBuf : Space → Nat
  | .hbm => 176
  | .vmem => 0
  | .smem => 0
  | _ => 0

abbrev hbmTy0_0 (i : Nat) : BufTy := match i % 128 with
  | 0 => ⟨S10000x128, .i32⟩
  | 1 => ⟨S10240x16, .i32⟩
  | 2 => ⟨S10000x128, .f32⟩
  | 3 => ⟨S10000x128, .f32⟩
  | 4 => ⟨S128x128, .f32⟩
  | 5 => ⟨S128, .f32⟩
  | 6 => ⟨S128, .f32⟩
  | 7 => ⟨S128x256, .f32⟩
  | 8 => ⟨S256, .f32⟩
  | 9 => ⟨S256x128, .f32⟩
  | 10 => ⟨S128, .f32⟩
  | 11 => ⟨S128, .f32⟩
  | 12 => ⟨S128, .f32⟩
  | 13 => ⟨S_, .i32⟩
  | 14 => ⟨S10000x128, .i32⟩
  | 15 => ⟨S10000x128, .i32⟩
  | 16 => ⟨S10000x128, .f32⟩
  | 17 => ⟨S10000x8x16, .f32⟩
  | 18 => ⟨S_, .i32⟩
  | 19 => ⟨S10000x128, .i32⟩
  | 20 => ⟨S10000x128, .i32⟩
  | 21 => ⟨S10000x128, .f32⟩
  | 22 => ⟨S10000x8x16, .f32⟩
  | 23 => ⟨S10000x8x16, .f32⟩
  | 24 => ⟨S10000x16, .i32⟩
  | 25 => ⟨S_, .i32⟩
  | 26 => ⟨S10000x16, .i32⟩
  | 27 => ⟨S10000x16, .i1⟩
  | 28 => ⟨S_, .i32⟩
  | 29 => ⟨S10000x16, .i32⟩
  | 30 => ⟨S10000x16, .i32⟩
  | 31 => ⟨S10000x16, .i32⟩
  | 32 => ⟨S10000x16x1, .i32⟩
  | 33 => ⟨S10000x16x8x16, .f32⟩
  | 34 => ⟨S10000x16, .i32⟩
  | 35 => ⟨S_, .i32⟩
  | 36 => ⟨S10000x16, .i32⟩
  | 37 => ⟨S10000x16, .i1⟩
  | 38 => ⟨S_, .i32⟩
  | 39 => ⟨S10000x16, .i32⟩
  | 40 => ⟨S10000x16, .i32⟩
  | 41 => ⟨S10000x16, .i32⟩
  | 42 => ⟨S10000x16x1, .i32⟩
  | 43 => ⟨S10000x16x8x16, .f32⟩
  | 44 => ⟨S10000x8x16, .f32⟩
  | 45 => ⟨S10000x16x8, .f32⟩
  | 46 => ⟨S_, .f32⟩
  | 47 => ⟨S_, .f32⟩
  | 48 => ⟨S10000x16x8, .f32⟩
  | 49 => ⟨S10000x16x8, .f32⟩
  | 50 => ⟨S_, .f32⟩
  | 51 => ⟨S_, .f32⟩
  | 52 => ⟨S_, .f32⟩
  | 53 => ⟨S10000x16x8, .f32⟩
  | 54 => ⟨S10000x16x8, .f32⟩
  | 55 => ⟨S_, .f32⟩
  | 56 => ⟨S10000x16x8, .f32⟩
  | 57 => ⟨S10000x16x8, .f32⟩
  | 58 => ⟨S_, .f32⟩
  | 59 => ⟨S10000x8, .f32⟩
  | 60 => ⟨S_, .f32⟩
  | 61 => ⟨S10000x8, .f32⟩
  | 62 => ⟨S10000x8, .f32⟩
  | 63 => ⟨S10000x1x8, .f32⟩
  | 64 => ⟨S10000x16x8, .f32⟩
  | 65 => ⟨S10000x16x8, .f32⟩
  | 66 => ⟨S10000x16x8, .f32⟩
  | 67 => ⟨S_, .f32⟩
  | 68 => ⟨S10000x8, .f32⟩
  | 69 => ⟨S10000x1x8, .f32⟩
  | 70 => ⟨S10000x16x8, .f32⟩
  | 71 => ⟨S10000x16x8, .f32⟩
  | 72 => ⟨S10000x8x16, .f32⟩
  | 73 => ⟨S10000x128, .f32⟩
  | 74 => ⟨S10000x128, .f32⟩
  | 75 => ⟨S10000x128, .f32⟩
  | 76 => ⟨S_, .f32⟩
  | 77 => ⟨S10000, .f32⟩
  | 78 => ⟨S10000x1, .f32⟩
  | 79 => ⟨S_, .f32⟩
  | 80 => ⟨S10000x1, .f32⟩
  | 81 => ⟨S10000x1, .f32⟩
  | 82 => ⟨S_, .i32⟩
  | 83 => ⟨S_, .f32⟩
  | 84 => ⟨S10000, .f32⟩
  | 85 => ⟨S10000x1, .f32⟩
  | 86 => ⟨S_, .f32⟩
  | 87 => ⟨S10000x1, .f32⟩
  | 88 => ⟨S10000x1, .f32⟩
  | 89 => ⟨S10000x128, .f32⟩
  | 90 => ⟨S10000x128, .f32⟩
  | 91 => ⟨S10000x128, .f32⟩
  | 92 => ⟨S_, .f32⟩
  | 93 => ⟨S_, .f32⟩
  | 94 => ⟨S_, .f32⟩
  | 95 => ⟨S_, .f32⟩
  | 96 => ⟨S10000, .f32⟩
  | 97 => ⟨S10000x1, .f32⟩
  | 98 => ⟨S10000x1, .f32⟩
  | 99 => ⟨S10000x1, .f32⟩
  | 100 => ⟨S_, .f32⟩
  | 101 => ⟨S_, .i1⟩
  | 102 => ⟨S_, .f32⟩
  | 103 => ⟨S_, .f32⟩
  | 104 => ⟨S10000x1, .f32⟩
  | 105 => ⟨S10000x1, .f32⟩
  | 106 => ⟨S10000x128, .f32⟩
  | 107 => ⟨S10000x128, .f32⟩
  | 108 => ⟨S_, .f32⟩
  | 109 => ⟨S10000x1, .f32⟩
  | 110 => ⟨S10000x1, .f32⟩
  | 111 => ⟨S10000x1, .f32⟩
  | 112 => ⟨S10000x128, .f32⟩
  | 113 => ⟨S10000x128, .f32⟩
  | 114 => ⟨S1x128, .f32⟩
  | 115 => ⟨S10000x128, .f32⟩
  | 116 => ⟨S10000x128, .f32⟩
  | 117 => ⟨S1x128, .f32⟩
  | 118 => ⟨S10000x128, .f32⟩
  | 119 => ⟨S10000x128, .f32⟩
  | 120 => ⟨S10000x256, .f32⟩
  | 121 => ⟨S1x256, .f32⟩
  | 122 => ⟨S10000x256, .f32⟩
  | 123 => ⟨S10000x256, .f32⟩
  | 124 => ⟨S_, .f32⟩
  | 125 => ⟨S10000x256, .f32⟩
  | 126 => ⟨S10000x256, .f32⟩
  | 127 => ⟨S10000x128, .f32⟩
  | _ => ⟨S10000x128, .i32⟩

abbrev hbmTy0_1 (i : Nat) : BufTy := match i % 128 with
  | 0 => ⟨S1x128, .f32⟩
  | 1 => ⟨S10000x128, .f32⟩
  | 2 => ⟨S10000x128, .f32⟩
  | 3 => ⟨S10000x128, .f32⟩
  | 4 => ⟨S_, .f32⟩
  | 5 => ⟨S10000, .f32⟩
  | 6 => ⟨S10000x1, .f32⟩
  | 7 => ⟨S_, .f32⟩
  | 8 => ⟨S10000x1, .f32⟩
  | 9 => ⟨S10000x1, .f32⟩
  | 10 => ⟨S_, .i32⟩
  | 11 => ⟨S_, .f32⟩
  | 12 => ⟨S10000, .f32⟩
  | 13 => ⟨S10000x1, .f32⟩
  | 14 => ⟨S_, .f32⟩
  | 15 => ⟨S10000x1, .f32⟩
  | 16 => ⟨S10000x1, .f32⟩
  | 17 => ⟨S10000x128, .f32⟩
  | 18 => ⟨S10000x128, .f32⟩
  | 19 => ⟨S10000x128, .f32⟩
  | 20 => ⟨S_, .f32⟩
  | 21 => ⟨S_, .f32⟩
  | 22 => ⟨S_, .f32⟩
  | 23 => ⟨S_, .f32⟩
  | 24 => ⟨S10000, .f32⟩
  | 25 => ⟨S10000x1, .f32⟩
  | 26 => ⟨S10000x1, .f32⟩
  | 27 => ⟨S10000x1, .f32⟩
  | 28 => ⟨S_, .f32⟩
  | 29 => ⟨S_, .i1⟩
  | 30 => ⟨S_, .f32⟩
  | 31 => ⟨S_, .f32⟩
  | 32 => ⟨S10000x1, .f32⟩
  | 33 => ⟨S10000x1, .f32⟩
  | 34 => ⟨S10000x128, .f32⟩
  | 35 => ⟨S10000x128, .f32⟩
  | 36 => ⟨S_, .f32⟩
  | 37 => ⟨S10000x1, .f32⟩
  | 38 => ⟨S10000x1, .f32⟩
  | 39 => ⟨S10000x1, .f32⟩
  | 40 => ⟨S10000x128, .f32⟩
  | 41 => ⟨S10000x128, .f32⟩
  | 42 => ⟨S1x128, .f32⟩
  | 43 => ⟨S10000x128, .f32⟩
  | 44 => ⟨S10000x128, .f32⟩
  | 45 => ⟨S1x128, .f32⟩
  | 46 => ⟨S10000x128, .f32⟩
  | 47 => ⟨S10000x128, .f32⟩
  | _ => ⟨S10000x128, .i32⟩

abbrev hbmTy (i : Nat) : BufTy := match i / 128 with
  | 0 => hbmTy0_0 i
  | 1 => hbmTy0_1 i
  | _ => ⟨S10000x128, .i32⟩

abbrev bufTy : (tb : Table) → Fin (tcTables nBuf tb) → BufTy
  | .hbm, ⟨i, _⟩ => hbmTy i
  | _, _ => ⟨S10000x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_cst_6 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v30 : Ref sig .tc := ⟨.hbm, 57, rfl⟩
abbrev main_cst_7 : Ref sig .tc := ⟨.hbm, 58, rfl⟩
abbrev main_v31 : Ref sig .tc := ⟨.hbm, 59, rfl⟩
abbrev main_cst_8 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_9 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_v49 : Ref sig .tc := ⟨.hbm, 81, rfl⟩
abbrev main_c_12 : Ref sig .tc := ⟨.hbm, 82, rfl⟩
abbrev main_call1_cst : Ref sig .tc := ⟨.hbm, 83, rfl⟩
abbrev main_call1_v0 : Ref sig .tc := ⟨.hbm, 84, rfl⟩
abbrev main_call1_v1 : Ref sig .tc := ⟨.hbm, 85, rfl⟩
abbrev main_call1_cst_0 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_cst_1 : Ref sig .tc := ⟨.hbm, 93, rfl⟩
abbrev main_call1_v8 : Ref sig .tc := ⟨.hbm, 94, rfl⟩
abbrev main_call1_cst_2 : Ref sig .tc := ⟨.hbm, 95, rfl⟩
abbrev main_call1_v9 : Ref sig .tc := ⟨.hbm, 96, rfl⟩
abbrev main_call1_v10 : Ref sig .tc := ⟨.hbm, 97, rfl⟩
abbrev main_call1_v11 : Ref sig .tc := ⟨.hbm, 98, rfl⟩
abbrev main_call1_v12 : Ref sig .tc := ⟨.hbm, 99, rfl⟩
abbrev main_call1_cst_3 : Ref sig .tc := ⟨.hbm, 100, rfl⟩
abbrev main_call1_v13 : Ref sig .tc := ⟨.hbm, 101, rfl⟩
abbrev main_call1_cst_4 : Ref sig .tc := ⟨.hbm, 102, rfl⟩
abbrev main_call1_call0_v0 : Ref sig .tc := ⟨.hbm, 103, rfl⟩
abbrev main_call1_call0_v1 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_cst_13 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_call2_cst : Ref sig .tc := ⟨.hbm, 124, rfl⟩
abbrev main_call2_v0 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_cst_14 : Ref sig .tc := ⟨.hbm, 132, rfl⟩
abbrev main_v74 : Ref sig .tc := ⟨.hbm, 133, rfl⟩
abbrev main_v75 : Ref sig .tc := ⟨.hbm, 134, rfl⟩
abbrev main_cst_15 : Ref sig .tc := ⟨.hbm, 135, rfl⟩
abbrev main_v76 : Ref sig .tc := ⟨.hbm, 136, rfl⟩
abbrev main_v77 : Ref sig .tc := ⟨.hbm, 137, rfl⟩
abbrev main_c_16 : Ref sig .tc := ⟨.hbm, 138, rfl⟩
abbrev main_call3_cst : Ref sig .tc := ⟨.hbm, 139, rfl⟩
abbrev main_call3_v0 : Ref sig .tc := ⟨.hbm, 140, rfl⟩
abbrev main_call3_v1 : Ref sig .tc := ⟨.hbm, 141, rfl⟩
abbrev main_call3_cst_0 : Ref sig .tc := ⟨.hbm, 142, rfl⟩
abbrev main_call3_v2 : Ref sig .tc := ⟨.hbm, 143, rfl⟩
abbrev main_call3_v3 : Ref sig .tc := ⟨.hbm, 144, rfl⟩
abbrev main_call3_v4 : Ref sig .tc := ⟨.hbm, 145, rfl⟩
abbrev main_call3_v5 : Ref sig .tc := ⟨.hbm, 146, rfl⟩
abbrev main_call3_v6 : Ref sig .tc := ⟨.hbm, 147, rfl⟩
abbrev main_call3_v7 : Ref sig .tc := ⟨.hbm, 148, rfl⟩
abbrev main_call3_cst_1 : Ref sig .tc := ⟨.hbm, 149, rfl⟩
abbrev main_call3_v8 : Ref sig .tc := ⟨.hbm, 150, rfl⟩
abbrev main_call3_cst_2 : Ref sig .tc := ⟨.hbm, 151, rfl⟩
abbrev main_call3_v9 : Ref sig .tc := ⟨.hbm, 152, rfl⟩
abbrev main_call3_v10 : Ref sig .tc := ⟨.hbm, 153, rfl⟩
abbrev main_call3_v11 : Ref sig .tc := ⟨.hbm, 154, rfl⟩
abbrev main_call3_v12 : Ref sig .tc := ⟨.hbm, 155, rfl⟩
abbrev main_call3_cst_3 : Ref sig .tc := ⟨.hbm, 156, rfl⟩
abbrev main_call3_v13 : Ref sig .tc := ⟨.hbm, 157, rfl⟩
abbrev main_call3_cst_4 : Ref sig .tc := ⟨.hbm, 158, rfl⟩
abbrev main_call3_call0_v0 : Ref sig .tc := ⟨.hbm, 159, rfl⟩
abbrev main_call3_call0_v1 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_cst_17 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_v87 : Ref sig .tc := ⟨.hbm, 171, rfl⟩
abbrev main_v88 : Ref sig .tc := ⟨.hbm, 172, rfl⟩
abbrev main_v89 : Ref sig .tc := ⟨.hbm, 173, rfl⟩
abbrev main_v90 : Ref sig .tc := ⟨.hbm, 174, rfl⟩
abbrev main_v91 : Ref sig .tc := ⟨.hbm, 175, rfl⟩

abbrev nD : Nat := 1
abbrev τ : Topo := Topo.v7x

variable {F : FTy → Type} [FloatOps F]
-- ==== Kernel.lean ====
abbrev S10000x128 : Shape := ⟨2, ![10000, 128]⟩
abbrev S10240x16 : Shape := ⟨2, ![10240, 16]⟩
abbrev S1x163840 : Shape := ⟨2, ![1, 163840]⟩
abbrev S1x32000 : Shape := ⟨2, ![1, 32000]⟩
abbrev S32000x128 : Shape := ⟨2, ![32000, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S160000x128 : Shape := ⟨2, ![160000, 128]⟩

abbrev nBuf : Table → Nat
  | .hbm => 14
  | .local .scVector .vmem => 10
  | _ => 0

abbrev bufTy : (tb : Table) → Fin (nBuf tb) → BufTy
  | .hbm, ⟨0, _⟩ => ⟨S10000x128, .i32⟩
  | .hbm, ⟨1, _⟩ => ⟨S10240x16, .i32⟩
  | .hbm, ⟨2, _⟩ => ⟨S1x163840, .i32⟩
  | .hbm, ⟨3, _⟩ => ⟨S1x32000, .i32⟩
  | .hbm, ⟨4, _⟩ => ⟨S32000x128, .i32⟩
  | .hbm, ⟨5, _⟩ => ⟨S1x32000, .i32⟩
  | .hbm, ⟨6, _⟩ => ⟨S32000x128, .i32⟩
  | .hbm, ⟨7, _⟩ => ⟨S1x32000, .i32⟩
  | .hbm, ⟨8, _⟩ => ⟨S32000x128, .i32⟩
  | .hbm, ⟨9, _⟩ => ⟨S1x32000, .i32⟩
  | .hbm, ⟨10, _⟩ => ⟨S32000x128, .i32⟩
  | .hbm, ⟨11, _⟩ => ⟨S1x32000, .i32⟩
  | .hbm, ⟨12, _⟩ => ⟨S32000x128, .i32⟩
  | .hbm, ⟨13, _⟩ => ⟨S160000x128, .i32⟩
  | .local .scVector .vmem, ⟨0, _⟩ => ⟨S2x1x128, .i32⟩
  | .local .scVector .vmem, ⟨1, _⟩ => ⟨S2x128x128, .i32⟩
  | .local .scVector .vmem, ⟨2, _⟩ => ⟨S2x1x128, .i32⟩
  | .local .scVector .vmem, ⟨3, _⟩ => ⟨S2x128x128, .i32⟩
  | .local .scVector .vmem, ⟨4, _⟩ => ⟨S2x1x128, .i32⟩
  | .local .scVector .vmem, ⟨5, _⟩ => ⟨S2x128x128, .i32⟩
  | .local .scVector .vmem, ⟨6, _⟩ => ⟨S2x1x128, .i32⟩
  | .local .scVector .vmem, ⟨7, _⟩ => ⟨S2x128x128, .i32⟩
  | .local .scVector .vmem, ⟨8, _⟩ => ⟨S2x1x128, .i32⟩
  | .local .scVector .vmem, ⟨9, _⟩ => ⟨S2x128x128, .i32⟩
  | _, _ => ⟨S10000x128, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev main_v3_scv : Ref sig .scVector := ⟨.hbm, 5, rfl⟩
abbrev main_v4_scv : Ref sig .scVector := ⟨.hbm, 6, rfl⟩
abbrev main_v5_scv : Ref sig .scVector := ⟨.hbm, 7, rfl⟩
abbrev main_v6_scv : Ref sig .scVector := ⟨.hbm, 8, rfl⟩
abbrev main_v7_scv : Ref sig .scVector := ⟨.hbm, 9, rfl⟩
abbrev main_v8_scv : Ref sig .scVector := ⟨.hbm, 10, rfl⟩
abbrev main_v9_scv : Ref sig .scVector := ⟨.hbm, 11, rfl⟩
abbrev main_v10_scv : Ref sig .scVector := ⟨.hbm, 12, rfl⟩
abbrev cc0_scoped0 : Ref sig .scVector := ⟨.vmem, 0, rfl⟩
abbrev cc0_scoped2 : Ref sig .scVector := ⟨.vmem, 1, rfl⟩
abbrev cc1_scoped0 : Ref sig .scVector := ⟨.vmem, 2, rfl⟩
abbrev cc1_scoped2 : Ref sig .scVector := ⟨.vmem, 3, rfl⟩
abbrev cc2_scoped0 : Ref sig .scVector := ⟨.vmem, 4, rfl⟩
abbrev cc2_scoped2 : Ref sig .scVector := ⟨.vmem, 5, rfl⟩
abbrev cc3_scoped0 : Ref sig .scVector := ⟨.vmem, 6, rfl⟩
abbrev cc3_scoped2 : Ref sig .scVector := ⟨.vmem, 7, rfl⟩
abbrev cc4_scoped0 : Ref sig .scVector := ⟨.vmem, 8, rfl⟩
abbrev cc4_scoped2 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k0_cond2 (i : grid0.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k0_off1 : Fin 3 → Nat :=
  let c0_i32_24_r0 : BitVec 32 := 0#32
  let c2_i32_r0 : BitVec 32 := 2#32
  let v80_r0 : BitVec 32 := Scalar.remui c0_i32_24_r0 c2_i32_r0
  let c0_i32_57_r0 : BitVec 32 := 0#32
  let c0_i32_58_r0 : BitVec 32 := 0#32
  ![v80_r0.toNat, 0, 0]
def k0_off2 (i : grid0.Coords) : Fin 2 → Nat :=
  let c0_i32_59_r0 : BitVec 32 := 0#32
  let c128_i32_r0 : BitVec 32 := 128#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v20_r0 : BitVec 32 := Scalar.addi c0_i32_10_r0 v10
  let v81_r0 : BitVec 32 := Scalar.muli c128_i32_r0 v20_r0
  ![0, v81_r0.toNat]
def k0_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k0_t1_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k0_off4 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off5 (i : grid0.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v93_r0 : BitVec 1 := Scalar.cmpi .eq v92_r0 v5
  let c0_i32_66_r0 : BitVec 32 := 0#32
  let v94_r0 : BitVec 32 := Scalar.select v93_r0 c0_i32_66_r0 v92_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k0_off6 (arg6_r0 : BitVec 32) : Fin 1 → Nat :=
  let c2_i32_101_r0 : BitVec 32 := 2#32
  let v167_r0 : BitVec 32 := Scalar.remui arg6_r0 c2_i32_101_r0
  ![v167_r0.toNat]
def k0_off7 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off8 (i : grid0.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k0_off9 (arg7_r0 : BitVec 32) : Fin 1 → Nat :=
  let c2_i32_101_r0 : BitVec 32 := 2#32
  let v168_r0 : BitVec 32 := Scalar.remui arg7_r0 c2_i32_101_r0
  ![v168_r0.toNat]
def k0_off10 (arg8_r0 : BitVec 32) : Fin 3 → Nat :=
  let c2_i32_84_r0 : BitVec 32 := 2#32
  let v132_r0 : BitVec 32 := Scalar.remui arg8_r0 c2_i32_84_r0
  let c0_i32_101_r1 : BitVec 32 := 0#32
  let c0_i32_102_r1 : BitVec 32 := 0#32
  ![v132_r0.toNat, 0, 0]

def k0_chk2 (i : grid0.Coords) (arg8_r0 : BitVec 32) : Prop :=
  (∀ (k0_h1 : k0_cond1 i = 1#1), ∀ a, (k0_off10 arg8_r0) a + S1x128x128.size a ≤ S2x128x128.size a)
theorem k0_off10_inb : ∀ (i : grid0.Coords) (arg8_r0 : BitVec 32) (k0_hw2 : k0_chk2 i arg8_r0), ∀ (k0_h1 : k0_cond1 i = 1#1), ∀ a, (k0_off10 arg8_r0) a + S1x128x128.size a ≤ S2x128x128.size a := fun i arg8_r0 k0_hw2 k0_h1 => k0_hw2 k0_h1

def k0_off11 (arg7_r0 : BitVec 32) : Fin 3 → Nat :=
  let c2_i32_83_r0 : BitVec 32 := 2#32
  let v131_r0 : BitVec 32 := Scalar.remui arg7_r0 c2_i32_83_r0
  let c0_i32_103_r1 : BitVec 32 := 0#32
  let c0_i32_104_r1 : BitVec 32 := 0#32
  ![v131_r0.toNat, 0, 0]

def k0_chk3 (i : grid0.Coords) (arg7_r0 : BitVec 32) : Prop :=
  (∀ (k0_h1 : k0_cond1 i = 1#1), ∀ a, (k0_off11 arg7_r0) a + S1x1x128.size a ≤ S2x1x128.size a)
theorem k0_off11_inb : ∀ (i : grid0.Coords) (arg7_r0 : BitVec 32) (k0_hw3 : k0_chk3 i arg7_r0), ∀ (k0_h1 : k0_cond1 i = 1#1), ∀ a, (k0_off11 arg7_r0) a + S1x1x128.size a ≤ S2x1x128.size a := fun i arg7_r0 k0_hw3 k0_h1 => k0_hw3 k0_h1

def k0_off12 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k0_off13 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k0_off14 (arg8_r0 : BitVec 32) : Fin 1 → Nat :=
  let c2_i32_101_r0 : BitVec 32 := 2#32
  let v167_r0 : BitVec 32 := Scalar.remui arg8_r0 c2_i32_101_r0
  ![v167_r0.toNat]
def k0_off15 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k0_off16 (i : grid0.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_63_r0 : BitVec 32 := 1#32
  let v88_r0 : BitVec 32 := Scalar.subi v5 c1_i32_63_r0
  let v89_r0 : BitVec 32 := Scalar.select v87_r0 v88_r0 v86_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k0_off17 (arg9_r0 : BitVec 32) : Fin 1 → Nat :=
  let c2_i32_101_r0 : BitVec 32 := 2#32
  let v167_r0 : BitVec 32 := Scalar.remui arg9_r0 c2_i32_101_r0
  ![v167_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x128.size a ≤ S2x1x128.size a) ∧
  (∀ (k0_h1 : k0_cond1 i = 1#1), ∀ (k0_h3 : k0_cond3 i k0_t1 arg10_r0 = 1#1), ∀ a, (k0_off5 i arg10_r0) a + S1x128.size a ≤ S1x32000.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x128.size a ≤ S2x1x128.size a) ∧
  (∀ (k0_h1 : k0_cond1 i = 1#1), ∀ (k0_h4 : k0_cond4 i k0_t1 arg10_r0 = 1#1), ∀ a, (k0_off8 i arg10_r0) a + S1x128.size a ≤ S1x32000.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x128x128.size a ≤ S2x128x128.size a) ∧
  (∀ (k0_h1 : k0_cond1 i = 1#1), ∀ (k0_h7 : k0_cond7 i k0_t1 arg10_r0 = 1#1), ∀ a, (k0_off13 i arg10_r0) a + S128x128.size a ≤ S32000x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x128x128.size a ≤ S2x128x128.size a) ∧
  (∀ (k0_h1 : k0_cond1 i = 1#1), ∀ (k0_h9 : k0_cond9 i k0_t1 arg10_r0 = 1#1), ∀ a, (k0_off16 i arg10_r0) a + S128x128.size a ≤ S32000x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x128.size a ≤ S2x1x128.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x128.size a ≤ S1x32000.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x128.size a ≤ S2x1x128.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x128.size a ≤ S1x32000.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x128x128.size a ≤ S2x128x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S128x128.size a ≤ S32000x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x128x128.size a ≤ S2x128x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S128x128.size a ≤ S32000x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k0_off18 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off19 (i : grid0.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v93_r0 : BitVec 1 := Scalar.cmpi .eq v92_r0 v5
  let c0_i32_66_r0 : BitVec 32 := 0#32
  let v94_r0 : BitVec 32 := Scalar.select v93_r0 c0_i32_66_r0 v92_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k0_off20 (arg6_r0 : BitVec 32) : Fin 1 → Nat :=
  let c2_i32_101_r0 : BitVec 32 := 2#32
  let v167_r0 : BitVec 32 := Scalar.remui arg6_r0 c2_i32_101_r0
  ![v167_r0.toNat]
def k0_off21 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off22 (i : grid0.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k0_off23 (arg7_r0 : BitVec 32) : Fin 1 → Nat :=
  let c2_i32_101_r0 : BitVec 32 := 2#32
  let v168_r0 : BitVec 32 := Scalar.remui arg7_r0 c2_i32_101_r0
  ![v168_r0.toNat]
def k0_off24 (arg8_r0 : BitVec 32) : Fin 3 → Nat :=
  let c2_i32_84_r0 : BitVec 32 := 2#32
  let v132_r0 : BitVec 32 := Scalar.remui arg8_r0 c2_i32_84_r0
  let c0_i32_101_r2 : BitVec 32 := 0#32
  let c0_i32_102_r2 : BitVec 32 := 0#32
  ![v132_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x128x128.size a ≤ S2x128x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x128x128.size a ≤ S2x128x128.size a := fun i k0_t2 arg8_r0 k0_hw5 k0_h1 => k0_hw5 k0_h1

def k0_off25 (arg7_r0 : BitVec 32) : Fin 3 → Nat :=
  let c2_i32_83_r0 : BitVec 32 := 2#32
  let v131_r0 : BitVec 32 := Scalar.remui arg7_r0 c2_i32_83_r0
  let c0_i32_103_r2 : BitVec 32 := 0#32
  let c0_i32_104_r2 : BitVec 32 := 0#32
  ![v131_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x128.size a ≤ S2x1x128.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x128.size a ≤ S2x1x128.size a := fun i k0_t2 arg7_r0 k0_hw6 k0_h1 => k0_hw6 k0_h1

def k0_off26 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k0_off27 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k0_off28 (arg8_r0 : BitVec 32) : Fin 1 → Nat :=
  let c2_i32_101_r0 : BitVec 32 := 2#32
  let v167_r0 : BitVec 32 := Scalar.remui arg8_r0 c2_i32_101_r0
  ![v167_r0.toNat]
def k0_off29 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k0_off30 (i : grid0.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_63_r0 : BitVec 32 := 1#32
  let v88_r0 : BitVec 32 := Scalar.subi v5 c1_i32_63_r0
  let v89_r0 : BitVec 32 := Scalar.select v87_r0 v88_r0 v86_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k0_off31 (arg9_r0 : BitVec 32) : Fin 1 → Nat :=
  let c2_i32_101_r0 : BitVec 32 := 2#32
  let v167_r0 : BitVec 32 := Scalar.remui arg9_r0 c2_i32_101_r0
  ![v167_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x128.size a ≤ S2x1x128.size a) ∧
  (∀ (k0_h1 : k0_cond1 i = 1#1), ∀ (k0_h10 : k0_cond10 i k0_t2 arg10_r0 = 1#1), ∀ a, (k0_off19 i arg10_r0) a + S1x128.size a ≤ S1x32000.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x128.size a ≤ S2x1x128.size a) ∧
  (∀ (k0_h1 : k0_cond1 i = 1#1), ∀ (k0_h11 : k0_cond11 i k0_t2 arg10_r0 = 1#1), ∀ a, (k0_off22 i arg10_r0) a + S1x128.size a ≤ S1x32000.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x128x128.size a ≤ S2x128x128.size a) ∧
  (∀ (k0_h1 : k0_cond1 i = 1#1), ∀ (k0_h14 : k0_cond14 i k0_t2 arg10_r0 = 1#1), ∀ a, (k0_off27 i arg10_r0) a + S128x128.size a ≤ S32000x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x128x128.size a ≤ S2x128x128.size a) ∧
  (∀ (k0_h1 : k0_cond1 i = 1#1), ∀ (k0_h16 : k0_cond16 i k0_t2 arg10_r0 = 1#1), ∀ a, (k0_off30 i arg10_r0) a + S128x128.size a ≤ S32000x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x128.size a ≤ S2x1x128.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x128.size a ≤ S1x32000.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x128.size a ≤ S2x1x128.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x128.size a ≤ S1x32000.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x128x128.size a ≤ S2x128x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S128x128.size a ≤ S32000x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x128x128.size a ≤ S2x128x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S128x128.size a ≤ S32000x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k0_off32 (v48_3_r0 : BitVec 32) : Fin 3 → Nat :=
  let c2_i32_r0 : BitVec 32 := 2#32
  let v80_r0 : BitVec 32 := Scalar.remui v48_3_r0 c2_i32_r0
  let c0_i32_57_r0 : BitVec 32 := 0#32
  let c0_i32_58_r0 : BitVec 32 := 0#32
  ![v80_r0.toNat, 0, 0]

def k0_off33 (i : grid0.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_40_r0 : BitVec 32 := 1#32
  let v52_r0 : BitVec 32 := Scalar.subi v5 c1_i32_40_r0
  let v53_r0 : BitVec 32 := Scalar.select v51_r0 v52_r0 v50_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v59_r0 : BitVec 32 := Scalar.addi v53_r0 v10
  let v81_r0 : BitVec 32 := Scalar.muli c128_i32_r0 v59_r0
  let c0_i32_59_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S128x128.size a ≤ S32000x128.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S128x128.size a ≤ S32000x128.size a := fun i v48_4_r0 k0_hw8 k0_h1 k0_h18 => k0_hw8 k0_h1 k0_h18

def k0_off34 (v48_3_r0 : BitVec 32) : Fin 1 → Nat :=
  let c2_i32_r0 : BitVec 32 := 2#32
  let v80_r0 : BitVec 32 := Scalar.remui v48_3_r0 c2_i32_r0
  ![v80_r0.toNat]
def k0_off35 (v48_3_r0 : BitVec 32) : Fin 3 → Nat :=
  let c2_i32_r0 : BitVec 32 := 2#32
  let v80_r0 : BitVec 32 := Scalar.remui v48_3_r0 c2_i32_r0
  let c0_i32_61_r0 : BitVec 32 := 0#32
  let c0_i32_62_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x128x128.size a ≤ S2x128x128.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x128x128.size a ≤ S2x128x128.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x128x128.size a ≤ S2x128x128.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x128x128.size a ≤ S2x128x128.size a := fun i v48_3_r0 k0_hw7 k0_h1 k0_h18 => k0_hw7.2.2 k0_h1 k0_h18

abbrev grid1 : Pipeline.Grid := ⟨2, ![2, 16], ![false, false]⟩

def k1_cond1 (i : grid1.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k1_cond2 (i : grid1.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k1_off1 : Fin 3 → Nat :=
  let c0_i32_24_r0 : BitVec 32 := 0#32
  let c2_i32_r0 : BitVec 32 := 2#32
  let v80_r0 : BitVec 32 := Scalar.remui c0_i32_24_r0 c2_i32_r0
  let c0_i32_57_r0 : BitVec 32 := 0#32
  let c0_i32_58_r0 : BitVec 32 := 0#32
  ![v80_r0.toNat, 0, 0]
def k1_off2 (i : grid1.Coords) : Fin 2 → Nat :=
  let c0_i32_59_r0 : BitVec 32 := 0#32
  let c128_i32_r0 : BitVec 32 := 128#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v20_r0 : BitVec 32 := Scalar.addi c0_i32_10_r0 v10
  let v81_r0 : BitVec 32 := Scalar.muli c128_i32_r0 v20_r0
  ![0, v81_r0.toNat]
def k1_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k1_t1_loop (i : grid1.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k1_off4 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k1_cond3 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k1_t1
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k1_off5 (i : grid1.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v93_r0 : BitVec 1 := Scalar.cmpi .eq v92_r0 v5
  let c0_i32_66_r0 : BitVec 32 := 0#32
  let v94_r0 : BitVec 32 := Scalar.select v93_r0 c0_i32_66_r0 v92_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k1_off6 (arg6_r0 : BitVec 32) : Fin 1 → Nat :=
  let c2_i32_101_r0 : BitVec 32 := 2#32
  let v167_r0 : BitVec 32 := Scalar.remui arg6_r0 c2_i32_101_r0
  ![v167_r0.toNat]
def k1_off7 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k1_cond4 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k1_t1
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k1_off8 (i : grid1.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k1_off9 (arg7_r0 : BitVec 32) : Fin 1 → Nat :=
  let c2_i32_101_r0 : BitVec 32 := 2#32
  let v168_r0 : BitVec 32 := Scalar.remui arg7_r0 c2_i32_101_r0
  ![v168_r0.toNat]
def k1_off10 (arg8_r0 : BitVec 32) : Fin 3 → Nat :=
  let c2_i32_84_r0 : BitVec 32 := 2#32
  let v132_r0 : BitVec 32 := Scalar.remui arg8_r0 c2_i32_84_r0
  let c0_i32_101_r1 : BitVec 32 := 0#32
  let c0_i32_102_r1 : BitVec 32 := 0#32
  ![v132_r0.toNat, 0, 0]

def k1_chk2 (i : grid1.Coords) (arg8_r0 : BitVec 32) : Prop :=
  (∀ (k1_h1 : k1_cond1 i = 1#1), ∀ a, (k1_off10 arg8_r0) a + S1x128x128.size a ≤ S2x128x128.size a)
theorem k1_off10_inb : ∀ (i : grid1.Coords) (arg8_r0 : BitVec 32) (k1_hw2 : k1_chk2 i arg8_r0), ∀ (k1_h1 : k1_cond1 i = 1#1), ∀ a, (k1_off10 arg8_r0) a + S1x128x128.size a ≤ S2x128x128.size a := fun i arg8_r0 k1_hw2 k1_h1 => k1_hw2 k1_h1

def k1_off11 (arg7_r0 : BitVec 32) : Fin 3 → Nat :=
  let c2_i32_83_r0 : BitVec 32 := 2#32
  let v131_r0 : BitVec 32 := Scalar.remui arg7_r0 c2_i32_83_r0
  let c0_i32_103_r1 : BitVec 32 := 0#32
  let c0_i32_104_r1 : BitVec 32 := 0#32
  ![v131_r0.toNat, 0, 0]

def k1_chk3 (i : grid1.Coords) (arg7_r0 : BitVec 32) : Prop :=
  (∀ (k1_h1 : k1_cond1 i = 1#1), ∀ a, (k1_off11 arg7_r0) a + S1x1x128.size a ≤ S2x1x128.size a)
theorem k1_off11_inb : ∀ (i : grid1.Coords) (arg7_r0 : BitVec 32) (k1_hw3 : k1_chk3 i arg7_r0), ∀ (k1_h1 : k1_cond1 i = 1#1), ∀ a, (k1_off11 arg7_r0) a + S1x1x128.size a ≤ S2x1x128.size a := fun i arg7_r0 k1_hw3 k1_h1 => k1_hw3 k1_h1

def k1_off12 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k1_cond7 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k1_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k1_off13 (i : grid1.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k1_off14 (arg8_r0 : BitVec 32) : Fin 1 → Nat :=
  let c2_i32_101_r0 : BitVec 32 := 2#32
  let v167_r0 : BitVec 32 := Scalar.remui arg8_r0 c2_i32_101_r0
  ![v167_r0.toNat]
def k1_off15 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k1_cond9 (i : grid1.Coords) (k1_t1 : Fin (k1_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k1_t1
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k1_off16 (i : grid1.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_63_r0 : BitVec 32 := 1#32
  let v88_r0 : BitVec 32 := Scalar.subi v5 c1_i32_63_r0
  let v89_r0 : BitVec 32 := Scalar.select v87_r0 v88_r0 v86_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k1_off17 (arg9_r0 : BitVec 32) : Fin 1 → Nat :=
  let c2_i32_101_r0 : BitVec 32 := 2#32
  let v167_r0 : BitVec 32 := Scalar.remui arg9_r0 c2_i32_101_r0
  ![v167_r0.toNat]

def k1_chk1 (i : grid1.Coords) (k1_t1 : Fin (k1_t1_loop i).trips) (arg6_r0 : BitVec 32) (arg7_r0 : BitVec 32) (arg8_r0 : BitVec 32) (arg9_r0 : BitVec 32) (arg10_r0 : BitVec 32) : Prop :=
  (∀ (k1_h1 : k1_cond1 i = 1#1), ∀ (k1_h3 : k1_cond3 i k1_t1 arg10_r0 = 1#1), ∀ a, (k1_off4 arg6_r0) a + S1x1x128.size a ≤ S2x1x128.size a) ∧
  (∀ (k1_h1 : k1_cond1 i = 1#1), ∀ (k1_h3 : k1_cond3 i k1_t1 arg10_r0 = 1#1), ∀ a, (k1_off5 i arg10_r0) a + S1x128.size a ≤ S1x32000.size a) ∧
  (∀ (k1_h1 : k1_cond1 i = 1#1), ∀ (k1_h3 : k1_cond3 i k1_t1 arg10_r0 = 1#1), ∀ a, (k1_off6 arg6_r0) a + S1.size a ≤ S2.size a) ∧
  (∀ (k1_h1 : k1_cond1 i = 1#1), ∀ (k1_h4 : k1_cond4 i k1_t1 arg10_r0 = 1#1), ∀ a, (k1_off7 arg7_r0) a + S1x1x128.size a ≤ S2x1x128.size a) ∧
  (∀ (k1_h1 : k1_cond1 i = 1#1), ∀ (k1_h4 : k1_cond4 i k1_t1 arg10_r0 = 1#1), ∀ a, (k1_off8 i arg10_r0) a + S1x128.size a ≤ S1x32000.size a) ∧
  (∀ (k1_h1 : k1_cond1 i = 1#1), ∀ (k1_h4 : k1_cond4 i k1_t1 arg10_r0 = 1#1), ∀ a, (k1_off9 arg7_r0) a + S1.size a ≤ S2.size a) ∧
  (∀ (k1_h1 : k1_cond1 i = 1#1), ∀ (k1_h7 : k1_cond7 i k1_t1 arg10_r0 = 1#1), ∀ a, (k1_off12 arg8_r0) a + S1x128x128.size a ≤ S2x128x128.size a) ∧
  (∀ (k1_h1 : k1_cond1 i = 1#1), ∀ (k1_h7 : k1_cond7 i k1_t1 arg10_r0 = 1#1), ∀ a, (k1_off13 i arg10_r0) a + S128x128.size a ≤ S32000x128.size a) ∧
  (∀ (k1_h1 : k1_cond1 i = 1#1), ∀ (k1_h7 : k1_cond7 i k1_t1 arg10_r0 = 1#1), ∀ a, (k1_off14 arg8_r0) a + S1.size a ≤ S2.size a) ∧
  (∀ (k1_h1 : k1_cond1 i = 1#1), ∀ (k1_h9 : k1_cond9 i k1_t1 arg10_r0 = 1#1), ∀ a, (k1_off15 arg9_r0) a + S1x128x128.size a ≤ S2x128x128.size a) ∧
  (∀ (k1_h1 : k1_cond1 i = 1#1), ∀ (k1_h9 : k1_cond9 i k1_t1 arg10_r0 = 1#1), ∀ a, (k1_off16 i arg10_r0) a + S128x128.size a ≤ S32000x128.size a) ∧
  (∀ (k1_h1 : k1_cond1 i = 1#1), ∀ (k1_h9 : k1_cond9 i k1_t1 arg10_r0 = 1#1), ∀ a, (k1_off17 arg9_r0) a + S1.size a ≤ S2.size a)
theorem k1_off4_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off4 arg6_r0) a + S1x1x128.size a ≤ S2x1x128.size a := fun i k1_t1 arg6_r0 arg7_r0 arg8_r0 arg9_r0 arg10_r0 k1_hw1 k1_h1 k1_h3 => k1_hw1.1 k1_h1 k1_h3
theorem k1_off5_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off5 i arg10_r0) a + S1x128.size a ≤ S1x32000.size a := fun i k1_t1 arg6_r0 arg7_r0 arg8_r0 arg9_r0 arg10_r0 k1_hw1 k1_h1 k1_h3 => k1_hw1.2.1 k1_h1 k1_h3
theorem k1_off6_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h3 : k1_cond3 i k1_t1 arg10_r0 = 1#1), ∀ a, (k1_off6 arg6_r0) a + S1.size a ≤ S2.size a := fun i k1_t1 arg6_r0 arg7_r0 arg8_r0 arg9_r0 arg10_r0 k1_hw1 k1_h1 k1_h3 => k1_hw1.2.2.1 k1_h1 k1_h3
theorem k1_off7_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off7 arg7_r0) a + S1x1x128.size a ≤ S2x1x128.size a := fun i k1_t1 arg6_r0 arg7_r0 arg8_r0 arg9_r0 arg10_r0 k1_hw1 k1_h1 k1_h4 => k1_hw1.2.2.2.1 k1_h1 k1_h4
theorem k1_off8_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off8 i arg10_r0) a + S1x128.size a ≤ S1x32000.size a := fun i k1_t1 arg6_r0 arg7_r0 arg8_r0 arg9_r0 arg10_r0 k1_hw1 k1_h1 k1_h4 => k1_hw1.2.2.2.2.1 k1_h1 k1_h4
theorem k1_off9_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h4 : k1_cond4 i k1_t1 arg10_r0 = 1#1), ∀ a, (k1_off9 arg7_r0) a + S1.size a ≤ S2.size a := fun i k1_t1 arg6_r0 arg7_r0 arg8_r0 arg9_r0 arg10_r0 k1_hw1 k1_h1 k1_h4 => k1_hw1.2.2.2.2.2.1 k1_h1 k1_h4
theorem k1_off12_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off12 arg8_r0) a + S1x128x128.size a ≤ S2x128x128.size a := fun i k1_t1 arg6_r0 arg7_r0 arg8_r0 arg9_r0 arg10_r0 k1_hw1 k1_h1 k1_h7 => k1_hw1.2.2.2.2.2.2.1 k1_h1 k1_h7
theorem k1_off13_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off13 i arg10_r0) a + S128x128.size a ≤ S32000x128.size a := fun i k1_t1 arg6_r0 arg7_r0 arg8_r0 arg9_r0 arg10_r0 k1_hw1 k1_h1 k1_h7 => k1_hw1.2.2.2.2.2.2.2.1 k1_h1 k1_h7
theorem k1_off14_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h7 : k1_cond7 i k1_t1 arg10_r0 = 1#1), ∀ a, (k1_off14 arg8_r0) a + S1.size a ≤ S2.size a := fun i k1_t1 arg6_r0 arg7_r0 arg8_r0 arg9_r0 arg10_r0 k1_hw1 k1_h1 k1_h7 => k1_hw1.2.2.2.2.2.2.2.2.1 k1_h1 k1_h7
theorem k1_off15_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off15 arg9_r0) a + S1x128x128.size a ≤ S2x128x128.size a := fun i k1_t1 arg6_r0 arg7_r0 arg8_r0 arg9_r0 arg10_r0 k1_hw1 k1_h1 k1_h9 => k1_hw1.2.2.2.2.2.2.2.2.2.1 k1_h1 k1_h9
theorem k1_off16_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off16 i arg10_r0) a + S128x128.size a ≤ S32000x128.size a := fun i k1_t1 arg6_r0 arg7_r0 arg8_r0 arg9_r0 arg10_r0 k1_hw1 k1_h1 k1_h9 => k1_hw1.2.2.2.2.2.2.2.2.2.2.1 k1_h1 k1_h9
theorem k1_off17_inb : ∀ (i : grid1.Coords) (k1_t1 : Fin (k1_t1_loop i).trips) (arg6_r0 : BitVec 32) (arg7_r0 : BitVec 32) (arg8_r0 : BitVec 32) (arg9_r0 : BitVec 32) (arg10_r0 : BitVec 32) (k1_hw1 : k1_chk1 i k1_t1 arg6_r0 arg7_r0 arg8_r0 arg9_r0 arg10_r0), ∀ (k1_h1 : k1_cond1 i = 1#1), ∀ (k1_h9 : k1_cond9 i k1_t1 arg10_r0 = 1#1), ∀ a, (k1_off17 arg9_r0) a + S1.size a ≤ S2.size a := fun i k1_t1 arg6_r0 arg7_r0 arg8_r0 arg9_r0 arg10_r0 k1_hw1 k1_h1 k1_h9 => k1_hw1.2.2.2.2.2.2.2.2.2.2.2 k1_h1 k1_h9

@[reducible] def k1_t2_loop (i : grid1.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k1_off18 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k1_cond10 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k1_t2
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k1_off19 (i : grid1.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v93_r0 : BitVec 1 := Scalar.cmpi .eq v92_r0 v5
  let c0_i32_66_r0 : BitVec 32 := 0#32
  let v94_r0 : BitVec 32 := Scalar.select v93_r0 c0_i32_66_r0 v92_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k1_off20 (arg6_r0 : BitVec 32) : Fin 1 → Nat :=
  let c2_i32_101_r0 : BitVec 32 := 2#32
  let v167_r0 : BitVec 32 := Scalar.remui arg6_r0 c2_i32_101_r0
  ![v167_r0.toNat]
def k1_off21 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k1_cond11 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k1_t2
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k1_off22 (i : grid1.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k1_off23 (arg7_r0 : BitVec 32) : Fin 1 → Nat :=
  let c2_i32_101_r0 : BitVec 32 := 2#32
  let v168_r0 : BitVec 32 := Scalar.remui arg7_r0 c2_i32_101_r0
  ![v168_r0.toNat]
def k1_off24 (arg8_r0 : BitVec 32) : Fin 3 → Nat :=
  let c2_i32_84_r0 : BitVec 32 := 2#32
  let v132_r0 : BitVec 32 := Scalar.remui arg8_r0 c2_i32_84_r0
  let c0_i32_101_r2 : BitVec 32 := 0#32
  let c0_i32_102_r2 : BitVec 32 := 0#32
  ![v132_r0.toNat, 0, 0]

def k1_chk5 (i : grid1.Coords) (k1_t2 : Fin (k1_t2_loop i).trips) (arg8_r0 : BitVec 32) : Prop :=
  (∀ (k1_h1 : k1_cond1 i = 1#1), ∀ a, (k1_off24 arg8_r0) a + S1x128x128.size a ≤ S2x128x128.size a)
theorem k1_off24_inb : ∀ (i : grid1.Coords) (k1_t2 : Fin (k1_t2_loop i).trips) (arg8_r0 : BitVec 32) (k1_hw5 : k1_chk5 i k1_t2 arg8_r0), ∀ (k1_h1 : k1_cond1 i = 1#1), ∀ a, (k1_off24 arg8_r0) a + S1x128x128.size a ≤ S2x128x128.size a := fun i k1_t2 arg8_r0 k1_hw5 k1_h1 => k1_hw5 k1_h1

def k1_off25 (arg7_r0 : BitVec 32) : Fin 3 → Nat :=
  let c2_i32_83_r0 : BitVec 32 := 2#32
  let v131_r0 : BitVec 32 := Scalar.remui arg7_r0 c2_i32_83_r0
  let c0_i32_103_r2 : BitVec 32 := 0#32
  let c0_i32_104_r2 : BitVec 32 := 0#32
  ![v131_r0.toNat, 0, 0]

def k1_chk6 (i : grid1.Coords) (k1_t2 : Fin (k1_t2_loop i).trips) (arg7_r0 : BitVec 32) : Prop :=
  (∀ (k1_h1 : k1_cond1 i = 1#1), ∀ a, (k1_off25 arg7_r0) a + S1x1x128.size a ≤ S2x1x128.size a)
theorem k1_off25_inb : ∀ (i : grid1.Coords) (k1_t2 : Fin (k1_t2_loop i).trips) (arg7_r0 : BitVec 32) (k1_hw6 : k1_chk6 i k1_t2 arg7_r0), ∀ (k1_h1 : k1_cond1 i = 1#1), ∀ a, (k1_off25 arg7_r0) a + S1x1x128.size a ≤ S2x1x128.size a := fun i k1_t2 arg7_r0 k1_hw6 k1_h1 => k1_hw6 k1_h1

def k1_off26 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k1_cond14 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k1_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k1_off27 (i : grid1.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k1_off28 (arg8_r0 : BitVec 32) : Fin 1 → Nat :=
  let c2_i32_101_r0 : BitVec 32 := 2#32
  let v167_r0 : BitVec 32 := Scalar.remui arg8_r0 c2_i32_101_r0
  ![v167_r0.toNat]
def k1_off29 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k1_cond16 (i : grid1.Coords) (k1_t2 : Fin (k1_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k1_t2
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k1_off30 (i : grid1.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_63_r0 : BitVec 32 := 1#32
  let v88_r0 : BitVec 32 := Scalar.subi v5 c1_i32_63_r0
  let v89_r0 : BitVec 32 := Scalar.select v87_r0 v88_r0 v86_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k1_off31 (arg9_r0 : BitVec 32) : Fin 1 → Nat :=
  let c2_i32_101_r0 : BitVec 32 := 2#32
  let v167_r0 : BitVec 32 := Scalar.remui arg9_r0 c2_i32_101_r0
  ![v167_r0.toNat]

def k1_chk4 (i : grid1.Coords) (k1_t2 : Fin (k1_t2_loop i).trips) (arg6_r0 : BitVec 32) (arg7_r0 : BitVec 32) (arg8_r0 : BitVec 32) (arg9_r0 : BitVec 32) (arg10_r0 : BitVec 32) : Prop :=
  (∀ (k1_h1 : k1_cond1 i = 1#1), ∀ (k1_h10 : k1_cond10 i k1_t2 arg10_r0 = 1#1), ∀ a, (k1_off18 arg6_r0) a + S1x1x128.size a ≤ S2x1x128.size a) ∧
  (∀ (k1_h1 : k1_cond1 i = 1#1), ∀ (k1_h10 : k1_cond10 i k1_t2 arg10_r0 = 1#1), ∀ a, (k1_off19 i arg10_r0) a + S1x128.size a ≤ S1x32000.size a) ∧
  (∀ (k1_h1 : k1_cond1 i = 1#1), ∀ (k1_h10 : k1_cond10 i k1_t2 arg10_r0 = 1#1), ∀ a, (k1_off20 arg6_r0) a + S1.size a ≤ S2.size a) ∧
  (∀ (k1_h1 : k1_cond1 i = 1#1), ∀ (k1_h11 : k1_cond11 i k1_t2 arg10_r0 = 1#1), ∀ a, (k1_off21 arg7_r0) a + S1x1x128.size a ≤ S2x1x128.size a) ∧
  (∀ (k1_h1 : k1_cond1 i = 1#1), ∀ (k1_h11 : k1_cond11 i k1_t2 arg10_r0 = 1#1), ∀ a, (k1_off22 i arg10_r0) a + S1x128.size a ≤ S1x32000.size a) ∧
  (∀ (k1_h1 : k1_cond1 i = 1#1), ∀ (k1_h11 : k1_cond11 i k1_t2 arg10_r0 = 1#1), ∀ a, (k1_off23 arg7_r0) a + S1.size a ≤ S2.size a) ∧
  (∀ (k1_h1 : k1_cond1 i = 1#1), ∀ (k1_h14 : k1_cond14 i k1_t2 arg10_r0 = 1#1), ∀ a, (k1_off26 arg8_r0) a + S1x128x128.size a ≤ S2x128x128.size a) ∧
  (∀ (k1_h1 : k1_cond1 i = 1#1), ∀ (k1_h14 : k1_cond14 i k1_t2 arg10_r0 = 1#1), ∀ a, (k1_off27 i arg10_r0) a + S128x128.size a ≤ S32000x128.size a) ∧
  (∀ (k1_h1 : k1_cond1 i = 1#1), ∀ (k1_h14 : k1_cond14 i k1_t2 arg10_r0 = 1#1), ∀ a, (k1_off28 arg8_r0) a + S1.size a ≤ S2.size a) ∧
  (∀ (k1_h1 : k1_cond1 i = 1#1), ∀ (k1_h16 : k1_cond16 i k1_t2 arg10_r0 = 1#1), ∀ a, (k1_off29 arg9_r0) a + S1x128x128.size a ≤ S2x128x128.size a) ∧
  (∀ (k1_h1 : k1_cond1 i = 1#1), ∀ (k1_h16 : k1_cond16 i k1_t2 arg10_r0 = 1#1), ∀ a, (k1_off30 i arg10_r0) a + S128x128.size a ≤ S32000x128.size a) ∧
  (∀ (k1_h1 : k1_cond1 i = 1#1), ∀ (k1_h16 : k1_cond16 i k1_t2 arg10_r0 = 1#1), ∀ a, (k1_off31 arg9_r0) a + S1.size a ≤ S2.size a)
theorem k1_off18_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off18 arg6_r0) a + S1x1x128.size a ≤ S2x1x128.size a := fun i k1_t2 arg6_r0 arg7_r0 arg8_r0 arg9_r0 arg10_r0 k1_hw4 k1_h1 k1_h10 => k1_hw4.1 k1_h1 k1_h10
theorem k1_off19_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off19 i arg10_r0) a + S1x128.size a ≤ S1x32000.size a := fun i k1_t2 arg6_r0 arg7_r0 arg8_r0 arg9_r0 arg10_r0 k1_hw4 k1_h1 k1_h10 => k1_hw4.2.1 k1_h1 k1_h10
theorem k1_off20_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h10 : k1_cond10 i k1_t2 arg10_r0 = 1#1), ∀ a, (k1_off20 arg6_r0) a + S1.size a ≤ S2.size a := fun i k1_t2 arg6_r0 arg7_r0 arg8_r0 arg9_r0 arg10_r0 k1_hw4 k1_h1 k1_h10 => k1_hw4.2.2.1 k1_h1 k1_h10
theorem k1_off21_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off21 arg7_r0) a + S1x1x128.size a ≤ S2x1x128.size a := fun i k1_t2 arg6_r0 arg7_r0 arg8_r0 arg9_r0 arg10_r0 k1_hw4 k1_h1 k1_h11 => k1_hw4.2.2.2.1 k1_h1 k1_h11
theorem k1_off22_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off22 i arg10_r0) a + S1x128.size a ≤ S1x32000.size a := fun i k1_t2 arg6_r0 arg7_r0 arg8_r0 arg9_r0 arg10_r0 k1_hw4 k1_h1 k1_h11 => k1_hw4.2.2.2.2.1 k1_h1 k1_h11
theorem k1_off23_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h11 : k1_cond11 i k1_t2 arg10_r0 = 1#1), ∀ a, (k1_off23 arg7_r0) a + S1.size a ≤ S2.size a := fun i k1_t2 arg6_r0 arg7_r0 arg8_r0 arg9_r0 arg10_r0 k1_hw4 k1_h1 k1_h11 => k1_hw4.2.2.2.2.2.1 k1_h1 k1_h11
theorem k1_off26_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off26 arg8_r0) a + S1x128x128.size a ≤ S2x128x128.size a := fun i k1_t2 arg6_r0 arg7_r0 arg8_r0 arg9_r0 arg10_r0 k1_hw4 k1_h1 k1_h14 => k1_hw4.2.2.2.2.2.2.1 k1_h1 k1_h14
theorem k1_off27_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off27 i arg10_r0) a + S128x128.size a ≤ S32000x128.size a := fun i k1_t2 arg6_r0 arg7_r0 arg8_r0 arg9_r0 arg10_r0 k1_hw4 k1_h1 k1_h14 => k1_hw4.2.2.2.2.2.2.2.1 k1_h1 k1_h14
theorem k1_off28_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h14 : k1_cond14 i k1_t2 arg10_r0 = 1#1), ∀ a, (k1_off28 arg8_r0) a + S1.size a ≤ S2.size a := fun i k1_t2 arg6_r0 arg7_r0 arg8_r0 arg9_r0 arg10_r0 k1_hw4 k1_h1 k1_h14 => k1_hw4.2.2.2.2.2.2.2.2.1 k1_h1 k1_h14
theorem k1_off29_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off29 arg9_r0) a + S1x128x128.size a ≤ S2x128x128.size a := fun i k1_t2 arg6_r0 arg7_r0 arg8_r0 arg9_r0 arg10_r0 k1_hw4 k1_h1 k1_h16 => k1_hw4.2.2.2.2.2.2.2.2.2.1 k1_h1 k1_h16
theorem k1_off30_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off30 i arg10_r0) a + S128x128.size a ≤ S32000x128.size a := fun i k1_t2 arg6_r0 arg7_r0 arg8_r0 arg9_r0 arg10_r0 k1_hw4 k1_h1 k1_h16 => k1_hw4.2.2.2.2.2.2.2.2.2.2.1 k1_h1 k1_h16
theorem k1_off31_inb : ∀ (i : grid1.Coords) (k1_t2 : Fin (k1_t2_loop i).trips) (arg6_r0 : BitVec 32) (arg7_r0 : BitVec 32) (arg8_r0 : BitVec 32) (arg9_r0 : BitVec 32) (arg10_r0 : BitVec 32) (k1_hw4 : k1_chk4 i k1_t2 arg6_r0 arg7_r0 arg8_r0 arg9_r0 arg10_r0), ∀ (k1_h1 : k1_cond1 i = 1#1), ∀ (k1_h16 : k1_cond16 i k1_t2 arg10_r0 = 1#1), ∀ a, (k1_off31 arg9_r0) a + S1.size a ≤ S2.size a := fun i k1_t2 arg6_r0 arg7_r0 arg8_r0 arg9_r0 arg10_r0 k1_hw4 k1_h1 k1_h16 => k1_hw4.2.2.2.2.2.2.2.2.2.2.2 k1_h1 k1_h16

def k1_cond18 (i : grid1.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k1_off32 (v48_3_r0 : BitVec 32) : Fin 3 → Nat :=
  let c2_i32_r0 : BitVec 32 := 2#32
  let v80_r0 : BitVec 32 := Scalar.remui v48_3_r0 c2_i32_r0
  let c0_i32_57_r0 : BitVec 32 := 0#32
  let c0_i32_58_r0 : BitVec 32 := 0#32
  ![v80_r0.toNat, 0, 0]

def k1_off33 (i : grid1.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_40_r0 : BitVec 32 := 1#32
  let v52_r0 : BitVec 32 := Scalar.subi v5 c1_i32_40_r0
  let v53_r0 : BitVec 32 := Scalar.select v51_r0 v52_r0 v50_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v59_r0 : BitVec 32 := Scalar.addi v53_r0 v10
  let v81_r0 : BitVec 32 := Scalar.muli c128_i32_r0 v59_r0
  let c0_i32_59_r0 : BitVec 32 := 0#32
  ![v81_r0.toNat, 0]

def k1_chk8 (i : grid1.Coords) (v48_4_r0 : BitVec 32) : Prop :=
  (∀ (k1_h1 : k1_cond1 i = 1#1), ∀ (k1_h18 : k1_cond18 i = 1#1), ∀ a, (k1_off33 i v48_4_r0) a + S128x128.size a ≤ S32000x128.size a)
theorem k1_off33_inb : ∀ (i : grid1.Coords) (v48_4_r0 : BitVec 32) (k1_hw8 : k1_chk8 i v48_4_r0), ∀ (k1_h1 : k1_cond1 i = 1#1), ∀ (k1_h18 : k1_cond18 i = 1#1), ∀ a, (k1_off33 i v48_4_r0) a + S128x128.size a ≤ S32000x128.size a := fun i v48_4_r0 k1_hw8 k1_h1 k1_h18 => k1_hw8 k1_h1 k1_h18

def k1_off34 (v48_3_r0 : BitVec 32) : Fin 1 → Nat :=
  let c2_i32_r0 : BitVec 32 := 2#32
  let v80_r0 : BitVec 32 := Scalar.remui v48_3_r0 c2_i32_r0
  ![v80_r0.toNat]
def k1_off35 (v48_3_r0 : BitVec 32) : Fin 3 → Nat :=
  let c2_i32_r0 : BitVec 32 := 2#32
  let v80_r0 : BitVec 32 := Scalar.remui v48_3_r0 c2_i32_r0
  let c0_i32_61_r0 : BitVec 32 := 0#32
  let c0_i32_62_r0 : BitVec 32 := 0#32
  ![v80_r0.toNat, 0, 0]

def k1_chk7 (i : grid1.Coords) (v48_3_r0 : BitVec 32) : Prop :=
  (∀ (k1_h1 : k1_cond1 i = 1#1), ∀ (k1_h18 : k1_cond18 i = 1#1), ∀ a, (k1_off32 v48_3_r0) a + S1x128x128.size a ≤ S2x128x128.size a) ∧
  (∀ (k1_h1 : k1_cond1 i = 1#1), ∀ (k1_h18 : k1_cond18 i = 1#1), ∀ a, (k1_off34 v48_3_r0) a + S1.size a ≤ S2.size a) ∧
  (∀ (k1_h1 : k1_cond1 i = 1#1), ∀ (k1_h18 : k1_cond18 i = 1#1), ∀ a, (k1_off35 v48_3_r0) a + S1x128x128.size a ≤ S2x128x128.size a)
theorem k1_off32_inb : ∀ (i : grid1.Coords) (v48_3_r0 : BitVec 32) (k1_hw7 : k1_chk7 i v48_3_r0), ∀ (k1_h1 : k1_cond1 i = 1#1), ∀ (k1_h18 : k1_cond18 i = 1#1), ∀ a, (k1_off32 v48_3_r0) a + S1x128x128.size a ≤ S2x128x128.size a := fun i v48_3_r0 k1_hw7 k1_h1 k1_h18 => k1_hw7.1 k1_h1 k1_h18
theorem k1_off34_inb : ∀ (i : grid1.Coords) (v48_3_r0 : BitVec 32) (k1_hw7 : k1_chk7 i v48_3_r0), ∀ (k1_h1 : k1_cond1 i = 1#1), ∀ (k1_h18 : k1_cond18 i = 1#1), ∀ a, (k1_off34 v48_3_r0) a + S1.size a ≤ S2.size a := fun i v48_3_r0 k1_hw7 k1_h1 k1_h18 => k1_hw7.2.1 k1_h1 k1_h18
theorem k1_off35_inb : ∀ (i : grid1.Coords) (v48_3_r0 : BitVec 32) (k1_hw7 : k1_chk7 i v48_3_r0), ∀ (k1_h1 : k1_cond1 i = 1#1), ∀ (k1_h18 : k1_cond18 i = 1#1), ∀ a, (k1_off35 v48_3_r0) a + S1x128x128.size a ≤ S2x128x128.size a := fun i v48_3_r0 k1_hw7 k1_h1 k1_h18 => k1_hw7.2.2 k1_h1 k1_h18

abbrev grid2 : Pipeline.Grid := ⟨2, ![2, 16], ![false, false]⟩

def k2_cond1 (i : grid2.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k2_cond2 (i : grid2.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k2_off1 : Fin 3 → Nat :=
  let c0_i32_24_r0 : BitVec 32 := 0#32
  let c2_i32_r0 : BitVec 32 := 2#32
  let v80_r0 : BitVec 32 := Scalar.remui c0_i32_24_r0 c2_i32_r0
  let c0_i32_57_r0 : BitVec 32 := 0#32
  let c0_i32_58_r0 : BitVec 32 := 0#32
  ![v80_r0.toNat, 0, 0]
def k2_off2 (i : grid2.Coords) : Fin 2 → Nat :=
  let c0_i32_59_r0 : BitVec 32 := 0#32
  let c128_i32_r0 : BitVec 32 := 128#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v20_r0 : BitVec 32 := Scalar.addi c0_i32_10_r0 v10
  let v81_r0 : BitVec 32 := Scalar.muli c128_i32_r0 v20_r0
  ![0, v81_r0.toNat]
def k2_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k2_t1_loop (i : grid2.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k2_off4 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k2_cond3 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k2_t1
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k2_off5 (i : grid2.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v93_r0 : BitVec 1 := Scalar.cmpi .eq v92_r0 v5
  let c0_i32_66_r0 : BitVec 32 := 0#32
  let v94_r0 : BitVec 32 := Scalar.select v93_r0 c0_i32_66_r0 v92_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k2_off6 (arg6_r0 : BitVec 32) : Fin 1 → Nat :=
  let c2_i32_101_r0 : BitVec 32 := 2#32
  let v167_r0 : BitVec 32 := Scalar.remui arg6_r0 c2_i32_101_r0
  ![v167_r0.toNat]
def k2_off7 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k2_cond4 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k2_t1
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k2_off8 (i : grid2.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k2_off9 (arg7_r0 : BitVec 32) : Fin 1 → Nat :=
  let c2_i32_101_r0 : BitVec 32 := 2#32
  let v168_r0 : BitVec 32 := Scalar.remui arg7_r0 c2_i32_101_r0
  ![v168_r0.toNat]
def k2_off10 (arg8_r0 : BitVec 32) : Fin 3 → Nat :=
  let c2_i32_84_r0 : BitVec 32 := 2#32
  let v132_r0 : BitVec 32 := Scalar.remui arg8_r0 c2_i32_84_r0
  let c0_i32_101_r1 : BitVec 32 := 0#32
  let c0_i32_102_r1 : BitVec 32 := 0#32
  ![v132_r0.toNat, 0, 0]

def k2_chk2 (i : grid2.Coords) (arg8_r0 : BitVec 32) : Prop :=
  (∀ (k2_h1 : k2_cond1 i = 1#1), ∀ a, (k2_off10 arg8_r0) a + S1x128x128.size a ≤ S2x128x128.size a)
theorem k2_off10_inb : ∀ (i : grid2.Coords) (arg8_r0 : BitVec 32) (k2_hw2 : k2_chk2 i arg8_r0), ∀ (k2_h1 : k2_cond1 i = 1#1), ∀ a, (k2_off10 arg8_r0) a + S1x128x128.size a ≤ S2x128x128.size a := fun i arg8_r0 k2_hw2 k2_h1 => k2_hw2 k2_h1

def k2_off11 (arg7_r0 : BitVec 32) : Fin 3 → Nat :=
  let c2_i32_83_r0 : BitVec 32 := 2#32
  let v131_r0 : BitVec 32 := Scalar.remui arg7_r0 c2_i32_83_r0
  let c0_i32_103_r1 : BitVec 32 := 0#32
  let c0_i32_104_r1 : BitVec 32 := 0#32
  ![v131_r0.toNat, 0, 0]

def k2_chk3 (i : grid2.Coords) (arg7_r0 : BitVec 32) : Prop :=
  (∀ (k2_h1 : k2_cond1 i = 1#1), ∀ a, (k2_off11 arg7_r0) a + S1x1x128.size a ≤ S2x1x128.size a)
theorem k2_off11_inb : ∀ (i : grid2.Coords) (arg7_r0 : BitVec 32) (k2_hw3 : k2_chk3 i arg7_r0), ∀ (k2_h1 : k2_cond1 i = 1#1), ∀ a, (k2_off11 arg7_r0) a + S1x1x128.size a ≤ S2x1x128.size a := fun i arg7_r0 k2_hw3 k2_h1 => k2_hw3 k2_h1

def k2_off12 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k2_cond7 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k2_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k2_off13 (i : grid2.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k2_off14 (arg8_r0 : BitVec 32) : Fin 1 → Nat :=
  let c2_i32_101_r0 : BitVec 32 := 2#32
  let v167_r0 : BitVec 32 := Scalar.remui arg8_r0 c2_i32_101_r0
  ![v167_r0.toNat]
def k2_off15 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k2_cond9 (i : grid2.Coords) (k2_t1 : Fin (k2_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k2_t1
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k2_off16 (i : grid2.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_63_r0 : BitVec 32 := 1#32
  let v88_r0 : BitVec 32 := Scalar.subi v5 c1_i32_63_r0
  let v89_r0 : BitVec 32 := Scalar.select v87_r0 v88_r0 v86_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k2_off17 (arg9_r0 : BitVec 32) : Fin 1 → Nat :=
  let c2_i32_101_r0 : BitVec 32 := 2#32
  let v167_r0 : BitVec 32 := Scalar.remui arg9_r0 c2_i32_101_r0
  ![v167_r0.toNat]

def k2_chk1 (i : grid2.Coords) (k2_t1 : Fin (k2_t1_loop i).trips) (arg6_r0 : BitVec 32) (arg7_r0 : BitVec 32) (arg8_r0 : BitVec 32) (arg9_r0 : BitVec 32) (arg10_r0 : BitVec 32) : Prop :=
  (∀ (k2_h1 : k2_cond1 i = 1#1), ∀ (k2_h3 : k2_cond3 i k2_t1 arg10_r0 = 1#1), ∀ a, (k2_off4 arg6_r0) a + S1x1x128.size a ≤ S2x1x128.size a) ∧
  (∀ (k2_h1 : k2_cond1 i = 1#1), ∀ (k2_h3 : k2_cond3 i k2_t1 arg10_r0 = 1#1), ∀ a, (k2_off5 i arg10_r0) a + S1x128.size a ≤ S1x32000.size a) ∧
  (∀ (k2_h1 : k2_cond1 i = 1#1), ∀ (k2_h3 : k2_cond3 i k2_t1 arg10_r0 = 1#1), ∀ a, (k2_off6 arg6_r0) a + S1.size a ≤ S2.size a) ∧
  (∀ (k2_h1 : k2_cond1 i = 1#1), ∀ (k2_h4 : k2_cond4 i k2_t1 arg10_r0 = 1#1), ∀ a, (k2_off7 arg7_r0) a + S1x1x128.size a ≤ S2x1x128.size a) ∧
  (∀ (k2_h1 : k2_cond1 i = 1#1), ∀ (k2_h4 : k2_cond4 i k2_t1 arg10_r0 = 1#1), ∀ a, (k2_off8 i arg10_r0) a + S1x128.size a ≤ S1x32000.size a) ∧
  (∀ (k2_h1 : k2_cond1 i = 1#1), ∀ (k2_h4 : k2_cond4 i k2_t1 arg10_r0 = 1#1), ∀ a, (k2_off9 arg7_r0) a + S1.size a ≤ S2.size a) ∧
  (∀ (k2_h1 : k2_cond1 i = 1#1), ∀ (k2_h7 : k2_cond7 i k2_t1 arg10_r0 = 1#1), ∀ a, (k2_off12 arg8_r0) a + S1x128x128.size a ≤ S2x128x128.size a) ∧
  (∀ (k2_h1 : k2_cond1 i = 1#1), ∀ (k2_h7 : k2_cond7 i k2_t1 arg10_r0 = 1#1), ∀ a, (k2_off13 i arg10_r0) a + S128x128.size a ≤ S32000x128.size a) ∧
  (∀ (k2_h1 : k2_cond1 i = 1#1), ∀ (k2_h7 : k2_cond7 i k2_t1 arg10_r0 = 1#1), ∀ a, (k2_off14 arg8_r0) a + S1.size a ≤ S2.size a) ∧
  (∀ (k2_h1 : k2_cond1 i = 1#1), ∀ (k2_h9 : k2_cond9 i k2_t1 arg10_r0 = 1#1), ∀ a, (k2_off15 arg9_r0) a + S1x128x128.size a ≤ S2x128x128.size a) ∧
  (∀ (k2_h1 : k2_cond1 i = 1#1), ∀ (k2_h9 : k2_cond9 i k2_t1 arg10_r0 = 1#1), ∀ a, (k2_off16 i arg10_r0) a + S128x128.size a ≤ S32000x128.size a) ∧
  (∀ (k2_h1 : k2_cond1 i = 1#1), ∀ (k2_h9 : k2_cond9 i k2_t1 arg10_r0 = 1#1), ∀ a, (k2_off17 arg9_r0) a + S1.size a ≤ S2.size a)
theorem k2_off4_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off4 arg6_r0) a + S1x1x128.size a ≤ S2x1x128.size a := fun i k2_t1 arg6_r0 arg7_r0 arg8_r0 arg9_r0 arg10_r0 k2_hw1 k2_h1 k2_h3 => k2_hw1.1 k2_h1 k2_h3
theorem k2_off5_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off5 i arg10_r0) a + S1x128.size a ≤ S1x32000.size a := fun i k2_t1 arg6_r0 arg7_r0 arg8_r0 arg9_r0 arg10_r0 k2_hw1 k2_h1 k2_h3 => k2_hw1.2.1 k2_h1 k2_h3
theorem k2_off6_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h3 : k2_cond3 i k2_t1 arg10_r0 = 1#1), ∀ a, (k2_off6 arg6_r0) a + S1.size a ≤ S2.size a := fun i k2_t1 arg6_r0 arg7_r0 arg8_r0 arg9_r0 arg10_r0 k2_hw1 k2_h1 k2_h3 => k2_hw1.2.2.1 k2_h1 k2_h3
theorem k2_off7_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off7 arg7_r0) a + S1x1x128.size a ≤ S2x1x128.size a := fun i k2_t1 arg6_r0 arg7_r0 arg8_r0 arg9_r0 arg10_r0 k2_hw1 k2_h1 k2_h4 => k2_hw1.2.2.2.1 k2_h1 k2_h4
theorem k2_off8_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off8 i arg10_r0) a + S1x128.size a ≤ S1x32000.size a := fun i k2_t1 arg6_r0 arg7_r0 arg8_r0 arg9_r0 arg10_r0 k2_hw1 k2_h1 k2_h4 => k2_hw1.2.2.2.2.1 k2_h1 k2_h4
theorem k2_off9_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h4 : k2_cond4 i k2_t1 arg10_r0 = 1#1), ∀ a, (k2_off9 arg7_r0) a + S1.size a ≤ S2.size a := fun i k2_t1 arg6_r0 arg7_r0 arg8_r0 arg9_r0 arg10_r0 k2_hw1 k2_h1 k2_h4 => k2_hw1.2.2.2.2.2.1 k2_h1 k2_h4
theorem k2_off12_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off12 arg8_r0) a + S1x128x128.size a ≤ S2x128x128.size a := fun i k2_t1 arg6_r0 arg7_r0 arg8_r0 arg9_r0 arg10_r0 k2_hw1 k2_h1 k2_h7 => k2_hw1.2.2.2.2.2.2.1 k2_h1 k2_h7
theorem k2_off13_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off13 i arg10_r0) a + S128x128.size a ≤ S32000x128.size a := fun i k2_t1 arg6_r0 arg7_r0 arg8_r0 arg9_r0 arg10_r0 k2_hw1 k2_h1 k2_h7 => k2_hw1.2.2.2.2.2.2.2.1 k2_h1 k2_h7
theorem k2_off14_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h7 : k2_cond7 i k2_t1 arg10_r0 = 1#1), ∀ a, (k2_off14 arg8_r0) a + S1.size a ≤ S2.size a := fun i k2_t1 arg6_r0 arg7_r0 arg8_r0 arg9_r0 arg10_r0 k2_hw1 k2_h1 k2_h7 => k2_hw1.2.2.2.2.2.2.2.2.1 k2_h1 k2_h7
theorem k2_off15_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off15 arg9_r0) a + S1x128x128.size a ≤ S2x128x128.size a := fun i k2_t1 arg6_r0 arg7_r0 arg8_r0 arg9_r0 arg10_r0 k2_hw1 k2_h1 k2_h9 => k2_hw1.2.2.2.2.2.2.2.2.2.1 k2_h1 k2_h9
theorem k2_off16_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off16 i arg10_r0) a + S128x128.size a ≤ S32000x128.size a := fun i k2_t1 arg6_r0 arg7_r0 arg8_r0 arg9_r0 arg10_r0 k2_hw1 k2_h1 k2_h9 => k2_hw1.2.2.2.2.2.2.2.2.2.2.1 k2_h1 k2_h9
theorem k2_off17_inb : ∀ (i : grid2.Coords) (k2_t1 : Fin (k2_t1_loop i).trips) (arg6_r0 : BitVec 32) (arg7_r0 : BitVec 32) (arg8_r0 : BitVec 32) (arg9_r0 : BitVec 32) (arg10_r0 : BitVec 32) (k2_hw1 : k2_chk1 i k2_t1 arg6_r0 arg7_r0 arg8_r0 arg9_r0 arg10_r0), ∀ (k2_h1 : k2_cond1 i = 1#1), ∀ (k2_h9 : k2_cond9 i k2_t1 arg10_r0 = 1#1), ∀ a, (k2_off17 arg9_r0) a + S1.size a ≤ S2.size a := fun i k2_t1 arg6_r0 arg7_r0 arg8_r0 arg9_r0 arg10_r0 k2_hw1 k2_h1 k2_h9 => k2_hw1.2.2.2.2.2.2.2.2.2.2.2 k2_h1 k2_h9

@[reducible] def k2_t2_loop (i : grid2.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k2_off18 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k2_cond10 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k2_t2
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k2_off19 (i : grid2.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v93_r0 : BitVec 1 := Scalar.cmpi .eq v92_r0 v5
  let c0_i32_66_r0 : BitVec 32 := 0#32
  let v94_r0 : BitVec 32 := Scalar.select v93_r0 c0_i32_66_r0 v92_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k2_off20 (arg6_r0 : BitVec 32) : Fin 1 → Nat :=
  let c2_i32_101_r0 : BitVec 32 := 2#32
  let v167_r0 : BitVec 32 := Scalar.remui arg6_r0 c2_i32_101_r0
  ![v167_r0.toNat]
def k2_off21 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k2_cond11 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k2_t2
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k2_off22 (i : grid2.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k2_off23 (arg7_r0 : BitVec 32) : Fin 1 → Nat :=
  let c2_i32_101_r0 : BitVec 32 := 2#32
  let v168_r0 : BitVec 32 := Scalar.remui arg7_r0 c2_i32_101_r0
  ![v168_r0.toNat]
def k2_off24 (arg8_r0 : BitVec 32) : Fin 3 → Nat :=
  let c2_i32_84_r0 : BitVec 32 := 2#32
  let v132_r0 : BitVec 32 := Scalar.remui arg8_r0 c2_i32_84_r0
  let c0_i32_101_r2 : BitVec 32 := 0#32
  let c0_i32_102_r2 : BitVec 32 := 0#32
  ![v132_r0.toNat, 0, 0]

def k2_chk5 (i : grid2.Coords) (k2_t2 : Fin (k2_t2_loop i).trips) (arg8_r0 : BitVec 32) : Prop :=
  (∀ (k2_h1 : k2_cond1 i = 1#1), ∀ a, (k2_off24 arg8_r0) a + S1x128x128.size a ≤ S2x128x128.size a)
theorem k2_off24_inb : ∀ (i : grid2.Coords) (k2_t2 : Fin (k2_t2_loop i).trips) (arg8_r0 : BitVec 32) (k2_hw5 : k2_chk5 i k2_t2 arg8_r0), ∀ (k2_h1 : k2_cond1 i = 1#1), ∀ a, (k2_off24 arg8_r0) a + S1x128x128.size a ≤ S2x128x128.size a := fun i k2_t2 arg8_r0 k2_hw5 k2_h1 => k2_hw5 k2_h1

def k2_off25 (arg7_r0 : BitVec 32) : Fin 3 → Nat :=
  let c2_i32_83_r0 : BitVec 32 := 2#32
  let v131_r0 : BitVec 32 := Scalar.remui arg7_r0 c2_i32_83_r0
  let c0_i32_103_r2 : BitVec 32 := 0#32
  let c0_i32_104_r2 : BitVec 32 := 0#32
  ![v131_r0.toNat, 0, 0]

def k2_chk6 (i : grid2.Coords) (k2_t2 : Fin (k2_t2_loop i).trips) (arg7_r0 : BitVec 32) : Prop :=
  (∀ (k2_h1 : k2_cond1 i = 1#1), ∀ a, (k2_off25 arg7_r0) a + S1x1x128.size a ≤ S2x1x128.size a)
theorem k2_off25_inb : ∀ (i : grid2.Coords) (k2_t2 : Fin (k2_t2_loop i).trips) (arg7_r0 : BitVec 32) (k2_hw6 : k2_chk6 i k2_t2 arg7_r0), ∀ (k2_h1 : k2_cond1 i = 1#1), ∀ a, (k2_off25 arg7_r0) a + S1x1x128.size a ≤ S2x1x128.size a := fun i k2_t2 arg7_r0 k2_hw6 k2_h1 => k2_hw6 k2_h1

def k2_off26 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k2_cond14 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k2_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k2_off27 (i : grid2.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k2_off28 (arg8_r0 : BitVec 32) : Fin 1 → Nat :=
  let c2_i32_101_r0 : BitVec 32 := 2#32
  let v167_r0 : BitVec 32 := Scalar.remui arg8_r0 c2_i32_101_r0
  ![v167_r0.toNat]
def k2_off29 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k2_cond16 (i : grid2.Coords) (k2_t2 : Fin (k2_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k2_t2
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k2_off30 (i : grid2.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_63_r0 : BitVec 32 := 1#32
  let v88_r0 : BitVec 32 := Scalar.subi v5 c1_i32_63_r0
  let v89_r0 : BitVec 32 := Scalar.select v87_r0 v88_r0 v86_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k2_off31 (arg9_r0 : BitVec 32) : Fin 1 → Nat :=
  let c2_i32_101_r0 : BitVec 32 := 2#32
  let v167_r0 : BitVec 32 := Scalar.remui arg9_r0 c2_i32_101_r0
  ![v167_r0.toNat]

def k2_chk4 (i : grid2.Coords) (k2_t2 : Fin (k2_t2_loop i).trips) (arg6_r0 : BitVec 32) (arg7_r0 : BitVec 32) (arg8_r0 : BitVec 32) (arg9_r0 : BitVec 32) (arg10_r0 : BitVec 32) : Prop :=
  (∀ (k2_h1 : k2_cond1 i = 1#1), ∀ (k2_h10 : k2_cond10 i k2_t2 arg10_r0 = 1#1), ∀ a, (k2_off18 arg6_r0) a + S1x1x128.size a ≤ S2x1x128.size a) ∧
  (∀ (k2_h1 : k2_cond1 i = 1#1), ∀ (k2_h10 : k2_cond10 i k2_t2 arg10_r0 = 1#1), ∀ a, (k2_off19 i arg10_r0) a + S1x128.size a ≤ S1x32000.size a) ∧
  (∀ (k2_h1 : k2_cond1 i = 1#1), ∀ (k2_h10 : k2_cond10 i k2_t2 arg10_r0 = 1#1), ∀ a, (k2_off20 arg6_r0) a + S1.size a ≤ S2.size a) ∧
  (∀ (k2_h1 : k2_cond1 i = 1#1), ∀ (k2_h11 : k2_cond11 i k2_t2 arg10_r0 = 1#1), ∀ a, (k2_off21 arg7_r0) a + S1x1x128.size a ≤ S2x1x128.size a) ∧
  (∀ (k2_h1 : k2_cond1 i = 1#1), ∀ (k2_h11 : k2_cond11 i k2_t2 arg10_r0 = 1#1), ∀ a, (k2_off22 i arg10_r0) a + S1x128.size a ≤ S1x32000.size a) ∧
  (∀ (k2_h1 : k2_cond1 i = 1#1), ∀ (k2_h11 : k2_cond11 i k2_t2 arg10_r0 = 1#1), ∀ a, (k2_off23 arg7_r0) a + S1.size a ≤ S2.size a) ∧
  (∀ (k2_h1 : k2_cond1 i = 1#1), ∀ (k2_h14 : k2_cond14 i k2_t2 arg10_r0 = 1#1), ∀ a, (k2_off26 arg8_r0) a + S1x128x128.size a ≤ S2x128x128.size a) ∧
  (∀ (k2_h1 : k2_cond1 i = 1#1), ∀ (k2_h14 : k2_cond14 i k2_t2 arg10_r0 = 1#1), ∀ a, (k2_off27 i arg10_r0) a + S128x128.size a ≤ S32000x128.size a) ∧
  (∀ (k2_h1 : k2_cond1 i = 1#1), ∀ (k2_h14 : k2_cond14 i k2_t2 arg10_r0 = 1#1), ∀ a, (k2_off28 arg8_r0) a + S1.size a ≤ S2.size a) ∧
  (∀ (k2_h1 : k2_cond1 i = 1#1), ∀ (k2_h16 : k2_cond16 i k2_t2 arg10_r0 = 1#1), ∀ a, (k2_off29 arg9_r0) a + S1x128x128.size a ≤ S2x128x128.size a) ∧
  (∀ (k2_h1 : k2_cond1 i = 1#1), ∀ (k2_h16 : k2_cond16 i k2_t2 arg10_r0 = 1#1), ∀ a, (k2_off30 i arg10_r0) a + S128x128.size a ≤ S32000x128.size a) ∧
  (∀ (k2_h1 : k2_cond1 i = 1#1), ∀ (k2_h16 : k2_cond16 i k2_t2 arg10_r0 = 1#1), ∀ a, (k2_off31 arg9_r0) a + S1.size a ≤ S2.size a)
theorem k2_off18_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off18 arg6_r0) a + S1x1x128.size a ≤ S2x1x128.size a := fun i k2_t2 arg6_r0 arg7_r0 arg8_r0 arg9_r0 arg10_r0 k2_hw4 k2_h1 k2_h10 => k2_hw4.1 k2_h1 k2_h10
theorem k2_off19_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off19 i arg10_r0) a + S1x128.size a ≤ S1x32000.size a := fun i k2_t2 arg6_r0 arg7_r0 arg8_r0 arg9_r0 arg10_r0 k2_hw4 k2_h1 k2_h10 => k2_hw4.2.1 k2_h1 k2_h10
theorem k2_off20_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h10 : k2_cond10 i k2_t2 arg10_r0 = 1#1), ∀ a, (k2_off20 arg6_r0) a + S1.size a ≤ S2.size a := fun i k2_t2 arg6_r0 arg7_r0 arg8_r0 arg9_r0 arg10_r0 k2_hw4 k2_h1 k2_h10 => k2_hw4.2.2.1 k2_h1 k2_h10
theorem k2_off21_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off21 arg7_r0) a + S1x1x128.size a ≤ S2x1x128.size a := fun i k2_t2 arg6_r0 arg7_r0 arg8_r0 arg9_r0 arg10_r0 k2_hw4 k2_h1 k2_h11 => k2_hw4.2.2.2.1 k2_h1 k2_h11
theorem k2_off22_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off22 i arg10_r0) a + S1x128.size a ≤ S1x32000.size a := fun i k2_t2 arg6_r0 arg7_r0 arg8_r0 arg9_r0 arg10_r0 k2_hw4 k2_h1 k2_h11 => k2_hw4.2.2.2.2.1 k2_h1 k2_h11
theorem k2_off23_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h11 : k2_cond11 i k2_t2 arg10_r0 = 1#1), ∀ a, (k2_off23 arg7_r0) a + S1.size a ≤ S2.size a := fun i k2_t2 arg6_r0 arg7_r0 arg8_r0 arg9_r0 arg10_r0 k2_hw4 k2_h1 k2_h11 => k2_hw4.2.2.2.2.2.1 k2_h1 k2_h11
theorem k2_off26_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off26 arg8_r0) a + S1x128x128.size a ≤ S2x128x128.size a := fun i k2_t2 arg6_r0 arg7_r0 arg8_r0 arg9_r0 arg10_r0 k2_hw4 k2_h1 k2_h14 => k2_hw4.2.2.2.2.2.2.1 k2_h1 k2_h14
theorem k2_off27_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off27 i arg10_r0) a + S128x128.size a ≤ S32000x128.size a := fun i k2_t2 arg6_r0 arg7_r0 arg8_r0 arg9_r0 arg10_r0 k2_hw4 k2_h1 k2_h14 => k2_hw4.2.2.2.2.2.2.2.1 k2_h1 k2_h14
theorem k2_off28_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h14 : k2_cond14 i k2_t2 arg10_r0 = 1#1), ∀ a, (k2_off28 arg8_r0) a + S1.size a ≤ S2.size a := fun i k2_t2 arg6_r0 arg7_r0 arg8_r0 arg9_r0 arg10_r0 k2_hw4 k2_h1 k2_h14 => k2_hw4.2.2.2.2.2.2.2.2.1 k2_h1 k2_h14
theorem k2_off29_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off29 arg9_r0) a + S1x128x128.size a ≤ S2x128x128.size a := fun i k2_t2 arg6_r0 arg7_r0 arg8_r0 arg9_r0 arg10_r0 k2_hw4 k2_h1 k2_h16 => k2_hw4.2.2.2.2.2.2.2.2.2.1 k2_h1 k2_h16
theorem k2_off30_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off30 i arg10_r0) a + S128x128.size a ≤ S32000x128.size a := fun i k2_t2 arg6_r0 arg7_r0 arg8_r0 arg9_r0 arg10_r0 k2_hw4 k2_h1 k2_h16 => k2_hw4.2.2.2.2.2.2.2.2.2.2.1 k2_h1 k2_h16
theorem k2_off31_inb : ∀ (i : grid2.Coords) (k2_t2 : Fin (k2_t2_loop i).trips) (arg6_r0 : BitVec 32) (arg7_r0 : BitVec 32) (arg8_r0 : BitVec 32) (arg9_r0 : BitVec 32) (arg10_r0 : BitVec 32) (k2_hw4 : k2_chk4 i k2_t2 arg6_r0 arg7_r0 arg8_r0 arg9_r0 arg10_r0), ∀ (k2_h1 : k2_cond1 i = 1#1), ∀ (k2_h16 : k2_cond16 i k2_t2 arg10_r0 = 1#1), ∀ a, (k2_off31 arg9_r0) a + S1.size a ≤ S2.size a := fun i k2_t2 arg6_r0 arg7_r0 arg8_r0 arg9_r0 arg10_r0 k2_hw4 k2_h1 k2_h16 => k2_hw4.2.2.2.2.2.2.2.2.2.2.2 k2_h1 k2_h16

def k2_cond18 (i : grid2.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k2_off32 (v48_3_r0 : BitVec 32) : Fin 3 → Nat :=
  let c2_i32_r0 : BitVec 32 := 2#32
  let v80_r0 : BitVec 32 := Scalar.remui v48_3_r0 c2_i32_r0
  let c0_i32_57_r0 : BitVec 32 := 0#32
  let c0_i32_58_r0 : BitVec 32 := 0#32
  ![v80_r0.toNat, 0, 0]

def k2_off33 (i : grid2.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_40_r0 : BitVec 32 := 1#32
  let v52_r0 : BitVec 32 := Scalar.subi v5 c1_i32_40_r0
  let v53_r0 : BitVec 32 := Scalar.select v51_r0 v52_r0 v50_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v59_r0 : BitVec 32 := Scalar.addi v53_r0 v10
  let v81_r0 : BitVec 32 := Scalar.muli c128_i32_r0 v59_r0
  let c0_i32_59_r0 : BitVec 32 := 0#32
  ![v81_r0.toNat, 0]

def k2_chk8 (i : grid2.Coords) (v48_4_r0 : BitVec 32) : Prop :=
  (∀ (k2_h1 : k2_cond1 i = 1#1), ∀ (k2_h18 : k2_cond18 i = 1#1), ∀ a, (k2_off33 i v48_4_r0) a + S128x128.size a ≤ S32000x128.size a)
theorem k2_off33_inb : ∀ (i : grid2.Coords) (v48_4_r0 : BitVec 32) (k2_hw8 : k2_chk8 i v48_4_r0), ∀ (k2_h1 : k2_cond1 i = 1#1), ∀ (k2_h18 : k2_cond18 i = 1#1), ∀ a, (k2_off33 i v48_4_r0) a + S128x128.size a ≤ S32000x128.size a := fun i v48_4_r0 k2_hw8 k2_h1 k2_h18 => k2_hw8 k2_h1 k2_h18

def k2_off34 (v48_3_r0 : BitVec 32) : Fin 1 → Nat :=
  let c2_i32_r0 : BitVec 32 := 2#32
  let v80_r0 : BitVec 32 := Scalar.remui v48_3_r0 c2_i32_r0
  ![v80_r0.toNat]
def k2_off35 (v48_3_r0 : BitVec 32) : Fin 3 → Nat :=
  let c2_i32_r0 : BitVec 32 := 2#32
  let v80_r0 : BitVec 32 := Scalar.remui v48_3_r0 c2_i32_r0
  let c0_i32_61_r0 : BitVec 32 := 0#32
  let c0_i32_62_r0 : BitVec 32 := 0#32
  ![v80_r0.toNat, 0, 0]

def k2_chk7 (i : grid2.Coords) (v48_3_r0 : BitVec 32) : Prop :=
  (∀ (k2_h1 : k2_cond1 i = 1#1), ∀ (k2_h18 : k2_cond18 i = 1#1), ∀ a, (k2_off32 v48_3_r0) a + S1x128x128.size a ≤ S2x128x128.size a) ∧
  (∀ (k2_h1 : k2_cond1 i = 1#1), ∀ (k2_h18 : k2_cond18 i = 1#1), ∀ a, (k2_off34 v48_3_r0) a + S1.size a ≤ S2.size a) ∧
  (∀ (k2_h1 : k2_cond1 i = 1#1), ∀ (k2_h18 : k2_cond18 i = 1#1), ∀ a, (k2_off35 v48_3_r0) a + S1x128x128.size a ≤ S2x128x128.size a)
theorem k2_off32_inb : ∀ (i : grid2.Coords) (v48_3_r0 : BitVec 32) (k2_hw7 : k2_chk7 i v48_3_r0), ∀ (k2_h1 : k2_cond1 i = 1#1), ∀ (k2_h18 : k2_cond18 i = 1#1), ∀ a, (k2_off32 v48_3_r0) a + S1x128x128.size a ≤ S2x128x128.size a := fun i v48_3_r0 k2_hw7 k2_h1 k2_h18 => k2_hw7.1 k2_h1 k2_h18
theorem k2_off34_inb : ∀ (i : grid2.Coords) (v48_3_r0 : BitVec 32) (k2_hw7 : k2_chk7 i v48_3_r0), ∀ (k2_h1 : k2_cond1 i = 1#1), ∀ (k2_h18 : k2_cond18 i = 1#1), ∀ a, (k2_off34 v48_3_r0) a + S1.size a ≤ S2.size a := fun i v48_3_r0 k2_hw7 k2_h1 k2_h18 => k2_hw7.2.1 k2_h1 k2_h18
theorem k2_off35_inb : ∀ (i : grid2.Coords) (v48_3_r0 : BitVec 32) (k2_hw7 : k2_chk7 i v48_3_r0), ∀ (k2_h1 : k2_cond1 i = 1#1), ∀ (k2_h18 : k2_cond18 i = 1#1), ∀ a, (k2_off35 v48_3_r0) a + S1x128x128.size a ≤ S2x128x128.size a := fun i v48_3_r0 k2_hw7 k2_h1 k2_h18 => k2_hw7.2.2 k2_h1 k2_h18

abbrev grid3 : Pipeline.Grid := ⟨2, ![2, 16], ![false, false]⟩

def k3_cond1 (i : grid3.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k3_cond2 (i : grid3.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k3_off1 : Fin 3 → Nat :=
  let c0_i32_24_r0 : BitVec 32 := 0#32
  let c2_i32_r0 : BitVec 32 := 2#32
  let v80_r0 : BitVec 32 := Scalar.remui c0_i32_24_r0 c2_i32_r0
  let c0_i32_57_r0 : BitVec 32 := 0#32
  let c0_i32_58_r0 : BitVec 32 := 0#32
  ![v80_r0.toNat, 0, 0]
def k3_off2 (i : grid3.Coords) : Fin 2 → Nat :=
  let c0_i32_59_r0 : BitVec 32 := 0#32
  let c128_i32_r0 : BitVec 32 := 128#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v20_r0 : BitVec 32 := Scalar.addi c0_i32_10_r0 v10
  let v81_r0 : BitVec 32 := Scalar.muli c128_i32_r0 v20_r0
  ![0, v81_r0.toNat]
def k3_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k3_t1_loop (i : grid3.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k3_off4 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k3_cond3 (i : grid3.Coords) (k3_t1 : Fin (k3_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k3_t1
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k3_off5 (i : grid3.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v93_r0 : BitVec 1 := Scalar.cmpi .eq v92_r0 v5
  let c0_i32_66_r0 : BitVec 32 := 0#32
  let v94_r0 : BitVec 32 := Scalar.select v93_r0 c0_i32_66_r0 v92_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k3_off6 (arg6_r0 : BitVec 32) : Fin 1 → Nat :=
  let c2_i32_101_r0 : BitVec 32 := 2#32
  let v167_r0 : BitVec 32 := Scalar.remui arg6_r0 c2_i32_101_r0
  ![v167_r0.toNat]
def k3_off7 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k3_cond4 (i : grid3.Coords) (k3_t1 : Fin (k3_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k3_t1
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k3_off8 (i : grid3.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k3_off9 (arg7_r0 : BitVec 32) : Fin 1 → Nat :=
  let c2_i32_101_r0 : BitVec 32 := 2#32
  let v168_r0 : BitVec 32 := Scalar.remui arg7_r0 c2_i32_101_r0
  ![v168_r0.toNat]
def k3_off10 (arg8_r0 : BitVec 32) : Fin 3 → Nat :=
  let c2_i32_84_r0 : BitVec 32 := 2#32
  let v132_r0 : BitVec 32 := Scalar.remui arg8_r0 c2_i32_84_r0
  let c0_i32_101_r1 : BitVec 32 := 0#32
  let c0_i32_102_r1 : BitVec 32 := 0#32
  ![v132_r0.toNat, 0, 0]

def k3_chk2 (i : grid3.Coords) (arg8_r0 : BitVec 32) : Prop :=
  (∀ (k3_h1 : k3_cond1 i = 1#1), ∀ a, (k3_off10 arg8_r0) a + S1x128x128.size a ≤ S2x128x128.size a)
theorem k3_off10_inb : ∀ (i : grid3.Coords) (arg8_r0 : BitVec 32) (k3_hw2 : k3_chk2 i arg8_r0), ∀ (k3_h1 : k3_cond1 i = 1#1), ∀ a, (k3_off10 arg8_r0) a + S1x128x128.size a ≤ S2x128x128.size a := fun i arg8_r0 k3_hw2 k3_h1 => k3_hw2 k3_h1

def k3_off11 (arg7_r0 : BitVec 32) : Fin 3 → Nat :=
  let c2_i32_83_r0 : BitVec 32 := 2#32
  let v131_r0 : BitVec 32 := Scalar.remui arg7_r0 c2_i32_83_r0
  let c0_i32_103_r1 : BitVec 32 := 0#32
  let c0_i32_104_r1 : BitVec 32 := 0#32
  ![v131_r0.toNat, 0, 0]

def k3_chk3 (i : grid3.Coords) (arg7_r0 : BitVec 32) : Prop :=
  (∀ (k3_h1 : k3_cond1 i = 1#1), ∀ a, (k3_off11 arg7_r0) a + S1x1x128.size a ≤ S2x1x128.size a)
theorem k3_off11_inb : ∀ (i : grid3.Coords) (arg7_r0 : BitVec 32) (k3_hw3 : k3_chk3 i arg7_r0), ∀ (k3_h1 : k3_cond1 i = 1#1), ∀ a, (k3_off11 arg7_r0) a + S1x1x128.size a ≤ S2x1x128.size a := fun i arg7_r0 k3_hw3 k3_h1 => k3_hw3 k3_h1

def k3_off12 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k3_cond7 (i : grid3.Coords) (k3_t1 : Fin (k3_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k3_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k3_off13 (i : grid3.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k3_off14 (arg8_r0 : BitVec 32) : Fin 1 → Nat :=
  let c2_i32_101_r0 : BitVec 32 := 2#32
  let v167_r0 : BitVec 32 := Scalar.remui arg8_r0 c2_i32_101_r0
  ![v167_r0.toNat]
def k3_off15 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k3_cond9 (i : grid3.Coords) (k3_t1 : Fin (k3_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k3_t1
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k3_off16 (i : grid3.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_63_r0 : BitVec 32 := 1#32
  let v88_r0 : BitVec 32 := Scalar.subi v5 c1_i32_63_r0
  let v89_r0 : BitVec 32 := Scalar.select v87_r0 v88_r0 v86_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k3_off17 (arg9_r0 : BitVec 32) : Fin 1 → Nat :=
  let c2_i32_101_r0 : BitVec 32 := 2#32
  let v167_r0 : BitVec 32 := Scalar.remui arg9_r0 c2_i32_101_r0
  ![v167_r0.toNat]

def k3_chk1 (i : grid3.Coords) (k3_t1 : Fin (k3_t1_loop i).trips) (arg6_r0 : BitVec 32) (arg7_r0 : BitVec 32) (arg8_r0 : BitVec 32) (arg9_r0 : BitVec 32) (arg10_r0 : BitVec 32) : Prop :=
  (∀ (k3_h1 : k3_cond1 i = 1#1), ∀ (k3_h3 : k3_cond3 i k3_t1 arg10_r0 = 1#1), ∀ a, (k3_off4 arg6_r0) a + S1x1x128.size a ≤ S2x1x128.size a) ∧
  (∀ (k3_h1 : k3_cond1 i = 1#1), ∀ (k3_h3 : k3_cond3 i k3_t1 arg10_r0 = 1#1), ∀ a, (k3_off5 i arg10_r0) a + S1x128.size a ≤ S1x32000.size a) ∧
  (∀ (k3_h1 : k3_cond1 i = 1#1), ∀ (k3_h3 : k3_cond3 i k3_t1 arg10_r0 = 1#1), ∀ a, (k3_off6 arg6_r0) a + S1.size a ≤ S2.size a) ∧
  (∀ (k3_h1 : k3_cond1 i = 1#1), ∀ (k3_h4 : k3_cond4 i k3_t1 arg10_r0 = 1#1), ∀ a, (k3_off7 arg7_r0) a + S1x1x128.size a ≤ S2x1x128.size a) ∧
  (∀ (k3_h1 : k3_cond1 i = 1#1), ∀ (k3_h4 : k3_cond4 i k3_t1 arg10_r0 = 1#1), ∀ a, (k3_off8 i arg10_r0) a + S1x128.size a ≤ S1x32000.size a) ∧
  (∀ (k3_h1 : k3_cond1 i = 1#1), ∀ (k3_h4 : k3_cond4 i k3_t1 arg10_r0 = 1#1), ∀ a, (k3_off9 arg7_r0) a + S1.size a ≤ S2.size a) ∧
  (∀ (k3_h1 : k3_cond1 i = 1#1), ∀ (k3_h7 : k3_cond7 i k3_t1 arg10_r0 = 1#1), ∀ a, (k3_off12 arg8_r0) a + S1x128x128.size a ≤ S2x128x128.size a) ∧
  (∀ (k3_h1 : k3_cond1 i = 1#1), ∀ (k3_h7 : k3_cond7 i k3_t1 arg10_r0 = 1#1), ∀ a, (k3_off13 i arg10_r0) a + S128x128.size a ≤ S32000x128.size a) ∧
  (∀ (k3_h1 : k3_cond1 i = 1#1), ∀ (k3_h7 : k3_cond7 i k3_t1 arg10_r0 = 1#1), ∀ a, (k3_off14 arg8_r0) a + S1.size a ≤ S2.size a) ∧
  (∀ (k3_h1 : k3_cond1 i = 1#1), ∀ (k3_h9 : k3_cond9 i k3_t1 arg10_r0 = 1#1), ∀ a, (k3_off15 arg9_r0) a + S1x128x128.size a ≤ S2x128x128.size a) ∧
  (∀ (k3_h1 : k3_cond1 i = 1#1), ∀ (k3_h9 : k3_cond9 i k3_t1 arg10_r0 = 1#1), ∀ a, (k3_off16 i arg10_r0) a + S128x128.size a ≤ S32000x128.size a) ∧
  (∀ (k3_h1 : k3_cond1 i = 1#1), ∀ (k3_h9 : k3_cond9 i k3_t1 arg10_r0 = 1#1), ∀ a, (k3_off17 arg9_r0) a + S1.size a ≤ S2.size a)
theorem k3_off4_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h3 : k3_cond3 i k3_t1 arg10_r0 = 1#1), ∀ a, (k3_off4 arg6_r0) a + S1x1x128.size a ≤ S2x1x128.size a := fun i k3_t1 arg6_r0 arg7_r0 arg8_r0 arg9_r0 arg10_r0 k3_hw1 k3_h1 k3_h3 => k3_hw1.1 k3_h1 k3_h3
theorem k3_off5_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h3 : k3_cond3 i k3_t1 arg10_r0 = 1#1), ∀ a, (k3_off5 i arg10_r0) a + S1x128.size a ≤ S1x32000.size a := fun i k3_t1 arg6_r0 arg7_r0 arg8_r0 arg9_r0 arg10_r0 k3_hw1 k3_h1 k3_h3 => k3_hw1.2.1 k3_h1 k3_h3
theorem k3_off6_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h3 : k3_cond3 i k3_t1 arg10_r0 = 1#1), ∀ a, (k3_off6 arg6_r0) a + S1.size a ≤ S2.size a := fun i k3_t1 arg6_r0 arg7_r0 arg8_r0 arg9_r0 arg10_r0 k3_hw1 k3_h1 k3_h3 => k3_hw1.2.2.1 k3_h1 k3_h3
theorem k3_off7_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h4 : k3_cond4 i k3_t1 arg10_r0 = 1#1), ∀ a, (k3_off7 arg7_r0) a + S1x1x128.size a ≤ S2x1x128.size a := fun i k3_t1 arg6_r0 arg7_r0 arg8_r0 arg9_r0 arg10_r0 k3_hw1 k3_h1 k3_h4 => k3_hw1.2.2.2.1 k3_h1 k3_h4
theorem k3_off8_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h4 : k3_cond4 i k3_t1 arg10_r0 = 1#1), ∀ a, (k3_off8 i arg10_r0) a + S1x128.size a ≤ S1x32000.size a := fun i k3_t1 arg6_r0 arg7_r0 arg8_r0 arg9_r0 arg10_r0 k3_hw1 k3_h1 k3_h4 => k3_hw1.2.2.2.2.1 k3_h1 k3_h4
theorem k3_off9_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h4 : k3_cond4 i k3_t1 arg10_r0 = 1#1), ∀ a, (k3_off9 arg7_r0) a + S1.size a ≤ S2.size a := fun i k3_t1 arg6_r0 arg7_r0 arg8_r0 arg9_r0 arg10_r0 k3_hw1 k3_h1 k3_h4 => k3_hw1.2.2.2.2.2.1 k3_h1 k3_h4
theorem k3_off12_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h7 : k3_cond7 i k3_t1 arg10_r0 = 1#1), ∀ a, (k3_off12 arg8_r0) a + S1x128x128.size a ≤ S2x128x128.size a := fun i k3_t1 arg6_r0 arg7_r0 arg8_r0 arg9_r0 arg10_r0 k3_hw1 k3_h1 k3_h7 => k3_hw1.2.2.2.2.2.2.1 k3_h1 k3_h7
theorem k3_off13_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h7 : k3_cond7 i k3_t1 arg10_r0 = 1#1), ∀ a, (k3_off13 i arg10_r0) a + S128x128.size a ≤ S32000x128.size a := fun i k3_t1 arg6_r0 arg7_r0 arg8_r0 arg9_r0 arg10_r0 k3_hw1 k3_h1 k3_h7 => k3_hw1.2.2.2.2.2.2.2.1 k3_h1 k3_h7
theorem k3_off14_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h7 : k3_cond7 i k3_t1 arg10_r0 = 1#1), ∀ a, (k3_off14 arg8_r0) a + S1.size a ≤ S2.size a := fun i k3_t1 arg6_r0 arg7_r0 arg8_r0 arg9_r0 arg10_r0 k3_hw1 k3_h1 k3_h7 => k3_hw1.2.2.2.2.2.2.2.2.1 k3_h1 k3_h7
theorem k3_off15_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h9 : k3_cond9 i k3_t1 arg10_r0 = 1#1), ∀ a, (k3_off15 arg9_r0) a + S1x128x128.size a ≤ S2x128x128.size a := fun i k3_t1 arg6_r0 arg7_r0 arg8_r0 arg9_r0 arg10_r0 k3_hw1 k3_h1 k3_h9 => k3_hw1.2.2.2.2.2.2.2.2.2.1 k3_h1 k3_h9
theorem k3_off16_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h9 : k3_cond9 i k3_t1 arg10_r0 = 1#1), ∀ a, (k3_off16 i arg10_r0) a + S128x128.size a ≤ S32000x128.size a := fun i k3_t1 arg6_r0 arg7_r0 arg8_r0 arg9_r0 arg10_r0 k3_hw1 k3_h1 k3_h9 => k3_hw1.2.2.2.2.2.2.2.2.2.2.1 k3_h1 k3_h9
theorem k3_off17_inb : ∀ (i : grid3.Coords) (k3_t1 : Fin (k3_t1_loop i).trips) (arg6_r0 : BitVec 32) (arg7_r0 : BitVec 32) (arg8_r0 : BitVec 32) (arg9_r0 : BitVec 32) (arg10_r0 : BitVec 32) (k3_hw1 : k3_chk1 i k3_t1 arg6_r0 arg7_r0 arg8_r0 arg9_r0 arg10_r0), ∀ (k3_h1 : k3_cond1 i = 1#1), ∀ (k3_h9 : k3_cond9 i k3_t1 arg10_r0 = 1#1), ∀ a, (k3_off17 arg9_r0) a + S1.size a ≤ S2.size a := fun i k3_t1 arg6_r0 arg7_r0 arg8_r0 arg9_r0 arg10_r0 k3_hw1 k3_h1 k3_h9 => k3_hw1.2.2.2.2.2.2.2.2.2.2.2 k3_h1 k3_h9

@[reducible] def k3_t2_loop (i : grid3.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k3_off18 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k3_cond10 (i : grid3.Coords) (k3_t2 : Fin (k3_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k3_t2
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k3_off19 (i : grid3.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v93_r0 : BitVec 1 := Scalar.cmpi .eq v92_r0 v5
  let c0_i32_66_r0 : BitVec 32 := 0#32
  let v94_r0 : BitVec 32 := Scalar.select v93_r0 c0_i32_66_r0 v92_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k3_off20 (arg6_r0 : BitVec 32) : Fin 1 → Nat :=
  let c2_i32_101_r0 : BitVec 32 := 2#32
  let v167_r0 : BitVec 32 := Scalar.remui arg6_r0 c2_i32_101_r0
  ![v167_r0.toNat]
def k3_off21 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k3_cond11 (i : grid3.Coords) (k3_t2 : Fin (k3_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k3_t2
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k3_off22 (i : grid3.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k3_off23 (arg7_r0 : BitVec 32) : Fin 1 → Nat :=
  let c2_i32_101_r0 : BitVec 32 := 2#32
  let v168_r0 : BitVec 32 := Scalar.remui arg7_r0 c2_i32_101_r0
  ![v168_r0.toNat]
def k3_off24 (arg8_r0 : BitVec 32) : Fin 3 → Nat :=
  let c2_i32_84_r0 : BitVec 32 := 2#32
  let v132_r0 : BitVec 32 := Scalar.remui arg8_r0 c2_i32_84_r0
  let c0_i32_101_r2 : BitVec 32 := 0#32
  let c0_i32_102_r2 : BitVec 32 := 0#32
  ![v132_r0.toNat, 0, 0]

def k3_chk5 (i : grid3.Coords) (k3_t2 : Fin (k3_t2_loop i).trips) (arg8_r0 : BitVec 32) : Prop :=
  (∀ (k3_h1 : k3_cond1 i = 1#1), ∀ a, (k3_off24 arg8_r0) a + S1x128x128.size a ≤ S2x128x128.size a)
theorem k3_off24_inb : ∀ (i : grid3.Coords) (k3_t2 : Fin (k3_t2_loop i).trips) (arg8_r0 : BitVec 32) (k3_hw5 : k3_chk5 i k3_t2 arg8_r0), ∀ (k3_h1 : k3_cond1 i = 1#1), ∀ a, (k3_off24 arg8_r0) a + S1x128x128.size a ≤ S2x128x128.size a := fun i k3_t2 arg8_r0 k3_hw5 k3_h1 => k3_hw5 k3_h1

def k3_off25 (arg7_r0 : BitVec 32) : Fin 3 → Nat :=
  let c2_i32_83_r0 : BitVec 32 := 2#32
  let v131_r0 : BitVec 32 := Scalar.remui arg7_r0 c2_i32_83_r0
  let c0_i32_103_r2 : BitVec 32 := 0#32
  let c0_i32_104_r2 : BitVec 32 := 0#32
  ![v131_r0.toNat, 0, 0]

def k3_chk6 (i : grid3.Coords) (k3_t2 : Fin (k3_t2_loop i).trips) (arg7_r0 : BitVec 32) : Prop :=
  (∀ (k3_h1 : k3_cond1 i = 1#1), ∀ a, (k3_off25 arg7_r0) a + S1x1x128.size a ≤ S2x1x128.size a)
theorem k3_off25_inb : ∀ (i : grid3.Coords) (k3_t2 : Fin (k3_t2_loop i).trips) (arg7_r0 : BitVec 32) (k3_hw6 : k3_chk6 i k3_t2 arg7_r0), ∀ (k3_h1 : k3_cond1 i = 1#1), ∀ a, (k3_off25 arg7_r0) a + S1x1x128.size a ≤ S2x1x128.size a := fun i k3_t2 arg7_r0 k3_hw6 k3_h1 => k3_hw6 k3_h1

def k3_off26 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k3_cond14 (i : grid3.Coords) (k3_t2 : Fin (k3_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k3_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k3_off27 (i : grid3.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k3_off28 (arg8_r0 : BitVec 32) : Fin 1 → Nat :=
  let c2_i32_101_r0 : BitVec 32 := 2#32
  let v167_r0 : BitVec 32 := Scalar.remui arg8_r0 c2_i32_101_r0
  ![v167_r0.toNat]
def k3_off29 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k3_cond16 (i : grid3.Coords) (k3_t2 : Fin (k3_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k3_t2
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k3_off30 (i : grid3.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_63_r0 : BitVec 32 := 1#32
  let v88_r0 : BitVec 32 := Scalar.subi v5 c1_i32_63_r0
  let v89_r0 : BitVec 32 := Scalar.select v87_r0 v88_r0 v86_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k3_off31 (arg9_r0 : BitVec 32) : Fin 1 → Nat :=
  let c2_i32_101_r0 : BitVec 32 := 2#32
  let v167_r0 : BitVec 32 := Scalar.remui arg9_r0 c2_i32_101_r0
  ![v167_r0.toNat]

def k3_chk4 (i : grid3.Coords) (k3_t2 : Fin (k3_t2_loop i).trips) (arg6_r0 : BitVec 32) (arg7_r0 : BitVec 32) (arg8_r0 : BitVec 32) (arg9_r0 : BitVec 32) (arg10_r0 : BitVec 32) : Prop :=
  (∀ (k3_h1 : k3_cond1 i = 1#1), ∀ (k3_h10 : k3_cond10 i k3_t2 arg10_r0 = 1#1), ∀ a, (k3_off18 arg6_r0) a + S1x1x128.size a ≤ S2x1x128.size a) ∧
  (∀ (k3_h1 : k3_cond1 i = 1#1), ∀ (k3_h10 : k3_cond10 i k3_t2 arg10_r0 = 1#1), ∀ a, (k3_off19 i arg10_r0) a + S1x128.size a ≤ S1x32000.size a) ∧
  (∀ (k3_h1 : k3_cond1 i = 1#1), ∀ (k3_h10 : k3_cond10 i k3_t2 arg10_r0 = 1#1), ∀ a, (k3_off20 arg6_r0) a + S1.size a ≤ S2.size a) ∧
  (∀ (k3_h1 : k3_cond1 i = 1#1), ∀ (k3_h11 : k3_cond11 i k3_t2 arg10_r0 = 1#1), ∀ a, (k3_off21 arg7_r0) a + S1x1x128.size a ≤ S2x1x128.size a) ∧
  (∀ (k3_h1 : k3_cond1 i = 1#1), ∀ (k3_h11 : k3_cond11 i k3_t2 arg10_r0 = 1#1), ∀ a, (k3_off22 i arg10_r0) a + S1x128.size a ≤ S1x32000.size a) ∧
  (∀ (k3_h1 : k3_cond1 i = 1#1), ∀ (k3_h11 : k3_cond11 i k3_t2 arg10_r0 = 1#1), ∀ a, (k3_off23 arg7_r0) a + S1.size a ≤ S2.size a) ∧
  (∀ (k3_h1 : k3_cond1 i = 1#1), ∀ (k3_h14 : k3_cond14 i k3_t2 arg10_r0 = 1#1), ∀ a, (k3_off26 arg8_r0) a + S1x128x128.size a ≤ S2x128x128.size a) ∧
  (∀ (k3_h1 : k3_cond1 i = 1#1), ∀ (k3_h14 : k3_cond14 i k3_t2 arg10_r0 = 1#1), ∀ a, (k3_off27 i arg10_r0) a + S128x128.size a ≤ S32000x128.size a) ∧
  (∀ (k3_h1 : k3_cond1 i = 1#1), ∀ (k3_h14 : k3_cond14 i k3_t2 arg10_r0 = 1#1), ∀ a, (k3_off28 arg8_r0) a + S1.size a ≤ S2.size a) ∧
  (∀ (k3_h1 : k3_cond1 i = 1#1), ∀ (k3_h16 : k3_cond16 i k3_t2 arg10_r0 = 1#1), ∀ a, (k3_off29 arg9_r0) a + S1x128x128.size a ≤ S2x128x128.size a) ∧
  (∀ (k3_h1 : k3_cond1 i = 1#1), ∀ (k3_h16 : k3_cond16 i k3_t2 arg10_r0 = 1#1), ∀ a, (k3_off30 i arg10_r0) a + S128x128.size a ≤ S32000x128.size a) ∧
  (∀ (k3_h1 : k3_cond1 i = 1#1), ∀ (k3_h16 : k3_cond16 i k3_t2 arg10_r0 = 1#1), ∀ a, (k3_off31 arg9_r0) a + S1.size a ≤ S2.size a)
theorem k3_off18_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h10 : k3_cond10 i k3_t2 arg10_r0 = 1#1), ∀ a, (k3_off18 arg6_r0) a + S1x1x128.size a ≤ S2x1x128.size a := fun i k3_t2 arg6_r0 arg7_r0 arg8_r0 arg9_r0 arg10_r0 k3_hw4 k3_h1 k3_h10 => k3_hw4.1 k3_h1 k3_h10
theorem k3_off19_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h10 : k3_cond10 i k3_t2 arg10_r0 = 1#1), ∀ a, (k3_off19 i arg10_r0) a + S1x128.size a ≤ S1x32000.size a := fun i k3_t2 arg6_r0 arg7_r0 arg8_r0 arg9_r0 arg10_r0 k3_hw4 k3_h1 k3_h10 => k3_hw4.2.1 k3_h1 k3_h10
theorem k3_off20_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h10 : k3_cond10 i k3_t2 arg10_r0 = 1#1), ∀ a, (k3_off20 arg6_r0) a + S1.size a ≤ S2.size a := fun i k3_t2 arg6_r0 arg7_r0 arg8_r0 arg9_r0 arg10_r0 k3_hw4 k3_h1 k3_h10 => k3_hw4.2.2.1 k3_h1 k3_h10
theorem k3_off21_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h11 : k3_cond11 i k3_t2 arg10_r0 = 1#1), ∀ a, (k3_off21 arg7_r0) a + S1x1x128.size a ≤ S2x1x128.size a := fun i k3_t2 arg6_r0 arg7_r0 arg8_r0 arg9_r0 arg10_r0 k3_hw4 k3_h1 k3_h11 => k3_hw4.2.2.2.1 k3_h1 k3_h11
theorem k3_off22_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h11 : k3_cond11 i k3_t2 arg10_r0 = 1#1), ∀ a, (k3_off22 i arg10_r0) a + S1x128.size a ≤ S1x32000.size a := fun i k3_t2 arg6_r0 arg7_r0 arg8_r0 arg9_r0 arg10_r0 k3_hw4 k3_h1 k3_h11 => k3_hw4.2.2.2.2.1 k3_h1 k3_h11
theorem k3_off23_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h11 : k3_cond11 i k3_t2 arg10_r0 = 1#1), ∀ a, (k3_off23 arg7_r0) a + S1.size a ≤ S2.size a := fun i k3_t2 arg6_r0 arg7_r0 arg8_r0 arg9_r0 arg10_r0 k3_hw4 k3_h1 k3_h11 => k3_hw4.2.2.2.2.2.1 k3_h1 k3_h11
theorem k3_off26_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h14 : k3_cond14 i k3_t2 arg10_r0 = 1#1), ∀ a, (k3_off26 arg8_r0) a + S1x128x128.size a ≤ S2x128x128.size a := fun i k3_t2 arg6_r0 arg7_r0 arg8_r0 arg9_r0 arg10_r0 k3_hw4 k3_h1 k3_h14 => k3_hw4.2.2.2.2.2.2.1 k3_h1 k3_h14
theorem k3_off27_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h14 : k3_cond14 i k3_t2 arg10_r0 = 1#1), ∀ a, (k3_off27 i arg10_r0) a + S128x128.size a ≤ S32000x128.size a := fun i k3_t2 arg6_r0 arg7_r0 arg8_r0 arg9_r0 arg10_r0 k3_hw4 k3_h1 k3_h14 => k3_hw4.2.2.2.2.2.2.2.1 k3_h1 k3_h14
theorem k3_off28_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h14 : k3_cond14 i k3_t2 arg10_r0 = 1#1), ∀ a, (k3_off28 arg8_r0) a + S1.size a ≤ S2.size a := fun i k3_t2 arg6_r0 arg7_r0 arg8_r0 arg9_r0 arg10_r0 k3_hw4 k3_h1 k3_h14 => k3_hw4.2.2.2.2.2.2.2.2.1 k3_h1 k3_h14
theorem k3_off29_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h16 : k3_cond16 i k3_t2 arg10_r0 = 1#1), ∀ a, (k3_off29 arg9_r0) a + S1x128x128.size a ≤ S2x128x128.size a := fun i k3_t2 arg6_r0 arg7_r0 arg8_r0 arg9_r0 arg10_r0 k3_hw4 k3_h1 k3_h16 => k3_hw4.2.2.2.2.2.2.2.2.2.1 k3_h1 k3_h16
theorem k3_off30_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h16 : k3_cond16 i k3_t2 arg10_r0 = 1#1), ∀ a, (k3_off30 i arg10_r0) a + S128x128.size a ≤ S32000x128.size a := fun i k3_t2 arg6_r0 arg7_r0 arg8_r0 arg9_r0 arg10_r0 k3_hw4 k3_h1 k3_h16 => k3_hw4.2.2.2.2.2.2.2.2.2.2.1 k3_h1 k3_h16
theorem k3_off31_inb : ∀ (i : grid3.Coords) (k3_t2 : Fin (k3_t2_loop i).trips) (arg6_r0 : BitVec 32) (arg7_r0 : BitVec 32) (arg8_r0 : BitVec 32) (arg9_r0 : BitVec 32) (arg10_r0 : BitVec 32) (k3_hw4 : k3_chk4 i k3_t2 arg6_r0 arg7_r0 arg8_r0 arg9_r0 arg10_r0), ∀ (k3_h1 : k3_cond1 i = 1#1), ∀ (k3_h16 : k3_cond16 i k3_t2 arg10_r0 = 1#1), ∀ a, (k3_off31 arg9_r0) a + S1.size a ≤ S2.size a := fun i k3_t2 arg6_r0 arg7_r0 arg8_r0 arg9_r0 arg10_r0 k3_hw4 k3_h1 k3_h16 => k3_hw4.2.2.2.2.2.2.2.2.2.2.2 k3_h1 k3_h16

def k3_cond18 (i : grid3.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k3_off32 (v48_3_r0 : BitVec 32) : Fin 3 → Nat :=
  let c2_i32_r0 : BitVec 32 := 2#32
  let v80_r0 : BitVec 32 := Scalar.remui v48_3_r0 c2_i32_r0
  let c0_i32_57_r0 : BitVec 32 := 0#32
  let c0_i32_58_r0 : BitVec 32 := 0#32
  ![v80_r0.toNat, 0, 0]

def k3_off33 (i : grid3.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_40_r0 : BitVec 32 := 1#32
  let v52_r0 : BitVec 32 := Scalar.subi v5 c1_i32_40_r0
  let v53_r0 : BitVec 32 := Scalar.select v51_r0 v52_r0 v50_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v59_r0 : BitVec 32 := Scalar.addi v53_r0 v10
  let v81_r0 : BitVec 32 := Scalar.muli c128_i32_r0 v59_r0
  let c0_i32_59_r0 : BitVec 32 := 0#32
  ![v81_r0.toNat, 0]

def k3_chk8 (i : grid3.Coords) (v48_4_r0 : BitVec 32) : Prop :=
  (∀ (k3_h1 : k3_cond1 i = 1#1), ∀ (k3_h18 : k3_cond18 i = 1#1), ∀ a, (k3_off33 i v48_4_r0) a + S128x128.size a ≤ S32000x128.size a)
theorem k3_off33_inb : ∀ (i : grid3.Coords) (v48_4_r0 : BitVec 32) (k3_hw8 : k3_chk8 i v48_4_r0), ∀ (k3_h1 : k3_cond1 i = 1#1), ∀ (k3_h18 : k3_cond18 i = 1#1), ∀ a, (k3_off33 i v48_4_r0) a + S128x128.size a ≤ S32000x128.size a := fun i v48_4_r0 k3_hw8 k3_h1 k3_h18 => k3_hw8 k3_h1 k3_h18

def k3_off34 (v48_3_r0 : BitVec 32) : Fin 1 → Nat :=
  let c2_i32_r0 : BitVec 32 := 2#32
  let v80_r0 : BitVec 32 := Scalar.remui v48_3_r0 c2_i32_r0
  ![v80_r0.toNat]
def k3_off35 (v48_3_r0 : BitVec 32) : Fin 3 → Nat :=
  let c2_i32_r0 : BitVec 32 := 2#32
  let v80_r0 : BitVec 32 := Scalar.remui v48_3_r0 c2_i32_r0
  let c0_i32_61_r0 : BitVec 32 := 0#32
  let c0_i32_62_r0 : BitVec 32 := 0#32
  ![v80_r0.toNat, 0, 0]

def k3_chk7 (i : grid3.Coords) (v48_3_r0 : BitVec 32) : Prop :=
  (∀ (k3_h1 : k3_cond1 i = 1#1), ∀ (k3_h18 : k3_cond18 i = 1#1), ∀ a, (k3_off32 v48_3_r0) a + S1x128x128.size a ≤ S2x128x128.size a) ∧
  (∀ (k3_h1 : k3_cond1 i = 1#1), ∀ (k3_h18 : k3_cond18 i = 1#1), ∀ a, (k3_off34 v48_3_r0) a + S1.size a ≤ S2.size a) ∧
  (∀ (k3_h1 : k3_cond1 i = 1#1), ∀ (k3_h18 : k3_cond18 i = 1#1), ∀ a, (k3_off35 v48_3_r0) a + S1x128x128.size a ≤ S2x128x128.size a)
theorem k3_off32_inb : ∀ (i : grid3.Coords) (v48_3_r0 : BitVec 32) (k3_hw7 : k3_chk7 i v48_3_r0), ∀ (k3_h1 : k3_cond1 i = 1#1), ∀ (k3_h18 : k3_cond18 i = 1#1), ∀ a, (k3_off32 v48_3_r0) a + S1x128x128.size a ≤ S2x128x128.size a := fun i v48_3_r0 k3_hw7 k3_h1 k3_h18 => k3_hw7.1 k3_h1 k3_h18
theorem k3_off34_inb : ∀ (i : grid3.Coords) (v48_3_r0 : BitVec 32) (k3_hw7 : k3_chk7 i v48_3_r0), ∀ (k3_h1 : k3_cond1 i = 1#1), ∀ (k3_h18 : k3_cond18 i = 1#1), ∀ a, (k3_off34 v48_3_r0) a + S1.size a ≤ S2.size a := fun i v48_3_r0 k3_hw7 k3_h1 k3_h18 => k3_hw7.2.1 k3_h1 k3_h18
theorem k3_off35_inb : ∀ (i : grid3.Coords) (v48_3_r0 : BitVec 32) (k3_hw7 : k3_chk7 i v48_3_r0), ∀ (k3_h1 : k3_cond1 i = 1#1), ∀ (k3_h18 : k3_cond18 i = 1#1), ∀ a, (k3_off35 v48_3_r0) a + S1x128x128.size a ≤ S2x128x128.size a := fun i v48_3_r0 k3_hw7 k3_h1 k3_h18 => k3_hw7.2.2 k3_h1 k3_h18

abbrev grid4 : Pipeline.Grid := ⟨2, ![2, 16], ![false, false]⟩

def k4_cond1 (i : grid4.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k4_cond2 (i : grid4.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k4_off1 : Fin 3 → Nat :=
  let c0_i32_24_r0 : BitVec 32 := 0#32
  let c2_i32_r0 : BitVec 32 := 2#32
  let v80_r0 : BitVec 32 := Scalar.remui c0_i32_24_r0 c2_i32_r0
  let c0_i32_57_r0 : BitVec 32 := 0#32
  let c0_i32_58_r0 : BitVec 32 := 0#32
  ![v80_r0.toNat, 0, 0]
def k4_off2 (i : grid4.Coords) : Fin 2 → Nat :=
  let c0_i32_59_r0 : BitVec 32 := 0#32
  let c128_i32_r0 : BitVec 32 := 128#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v20_r0 : BitVec 32 := Scalar.addi c0_i32_10_r0 v10
  let v81_r0 : BitVec 32 := Scalar.muli c128_i32_r0 v20_r0
  ![0, v81_r0.toNat]
def k4_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k4_t1_loop (i : grid4.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k4_off4 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k4_cond3 (i : grid4.Coords) (k4_t1 : Fin (k4_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k4_t1
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k4_off5 (i : grid4.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v93_r0 : BitVec 1 := Scalar.cmpi .eq v92_r0 v5
  let c0_i32_66_r0 : BitVec 32 := 0#32
  let v94_r0 : BitVec 32 := Scalar.select v93_r0 c0_i32_66_r0 v92_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k4_off6 (arg6_r0 : BitVec 32) : Fin 1 → Nat :=
  let c2_i32_101_r0 : BitVec 32 := 2#32
  let v167_r0 : BitVec 32 := Scalar.remui arg6_r0 c2_i32_101_r0
  ![v167_r0.toNat]
def k4_off7 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k4_cond4 (i : grid4.Coords) (k4_t1 : Fin (k4_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k4_t1
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k4_off8 (i : grid4.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k4_off9 (arg7_r0 : BitVec 32) : Fin 1 → Nat :=
  let c2_i32_101_r0 : BitVec 32 := 2#32
  let v168_r0 : BitVec 32 := Scalar.remui arg7_r0 c2_i32_101_r0
  ![v168_r0.toNat]
def k4_off10 (arg8_r0 : BitVec 32) : Fin 3 → Nat :=
  let c2_i32_84_r0 : BitVec 32 := 2#32
  let v132_r0 : BitVec 32 := Scalar.remui arg8_r0 c2_i32_84_r0
  let c0_i32_101_r1 : BitVec 32 := 0#32
  let c0_i32_102_r1 : BitVec 32 := 0#32
  ![v132_r0.toNat, 0, 0]

def k4_chk2 (i : grid4.Coords) (arg8_r0 : BitVec 32) : Prop :=
  (∀ (k4_h1 : k4_cond1 i = 1#1), ∀ a, (k4_off10 arg8_r0) a + S1x128x128.size a ≤ S2x128x128.size a)
theorem k4_off10_inb : ∀ (i : grid4.Coords) (arg8_r0 : BitVec 32) (k4_hw2 : k4_chk2 i arg8_r0), ∀ (k4_h1 : k4_cond1 i = 1#1), ∀ a, (k4_off10 arg8_r0) a + S1x128x128.size a ≤ S2x128x128.size a := fun i arg8_r0 k4_hw2 k4_h1 => k4_hw2 k4_h1

def k4_off11 (arg7_r0 : BitVec 32) : Fin 3 → Nat :=
  let c2_i32_83_r0 : BitVec 32 := 2#32
  let v131_r0 : BitVec 32 := Scalar.remui arg7_r0 c2_i32_83_r0
  let c0_i32_103_r1 : BitVec 32 := 0#32
  let c0_i32_104_r1 : BitVec 32 := 0#32
  ![v131_r0.toNat, 0, 0]

def k4_chk3 (i : grid4.Coords) (arg7_r0 : BitVec 32) : Prop :=
  (∀ (k4_h1 : k4_cond1 i = 1#1), ∀ a, (k4_off11 arg7_r0) a + S1x1x128.size a ≤ S2x1x128.size a)
theorem k4_off11_inb : ∀ (i : grid4.Coords) (arg7_r0 : BitVec 32) (k4_hw3 : k4_chk3 i arg7_r0), ∀ (k4_h1 : k4_cond1 i = 1#1), ∀ a, (k4_off11 arg7_r0) a + S1x1x128.size a ≤ S2x1x128.size a := fun i arg7_r0 k4_hw3 k4_h1 => k4_hw3 k4_h1

def k4_off12 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k4_cond7 (i : grid4.Coords) (k4_t1 : Fin (k4_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k4_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k4_off13 (i : grid4.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k4_off14 (arg8_r0 : BitVec 32) : Fin 1 → Nat :=
  let c2_i32_101_r0 : BitVec 32 := 2#32
  let v167_r0 : BitVec 32 := Scalar.remui arg8_r0 c2_i32_101_r0
  ![v167_r0.toNat]
def k4_off15 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k4_cond9 (i : grid4.Coords) (k4_t1 : Fin (k4_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k4_t1
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k4_off16 (i : grid4.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_63_r0 : BitVec 32 := 1#32
  let v88_r0 : BitVec 32 := Scalar.subi v5 c1_i32_63_r0
  let v89_r0 : BitVec 32 := Scalar.select v87_r0 v88_r0 v86_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k4_off17 (arg9_r0 : BitVec 32) : Fin 1 → Nat :=
  let c2_i32_101_r0 : BitVec 32 := 2#32
  let v167_r0 : BitVec 32 := Scalar.remui arg9_r0 c2_i32_101_r0
  ![v167_r0.toNat]

def k4_chk1 (i : grid4.Coords) (k4_t1 : Fin (k4_t1_loop i).trips) (arg6_r0 : BitVec 32) (arg7_r0 : BitVec 32) (arg8_r0 : BitVec 32) (arg9_r0 : BitVec 32) (arg10_r0 : BitVec 32) : Prop :=
  (∀ (k4_h1 : k4_cond1 i = 1#1), ∀ (k4_h3 : k4_cond3 i k4_t1 arg10_r0 = 1#1), ∀ a, (k4_off4 arg6_r0) a + S1x1x128.size a ≤ S2x1x128.size a) ∧
  (∀ (k4_h1 : k4_cond1 i = 1#1), ∀ (k4_h3 : k4_cond3 i k4_t1 arg10_r0 = 1#1), ∀ a, (k4_off5 i arg10_r0) a + S1x128.size a ≤ S1x32000.size a) ∧
  (∀ (k4_h1 : k4_cond1 i = 1#1), ∀ (k4_h3 : k4_cond3 i k4_t1 arg10_r0 = 1#1), ∀ a, (k4_off6 arg6_r0) a + S1.size a ≤ S2.size a) ∧
  (∀ (k4_h1 : k4_cond1 i = 1#1), ∀ (k4_h4 : k4_cond4 i k4_t1 arg10_r0 = 1#1), ∀ a, (k4_off7 arg7_r0) a + S1x1x128.size a ≤ S2x1x128.size a) ∧
  (∀ (k4_h1 : k4_cond1 i = 1#1), ∀ (k4_h4 : k4_cond4 i k4_t1 arg10_r0 = 1#1), ∀ a, (k4_off8 i arg10_r0) a + S1x128.size a ≤ S1x32000.size a) ∧
  (∀ (k4_h1 : k4_cond1 i = 1#1), ∀ (k4_h4 : k4_cond4 i k4_t1 arg10_r0 = 1#1), ∀ a, (k4_off9 arg7_r0) a + S1.size a ≤ S2.size a) ∧
  (∀ (k4_h1 : k4_cond1 i = 1#1), ∀ (k4_h7 : k4_cond7 i k4_t1 arg10_r0 = 1#1), ∀ a, (k4_off12 arg8_r0) a + S1x128x128.size a ≤ S2x128x128.size a) ∧
  (∀ (k4_h1 : k4_cond1 i = 1#1), ∀ (k4_h7 : k4_cond7 i k4_t1 arg10_r0 = 1#1), ∀ a, (k4_off13 i arg10_r0) a + S128x128.size a ≤ S32000x128.size a) ∧
  (∀ (k4_h1 : k4_cond1 i = 1#1), ∀ (k4_h7 : k4_cond7 i k4_t1 arg10_r0 = 1#1), ∀ a, (k4_off14 arg8_r0) a + S1.size a ≤ S2.size a) ∧
  (∀ (k4_h1 : k4_cond1 i = 1#1), ∀ (k4_h9 : k4_cond9 i k4_t1 arg10_r0 = 1#1), ∀ a, (k4_off15 arg9_r0) a + S1x128x128.size a ≤ S2x128x128.size a) ∧
  (∀ (k4_h1 : k4_cond1 i = 1#1), ∀ (k4_h9 : k4_cond9 i k4_t1 arg10_r0 = 1#1), ∀ a, (k4_off16 i arg10_r0) a + S128x128.size a ≤ S32000x128.size a) ∧
  (∀ (k4_h1 : k4_cond1 i = 1#1), ∀ (k4_h9 : k4_cond9 i k4_t1 arg10_r0 = 1#1), ∀ a, (k4_off17 arg9_r0) a + S1.size a ≤ S2.size a)
theorem k4_off4_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h3 : k4_cond3 i k4_t1 arg10_r0 = 1#1), ∀ a, (k4_off4 arg6_r0) a + S1x1x128.size a ≤ S2x1x128.size a := fun i k4_t1 arg6_r0 arg7_r0 arg8_r0 arg9_r0 arg10_r0 k4_hw1 k4_h1 k4_h3 => k4_hw1.1 k4_h1 k4_h3
theorem k4_off5_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h3 : k4_cond3 i k4_t1 arg10_r0 = 1#1), ∀ a, (k4_off5 i arg10_r0) a + S1x128.size a ≤ S1x32000.size a := fun i k4_t1 arg6_r0 arg7_r0 arg8_r0 arg9_r0 arg10_r0 k4_hw1 k4_h1 k4_h3 => k4_hw1.2.1 k4_h1 k4_h3
theorem k4_off6_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h3 : k4_cond3 i k4_t1 arg10_r0 = 1#1), ∀ a, (k4_off6 arg6_r0) a + S1.size a ≤ S2.size a := fun i k4_t1 arg6_r0 arg7_r0 arg8_r0 arg9_r0 arg10_r0 k4_hw1 k4_h1 k4_h3 => k4_hw1.2.2.1 k4_h1 k4_h3
theorem k4_off7_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h4 : k4_cond4 i k4_t1 arg10_r0 = 1#1), ∀ a, (k4_off7 arg7_r0) a + S1x1x128.size a ≤ S2x1x128.size a := fun i k4_t1 arg6_r0 arg7_r0 arg8_r0 arg9_r0 arg10_r0 k4_hw1 k4_h1 k4_h4 => k4_hw1.2.2.2.1 k4_h1 k4_h4
theorem k4_off8_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h4 : k4_cond4 i k4_t1 arg10_r0 = 1#1), ∀ a, (k4_off8 i arg10_r0) a + S1x128.size a ≤ S1x32000.size a := fun i k4_t1 arg6_r0 arg7_r0 arg8_r0 arg9_r0 arg10_r0 k4_hw1 k4_h1 k4_h4 => k4_hw1.2.2.2.2.1 k4_h1 k4_h4
theorem k4_off9_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h4 : k4_cond4 i k4_t1 arg10_r0 = 1#1), ∀ a, (k4_off9 arg7_r0) a + S1.size a ≤ S2.size a := fun i k4_t1 arg6_r0 arg7_r0 arg8_r0 arg9_r0 arg10_r0 k4_hw1 k4_h1 k4_h4 => k4_hw1.2.2.2.2.2.1 k4_h1 k4_h4
theorem k4_off12_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h7 : k4_cond7 i k4_t1 arg10_r0 = 1#1), ∀ a, (k4_off12 arg8_r0) a + S1x128x128.size a ≤ S2x128x128.size a := fun i k4_t1 arg6_r0 arg7_r0 arg8_r0 arg9_r0 arg10_r0 k4_hw1 k4_h1 k4_h7 => k4_hw1.2.2.2.2.2.2.1 k4_h1 k4_h7
theorem k4_off13_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h7 : k4_cond7 i k4_t1 arg10_r0 = 1#1), ∀ a, (k4_off13 i arg10_r0) a + S128x128.size a ≤ S32000x128.size a := fun i k4_t1 arg6_r0 arg7_r0 arg8_r0 arg9_r0 arg10_r0 k4_hw1 k4_h1 k4_h7 => k4_hw1.2.2.2.2.2.2.2.1 k4_h1 k4_h7
theorem k4_off14_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h7 : k4_cond7 i k4_t1 arg10_r0 = 1#1), ∀ a, (k4_off14 arg8_r0) a + S1.size a ≤ S2.size a := fun i k4_t1 arg6_r0 arg7_r0 arg8_r0 arg9_r0 arg10_r0 k4_hw1 k4_h1 k4_h7 => k4_hw1.2.2.2.2.2.2.2.2.1 k4_h1 k4_h7
theorem k4_off15_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h9 : k4_cond9 i k4_t1 arg10_r0 = 1#1), ∀ a, (k4_off15 arg9_r0) a + S1x128x128.size a ≤ S2x128x128.size a := fun i k4_t1 arg6_r0 arg7_r0 arg8_r0 arg9_r0 arg10_r0 k4_hw1 k4_h1 k4_h9 => k4_hw1.2.2.2.2.2.2.2.2.2.1 k4_h1 k4_h9
theorem k4_off16_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h9 : k4_cond9 i k4_t1 arg10_r0 = 1#1), ∀ a, (k4_off16 i arg10_r0) a + S128x128.size a ≤ S32000x128.size a := fun i k4_t1 arg6_r0 arg7_r0 arg8_r0 arg9_r0 arg10_r0 k4_hw1 k4_h1 k4_h9 => k4_hw1.2.2.2.2.2.2.2.2.2.2.1 k4_h1 k4_h9
theorem k4_off17_inb : ∀ (i : grid4.Coords) (k4_t1 : Fin (k4_t1_loop i).trips) (arg6_r0 : BitVec 32) (arg7_r0 : BitVec 32) (arg8_r0 : BitVec 32) (arg9_r0 : BitVec 32) (arg10_r0 : BitVec 32) (k4_hw1 : k4_chk1 i k4_t1 arg6_r0 arg7_r0 arg8_r0 arg9_r0 arg10_r0), ∀ (k4_h1 : k4_cond1 i = 1#1), ∀ (k4_h9 : k4_cond9 i k4_t1 arg10_r0 = 1#1), ∀ a, (k4_off17 arg9_r0) a + S1.size a ≤ S2.size a := fun i k4_t1 arg6_r0 arg7_r0 arg8_r0 arg9_r0 arg10_r0 k4_hw1 k4_h1 k4_h9 => k4_hw1.2.2.2.2.2.2.2.2.2.2.2 k4_h1 k4_h9

@[reducible] def k4_t2_loop (i : grid4.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k4_off18 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k4_cond10 (i : grid4.Coords) (k4_t2 : Fin (k4_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k4_t2
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k4_off19 (i : grid4.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v93_r0 : BitVec 1 := Scalar.cmpi .eq v92_r0 v5
  let c0_i32_66_r0 : BitVec 32 := 0#32
  let v94_r0 : BitVec 32 := Scalar.select v93_r0 c0_i32_66_r0 v92_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k4_off20 (arg6_r0 : BitVec 32) : Fin 1 → Nat :=
  let c2_i32_101_r0 : BitVec 32 := 2#32
  let v167_r0 : BitVec 32 := Scalar.remui arg6_r0 c2_i32_101_r0
  ![v167_r0.toNat]
def k4_off21 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k4_cond11 (i : grid4.Coords) (k4_t2 : Fin (k4_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k4_t2
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k4_off22 (i : grid4.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k4_off23 (arg7_r0 : BitVec 32) : Fin 1 → Nat :=
  let c2_i32_101_r0 : BitVec 32 := 2#32
  let v168_r0 : BitVec 32 := Scalar.remui arg7_r0 c2_i32_101_r0
  ![v168_r0.toNat]
def k4_off24 (arg8_r0 : BitVec 32) : Fin 3 → Nat :=
  let c2_i32_84_r0 : BitVec 32 := 2#32
  let v132_r0 : BitVec 32 := Scalar.remui arg8_r0 c2_i32_84_r0
  let c0_i32_101_r2 : BitVec 32 := 0#32
  let c0_i32_102_r2 : BitVec 32 := 0#32
  ![v132_r0.toNat, 0, 0]

def k4_chk5 (i : grid4.Coords) (k4_t2 : Fin (k4_t2_loop i).trips) (arg8_r0 : BitVec 32) : Prop :=
  (∀ (k4_h1 : k4_cond1 i = 1#1), ∀ a, (k4_off24 arg8_r0) a + S1x128x128.size a ≤ S2x128x128.size a)
theorem k4_off24_inb : ∀ (i : grid4.Coords) (k4_t2 : Fin (k4_t2_loop i).trips) (arg8_r0 : BitVec 32) (k4_hw5 : k4_chk5 i k4_t2 arg8_r0), ∀ (k4_h1 : k4_cond1 i = 1#1), ∀ a, (k4_off24 arg8_r0) a + S1x128x128.size a ≤ S2x128x128.size a := fun i k4_t2 arg8_r0 k4_hw5 k4_h1 => k4_hw5 k4_h1

def k4_off25 (arg7_r0 : BitVec 32) : Fin 3 → Nat :=
  let c2_i32_83_r0 : BitVec 32 := 2#32
  let v131_r0 : BitVec 32 := Scalar.remui arg7_r0 c2_i32_83_r0
  let c0_i32_103_r2 : BitVec 32 := 0#32
  let c0_i32_104_r2 : BitVec 32 := 0#32
  ![v131_r0.toNat, 0, 0]

def k4_chk6 (i : grid4.Coords) (k4_t2 : Fin (k4_t2_loop i).trips) (arg7_r0 : BitVec 32) : Prop :=
  (∀ (k4_h1 : k4_cond1 i = 1#1), ∀ a, (k4_off25 arg7_r0) a + S1x1x128.size a ≤ S2x1x128.size a)
theorem k4_off25_inb : ∀ (i : grid4.Coords) (k4_t2 : Fin (k4_t2_loop i).trips) (arg7_r0 : BitVec 32) (k4_hw6 : k4_chk6 i k4_t2 arg7_r0), ∀ (k4_h1 : k4_cond1 i = 1#1), ∀ a, (k4_off25 arg7_r0) a + S1x1x128.size a ≤ S2x1x128.size a := fun i k4_t2 arg7_r0 k4_hw6 k4_h1 => k4_hw6 k4_h1

def k4_off26 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k4_cond14 (i : grid4.Coords) (k4_t2 : Fin (k4_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k4_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k4_off27 (i : grid4.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k4_off28 (arg8_r0 : BitVec 32) : Fin 1 → Nat :=
  let c2_i32_101_r0 : BitVec 32 := 2#32
  let v167_r0 : BitVec 32 := Scalar.remui arg8_r0 c2_i32_101_r0
  ![v167_r0.toNat]
def k4_off29 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k4_cond16 (i : grid4.Coords) (k4_t2 : Fin (k4_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32_0 : BitVec 32 := 26#32
  let v6 : BitVec 1 := Scalar.cmpi .slt v3 c26_i32_0
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k4_t2
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k4_off30 (i : grid4.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_63_r0 : BitVec 32 := 1#32
  let v88_r0 : BitVec 32 := Scalar.subi v5 c1_i32_63_r0
  let v89_r0 : BitVec 32 := Scalar.select v87_r0 v88_r0 v86_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k4_off31 (arg9_r0 : BitVec 32) : Fin 1 → Nat :=
  let c2_i32_101_r0 : BitVec 32 := 2#32
  let v167_r0 : BitVec 32 := Scalar.remui arg9_r0 c2_i32_101_r0
  ![v167_r0.toNat]

def k4_chk4 (i : grid4.Coords) (k4_t2 : Fin (k4_t2_loop i).trips) (arg6_r0 : BitVec 32) (arg7_r0 : BitVec 32) (arg8_r0 : BitVec 32) (arg9_r0 : BitVec 32) (arg10_r0 : BitVec 32) : Prop :=
  (∀ (k4_h1 : k4_cond1 i = 1#1), ∀ (k4_h10 : k4_cond10 i k4_t2 arg10_r0 = 1#1), ∀ a, (k4_off18 arg6_r0) a + S1x1x128.size a ≤ S2x1x128.size a) ∧
  (∀ (k4_h1 : k4_cond1 i = 1#1), ∀ (k4_h10 : k4_cond10 i k4_t2 arg10_r0 = 1#1), ∀ a, (k4_off19 i arg10_r0) a + S1x128.size a ≤ S1x32000.size a) ∧
  (∀ (k4_h1 : k4_cond1 i = 1#1), ∀ (k4_h10 : k4_cond10 i k4_t2 arg10_r0 = 1#1), ∀ a, (k4_off20 arg6_r0) a + S1.size a ≤ S2.size a) ∧
  (∀ (k4_h1 : k4_cond1 i = 1#1), ∀ (k4_h11 : k4_cond11 i k4_t2 arg10_r0 = 1#1), ∀ a, (k4_off21 arg7_r0) a + S1x1x128.size a ≤ S2x1x128.size a) ∧
  (∀ (k4_h1 : k4_cond1 i = 1#1), ∀ (k4_h11 : k4_cond11 i k4_t2 arg10_r0 = 1#1), ∀ a, (k4_off22 i arg10_r0) a + S1x128.size a ≤ S1x32000.size a) ∧
  (∀ (k4_h1 : k4_cond1 i = 1#1), ∀ (k4_h11 : k4_cond11 i k4_t2 arg10_r0 = 1#1), ∀ a, (k4_off23 arg7_r0) a + S1.size a ≤ S2.size a) ∧
  (∀ (k4_h1 : k4_cond1 i = 1#1), ∀ (k4_h14 : k4_cond14 i k4_t2 arg10_r0 = 1#1), ∀ a, (k4_off26 arg8_r0) a + S1x128x128.size a ≤ S2x128x128.size a) ∧
  (∀ (k4_h1 : k4_cond1 i = 1#1), ∀ (k4_h14 : k4_cond14 i k4_t2 arg10_r0 = 1#1), ∀ a, (k4_off27 i arg10_r0) a + S128x128.size a ≤ S32000x128.size a) ∧
  (∀ (k4_h1 : k4_cond1 i = 1#1), ∀ (k4_h14 : k4_cond14 i k4_t2 arg10_r0 = 1#1), ∀ a, (k4_off28 arg8_r0) a + S1.size a ≤ S2.size a) ∧
  (∀ (k4_h1 : k4_cond1 i = 1#1), ∀ (k4_h16 : k4_cond16 i k4_t2 arg10_r0 = 1#1), ∀ a, (k4_off29 arg9_r0) a + S1x128x128.size a ≤ S2x128x128.size a) ∧
  (∀ (k4_h1 : k4_cond1 i = 1#1), ∀ (k4_h16 : k4_cond16 i k4_t2 arg10_r0 = 1#1), ∀ a, (k4_off30 i arg10_r0) a + S128x128.size a ≤ S32000x128.size a) ∧
  (∀ (k4_h1 : k4_cond1 i = 1#1), ∀ (k4_h16 : k4_cond16 i k4_t2 arg10_r0 = 1#1), ∀ a, (k4_off31 arg9_r0) a + S1.size a ≤ S2.size a)
theorem k4_off18_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h10 : k4_cond10 i k4_t2 arg10_r0 = 1#1), ∀ a, (k4_off18 arg6_r0) a + S1x1x128.size a ≤ S2x1x128.size a := fun i k4_t2 arg6_r0 arg7_r0 arg8_r0 arg9_r0 arg10_r0 k4_hw4 k4_h1 k4_h10 => k4_hw4.1 k4_h1 k4_h10
theorem k4_off19_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h10 : k4_cond10 i k4_t2 arg10_r0 = 1#1), ∀ a, (k4_off19 i arg10_r0) a + S1x128.size a ≤ S1x32000.size a := fun i k4_t2 arg6_r0 arg7_r0 arg8_r0 arg9_r0 arg10_r0 k4_hw4 k4_h1 k4_h10 => k4_hw4.2.1 k4_h1 k4_h10
theorem k4_off20_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h10 : k4_cond10 i k4_t2 arg10_r0 = 1#1), ∀ a, (k4_off20 arg6_r0) a + S1.size a ≤ S2.size a := fun i k4_t2 arg6_r0 arg7_r0 arg8_r0 arg9_r0 arg10_r0 k4_hw4 k4_h1 k4_h10 => k4_hw4.2.2.1 k4_h1 k4_h10
theorem k4_off21_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h11 : k4_cond11 i k4_t2 arg10_r0 = 1#1), ∀ a, (k4_off21 arg7_r0) a + S1x1x128.size a ≤ S2x1x128.size a := fun i k4_t2 arg6_r0 arg7_r0 arg8_r0 arg9_r0 arg10_r0 k4_hw4 k4_h1 k4_h11 => k4_hw4.2.2.2.1 k4_h1 k4_h11
theorem k4_off22_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h11 : k4_cond11 i k4_t2 arg10_r0 = 1#1), ∀ a, (k4_off22 i arg10_r0) a + S1x128.size a ≤ S1x32000.size a := fun i k4_t2 arg6_r0 arg7_r0 arg8_r0 arg9_r0 arg10_r0 k4_hw4 k4_h1 k4_h11 => k4_hw4.2.2.2.2.1 k4_h1 k4_h11
theorem k4_off23_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h11 : k4_cond11 i k4_t2 arg10_r0 = 1#1), ∀ a, (k4_off23 arg7_r0) a + S1.size a ≤ S2.size a := fun i k4_t2 arg6_r0 arg7_r0 arg8_r0 arg9_r0 arg10_r0 k4_hw4 k4_h1 k4_h11 => k4_hw4.2.2.2.2.2.1 k4_h1 k4_h11
theorem k4_off26_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h14 : k4_cond14 i k4_t2 arg10_r0 = 1#1), ∀ a, (k4_off26 arg8_r0) a + S1x128x128.size a ≤ S2x128x128.size a := fun i k4_t2 arg6_r0 arg7_r0 arg8_r0 arg9_r0 arg10_r0 k4_hw4 k4_h1 k4_h14 => k4_hw4.2.2.2.2.2.2.1 k4_h1 k4_h14
theorem k4_off27_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h14 : k4_cond14 i k4_t2 arg10_r0 = 1#1), ∀ a, (k4_off27 i arg10_r0) a + S128x128.size a ≤ S32000x128.size a := fun i k4_t2 arg6_r0 arg7_r0 arg8_r0 arg9_r0 arg10_r0 k4_hw4 k4_h1 k4_h14 => k4_hw4.2.2.2.2.2.2.2.1 k4_h1 k4_h14
theorem k4_off28_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h14 : k4_cond14 i k4_t2 arg10_r0 = 1#1), ∀ a, (k4_off28 arg8_r0) a + S1.size a ≤ S2.size a := fun i k4_t2 arg6_r0 arg7_r0 arg8_r0 arg9_r0 arg10_r0 k4_hw4 k4_h1 k4_h14 => k4_hw4.2.2.2.2.2.2.2.2.1 k4_h1 k4_h14
theorem k4_off29_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h16 : k4_cond16 i k4_t2 arg10_r0 = 1#1), ∀ a, (k4_off29 arg9_r0) a + S1x128x128.size a ≤ S2x128x128.size a := fun i k4_t2 arg6_r0 arg7_r0 arg8_r0 arg9_r0 arg10_r0 k4_hw4 k4_h1 k4_h16 => k4_hw4.2.2.2.2.2.2.2.2.2.1 k4_h1 k4_h16
theorem k4_off30_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h16 : k4_cond16 i k4_t2 arg10_r0 = 1#1), ∀ a, (k4_off30 i arg10_r0) a + S128x128.size a ≤ S32000x128.size a := fun i k4_t2 arg6_r0 arg7_r0 arg8_r0 arg9_r0 arg10_r0 k4_hw4 k4_h1 k4_h16 => k4_hw4.2.2.2.2.2.2.2.2.2.2.1 k4_h1 k4_h16
theorem k4_off31_inb : ∀ (i : grid4.Coords) (k4_t2 : Fin (k4_t2_loop i).trips) (arg6_r0 : BitVec 32) (arg7_r0 : BitVec 32) (arg8_r0 : BitVec 32) (arg9_r0 : BitVec 32) (arg10_r0 : BitVec 32) (k4_hw4 : k4_chk4 i k4_t2 arg6_r0 arg7_r0 arg8_r0 arg9_r0 arg10_r0), ∀ (k4_h1 : k4_cond1 i = 1#1), ∀ (k4_h16 : k4_cond16 i k4_t2 arg10_r0 = 1#1), ∀ a, (k4_off31 arg9_r0) a + S1.size a ≤ S2.size a := fun i k4_t2 arg6_r0 arg7_r0 arg8_r0 arg9_r0 arg10_r0 k4_hw4 k4_h1 k4_h16 => k4_hw4.2.2.2.2.2.2.2.2.2.2.2 k4_h1 k4_h16

def k4_cond18 (i : grid4.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k4_off32 (v48_3_r0 : BitVec 32) : Fin 3 → Nat :=
  let c2_i32_r0 : BitVec 32 := 2#32
  let v80_r0 : BitVec 32 := Scalar.remui v48_3_r0 c2_i32_r0
  let c0_i32_57_r0 : BitVec 32 := 0#32
  let c0_i32_58_r0 : BitVec 32 := 0#32
  ![v80_r0.toNat, 0, 0]

def k4_off33 (i : grid4.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c26_i32 : BitVec 32 := 26#32
  let v4 : BitVec 1 := Scalar.cmpi .slt v3 c26_i32
  let c8_i32 : BitVec 32 := 8#32
  let c7_i32 : BitVec 32 := 7#32
  let v5 : BitVec 32 := Scalar.select v4 c8_i32 c7_i32
  let c1_i32_40_r0 : BitVec 32 := 1#32
  let v52_r0 : BitVec 32 := Scalar.subi v5 c1_i32_40_r0
  let v53_r0 : BitVec 32 := Scalar.select v51_r0 v52_r0 v50_r0
  let c26_i32_0 : BitVec 32 := 26#32
  let v6 : BitVec 1 := Scalar.cmpi .slt v3 c26_i32_0
  let v7 : BitVec 32 := Scalar.muli v3 v5
  let c7_i32_1 : BitVec 32 := 7#32
  let v8 : BitVec 32 := Scalar.muli v3 c7_i32_1
  let c26_i32_2 : BitVec 32 := 26#32
  let v9 : BitVec 32 := Scalar.addi v8 c26_i32_2
  let v10 : BitVec 32 := Scalar.select v6 v7 v9
  let v59_r0 : BitVec 32 := Scalar.addi v53_r0 v10
  let v81_r0 : BitVec 32 := Scalar.muli c128_i32_r0 v59_r0
  let c0_i32_59_r0 : BitVec 32 := 0#32
  ![v81_r0.toNat, 0]

def k4_chk8 (i : grid4.Coords) (v48_4_r0 : BitVec 32) : Prop :=
  (∀ (k4_h1 : k4_cond1 i = 1#1), ∀ (k4_h18 : k4_cond18 i = 1#1), ∀ a, (k4_off33 i v48_4_r0) a + S128x128.size a ≤ S32000x128.size a)
theorem k4_off33_inb : ∀ (i : grid4.Coords) (v48_4_r0 : BitVec 32) (k4_hw8 : k4_chk8 i v48_4_r0), ∀ (k4_h1 : k4_cond1 i = 1#1), ∀ (k4_h18 : k4_cond18 i = 1#1), ∀ a, (k4_off33 i v48_4_r0) a + S128x128.size a ≤ S32000x128.size a := fun i v48_4_r0 k4_hw8 k4_h1 k4_h18 => k4_hw8 k4_h1 k4_h18

def k4_off34 (v48_3_r0 : BitVec 32) : Fin 1 → Nat :=
  let c2_i32_r0 : BitVec 32 := 2#32
  let v80_r0 : BitVec 32 := Scalar.remui v48_3_r0 c2_i32_r0
  ![v80_r0.toNat]
def k4_off35 (v48_3_r0 : BitVec 32) : Fin 3 → Nat :=
  let c2_i32_r0 : BitVec 32 := 2#32
  let v80_r0 : BitVec 32 := Scalar.remui v48_3_r0 c2_i32_r0
  let c0_i32_61_r0 : BitVec 32 := 0#32
  let c0_i32_62_r0 : BitVec 32 := 0#32
  ![v80_r0.toNat, 0, 0]

def k4_chk7 (i : grid4.Coords) (v48_3_r0 : BitVec 32) : Prop :=
  (∀ (k4_h1 : k4_cond1 i = 1#1), ∀ (k4_h18 : k4_cond18 i = 1#1), ∀ a, (k4_off32 v48_3_r0) a + S1x128x128.size a ≤ S2x128x128.size a) ∧
  (∀ (k4_h1 : k4_cond1 i = 1#1), ∀ (k4_h18 : k4_cond18 i = 1#1), ∀ a, (k4_off34 v48_3_r0) a + S1.size a ≤ S2.size a) ∧
  (∀ (k4_h1 : k4_cond1 i = 1#1), ∀ (k4_h18 : k4_cond18 i = 1#1), ∀ a, (k4_off35 v48_3_r0) a + S1x128x128.size a ≤ S2x128x128.size a)
theorem k4_off32_inb : ∀ (i : grid4.Coords) (v48_3_r0 : BitVec 32) (k4_hw7 : k4_chk7 i v48_3_r0), ∀ (k4_h1 : k4_cond1 i = 1#1), ∀ (k4_h18 : k4_cond18 i = 1#1), ∀ a, (k4_off32 v48_3_r0) a + S1x128x128.size a ≤ S2x128x128.size a := fun i v48_3_r0 k4_hw7 k4_h1 k4_h18 => k4_hw7.1 k4_h1 k4_h18
theorem k4_off34_inb : ∀ (i : grid4.Coords) (v48_3_r0 : BitVec 32) (k4_hw7 : k4_chk7 i v48_3_r0), ∀ (k4_h1 : k4_cond1 i = 1#1), ∀ (k4_h18 : k4_cond18 i = 1#1), ∀ a, (k4_off34 v48_3_r0) a + S1.size a ≤ S2.size a := fun i v48_3_r0 k4_hw7 k4_h1 k4_h18 => k4_hw7.2.1 k4_h1 k4_h18
theorem k4_off35_inb : ∀ (i : grid4.Coords) (v48_3_r0 : BitVec 32) (k4_hw7 : k4_chk7 i v48_3_r0), ∀ (k4_h1 : k4_cond1 i = 1#1), ∀ (k4_h18 : k4_cond18 i = 1#1), ∀ a, (k4_off35 v48_3_r0) a + S1x128x128.size a ≤ S2x128x128.size a := fun i v48_3_r0 k4_hw7 k4_h1 k4_h18 => k4_hw7.2.2 k4_h1 k4_h18

abbrev scKind : Fin 5 → Kind := fun | 0 => .scVector | 1 => .scVector | 2 => .scVector | 3 => .scVector | 4 => .scVector | ⟨_ + 5, h⟩ => absurd h (Nat.not_lt.2 (Nat.le_add_left _ _))
abbrev scNCore : Fin 5 → Nat := fun | 0 => 2 | 1 => 2 | 2 => 2 | 3 => 2 | 4 => 2 | ⟨_ + 5, h⟩ => absurd h (Nat.not_lt.2 (Nat.le_add_left _ _))
abbrev scNSub : Fin 5 → Nat := fun | 0 => 16 | 1 => 16 | 2 => 16 | 3 => 16 | 4 => 16 | ⟨_ + 5, h⟩ => absurd h (Nat.not_lt.2 (Nat.le_add_left _ _))
-- ==== Reference.lean ====
abbrev S10000x128 : Shape := ⟨2, ![10000, 128]⟩
abbrev S10240x16 : Shape := ⟨2, ![10240, 16]⟩
abbrev S10000x16 : Shape := ⟨2, ![10000, 16]⟩
abbrev S_ : Shape := ⟨0, ![]⟩
abbrev S10000x16x1 : Shape := ⟨3, ![10000, 16, 1]⟩
abbrev S10000x16x128 : Shape := ⟨3, ![10000, 16, 128]⟩
abbrev S160000x128 : Shape := ⟨2, ![160000, 128]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .i32⟩
  | .hbm, ⟨1, _⟩ => ⟨S10240x16, .i32⟩
  | .hbm, ⟨2, _⟩ => ⟨S10000x16, .i32⟩
  | .hbm, ⟨3, _⟩ => ⟨S_, .i32⟩
  | .hbm, ⟨4, _⟩ => ⟨S10000x16, .i32⟩
  | .hbm, ⟨5, _⟩ => ⟨S10000x16, .i1⟩
  | .hbm, ⟨6, _⟩ => ⟨S_, .i32⟩
  | .hbm, ⟨7, _⟩ => ⟨S10000x16, .i32⟩
  | .hbm, ⟨8, _⟩ => ⟨S10000x16, .i32⟩
  | .hbm, ⟨9, _⟩ => ⟨S10000x16, .i32⟩
  | .hbm, ⟨10, _⟩ => ⟨S10000x16x1, .i32⟩
  | .hbm, ⟨11, _⟩ => ⟨S10000x16x128, .i32⟩
  | .hbm, ⟨12, _⟩ => ⟨S160000x128, .i32⟩
  | _, _ => ⟨S10000x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Embed.lean ====
abbrev S10000x128 : Shape := ⟨2, ![10000, 128]⟩
abbrev S128x128 : Shape := ⟨2, ![128, 128]⟩
abbrev S128 : Shape := ⟨1, ![128]⟩
abbrev S1x128 : Shape := ⟨2, ![1, 128]⟩
abbrev S1000x128 : Shape := ⟨2, ![1000, 128]⟩

abbrev nBuf : Space → Nat
  | .hbm => 5
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S128, .f32⟩
  | .hbm, ⟨3, _⟩ => ⟨S1x128, .f32⟩
  | .hbm, ⟨4, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S128x128, .f32⟩
  | .local _ .vmem, ⟨3, _⟩ => ⟨S1x128, .f32⟩
  | .local _ .vmem, ⟨4, _⟩ => ⟨S1000x128, .f32⟩
  | .local _ .vmem, ⟨5, _⟩ => ⟨S1000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== EmbedReferenceIdeal.lean ====
abbrev S10000x128 : Shape := ⟨2, ![10000, 128]⟩
abbrev S128x128 : Shape := ⟨2, ![128, 128]⟩
abbrev S128 : Shape := ⟨1, ![128]⟩
abbrev S1x128 : Shape := ⟨2, ![1, 128]⟩

abbrev nBuf : Space → Nat
  | .hbm => 7
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S128, .f32⟩
  | .hbm, ⟨3, _⟩ => ⟨S10000x128, .f32⟩
  | .hbm, ⟨4, _⟩ => ⟨S1x128, .f32⟩
  | .hbm, ⟨5, _⟩ => ⟨S10000x128, .f32⟩
  | .hbm, ⟨6, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Attn.lean ====
abbrev S2000x128 : Shape := ⟨2, ![2000, 128]⟩
abbrev S32000x128 : Shape := ⟨2, ![32000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S8x8 : Shape := ⟨2, ![8, 8]⟩
abbrev S_ : Shape := ⟨0, ![]⟩
abbrev S16x1 : Shape := ⟨2, ![16, 1]⟩
abbrev S8x1x8x1 : Shape := ⟨4, ![8, 1, 8, 1]⟩
abbrev S1x16x1x1 : Shape := ⟨4, ![1, 16, 1, 1]⟩
abbrev S8x16x8x1 : Shape := ⟨4, ![8, 16, 8, 1]⟩
abbrev S128x8 : Shape := ⟨2, ![128, 8]⟩
abbrev S8x128 : Shape := ⟨2, ![8, 128]⟩
abbrev S1x128 : Shape := ⟨2, ![1, 128]⟩
abbrev S1x256 : Shape := ⟨2, ![1, 256]⟩
abbrev S200x128 : Shape := ⟨2, ![200, 128]⟩
abbrev S3200x128 : Shape := ⟨2, ![3200, 128]⟩
abbrev S200x1x128 : Shape := ⟨3, ![200, 1, 128]⟩
abbrev S200x16x128 : Shape := ⟨3, ![200, 16, 128]⟩
abbrev S3200x8 : Shape := ⟨2, ![3200, 8]⟩
abbrev S200x16x8 : Shape := ⟨3, ![200, 16, 8]⟩
abbrev S200x8 : Shape := ⟨2, ![200, 8]⟩
abbrev S200x1x8 : Shape := ⟨3, ![200, 1, 8]⟩
abbrev S200 : Shape := ⟨1, ![200]⟩
abbrev S200x1 : Shape := ⟨2, ![200, 1]⟩
abbrev S200x256 : Shape := ⟨2, ![200, 256]⟩

abbrev nBuf : Space → Nat
  | .hbm => 35
  | .vmem => 19
  | .smem => 0
  | _ => 0

abbrev bufTy : (tb : Table) → Fin (tcTables nBuf tb) → BufTy
  | .hbm, ⟨0, _⟩ => ⟨S2000x128, .f32⟩
  | .hbm, ⟨1, _⟩ => ⟨S32000x128, .i32⟩
  | .hbm, ⟨2, _⟩ => ⟨S2000x128, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S8x8, .i32⟩
  | .hbm, ⟨13, _⟩ => ⟨S8x8, .i32⟩
  | .hbm, ⟨14, _⟩ => ⟨S_, .i32⟩
  | .hbm, ⟨15, _⟩ => ⟨S8x8, .i32⟩
  | .hbm, ⟨16, _⟩ => ⟨S8x8, .i32⟩
  | .hbm, ⟨17, _⟩ => ⟨S8x8, .i1⟩
  | .hbm, ⟨18, _⟩ => ⟨S8x8, .f32⟩
  | .hbm, ⟨19, _⟩ => ⟨S_, .f32⟩
  | .hbm, ⟨20, _⟩ => ⟨S16x1, .f32⟩
  | .hbm, ⟨21, _⟩ => ⟨S8x1x8x1, .f32⟩
  | .hbm, ⟨22, _⟩ => ⟨S1x16x1x1, .f32⟩
  | .hbm, ⟨23, _⟩ => ⟨S8x16x8x1, .f32⟩
  | .hbm, ⟨24, _⟩ => ⟨S8x16x8x1, .f32⟩
  | .hbm, ⟨25, _⟩ => ⟨S8x16x8x1, .f32⟩
  | .hbm, ⟨26, _⟩ => ⟨S128x8, .f32⟩
  | .hbm, ⟨27, _⟩ => ⟨S8x128, .f32⟩
  | .hbm, ⟨28, _⟩ => ⟨S1x128, .f32⟩
  | .hbm, ⟨29, _⟩ => ⟨S1x128, .f32⟩
  | .hbm, ⟨30, _⟩ => ⟨S1x256, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S2000x128, .f32⟩
  | .local _ .vmem, ⟨0, _⟩ => ⟨S200x128, .f32⟩
  | .local _ .vmem, ⟨1, _⟩ => ⟨S200x128, .f32⟩
  | .local _ .vmem, ⟨2, _⟩ => ⟨S3200x128, .i32⟩
  | .local _ .vmem, ⟨3, _⟩ => ⟨S3200x128, .i32⟩
  | .local _ .vmem, ⟨4, _⟩ => ⟨S200x128, .f32⟩
  | .local _ .vmem, ⟨5, _⟩ => ⟨S200x128, .f32⟩
  | .local _ .vmem, ⟨6, _⟩ => ⟨S128x8, .f32⟩
  | .local _ .vmem, ⟨7, _⟩ => ⟨S8x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S128x256, .f32⟩
  | .local _ .vmem, ⟨12, _⟩ => ⟨S1x256, .f32⟩
  | .local _ .vmem, ⟨13, _⟩ => ⟨S256x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S200x128, .f32⟩
  | .local _ .vmem, ⟨18, _⟩ => ⟨S200x128, .f32⟩
  | _, _ => ⟨S2000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S200x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== AttnReferenceIdeal.lean ====
abbrev S2000x128 : Shape := ⟨2, ![2000, 128]⟩
abbrev S32000x128 : Shape := ⟨2, ![32000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S2000x8x16 : Shape := ⟨3, ![2000, 8, 16]⟩
abbrev S_ : Shape := ⟨0, ![]⟩
abbrev S2000x16x8x16 : Shape := ⟨4, ![2000, 16, 8, 16]⟩
abbrev S2000x16x8 : Shape := ⟨3, ![2000, 16, 8]⟩
abbrev S2000x8 : Shape := ⟨2, ![2000, 8]⟩
abbrev S2000x1x8 : Shape := ⟨3, ![2000, 1, 8]⟩
abbrev S2000 : Shape := ⟨1, ![2000]⟩
abbrev S2000x1 : Shape := ⟨2, ![2000, 1]⟩
abbrev S1x128 : Shape := ⟨2, ![1, 128]⟩
abbrev S2000x256 : Shape := ⟨2, ![2000, 256]⟩
abbrev S1x256 : Shape := ⟨2, ![1, 256]⟩

abbrev nBuf : Space → Nat
  | .hbm => 155
  | .vmem => 0
  | .smem => 0
  | _ => 0

abbrev hbmTy0_0 (i : Nat) : BufTy := match i % 128 with
  | 0 => ⟨S2000x128, .f32⟩
  | 1 => ⟨S32000x128, .i32⟩
  | 2 => ⟨S2000x128, .f32⟩
  | 3 => ⟨S128x128, .f32⟩
  | 4 => ⟨S128, .f32⟩
  | 5 => ⟨S128, .f32⟩
  | 6 => ⟨S128x256, .f32⟩
  | 7 => ⟨S256, .f32⟩
  | 8 => ⟨S256x128, .f32⟩
  | 9 => ⟨S128, .f32⟩
  | 10 => ⟨S128, .f32⟩
  | 11 => ⟨S128, .f32⟩
  | 12 => ⟨S2000x8x16, .f32⟩
  | 13 => ⟨S_, .i32⟩
  | 14 => ⟨S32000x128, .i32⟩
  | 15 => ⟨S32000x128, .i32⟩
  | 16 => ⟨S32000x128, .f32⟩
  | 17 => ⟨S2000x16x8x16, .f32⟩
  | 18 => ⟨S_, .i32⟩
  | 19 => ⟨S32000x128, .i32⟩
  | 20 => ⟨S32000x128, .i32⟩
  | 21 => ⟨S32000x128, .f32⟩
  | 22 => ⟨S2000x16x8x16, .f32⟩
  | 23 => ⟨S2000x8x16, .f32⟩
  | 24 => ⟨S2000x16x8, .f32⟩
  | 25 => ⟨S_, .f32⟩
  | 26 => ⟨S_, .f32⟩
  | 27 => ⟨S2000x16x8, .f32⟩
  | 28 => ⟨S2000x16x8, .f32⟩
  | 29 => ⟨S_, .f32⟩
  | 30 => ⟨S_, .f32⟩
  | 31 => ⟨S_, .f32⟩
  | 32 => ⟨S2000x16x8, .f32⟩
  | 33 => ⟨S2000x16x8, .f32⟩
  | 34 => ⟨S_, .f32⟩
  | 35 => ⟨S2000x16x8, .f32⟩
  | 36 => ⟨S2000x16x8, .f32⟩
  | 37 => ⟨S_, .f32⟩
  | 38 => ⟨S2000x8, .f32⟩
  | 39 => ⟨S_, .f32⟩
  | 40 => ⟨S2000x8, .f32⟩
  | 41 => ⟨S2000x8, .f32⟩
  | 42 => ⟨S2000x1x8, .f32⟩
  | 43 => ⟨S2000x16x8, .f32⟩
  | 44 => ⟨S2000x16x8, .f32⟩
  | 45 => ⟨S2000x16x8, .f32⟩
  | 46 => ⟨S_, .f32⟩
  | 47 => ⟨S2000x8, .f32⟩
  | 48 => ⟨S2000x1x8, .f32⟩
  | 49 => ⟨S2000x16x8, .f32⟩
  | 50 => ⟨S2000x16x8, .f32⟩
  | 51 => ⟨S2000x8x16, .f32⟩
  | 52 => ⟨S2000x128, .f32⟩
  | 53 => ⟨S2000x128, .f32⟩
  | 54 => ⟨S2000x128, .f32⟩
  | 55 => ⟨S_, .f32⟩
  | 56 => ⟨S2000, .f32⟩
  | 57 => ⟨S2000x1, .f32⟩
  | 58 => ⟨S_, .f32⟩
  | 59 => ⟨S2000x1, .f32⟩
  | 60 => ⟨S2000x1, .f32⟩
  | 61 => ⟨S_, .i32⟩
  | 62 => ⟨S_, .f32⟩
  | 63 => ⟨S2000, .f32⟩
  | 64 => ⟨S2000x1, .f32⟩
  | 65 => ⟨S_, .f32⟩
  | 66 => ⟨S2000x1, .f32⟩
  | 67 => ⟨S2000x1, .f32⟩
  | 68 => ⟨S2000x128, .f32⟩
  | 69 => ⟨S2000x128, .f32⟩
  | 70 => ⟨S2000x128, .f32⟩
  | 71 => ⟨S_, .f32⟩
  | 72 => ⟨S_, .f32⟩
  | 73 => ⟨S_, .f32⟩
  | 74 => ⟨S_, .f32⟩
  | 75 => ⟨S2000, .f32⟩
  | 76 => ⟨S2000x1, .f32⟩
  | 77 => ⟨S2000x1, .f32⟩
  | 78 => ⟨S2000x1, .f32⟩
  | 79 => ⟨S_, .f32⟩
  | 80 => ⟨S_, .i1⟩
  | 81 => ⟨S_, .f32⟩
  | 82 => ⟨S_, .f32⟩
  | 83 => ⟨S2000x1, .f32⟩
  | 84 => ⟨S2000x1, .f32⟩
  | 85 => ⟨S2000x128, .f32⟩
  | 86 => ⟨S2000x128, .f32⟩
  | 87 => ⟨S_, .f32⟩
  | 88 => ⟨S2000x1, .f32⟩
  | 89 => ⟨S2000x1, .f32⟩
  | 90 => ⟨S2000x1, .f32⟩
  | 91 => ⟨S2000x128, .f32⟩
  | 92 => ⟨S2000x128, .f32⟩
  | 93 => ⟨S1x128, .f32⟩
  | 94 => ⟨S2000x128, .f32⟩
  | 95 => ⟨S2000x128, .f32⟩
  | 96 => ⟨S1x128, .f32⟩
  | 97 => ⟨S2000x128, .f32⟩
  | 98 => ⟨S2000x128, .f32⟩
  | 99 => ⟨S2000x256, .f32⟩
  | 100 => ⟨S1x256, .f32⟩
  | 101 => ⟨S2000x256, .f32⟩
  | 102 => ⟨S2000x256, .f32⟩
  | 103 => ⟨S_, .f32⟩
  | 104 => ⟨S2000x256, .f32⟩
  | 105 => ⟨S2000x256, .f32⟩
  | 106 => ⟨S2000x128, .f32⟩
  | 107 => ⟨S1x128, .f32⟩
  | 108 => ⟨S2000x128, .f32⟩
  | 109 => ⟨S2000x128, .f32⟩
  | 110 => ⟨S2000x128, .f32⟩
  | 111 => ⟨S_, .f32⟩
  | 112 => ⟨S2000, .f32⟩
  | 113 => ⟨S2000x1, .f32⟩
  | 114 => ⟨S_, .f32⟩
  | 115 => ⟨S2000x1, .f32⟩
  | 116 => ⟨S2000x1, .f32⟩
  | 117 => ⟨S_, .i32⟩
  | 118 => ⟨S_, .f32⟩
  | 119 => ⟨S2000, .f32⟩
  | 120 => ⟨S2000x1, .f32⟩
  | 121 => ⟨S_, .f32⟩
  | 122 => ⟨S2000x1, .f32⟩
  | 123 => ⟨S2000x1, .f32⟩
  | 124 => ⟨S2000x128, .f32⟩
  | 125 => ⟨S2000x128, .f32⟩
  | 126 => ⟨S2000x128, .f32⟩
  | 127 => ⟨S_, .f32⟩
  | _ => ⟨S2000x128, .f32⟩

abbrev hbmTy0_1 (i : Nat) : BufTy := match i % 128 with
  | 0 => ⟨S_, .f32⟩
  | 1 => ⟨S_, .f32⟩
  | 2 => ⟨S_, .f32⟩
  | 3 => ⟨S2000, .f32⟩
  | 4 => ⟨S2000x1, .f32⟩
  | 5 => ⟨S2000x1, .f32⟩
  | 6 => ⟨S2000x1, .f32⟩
  | 7 => ⟨S_, .f32⟩
  | 8 => ⟨S_, .i1⟩
  | 9 => ⟨S_, .f32⟩
  | 10 => ⟨S_, .f32⟩
  | 11 => ⟨S2000x1, .f32⟩
  | 12 => ⟨S2000x1, .f32⟩
  | 13 => ⟨S2000x128, .f32⟩
  | 14 => ⟨S2000x128, .f32⟩
  | 15 => ⟨S_, .f32⟩
  | 16 => ⟨S2000x1, .f32⟩
  | 17 => ⟨S2000x1, .f32⟩
  | 18 => ⟨S2000x1, .f32⟩
  | 19 => ⟨S2000x128, .f32⟩
  | 20 => ⟨S2000x128, .f32⟩
  | 21 => ⟨S1x128, .f32⟩
  | 22 => ⟨S2000x128, .f32⟩
  | 23 => ⟨S2000x128, .f32⟩
  | 24 => ⟨S1x128, .f32⟩
  | 25 => ⟨S2000x128, .f32⟩
  | 26 => ⟨S2000x128, .f32⟩
  | _ => ⟨S2000x128, .f32⟩

abbrev hbmTy (i : Nat) : BufTy := match i / 128 with
  | 0 => hbmTy0_0 i
  | 1 => hbmTy0_1 i
  | _ => ⟨S2000x128, .f32⟩

abbrev bufTy : (tb : Table) → Fin (tcTables nBuf tb) → BufTy
  | .hbm, ⟨i, _⟩ => hbmTy i
  | _, _ => ⟨S2000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v14 : Ref sig .tc := ⟨.hbm, 36, rfl⟩
abbrev main_cst_3 : Ref sig .tc := ⟨.hbm, 37, rfl⟩
abbrev main_v15 : Ref sig .tc := ⟨.hbm, 38, rfl⟩
abbrev main_cst_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_cst_7 : Ref sig .tc := ⟨.hbm, 58, rfl⟩
abbrev main_v32 : Ref sig .tc := ⟨.hbm, 59, rfl⟩
abbrev main_v33 : Ref sig .tc := ⟨.hbm, 60, rfl⟩
abbrev main_c_8 : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_cst_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_v6 : Ref sig .tc := ⟨.hbm, 70, rfl⟩
abbrev main_call1_v7 : Ref sig .tc := ⟨.hbm, 71, rfl⟩
abbrev main_call1_cst_1 : Ref sig .tc := ⟨.hbm, 72, rfl⟩
abbrev main_call1_v8 : Ref sig .tc := ⟨.hbm, 73, rfl⟩
abbrev main_call1_cst_2 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_cst_3 : Ref sig .tc := ⟨.hbm, 79, rfl⟩
abbrev main_call1_v13 : Ref sig .tc := ⟨.hbm, 80, rfl⟩
abbrev main_call1_cst_4 : Ref sig .tc := ⟨.hbm, 81, rfl⟩
abbrev main_call1_call0_v0 : Ref sig .tc := ⟨.hbm, 82, rfl⟩
abbrev main_call1_call0_v1 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_cst_9 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_call2_cst : Ref sig .tc := ⟨.hbm, 103, rfl⟩
abbrev main_call2_v0 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_cst_10 : Ref sig .tc := ⟨.hbm, 111, rfl⟩
abbrev main_v58 : Ref sig .tc := ⟨.hbm, 112, rfl⟩
abbrev main_v59 : Ref sig .tc := ⟨.hbm, 113, rfl⟩
abbrev main_cst_11 : Ref sig .tc := ⟨.hbm, 114, rfl⟩
abbrev main_v60 : Ref sig .tc := ⟨.hbm, 115, rfl⟩
abbrev main_v61 : Ref sig .tc := ⟨.hbm, 116, rfl⟩
abbrev main_c_12 : Ref sig .tc := ⟨.hbm, 117, rfl⟩
abbrev main_call3_cst : Ref sig .tc := ⟨.hbm, 118, rfl⟩
abbrev main_call3_v0 : Ref sig .tc := ⟨.hbm, 119, rfl⟩
abbrev main_call3_v1 : Ref sig .tc := ⟨.hbm, 120, rfl⟩
abbrev main_call3_cst_0 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_v5 : Ref sig .tc := ⟨.hbm, 125, rfl⟩
abbrev main_call3_v6 : Ref sig .tc := ⟨.hbm, 126, rfl⟩
abbrev main_call3_v7 : Ref sig .tc := ⟨.hbm, 127, rfl⟩
abbrev main_call3_cst_1 : Ref sig .tc := ⟨.hbm, 128, rfl⟩
abbrev main_call3_v8 : Ref sig .tc := ⟨.hbm, 129, rfl⟩
abbrev main_call3_cst_2 : Ref sig .tc := ⟨.hbm, 130, rfl⟩
abbrev main_call3_v9 : Ref sig .tc := ⟨.hbm, 131, rfl⟩
abbrev main_call3_v10 : Ref sig .tc := ⟨.hbm, 132, rfl⟩
abbrev main_call3_v11 : Ref sig .tc := ⟨.hbm, 133, rfl⟩
abbrev main_call3_v12 : Ref sig .tc := ⟨.hbm, 134, rfl⟩
abbrev main_call3_cst_3 : Ref sig .tc := ⟨.hbm, 135, rfl⟩
abbrev main_call3_v13 : Ref sig .tc := ⟨.hbm, 136, rfl⟩
abbrev main_call3_cst_4 : Ref sig .tc := ⟨.hbm, 137, rfl⟩
abbrev main_call3_call0_v0 : Ref sig .tc := ⟨.hbm, 138, rfl⟩
abbrev main_call3_call0_v1 : Ref sig .tc := ⟨.hbm, 139, rfl⟩
abbrev main_v62 : Ref sig .tc := ⟨.hbm, 140, rfl⟩
abbrev main_v63 : Ref sig .tc := ⟨.hbm, 141, rfl⟩
abbrev main_v64 : Ref sig .tc := ⟨.hbm, 142, rfl⟩
abbrev main_cst_13 : Ref sig .tc := ⟨.hbm, 143, rfl⟩
abbrev main_v65 : Ref sig .tc := ⟨.hbm, 144, rfl⟩
abbrev main_v66 : Ref sig .tc := ⟨.hbm, 145, rfl⟩
abbrev main_v67 : Ref sig .tc := ⟨.hbm, 146, rfl⟩
abbrev main_v68 : Ref sig .tc := ⟨.hbm, 147, rfl⟩
abbrev main_v69 : Ref sig .tc := ⟨.hbm, 148, rfl⟩
abbrev main_v70 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_v74 : Ref sig .tc := ⟨.hbm, 153, rfl⟩
abbrev main_v75 : Ref sig .tc := ⟨.hbm, 154, rfl⟩

abbrev nD : Nat := 1
abbrev τ : Topo := Topo.v7x

variable {F : FTy → Type} [FloatOps F]
-- ==== Proof.Gather.Words.lean ====
/-
  The words of one tile's pipeline: the number of blocks a tile takes, the first of them, and what the carried words
  of the pipeline's loop, its conditions, its checks and its offsets are before trip `s`.
-/
module

public import proofs.«01_k».proof.Proof.Gen.KernelIdeal.Skeleton

@[expose] public section

namespace Cert.Proof.Gather

open Cert.KernelIdeal Cert.KernelIdeal.Gen
open Idealize.ShloMosaic

/-- A tile's number among the thirty-two. -/
def wid (i : grid0.Coords) : ℕ := (i 1).val + 16 * (i 0).val

/-- How many blocks of 128 rows the tile takes: 250 over 32 tiles, the first 26 one more. -/
def nb (i : grid0.Coords) : ℕ := if wid i < 26 then 8 else 7

/-- The tile's first block. -/
def st (i : grid0.Coords) : ℕ := if wid i < 26 then wid i * 8 else wid i * 7 + 26

theorem trips_eq : ∀ i : grid0.Coords, (k0_t1_loop i).trips = nb i := by decide +kernel
theorem trips2_eq : ∀ i : grid0.Coords, (k0_t2_loop i).trips = 0 := by decide +kernel
theorem nb_pos : ∀ i : grid0.Coords, 0 < nb i := by decide +kernel
theorem st_nb_le : ∀ i : grid0.Coords, st i + nb i ≤ 250 := by decide +kernel

/-- The carried words before trip `s`: blocks copied in, waited for, copied out, drained, and the block's number. -/
def w6 (i : grid0.Coords) (s : ℕ) : BitVec 32 := BitVec.ofNat 32 (min (s + 1) (nb i))
def w7 (s : ℕ) : BitVec 32 := BitVec.ofNat 32 s
def w9 (s : ℕ) : BitVec 32 := BitVec.ofNat 32 (s - 1)
def w10 (i : grid0.Coords) (s : ℕ) : BitVec 32 := BitVec.ofNat 32 (if s = nb i then 0 else s)

theorem cond1 : ∀ i : grid0.Coords, k0_cond1 i = 1#1 := by decide +kernel
theorem cond2 : ∀ i : grid0.Coords, k0_cond2 i = 1#1 := by decide +kernel
theorem cond18 : ∀ i : grid0.Coords, k0_cond18 i = 1#1 := by decide +kernel
theorem cond3 : ∀ i : grid0.Coords, ∀ k : Fin (k0_t1_loop i).trips, k0_cond3 i k (w10 i k.val) = 1#1 ↔ k.val + 1 < nb i := by decide +kernel
theorem cond4 : ∀ i : grid0.Coords, ∀ k : Fin (k0_t1_loop i).trips, k0_cond4 i k (w10 i k.val) = 1#1 := by decide +kernel
theorem cond7 : ∀ i : grid0.Coords, ∀ k : Fin (k0_t1_loop i).trips, k0_cond7 i k (w10 i k.val) = 1#1 := by decide +kernel
theorem cond9 : ∀ i : grid0.Coords, ∀ k : Fin (k0_t1_loop i).trips, k0_cond9 i k (w10 i k.val) = 1#1 ↔ 0 < k.val := by decide +kernel

theorem chk3 : ∀ i : grid0.Coords, ∀ k : Fin (k0_t1_loop i).trips, k0_chk3 i (w7 k.val) := by decide +kernel
theorem chk2 : ∀ i : grid0.Coords, ∀ k : Fin (k0_t1_loop i).trips, k0_chk2 i (w7 k.val) := by decide +kernel
theorem chk1 : ∀ i : grid0.Coords, ∀ k : Fin (k0_t1_loop i).trips,
    k0_chk1 i k (w6 i k.val) (w7 k.val) (w7 k.val) (w9 k.val) (w10 i k.val) := by decide +kernel
theorem chk8 : ∀ i : grid0.Coords, k0_chk8 i (w10 i (nb i)) := by decide +kernel
theorem chk7 : ∀ i : grid0.Coords, k0_chk7 i (w9 (nb i)) := by decide +kernel

/-! The offsets, as slot and block numbers. -/

theorem off2 : ∀ i : grid0.Coords, k0_off2 i = ![0, 128 * st i] := by decide +kernel
theorem off4 : ∀ i : grid0.Coords, ∀ k : Fin (k0_t1_loop i).trips, k.val + 1 < nb i → k0_off4 (w6 i k.val) = ![(k.val + 1) % 2, 0, 0] := by decide +kernel
theorem off5 : ∀ i : grid0.Coords, ∀ k : Fin (k0_t1_loop i).trips, k.val + 1 < nb i → k0_off5 i (w10 i k.val) = ![0, 128 * (st i + k.val + 1)] := by decide +kernel
theorem off6 : ∀ i : grid0.Coords, ∀ k : Fin (k0_t1_loop i).trips, k.val + 1 < nb i → k0_off6 (w6 i k.val) = ![(k.val + 1) % 2] := by decide +kernel
theorem off7 : ∀ i : grid0.Coords, ∀ k : Fin (k0_t1_loop i).trips, k0_off7 (w7 k.val) = ![k.val % 2, 0, 0] := by decide +kernel
theorem off8 : ∀ i : grid0.Coords, ∀ k : Fin (k0_t1_loop i).trips, k0_off8 i (w10 i k.val) = ![0, 128 * (st i + k.val)] := by decide +kernel
theorem off9 : ∀ i : grid0.Coords, ∀ k : Fin (k0_t1_loop i).trips, k0_off9 (w7 k.val) = ![k.val % 2] := by decide +kernel
theorem off10 : ∀ i : grid0.Coords, ∀ k : Fin (k0_t1_loop i).trips, k0_off10 (w7 k.val) = ![k.val % 2, 0, 0] := by decide +kernel
theorem off11 : ∀ i : grid0.Coords, ∀ k : Fin (k0_t1_loop i).trips, k0_off11 (w7 k.val) = ![k.val % 2, 0, 0] := by decide +kernel
theorem off12 : ∀ i : grid0.Coords, ∀ k : Fin (k0_t1_loop i).trips, k0_off12 (w7 k.val) = ![k.val % 2, 0, 0] := by decide +kernel
theorem off13 : ∀ i : grid0.Coords, ∀ k : Fin (k0_t1_loop i).trips, k0_off13 i (w10 i k.val) = ![128 * (st i + k.val), 0] := by decide +kernel
theorem off14 : ∀ i : grid0.Coords, ∀ k : Fin (k0_t1_loop i).trips, k0_off14 (w7 k.val) = ![k.val % 2] := by decide +kernel
theorem off15 : ∀ i : grid0.Coords, ∀ k : Fin (k0_t1_loop i).trips, 0 < k.val → k0_off15 (w9 k.val) = ![(k.val + 1) % 2, 0, 0] := by decide +kernel
theorem off16 : ∀ i : grid0.Coords, ∀ k : Fin (k0_t1_loop i).trips, 0 < k.val → k0_off16 i (w10 i k.val) = ![128 * (st i + k.val - 1), 0] := by decide +kernel
theorem off17 : ∀ i : grid0.Coords, ∀ k : Fin (k0_t1_loop i).trips, 0 < k.val → k0_off17 (w9 k.val) = ![(k.val + 1) % 2] := by decide +kernel
theorem off33 : ∀ i : grid0.Coords, k0_off33 i (w10 i (nb i)) = ![128 * (st i + nb i - 1), 0] := by decide +kernel
theorem off34 : ∀ i : grid0.Coords, k0_off34 (w9 (nb i)) = ![(nb i + 1) % 2] := by decide +kernel
theorem off35 : ∀ i : grid0.Coords, k0_off35 (w9 (nb i)) = ![(nb i + 1) % 2, 0, 0] := by decide +kernel
theorem off1 : k0_off1 = ![0, 0, 0] := by decide +kernel
theorem off3 : k0_off3 = ![0] := by decide +kernel

/-! The words a trip hands on are those before the next. -/

/-- The block's number plus one, back to zero past the last; and minus one, the last before zero. -/
abbrev wUp (i : grid0.Coords) (k : ℕ) : BitVec 32 :=
  Scalar.select (Scalar.cmpi CmpIPredicate.eq (Scalar.select (1#1) (Scalar.addi (w10 i k) 1#32) (w10 i k)) (BitVec.ofNat 32 (nb i))) (0#32)
    (Scalar.select (1#1) (Scalar.addi (w10 i k) 1#32) (w10 i k))
abbrev wDown (i : grid0.Coords) (k : ℕ) : BitVec 32 :=
  Scalar.select (Scalar.cmpi CmpIPredicate.eq (Scalar.select (1#1) (Scalar.subi (w10 i k) 1#32) (w10 i k)) 4294967295#32)
    (Scalar.subi (BitVec.ofNat 32 (nb i)) 1#32) (Scalar.select (1#1) (Scalar.subi (w10 i k) 1#32) (w10 i k))
/-- Does the block differ from the next, from the one before; is the trip the last. -/
abbrev wNe (i : grid0.Coords) (k : ℕ) (b : BitVec 32) : BitVec 1 :=
  Scalar.cmpi CmpIPredicate.ne (Scalar.addi (w10 i k) (BitVec.ofNat 32 (st i))) (Scalar.addi b (BitVec.ofNat 32 (st i)))
abbrev wLast (i : grid0.Coords) (k : ℕ) : BitVec 1 :=
  Scalar.cmpi CmpIPredicate.eq (Scf.iv 0#32 1#32 k) (Scalar.subi (Scalar.muli (1#32) (BitVec.ofNat 32 (nb i))) 1#32)

theorem next_words : ∀ i : grid0.Coords, ∀ k : Fin (k0_t1_loop i).trips,
    (Scalar.select (Scalar.andi (Scalar.andi (wNe i k.val (wUp i k.val))
        (Scalar.xori (Scalar.cmpi CmpIPredicate.sge (Scf.iv 0#32 1#32 k.val) (Scalar.addi (Scalar.subi (Scalar.muli (1#32) (BitVec.ofNat 32 (nb i))) 2#32) 1#32)) 1#1)) 1#1)
        (Scalar.addi (w6 i k.val) 1#32) (w6 i k.val),
      Scalar.select (Scalar.ori (wNe i k.val (wUp i k.val)) (wLast i k.val)) (Scalar.addi (w7 k.val) 1#32) (w7 k.val),
      Scalar.select (Scalar.andi (Scalar.ori (wNe i k.val (wUp i k.val)) (wLast i k.val)) 1#1) (Scalar.addi (w7 k.val) 1#32) (w7 k.val),
      Scalar.select (Scalar.andi (Scalar.andi (wNe i k.val (wDown i k.val)) (Scalar.xori (Scalar.cmpi CmpIPredicate.eq (Scf.iv 0#32 1#32 k.val) 0#32) 1#1)) 1#1)
        (Scalar.addi (w9 k.val) 1#32) (w9 k.val),
      wUp i k.val)
    = (w6 i (k.val + 1), w7 (k.val + 1), w7 (k.val + 1), w9 (k.val + 1), w10 i (k.val + 1)) := by decide +kernel

/-- The tile's number as the kernel computes it, and from it the number of its blocks and its first. -/
abbrev wTile (i : grid0.Coords) : BitVec 32 :=
  Scalar.addi (Scalar.addi 0#32 (Scalar.muli (BitVec.ofNat 32 (i 1).val) 1#32)) (Scalar.muli (BitVec.ofNat 32 (i 0).val) 16#32)
theorem v5_eq : ∀ i : grid0.Coords, Scalar.select (Scalar.cmpi .slt (wTile i) 26#32) 8#32 7#32 = BitVec.ofNat 32 (nb i) := by decide +kernel
theorem v10_eq : ∀ i : grid0.Coords, Scalar.select (Scalar.cmpi .slt (wTile i) 26#32) (Scalar.muli (wTile i) (Scalar.select (Scalar.cmpi .slt (wTile i) 26#32) 8#32 7#32))
    (Scalar.addi (Scalar.muli (wTile i) 7#32) 26#32) = BitVec.ofNat 32 (st i) := by decide +kernel
/-- The words the loop starts with. -/
theorem first_words : ∀ i : grid0.Coords,
    (Scalar.select (Scalar.andi 1#1 (Scalar.cmpi .sgt (Scalar.muli 1#32 (Scalar.select (Scalar.cmpi .slt (wTile i) 26#32) 8#32 7#32)) 0#32)) (Scalar.addi 0#32 1#32) 0#32, 0#32, 0#32, 0#32, 0#32)
      = (w6 i 0, w7 0, w7 0, w9 0, w10 i 0) := by decide +kernel

end Cert.Proof.Gather
-- ==== Proof.Gather.Ops.lean ====
/-
  One tile's copies, one lemma each, over any blocks and slots: the copy of a block of row numbers in and its wait, the
  gather of a block's rows and its wait, the copy of a block of rows out and its wait. A slot holding a block's words, and
  a block of the result, are stated by what is read through their windows.
-/
module

public import proofs.«01_k».proof.Defs
public import proofs.«01_k».proof.Proof.Gather.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ViewIndex
public import Idealize.ShloMosaic.Lib.Tactic

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra: the handshakes' rounds library, the transfers' counters -/

abbrev UH : Type := URounds (GSem nD τ sig) ℕ
abbrev UU : Type := UH × Counters

local notation "𝕄" => MT nD τ sig (HIx 5) (Elt F) ℕ UU ℕ

abbrev 𝒱₀ : Variants := Variants.none

abbrev MRef (sp : Space) (s : Shape) (e : EltTy) : Type := Memref sig .scVector sp s e

/-- What one call's kernel is given: the table, the chunk's row numbers, the chunk's rows, the two double buffers and
    the semaphores. -/
structure Ops where
  A2 : MRef .hbm S10000x128 .i32
  h2 : A2.IsWhole
  A3 : MRef .hbm S1x32000 .i32
  h3 : A3.IsWhole
  A4 : MRef .hbm S32000x128 .i32
  h4 : A4.IsWhole
  B0 : MRef .vmem S2x1x128 .i32
  hB0 : B0.IsWhole
  v12 : DmaSems sig S2
  B1 : MRef .vmem S2x128x128 .i32
  hB1 : B1.IsWhole
  v13 : DmaSems sig S2
  r1 : DmaSems sig S_
  r2 : DmaSems sig S_

abbrev cV (i : grid0.Coords) : Fin τ.nSC := (i 0).castLE hcore0
abbrev jV (i : grid0.Coords) : Fin τ.nSub := (i 1).castLE hsub0
/-- The tile's thread. -/
abbrev thr (d : Dev nD) (i : grid0.Coords) : Thread nD τ := V d (cV i) (jV i)

/-! ## The windows: slot `s % 2` of a double buffer, block `j` of a chunk -/

theorem inbI (s : ℕ) : ∀ a, (![s % 2, 0, 0] : Fin 3 → ℕ) a + S1x1x128.size a ≤ S2x1x128.size a := by
  have := Nat.mod_lt s (by decide : 0 < 2)
  intro a; fin_cases a <;> simp [S1x1x128, S2x1x128]; omega
theorem inbR (s : ℕ) : ∀ a, (![s % 2, 0, 0] : Fin 3 → ℕ) a + S1x128x128.size a ≤ S2x128x128.size a := by
  have := Nat.mod_lt s (by decide : 0 < 2)
  intro a; fin_cases a <;> simp [S1x128x128, S2x128x128]; omega
theorem inbX (j : ℕ) : ∀ a, (![0, 128 * (j % 250)] : Fin 2 → ℕ) a + S1x128.size a ≤ S1x32000.size a := by
  have := Nat.mod_lt j (by decide : 0 < 250)
  intro a; fin_cases a <;> simp [S1x128, S1x32000]; omega
theorem inbO (j : ℕ) : ∀ a, (![128 * (j % 250), 0] : Fin 2 → ℕ) a + S128x128.size a ≤ S32000x128.size a := by
  have := Nat.mod_lt j (by decide : 0 < 250)
  intro a; fin_cases a <;> simp [S128x128, S32000x128]; omega
theorem inbS (s : ℕ) : ∀ a, (![s % 2] : Fin 1 → ℕ) a + S1.size a ≤ S2.size a := by
  have := Nat.mod_lt s (by decide : 0 < 2)
  intro a; fin_cases a; simp [S1, S2]; omega

abbrev iS (c : Ops) (s : ℕ) : MRef .vmem S1x128 .i32 :=
  (c.B0.slice (Rect.unit (s := S2x1x128) ![s % 2, 0, 0] S1x1x128.size (inbI s)) (fun _ => rfl)).squeeze S1x128 squeezes_S1x1x128_S1x128
abbrev lS (c : Ops) (s : ℕ) : MRef .vmem S128 .i32 :=
  ((iS c s).slice (Rect.unit (s := S1x128) ![0, 0] S1x128.size inb_S1x128_S1x128_0_0) (fun _ => rfl)).squeeze S128 squeezes_S1x128_S128
abbrev rS (c : Ops) (s : ℕ) : MRef .vmem S128x128 .i32 :=
  (c.B1.slice (Rect.unit (s := S2x128x128) ![s % 2, 0, 0] S1x128x128.size (inbR s)) (fun _ => rfl)).squeeze S128x128 squeezes_S1x128x128_S128x128
abbrev xW (c : Ops) (j : ℕ) : MRef .hbm S1x128 .i32 :=
  c.A3.slice (Rect.unit (s := S1x32000) ![0, 128 * (j % 250)] S1x128.size (inbX j)) (fun _ => rfl)
abbrev oW (c : Ops) (j : ℕ) : MRef .hbm S128x128 .i32 :=
  c.A4.slice (Rect.unit (s := S32000x128) ![128 * (j % 250), 0] S128x128.size (inbO j)) (fun _ => rfl)
abbrev tW (c : Ops) : MRef .hbm S10000x128 .i32 :=
  c.A2.slice (Rect.unit (s := S10000x128) ![0, 0] S10000x128.size inb_S10000x128_S10000x128_0_0) (fun _ => rfl)
abbrev iM (c : Ops) (s : ℕ) : DmaSem sig :=
  ((c.v12.slice (Rect.unit (s := S2) ![s % 2] S1.size (inbS s))).squeeze S_ squeezes_S1_S_).sem
abbrev oM (c : Ops) (s : ℕ) : DmaSem sig :=
  ((c.v13.slice (Rect.unit (s := S2) ![s % 2] S1.size (inbS s))).squeeze S_ squeezes_S1_S_).sem

/-- Where the gather's list finds its words in the slot. -/
def lidx (x : S128.Idx) : S1x128.Idx :=
  (Rect.unit (s := S1x128) ![0, 0] S1x128.size inb_S1x128_S1x128_0_0).emb (Shape.reshapeEquiv (s' := S128) squeezes_S1x128_S128.numel_eq x)

section
variable (c : Ops) (d : Dev nD) (i : grid0.Coords)
variable (fx : Buf (Elt F) (c.A3.view.loc (thr d i))) (ft : Buf (Elt F) (c.A2.view.loc (thr d i)))
  (g : Buf (Elt F) (c.A4.view.loc (thr d i))) (q : PosShare TreeShare)

/-- The row numbers of block `j`, as the gather's list. -/
def lst (j : ℕ) : S128.Idx → Elt F .i32 := fun x => (xW c j).view.read (Elt F) fx (lidx x)

/-- Every row number of the chunk is a row of the table. -/
def InB : Prop := ∀ j x, (lst c d i fx j x).toNat < S10000x128.size gathers_S10000x128_S128x128.axis

/-- The rows of block `j`, gathered. -/
def pay (h : InB c d i fx) (j : ℕ) : S128x128.Idx → Elt F .i32 :=
  SparseCore.gatherPayload gathers_S10000x128_S128x128 ((tW c).view.read (Elt F) ft) (SparseCore.rows (lst c d i fx j) rfl (h j))

/-! ## What is held -/

abbrev IBlk (j : ℕ) : sProp 𝕄 := (xW c j).view.loc (thr d i) ↦[(xW c j).view.set]{fullShare} fx
abbrev OBlk (j : ℕ) (f : Buf (Elt F) (c.A4.view.loc (thr d i))) : sProp 𝕄 := (oW c j).view.loc (thr d i) ↦[(oW c j).view.set]{fullShare} f
abbrev TPts : sProp 𝕄 := (tW c).view.loc (thr d i) ↦[(tW c).view.set]{q} ft
abbrev ISlot (s : ℕ) (f : Buf (Elt F) ((iS c s).view.loc (thr d i))) : sProp 𝕄 := (iS c s).view.loc (thr d i) ↦[(iS c s).view.set]{fullShare} f
abbrev RSlot (s : ℕ) (f : Buf (Elt F) ((rS c s).view.loc (thr d i))) : sProp 𝕄 := (rS c s).view.loc (thr d i) ↦[(rS c s).view.set]{fullShare} f
def iFree (s : ℕ) : sProp 𝕄 := iprop(∃ f, ISlot (F := F) c d i s f)
def rFree (s : ℕ) : sProp 𝕄 := iprop(∃ f, RSlot (F := F) c d i s f)
def iFull (s j : ℕ) : sProp 𝕄 := iprop(∃ f, ⌜(iS c s).view.read (Elt F) f = (xW c j).view.read (Elt F) fx⌝ ∗ ISlot (F := F) c d i s f)
def rFull (s j : ℕ) : sProp 𝕄 := iprop(∃ f, ⌜(rS c s).view.read (Elt F) f = (oW c j).view.read (Elt F) g⌝ ∗ RSlot (F := F) c d i s f)
abbrev iZ (s : ℕ) : sProp 𝕄 := semVal (thr d i, .dma (iM c s)) 0
abbrev oZ (s : ℕ) : sProp 𝕄 := semVal (thr d i, .dma (oM c s)) 0
abbrev gZ : sProp 𝕄 := semVal (thr d i, .dma c.r1.sem) 0
/-- A copy in of block `j` into slot `s`, under way. -/
def InFl (s j : ℕ) : sProp 𝕄 :=
  Transfers.Flight countersEmb (thr d i) (.dma (iM c s)) (default : HIx 5) (iS c s).view.dmaCredit iprop(iFull c d i fx s j ∗ IBlk c d i fx j)
/-- A copy out of slot `s` into block `j`, under way. -/
def OutFl (s j : ℕ) : sProp 𝕄 :=
  Transfers.Flight countersEmb (thr d i) (.dma (oM c s)) (default : HIx 5) (oW c j).view.dmaCredit iprop(OBlk c d i j g ∗ rFree (F := F) c d i s)
/-- What the thread owes, every wait so far either owed from the start or of the kernel's own copies. -/
def Owing (O : CellTallies nD τ sig (HIx 5)) (W : Waits sig (HIx 5)) : sProp 𝕄 :=
  iprop(∃ W', ⌜∀ p ∈ W', p ∈ W ∨ p.2 = none⌝ ∗ owes (thr d i) O W')

variable [FloatOps F]

/-- A block of row numbers starts in. -/
theorem inStart (s j : ℕ) (o4 o5 o6) (h4 : ∀ a, o4 a + S1x1x128.size a ≤ S2x1x128.size a) (h5 : ∀ a, o5 a + S1x128.size a ≤ S1x32000.size a)
    (h6 : ∀ a, o6 a + S1.size a ≤ S2.size a) (e4 : o4 = ![s % 2, 0, 0]) (e5 : o5 = ![0, 128 * (j % 250)]) (e6 : o6 = ![s % 2])
    {hsrc hdst hsem} {α : Type} (k : PUnit → Prog (TpuEff nD τ sig (Elt F) Λ₀ (.scVector (cV i) (jV i))) α) (Q : α → sProp 𝕄) :
    iprop(IBlk c d i fx j ∗ iFree (F := F) c d i s ∗ iZ (F := F) c d i s)
      ⊢ iprop((InFl c d i fx s j -∗ wp frame (wpE (defs₀ (F := F)) 𝒱₀ (thr d i) none) Set.univ (k ⟨⟩) Q)
        -∗ wp frame (wpE (defs₀ (F := F)) 𝒱₀ (thr d i) none) Set.univ
          (.op (.enqueueDma (c.A3.slice (Rect.unit (s := S1x32000) o5 S1x128.size h5) (fun _ => rfl))
            (.here ((c.B0.slice (Rect.unit (s := S2x1x128) o4 S1x1x128.size h4) (fun _ => rfl)).squeeze S1x128 squeezes_S1x1x128_S1x128))
            (.dma ((c.v12.slice (Rect.unit (s := S2) o6 S1.size h6)).squeeze S_ squeezes_S1_S_).sem) hsrc hdst hsem) k) Q) := by
  subst e4 e5 e6
  unfold iFree
  iintro ⟨Hb, ⟨%f, Hs⟩, Hz⟩ Hk
  iapply (Transfers.wp_dmaLocal countersEmb 𝒱₀ (thr d i) none (default : HIx 5) (iS c s).view.dmaCredit rfl (View.dmaCredit_pos _ (by decide))
    (Finset.Subset.refl _)) $$ [Hb Hs Hz]
  · isplitl [Hb]; · iexact Hb
    isplitl [Hs]; · iexact Hs
    iexact Hz
  iintro Hf
  iapply Hk
  unfold InFl
  iapply (Transfers.Flight_mono countersEmb (thr d i) ?_) $$ Hf
  unfold iFull
  iintro ⟨Hs, Hb⟩
  isplitl [Hs]
  · iexists _
    isplitr [Hs]
    rotate_left
    · iexact Hs
    ipureintro
    exact View.read_write_univ _ _
  · iexact Hb

/-- A wait adds only its own cell to what was waited for. -/
theorem owing_insert (O : CellTallies nD τ sig (HIx 5)) (W W' : Waits sig (HIx 5)) (hW : ∀ p ∈ W', p ∈ W ∨ p.2 = none) (sm : SemLoc sig) :
    owes (thr d i) O (insert (sm, (default : HIx 5)) W') ⊢ (Owing (F := F) d i O W : sProp 𝕄) := by
  unfold Owing
  iintro H
  iexists _
  isplitr [H]
  rotate_left
  · iexact H
  ipureintro
  intro p hp
  rcases Finset.mem_insert.mp hp with rfl | hp
  · exact Or.inr rfl
  · exact hW p hp

theorem owing_elim (O : CellTallies nD τ sig (HIx 5)) (W : Waits sig (HIx 5)) :
    (Owing (F := F) d i O W : sProp 𝕄) ⊢ iprop(∃ W', ⌜∀ p ∈ W', p ∈ W ∨ p.2 = none⌝ ∗ owes (thr d i) O W') := by
  unfold Owing
  iintro H
  iexact H

/-- Its wait: the slot holds the block's words. -/
theorem inWait (s j : ℕ) (O : CellTallies nD τ sig (HIx 5)) (W : Waits sig (HIx 5)) (o4 o5 o6) (h4 : ∀ a, o4 a + S1x1x128.size a ≤ S2x1x128.size a) (h5 : ∀ a, o5 a + S1x128.size a ≤ S1x32000.size a)
    (h6 : ∀ a, o6 a + S1.size a ≤ S2.size a) (e4 : o4 = ![s % 2, 0, 0]) (e6 : o6 = ![s % 2])
    {hsrc hdst} {α : Type} (k : PUnit → Prog (TpuEff nD τ sig (Elt F) Λ₀ (.scVector (cV i) (jV i))) α) (Q : α → sProp 𝕄) :
    iprop(InFl c d i fx s j ∗ Owing (F := F) d i O W ∗ Transfers.MayWaits (thr d i) (default : HIx 5) O)
      ⊢ iprop((iprop(iFull c d i fx s j ∗ IBlk c d i fx j ∗ iZ (F := F) c d i s ∗ Owing (F := F) d i O W)
            -∗ wp frame (wpE (defs₀ (F := F)) 𝒱₀ (thr d i) none) Set.univ (k ⟨⟩) Q)
        -∗ wp frame (wpE (defs₀ (F := F)) 𝒱₀ (thr d i) none) Set.univ
          (.op (.waitDma2 ((c.v12.slice (Rect.unit (s := S2) o6 S1.size h6)).squeeze S_ squeezes_S1_S_).sem
            (c.A3.slice (Rect.unit (s := S1x32000) o5 S1x128.size h5) (fun _ => rfl))
            ((c.B0.slice (Rect.unit (s := S2x1x128) o4 S1x1x128.size h4) (fun _ => rfl)).squeeze S1x128 squeezes_S1x1x128_S1x128)
            hsrc hdst) k) Q) := by
  subst e4 e6
  unfold InFl
  iintro ⟨Hf, HO, Hm⟩ Hk
  ihave HO' := (owing_elim d i O W) $$ HO
  icases HO' with ⟨%W', %hW, HO⟩
  iapply (Transfers.wp_waitLocalO countersEmb 𝒱₀ (thr d i) none (default : HIx 5) (rfl : (iS c s).view.dmaCredit = _)) $$ [Hf HO Hm]
  · isplitl [Hf]; · iexact Hf
    isplitl [HO]; · iexact HO
    iapply (Transfers.MayWaits.elim _) $$ Hm
  iintro ⟨⟨Hs, Hb⟩, Hz, HO⟩
  iapply Hk
  isplitl [Hs]; · iexact Hs
  isplitl [Hb]; · iexact Hb
  isplitl [Hz]; · iexact Hz
  iapply (owing_insert d i O W W' hW _) $$ HO

/-- A block of rows starts out. -/
theorem outStart (s j : ℕ) (f₀ : Buf (Elt F) (c.A4.view.loc (thr d i))) (o4 o5 o6) (h4 : ∀ a, o4 a + S1x128x128.size a ≤ S2x128x128.size a) (h5 : ∀ a, o5 a + S128x128.size a ≤ S32000x128.size a)
    (h6 : ∀ a, o6 a + S1.size a ≤ S2.size a) (e4 : o4 = ![s % 2, 0, 0]) (e5 : o5 = ![128 * (j % 250), 0]) (e6 : o6 = ![s % 2])
    {hsrc hdst hsem} {α : Type} (k : PUnit → Prog (TpuEff nD τ sig (Elt F) Λ₀ (.scVector (cV i) (jV i))) α) (Q : α → sProp 𝕄) :
    iprop(rFull c d i g s j ∗ OBlk c d i j f₀ ∗ oZ (F := F) c d i s)
      ⊢ iprop((OutFl c d i g s j -∗ wp frame (wpE (defs₀ (F := F)) 𝒱₀ (thr d i) none) Set.univ (k ⟨⟩) Q)
        -∗ wp frame (wpE (defs₀ (F := F)) 𝒱₀ (thr d i) none) Set.univ
          (.op (.enqueueDma ((c.B1.slice (Rect.unit (s := S2x128x128) o4 S1x128x128.size h4) (fun _ => rfl)).squeeze S128x128 squeezes_S1x128x128_S128x128)
            (.here (c.A4.slice (Rect.unit (s := S32000x128) o5 S128x128.size h5) (fun _ => rfl)))
            (.dma ((c.v13.slice (Rect.unit (s := S2) o6 S1.size h6)).squeeze S_ squeezes_S1_S_).sem) hsrc hdst hsem) k) Q) := by
  subst e4 e5 e6
  unfold rFull
  iintro ⟨⟨%f, %hf, Hs⟩, Hb, Hz⟩ Hk
  iapply (Transfers.wp_dmaLocal countersEmb 𝒱₀ (thr d i) none (default : HIx 5) (oW c j).view.dmaCredit rfl (View.dmaCredit_pos _ (by decide))
    (Finset.Subset.refl _)) $$ [Hb Hs Hz]
  · isplitl [Hs]; · iexact Hs
    isplitl [Hb]; · iexact Hb
    iexact Hz
  iintro Hf
  iapply Hk
  unfold OutFl
  iapply (Transfers.Flight_mono countersEmb (thr d i) ?_) $$ Hf
  unfold rFree
  iintro ⟨Hb, Hs⟩
  isplitl [Hb]
  · iapply (Entails.of_eq (pointsTo_congr fun y hy => by
      obtain ⟨x, -, rfl⟩ := Finset.mem_map.mp hy
      exact View.eq_of_read_eq (v := (oW c j).view) (congrFun ((View.read_write_univ _ _).trans hf) x))) $$ Hb
  · iexists _; iexact Hs

/-- Its wait: the block is written, the slot free. -/
theorem outWait (s j : ℕ) (O : CellTallies nD τ sig (HIx 5)) (W : Waits sig (HIx 5)) (o4 o5 o6) (h4 : ∀ a, o4 a + S1x128x128.size a ≤ S2x128x128.size a) (h5 : ∀ a, o5 a + S128x128.size a ≤ S32000x128.size a)
    (h6 : ∀ a, o6 a + S1.size a ≤ S2.size a) (e5 : o5 = ![128 * (j % 250), 0]) (e6 : o6 = ![s % 2])
    {hsrc hdst} {α : Type} (k : PUnit → Prog (TpuEff nD τ sig (Elt F) Λ₀ (.scVector (cV i) (jV i))) α) (Q : α → sProp 𝕄) :
    iprop(OutFl c d i g s j ∗ Owing (F := F) d i O W ∗ Transfers.MayWaits (thr d i) (default : HIx 5) O)
      ⊢ iprop((iprop(OBlk c d i j g ∗ rFree (F := F) c d i s ∗ oZ (F := F) c d i s ∗ Owing (F := F) d i O W)
            -∗ wp frame (wpE (defs₀ (F := F)) 𝒱₀ (thr d i) none) Set.univ (k ⟨⟩) Q)
        -∗ wp frame (wpE (defs₀ (F := F)) 𝒱₀ (thr d i) none) Set.univ
          (.op (.waitDma2 ((c.v13.slice (Rect.unit (s := S2) o6 S1.size h6)).squeeze S_ squeezes_S1_S_).sem
            ((c.B1.slice (Rect.unit (s := S2x128x128) o4 S1x128x128.size h4) (fun _ => rfl)).squeeze S128x128 squeezes_S1x128x128_S128x128)
            (c.A4.slice (Rect.unit (s := S32000x128) o5 S128x128.size h5) (fun _ => rfl))
            hsrc hdst) k) Q) := by
  subst e5 e6
  unfold OutFl
  iintro ⟨Hf, HO, Hm⟩ Hk
  ihave HO' := (owing_elim d i O W) $$ HO
  icases HO' with ⟨%W', %hW, HO⟩
  iapply (Transfers.wp_waitLocalO countersEmb 𝒱₀ (thr d i) none (default : HIx 5) (rfl : (oW c j).view.dmaCredit = _)) $$ [Hf HO Hm]
  · isplitl [Hf]; · iexact Hf
    isplitl [HO]; · iexact HO
    iapply (Transfers.MayWaits.elim _) $$ Hm
  iintro ⟨⟨Hb, Hs⟩, Hz, HO⟩
  iapply Hk
  isplitl [Hb]; · iexact Hb
  isplitl [Hs]; · iexact Hs
  isplitl [Hz]; · iexact Hz
  iapply (owing_insert d i O W W' hW _) $$ HO

/-- The gather's list is a part of its slot. -/
theorem lS_sub (s : ℕ) : (lS c s).view.set ⊆ (iS c s).view.set := by
  rw [show (lS c s).view.set = ((iS c s).view.slice (Rect.unit (s := S1x128) ![0, 0] S1x128.size inb_S1x128_S1x128_0_0)).set from View.set_reshape _ _]
  exact View.set_slice_subset _ _

theorem gatherPayload_rows_congr {p : S10000x128.Idx → Elt F .i32} {l l' : S128.Idx → Elt F .i32} (e : l = l') {hn hn'} {h : ∀ x, (l x).toNat < S10000x128.size gathers_S10000x128_S128x128.axis}
    {h' : ∀ x, (l' x).toNat < S10000x128.size gathers_S10000x128_S128x128.axis} :
    SparseCore.gatherPayload gathers_S10000x128_S128x128 p (SparseCore.rows l hn h) = SparseCore.gatherPayload gathers_S10000x128_S128x128 p (SparseCore.rows l' hn' h') := by
  subst e; rfl

/-- A block's rows gathered into a slot, and the wait. -/
theorem gatherWait (s j : ℕ) (hin : InB c d i fx) (hg : (oW c j).view.read (Elt F) g = pay c d i fx ft hin j)
    (O : CellTallies nD τ sig (HIx 5)) (W : Waits sig (HIx 5)) (o10 o11) (h10 : ∀ a, o10 a + S1x128x128.size a ≤ S2x128x128.size a) (h11 : ∀ a, o11 a + S1x1x128.size a ≤ S2x1x128.size a)
    (e10 : o10 = ![s % 2, 0, 0]) (e11 : o11 = ![s % 2, 0, 0])
    {hp hn hsrc he hsp hr hsrc' hdst'} {α : Type} (k : PUnit → Prog (TpuEff nD τ sig (Elt F) Λ₀ (.scVector (cV i) (jV i))) α) (Q : α → sProp 𝕄) :
    iprop(iFull c d i fx s j ∗ rFree (F := F) c d i s ∗ TPts c d i ft q ∗ gZ (F := F) c d i ∗ Owing (F := F) d i O W ∗ Transfers.MayWaits (thr d i) (default : HIx 5) O)
      ⊢ iprop((iprop(iFree (F := F) c d i s ∗ rFull c d i g s j ∗ TPts c d i ft q ∗ gZ (F := F) c d i ∗ Owing (F := F) d i O W)
            -∗ wp frame (wpE (defs₀ (F := F)) 𝒱₀ (thr d i) none) Set.univ (k ⟨⟩) Q)
        -∗ wp frame (wpE (defs₀ (F := F)) 𝒱₀ (thr d i) none) Set.univ
          ((SparseCore.enqueueIndirectGather hp (tW c)
              ((c.B1.slice (Rect.unit (s := S2x128x128) o10 S1x128x128.size h10) (fun _ => rfl)).squeeze S128x128 squeezes_S1x128x128_S128x128)
              gathers_S10000x128_S128x128
              ((((c.B0.slice (Rect.unit (s := S2x1x128) o11 S1x1x128.size h11) (fun _ => rfl)).squeeze S1x128 squeezes_S1x1x128_S1x128).slice
                (Rect.unit (s := S1x128) ![0, 0] S1x128.size inb_S1x128_S1x128_0_0) (fun _ => rfl)).squeeze S128 squeezes_S1x128_S128)
              hn c.r1.sem hsrc he hsp hr) >>= fun _ =>
            .op (.waitDma2 c.r1.sem (tW c)
              ((c.B1.slice (Rect.unit (s := S2x128x128) o10 S1x128x128.size h10) (fun _ => rfl)).squeeze S128x128 squeezes_S1x128x128_S128x128)
              hsrc' hdst') k) Q) := by
  subst e10 e11
  unfold iFull rFree
  iintro ⟨⟨%fi, %hfi, Hi⟩, ⟨%fr, Hr⟩, Ht, Hz, HO, Hm⟩ Hk
  have hl : (lS c s).view.read (Elt F) fi = lst c d i fx j := by
    funext x
    exact congrFun hfi (lidx x)
  ihave Hi' := (pointsTo_split_subset (lS_sub c s)).1 $$ Hi
  icases Hi' with ⟨Hl, Hrest⟩
  iapply (SparseCore.wp_indirectGatherLocal countersEmb 𝒱₀ (thr d i) none (src := tW c) (dst := rS c s) (offs := lS c s) (hg := gathers_S10000x128_S128x128) (default : HIx 5)
      (rS c s).view.dmaCredit (SparseCore.sum_rowCredit_eq_dmaCredit (rS c s) _ (fun _ => rfl)) (by decide) (by rw [hl]; exact hin j)) $$ [Hl Hr Ht Hz]
  · isplitl [Ht]; · iexact Ht
    isplitl [Hr]; · iexact Hr
    isplitl [Hl]; · iexact Hl
    iexact Hz
  iintro Hf
  ihave HO' := (owing_elim d i O W) $$ HO
  icases HO' with ⟨%W', %hW, HO⟩
  iapply (Transfers.wp_waitLocalO countersEmb 𝒱₀ (thr d i) none (default : HIx 5) (rfl : (rS c s).view.dmaCredit = _)) $$ [Hf HO Hm]
  · isplitl [Hf]; · iexact Hf
    isplitl [HO]; · iexact HO
    iapply (Transfers.MayWaits.elim _) $$ Hm
  iintro ⟨⟨Hr, Ht, Hl⟩, Hz, HO⟩
  iapply Hk
  isplitl [Hl Hrest]
  · unfold iFree
    iexists fi
    iapply (pointsTo_split_subset (lS_sub c s)).2
    isplitl [Hl]; · iexact Hl
    iexact Hrest
  isplitl [Hr]
  · unfold rFull
    iexists _
    isplitr [Hr]
    rotate_left
    · iexact Hr
    ipureintro
    refine (View.read_write_univ _ _).trans (Eq.trans ?_ hg.symm)
    unfold pay
    exact gatherPayload_rows_congr hl
  isplitl [Ht]; · iexact Ht
  isplitl [Hz]; · iexact Hz
  iapply (owing_insert d i O W W' hW _) $$ HO

end
end Cert.Proof.Gather
-- ==== Proof.Gather.Tile.lean ====
/-
  One tile's pipeline: what is held before each trip, one trip, and the whole of the tile's task.
-/
module

public import proofs.«01_k».proof.Proof.Gather.Ops

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

/-! ## Runs of blocks -/

theorem bigSep_Ico_first (Φ : ℕ → sProp 𝕄) {a b : ℕ} (h : a < b) :
    bigSep (Finset.Ico a b) Φ = iprop(Φ a ∗ bigSep (Finset.Ico (a + 1) b) Φ) := by
  rw [show Finset.Ico a b = insert a (Finset.Ico (a + 1) b) from by ext x; simp; omega]
  exact SparseCore.bigSep_insert' (by simp)

theorem bigSep_Ico_last (Φ : ℕ → sProp 𝕄) {a b : ℕ} (h : a ≤ b) :
    bigSep (Finset.Ico a (b + 1)) Φ = iprop(Φ b ∗ bigSep (Finset.Ico a b) Φ) := by
  rw [show Finset.Ico a (b + 1) = insert b (Finset.Ico a b) from by ext x; simp; omega]
  exact SparseCore.bigSep_insert' (by simp)

theorem bigSep_Ico_none (Φ : ℕ → sProp 𝕄) {a b : ℕ} (h : b ≤ a) : bigSep (Finset.Ico a b) Φ = (iprop(emp) : sProp 𝕄) := by
  rw [Finset.Ico_eq_empty_of_le h, bigSep_empty]; rfl

section
variable (c : Ops) (d : Dev nD) (i : grid0.Coords)
variable (fx : Buf (Elt F) (c.A3.view.loc (thr d i))) (ft : Buf (Elt F) (c.A2.view.loc (thr d i)))
  (f₀ g : Buf (Elt F) (c.A4.view.loc (thr d i))) (q : PosShare TreeShare)

theorem iFree_congr {s s' : ℕ} (h : s % 2 = s' % 2) : (iFree (F := F) c d i s : sProp 𝕄) = iFree (F := F) c d i s' := by
  unfold iFree
  have key : ∀ (p p' : ℕ) (_ : p = p') (hp : ∀ a, (![p, 0, 0] : Fin 3 → ℕ) a + S1x1x128.size a ≤ S2x1x128.size a)
      (hp' : ∀ a, (![p', 0, 0] : Fin 3 → ℕ) a + S1x1x128.size a ≤ S2x1x128.size a),
      (iprop(∃ f, ((c.B0.slice (Rect.unit (s := S2x1x128) ![p, 0, 0] S1x1x128.size hp) (fun _ => rfl)).squeeze S1x128 squeezes_S1x1x128_S1x128).view.loc (thr d i)
          ↦[((c.B0.slice (Rect.unit (s := S2x1x128) ![p, 0, 0] S1x1x128.size hp) (fun _ => rfl)).squeeze S1x128 squeezes_S1x1x128_S1x128).view.set]{fullShare} f) : sProp 𝕄)
        = iprop(∃ f, ((c.B0.slice (Rect.unit (s := S2x1x128) ![p', 0, 0] S1x1x128.size hp') (fun _ => rfl)).squeeze S1x128 squeezes_S1x1x128_S1x128).view.loc (thr d i)
          ↦[((c.B0.slice (Rect.unit (s := S2x1x128) ![p', 0, 0] S1x1x128.size hp') (fun _ => rfl)).squeeze S1x128 squeezes_S1x1x128_S1x128).view.set]{fullShare} f) := by
    rintro p _ rfl _ _; rfl
  exact key _ _ h _ _

theorem rFree_congr {s s' : ℕ} (h : s % 2 = s' % 2) : (rFree (F := F) c d i s : sProp 𝕄) = rFree (F := F) c d i s' := by
  unfold rFree
  have key : ∀ (p p' : ℕ) (_ : p = p') (hp : ∀ a, (![p, 0, 0] : Fin 3 → ℕ) a + S1x128x128.size a ≤ S2x128x128.size a)
      (hp' : ∀ a, (![p', 0, 0] : Fin 3 → ℕ) a + S1x128x128.size a ≤ S2x128x128.size a),
      (iprop(∃ f, ((c.B1.slice (Rect.unit (s := S2x128x128) ![p, 0, 0] S1x128x128.size hp) (fun _ => rfl)).squeeze S128x128 squeezes_S1x128x128_S128x128).view.loc (thr d i)
          ↦[((c.B1.slice (Rect.unit (s := S2x128x128) ![p, 0, 0] S1x128x128.size hp) (fun _ => rfl)).squeeze S128x128 squeezes_S1x128x128_S128x128).view.set]{fullShare} f) : sProp 𝕄)
        = iprop(∃ f, ((c.B1.slice (Rect.unit (s := S2x128x128) ![p', 0, 0] S1x128x128.size hp') (fun _ => rfl)).squeeze S128x128 squeezes_S1x128x128_S128x128).view.loc (thr d i)
          ↦[((c.B1.slice (Rect.unit (s := S2x128x128) ![p', 0, 0] S1x128x128.size hp') (fun _ => rfl)).squeeze S128x128 squeezes_S1x128x128_S128x128).view.set]{fullShare} f) := by
    rintro p _ rfl _ _; rfl
  exact key _ _ h _ _

theorem iZ_congr {s s' : ℕ} (h : s % 2 = s' % 2) : (iZ (F := F) c d i s : sProp 𝕄) = iZ (F := F) c d i s' := by
  have key : ∀ (p p' : ℕ) (_ : p = p') (hp : ∀ a, (![p] : Fin 1 → ℕ) a + S1.size a ≤ S2.size a) (hp' : ∀ a, (![p'] : Fin 1 → ℕ) a + S1.size a ≤ S2.size a),
      (semVal (thr d i, SemLoc.dma ((c.v12.slice (Rect.unit (s := S2) ![p] S1.size hp)).squeeze S_ squeezes_S1_S_).sem) 0 : sProp 𝕄)
        = semVal (thr d i, SemLoc.dma ((c.v12.slice (Rect.unit (s := S2) ![p'] S1.size hp')).squeeze S_ squeezes_S1_S_).sem) 0 := by
    rintro p _ rfl _ _; rfl
  exact key _ _ h _ _

theorem oZ_congr {s s' : ℕ} (h : s % 2 = s' % 2) : (oZ (F := F) c d i s : sProp 𝕄) = oZ (F := F) c d i s' := by
  have key : ∀ (p p' : ℕ) (_ : p = p') (hp : ∀ a, (![p] : Fin 1 → ℕ) a + S1.size a ≤ S2.size a) (hp' : ∀ a, (![p'] : Fin 1 → ℕ) a + S1.size a ≤ S2.size a),
      (semVal (thr d i, SemLoc.dma ((c.v13.slice (Rect.unit (s := S2) ![p] S1.size hp)).squeeze S_ squeezes_S1_S_).sem) 0 : sProp 𝕄)
        = semVal (thr d i, SemLoc.dma ((c.v13.slice (Rect.unit (s := S2) ![p'] S1.size hp')).squeeze S_ squeezes_S1_S_).sem) 0 := by
    rintro p _ rfl _ _; rfl
  exact key _ _ h _ _

/-! ## Before trip `k` -/

/-- The words the loop carries before trip `k`. -/
def words (k : ℕ) : BitVec 32 × BitVec 32 × BitVec 32 × BitVec 32 × BitVec 32 := (w6 i k, w7 k, w7 k, w9 k, w10 i k)

/-- Slot `k % 2` of the row numbers: block `st + k` on its way in, or after the last block free. -/
def InSt (k : ℕ) : sProp 𝕄 := if k < nb i then InFl c d i fx k (st i + k) else iprop(iFree (F := F) c d i k ∗ iZ (F := F) c d i k)
/-- The other slot of the rows: the block before on its way out, or before the first block free. -/
def OutSt (k : ℕ) : sProp 𝕄 := if k = 0 then iprop(rFree (F := F) c d i (k + 1) ∗ oZ (F := F) c d i (k + 1)) else OutFl c d i g (k - 1) (st i + k - 1)

variable (O : CellTallies nD τ sig (HIx 5)) (W : Waits sig (HIx 5))

def Inv (k : ℕ) (acc : BitVec 32 × BitVec 32 × BitVec 32 × BitVec 32 × BitVec 32) : sProp 𝕄 :=
  iprop(⌜acc = words i k⌝
    ∗ Transfers.MayWaits (thr d i) (default : HIx 5) O
    ∗ bigSep (Finset.Ico (st i) (st i + k)) (fun j => IBlk c d i fx j)
    ∗ bigSep (Finset.Ico (st i + k + 1) (st i + nb i)) (fun j => IBlk c d i fx j)
    ∗ InSt c d i fx k
    ∗ iFree (F := F) c d i (k + 1) ∗ iZ (F := F) c d i (k + 1)
    ∗ bigSep (Finset.Ico (st i + k) (st i + nb i)) (fun j => OBlk c d i j f₀)
    ∗ bigSep (Finset.Ico (st i) (st i + k - 1)) (fun j => OBlk c d i j g)
    ∗ OutSt c d i g k
    ∗ rFree (F := F) c d i k ∗ oZ (F := F) c d i k
    ∗ gZ (F := F) c d i ∗ TPts c d i ft q ∗ Owing (F := F) d i O W)

variable [FloatOps F]

/-- The copy in of the next block, if there is one. -/
theorem condIn (k : ℕ) (hk : k < nb i) {P : Prop} [Decidable P] (hP : P ↔ k + 1 < nb i) (o4 o5 o6) (h4 : ∀ _ : P, ∀ a, o4 a + S1x1x128.size a ≤ S2x1x128.size a)
    (h5 : ∀ _ : P, ∀ a, o5 a + S1x128.size a ≤ S1x32000.size a) (h6 : ∀ _ : P, ∀ a, o6 a + S1.size a ≤ S2.size a)
    (e4 : k + 1 < nb i → o4 = ![(k + 1) % 2, 0, 0]) (e5 : k + 1 < nb i → o5 = ![0, 128 * (st i + k + 1)]) (e6 : k + 1 < nb i → o6 = ![(k + 1) % 2])
    {hsrc : ∀ h : P, _} {hdst : ∀ h : P, _} {hsem : ∀ h : P, _} {α β : Type} (kk : PUnit → Prog (TpuEff nD τ sig (Elt F) Λ₀ (.scVector (cV i) (jV i))) β)
    (f : β → Prog (TpuEff nD τ sig (Elt F) Λ₀ (.scVector (cV i) (jV i))) α) (Q : α → sProp 𝕄) :
    iprop(bigSep (Finset.Ico (st i + k + 1) (st i + nb i)) (fun j => IBlk c d i fx j) ∗ iFree (F := F) c d i (k + 1) ∗ iZ (F := F) c d i (k + 1))
      ⊢ iprop((iprop(InSt c d i fx (k + 1) ∗ bigSep (Finset.Ico (st i + k + 2) (st i + nb i)) (fun j => IBlk c d i fx j))
            -∗ wp frame (wpE (defs₀ (F := F)) 𝒱₀ (thr d i) none) Set.univ (kk ⟨⟩ >>= f) Q)
        -∗ wp frame (wpE (defs₀ (F := F)) 𝒱₀ (thr d i) none) Set.univ
          ((if h : P then
            .op (.enqueueDma (c.A3.slice (Rect.unit (s := S1x32000) o5 S1x128.size (h5 h)) (fun _ => rfl))
              (.here ((c.B0.slice (Rect.unit (s := S2x1x128) o4 S1x1x128.size (h4 h)) (fun _ => rfl)).squeeze S1x128 squeezes_S1x1x128_S1x128))
              (.dma ((c.v12.slice (Rect.unit (s := S2) o6 S1.size (h6 h))).squeeze S_ squeezes_S1_S_).sem) (hsrc h) (hdst h) (hsem h)) kk
            else kk ⟨⟩) >>= f) Q) := by
  have hst := st_nb_le i
  by_cases hn : k + 1 < nb i
  · have hp := hP.mpr hn
    rw [dif_pos hp, Prog.bind_op, bigSep_Ico_first _ (show st i + k + 1 < st i + nb i by omega)]
    iintro ⟨⟨Hb, Hbs⟩, Hs, Hz⟩ Hk
    iapply (inStart c d i fx (k + 1) (st i + k + 1) o4 o5 o6 (h4 hp) (h5 hp) (h6 hp) (e4 hn) ((e5 hn).trans (by rw [Nat.mod_eq_of_lt (by omega)])) (e6 hn)) $$ [Hb Hs Hz]
    · isplitl [Hb]; · iexact Hb
      isplitl [Hs]; · iexact Hs
      iexact Hz
    iintro Hf
    iapply Hk
    isplitl [Hf]
    · unfold InSt
      rw [if_pos hn]
      iexact Hf
    · iexact Hbs
  · have hp : ¬ P := fun h => hn (hP.mp h)
    rw [dif_neg hp, bigSep_Ico_none _ (show st i + nb i ≤ st i + k + 1 by omega), bigSep_Ico_none _ (show st i + nb i ≤ st i + k + 2 by omega)]
    iintro ⟨Hbs, Hs, Hz⟩ Hk
    iapply Hk
    isplitl [Hs Hz]
    · unfold InSt
      rw [if_neg hn]
      isplitl [Hs]; · iexact Hs
      iexact Hz
    · iexact Hbs

/-- The wait for the block before to be out, if there is one. -/
theorem condOut (k : ℕ) (hk : k < nb i) {P : Prop} [Decidable P] (hP : P ↔ 0 < k) (o4 o5 o6) (h4 : ∀ _ : P, ∀ a, o4 a + S1x128x128.size a ≤ S2x128x128.size a)
    (h5 : ∀ _ : P, ∀ a, o5 a + S128x128.size a ≤ S32000x128.size a) (h6 : ∀ _ : P, ∀ a, o6 a + S1.size a ≤ S2.size a)
    (e5 : 0 < k → o5 = ![128 * (st i + k - 1), 0]) (e6 : 0 < k → o6 = ![(k + 1) % 2])
    {hsrc : ∀ h : P, _} {hdst : ∀ h : P, _} {α : Type} (kk : PUnit → Prog (TpuEff nD τ sig (Elt F) Λ₀ (.scVector (cV i) (jV i))) α) (Q : α → sProp 𝕄) :
    iprop(OutSt c d i g k ∗ bigSep (Finset.Ico (st i) (st i + k - 1)) (fun j => OBlk c d i j g) ∗ Owing (F := F) d i O W ∗ Transfers.MayWaits (thr d i) (default : HIx 5) O)
      ⊢ iprop((iprop(rFree (F := F) c d i (k + 1) ∗ oZ (F := F) c d i (k + 1) ∗ bigSep (Finset.Ico (st i) (st i + k)) (fun j => OBlk c d i j g) ∗ Owing (F := F) d i O W)
            -∗ wp frame (wpE (defs₀ (F := F)) 𝒱₀ (thr d i) none) Set.univ (kk ⟨⟩) Q)
        -∗ wp frame (wpE (defs₀ (F := F)) 𝒱₀ (thr d i) none) Set.univ
          (if h : P then
            .op (.waitDma2 ((c.v13.slice (Rect.unit (s := S2) o6 S1.size (h6 h))).squeeze S_ squeezes_S1_S_).sem
              ((c.B1.slice (Rect.unit (s := S2x128x128) o4 S1x128x128.size (h4 h)) (fun _ => rfl)).squeeze S128x128 squeezes_S1x128x128_S128x128)
              (c.A4.slice (Rect.unit (s := S32000x128) o5 S128x128.size (h5 h)) (fun _ => rfl)) (hsrc h) (hdst h)) kk
            else kk ⟨⟩) Q) := by
  have hst := st_nb_le i
  by_cases hn : 0 < k
  · have hp := hP.mpr hn
    have hm : (k + 1) % 2 = (k - 1) % 2 := by omega
    rw [dif_pos hp, show st i + k = st i + k - 1 + 1 by omega, bigSep_Ico_last _ (show st i ≤ st i + k - 1 by omega), show st i + k - 1 + 1 - 1 = st i + k - 1 by omega,
      rFree_congr c d i hm, oZ_congr c d i hm]
    unfold OutSt
    rw [if_neg (by omega)]
    iintro ⟨Hf, Hbs, HO, Hm⟩ Hk
    iapply (outWait c d i g (k - 1) (st i + k - 1) O W o4 o5 o6 (h4 hp) (h5 hp) (h6 hp) ((e5 hn).trans (by rw [Nat.mod_eq_of_lt (by omega)])) ((e6 hn).trans (by rw [hm]))) $$ [Hf HO Hm]
    · isplitl [Hf]; · iexact Hf
      isplitl [HO]; · iexact HO
      iexact Hm
    iintro ⟨Hb, Hs, Hz, HO⟩
    iapply Hk
    isplitl [Hs]; · iexact Hs
    isplitl [Hz]; · iexact Hz
    isplitl [Hb Hbs]
    · isplitl [Hb]; · iexact Hb
      iexact Hbs
    iexact HO
  · have hp : ¬ P := fun h => hn (hP.mp h)
    obtain rfl : k = 0 := by omega
    rw [dif_neg hp, bigSep_Ico_none _ (show st i + 0 - 1 ≤ st i by omega), bigSep_Ico_none _ (show st i + 0 ≤ st i by omega)]
    unfold OutSt
    rw [if_pos rfl]
    iintro ⟨⟨Hs, Hz⟩, Hbs, HO, -⟩ Hk
    iapply Hk
    isplitl [Hs]; · iexact Hs
    isplitl [Hz]; · iexact Hz
    isplitl [Hbs]; · iexact Hbs
    iexact HO

/-- One trip: what is held before it becomes what is held before the next. -/
theorem trip (hin : InB c d i fx) (hg : ∀ j, (oW c j).view.read (Elt F) g = pay c d i fx ft hin j) (h1 : k0_cond1 i = 1#1)
    (v5 v10 v11 v41 c29 c30 c31 c32 c33 v45 : BitVec 32) (hv5 : v5 = BitVec.ofNat 32 (nb i)) (hv10 : v10 = BitVec.ofNat 32 (st i)) (hc29 : c29 = 0#32)
    (k : Fin (k0_t1_loop i).trips) (acc : BitVec 32 × BitVec 32 × BitVec 32 × BitVec 32 × BitVec 32) :
    Inv c d i fx ft f₀ g q O W k.val acc
      ⊢ wp frame (wpE (defs₀ (F := F)) 𝒱₀ (thr d i) none) Set.univ
          (k0_t1_body i c.A2 c.h2 c.A3 c.h3 c.A4 c.h4 c.B0 c.hB0 c.v12 c.B1 c.hB1 c.v13 c.r1 c.r2 v5 v10 v11 h1 v41 c29 c30 c31 c32 c33 v45 k acc)
          fun acc' => Inv c d i fx ft f₀ g q O W (k.val + 1) acc' := by
  subst hv5 hv10 hc29
  have hk : k.val < nb i := trips_eq i ▸ k.isLt
  unfold Inv
  iintro ⟨%hacc, #Hm, Hi₁, Hi₂, Hin, Hfi, Hzi, Ho₁, Ho₂, Hout, Hfr, Hzr, Hg, Ht, HO⟩
  subst hacc
  unfold k0_t1_body words
  simp only [k0_part1_eq_skeleton]; unfold k0_part1_skel
  simp only [k0_part2_eq_skeleton]; unfold k0_part2_skel
  simp only [Prog.lift, Prog.bind_op, Prog.bind_ret, Prog.pure_eq_ret, Prog.bind_assoc, SparseCore.waitIndirectGather, dif_pos (cond4 i k), dif_pos (cond7 i k), ite_self]
  rw [wp_assume_of _ _ _ _ (chk3 i k), wp_assume_of _ _ _ _ (chk2 i k), wp_assume_of _ _ _ _ (chk1 i k)]
  iapply (condIn c d i fx k.val hk (cond3 i k) _ _ _ _ _ _ (off4 i k) (off5 i k) (off6 i k)) $$ [Hi₂ Hfi Hzi]
  · isplitl [Hi₂]; · iexact Hi₂
    isplitl [Hfi]; · iexact Hfi
    iexact Hzi
  iintro ⟨Hin', Hi₂⟩
  simp only [Prog.bind_ret]
  -- block `k` is in
  ihave Hin := (Entails.of_eq (show (InSt c d i fx k.val : sProp 𝕄) = InFl c d i fx k.val (st i + k.val) from if_pos hk)) $$ Hin
  iapply (inWait c d i fx k.val (st i + k.val) O W _ _ _ _ _ _ (off7 i k) (off9 i k)) $$ [Hin HO]
  · isplitl [Hin]; · iexact Hin
    isplitl [HO]; · iexact HO
    iexact Hm
  iintro ⟨Hfull, Hb, Hzi, HO⟩
  -- its rows are gathered
  iapply (gatherWait c d i fx ft g q k.val (st i + k.val) hin (hg _) O W _ _ _ _ (off10 i k) (off11 i k)) $$ [Hfull Hfr Ht Hg HO]
  · isplitl [Hfull]; · iexact Hfull
    isplitl [Hfr]; · iexact Hfr
    isplitl [Ht]; · iexact Ht
    isplitl [Hg]; · iexact Hg
    isplitl [HO]; · iexact HO
    iexact Hm
  iintro ⟨Hfi, Hrows, Ht, Hg, HO⟩
  -- and start out
  ihave Ho₁ := (Entails.of_eq (bigSep_Ico_first (F := F) _ (show st i + k.val < st i + nb i by omega))) $$ Ho₁
  icases Ho₁ with ⟨Hob, Ho₁⟩
  iapply (outStart c d i g k.val (st i + k.val) f₀ _ _ _ _ _ _ (off12 i k) ((off13 i k).trans (by rw [Nat.mod_eq_of_lt (by have := st_nb_le i; omega)])) (off14 i k)) $$ [Hrows Hob Hzr]
  · isplitl [Hrows]; · iexact Hrows
    isplitl [Hob]; · iexact Hob
    iexact Hzr
  iintro Hfl
  -- the block before is out
  iapply (condOut c d i g O W k.val hk (cond9 i k) _ _ _ _ _ _ (off16 i k) (off17 i k)) $$ [Hout Ho₂ HO]
  · isplitl [Hout]; · iexact Hout
    isplitl [Ho₂]; · iexact Ho₂
    isplitl [HO]; · iexact HO
    iexact Hm
  iintro ⟨Hfr, Hzr, Ho₂, HO⟩
  rw [wp_ret]; imodintro
  isplitr
  · ipureintro
    exact next_words i k
  isplitr; · iexact Hm
  isplitl [Hb Hi₁]
  · iapply (Entails.of_eq (bigSep_Ico_last (F := F) (fun j => IBlk c d i fx j) (show st i ≤ st i + k.val by omega)).symm)
    isplitl [Hb]; · iexact Hb
    iexact Hi₁
  isplitl [Hi₂]; · iexact Hi₂
  isplitl [Hin']; · iexact Hin'
  isplitl [Hfi]
  · rw [iFree_congr c d i (show (k.val + 1 + 1) % 2 = k.val % 2 by omega)]
    iexact Hfi
  isplitl [Hzi]
  · rw [iZ_congr c d i (show (k.val + 1 + 1) % 2 = k.val % 2 by omega)]
    iexact Hzi
  isplitl [Ho₁]; · iexact Ho₁
  isplitl [Ho₂]; · iexact Ho₂
  isplitl [Hfl]
  · unfold OutSt
    rw [if_neg (Nat.succ_ne_zero _)]
    iexact Hfl
  isplitl [Hfr]; · iexact Hfr
  isplitl [Hzr]; · iexact Hzr
  isplitl [Hg]; · iexact Hg
  isplitl [Ht]; · iexact Ht
  iexact HO

theorem iFree_pair (n : ℕ) : (iprop(iFree (F := F) c d i n ∗ iFree (F := F) c d i (n + 1)) : sProp 𝕄) ⊢ iprop(iFree (F := F) c d i 0 ∗ iFree (F := F) c d i 1) := by
  rcases Nat.mod_two_eq_zero_or_one n with h | h
  · rw [iFree_congr c d i (show n % 2 = 0 % 2 from h), iFree_congr c d i (show (n + 1) % 2 = 1 % 2 by omega)]
  · rw [iFree_congr c d i (show n % 2 = 1 % 2 from h), iFree_congr c d i (show (n + 1) % 2 = 0 % 2 by omega)]
    exact sep_comm.1
theorem rFree_pair (n : ℕ) : (iprop(rFree (F := F) c d i n ∗ rFree (F := F) c d i (n + 1)) : sProp 𝕄) ⊢ iprop(rFree (F := F) c d i 0 ∗ rFree (F := F) c d i 1) := by
  rcases Nat.mod_two_eq_zero_or_one n with h | h
  · rw [rFree_congr c d i (show n % 2 = 0 % 2 from h), rFree_congr c d i (show (n + 1) % 2 = 1 % 2 by omega)]
  · rw [rFree_congr c d i (show n % 2 = 1 % 2 from h), rFree_congr c d i (show (n + 1) % 2 = 0 % 2 by omega)]
    exact sep_comm.1
theorem iZ_pair (n : ℕ) : (iprop(iZ (F := F) c d i n ∗ iZ (F := F) c d i (n + 1)) : sProp 𝕄) ⊢ iprop(iZ (F := F) c d i 0 ∗ iZ (F := F) c d i 1) := by
  rcases Nat.mod_two_eq_zero_or_one n with h | h
  · rw [iZ_congr c d i (show n % 2 = 0 % 2 from h), iZ_congr c d i (show (n + 1) % 2 = 1 % 2 by omega)]
  · rw [iZ_congr c d i (show n % 2 = 1 % 2 from h), iZ_congr c d i (show (n + 1) % 2 = 0 % 2 by omega)]
    exact sep_comm.1
theorem oZ_pair (n : ℕ) : (iprop(oZ (F := F) c d i n ∗ oZ (F := F) c d i (n + 1)) : sProp 𝕄) ⊢ iprop(oZ (F := F) c d i 0 ∗ oZ (F := F) c d i 1) := by
  rcases Nat.mod_two_eq_zero_or_one n with h | h
  · rw [oZ_congr c d i (show n % 2 = 0 % 2 from h), oZ_congr c d i (show (n + 1) % 2 = 1 % 2 by omega)]
  · rw [oZ_congr c d i (show n % 2 = 1 % 2 from h), oZ_congr c d i (show (n + 1) % 2 = 0 % 2 by omega)]
    exact sep_comm.1

/-- What the kernel's own storage comes to: the four slots free and the five cells at zero. -/
def Own : sProp 𝕄 :=
  iprop((iFree (F := F) c d i 0 ∗ iFree (F := F) c d i 1) ∗ (rFree (F := F) c d i 0 ∗ rFree (F := F) c d i 1)
    ∗ (iZ (F := F) c d i 0 ∗ iZ (F := F) c d i 1) ∗ (oZ (F := F) c d i 0 ∗ oZ (F := F) c d i 1) ∗ gZ (F := F) c d i)

/-- The tile's task: with its blocks of the row numbers, its blocks of the result at any contents and a share of the
    table, it leaves its blocks of the result at the gathered rows, and the rest as it was. -/
theorem tile (hin : InB c d i fx) (hg : ∀ j, (oW c j).view.read (Elt F) g = pay c d i fx ft hin j) :
    iprop(Transfers.MayWaits (thr d i) (default : HIx 5) O
        ∗ bigSep (Finset.Ico (st i) (st i + nb i)) (fun j => IBlk c d i fx j) ∗ bigSep (Finset.Ico (st i) (st i + nb i)) (fun j => OBlk c d i j f₀)
        ∗ TPts c d i ft q ∗ Own (F := F) c d i ∗ Owing (F := F) d i O W)
      ⊢ wp frame (wpE (defs₀ (F := F)) 𝒱₀ (thr d i) none) Set.univ
          (cc0_gather_kernel i c.A2 c.h2 c.A3 c.h3 c.A4 c.h4 c.B0 c.hB0 c.v12 c.B1 c.hB1 c.v13 c.r1 c.r2)
          fun _ => iprop(bigSep (Finset.Ico (st i) (st i + nb i)) (fun j => IBlk c d i fx j) ∗ bigSep (Finset.Ico (st i) (st i + nb i)) (fun j => OBlk c d i j g)
            ∗ TPts c d i ft q ∗ Own (F := F) c d i ∗ Owing (F := F) d i O W) := by
  have hst := st_nb_le i
  have hnb := nb_pos i
  unfold Own
  iintro ⟨#Hm, Hi, Ho, Ht, ⟨⟨Hi0, Hi1⟩, ⟨Hr0, Hr1⟩, ⟨Hzi0, Hzi1⟩, ⟨Hzr0, Hzr1⟩, Hg⟩, HO⟩
  simp only [cc0_gather_kernel_eq_skeleton]; unfold cc0_gather_kernel_skel
  simp only [dif_pos (cond1 i)]
  simp only [k0_part5_eq_skeleton]; unfold k0_part5_skel
  simp only [k0_part6_eq_skeleton]; unfold k0_part6_skel
  simp only [Prog.lift, Prog.bind_op, Prog.bind_ret, Prog.pure_eq_ret, Prog.bind_assoc, dif_pos (cond2 i)]
  ihave Hi := (Entails.of_eq (bigSep_Ico_first (F := F) _ (show st i < st i + nb i by omega))) $$ Hi
  icases Hi with ⟨Hb, Hi⟩
  iapply (inStart c d i fx 0 (st i) _ _ _ _ _ _ off1 ((off2 i).trans (by rw [Nat.mod_eq_of_lt (by omega)])) off3) $$ [Hb Hi0 Hzi0]
  · isplitl [Hb]; · iexact Hb
    isplitl [Hi0]; · iexact Hi0
    iexact Hzi0
  iintro Hf
  sl_for (Inv c d i fx ft f₀ g q O W) $$ [Hi Ho Ht Hi1 Hr0 Hr1 Hzi1 Hzr0 Hzr1 Hg HO Hf]
  · intro k acc
    exact trip c d i fx ft f₀ g q O W hin hg (cond1 i) _ _ _ _ _ _ _ _ _ _ (v5_eq i) (v10_eq i) rfl k acc
  · unfold Inv
    isplitr
    · ipureintro; exact first_words i
    isplitr; · iexact Hm
    isplitr [Hi Ho Ht Hi1 Hr0 Hr1 Hzi1 Hzr0 Hzr1 Hg HO Hf]
    · rw [bigSep_Ico_none _ (show st i + 0 ≤ st i by omega)]; iempintro
    isplitl [Hi]; · iexact Hi
    isplitl [Hf]
    · unfold InSt; rw [if_pos hnb]; iexact Hf
    isplitl [Hi1]; · iexact Hi1
    isplitl [Hzi1]; · iexact Hzi1
    isplitl [Ho]; · iexact Ho
    isplitr [Ht Hr0 Hr1 Hzr0 Hzr1 Hg HO]
    · rw [bigSep_Ico_none _ (show st i + 0 - 1 ≤ st i by omega)]; iempintro
    isplitl [Hr1 Hzr1]
    · unfold OutSt; rw [if_pos rfl]
      isplitl [Hr1]; · iexact Hr1
      iexact Hzr1
    isplitl [Hr0]; · iexact Hr0
    isplitl [Hzr0]; · iexact Hzr0
    isplitl [Hg]; · iexact Hg
    isplitl [Ht]; · iexact Ht
    iexact HO
  iintro %acc HI
  rw [show Scf.trips (k0_t1_loop i).lb (k0_t1_loop i).ub (k0_t1_loop i).st = nb i from trips_eq i]
  unfold tile.sl.prog.cont_1 Inv
  icases HI with ⟨%hacc, -, Hi₁, Hi₂, Hin, Hfi, Hzi, Ho₁, Ho₂, Hout, Hfr, Hzr, Hg, Ht, HO⟩
  subst hacc
  unfold words
  sl_for0 (trips2_eq i)
  unfold tile.sl.prog.cont_2
  dsimp only
  rw [wp_assume_of _ _ _ _ (chk8 i), wp_assume_of _ _ _ _ (chk7 i)]
  simp only [dif_pos (cond18 i), ite_self, dite_eq_ite]
  ihave Hin := (Entails.of_eq (show (InSt c d i fx (nb i) : sProp 𝕄) = iprop(iFree (F := F) c d i (nb i) ∗ iZ (F := F) c d i (nb i)) from if_neg (Nat.lt_irrefl _))) $$ Hin
  icases Hin with ⟨Hfi', Hzi'⟩
  ihave Hout := (Entails.of_eq (show (OutSt c d i g (nb i) : sProp 𝕄) = OutFl c d i g (nb i - 1) (st i + nb i - 1) from if_neg (by omega))) $$ Hout
  have hm : (nb i + 1) % 2 = (nb i - 1) % 2 := by omega
  iapply (outWait c d i g (nb i - 1) (st i + nb i - 1) O W _ _ _ _ _ _ ((off33 i).trans (by rw [Nat.mod_eq_of_lt (by omega)])) ((off34 i).trans (by rw [hm]))) $$ [Hout HO]
  · isplitl [Hout]; · iexact Hout
    isplitl [HO]; · iexact HO
    iexact Hm
  iintro ⟨Hb, Hfr', Hzr', HO⟩
  ihave Hfr' := (Entails.of_eq (rFree_congr (F := F) c d i hm).symm) $$ Hfr'
  ihave Hzr' := (Entails.of_eq (oZ_congr (F := F) c d i hm).symm) $$ Hzr'
  simp only [Prog.bind]
  rw [wp_ret]; imodintro
  isplitl [Hi₁]; · iexact Hi₁
  isplitl [Hb Ho₂]
  · rw [show st i + nb i = st i + nb i - 1 + 1 by omega, bigSep_Ico_last _ (show st i ≤ st i + nb i - 1 by omega), show st i + nb i - 1 + 1 - 1 = st i + nb i - 1 by omega]
    isplitl [Hb]; · iexact Hb
    iexact Ho₂
  isplitl [Ht]; · iexact Ht
  isplitr [HO]
  rotate_left
  · iexact HO
  isplitl [Hfi Hfi']
  · iapply (iFree_pair c d i (nb i))
    isplitl [Hfi']; · iexact Hfi'
    iexact Hfi
  isplitl [Hfr Hfr']
  · iapply (rFree_pair c d i (nb i))
    isplitl [Hfr]; · iexact Hfr
    iexact Hfr'
  isplitl [Hzi Hzi']
  · iapply (iZ_pair c d i (nb i))
    isplitl [Hzi']; · iexact Hzi'
    iexact Hzi
  isplitl [Hzr Hzr']
  · iapply (oZ_pair c d i (nb i))
    isplitl [Hzr]; · iexact Hzr
    iexact Hzr'
  iexact Hg

end
end Cert.Proof.Gather
-- ==== Proof.Gather.Deal.lean ====
/-
  How a call's arrays are dealt to its thirty-two tiles and joined again: the 250 blocks of 128 row numbers and of 128
  rows, each tile its run of them; the table, each tile a share of it; and a tile's double buffers, slot by slot.
-/
module

public import proofs.«01_k».proof.Proof.Gather.Tile
public import Idealize.ShloMosaic.Lib.ShareLeaves

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

local notation "𝕄" => MT nD τ sig (HIx 5) (Elt F) ℕ UU ℕ

theorem eq_of_entails {P Q : sProp 𝕄} (h : P ⊢ Q) (h' : Q ⊢ P) : P = Q := BI.Entails.antisymm h h'

/-- The tile on SparseCore `a`, subcore `s`. -/
def coords (a : Fin 2) (s : Fin 16) : grid0.Coords :=
  fun | 0 => a | 1 => s | ⟨_ + 2, h⟩ => absurd h (Nat.not_lt.2 (Nat.le_add_left _ _))

/-- The blocks a tile takes. -/
abbrev blks (i : grid0.Coords) : Finset ℕ := Finset.Ico (st i) (st i + nb i)

theorem blks_disjoint : ∀ p p' : Fin 2 × Fin 16, p ≠ p' → st (coords p.1 p.2) + nb (coords p.1 p.2) ≤ st (coords p'.1 p'.2) ∨
    st (coords p'.1 p'.2) + nb (coords p'.1 p'.2) ≤ st (coords p.1 p.2) := by decide +kernel

theorem blks_cover : ∀ j : Fin 250, ∃ p : Fin 2 × Fin 16, st (coords p.1 p.2) ≤ j.val ∧ j.val < st (coords p.1 p.2) + nb (coords p.1 p.2) := by decide +kernel

/-- The 250 blocks are the tiles' runs of them. -/
theorem bigSep_blks (Φ : ℕ → sProp 𝕄) :
    bigSep (Finset.range 250) Φ = bigSep Finset.univ fun a : Fin 2 => bigSep Finset.univ fun s : Fin 16 => bigSep (blks (coords a s)) Φ := by
  have hu : Finset.range 250 = (Finset.univ : Finset (Fin 2)).biUnion fun a => (Finset.univ : Finset (Fin 16)).biUnion fun s => blks (coords a s) := by
    ext j
    simp only [Finset.mem_range, Finset.mem_biUnion, Finset.mem_univ, true_and, Finset.mem_Ico]
    constructor
    · intro hj
      obtain ⟨p, h⟩ := blks_cover ⟨j, hj⟩
      exact ⟨p.1, p.2, h⟩
    · rintro ⟨a, s, h1, h2⟩
      exact lt_of_lt_of_le h2 (st_nb_le _)
  have hd : ∀ p p' : Fin 2 × Fin 16, p ≠ p' → Disjoint (blks (coords p.1 p.2)) (blks (coords p'.1 p'.2)) := by
    intro p p' h
    rw [Finset.disjoint_left]
    intro j hj hj'
    rw [Finset.mem_Ico] at hj hj'
    rcases blks_disjoint p p' h with h | h <;> omega
  rw [hu, SparseCore.Cfg.bigSep_biUnion_eq]
  · refine bigSep_congr fun a _ => ?_
    refine SparseCore.Cfg.bigSep_biUnion_eq _ _ _ ?_
    intro s _ s' _ h
    exact hd (a, s) (a, s') fun e => h (Prod.mk.inj e).2
  · intro a _ a' _ h
    rw [Finset.disjoint_biUnion_left]
    intro s _
    rw [Finset.disjoint_biUnion_right]
    intro s' _
    exact hd (a, s) (a', s') fun e => h (Prod.mk.inj e).1

/-! ## The blocks of a chunk -/

def xB (j : ℕ) : Finset S1x32000.Idx := (Rect.unit (s := S1x32000) ![0, 128 * (j % 250)] S1x128.size (inbX j)).set
def oB (j : ℕ) : Finset S32000x128.Idx := (Rect.unit (s := S32000x128) ![128 * (j % 250), 0] S128x128.size (inbO j)).set

theorem xB_disjoint : ∀ j ∈ Finset.range 250, ∀ j' ∈ Finset.range 250, j ≠ j' → Disjoint (xB j) (xB j') := by
  intro j hj j' hj' h
  rw [Finset.mem_range] at hj hj'
  refine Rect.unit_disjoint (1 : Fin 2) ?_
  show 128 * (j % 250) + 128 ≤ 128 * (j' % 250) ∨ 128 * (j' % 250) + 128 ≤ 128 * (j % 250)
  rw [Nat.mod_eq_of_lt hj, Nat.mod_eq_of_lt hj']; omega
theorem oB_disjoint : ∀ j ∈ Finset.range 250, ∀ j' ∈ Finset.range 250, j ≠ j' → Disjoint (oB j) (oB j') := by
  intro j hj j' hj' h
  rw [Finset.mem_range] at hj hj'
  refine Rect.unit_disjoint (0 : Fin 2) ?_
  show 128 * (j % 250) + 128 ≤ 128 * (j' % 250) ∨ 128 * (j' % 250) + 128 ≤ 128 * (j % 250)
  rw [Nat.mod_eq_of_lt hj, Nat.mod_eq_of_lt hj']; omega

theorem xB_cover : (Finset.range 250).biUnion xB = Finset.univ := by
  ext x
  simp only [Finset.mem_biUnion, Finset.mem_range, Finset.mem_univ, iff_true]
  have h0 : (x 0).val < 1 := (x 0).isLt
  have h1 : (x 1).val < 32000 := (x 1).isLt
  have hlt : (x 1).val / 128 < 250 := by omega
  refine ⟨(x 1).val / 128, hlt, Rect.mem_set_unit.mpr ?_⟩
  intro a
  match a with
  | 0 => show 0 ≤ (x 0).val ∧ (x 0).val < 0 + 1; omega
  | 1 =>
    show 128 * ((x 1).val / 128 % 250) ≤ (x 1).val ∧ (x 1).val < 128 * ((x 1).val / 128 % 250) + 128
    rw [Nat.mod_eq_of_lt hlt]; omega
theorem oB_cover : (Finset.range 250).biUnion oB = Finset.univ := by
  ext x
  simp only [Finset.mem_biUnion, Finset.mem_range, Finset.mem_univ, iff_true]
  have h0 : (x 0).val < 32000 := (x 0).isLt
  have h1 : (x 1).val < 128 := (x 1).isLt
  have hlt : (x 0).val / 128 < 250 := by omega
  refine ⟨(x 0).val / 128, hlt, Rect.mem_set_unit.mpr ?_⟩
  intro a
  match a with
  | 0 =>
    show 128 * ((x 0).val / 128 % 250) ≤ (x 0).val ∧ (x 0).val < 128 * ((x 0).val / 128 % 250) + 128
    rw [Nat.mod_eq_of_lt hlt]; omega
  | 1 => show 0 ≤ (x 1).val ∧ (x 1).val < 0 + 128; omega

/-- An array in 250 blocks is its tiles' blocks. -/
theorem deal {ℓ : Loc nD τ sig} (B : ℕ → Finset (Idx ℓ)) (hd : ∀ j ∈ Finset.range 250, ∀ j' ∈ Finset.range 250, j ≠ j' → Disjoint (B j) (B j'))
    (hc : (Finset.range 250).biUnion B = Finset.univ) (f : Buf (Elt F) ℓ) :
    (ℓ ↦{fullShare} f : sProp 𝕄) = bigSep Finset.univ fun a : Fin 2 => bigSep Finset.univ fun s : Fin 16 => bigSep (blks (coords a s)) fun j => ℓ ↦[B j]{fullShare} f := by
  rw [← bigSep_blks (F := F) (fun j => ℓ ↦[B j]{fullShare} f), ← pointsTo_biUnion (Finset.range 250) B hd, hc]

/-- A tile's share of the table. -/
def tq (a : Fin 2) (s : Fin 16) : PosShare TreeShare := leaf 4 (leaf 1 fullShare a) s

/-- The table whole is its tiles' shares. -/
theorem deal_share {ℓ : Loc nD τ sig} (f : Buf (Elt F) ℓ) :
    (ℓ ↦{fullShare} f : sProp 𝕄) = bigSep Finset.univ fun a : Fin 2 => bigSep Finset.univ fun s : Fin 16 => ℓ ↦{tq a s} f := by
  rw [pointsTo_leaves Finset.univ f 1 fullShare]
  refine bigSep_congr fun a _ => ?_
  exact pointsTo_leaves Finset.univ f 4 (leaf 1 fullShare a)

/-! ## A double buffer is its two slots -/

section
variable (c : Ops) (d : Dev nD) (i : grid0.Coords)

theorem slots_I : (iprop(∃ f, c.B0.view.loc (thr d i) ↦[c.B0.view.set]{fullShare} f) : sProp 𝕄) = iprop(iFree (F := F) c d i 0 ∗ iFree (F := F) c d i 1) := by
  have e : ∀ s, (iS c s).view.set = (Rect.unit (s := S2x1x128) ![s % 2, 0, 0] S1x1x128.size (inbI s)).set.map c.B0.view.emb := by
    intro s
    exact (View.set_reshape _ _).trans (View.set_slice _ _)
  have hd : Disjoint (iS c 0).view.set (iS c 1).view.set := by
    rw [e, e, Finset.disjoint_map]
    exact Rect.unit_disjoint (0 : Fin 3) (Or.inl (show 0 + 1 ≤ 1 by omega))
  have hu : c.B0.view.set = (iS c 0).view.set ∪ (iS c 1).view.set := by
    rw [e, e, ← Finset.map_union]
    refine congrArg (Finset.map c.B0.view.emb) ?_
    ext x
    simp only [Finset.mem_univ, Finset.mem_union, true_iff]
    have h0 : (x 0).val < 2 := (x 0).isLt
    rcases Nat.lt_or_ge (x 0).val 1 with h | h
    · left; rw [Rect.mem_set_unit]; intro a
      match a with
      | 0 => show 0 ≤ (x 0).val ∧ (x 0).val < 0 + 1; omega
      | 1 => have h1 : (x 1).val < 1 := (x 1).isLt; show 0 ≤ (x 1).val ∧ (x 1).val < 0 + 1; omega
      | 2 => have h1 : (x 2).val < 128 := (x 2).isLt; show 0 ≤ (x 2).val ∧ (x 2).val < 0 + 128; omega
    · right; rw [Rect.mem_set_unit]; intro a
      match a with
      | 0 => show 1 ≤ (x 0).val ∧ (x 0).val < 1 + 1; omega
      | 1 => have h1 : (x 1).val < 1 := (x 1).isLt; show 0 ≤ (x 1).val ∧ (x 1).val < 0 + 1; omega
      | 2 => have h1 : (x 2).val < 128 := (x 2).isLt; show 0 ≤ (x 2).val ∧ (x 2).val < 0 + 128; omega
  unfold iFree
  refine eq_of_entails ?_ ?_
  · iintro ⟨%f, H⟩
    ihave H' := (Entails.of_eq (show (c.B0.view.loc (thr d i) ↦[c.B0.view.set]{fullShare} f : sProp 𝕄)
      = (c.B0.view.loc (thr d i) ↦[(iS c 0).view.set ∪ (iS c 1).view.set]{fullShare} f) by rw [hu])) $$ H
    ihave H'' := (pointsTo_union hd).1 $$ H'
    icases H'' with ⟨H0, H1⟩
    isplitl [H0]
    · iexists f; iexact H0
    · iexists f; iexact H1
  · iintro ⟨⟨%f, H0⟩, ⟨%g, H1⟩⟩
    ihave H := (pointsTo_join (f := f) (g := g) hd) $$ [H0 H1]
    · isplitl [H0]; · iexact H0
      iexact H1
    rw [hu]
    iexists _; iexact H

theorem slots_R : (iprop(∃ f, c.B1.view.loc (thr d i) ↦[c.B1.view.set]{fullShare} f) : sProp 𝕄) = iprop(rFree (F := F) c d i 0 ∗ rFree (F := F) c d i 1) := by
  have e : ∀ s, (rS c s).view.set = (Rect.unit (s := S2x128x128) ![s % 2, 0, 0] S1x128x128.size (inbR s)).set.map c.B1.view.emb := by
    intro s
    exact (View.set_reshape _ _).trans (View.set_slice _ _)
  have hd : Disjoint (rS c 0).view.set (rS c 1).view.set := by
    rw [e, e, Finset.disjoint_map]
    exact Rect.unit_disjoint (0 : Fin 3) (Or.inl (show 0 + 1 ≤ 1 by omega))
  have hu : c.B1.view.set = (rS c 0).view.set ∪ (rS c 1).view.set := by
    rw [e, e, ← Finset.map_union]
    refine congrArg (Finset.map c.B1.view.emb) ?_
    ext x
    simp only [Finset.mem_univ, Finset.mem_union, true_iff]
    have h0 : (x 0).val < 2 := (x 0).isLt
    rcases Nat.lt_or_ge (x 0).val 1 with h | h
    · left; rw [Rect.mem_set_unit]; intro a
      match a with
      | 0 => show 0 ≤ (x 0).val ∧ (x 0).val < 0 + 1; omega
      | 1 => have h1 : (x 1).val < 128 := (x 1).isLt; show 0 ≤ (x 1).val ∧ (x 1).val < 0 + 128; omega
      | 2 => have h1 : (x 2).val < 128 := (x 2).isLt; show 0 ≤ (x 2).val ∧ (x 2).val < 0 + 128; omega
    · right; rw [Rect.mem_set_unit]; intro a
      match a with
      | 0 => show 1 ≤ (x 0).val ∧ (x 0).val < 1 + 1; omega
      | 1 => have h1 : (x 1).val < 128 := (x 1).isLt; show 0 ≤ (x 1).val ∧ (x 1).val < 0 + 128; omega
      | 2 => have h1 : (x 2).val < 128 := (x 2).isLt; show 0 ≤ (x 2).val ∧ (x 2).val < 0 + 128; omega
  unfold rFree
  refine eq_of_entails ?_ ?_
  · iintro ⟨%f, H⟩
    ihave H' := (Entails.of_eq (show (c.B1.view.loc (thr d i) ↦[c.B1.view.set]{fullShare} f : sProp 𝕄)
      = (c.B1.view.loc (thr d i) ↦[(rS c 0).view.set ∪ (rS c 1).view.set]{fullShare} f) by rw [hu])) $$ H
    ihave H'' := (pointsTo_union hd).1 $$ H'
    icases H'' with ⟨H0, H1⟩
    isplitl [H0]
    · iexists f; iexact H0
    · iexists f; iexact H1
  · iintro ⟨⟨%f, H0⟩, ⟨%g, H1⟩⟩
    ihave H := (pointsTo_join (f := f) (g := g) hd) $$ [H0 H1]
    · isplitl [H0]; · iexact H0
      iexact H1
    rw [hu]
    iexists _; iexact H

/-! ## A tile's own buffers and counters -/

/-- Two of the tile's own buffers, and the rest. -/
theorem ownBufs_two (b0 b1 : Ref sig .scVector) (h : b1 ≠ b0) (h0 : ((thr d i).2.devRef b0).owner = .proc (thr d i).2) (h1 : ((thr d i).2.devRef b1).owner = .proc (thr d i).2) :
    (SparseCore.Cfg.ownBufs (thr d i) : sProp 𝕄)
      = iprop((∃ f, (thr d i).loc b0 ↦{fullShare} f) ∗ (∃ f, (thr d i).loc b1 ↦{fullShare} f)
          ∗ bigSep (((SparseCore.Cfg.ownRefs (τ := τ) (thr d i).2).erase ((thr d i).2.devRef b0)).erase ((thr d i).2.devRef b1))
              fun b => iprop(∃ f, ((d, b) : Loc nD τ sig) ↦{fullShare} f)) := by
  unfold SparseCore.Cfg.ownBufs
  refine (SparseCore.bigSep_erase' (SparseCore.Cfg.mem_ownRefs_of_owner (p := (thr d i).2) (b := (thr d i).2.devRef b0) h0)).trans ?_
  rw [SparseCore.bigSep_erase' (Finset.mem_erase.mpr ⟨fun e => absurd (Proc.devRef_injective _ e) h,
    SparseCore.Cfg.mem_ownRefs_of_owner (p := (thr d i).2) (b := (thr d i).2.devRef b1) h1⟩)]

/-- Five of the tile's own counters at zero, and the rest. -/
theorem ownSems0_five (s : Fin 5 → SemLoc sig) (hs : Function.Injective s) (hc : ∀ k, (s k).isScoped .scVector = true) :
    ∃ R : sProp 𝕄, (SparseCore.Cfg.ownSems0 (thr d i) : sProp 𝕄)
      = iprop((semVal (thr d i, s 0) 0 ∗ semVal (thr d i, s 1) 0 ∗ semVal (thr d i, s 2) 0 ∗ semVal (thr d i, s 3) 0 ∗ semVal (thr d i, s 4) 0) ∗ R) := by
  have hm : ∀ k, ((thr d i, s k) : GSem nD τ sig) ∈ SparseCore.Cfg.ownCells (thr d i) := fun k => SparseCore.Cfg.mem_ownCells.mpr ⟨rfl, hc k⟩
  have hne : ∀ k l, k ≠ l → ((thr d i, s k) : GSem nD τ sig) ≠ (thr d i, s l) := fun k l h e => h (hs (Prod.mk.inj e).2)
  refine ⟨bigSep ((((((SparseCore.Cfg.ownCells (thr d i)).erase (thr d i, s 0)).erase (thr d i, s 1)).erase (thr d i, s 2)).erase (thr d i, s 3)).erase (thr d i, s 4))
    fun g => semVal g 0, ?_⟩
  unfold SparseCore.Cfg.ownSems0
  rw [SparseCore.bigSep_erase' (hm 0),
    SparseCore.bigSep_erase' (Finset.mem_erase.mpr ⟨hne 1 0 (by decide), hm 1⟩),
    SparseCore.bigSep_erase' (Finset.mem_erase.mpr ⟨hne 2 1 (by decide), Finset.mem_erase.mpr ⟨hne 2 0 (by decide), hm 2⟩⟩),
    SparseCore.bigSep_erase' (Finset.mem_erase.mpr ⟨hne 3 2 (by decide), Finset.mem_erase.mpr ⟨hne 3 1 (by decide), Finset.mem_erase.mpr ⟨hne 3 0 (by decide), hm 3⟩⟩⟩),
    SparseCore.bigSep_erase' (Finset.mem_erase.mpr ⟨hne 4 3 (by decide), Finset.mem_erase.mpr ⟨hne 4 2 (by decide), Finset.mem_erase.mpr ⟨hne 4 1 (by decide),
      Finset.mem_erase.mpr ⟨hne 4 0 (by decide), hm 4⟩⟩⟩⟩)]
  refine eq_of_entails ?_ ?_
  · iintro ⟨H0, H1, H2, H3, H4, H⟩
    isplitr [H]
    rotate_left
    · iexact H
    isplitl [H0]; · iexact H0
    isplitl [H1]; · iexact H1
    isplitl [H2]; · iexact H2
    isplitl [H3]; · iexact H3
    iexact H4
  · iintro ⟨⟨H0, H1, H2, H3, H4⟩, H⟩
    isplitl [H0]; · iexact H0
    isplitl [H1]; · iexact H1
    isplitl [H2]; · iexact H2
    isplitl [H3]; · iexact H3
    isplitl [H4]; · iexact H4
    iexact H

/-- A tile's own buffers and counters hold what its task asks of them. -/
theorem own_split (b0 b1 : Ref sig .scVector) (h : b1 ≠ b0) (h0 : ((thr d i).2.devRef b0).owner = .proc (thr d i).2) (h1 : ((thr d i).2.devRef b1).owner = .proc (thr d i).2)
    (e0 : (iprop(∃ f, c.B0.view.loc (thr d i) ↦[c.B0.view.set]{fullShare} f) : sProp 𝕄) = iprop(∃ f, (thr d i).loc b0 ↦{fullShare} f))
    (e1 : (iprop(∃ f, c.B1.view.loc (thr d i) ↦[c.B1.view.set]{fullShare} f) : sProp 𝕄) = iprop(∃ f, (thr d i).loc b1 ↦{fullShare} f))
    (hs : Function.Injective (![.dma (iM c 0), .dma (iM c 1), .dma (oM c 0), .dma (oM c 1), .dma c.r1.sem] : Fin 5 → SemLoc sig))
    (hc : ∀ k, ((![.dma (iM c 0), .dma (iM c 1), .dma (oM c 0), .dma (oM c 1), .dma c.r1.sem] : Fin 5 → SemLoc sig) k).isScoped .scVector = true) :
    ∃ R : sProp 𝕄, (iprop(SparseCore.Cfg.ownBufs (thr d i) ∗ SparseCore.Cfg.ownSems0 (thr d i)) : sProp 𝕄) = iprop(Own (F := F) c d i ∗ R) := by
  obtain ⟨R, hR⟩ := ownSems0_five (F := F) d i _ hs hc
  refine ⟨iprop((bigSep (((SparseCore.Cfg.ownRefs (τ := τ) (thr d i).2).erase ((thr d i).2.devRef b0)).erase ((thr d i).2.devRef b1))
              fun b => iprop(∃ f, ((d, b) : Loc nD τ sig) ↦{fullShare} f)) ∗ R), ?_⟩
  rw [hR, ownBufs_two d i b0 b1 h h0 h1, ← e0, ← e1, slots_I, slots_R]
  unfold Own
  refine eq_of_entails ?_ ?_
  · iintro ⟨⟨HI, HR, Hb⟩, ⟨H0, H1, H2, H3, H4⟩, H⟩
    isplitr [Hb H]
    rotate_left
    · isplitl [Hb]; · iexact Hb
      iexact H
    isplitl [HI]; · iexact HI
    isplitl [HR]; · iexact HR
    isplitl [H0 H1]
    · isplitl [H0]; · iexact H0
      iexact H1
    isplitl [H2 H3]
    · isplitl [H2]; · iexact H2
      iexact H3
    iexact H4
  · iintro ⟨⟨HI, HR, ⟨H0, H1⟩, ⟨H2, H3⟩, H4⟩, Hb, H⟩
    isplitl [HI HR Hb]
    · isplitl [HI]; · iexact HI
      isplitl [HR]; · iexact HR
      iexact Hb
    isplitr [H]
    rotate_left
    · iexact H
    isplitl [H0]; · iexact H0
    isplitl [H1]; · iexact H1
    isplitl [H2]; · iexact H2
    isplitl [H3]; · iexact H3
    iexact H4

end
end Cert.Proof.Gather
-- ==== Proof.Gather.Rows.lean ====
/-
  What one call leaves: at each of the chunk's rows, the table's row that the chunk's row number names; and that the block
  each gather delivers is that block of it.
-/
module

public import proofs.«01_k».proof.Proof.Gather.Deal
public import Idealize.ShloMosaic.Lib.ValueIdxCore

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

abbrev xIx (k : Fin 32000) : S1x32000.Idx := ix2 (n0 := 1) (n1 := 32000) 0 k
abbrev tIx (r : Fin 10000) (l : Fin 128) : S10000x128.Idx := ix2 (n0 := 10000) (n1 := 128) r l

/-- The rows of the table `t` that the row numbers `x` name. -/
def rowsOf (t : S10000x128.Idx → Elt F .i32) (x : S1x32000.Idx → Elt F .i32) : S32000x128.Idx → Elt F .i32 :=
  fun y => t (tIx ⟨(x (xIx (y 0))).toNat % 10000, Nat.mod_lt _ (by decide)⟩ (y 1))

section
variable (c : Ops) (d : Dev nD) (i : grid0.Coords)
variable (fx : Buf (Elt F) (c.A3.view.loc (thr d i))) (ft : Buf (Elt F) (c.A2.view.loc (thr d i)))
  (g : Buf (Elt F) (c.A4.view.loc (thr d i)))
variable (t : S10000x128.Idx → Elt F .i32) (x : S1x32000.Idx → Elt F .i32)

theorem inB_of (hx : ∀ j y, (xW c j).view.read (Elt F) fx y = x ((Rect.unit (s := S1x32000) ![0, 128 * (j % 250)] S1x128.size (inbX j)).emb y))
    (hr : ∀ y, (x y).toNat < 10000) : InB c d i fx := by
  intro j y
  unfold lst
  rw [hx]
  exact hr _

theorem pay_of (hx : ∀ j y, (xW c j).view.read (Elt F) fx y = x ((Rect.unit (s := S1x32000) ![0, 128 * (j % 250)] S1x128.size (inbX j)).emb y))
    (hr : ∀ y, (x y).toNat < 10000)
    (ht : ∀ y, (tW c).view.read (Elt F) ft y = t ((Rect.unit (s := S10000x128) ![0, 0] S10000x128.size inb_S10000x128_S10000x128_0_0).emb y))
    (hg : ∀ j y, (oW c j).view.read (Elt F) g y = rowsOf t x ((Rect.unit (s := S32000x128) ![128 * (j % 250), 0] S128x128.size (inbO j)).emb y))
    (hin : InB c d i fx) (j : ℕ) : (oW c j).view.read (Elt F) g = pay c d i fx ft hin j := by
  funext y
  rw [hg]
  unfold pay SparseCore.gatherPayload rowsOf
  rw [ht]
  congr 1
  funext a
  match a with
  | 0 =>
    refine Fin.ext ?_
    rw [Rect.emb_apply]
    show (x _).toNat % 10000 = 0 + 1 * (gathers_S10000x128_S128x128.idx (SparseCore.rows (lst c d i fx j) rfl (hin j)) y (0 : Fin 2)).val
    rw [show gathers_S10000x128_S128x128.idx (SparseCore.rows (lst c d i fx j) rfl (hin j)) y (0 : Fin 2)
      = SparseCore.rows (lst c d i fx j) rfl (hin j) (y 0) from Shape.Gathers.idx_axis _ _ _]
    show _ = 0 + 1 * ((lst c d i fx j) (S128.rowMajor.symm ((y 0).cast _))).toNat
    unfold lst
    rw [hx, Nat.mod_eq_of_lt (hr _), Nat.zero_add, Nat.one_mul]
    congr 2
    funext b
    have hk : ∀ k : Fin S128.numel, ((S128.rowMajor.symm k) 0).val = k.val := by
      intro k
      have := Shape.rowMajor_val_one (d := ![128]) (S128.rowMajor.symm k)
      rw [← this]
      exact congrArg Fin.val (Equiv.apply_symm_apply _ _)
    have hl : ∀ z : S128.Idx, ((lidx z) 1).val = (z 0).val := by
      intro z
      unfold lidx
      rw [Rect.emb_apply]
      show 0 + 1 * _ = _
      have e : Shape.reshapeEquiv (s' := S128) squeezes_S1x128_S128.numel_eq z = ix2 (n0 := 1) (n1 := 128) 0 (z 0) := by
        refine Shape.reshapeEquiv_eq_of_rowMajor _ ?_
        rw [Shape.rowMajor_val_two, Shape.rowMajor_val_one]
        show 0 * 128 + _ = _
        rw [Nat.zero_mul, Nat.zero_add]
      rw [e, Nat.zero_add, Nat.one_mul]
    match b with
    | 0 =>
      refine Fin.ext ?_
      rw [Rect.emb_apply]
      have h0 : ∀ z : S1x128.Idx, (z 0).val = 0 := fun z => Nat.lt_one_iff.mp (z 0).isLt
      show 0 = 0 + 1 * ((lidx _) 0).val
      rw [h0]
    | 1 =>
      refine Fin.ext ?_
      rw [Rect.emb_apply]
      show 128 * (j % 250) + 1 * (y 0).val = 128 * (j % 250) + 1 * ((lidx _) 1).val
      rw [hl, hk]; rfl
  | 1 =>
    refine Fin.ext ?_
    rw [Rect.emb_apply]
    show 0 + 1 * (y 1).val = 0 + 1 * (gathers_S10000x128_S128x128.idx (SparseCore.rows (lst c d i fx j) rfl (hin j)) y (1 : Fin 2)).val
    rw [Shape.Gathers.idx_of_ne _ _ _ _ (show ((1 : Fin 2)).val ≠ 0 by decide)]
    rfl

end
end Cert.Proof.Gather
-- ==== Proof.Gather.Task.lean ====
/-
  What the five calls carry to their tiles and back, and each call's task from it: the tile's pipeline of `Tile`, its
  buffers and counters taken from the tile's own.
-/
module

public import proofs.«01_k».proof.Proof.Gather.Rows

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

/-! ## The program as the launch theorem sees it -/

abbrev ΛP : Labels := Pipeline.Sig Λ₀ (Fin 0) fun p => (pcfgs (F := F) p).Adm
abbrev K : SparseCore.Cfg τ sig (ΛP (F := F)) 5 := sc (F := F)
abbrev D [FloatOps F] : Defs nD τ sig (Elt F) (ΛP (F := F)) := Pipeline.defs pcfgs defs₀
abbrev 𝒱 : Variants := 𝒱₀.lift
abbrev v₀ : 𝒱.V := Sum.inl none

theorem nCore_eq (q : Fin 5) : (K (F := F)).nCore q = 2 := match q with | 0 => rfl | 1 => rfl | 2 => rfl | 3 => rfl | 4 => rfl
theorem nSub_eq (q : Fin 5) : (K (F := F)).nSub q = 16 := match q with | 0 => rfl | 1 => rfl | 2 => rfl | 3 => rfl | 4 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MT nD τ sig (HIx 5) (Elt F) ℕ UU ℕ) := embL

/-! ## The calls -/

def call0 : Ops := ⟨Memref.whole main_arg0_scv, Memref.isWhole_whole _, Memref.whole main_v1_scv, Memref.isWhole_whole _, Memref.whole main_v2_scv, Memref.isWhole_whole _,
  Memref.whole cc0_scoped0, Memref.isWhole_whole _, cc0_scoped1, Memref.whole cc0_scoped2, Memref.isWhole_whole _, cc0_scoped3, cc0_scoped4, cc0_scoped5⟩
def call1 : Ops := ⟨Memref.whole main_arg0_scv, Memref.isWhole_whole _, Memref.whole main_v3_scv, Memref.isWhole_whole _, Memref.whole main_v4_scv, Memref.isWhole_whole _,
  Memref.whole cc1_scoped0, Memref.isWhole_whole _, cc1_scoped1, Memref.whole cc1_scoped2, Memref.isWhole_whole _, cc1_scoped3, cc1_scoped4, cc1_scoped5⟩
def call2 : Ops := ⟨Memref.whole main_arg0_scv, Memref.isWhole_whole _, Memref.whole main_v5_scv, Memref.isWhole_whole _, Memref.whole main_v6_scv, Memref.isWhole_whole _,
  Memref.whole cc2_scoped0, Memref.isWhole_whole _, cc2_scoped1, Memref.whole cc2_scoped2, Memref.isWhole_whole _, cc2_scoped3, cc2_scoped4, cc2_scoped5⟩
def call3 : Ops := ⟨Memref.whole main_arg0_scv, Memref.isWhole_whole _, Memref.whole main_v7_scv, Memref.isWhole_whole _, Memref.whole main_v8_scv, Memref.isWhole_whole _,
  Memref.whole cc3_scoped0, Memref.isWhole_whole _, cc3_scoped1, Memref.whole cc3_scoped2, Memref.isWhole_whole _, cc3_scoped3, cc3_scoped4, cc3_scoped5⟩
def call4 : Ops := ⟨Memref.whole main_arg0_scv, Memref.isWhole_whole _, Memref.whole main_v9_scv, Memref.isWhole_whole _, Memref.whole main_v10_scv, Memref.isWhole_whole _,
  Memref.whole cc4_scoped0, Memref.isWhole_whole _, cc4_scoped1, Memref.whole cc4_scoped2, Memref.isWhole_whole _, cc4_scoped3, cc4_scoped4, cc4_scoped5⟩

/-! ## What a tile is handed -/

/-- Its blocks of the row numbers, its blocks of the result at `f`, its share of the table. -/
def Go (c : Ops) (d : Dev nD) (a : Fin 2) (s : Fin 16) (fx : Buf (Elt F) (c.A3.view.loc (thr d (coords a s)))) (ft : Buf (Elt F) (c.A2.view.loc (thr d (coords a s))))
    (f : Buf (Elt F) (c.A4.view.loc (thr d (coords a s)))) : sProp 𝕄 :=
  iprop(bigSep (blks (coords a s)) (fun j => IBlk c d (coords a s) fx j) ∗ bigSep (blks (coords a s)) (fun j => OBlk c d (coords a s) j f) ∗ TPts c d (coords a s) ft (tq a s))

instance Go_storable (c : Ops) (d : Dev nD) (a : Fin 2) (s : Fin 16) (fx : Buf (Elt F) (c.A3.view.loc (thr d (coords a s)))) (ft : Buf (Elt F) (c.A2.view.loc (thr d (coords a s))))
    (f : Buf (Elt F) (c.A4.view.loc (thr d (coords a s)))) : BI.Storable (upEmb : UEmb _ 𝕄) (Go c d a s fx ft f) := by
  unfold Go; infer_instance

variable (m : (ℓ : Loc nD τ sig) → Buf (Elt F) ℓ)

/-- The table, the row numbers in one row, and a chunk of them. -/
def tbl (d : Dev nD) : S10000x128.Idx → Elt F .i32 := m ((SparseCore.T d).loc main_arg0)
def nums (d : Dev nD) : S1x163840.Idx → Elt F .i32 := shapeCast S1x163840 (m ((SparseCore.T d).loc main_arg1) : S10240x16.Idx → Elt F .i32) shapeCasts_S10240x16_S1x163840
theorem chunk_slices : ∀ q : Fin 5, S1x163840.Slices ![0, 32000 * q.val] S1x32000 := by decide
def chunk (d : Dev nD) (q : Fin 5) : S1x32000.Idx → Elt F .i32 := extractStridedSlice S1x32000 ![0, 32000 * q.val] (nums m d) (chunk_slices q)
/-- What call `q` leaves. -/
def out (d : Dev nD) (q : Fin 5) : S32000x128.Idx → Elt F .i32 := rowsOf (tbl m d) (chunk m d q)
/-- What its result's array held at the start. -/
def o₀ (d : Dev nD) (q : Fin 5) : S32000x128.Idx → Elt F .i32 :=
  match q with
  | 0 => m ((SparseCore.T d).loc main_v2) | 1 => m ((SparseCore.T d).loc main_v4) | 2 => m ((SparseCore.T d).loc main_v6) | 3 => m ((SparseCore.T d).loc main_v8) | 4 => m ((SparseCore.T d).loc main_v10)

/-- What call `q` hands the tile and takes back, its result's blocks at `f`. -/
def Gq (d : Dev nD) (q : Fin 5) (a : Fin 2) (s : Fin 16) (f : S32000x128.Idx → Elt F .i32) : sProp 𝕄 :=
  match q with
  | 0 => Go call0 d a s (chunk m d 0) (tbl m d) f
  | 1 => Go call1 d a s (chunk m d 1) (tbl m d) f
  | 2 => Go call2 d a s (chunk m d 2) (tbl m d) f
  | 3 => Go call3 d a s (chunk m d 3) (tbl m d) f
  | 4 => Go call4 d a s (chunk m d 4) (tbl m d) f

instance Gq_storable (d : Dev nD) (q : Fin 5) (a : Fin 2) (s : Fin 16) (f : S32000x128.Idx → Elt F .i32) : BI.Storable (upEmb : UEmb _ 𝕄) (Gq m d q a s f) :=
  match q with
  | 0 => Go_storable call0 d a s (chunk m d 0) (tbl m d) f
  | 1 => Go_storable call1 d a s (chunk m d 1) (tbl m d) f
  | 2 => Go_storable call2 d a s (chunk m d 2) (tbl m d) f
  | 3 => Go_storable call3 d a s (chunk m d 3) (tbl m d) f
  | 4 => Go_storable call4 d a s (chunk m d 4) (tbl m d) f

/-- What the handshakes carry. -/
def P : (K (F := F)).Pay (nD := nD) (Val := Elt F) (Name := ℕ) (U := UU) where
  st := fun q d a => bigSep Finset.univ fun s : Fin 16 => Gq m d q (Fin.cast (nCore_eq q) a) s (o₀ m d q)
  dn := fun q d a => bigSep Finset.univ fun s : Fin 16 => Gq m d q (Fin.cast (nCore_eq q) a) s (out m d q)
  go := fun q d a s => Gq m d q (Fin.cast (nCore_eq q) a) (Fin.cast (nSub_eq q) s) (o₀ m d q)
  td := fun q d a s => Gq m d q (Fin.cast (nCore_eq q) a) (Fin.cast (nSub_eq q) s) (out m d q)
  x := fun _ _ => iprop(emp)

instance P_storable : (P (F := F) m).IsStorable where
  st q d a := (inferInstance : BI.Storable (upEmb : UEmb _ 𝕄) (bigSep Finset.univ fun s : Fin 16 => Gq m d q (Fin.cast (nCore_eq q) a) s (o₀ m d q)))
  dn q d a := (inferInstance : BI.Storable (upEmb : UEmb _ 𝕄) (bigSep Finset.univ fun s : Fin 16 => Gq m d q (Fin.cast (nCore_eq q) a) s (out m d q)))
  go q d a s := (inferInstance : BI.Storable (upEmb : UEmb _ 𝕄) (Gq m d q (Fin.cast (nCore_eq q) a) (Fin.cast (nSub_eq q) s) (o₀ m d q)))
  td q d a s := (inferInstance : BI.Storable (upEmb : UEmb _ 𝕄) (Gq m d q (Fin.cast (nCore_eq q) a) (Fin.cast (nSub_eq q) s) (out m d q)))

/-- Every row number of the launch memory is a row of the table. -/
def PreOK : Prop := ∀ (d : Dev nD) (j : S10240x16.Idx), (m ((SparseCore.T d).loc main_arg1) j).toNat < 10000

theorem chunk_lt (h : PreOK m) (d : Dev nD) (q : Fin 5) (y) : (chunk m d q y).toNat < 10000 := h d _

/-! ## The task -/

variable [FloatOps F]

attribute [local irreducible] cc0_gather_kernel

/-- A tile's task: from what it is handed, its own buffers and its own counters. -/
theorem task (c : Ops) (d : Dev nD) (a : Fin 2) (s : Fin 16) (fx : Buf (Elt F) (c.A3.view.loc (thr d (coords a s)))) (ft : Buf (Elt F) (c.A2.view.loc (thr d (coords a s))))
    (f g : Buf (Elt F) (c.A4.view.loc (thr d (coords a s)))) (hin : InB c d (coords a s) fx)
    (hg : ∀ j, (oW c j).view.read (Elt F) g = pay c d (coords a s) fx ft hin j)
    (R : sProp 𝕄) (hR : (iprop(SparseCore.Cfg.ownBufs (thr d (coords a s)) ∗ SparseCore.Cfg.ownSems0 (thr d (coords a s))) : sProp 𝕄) = iprop(Own (F := F) c d (coords a s) ∗ R))
    (O : CellTallies nD τ sig (HIx 5)) (W : Waits sig (HIx 5)) (hO : ∀ g, O g none = 0) :
    iprop(levAts (K (F := F)).L (K (F := F)).lev ∗ emp ∗ Go c d a s fx ft f
        ∗ scopedBufs (thr d (coords a s)) ∗ scopedSems0 (thr d (coords a s)) ∗ owes (thr d (coords a s)) O W)
      ⊢ wp frame (wpE (defs₀ (F := F)) 𝒱₀ (thr d (coords a s)) none) Set.univ
          (cc0_gather_kernel (coords a s) c.A2 c.h2 c.A3 c.h3 c.A4 c.h4 c.B0 c.hB0 c.v12 c.B1 c.hB1 c.v13 c.r1 c.r2)
          fun _ => iprop(Go c d a s fx ft g ∗ scopedBufs (thr d (coords a s)) ∗ scopedSems0 (thr d (coords a s))
            ∗ ∃ W', ⌜∀ p ∈ W', p ∈ W ∨ p.2 = none⌝ ∗ owes (thr d (coords a s)) O W') := by
  have ht := tile c d (coords a s) fx ft f g (tq a s) O W hin hg
  rw [(K (F := F)).scopedBufs_V facts d (cV (coords a s)) (jV (coords a s)), SparseCore.Cfg.scopedSems0_V (Val := Elt F) d (cV (coords a s)) (jV (coords a s))]
  unfold Go
  iintro ⟨#Hlv, -, ⟨Hi, Ho, Ht⟩, Hb, Hs, HO⟩
  ihave Hmw := (show levAts (K (F := F)).L (K (F := F)).lev ⊢ Transfers.MayWaits (thr d (coords a s)) (default : HIx 5) O from
    (K (F := F)).mayWaits_none (thr := thr d (coords a s)) hO) $$ Hlv
  ihave Hown := (Entails.of_eq hR) $$ [Hb Hs]
  · isplitl [Hb]; · iexact Hb
    iexact Hs
  icases Hown with ⟨Hown, HR⟩
  ihave Hwp := ht $$ [Hmw Hi Ho Ht Hown HO]
  · isplitl [Hmw]; · iexact Hmw
    isplitl [Hi]; · iexact Hi
    isplitl [Ho]; · iexact Ho
    isplitl [Ht]; · iexact Ht
    isplitl [Hown]; · iexact Hown
    unfold Owing
    iexists W
    isplitr [HO]
    rotate_left
    · iexact HO
    ipureintro; exact fun p hp => Or.inl hp
  iapply (wp_wand frame _ _) $$ Hwp
  iintro %_ ⟨Hi, Ho, Ht, Hown, HO⟩
  isplitl [Hi Ho Ht]
  · isplitl [Hi]; · iexact Hi
    isplitl [Ho]; · iexact Ho
    iexact Ht
  ihave Hbs := (Entails.of_eq hR.symm) $$ [Hown HR]
  · isplitl [Hown]; · iexact Hown
    iexact HR
  icases Hbs with ⟨Hb, Hs⟩
  isplitl [Hb]; · iexact Hb
  isplitl [Hs]; · iexact Hs
  iapply (owing_elim d (coords a s) O W)
  iexact HO

end Cert.Proof.Gather
-- ==== Proof.Gather.Calls.lean ====
/-
  The five calls' tile obligations, and how a call's payload is split among a core's tiles.
-/
module

public import proofs.«01_k».proof.Proof.Gather.Task

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable (m : (ℓ : Loc nD τ sig) → Buf (Elt F) ℓ)

/-! ## Each call's buffers and counters are the tile's own -/

theorem whole_owned (d : Dev nD) (i : grid0.Coords) (b : Ref sig .scVector) :
    (iprop(∃ f, (View.whole b).loc (thr d i) ↦[(View.whole b).set]{fullShare} f) : sProp 𝕄) = iprop(∃ f, (thr d i).loc b ↦{fullShare} f) := by
  rw [View.set_whole]

theorem own0 (d : Dev nD) (i : grid0.Coords) : ∃ R, (iprop(SparseCore.Cfg.ownBufs (thr d i) ∗ SparseCore.Cfg.ownSems0 (thr d i)) : sProp 𝕄) = iprop(Own (F := F) call0 d i ∗ R) :=
  own_split call0 d i cc0_scoped0 cc0_scoped2 (by decide) rfl rfl (whole_owned d i _) (whole_owned d i _) (by decide) (by decide)
theorem own1 (d : Dev nD) (i : grid0.Coords) : ∃ R, (iprop(SparseCore.Cfg.ownBufs (thr d i) ∗ SparseCore.Cfg.ownSems0 (thr d i)) : sProp 𝕄) = iprop(Own (F := F) call1 d i ∗ R) :=
  own_split call1 d i cc1_scoped0 cc1_scoped2 (by decide) rfl rfl (whole_owned d i _) (whole_owned d i _) (by decide) (by decide)
theorem own2 (d : Dev nD) (i : grid0.Coords) : ∃ R, (iprop(SparseCore.Cfg.ownBufs (thr d i) ∗ SparseCore.Cfg.ownSems0 (thr d i)) : sProp 𝕄) = iprop(Own (F := F) call2 d i ∗ R) :=
  own_split call2 d i cc2_scoped0 cc2_scoped2 (by decide) rfl rfl (whole_owned d i _) (whole_owned d i _) (by decide) (by decide)
theorem own3 (d : Dev nD) (i : grid0.Coords) : ∃ R, (iprop(SparseCore.Cfg.ownBufs (thr d i) ∗ SparseCore.Cfg.ownSems0 (thr d i)) : sProp 𝕄) = iprop(Own (F := F) call3 d i ∗ R) :=
  own_split call3 d i cc3_scoped0 cc3_scoped2 (by decide) rfl rfl (whole_owned d i _) (whole_owned d i _) (by decide) (by decide)
theorem own4 (d : Dev nD) (i : grid0.Coords) : ∃ R, (iprop(SparseCore.Cfg.ownBufs (thr d i) ∗ SparseCore.Cfg.ownSems0 (thr d i)) : sProp 𝕄) = iprop(Own (F := F) call4 d i ∗ R) :=
  own_split call4 d i cc4_scoped0 cc4_scoped2 (by decide) rfl rfl (whole_owned d i _) (whole_owned d i _) (by decide) (by decide)

/-! ## Each call's task is the first call's kernel on its own operands -/

variable [FloatOps F]

set_option maxRecDepth 65536 in
theorem defs₀_vector0 (c : Fin τ.nSC) (s : Fin τ.nSub) :
    defs₀ (F := F) (.scVector c s) 0 ()
      = SparseCore.onTile hcore0 hsub0 (fun c s => cc0_gather_kernel (coords c s) (Memref.whole main_arg0_scv) (Memref.isWhole_whole _) (Memref.whole main_v1_scv) (Memref.isWhole_whole _) (Memref.whole main_v2_scv) (Memref.isWhole_whole _)
          (Memref.whole cc0_scoped0) (Memref.isWhole_whole _) cc0_scoped1 (Memref.whole cc0_scoped2) (Memref.isWhole_whole _) cc0_scoped3 cc0_scoped4 cc0_scoped5) ⟨⟩ c s := rfl
set_option maxRecDepth 65536 in
theorem defs₀_vector1 (c : Fin τ.nSC) (s : Fin τ.nSub) :
    defs₀ (F := F) (.scVector c s) 1 ()
      = SparseCore.onTile hcore1 hsub1 (fun c s => cc0_gather_kernel (coords c s) (Memref.whole main_arg0_scv) (Memref.isWhole_whole _) (Memref.whole main_v3_scv) (Memref.isWhole_whole _) (Memref.whole main_v4_scv) (Memref.isWhole_whole _)
          (Memref.whole cc1_scoped0) (Memref.isWhole_whole _) cc1_scoped1 (Memref.whole cc1_scoped2) (Memref.isWhole_whole _) cc1_scoped3 cc1_scoped4 cc1_scoped5) ⟨⟩ c s := rfl
set_option maxRecDepth 65536 in
theorem defs₀_vector2 (c : Fin τ.nSC) (s : Fin τ.nSub) :
    defs₀ (F := F) (.scVector c s) 2 ()
      = SparseCore.onTile hcore2 hsub2 (fun c s => cc0_gather_kernel (coords c s) (Memref.whole main_arg0_scv) (Memref.isWhole_whole _) (Memref.whole main_v5_scv) (Memref.isWhole_whole _) (Memref.whole main_v6_scv) (Memref.isWhole_whole _)
          (Memref.whole cc2_scoped0) (Memref.isWhole_whole _) cc2_scoped1 (Memref.whole cc2_scoped2) (Memref.isWhole_whole _) cc2_scoped3 cc2_scoped4 cc2_scoped5) ⟨⟩ c s := rfl
set_option maxRecDepth 65536 in
theorem defs₀_vector3 (c : Fin τ.nSC) (s : Fin τ.nSub) :
    defs₀ (F := F) (.scVector c s) 3 ()
      = SparseCore.onTile hcore3 hsub3 (fun c s => cc0_gather_kernel (coords c s) (Memref.whole main_arg0_scv) (Memref.isWhole_whole _) (Memref.whole main_v7_scv) (Memref.isWhole_whole _) (Memref.whole main_v8_scv) (Memref.isWhole_whole _)
          (Memref.whole cc3_scoped0) (Memref.isWhole_whole _) cc3_scoped1 (Memref.whole cc3_scoped2) (Memref.isWhole_whole _) cc3_scoped3 cc3_scoped4 cc3_scoped5) ⟨⟩ c s := rfl
set_option maxRecDepth 65536 in
theorem defs₀_vector4 (c : Fin τ.nSC) (s : Fin τ.nSub) :
    defs₀ (F := F) (.scVector c s) 4 ()
      = SparseCore.onTile hcore4 hsub4 (fun c s => cc0_gather_kernel (coords c s) (Memref.whole main_arg0_scv) (Memref.isWhole_whole _) (Memref.whole main_v9_scv) (Memref.isWhole_whole _) (Memref.whole main_v10_scv) (Memref.isWhole_whole _)
          (Memref.whole cc4_scoped0) (Memref.isWhole_whole _) cc4_scoped1 (Memref.whole cc4_scoped2) (Memref.isWhole_whole _) cc4_scoped3 cc4_scoped4 cc4_scoped5) ⟨⟩ c s := rfl

attribute [local irreducible] cc0_gather_kernel

/-- Call 0's task on a tile. -/
theorem task0 (hpre : PreOK m) (d : Dev nD) (a : Fin 2) (s : Fin 16) (O : CellTallies nD τ sig (HIx 5)) (W : Waits sig (HIx 5)) (hO : ∀ g, O g none = 0) :
    iprop(levAts (K (F := F)).L (K (F := F)).lev ∗ emp ∗ Gq m d 0 a s (o₀ m d 0)
        ∗ scopedBufs (thr d (coords a s)) ∗ scopedSems0 (thr d (coords a s)) ∗ owes (thr d (coords a s)) O W)
      ⊢ wp frame (wpE (defs₀ (F := F)) 𝒱₀ (thr d (coords a s)) none) Set.univ
          (cc0_gather_kernel (coords a s) (Memref.whole main_arg0_scv) (Memref.isWhole_whole _) (Memref.whole main_v1_scv) (Memref.isWhole_whole _) (Memref.whole main_v2_scv) (Memref.isWhole_whole _)
          (Memref.whole cc0_scoped0) (Memref.isWhole_whole _) cc0_scoped1 (Memref.whole cc0_scoped2) (Memref.isWhole_whole _) cc0_scoped3 cc0_scoped4 cc0_scoped5)
          fun _ => iprop(Gq m d 0 a s (out m d 0) ∗ scopedBufs (thr d (coords a s)) ∗ scopedSems0 (thr d (coords a s))
            ∗ ∃ W', ⌜∀ p ∈ W', p ∈ W ∨ p.2 = none⌝ ∗ owes (thr d (coords a s)) O W') := by
  obtain ⟨R, hR⟩ := own0 (F := F) d (coords a s)
  exact task call0 d a s (chunk m d 0) (tbl m d) (o₀ m d 0) (out m d 0)
    (inB_of call0 d (coords a s) (chunk m d 0) (chunk m d 0) (fun _ _ => rfl) (chunk_lt m hpre d 0))
    (pay_of call0 d (coords a s) (chunk m d 0) (tbl m d) (out m d 0) (tbl m d) (chunk m d 0) (fun _ _ => rfl) (chunk_lt m hpre d 0) (fun _ => rfl) (fun _ _ => rfl) _)
    R hR O W hO
/-- Call 1's task on a tile. -/
theorem task1 (hpre : PreOK m) (d : Dev nD) (a : Fin 2) (s : Fin 16) (O : CellTallies nD τ sig (HIx 5)) (W : Waits sig (HIx 5)) (hO : ∀ g, O g none = 0) :
    iprop(levAts (K (F := F)).L (K (F := F)).lev ∗ emp ∗ Gq m d 1 a s (o₀ m d 1)
        ∗ scopedBufs (thr d (coords a s)) ∗ scopedSems0 (thr d (coords a s)) ∗ owes (thr d (coords a s)) O W)
      ⊢ wp frame (wpE (defs₀ (F := F)) 𝒱₀ (thr d (coords a s)) none) Set.univ
          (cc0_gather_kernel (coords a s) (Memref.whole main_arg0_scv) (Memref.isWhole_whole _) (Memref.whole main_v3_scv) (Memref.isWhole_whole _) (Memref.whole main_v4_scv) (Memref.isWhole_whole _)
          (Memref.whole cc1_scoped0) (Memref.isWhole_whole _) cc1_scoped1 (Memref.whole cc1_scoped2) (Memref.isWhole_whole _) cc1_scoped3 cc1_scoped4 cc1_scoped5)
          fun _ => iprop(Gq m d 1 a s (out m d 1) ∗ scopedBufs (thr d (coords a s)) ∗ scopedSems0 (thr d (coords a s))
            ∗ ∃ W', ⌜∀ p ∈ W', p ∈ W ∨ p.2 = none⌝ ∗ owes (thr d (coords a s)) O W') := by
  obtain ⟨R, hR⟩ := own1 (F := F) d (coords a s)
  exact task call1 d a s (chunk m d 1) (tbl m d) (o₀ m d 1) (out m d 1)
    (inB_of call1 d (coords a s) (chunk m d 1) (chunk m d 1) (fun _ _ => rfl) (chunk_lt m hpre d 1))
    (pay_of call1 d (coords a s) (chunk m d 1) (tbl m d) (out m d 1) (tbl m d) (chunk m d 1) (fun _ _ => rfl) (chunk_lt m hpre d 1) (fun _ => rfl) (fun _ _ => rfl) _)
    R hR O W hO
/-- Call 2's task on a tile. -/
theorem task2 (hpre : PreOK m) (d : Dev nD) (a : Fin 2) (s : Fin 16) (O : CellTallies nD τ sig (HIx 5)) (W : Waits sig (HIx 5)) (hO : ∀ g, O g none = 0) :
    iprop(levAts (K (F := F)).L (K (F := F)).lev ∗ emp ∗ Gq m d 2 a s (o₀ m d 2)
        ∗ scopedBufs (thr d (coords a s)) ∗ scopedSems0 (thr d (coords a s)) ∗ owes (thr d (coords a s)) O W)
      ⊢ wp frame (wpE (defs₀ (F := F)) 𝒱₀ (thr d (coords a s)) none) Set.univ
          (cc0_gather_kernel (coords a s) (Memref.whole main_arg0_scv) (Memref.isWhole_whole _) (Memref.whole main_v5_scv) (Memref.isWhole_whole _) (Memref.whole main_v6_scv) (Memref.isWhole_whole _)
          (Memref.whole cc2_scoped0) (Memref.isWhole_whole _) cc2_scoped1 (Memref.whole cc2_scoped2) (Memref.isWhole_whole _) cc2_scoped3 cc2_scoped4 cc2_scoped5)
          fun _ => iprop(Gq m d 2 a s (out m d 2) ∗ scopedBufs (thr d (coords a s)) ∗ scopedSems0 (thr d (coords a s))
            ∗ ∃ W', ⌜∀ p ∈ W', p ∈ W ∨ p.2 = none⌝ ∗ owes (thr d (coords a s)) O W') := by
  obtain ⟨R, hR⟩ := own2 (F := F) d (coords a s)
  exact task call2 d a s (chunk m d 2) (tbl m d) (o₀ m d 2) (out m d 2)
    (inB_of call2 d (coords a s) (chunk m d 2) (chunk m d 2) (fun _ _ => rfl) (chunk_lt m hpre d 2))
    (pay_of call2 d (coords a s) (chunk m d 2) (tbl m d) (out m d 2) (tbl m d) (chunk m d 2) (fun _ _ => rfl) (chunk_lt m hpre d 2) (fun _ => rfl) (fun _ _ => rfl) _)
    R hR O W hO
/-- Call 3's task on a tile. -/
theorem task3 (hpre : PreOK m) (d : Dev nD) (a : Fin 2) (s : Fin 16) (O : CellTallies nD τ sig (HIx 5)) (W : Waits sig (HIx 5)) (hO : ∀ g, O g none = 0) :
    iprop(levAts (K (F := F)).L (K (F := F)).lev ∗ emp ∗ Gq m d 3 a s (o₀ m d 3)
        ∗ scopedBufs (thr d (coords a s)) ∗ scopedSems0 (thr d (coords a s)) ∗ owes (thr d (coords a s)) O W)
      ⊢ wp frame (wpE (defs₀ (F := F)) 𝒱₀ (thr d (coords a s)) none) Set.univ
          (cc0_gather_kernel (coords a s) (Memref.whole main_arg0_scv) (Memref.isWhole_whole _) (Memref.whole main_v7_scv) (Memref.isWhole_whole _) (Memref.whole main_v8_scv) (Memref.isWhole_whole _)
          (Memref.whole cc3_scoped0) (Memref.isWhole_whole _) cc3_scoped1 (Memref.whole cc3_scoped2) (Memref.isWhole_whole _) cc3_scoped3 cc3_scoped4 cc3_scoped5)
          fun _ => iprop(Gq m d 3 a s (out m d 3) ∗ scopedBufs (thr d (coords a s)) ∗ scopedSems0 (thr d (coords a s))
            ∗ ∃ W', ⌜∀ p ∈ W', p ∈ W ∨ p.2 = none⌝ ∗ owes (thr d (coords a s)) O W') := by
  obtain ⟨R, hR⟩ := own3 (F := F) d (coords a s)
  exact task call3 d a s (chunk m d 3) (tbl m d) (o₀ m d 3) (out m d 3)
    (inB_of call3 d (coords a s) (chunk m d 3) (chunk m d 3) (fun _ _ => rfl) (chunk_lt m hpre d 3))
    (pay_of call3 d (coords a s) (chunk m d 3) (tbl m d) (out m d 3) (tbl m d) (chunk m d 3) (fun _ _ => rfl) (chunk_lt m hpre d 3) (fun _ => rfl) (fun _ _ => rfl) _)
    R hR O W hO
/-- Call 4's task on a tile. -/
theorem task4 (hpre : PreOK m) (d : Dev nD) (a : Fin 2) (s : Fin 16) (O : CellTallies nD τ sig (HIx 5)) (W : Waits sig (HIx 5)) (hO : ∀ g, O g none = 0) :
    iprop(levAts (K (F := F)).L (K (F := F)).lev ∗ emp ∗ Gq m d 4 a s (o₀ m d 4)
        ∗ scopedBufs (thr d (coords a s)) ∗ scopedSems0 (thr d (coords a s)) ∗ owes (thr d (coords a s)) O W)
      ⊢ wp frame (wpE (defs₀ (F := F)) 𝒱₀ (thr d (coords a s)) none) Set.univ
          (cc0_gather_kernel (coords a s) (Memref.whole main_arg0_scv) (Memref.isWhole_whole _) (Memref.whole main_v9_scv) (Memref.isWhole_whole _) (Memref.whole main_v10_scv) (Memref.isWhole_whole _)
          (Memref.whole cc4_scoped0) (Memref.isWhole_whole _) cc4_scoped1 (Memref.whole cc4_scoped2) (Memref.isWhole_whole _) cc4_scoped3 cc4_scoped4 cc4_scoped5)
          fun _ => iprop(Gq m d 4 a s (out m d 4) ∗ scopedBufs (thr d (coords a s)) ∗ scopedSems0 (thr d (coords a s))
            ∗ ∃ W', ⌜∀ p ∈ W', p ∈ W ∨ p.2 = none⌝ ∗ owes (thr d (coords a s)) O W') := by
  obtain ⟨R, hR⟩ := own4 (F := F) d (coords a s)
  exact task call4 d a s (chunk m d 4) (tbl m d) (o₀ m d 4) (out m d 4)
    (inB_of call4 d (coords a s) (chunk m d 4) (chunk m d 4) (fun _ _ => rfl) (chunk_lt m hpre d 4))
    (pay_of call4 d (coords a s) (chunk m d 4) (tbl m d) (out m d 4) (tbl m d) (chunk m d 4) (fun _ _ => rfl) (chunk_lt m hpre d 4) (fun _ => rfl) (fun _ _ => rfl) _)
    R hR O W hO

omit [FloatOps F] in
theorem obl_post {thr : Thread nD τ} {A B C : sProp 𝕄} {O : CellTallies nD τ sig (HIx 5)} {W : Waits sig (HIx 5)} {q : Fin 5} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

set_option maxRecDepth 16384 in
theorem tileObl0 (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (task0 m hpre d ⟨_, hci.1⟩ ⟨_, hci.2⟩ O W hO).trans (wp_mono frame _ _ fun _ => obl_post)
set_option maxRecDepth 16384 in
theorem tileObl1 (hpre : PreOK m) : (K (F := F)).TileObl (D (F := F)) 𝒱 (P m) v₀ 1 := by
  intro d c i O W hO _ _
  simp only [show (P m).ox = fun _ _ => 0 from rfl, add_zero]
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (task1 m hpre d ⟨_, hci.1⟩ ⟨_, hci.2⟩ O W hO).trans (wp_mono frame _ _ fun _ => obl_post)
set_option maxRecDepth 16384 in
theorem tileObl2 (hpre : PreOK m) : (K (F := F)).TileObl (D (F := F)) 𝒱 (P m) v₀ 2 := by
  intro d c i O W hO _ _
  simp only [show (P m).ox = fun _ _ => 0 from rfl, add_zero]
  have hci : ((K (F := F)).core 2 c).val < grid0.bound 0 ∧ ((K (F := F)).sub 2 i).val < grid0.bound 1 := ⟨c.isLt, i.isLt⟩
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  rw [defs₀_vector2]; simp only [SparseCore.onTile, hci, and_self, ↓reduceDIte]
  exact (task2 m hpre d ⟨_, hci.1⟩ ⟨_, hci.2⟩ O W hO).trans (wp_mono frame _ _ fun _ => obl_post)
set_option maxRecDepth 16384 in
theorem tileObl3 (hpre : PreOK m) : (K (F := F)).TileObl (D (F := F)) 𝒱 (P m) v₀ 3 := by
  intro d c i O W hO _ _
  simp only [show (P m).ox = fun _ _ => 0 from rfl, add_zero]
  have hci : ((K (F := F)).core 3 c).val < grid0.bound 0 ∧ ((K (F := F)).sub 3 i).val < grid0.bound 1 := ⟨c.isLt, i.isLt⟩
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  rw [defs₀_vector3]; simp only [SparseCore.onTile, hci, and_self, ↓reduceDIte]
  exact (task3 m hpre d ⟨_, hci.1⟩ ⟨_, hci.2⟩ O W hO).trans (wp_mono frame _ _ fun _ => obl_post)
set_option maxRecDepth 16384 in
theorem tileObl4 (hpre : PreOK m) : (K (F := F)).TileObl (D (F := F)) 𝒱 (P m) v₀ 4 := by
  intro d c i O W hO _ _
  simp only [show (P m).ox = fun _ _ => 0 from rfl, add_zero]
  have hci : ((K (F := F)).core 4 c).val < grid0.bound 0 ∧ ((K (F := F)).sub 4 i).val < grid0.bound 1 := ⟨c.isLt, i.isLt⟩
  change _ ⊢ wp _ _ _ (Pipeline.liftProg (defs₀ (F := F) (.scVector ((K (F := F)).core 4 c) ((K (F := F)).sub 4 i)) 4 ())) _
  refine BI.Entails.trans ?_ (Pipeline.wp_liftProg (D (F := F)) (Pipeline.defs_kernel pcfgs defs₀) 𝒱₀ _ Set.univ none _ _)
  rw [defs₀_vector4]; simp only [SparseCore.onTile, hci, and_self, ↓reduceDIte]
  exact (task4 m hpre d ⟨_, hci.1⟩ ⟨_, hci.2⟩ O W hO).trans (wp_mono frame _ _ fun _ => obl_post)

/-! ## A core's payload, split among its tiles -/

omit [FloatOps F] in
theorem bigSep_cast {n k : ℕ} (h : n = k) (Φ : Fin k → sProp 𝕄) : (bigSep Finset.univ fun i : Fin n => Φ (Fin.cast h i)) = bigSep Finset.univ Φ := by
  subst h; rfl

omit [FloatOps F] in
theorem vecSplit (q : Fin 5) : (K (F := F)).VecSplit' (P m) q := by
  intro d c
  show (bigSep Finset.univ fun s : Fin 16 => Gq m d q (Fin.cast (nCore_eq q) c) s (o₀ m d q)) ⊢ |={Set.univ}=> iprop(
      (bigSep Finset.univ fun i : Fin ((K (F := F)).nSub q) => Gq m d q (Fin.cast (nCore_eq q) c) (Fin.cast (nSub_eq q) i) (o₀ m d q))
      ∗ ((bigSep Finset.univ fun i : Fin ((K (F := F)).nSub q) => Gq m d q (Fin.cast (nCore_eq q) c) (Fin.cast (nSub_eq q) i) (out m d q))
          -∗ bigSep Finset.univ fun s : Fin 16 => Gq m d q (Fin.cast (nCore_eq q) c) s (out m d q)))
  rw [bigSep_cast (nSub_eq q) (fun s => Gq m d q (Fin.cast (nCore_eq q) c) s (o₀ m d q)), bigSep_cast (nSub_eq q) (fun s => Gq m d q (Fin.cast (nCore_eq q) c) s (out m d q))]
  iintro H; imodintro
  isplitl [H]; · iexact H
  iintro H; iexact H

/-! ## The launch element of the ghost state -/

def u₀ : UU := (initOf (K (F := F)).hsCells (K (F := F)).hsToks, 1)

omit [FloatOps F] in
theorem bigSep_emps {I : Type} (s : Finset I) : (bigSep s fun _ => iprop(emp)) = (iprop(emp) : sProp 𝕄) := bigSep_emp_const s

omit [FloatOps F] in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 5 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emps]; iempintro
  rw [show (bigSep Finset.univ fun thr : Thread nD τ => bigSep Finset.univ fun q : Fin 5 => (P (F := F) m).x q thr) = iprop(emp) from
    (bigSep_congr fun _ _ => bigSep_emps _).trans (bigSep_emps _)]
  iempintro

end Cert.Proof.Gather
-- ==== Proof.Gather.Main.lean ====
/-
  The program's run: @main flattens the array of numbers, cuts it in five chunks, gathers each in a call, and joins the
  five results.
-/
module

public import proofs.«01_k».proof.Proof.Gather.Calls
public import Idealize.ShloMosaic.Lib.Pipeline.Frame
public import Idealize.ShloMosaic.Lib.StableHlo.Run

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_congr wp_hlo_within)

variable {F : FTy → Type}

local notation "𝕄" => MT nD τ sig (HIx 5) (Elt F) ℕ UU ℕ

variable (m : (ℓ : Loc nD τ sig) → Buf (Elt F) ℓ) (ρ : Dev nD → PrngReg)

/-! ## A call's arrays are its tiles' payloads -/

theorem table_set : (Rect.unit (s := S10000x128) ![0, 0] S10000x128.size inb_S10000x128_S10000x128_0_0).set = Finset.univ := by
  ext y
  simp only [Rect.mem_set_unit, Finset.mem_univ, iff_true]
  intro a
  have := (y a).isLt
  fin_cases a <;> exact ⟨Nat.zero_le _, by simpa using this⟩

theorem Gq_eq0 (d : Dev nD) (a : Fin 2) (s : Fin 16) (f : S32000x128.Idx → Elt F .i32) :
    Gq m d 0 a s f = iprop((bigSep (blks (coords a s)) fun j => (SparseCore.T d).loc main_v1 ↦[xB j]{fullShare} (chunk m d 0))
      ∗ (bigSep (blks (coords a s)) fun j => (SparseCore.T d).loc main_v2 ↦[oB j]{fullShare} f) ∗ (SparseCore.T d).loc main_arg0 ↦{tq a s} (tbl m d)) := by
  have hx : ∀ j, (xW call0 j).view.set = xB j := fun j => by
    show ((View.whole main_v1_scv).slice _).set = _
    rw [View.set_slice]; exact Finset.map_refl
  have ho : ∀ j, (oW call0 j).view.set = oB j := fun j => by
    show ((View.whole main_v2_scv).slice _).set = _
    rw [View.set_slice]; exact Finset.map_refl
  have ht : (tW call0).view.set = Finset.univ := by
    show ((View.whole main_arg0_scv).slice _).set = _
    rw [View.set_slice]; exact Finset.map_refl.trans table_set
  show Go call0 d a s (chunk m d 0) (tbl m d) f = _
  unfold Go IBlk OBlk TPts
  simp only [hx, ho, ht]
  rfl
theorem Gq_all0 (d : Dev nD) (f : S32000x128.Idx → Elt F .i32) :
    (bigSep Finset.univ fun a : Fin 2 => bigSep Finset.univ fun s : Fin 16 => Gq m d 0 a s f)
      = iprop(((SparseCore.T d).loc main_v1 ↦{fullShare} (chunk m d 0)) ∗ ((SparseCore.T d).loc main_v2 ↦{fullShare} f) ∗ (SparseCore.T d).loc main_arg0 ↦{fullShare} (tbl m d)) := by
  simp only [Gq_eq0, bigSep_sep']
  rw [← deal (F := F) (ℓ := (SparseCore.T d).loc main_v1) xB xB_disjoint xB_cover (chunk m d 0),
    ← deal (F := F) (ℓ := (SparseCore.T d).loc main_v2) oB oB_disjoint oB_cover f, ← deal_share (F := F) (ℓ := (SparseCore.T d).loc main_arg0) (tbl m d)]
theorem Gq_eq1 (d : Dev nD) (a : Fin 2) (s : Fin 16) (f : S32000x128.Idx → Elt F .i32) :
    Gq m d 1 a s f = iprop((bigSep (blks (coords a s)) fun j => (SparseCore.T d).loc main_v3 ↦[xB j]{fullShare} (chunk m d 1))
      ∗ (bigSep (blks (coords a s)) fun j => (SparseCore.T d).loc main_v4 ↦[oB j]{fullShare} f) ∗ (SparseCore.T d).loc main_arg0 ↦{tq a s} (tbl m d)) := by
  have hx : ∀ j, (xW call1 j).view.set = xB j := fun j => by
    show ((View.whole main_v3_scv).slice _).set = _
    rw [View.set_slice]; exact Finset.map_refl
  have ho : ∀ j, (oW call1 j).view.set = oB j := fun j => by
    show ((View.whole main_v4_scv).slice _).set = _
    rw [View.set_slice]; exact Finset.map_refl
  have ht : (tW call1).view.set = Finset.univ := by
    show ((View.whole main_arg0_scv).slice _).set = _
    rw [View.set_slice]; exact Finset.map_refl.trans table_set
  show Go call1 d a s (chunk m d 1) (tbl m d) f = _
  unfold Go IBlk OBlk TPts
  simp only [hx, ho, ht]
  rfl
theorem Gq_all1 (d : Dev nD) (f : S32000x128.Idx → Elt F .i32) :
    (bigSep Finset.univ fun a : Fin 2 => bigSep Finset.univ fun s : Fin 16 => Gq m d 1 a s f)
      = iprop(((SparseCore.T d).loc main_v3 ↦{fullShare} (chunk m d 1)) ∗ ((SparseCore.T d).loc main_v4 ↦{fullShare} f) ∗ (SparseCore.T d).loc main_arg0 ↦{fullShare} (tbl m d)) := by
  simp only [Gq_eq1, bigSep_sep']
  rw [← deal (F := F) (ℓ := (SparseCore.T d).loc main_v3) xB xB_disjoint xB_cover (chunk m d 1),
    ← deal (F := F) (ℓ := (SparseCore.T d).loc main_v4) oB oB_disjoint oB_cover f, ← deal_share (F := F) (ℓ := (SparseCore.T d).loc main_arg0) (tbl m d)]
theorem Gq_eq2 (d : Dev nD) (a : Fin 2) (s : Fin 16) (f : S32000x128.Idx → Elt F .i32) :
    Gq m d 2 a s f = iprop((bigSep (blks (coords a s)) fun j => (SparseCore.T d).loc main_v5 ↦[xB j]{fullShare} (chunk m d 2))
      ∗ (bigSep (blks (coords a s)) fun j => (SparseCore.T d).loc main_v6 ↦[oB j]{fullShare} f) ∗ (SparseCore.T d).loc main_arg0 ↦{tq a s} (tbl m d)) := by
  have hx : ∀ j, (xW call2 j).view.set = xB j := fun j => by
    show ((View.whole main_v5_scv).slice _).set = _
    rw [View.set_slice]; exact Finset.map_refl
  have ho : ∀ j, (oW call2 j).view.set = oB j := fun j => by
    show ((View.whole main_v6_scv).slice _).set = _
    rw [View.set_slice]; exact Finset.map_refl
  have ht : (tW call2).view.set = Finset.univ := by
    show ((View.whole main_arg0_scv).slice _).set = _
    rw [View.set_slice]; exact Finset.map_refl.trans table_set
  show Go call2 d a s (chunk m d 2) (tbl m d) f = _
  unfold Go IBlk OBlk TPts
  simp only [hx, ho, ht]
  rfl
theorem Gq_all2 (d : Dev nD) (f : S32000x128.Idx → Elt F .i32) :
    (bigSep Finset.univ fun a : Fin 2 => bigSep Finset.univ fun s : Fin 16 => Gq m d 2 a s f)
      = iprop(((SparseCore.T d).loc main_v5 ↦{fullShare} (chunk m d 2)) ∗ ((SparseCore.T d).loc main_v6 ↦{fullShare} f) ∗ (SparseCore.T d).loc main_arg0 ↦{fullShare} (tbl m d)) := by
  simp only [Gq_eq2, bigSep_sep']
  rw [← deal (F := F) (ℓ := (SparseCore.T d).loc main_v5) xB xB_disjoint xB_cover (chunk m d 2),
    ← deal (F := F) (ℓ := (SparseCore.T d).loc main_v6) oB oB_disjoint oB_cover f, ← deal_share (F := F) (ℓ := (SparseCore.T d).loc main_arg0) (tbl m d)]
theorem Gq_eq3 (d : Dev nD) (a : Fin 2) (s : Fin 16) (f : S32000x128.Idx → Elt F .i32) :
    Gq m d 3 a s f = iprop((bigSep (blks (coords a s)) fun j => (SparseCore.T d).loc main_v7 ↦[xB j]{fullShare} (chunk m d 3))
      ∗ (bigSep (blks (coords a s)) fun j => (SparseCore.T d).loc main_v8 ↦[oB j]{fullShare} f) ∗ (SparseCore.T d).loc main_arg0 ↦{tq a s} (tbl m d)) := by
  have hx : ∀ j, (xW call3 j).view.set = xB j := fun j => by
    show ((View.whole main_v7_scv).slice _).set = _
    rw [View.set_slice]; exact Finset.map_refl
  have ho : ∀ j, (oW call3 j).view.set = oB j := fun j => by
    show ((View.whole main_v8_scv).slice _).set = _
    rw [View.set_slice]; exact Finset.map_refl
  have ht : (tW call3).view.set = Finset.univ := by
    show ((View.whole main_arg0_scv).slice _).set = _
    rw [View.set_slice]; exact Finset.map_refl.trans table_set
  show Go call3 d a s (chunk m d 3) (tbl m d) f = _
  unfold Go IBlk OBlk TPts
  simp only [hx, ho, ht]
  rfl
theorem Gq_all3 (d : Dev nD) (f : S32000x128.Idx → Elt F .i32) :
    (bigSep Finset.univ fun a : Fin 2 => bigSep Finset.univ fun s : Fin 16 => Gq m d 3 a s f)
      = iprop(((SparseCore.T d).loc main_v7 ↦{fullShare} (chunk m d 3)) ∗ ((SparseCore.T d).loc main_v8 ↦{fullShare} f) ∗ (SparseCore.T d).loc main_arg0 ↦{fullShare} (tbl m d)) := by
  simp only [Gq_eq3, bigSep_sep']
  rw [← deal (F := F) (ℓ := (SparseCore.T d).loc main_v7) xB xB_disjoint xB_cover (chunk m d 3),
    ← deal (F := F) (ℓ := (SparseCore.T d).loc main_v8) oB oB_disjoint oB_cover f, ← deal_share (F := F) (ℓ := (SparseCore.T d).loc main_arg0) (tbl m d)]
theorem Gq_eq4 (d : Dev nD) (a : Fin 2) (s : Fin 16) (f : S32000x128.Idx → Elt F .i32) :
    Gq m d 4 a s f = iprop((bigSep (blks (coords a s)) fun j => (SparseCore.T d).loc main_v9 ↦[xB j]{fullShare} (chunk m d 4))
      ∗ (bigSep (blks (coords a s)) fun j => (SparseCore.T d).loc main_v10 ↦[oB j]{fullShare} f) ∗ (SparseCore.T d).loc main_arg0 ↦{tq a s} (tbl m d)) := by
  have hx : ∀ j, (xW call4 j).view.set = xB j := fun j => by
    show ((View.whole main_v9_scv).slice _).set = _
    rw [View.set_slice]; exact Finset.map_refl
  have ho : ∀ j, (oW call4 j).view.set = oB j := fun j => by
    show ((View.whole main_v10_scv).slice _).set = _
    rw [View.set_slice]; exact Finset.map_refl
  have ht : (tW call4).view.set = Finset.univ := by
    show ((View.whole main_arg0_scv).slice _).set = _
    rw [View.set_slice]; exact Finset.map_refl.trans table_set
  show Go call4 d a s (chunk m d 4) (tbl m d) f = _
  unfold Go IBlk OBlk TPts
  simp only [hx, ho, ht]
  rfl
theorem Gq_all4 (d : Dev nD) (f : S32000x128.Idx → Elt F .i32) :
    (bigSep Finset.univ fun a : Fin 2 => bigSep Finset.univ fun s : Fin 16 => Gq m d 4 a s f)
      = iprop(((SparseCore.T d).loc main_v9 ↦{fullShare} (chunk m d 4)) ∗ ((SparseCore.T d).loc main_v10 ↦{fullShare} f) ∗ (SparseCore.T d).loc main_arg0 ↦{fullShare} (tbl m d)) := by
  simp only [Gq_eq4, bigSep_sep']
  rw [← deal (F := F) (ℓ := (SparseCore.T d).loc main_v9) xB xB_disjoint xB_cover (chunk m d 4),
    ← deal (F := F) (ℓ := (SparseCore.T d).loc main_v10) oB oB_disjoint oB_cover f, ← deal_share (F := F) (ℓ := (SparseCore.T d).loc main_arg0) (tbl m d)]
theorem st_eq0 (d : Dev nD) : (bigSep Finset.univ fun a : Fin ((K (F := F)).nCore 0) => (P m).st 0 d a)
    = iprop(((SparseCore.T d).loc main_v1 ↦{fullShare} (chunk m d 0)) ∗ ((SparseCore.T d).loc main_v2 ↦{fullShare} (o₀ m d 0)) ∗ (SparseCore.T d).loc main_arg0 ↦{fullShare} (tbl m d)) :=
  (bigSep_cast (nCore_eq 0) fun a => bigSep Finset.univ fun s : Fin 16 => Gq m d 0 a s (o₀ m d 0)).trans (Gq_all0 m d _)
theorem dn_eq0 (d : Dev nD) : (bigSep Finset.univ fun a : Fin ((K (F := F)).nCore 0) => (P m).dn 0 d a)
    = iprop(((SparseCore.T d).loc main_v1 ↦{fullShare} (chunk m d 0)) ∗ ((SparseCore.T d).loc main_v2 ↦{fullShare} (out m d 0)) ∗ (SparseCore.T d).loc main_arg0 ↦{fullShare} (tbl m d)) :=
  (bigSep_cast (nCore_eq 0) fun a => bigSep Finset.univ fun s : Fin 16 => Gq m d 0 a s (out m d 0)).trans (Gq_all0 m d _)
theorem st_eq1 (d : Dev nD) : (bigSep Finset.univ fun a : Fin ((K (F := F)).nCore 1) => (P m).st 1 d a)
    = iprop(((SparseCore.T d).loc main_v3 ↦{fullShare} (chunk m d 1)) ∗ ((SparseCore.T d).loc main_v4 ↦{fullShare} (o₀ m d 1)) ∗ (SparseCore.T d).loc main_arg0 ↦{fullShare} (tbl m d)) :=
  (bigSep_cast (nCore_eq 1) fun a => bigSep Finset.univ fun s : Fin 16 => Gq m d 1 a s (o₀ m d 1)).trans (Gq_all1 m d _)
theorem dn_eq1 (d : Dev nD) : (bigSep Finset.univ fun a : Fin ((K (F := F)).nCore 1) => (P m).dn 1 d a)
    = iprop(((SparseCore.T d).loc main_v3 ↦{fullShare} (chunk m d 1)) ∗ ((SparseCore.T d).loc main_v4 ↦{fullShare} (out m d 1)) ∗ (SparseCore.T d).loc main_arg0 ↦{fullShare} (tbl m d)) :=
  (bigSep_cast (nCore_eq 1) fun a => bigSep Finset.univ fun s : Fin 16 => Gq m d 1 a s (out m d 1)).trans (Gq_all1 m d _)
theorem st_eq2 (d : Dev nD) : (bigSep Finset.univ fun a : Fin ((K (F := F)).nCore 2) => (P m).st 2 d a)
    = iprop(((SparseCore.T d).loc main_v5 ↦{fullShare} (chunk m d 2)) ∗ ((SparseCore.T d).loc main_v6 ↦{fullShare} (o₀ m d 2)) ∗ (SparseCore.T d).loc main_arg0 ↦{fullShare} (tbl m d)) :=
  (bigSep_cast (nCore_eq 2) fun a => bigSep Finset.univ fun s : Fin 16 => Gq m d 2 a s (o₀ m d 2)).trans (Gq_all2 m d _)
theorem dn_eq2 (d : Dev nD) : (bigSep Finset.univ fun a : Fin ((K (F := F)).nCore 2) => (P m).dn 2 d a)
    = iprop(((SparseCore.T d).loc main_v5 ↦{fullShare} (chunk m d 2)) ∗ ((SparseCore.T d).loc main_v6 ↦{fullShare} (out m d 2)) ∗ (SparseCore.T d).loc main_arg0 ↦{fullShare} (tbl m d)) :=
  (bigSep_cast (nCore_eq 2) fun a => bigSep Finset.univ fun s : Fin 16 => Gq m d 2 a s (out m d 2)).trans (Gq_all2 m d _)
theorem st_eq3 (d : Dev nD) : (bigSep Finset.univ fun a : Fin ((K (F := F)).nCore 3) => (P m).st 3 d a)
    = iprop(((SparseCore.T d).loc main_v7 ↦{fullShare} (chunk m d 3)) ∗ ((SparseCore.T d).loc main_v8 ↦{fullShare} (o₀ m d 3)) ∗ (SparseCore.T d).loc main_arg0 ↦{fullShare} (tbl m d)) :=
  (bigSep_cast (nCore_eq 3) fun a => bigSep Finset.univ fun s : Fin 16 => Gq m d 3 a s (o₀ m d 3)).trans (Gq_all3 m d _)
theorem dn_eq3 (d : Dev nD) : (bigSep Finset.univ fun a : Fin ((K (F := F)).nCore 3) => (P m).dn 3 d a)
    = iprop(((SparseCore.T d).loc main_v7 ↦{fullShare} (chunk m d 3)) ∗ ((SparseCore.T d).loc main_v8 ↦{fullShare} (out m d 3)) ∗ (SparseCore.T d).loc main_arg0 ↦{fullShare} (tbl m d)) :=
  (bigSep_cast (nCore_eq 3) fun a => bigSep Finset.univ fun s : Fin 16 => Gq m d 3 a s (out m d 3)).trans (Gq_all3 m d _)
theorem st_eq4 (d : Dev nD) : (bigSep Finset.univ fun a : Fin ((K (F := F)).nCore 4) => (P m).st 4 d a)
    = iprop(((SparseCore.T d).loc main_v9 ↦{fullShare} (chunk m d 4)) ∗ ((SparseCore.T d).loc main_v10 ↦{fullShare} (o₀ m d 4)) ∗ (SparseCore.T d).loc main_arg0 ↦{fullShare} (tbl m d)) :=
  (bigSep_cast (nCore_eq 4) fun a => bigSep Finset.univ fun s : Fin 16 => Gq m d 4 a s (o₀ m d 4)).trans (Gq_all4 m d _)
theorem dn_eq4 (d : Dev nD) : (bigSep Finset.univ fun a : Fin ((K (F := F)).nCore 4) => (P m).dn 4 d a)
    = iprop(((SparseCore.T d).loc main_v9 ↦{fullShare} (chunk m d 4)) ∗ ((SparseCore.T d).loc main_v10 ↦{fullShare} (out m d 4)) ∗ (SparseCore.T d).loc main_arg0 ↦{fullShare} (tbl m d)) :=
  (bigSep_cast (nCore_eq 4) fun a => bigSep Finset.univ fun s : Fin 16 => Gq m d 4 a s (out m d 4)).trans (Gq_all4 m d _)

/-! ## The TensorCore's arrays -/

abbrev dr (b : Ref sig .tc) : DevRef τ sig := Proc.devRef .tc b
abbrev uc : Finset (DevRef τ sig) := Pipeline.ucRefs τ sig

theorem dr_mem (b : Ref sig .tc) (h : (dr b).isScoped = false) : dr b ∈ uc :=
  Finset.mem_filter.mpr ⟨StableHlo.devRef_mem_tcRefs b, by rw [h]; decide⟩

/-- A call's three arrays out of all. -/
theorem held_three (d : Dev nD) (bx bo : Ref sig .tc) (hx : (dr bx).isScoped = false) (ho : (dr bo).isScoped = false) (hxo : dr bo ≠ dr bx)
    (hax : dr main_arg0 ≠ dr bx) (hao : dr main_arg0 ≠ dr bo) (V : Valuation τ sig (Elt F)) :
    (held (SparseCore.T d) uc V : sProp 𝕄) = iprop((((SparseCore.T d).loc bx ↦{fullShare} V (dr bx)) ∗ ((SparseCore.T d).loc bo ↦{fullShare} V (dr bo))
      ∗ (SparseCore.T d).loc main_arg0 ↦{fullShare} V (dr main_arg0)) ∗ held (SparseCore.T d) (((uc.erase (dr bx)).erase (dr bo)).erase (dr main_arg0)) V) := by
  unfold held
  rw [SparseCore.bigSep_erase' (dr_mem bx hx), SparseCore.bigSep_erase' (Finset.mem_erase.mpr ⟨hxo, dr_mem bo ho⟩),
    SparseCore.bigSep_erase' (Finset.mem_erase.mpr ⟨hao, Finset.mem_erase.mpr ⟨hax, dr_mem main_arg0 rfl⟩⟩)]
  refine eq_of_entails ?_ ?_
  · iintro ⟨Hx, Ho, Ha, H⟩
    isplitr [H]
    · isplitl [Hx]; · iexact Hx
      isplitl [Ho]; · iexact Ho
      iexact Ha
    iexact H
  · iintro ⟨⟨Hx, Ho, Ha⟩, H⟩
    isplitl [Hx]; · iexact Hx
    isplitl [Ho]; · iexact Ho
    isplitl [Ha]; · iexact Ha
    iexact H

variable [FloatOps F]

/-- A call, all the TensorCore's arrays held: its result's array ends at what the call leaves, the others as they were. -/
theorem call_step (κ : GSem nD τ sig → ℕ) (d : Dev nD) (q : Fin 5) (bx bo : Ref sig .tc) (hx : (dr bx).isScoped = false) (ho : (dr bo).isScoped = false)
    (hxo : dr bo ≠ dr bx) (hax : dr main_arg0 ≠ dr bx) (hao : dr main_arg0 ≠ dr bo) (V : Valuation τ sig (Elt F)) (f' : (dr bo).ty.Contents (Elt F))
    (hst : (bigSep Finset.univ fun a : Fin ((K (F := F)).nCore q) => (P m).st q d a) = iprop(((SparseCore.T d).loc bx ↦{fullShare} V (dr bx))
      ∗ ((SparseCore.T d).loc bo ↦{fullShare} V (dr bo)) ∗ (SparseCore.T d).loc main_arg0 ↦{fullShare} V (dr main_arg0)))
    (hdn : (bigSep Finset.univ fun a : Fin ((K (F := F)).nCore q) => (P m).dn q d a) = iprop(((SparseCore.T d).loc bx ↦{fullShare} V (dr bx))
      ∗ ((SparseCore.T d).loc bo ↦{fullShare} f') ∗ (SparseCore.T d).loc main_arg0 ↦{fullShare} V (dr main_arg0)))
    {Φ : PUnit → sProp 𝕄} :
    iprop((K (F := F)).ctx EH (P m) κ ∗ (K (F := F)).tcSt EH d q.val ∗ held (SparseCore.T d) uc V
        ∗ (((K (F := F)).tcSt EH d (q.val + 1) ∗ held (SparseCore.T d) uc (Function.update V (dr bo) f')) -∗ Φ ⟨⟩))
      ⊢ wp frame (wpE ((K (F := F)).defs (D (F := F))) 𝒱 (SparseCore.T d) none) Set.univ ((K (F := F)).run d q) Φ := by
  rw [held_three d bx bo hx ho hxo hax hao V, held_three d bx bo hx ho hxo hax hao (Function.update V (dr bo) f'),
    Function.update_of_ne hxo.symm, Function.update_self, Function.update_of_ne hao,
    held_congr (SparseCore.T d) (V := Function.update V (dr bo) f') (V' := V) fun b hb => Function.update_of_ne (Finset.mem_erase.mp (Finset.mem_erase.mp hb).2).1 _ _,
    ← hst, ← hdn]
  iintro ⟨#Hctx, Hst, ⟨Hthree, Hrest⟩, Hk⟩
  iapply ((K (F := F)).wp_run (D (F := F)) 𝒱 (EH := EH) (P := P m) κ d q) $$ [Hst Hthree Hrest Hk]
  isplitr; · iexact Hctx
  isplitl [Hst]; · iexact Hst
  isplitl [Hthree]; · iexact Hthree
  iintro ⟨Hst, Hdn⟩
  iapply Hk
  isplitl [Hst]; · iexact Hst
  isplitl [Hdn]; · iexact Hdn
  iexact Hrest

/-! ## The host's operations and what the arrays hold after each -/

abbrev opR : HloOp τ sig (Elt F) := StableHlo.reshape main_arg1 main_v0 (rfl : (.i32 : EltTy) = .i32) shapeCasts_S10240x16_S1x163840
abbrev opS0 : HloOp τ sig (Elt F) := StableHlo.unary main_v0 main_v1 ((extractStridedSlice S1x32000 ![0, 0] · slices_S1x163840_S1x32000_0_0) : (⟨S1x163840, .i32⟩ : BufTy).Contents (Elt F) → (⟨S1x32000, .i32⟩ : BufTy).Contents (Elt F))
abbrev opS1 : HloOp τ sig (Elt F) := StableHlo.unary main_v0 main_v3 ((extractStridedSlice S1x32000 ![0, 32000] · slices_S1x163840_S1x32000_0_32000) : (⟨S1x163840, .i32⟩ : BufTy).Contents (Elt F) → (⟨S1x32000, .i32⟩ : BufTy).Contents (Elt F))
abbrev opS2 : HloOp τ sig (Elt F) := StableHlo.unary main_v0 main_v5 ((extractStridedSlice S1x32000 ![0, 64000] · slices_S1x163840_S1x32000_0_64000) : (⟨S1x163840, .i32⟩ : BufTy).Contents (Elt F) → (⟨S1x32000, .i32⟩ : BufTy).Contents (Elt F))
abbrev opS3 : HloOp τ sig (Elt F) := StableHlo.unary main_v0 main_v7 ((extractStridedSlice S1x32000 ![0, 96000] · slices_S1x163840_S1x32000_0_96000) : (⟨S1x163840, .i32⟩ : BufTy).Contents (Elt F) → (⟨S1x32000, .i32⟩ : BufTy).Contents (Elt F))
abbrev opS4 : HloOp τ sig (Elt F) := StableHlo.unary main_v0 main_v9 ((extractStridedSlice S1x32000 ![0, 128000] · slices_S1x163840_S1x32000_0_128000) : (⟨S1x163840, .i32⟩ : BufTy).Contents (Elt F) → (⟨S1x32000, .i32⟩ : BufTy).Contents (Elt F))

/-- The five results joined. -/
def joined (u : Fin 5 → S32000x128.Idx → Elt F .i32) : S160000x128.Idx → Elt F .i32 :=
  concatenate S160000x128 0 [⟨S32000x128, u 0⟩, ⟨S32000x128, u 1⟩, ⟨S32000x128, u 2⟩, ⟨S32000x128, u 3⟩, ⟨S32000x128, u 4⟩]
    concatenates_S32000x128_S32000x128_S32000x128_S32000x128_S32000x128_S160000x128_d0
abbrev opC : HloOp τ sig (Elt F) := StableHlo.nary ![main_v2, main_v4, main_v6, main_v8, main_v10] main_v11 (fun u => (concatenate S160000x128 0 [⟨S32000x128, (u 0 : (⟨S32000x128, .i32⟩ : BufTy).Contents (Elt F))⟩, ⟨S32000x128, (u 1 : (⟨S32000x128, .i32⟩ : BufTy).Contents (Elt F))⟩, ⟨S32000x128, (u 2 : (⟨S32000x128, .i32⟩ : BufTy).Contents (Elt F))⟩, ⟨S32000x128, (u 3 : (⟨S32000x128, .i32⟩ : BufTy).Contents (Elt F))⟩, ⟨S32000x128, (u 4 : (⟨S32000x128, .i32⟩ : BufTy).Contents (Elt F))⟩] concatenates_S32000x128_S32000x128_S32000x128_S32000x128_S32000x128_S160000x128_d0 : (⟨S160000x128, .i32⟩ : BufTy).Contents (Elt F)))

/-- What the arrays hold at the start, and after each operation and call. -/
def V0 (d : Dev nD) : Valuation τ sig (Elt F) := fun b => m (d, b)
def V1 (d : Dev nD) : Valuation τ sig (Elt F) := (opR (F := F)).result (V0 m d)
def V2 (d : Dev nD) : Valuation τ sig (Elt F) := (opS0 (F := F)).result (V1 m d)
def V3 (d : Dev nD) : Valuation τ sig (Elt F) := Function.update (V2 m d) (dr main_v2) (out m d 0)
def V4 (d : Dev nD) : Valuation τ sig (Elt F) := (opS1 (F := F)).result (V3 m d)
def V5 (d : Dev nD) : Valuation τ sig (Elt F) := Function.update (V4 m d) (dr main_v4) (out m d 1)
def V6 (d : Dev nD) : Valuation τ sig (Elt F) := (opS2 (F := F)).result (V5 m d)
def V7 (d : Dev nD) : Valuation τ sig (Elt F) := Function.update (V6 m d) (dr main_v6) (out m d 2)
def V8 (d : Dev nD) : Valuation τ sig (Elt F) := (opS3 (F := F)).result (V7 m d)
def V9 (d : Dev nD) : Valuation τ sig (Elt F) := Function.update (V8 m d) (dr main_v8) (out m d 3)
def V10 (d : Dev nD) : Valuation τ sig (Elt F) := (opS4 (F := F)).result (V9 m d)
def V11 (d : Dev nD) : Valuation τ sig (Elt F) := Function.update (V10 m d) (dr main_v10) (out m d 4)
def V12 (d : Dev nD) : Valuation τ sig (Elt F) := (opC (F := F)).result (V11 m d)

theorem V1_ne (d : Dev nD) {b : Ref sig .tc} (h : b ≠ main_v0) : V1 m d (dr b) = V0 m d (dr b) := StableHlo.reshape_result_ne _ _ _ _ _ _ _ h
theorem V2_ne (d : Dev nD) {b : Ref sig .tc} (h : b ≠ main_v1) : V2 m d (dr b) = V1 m d (dr b) := StableHlo.unary_result_ne _ _ _ _ _ _ h
theorem V3_ne (d : Dev nD) {b : Ref sig .tc} (h : b ≠ main_v2) : V3 m d (dr b) = V2 m d (dr b) := Function.update_of_ne (StableHlo.devRef_ne_of_ne h) _ _
theorem V4_ne (d : Dev nD) {b : Ref sig .tc} (h : b ≠ main_v3) : V4 m d (dr b) = V3 m d (dr b) := StableHlo.unary_result_ne _ _ _ _ _ _ h
theorem V5_ne (d : Dev nD) {b : Ref sig .tc} (h : b ≠ main_v4) : V5 m d (dr b) = V4 m d (dr b) := Function.update_of_ne (StableHlo.devRef_ne_of_ne h) _ _
theorem V6_ne (d : Dev nD) {b : Ref sig .tc} (h : b ≠ main_v5) : V6 m d (dr b) = V5 m d (dr b) := StableHlo.unary_result_ne _ _ _ _ _ _ h
theorem V7_ne (d : Dev nD) {b : Ref sig .tc} (h : b ≠ main_v6) : V7 m d (dr b) = V6 m d (dr b) := Function.update_of_ne (StableHlo.devRef_ne_of_ne h) _ _
theorem V8_ne (d : Dev nD) {b : Ref sig .tc} (h : b ≠ main_v7) : V8 m d (dr b) = V7 m d (dr b) := StableHlo.unary_result_ne _ _ _ _ _ _ h
theorem V9_ne (d : Dev nD) {b : Ref sig .tc} (h : b ≠ main_v8) : V9 m d (dr b) = V8 m d (dr b) := Function.update_of_ne (StableHlo.devRef_ne_of_ne h) _ _
theorem V10_ne (d : Dev nD) {b : Ref sig .tc} (h : b ≠ main_v9) : V10 m d (dr b) = V9 m d (dr b) := StableHlo.unary_result_ne _ _ _ _ _ _ h
theorem V11_ne (d : Dev nD) {b : Ref sig .tc} (h : b ≠ main_v10) : V11 m d (dr b) = V10 m d (dr b) := Function.update_of_ne (StableHlo.devRef_ne_of_ne h) _ _
theorem V12_ne (d : Dev nD) {b : Ref sig .tc} (h : b ≠ main_v11) : V12 m d (dr b) = V11 m d (dr b) := StableHlo.nary_result_ne _ _ _ _ _ _ h

theorem V1_v0 (d : Dev nD) : V1 m d (dr main_v0) = nums m d := by
  unfold V1; rw [StableHlo.reshape_result']; rfl
theorem V2_v1 (d : Dev nD) : V2 m d (dr main_v1) = chunk m d 0 := by
  unfold V2; rw [StableHlo.unary_result', V1_v0]; rfl
theorem V2_v2 (d : Dev nD) : V2 m d (dr main_v2) = o₀ m d 0 := by
  rw [V2_ne m d (b := main_v2) (by decide), V1_ne m d (b := main_v2) (by decide)]; rfl
theorem V2_arg0 (d : Dev nD) : V2 m d (dr main_arg0) = tbl m d := by
  rw [V2_ne m d (b := main_arg0) (by decide), V1_ne m d (b := main_arg0) (by decide)]; rfl
theorem V3_v2 (d : Dev nD) : V3 m d (dr main_v2) = out m d 0 := Function.update_self _ _ _
theorem V4_v3 (d : Dev nD) : V4 m d (dr main_v3) = chunk m d 1 := by
  unfold V4; rw [StableHlo.unary_result', V3_ne m d (b := main_v0) (by decide), V2_ne m d (b := main_v0) (by decide), V1_v0]; rfl
theorem V4_v4 (d : Dev nD) : V4 m d (dr main_v4) = o₀ m d 1 := by
  rw [V4_ne m d (b := main_v4) (by decide), V3_ne m d (b := main_v4) (by decide), V2_ne m d (b := main_v4) (by decide), V1_ne m d (b := main_v4) (by decide)]; rfl
theorem V4_arg0 (d : Dev nD) : V4 m d (dr main_arg0) = tbl m d := by
  rw [V4_ne m d (b := main_arg0) (by decide), V3_ne m d (b := main_arg0) (by decide), V2_ne m d (b := main_arg0) (by decide), V1_ne m d (b := main_arg0) (by decide)]; rfl
theorem V5_v4 (d : Dev nD) : V5 m d (dr main_v4) = out m d 1 := Function.update_self _ _ _
theorem V6_v5 (d : Dev nD) : V6 m d (dr main_v5) = chunk m d 2 := by
  unfold V6; rw [StableHlo.unary_result', V5_ne m d (b := main_v0) (by decide), V4_ne m d (b := main_v0) (by decide), V3_ne m d (b := main_v0) (by decide), V2_ne m d (b := main_v0) (by decide), V1_v0]; rfl
theorem V6_v6 (d : Dev nD) : V6 m d (dr main_v6) = o₀ m d 2 := by
  rw [V6_ne m d (b := main_v6) (by decide), V5_ne m d (b := main_v6) (by decide), V4_ne m d (b := main_v6) (by decide), V3_ne m d (b := main_v6) (by decide), V2_ne m d (b := main_v6) (by decide), V1_ne m d (b := main_v6) (by decide)]; rfl
theorem V6_arg0 (d : Dev nD) : V6 m d (dr main_arg0) = tbl m d := by
  rw [V6_ne m d (b := main_arg0) (by decide), V5_ne m d (b := main_arg0) (by decide), V4_ne m d (b := main_arg0) (by decide), V3_ne m d (b := main_arg0) (by decide), V2_ne m d (b := main_arg0) (by decide), V1_ne m d (b := main_arg0) (by decide)]; rfl
theorem V7_v6 (d : Dev nD) : V7 m d (dr main_v6) = out m d 2 := Function.update_self _ _ _
theorem V8_v7 (d : Dev nD) : V8 m d (dr main_v7) = chunk m d 3 := by
  unfold V8; rw [StableHlo.unary_result', V7_ne m d (b := main_v0) (by decide), V6_ne m d (b := main_v0) (by decide), V5_ne m d (b := main_v0) (by decide), V4_ne m d (b := main_v0) (by decide), V3_ne m d (b := main_v0) (by decide), V2_ne m d (b := main_v0) (by decide), V1_v0]; rfl
theorem V8_v8 (d : Dev nD) : V8 m d (dr main_v8) = o₀ m d 3 := by
  rw [V8_ne m d (b := main_v8) (by decide), V7_ne m d (b := main_v8) (by decide), V6_ne m d (b := main_v8) (by decide), V5_ne m d (b := main_v8) (by decide), V4_ne m d (b := main_v8) (by decide), V3_ne m d (b := main_v8) (by decide), V2_ne m d (b := main_v8) (by decide), V1_ne m d (b := main_v8) (by decide)]; rfl
theorem V8_arg0 (d : Dev nD) : V8 m d (dr main_arg0) = tbl m d := by
  rw [V8_ne m d (b := main_arg0) (by decide), V7_ne m d (b := main_arg0) (by decide), V6_ne m d (b := main_arg0) (by decide), V5_ne m d (b := main_arg0) (by decide), V4_ne m d (b := main_arg0) (by decide), V3_ne m d (b := main_arg0) (by decide), V2_ne m d (b := main_arg0) (by decide), V1_ne m d (b := main_arg0) (by decide)]; rfl
theorem V9_v8 (d : Dev nD) : V9 m d (dr main_v8) = out m d 3 := Function.update_self _ _ _
theorem V10_v9 (d : Dev nD) : V10 m d (dr main_v9) = chunk m d 4 := by
  unfold V10; rw [StableHlo.unary_result', V9_ne m d (b := main_v0) (by decide), V8_ne m d (b := main_v0) (by decide), V7_ne m d (b := main_v0) (by decide), V6_ne m d (b := main_v0) (by decide), V5_ne m d (b := main_v0) (by decide), V4_ne m d (b := main_v0) (by decide), V3_ne m d (b := main_v0) (by decide), V2_ne m d (b := main_v0) (by decide), V1_v0]; rfl
theorem V10_v10 (d : Dev nD) : V10 m d (dr main_v10) = o₀ m d 4 := by
  rw [V10_ne m d (b := main_v10) (by decide), V9_ne m d (b := main_v10) (by decide), V8_ne m d (b := main_v10) (by decide), V7_ne m d (b := main_v10) (by decide), V6_ne m d (b := main_v10) (by decide), V5_ne m d (b := main_v10) (by decide), V4_ne m d (b := main_v10) (by decide), V3_ne m d (b := main_v10) (by decide), V2_ne m d (b := main_v10) (by decide), V1_ne m d (b := main_v10) (by decide)]; rfl
theorem V10_arg0 (d : Dev nD) : V10 m d (dr main_arg0) = tbl m d := by
  rw [V10_ne m d (b := main_arg0) (by decide), V9_ne m d (b := main_arg0) (by decide), V8_ne m d (b := main_arg0) (by decide), V7_ne m d (b := main_arg0) (by decide), V6_ne m d (b := main_arg0) (by decide), V5_ne m d (b := main_arg0) (by decide), V4_ne m d (b := main_arg0) (by decide), V3_ne m d (b := main_arg0) (by decide), V2_ne m d (b := main_arg0) (by decide), V1_ne m d (b := main_arg0) (by decide)]; rfl
theorem V11_v10 (d : Dev nD) : V11 m d (dr main_v10) = out m d 4 := Function.update_self _ _ _
theorem V12_arg0 (d : Dev nD) : V12 m d (dr main_arg0) = m ((SparseCore.T d).loc main_arg0) := by
  rw [V12_ne m d (b := main_arg0) (by decide), V11_ne m d (b := main_arg0) (by decide), V10_ne m d (b := main_arg0) (by decide), V9_ne m d (b := main_arg0) (by decide), V8_ne m d (b := main_arg0) (by decide), V7_ne m d (b := main_arg0) (by decide), V6_ne m d (b := main_arg0) (by decide), V5_ne m d (b := main_arg0) (by decide), V4_ne m d (b := main_arg0) (by decide), V3_ne m d (b := main_arg0) (by decide), V2_ne m d (b := main_arg0) (by decide), V1_ne m d (b := main_arg0) (by decide)]; rfl
theorem V12_arg1 (d : Dev nD) : V12 m d (dr main_arg1) = m ((SparseCore.T d).loc main_arg1) := by
  rw [V12_ne m d (b := main_arg1) (by decide), V11_ne m d (b := main_arg1) (by decide), V10_ne m d (b := main_arg1) (by decide), V9_ne m d (b := main_arg1) (by decide), V8_ne m d (b := main_arg1) (by decide), V7_ne m d (b := main_arg1) (by decide), V6_ne m d (b := main_arg1) (by decide), V5_ne m d (b := main_arg1) (by decide), V4_ne m d (b := main_arg1) (by decide), V3_ne m d (b := main_arg1) (by decide), V2_ne m d (b := main_arg1) (by decide), V1_ne m d (b := main_arg1) (by decide)]; rfl
theorem V11_v2 (d : Dev nD) : V11 m d (dr main_v2) = out m d 0 := by
  rw [V11_ne m d (b := main_v2) (by decide), V10_ne m d (b := main_v2) (by decide), V9_ne m d (b := main_v2) (by decide), V8_ne m d (b := main_v2) (by decide), V7_ne m d (b := main_v2) (by decide), V6_ne m d (b := main_v2) (by decide), V5_ne m d (b := main_v2) (by decide), V4_ne m d (b := main_v2) (by decide), V3_v2]
theorem V11_v4 (d : Dev nD) : V11 m d (dr main_v4) = out m d 1 := by
  rw [V11_ne m d (b := main_v4) (by decide), V10_ne m d (b := main_v4) (by decide), V9_ne m d (b := main_v4) (by decide), V8_ne m d (b := main_v4) (by decide), V7_ne m d (b := main_v4) (by decide), V6_ne m d (b := main_v4) (by decide), V5_v4]
theorem V11_v6 (d : Dev nD) : V11 m d (dr main_v6) = out m d 2 := by
  rw [V11_ne m d (b := main_v6) (by decide), V10_ne m d (b := main_v6) (by decide), V9_ne m d (b := main_v6) (by decide), V8_ne m d (b := main_v6) (by decide), V7_v6]
theorem V11_v8 (d : Dev nD) : V11 m d (dr main_v8) = out m d 3 := by
  rw [V11_ne m d (b := main_v8) (by decide), V10_ne m d (b := main_v8) (by decide), V9_v8]
theorem V12_v11 (d : Dev nD) : V12 m d (dr main_v11) = joined (out m d) := by
  have e : V12 m d (dr main_v11) = joined (F := F) (fun | 0 => V11 m d (dr main_v2) | 1 => V11 m d (dr main_v4) | 2 => V11 m d (dr main_v6) | 3 => V11 m d (dr main_v8) | 4 => V11 m d (dr main_v10)) := by
    unfold V12; rw [StableHlo.nary_result']; rfl
  rw [e, V11_v2, V11_v4, V11_v6, V11_v8, V11_v10]; rfl

/-! ## @main -/

/-- What the claims read: the two arguments as they were, the result. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ (SparseCore.T d).loc main_v11 ↦{fullShare} (joined (out m d)))

theorem held_fin (d : Dev nD) : (held (SparseCore.T d) uc (V12 m d) : sProp 𝕄) ⊢ FIN m d := by
  unfold held FIN
  rw [SparseCore.bigSep_erase' (dr_mem main_arg0 rfl), SparseCore.bigSep_erase' (Finset.mem_erase.mpr ⟨by decide, dr_mem main_arg1 rfl⟩),
    SparseCore.bigSep_erase' (Finset.mem_erase.mpr ⟨by decide, Finset.mem_erase.mpr ⟨by decide, dr_mem main_v11 rfl⟩⟩), V12_arg0, V12_arg1, V12_v11]
  iintro ⟨Ha, Hb, Hc, -⟩
  isplitl [Ha]; · iexact Ha
  isplitl [Hb]; · iexact Hb
  iexact Hc

set_option maxHeartbeats 1000000 in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 5 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) uc (V0 m d) from Pipeline.unscopedBufs_held d (V0 m d)]
  simp only [main, wp_bind, wp_pure]
  iintro ⟨#Hctx, Hst, ⟨Hb, Hheld, Hts, -⟩, -⟩
  iapply (wp_hlo_within 𝒱 (SparseCore.T d) none Set.univ (op := opR) (S := uc) (Pipeline.sub_ucRefs opR (StableHlo.reshape_bufs_sub _ _ _ _ _ _)) (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opS0) (S := uc) (Pipeline.sub_ucRefs opS0 (StableHlo.unary_bufs_sub _ _ _ _ _)) (V := V1 m d)) $$ [Hb Hheld]
  · isplitl [Hb]; · iexact Hb
    iexact Hheld
  iintro ⟨Hb, Hheld⟩
  rw [wp_ret]; imodintro
  iapply (call_step m κ d 0 main_v1 main_v2 rfl rfl (by decide) (by decide) (by decide) (V2 m d) (out m d 0)
    (by rw [st_eq0, V2_v1, V2_v2, V2_arg0]) (by rw [dn_eq0, V2_v1, V2_arg0])) $$ [Hst Hheld Hb Hts]
  isplitr; · iexact Hctx
  isplitl [Hst]; · iexact Hst
  isplitl [Hheld]; · iexact Hheld
  iintro ⟨Hst, Hheld⟩
  iapply (wp_hlo_within 𝒱 (SparseCore.T d) none Set.univ (op := opS1) (S := uc) (Pipeline.sub_ucRefs opS1 (StableHlo.unary_bufs_sub _ _ _ _ _)) (V := V3 m d)) $$ [Hb Hheld]
  · isplitl [Hb]; · iexact Hb
    iexact Hheld
  iintro ⟨Hb, Hheld⟩
  rw [wp_ret]; imodintro
  iapply (call_step m κ d 1 main_v3 main_v4 rfl rfl (by decide) (by decide) (by decide) (V4 m d) (out m d 1)
    (by rw [st_eq1, V4_v3, V4_v4, V4_arg0]) (by rw [dn_eq1, V4_v3, V4_arg0])) $$ [Hst Hheld Hb Hts]
  isplitr; · iexact Hctx
  isplitl [Hst]; · iexact Hst
  isplitl [Hheld]; · iexact Hheld
  iintro ⟨Hst, Hheld⟩
  iapply (wp_hlo_within 𝒱 (SparseCore.T d) none Set.univ (op := opS2) (S := uc) (Pipeline.sub_ucRefs opS2 (StableHlo.unary_bufs_sub _ _ _ _ _)) (V := V5 m d)) $$ [Hb Hheld]
  · isplitl [Hb]; · iexact Hb
    iexact Hheld
  iintro ⟨Hb, Hheld⟩
  rw [wp_ret]; imodintro
  iapply (call_step m κ d 2 main_v5 main_v6 rfl rfl (by decide) (by decide) (by decide) (V6 m d) (out m d 2)
    (by rw [st_eq2, V6_v5, V6_v6, V6_arg0]) (by rw [dn_eq2, V6_v5, V6_arg0])) $$ [Hst Hheld Hb Hts]
  isplitr; · iexact Hctx
  isplitl [Hst]; · iexact Hst
  isplitl [Hheld]; · iexact Hheld
  iintro ⟨Hst, Hheld⟩
  iapply (wp_hlo_within 𝒱 (SparseCore.T d) none Set.univ (op := opS3) (S := uc) (Pipeline.sub_ucRefs opS3 (StableHlo.unary_bufs_sub _ _ _ _ _)) (V := V7 m d)) $$ [Hb Hheld]
  · isplitl [Hb]; · iexact Hb
    iexact Hheld
  iintro ⟨Hb, Hheld⟩
  rw [wp_ret]; imodintro
  iapply (call_step m κ d 3 main_v7 main_v8 rfl rfl (by decide) (by decide) (by decide) (V8 m d) (out m d 3)
    (by rw [st_eq3, V8_v7, V8_v8, V8_arg0]) (by rw [dn_eq3, V8_v7, V8_arg0])) $$ [Hst Hheld Hb Hts]
  isplitr; · iexact Hctx
  isplitl [Hst]; · iexact Hst
  isplitl [Hheld]; · iexact Hheld
  iintro ⟨Hst, Hheld⟩
  iapply (wp_hlo_within 𝒱 (SparseCore.T d) none Set.univ (op := opS4) (S := uc) (Pipeline.sub_ucRefs opS4 (StableHlo.unary_bufs_sub _ _ _ _ _)) (V := V9 m d)) $$ [Hb Hheld]
  · isplitl [Hb]; · iexact Hb
    iexact Hheld
  iintro ⟨Hb, Hheld⟩
  rw [wp_ret]; imodintro
  iapply (call_step m κ d 4 main_v9 main_v10 rfl rfl (by decide) (by decide) (by decide) (V10 m d) (out m d 4)
    (by rw [st_eq4, V10_v9, V10_v10, V10_arg0]) (by rw [dn_eq4, V10_v9, V10_arg0])) $$ [Hst Hheld Hb Hts]
  isplitr; · iexact Hctx
  isplitl [Hst]; · iexact Hst
  isplitl [Hheld]; · iexact Hheld
  iintro ⟨Hst, Hheld⟩
  iapply (wp_hlo_within 𝒱 (SparseCore.T d) none Set.univ (op := opC) (S := uc) (Pipeline.sub_ucRefs opC (StableHlo.nary_bufs_sub _ _ _ _ _)) (V := V11 m d)) $$ [Hb Hheld]
  · isplitl [Hb]; · iexact Hb
    iexact Hheld
  iintro ⟨Hb, Hheld⟩
  rw [wp_ret]; imodintro
  imodintro
  isplitl [Hst]; · iexact Hst
  isplitl [Hheld]; · iapply (held_fin m d); iexact Hheld
  isplitl [Hb] <;> iassumption

/-! ## What a final state shows -/

def fq (d : Dev nD) (s' : Phys nD τ sig (Elt F)) : Prop :=
  s'.mem.mem ((SparseCore.T d).loc main_v11) = joined (out m d) ∧ s'.mem.mem ((SparseCore.T d).loc main_arg0) = m ((SparseCore.T d).loc main_arg0)
    ∧ s'.mem.mem ((SparseCore.T d).loc main_arg1) = m ((SparseCore.T d).loc main_arg1)

set_option maxRecDepth 16384 in
theorem hfin (d : Dev nD) (s' : Phys nD τ sig (Elt F)) : iprop(FIN m d ∗ SI s') ⊢ (⌜fq m d s'⌝ : sProp 𝕄) := by
  iintro ⟨⟨Ha, Hb, Hc⟩, HSI⟩
  ihave H := (persistent_entails_right (SI_pointsTo_agree (st := s') (ℓ := (SparseCore.T d).loc main_arg0) (I := Finset.univ) (q := fullShare) (f := m ((SparseCore.T d).loc main_arg0)))) $$ [HSI Ha]
  · isplitl [HSI] <;> iassumption
  icases H with ⟨%h1, HSI, -⟩
  ihave H := (persistent_entails_right (SI_pointsTo_agree (st := s') (ℓ := (SparseCore.T d).loc main_arg1) (I := Finset.univ) (q := fullShare) (f := m ((SparseCore.T d).loc main_arg1)))) $$ [HSI Hb]
  · isplitl [HSI] <;> iassumption
  icases H with ⟨%h2, HSI, -⟩
  ihave H := (SI_pointsTo_agree (st := s') (ℓ := (SparseCore.T d).loc main_v11) (I := Finset.univ) (q := fullShare) (f := joined (out m d))) $$ [HSI Hc]
  · isplitl [HSI] <;> iassumption
  icases H with %h3
  ipureintro
  exact ⟨funext fun i => h3 i (Finset.mem_univ i), funext fun i => h1 i (Finset.mem_univ i), funext fun i => h2 i (Finset.mem_univ i)⟩

/-! ## The run -/

/-- What every run ends in: the result the five gathers joined, the arguments as they were, every counter at zero. -/
def QC : PUnit × MemSt nD τ sig (Elt F) → Prop := fun r =>
  (∀ d : Dev nD, r.2.mem ((SparseCore.T d).loc main_v11) = joined (out m d) ∧ r.2.mem ((SparseCore.T d).loc main_arg0) = m ((SparseCore.T d).loc main_arg0)
    ∧ r.2.mem ((SparseCore.T d).loc main_arg1) = m ((SparseCore.T d).loc main_arg1)) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq | 2 => nomatch hq | 3 => nomatch hq | 4 => nomatch hq)
    (fun q _ => match q with | 0 => tileObl0 m hpre | 1 => tileObl1 m hpre | 2 => tileObl2 m hpre | 3 => tileObl3 m hpre | 4 => tileObl4 m hpre)
    (fun q _ => SparseCore.Cfg.VecSplit.of_plain (vecSplit m q))
    m ρ main (fun _ => iprop(emp)) (FIN m) (u₀ (F := F)) (sep_elim_left.trans (hu₀ m)) (hmain m ρ) (fq m) (hfin m) (QC m) (fun _ h hz => ⟨h, hz⟩)

end Cert.Proof.Gather
-- ==== Proof.Gather.Value.lean ====
/-
  The value: what the five gathers leave, joined, is the reference's array, element by element. Both are the table at the
  row that the number at (r / 16, r % 16) names, r the result's row.
-/
module

public import proofs.«01_k».proof.Proof.Gather.Main
public import proofs.«01_k».proof.Proof.Gen.ReferenceIdeal.Run
public import proofs.«01_k».proof.Proof.Gen.Pre_in_range
public import Idealize.ShloMosaic.Lib.Pipeline.Value
public import Idealize.ShloMosaic.Lib.ReduceAll

@[expose] public section

noncomputable section

namespace Cert.Proof.Gather

open Cert.KernelIdeal Cert.KernelIdeal.Gen
open Idealize.ShloMosaic Idealize.ShloMosaic.ValueIdx
open Idealize.SL.Sem

variable {F : FTy → Type}

abbrev nIx (r : Fin 10240) (s : Fin 16) : S10240x16.Idx := ix2 (n0 := 10240) (n1 := 16) r s

/-- The gathered rows: row `r` of the result is the table's row that the number at (r / 16, r % 16) names. -/
def gathered (t : S10000x128.Idx → Elt F .i32) (x : S10240x16.Idx → Elt F .i32) : S160000x128.Idx → Elt F .i32 := fun y =>
  t (tIx ⟨(x (nIx ⟨(y 0).val / 16, by have : (y 0).val < 160000 := (y 0).isLt; omega⟩ ⟨(y 0).val % 16, Nat.mod_lt _ (by decide)⟩)).toNat % 10000, Nat.mod_lt _ (by decide)⟩
    ⟨(y 1).val, (y 1).isLt⟩)

/-! ## The kernel's side -/

variable (m : (ℓ : Loc nD τ sig) → Buf (Elt F) ℓ)

theorem nums_apply (d : Dev nD) (k : Fin 163840) :
    nums m d (ix2 (n0 := 1) (n1 := 163840) 0 k)
      = m ((SparseCore.T d).loc main_arg1) (nIx ⟨k.val / 16, by omega⟩ ⟨k.val % 16, Nat.mod_lt _ (by decide)⟩) := by
  unfold nums
  refine shapeCast_apply _ _ _ _ ?_
  show (S10240x16.rowMajor _).val = (S1x163840.rowMajor _).val
  rw [Shape.rowMajor_val_two, Shape.rowMajor_val_two]
  show k.val / 16 * 16 + k.val % 16 = 0 * 163840 + k.val
  omega

theorem chunk_apply (d : Dev nD) (q : Fin 5) (k : Fin 32000) :
    chunk m d q (xIx k)
      = m ((SparseCore.T d).loc main_arg1) (nIx ⟨(32000 * q.val + k.val) / 16, by omega⟩ ⟨(32000 * q.val + k.val) % 16, Nat.mod_lt _ (by decide)⟩) := by
  rw [← nums_apply m d ⟨32000 * q.val + k.val, by omega⟩]
  unfold chunk
  refine extractStridedSlice_apply _ _ _ _ _ ?_
  intro a
  match a with
  | ⟨0, _⟩ => rfl
  | ⟨1, _⟩ => rfl

/-- The five results joined are the gathered rows. -/
theorem joined_out (d : Dev nD) : joined (out m d) = gathered (tbl m d) (m ((SparseCore.T d).loc main_arg1)) := by
  funext y
  have h0 : (y 0).val < 160000 := (y 0).isLt
  have h1 : (y 1).val < 128 := (y 1).isLt
  have hc := concatenate_ofFn_apply (t := S160000x128) (s₁ := S32000x128) (0 : Fin 2) (N := 5) (out m d)
    concatenates_S32000x128_S32000x128_S32000x128_S32000x128_S32000x128_S160000x128_d0 rfl 32000 rfl y ⟨(y 0).val / 32000, by omega⟩ rfl
    (ix2 (n0 := 32000) (n1 := 128) ⟨(y 0).val % 32000, Nat.mod_lt _ (by decide)⟩ ⟨(y 1).val, h1⟩) rfl
    (fun b hb => match b with
      | ⟨0, _⟩ => absurd rfl hb
      | ⟨1, _⟩ => rfl)
  refine (show joined (out m d) y = _ from hc).trans ?_
  unfold out rowsOf gathered
  have e : 32000 * ((y 0).val / 32000) + (y 0).val % 32000 = (y 0).val := by omega
  have hk := chunk_apply m d ⟨(y 0).val / 32000, by omega⟩ ⟨(y 0).val % 32000, Nat.mod_lt _ (by decide)⟩
  simp only [e] at hk
  exact congrArg (tbl m d) (congrArg₂ tIx (Fin.ext (congrArg (fun w : BitVec 32 => w.toNat % 10000) hk)) rfl)

/-! ## The reference's side -/

/-- The host's gather of whole rows, read at an index: the row's number read signed and clamped. -/
theorem gather_rows_apply {α : Type} (t : S10000x128.Idx → α) (idx : IVec Cert.ReferenceIdeal.S10000x16x1 32) (y : Cert.ReferenceIdeal.S10000x16x128.Idx) :
    Host.gather Cert.ReferenceIdeal.gather_S10000x128_S10000x16x1_S10000x16x128_2_0_n_n_0_2_1128 t idx y
      = t (tIx ⟨min (idx (ix3 (n0 := 10000) (n1 := 16) (n2 := 1) ⟨(y 0).val, (y 0).isLt⟩ ⟨(y 1).val, (y 1).isLt⟩ 0)).toInt.toNat 9999, by omega⟩ ⟨(y 2).val, (y 2).isLt⟩) := by
  unfold Host.gather
  refine congrArg t (funext fun a => Fin.ext ?_)
  set G := Cert.ReferenceIdeal.gather_S10000x128_S10000x16x1_S10000x16x128_2_0_n_n_0_2_1128 with hG
  have hb : G.batchCoord y a = 0 := GatherDims.batchCoord_eq_zero _ _ _ List.not_mem_nil
  match a with
  | ⟨0, _⟩ =>
    show G.start y idx 0 + G.batchCoord y 0 + G.offCoord y 0 = _
    have ho : G.offCoord y 0 = 0 := GatherDims.offCoord_eq_zero _ _ _ (fun h => ((GatherDims.mem_sKept _ _).mp h).1 (List.mem_singleton.mpr rfl))
    have hb : G.batchCoord y 0 = 0 := GatherDims.batchCoord_eq_zero _ _ _ List.not_mem_nil
    rw [hb, ho]
    unfold GatherDims.start
    rw [dif_pos (show (0 : Fin 2) ∈ G.startIndexMap from List.mem_singleton.mpr rfl)]
    have hs : ∀ k, G.siIdx y k = ix3 (n0 := 10000) (n1 := 16) (n2 := 1) ⟨(y 0).val, (y 0).isLt⟩ ⟨(y 1).val, (y 1).isLt⟩ 0 := by
      intro k; funext b; refine Fin.ext ?_
      match b with
      | ⟨0, _⟩ => rfl
      | ⟨1, _⟩ => rfl
      | ⟨2, _⟩ => have := k.isLt; show k.val = 0; exact Nat.lt_one_iff.mp this
    rw [hs]
    rfl
  | ⟨1, _⟩ =>
    show G.start y idx 1 + G.batchCoord y 1 + G.offCoord y 1 = _
    have hb : G.batchCoord y 1 = 0 := GatherDims.batchCoord_eq_zero _ _ _ List.not_mem_nil
    have hst : G.start y idx 1 = 0 := by
      unfold GatherDims.start
      rw [dif_neg (show ¬ (1 : Fin 2) ∈ G.startIndexMap by decide)]
    rw [hb, hst]
    show 0 + 0 + G.offCoord y 1 = (y 2).val
    refine (Nat.zero_add _).trans ?_
    unfold GatherDims.offCoord
    rw [dif_pos (show (1 : Fin 2) ∈ G.sKept from (GatherDims.mem_sKept _ _).mpr ⟨by decide, List.not_mem_nil⟩)]
    rfl

/-- The reference's result, where every number is a row of the table. -/
theorem reference_eq (t : S10000x128.Idx → Elt F .i32) (x : S10240x16.Idx → Elt F .i32) (hx : ∀ j, (x j).toNat < 10000) [FloatOps F] :
    shapeCast Cert.ReferenceIdeal.S160000x128 (Host.gather Cert.ReferenceIdeal.gather_S10000x128_S10000x16x1_S10000x16x128_2_0_n_n_0_2_1128 t
      (broadcastInDim Cert.ReferenceIdeal.S10000x16x1 ![0, 1] Cert.ReferenceIdeal.Gen.bcast_S10000x16_S10000x16x1_0_1
        (select (cmpi .slt (extractStridedSlice Cert.ReferenceIdeal.S10000x16 ![0, 0] x Cert.ReferenceIdeal.Gen.slices_S10240x16_S10000x16_0_0)
            (broadcastInDim Cert.ReferenceIdeal.S10000x16 ![] Cert.ReferenceIdeal.Gen.bcast_S_S10000x16 (constantI Cert.ReferenceIdeal.S_ 32 0#32)))
          (addi (extractStridedSlice Cert.ReferenceIdeal.S10000x16 ![0, 0] x Cert.ReferenceIdeal.Gen.slices_S10240x16_S10000x16_0_0)
            (broadcastInDim Cert.ReferenceIdeal.S10000x16 ![] Cert.ReferenceIdeal.Gen.bcast_S_S10000x16 (constantI Cert.ReferenceIdeal.S_ 32 10000#32)))
          (extractStridedSlice Cert.ReferenceIdeal.S10000x16 ![0, 0] x Cert.ReferenceIdeal.Gen.slices_S10240x16_S10000x16_0_0))))
      Cert.ReferenceIdeal.Gen.shapeCasts_S10000x16x128_S160000x128 = gathered t x := by
  funext y
  have h0 : (y 0).val < 160000 := (y 0).isLt
  have h1 : (y 1).val < 128 := (y 1).isLt
  set N := ix3 (n0 := 10000) (n1 := 16) (n2 := 128) ⟨(y 0).val / 16, by omega⟩ ⟨(y 0).val % 16, Nat.mod_lt _ (by decide)⟩ ⟨(y 1).val, h1⟩ with hN
  refine (shapeCast_apply _ _ y N (by
    rw [Shape.rowMajor_val_three, Shape.rowMajor_val_two]
    show ((y 0).val / 16 * 16 + (y 0).val % 16) * 128 + (y 1).val = (y 0).val * 128 + (y 1).val
    omega)).trans ((gather_rows_apply t _ N).trans ?_)
  have hsl : extractStridedSlice Cert.ReferenceIdeal.S10000x16 ![0, 0] x Cert.ReferenceIdeal.Gen.slices_S10240x16_S10000x16_0_0
      (ix2 (n0 := 10000) (n1 := 16) ⟨(y 0).val / 16, by omega⟩ ⟨(y 0).val % 16, Nat.mod_lt _ (by decide)⟩)
      = x (nIx ⟨(y 0).val / 16, by omega⟩ ⟨(y 0).val % 16, Nat.mod_lt _ (by decide)⟩) :=
    extractStridedSlice_apply _ _ _ _ _ (fun a => by
      match a with
      | ⟨0, _⟩ => exact (Nat.zero_add _).symm
      | ⟨1, _⟩ => exact (Nat.zero_add _).symm)
  have hlt := hx (nIx ⟨(y 0).val / 16, by omega⟩ ⟨(y 0).val % 16, Nat.mod_lt _ (by decide)⟩)
  have hint : (x (nIx ⟨(y 0).val / 16, by omega⟩ ⟨(y 0).val % 16, Nat.mod_lt _ (by decide)⟩)).toInt
      = ((x (nIx ⟨(y 0).val / 16, by omega⟩ ⟨(y 0).val % 16, Nat.mod_lt _ (by decide)⟩)).toNat : Int) := by
    rw [BitVec.toInt_eq_toNat_cond, if_pos (by omega)]
  have hsel : ∀ (a b : IVec Cert.ReferenceIdeal.S10000x16 32) (j : Cert.ReferenceIdeal.S10000x16.Idx) (z : IVec Cert.ReferenceIdeal.S10000x16 32), z j = 0#32 → 0 ≤ (b j).toInt →
      select (cmpi .slt b z) a b j = b j := by
    intro a b j z hz hb
    show (if IntOp.cmpi .slt (b j) (z j) = 1#1 then a j else b j) = b j
    rw [if_neg]
    rw [IntOp.cmpi_slt, hz, show (0#32 : BitVec 32).toInt = 0 from by decide]
    omega
  unfold gathered
  refine congrArg t (congrArg₂ tIx (Fin.ext ?_) rfl)
  refine (congrArg (fun w : BitVec 32 => min w.toInt.toNat 9999) ((broadcastInDim_apply _ _ _ _
    (ix2 (n0 := 10000) (n1 := 16) ⟨(y 0).val / 16, by omega⟩ ⟨(y 0).val % 16, Nat.mod_lt _ (by decide)⟩) (fun a => by
    match a with
    | ⟨0, _⟩ => rfl
    | ⟨1, _⟩ => rfl)).trans ((hsel _ _ _ _ rfl (by rw [hsl, hint]; exact Int.natCast_nonneg _)).trans hsl))).trans ?_
  show min (x _).toInt.toNat 9999 = (x _).toNat % 10000
  rw [hint, Int.toNat_natCast, Nat.mod_eq_of_lt hlt]
  omega

/-! ## The numbers' range -/

/-- What the precondition says: every number names a row of the table. -/
theorem lt_of_pre [FloatOps F] (t : IVec Cert.Pre_in_range.S10000x128 32) (x : IVec Cert.Pre_in_range.S10240x16 32)
    (h : Cert.Pre_in_range.fn (F := F) t x = fun _ => 1#1) (j : Cert.Pre_in_range.S10240x16.Idx) : (x j).toNat < 10000 := by
  haveI : Subsingleton Cert.Pre_in_range.S_.Idx := ⟨fun a b => funext fun k => k.elim0⟩
  have e := Host.reduce_andi_all _ _ _ _ _ (congrFun h (Shape.Idx.first Cert.Pre_in_range.Gen.h_S_)) j
  obtain ⟨e0, e1⟩ := IntOp.andi_eq_one.mp e
  have h0 : (0#32 : BitVec 32).toInt ≤ (x j).toInt := IntOp.cmpi_sge.mp e0
  have h1 : (x j).toInt < (10000#32 : BitVec 32).toInt := IntOp.cmpi_slt.mp e1
  rw [show (0#32 : BitVec 32).toInt = 0 from by decide] at h0
  rw [show (10000#32 : BitVec 32).toInt = 10000 from by decide] at h1
  rw [BitVec.toInt_eq_toNat_cond] at h0 h1
  have := (x j).isLt
  split at h0 <;> omega

end Cert.Proof.Gather
-- ==== Proof.Embed.Value.lean ====
/-
The embedding call and its reference: both give every row of the features times the matrix, plus the vector.
-/
module

public import proofs.«01_k».proof.Proof.Gen.EmbedIdeal.Value
public import proofs.«01_k».proof.Proof.Gen.EmbedReferenceIdeal
public import proofs.«01_k».proof.Proof.Gen.EmbedReferenceIdeal.Run
public import Idealize.ShloMosaic.Lib.Pipeline.ValueKit
public import Idealize.ShloMosaic.Lib.Pointwise

@[expose] public section

set_option maxRecDepth 16384

noncomputable section

namespace Cert.Proof.Embed

open Cert.EmbedIdeal Cert.EmbedIdeal.Gen Idealize.ShloMosaic Idealize.ShloMosaic.TcCoe Idealize.SL.Sem

/-- The input embedding: every row of `x` times the matrix `w`, and the vector `b` added. -/
def embedded (x : Vec Ideal S10000x128 .f32) (w : Vec Ideal S128x128 .f32) (b : Vec Ideal S128 .f32) : Vec Ideal S10000x128 .f32 :=
  fun i => (∑ k : Fin 128, x (ix2 (i 0) k) * w (ix2 k (i 1))) + b (ix1 (i 1))

/-- Grid point `t` reads block row `t` of the first operand and writes block row `t` of the result; the other two operands it reads whole. -/
theorem index0 : ∀ t : Fin cfg0.N, win0_0.index t = ![t.val, 0] := (by decide +kernel : ∀ t : Fin grid0.N, win0_0.index t = ![t.val, 0])
/-- The matrix is read whole at every grid point. -/
theorem index1 : ∀ t : Fin cfg0.N, win0_1.index t = ![0, 0] := (by decide +kernel : ∀ t : Fin grid0.N, win0_1.index t = ![0, 0])
/-- So is the vector. -/
theorem index2 : ∀ t : Fin cfg0.N, win0_2.index t = ![0, 0] := (by decide +kernel : ∀ t : Fin grid0.N, win0_2.index t = ![0, 0])
/-- Grid point `t` writes block row `t` of the result. -/
theorem index3 : ∀ t : Fin cfg0.N, win0_3.index t = ![t.val, 0] := (by decide +kernel : ∀ t : Fin grid0.N, win0_3.index t = ![t.val, 0])

/-- The array the kernel leaves is the embedding: every block is written once, by its own grid point. -/
theorem arrAt_eq (m : (ℓ : Loc nD τ sig) → Buf (Elt Ideal) ℓ) (c : Dev nD) :
    (dats m 0 c).arrAt 3 cfg0.N = embedded (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  pointwise [k0_pay1, embedded]
  blk_point [iblk, V, index0, index1, index2, index3]

/-- So is the reference's term. -/
theorem reference_eq (x : FVec Ideal S10000x128 .f32) (w : FVec Ideal S128x128 .f32) (b : FVec Ideal S128 .f32) :
    addf (Host.dotGeneral Cert.EmbedReferenceIdeal.dot_S10000x128_S128x128_S10000x128_1_0_0_1_n_n none x w) (broadcastInDim S10000x128 ![0, 1] Cert.EmbedReferenceIdeal.Gen.bcast_S1x128_S10000x128_0_1 (broadcastInDim Cert.EmbedReferenceIdeal.S1x128 ![1] Cert.EmbedReferenceIdeal.Gen.bcast_S128_S1x128_1 b))
      = embedded x w b := by
  funext i
  pointwise [embedded]

end Cert.Proof.Embed
-- ==== Proof.Embed.Claims.lean ====
/-
The claims of the embedding call: it ends with its arguments as they were, and computes what its reference computes.
-/
module

public import proofs.«01_k».proof.Defs
public import proofs.«01_k».proof.Proof.Gen.Embed
public import proofs.«01_k».proof.Proof.Gen.Embed.Frame
public import proofs.«01_k».proof.Proof.Embed.Value
public import Idealize.ShloMosaic.Adequacy
public import Idealize.ShloMosaic.Init

@[expose] public section

noncomputable section

namespace Cert.Proof.Embed

open Idealize.ShloMosaic Idealize.SL.Sem

/-- The frame of the program as printed. -/
theorem frame : Cert.quiescent_Embed := fun m ρ _ => Cert.Embed.Gen.frame (F := Bits) m ρ

/-- The frame of its ideal reading. -/
theorem frameIdeal : Cert.quiescent_EmbedIdeal := fun m ρ _ => Cert.EmbedIdeal.Gen.frame (F := Ideal) m ρ

/-- The frame of the reference, which has no counter. -/
theorem frameReference : Cert.quiescent_EmbedReferenceIdeal := fun m ρ _ =>
  (θ_run Cert.EmbedReferenceIdeal.defs _ _).mono (fun r hr => ⟨fun c => (hr c).2, sem_eq_zero_of_no_sems (by decide) r.2⟩)
    (Cert.EmbedReferenceIdeal.Value.run m ρ)

/-- The ideal claim: equal results, from the same arguments. -/
theorem algebraic : Cert.algebraic_EmbedIdeal_EmbedReferenceIdeal := fun m ρ m' ρ' _ hm =>
  ⟨fun c => embedded (m ((c.tc : Thread Cert.EmbedIdeal.nD Cert.EmbedIdeal.τ).loc Cert.EmbedIdeal.main_arg0)) (m ((c.tc : Thread Cert.EmbedIdeal.nD Cert.EmbedIdeal.τ).loc Cert.EmbedIdeal.main_arg1))
      (m ((c.tc : Thread Cert.EmbedIdeal.nD Cert.EmbedIdeal.τ).loc Cert.EmbedIdeal.main_arg2)),
    (θ_run Cert.EmbedIdeal.defs _ _).mono (fun _ hr c => ⟨(hr c).1.trans (arrAt_eq m c), (hr c).2⟩) (Cert.EmbedIdeal.Value.run_blocks (F := Ideal) m ρ),
    (θ_run Cert.EmbedReferenceIdeal.defs _ _).mono
      (fun _ hr c => ⟨((hr c).1.trans (reference_eq _ _ _)).trans (by rw [(hm c).1, (hm c).2.1, (hm c).2.2]), (hr c).2⟩)
      (Cert.EmbedReferenceIdeal.Value.run (F := Ideal) m' ρ')⟩

end Cert.Proof.Embed

end
-- ==== Proof.Attn.Row.lean ====
/-
  One row of the attention kernel's result, as a function of the row's query, the words of its 16 gathered rows, its input
  and the weights: the scores of the 16 neighbours under each of the 8 heads, their softmax, the weighted mean of the
  values, the output projection, and two residual blocks, each followed by a layer norm. Both programs are shown to
  compute it.
-/
module

public import Idealize.ShloMosaic.Lib.Pointwise

@[expose] public section

noncomputable section

namespace Cert.Proof.Attn

open Idealize.ShloMosaic

/-- The key packed in the low half of a word. -/
def keyOf (w : BitVec 32) : EReal := Ideal.ofBits .f32 (IntOp.shli ArithUnit.vector w 16#32)

/-- The value packed in the high half of a word. -/
def valOf (w : BitVec 32) : EReal := Ideal.ofBits .f32 (IntOp.andi w 4294901760#32)

/-- Column `d` of head `h`. -/
def col (h : Fin 8) (d : Fin 16) : Fin 128 := ⟨h.val * 16 + d.val, by omega⟩

/-- The head a column belongs to. -/
def headOf (j : Fin 128) : Fin 8 := ⟨j.val / 16, by omega⟩

/-- Neighbour `k`'s score under head `h`: the query times the key over the head's columns, over the root of their number, clipped to ±5. -/
def score (q : Fin 128 → EReal) (kv : Fin 16 → Fin 128 → BitVec 32) (k : Fin 16) (h : Fin 8) : EReal :=
  min (Ideal.ofBits .f32 1084227584#32) (max (Ideal.ofBits .f32 3231711232#32)
    (Ideal.div (∑ d, q (col h d) * keyOf (kv k (col h d))) (Ideal.sqrt (Ideal.ofBits .f32 1098907648#32))))

/-- The greatest of the 16 scores under a head. -/
def top (s : Fin 16 → EReal) : EReal := Finset.fold max (Ideal.ofBits .f32 4286578688#32) s Finset.univ

/-- The softmax of 16 scores. -/
def softmax (s : Fin 16 → EReal) (k : Fin 16) : EReal :=
  Ideal.div (Ideal.exp (s k - top s)) (∑ k', Ideal.exp (s k' - top s))

/-- The weighted sum of the 16 values, each column under its head's weights. -/
def mixed (q : Fin 128 → EReal) (kv : Fin 16 → Fin 128 → BitVec 32) (j : Fin 128) : EReal :=
  ∑ k, softmax (fun k' => score q kv k' (headOf j)) k * valOf (kv k j)

/-- The mean of 128 numbers. -/
def mean (x : Fin 128 → EReal) : EReal := Ideal.div (∑ j, x j) (Ideal.ofBits .f32 1124073472#32)

/-- The layer norm of a row, scaled and shifted. -/
def norm (x s b : Fin 128 → EReal) (j : Fin 128) : EReal :=
  Ideal.div (x j - mean x) (Ideal.sqrt (mean (fun j' => (x j' - mean x) * (x j' - mean x)) + Ideal.ofBits .f32 925353388#32)) * s j + b j

/-- The row after attention, the output projection added to the row's input. -/
def projected (q : Fin 128 → EReal) (kv : Fin 16 → Fin 128 → BitVec 32) (hin : Fin 128 → EReal) (wo : Fin 128 → Fin 128 → EReal) (j : Fin 128) : EReal :=
  hin j + ∑ x, mixed q kv x * wo x j

/-- The hidden layer of the feed-forward block. -/
def hidden (x : Fin 128 → EReal) (w : Fin 128 → Fin 256 → EReal) (b : Fin 256 → EReal) (l : Fin 256) : EReal :=
  max ((∑ j, x j * w j l) + b l) 0

/-- The row after the feed-forward block, added to what went in. -/
def forward (x : Fin 128 → EReal) (w1 : Fin 128 → Fin 256 → EReal) (b1 : Fin 256 → EReal) (w2 : Fin 256 → Fin 128 → EReal) (b2 : Fin 128 → EReal)
    (j : Fin 128) : EReal :=
  x j + ((∑ l, hidden x w1 b1 l * w2 l j) + b2 j)

/-- A product with the 0/1 matrix of the heads' columns is the sum over one head's columns. -/
theorem sum_head (f : Fin 128 → EReal) (h : Fin 8) : (∑ j, f j * (if headOf j = h then 1 else 0)) = ∑ d, f (col h d) := by
  simp only [mul_ite, mul_one, mul_zero]
  rw [← Finset.sum_filter]
  refine (Finset.sum_bij (fun d _ => col h d) ?_ ?_ ?_ ?_).symm
  · intro d _
    simp only [Finset.mem_filter, Finset.mem_univ, true_and]
    exact Fin.ext (by show (h.val * 16 + d.val) / 16 = h.val; omega)
  · intro d _ d' _ e
    have := congrArg Fin.val e
    exact Fin.ext (by simpa [col] using this)
  · intro j hj
    have : j.val / 16 = h.val := by
      have := (Finset.mem_filter.mp hj).2
      exact congrArg Fin.val this
    exact ⟨⟨j.val % 16, by omega⟩, Finset.mem_univ _, Fin.ext (by show h.val * 16 + j.val % 16 = j.val; omega)⟩
  · intro d _; rfl

/-- A product with its transpose picks the column's head. -/
theorem sum_heads (f : Fin 8 → EReal) (j : Fin 128) : (∑ h, f h * (if headOf j = h then 1 else 0)) = f (headOf j) := by
  simp only [mul_ite, mul_one, mul_zero, Finset.sum_ite_eq, Finset.mem_univ, if_true]

/-- The word of 128. -/
theorem ofBits_128 : Ideal.ofBits .f32 1124073472#32 = ((128 : ℝ) : EReal) := by
  simp [Ideal.ofBits, Ideal.ieee]
  norm_cast
  norm_num

/-- A quarter of a number is the number over the root of sixteen. -/
theorem quarter (x : EReal) : x * Ideal.ofBits .f32 1048576000#32 = Ideal.div x (Ideal.sqrt (Ideal.ofBits .f32 1098907648#32)) := by
  have h16 : Ideal.ofBits .f32 1098907648#32 = ((16 : ℝ) : EReal) := by
    simp [Ideal.ofBits, Ideal.ieee]; norm_cast; norm_num
  have hq : Ideal.ofBits .f32 1048576000#32 = ((1 / 4 : ℝ) : EReal) := by
    simp [Ideal.ofBits, Ideal.ieee]; norm_cast; norm_num
  have h4 : Real.sqrt 16 = 4 := by rw [show (16 : ℝ) = 4 ^ 2 by norm_num]; exact Real.sqrt_sq (by norm_num)
  rw [h16, Ideal.sqrt_coe, if_neg (by norm_num), h4, Ideal.div_coe (by norm_num), hq]

/-- The greatest score is at least the start of the search for it. -/
theorem top_of_max (s : Fin 16 → EReal) : max (Ideal.ofBits .f32 4286578688#32) (top s) = top s :=
  max_eq_right (Finset.le_fold_max _ |>.mpr (Or.inl le_rfl))

end Cert.Proof.Attn
-- ==== Proof.Attn.Value.lean ====
/-
What the attention call leaves: one block of 200 rows at a symbolic grid point, what the block reads of each operand, and
the array that the ten blocks make up, row by row as `Row` writes it.
-/
module

public import proofs.«01_k».proof.Proof.Attn.Row
public import proofs.«01_k».proof.Proof.Gen.AttnIdeal.Value
public import Idealize.ShloMosaic.Lib.Pipeline.ValueKit

@[expose] public section

set_option maxRecDepth 16384

noncomputable section

namespace Cert.Proof.Attn

open Cert.AttnIdeal Cert.AttnIdeal.Gen Idealize.ShloMosaic Idealize.ShloMosaic.TcCoe Idealize.SL.Sem

set_option maxHeartbeats 1000000

/-- The first payload, at an index: the weighted sum of the values, given the two 0/1 matrices of the heads' columns. -/
theorem pay2 (v0 : Vec Ideal S200x128 .f32) (v5 : Vec Ideal S3200x128 .i32) (v13 : Vec Ideal S128x8 .f32) (v33 : Vec Ideal S8x128 .f32)
    (h13 : ∀ j h, v13 (ix2 j h) = if headOf j = h then 1 else 0) (h33 : ∀ h j, v33 (ix2 h j) = if headOf j = h then 1 else 0) (r : Fin 200) (j : Fin 128) :
    k0_pay2 v0 v5 v13 v33 (ix2 r j) = mixed (fun d => v0 (ix2 r d)) (fun k d => v5 (ix2 ⟨r.val * 16 + k.val, by omega⟩ d)) j := by
  pointwise [k0_pay2]
  simp only [h13, h33, sum_head, sum_heads, quarter]
  rfl

/-- The second: the projection and the first layer norm. -/
theorem pay3 (v38 : FVec Ideal S200x128 .f32) (v39 : Vec Ideal S200x128 .f32) (v40 : Vec Ideal S128x128 .f32) (v61 : Vec Ideal S1x128 .f32) (v65 : Vec Ideal S1x128 .f32) (r : Fin 200) (j : Fin 128) :
    k0_pay3 v38 v39 v40 v61 v65 (ix2 r j)
      = norm (fun d => v39 (ix2 r d) + ∑ x, v38 (ix2 r x) * v40 (ix2 x d)) (fun d => v61 (ix2 0 d)) (fun d => v65 (ix2 0 d)) j := by
  pointwise [k0_pay3]
  rfl

/-- The third: the hidden layer. -/
theorem pay4 (v38 : FVec Ideal S200x128 .f32) (v39 : Vec Ideal S200x128 .f32) (v40 : Vec Ideal S128x128 .f32) (v61 : Vec Ideal S1x128 .f32) (v65 : Vec Ideal S1x128 .f32)
    (v69 : Vec Ideal S128x256 .f32) (v71 : Vec Ideal S1x256 .f32) (r : Fin 200) (l : Fin 256) :
    k0_pay4 v38 v39 v40 v61 v65 v69 v71 (ix2 r l)
      = hidden (fun d => k0_pay3 v38 v39 v40 v61 v65 (ix2 r d)) (fun d l => v69 (ix2 d l)) (fun l => v71 (ix2 0 l)) l := by
  pointwise [k0_pay4]
  rfl

/-- The last: the second residual block and its layer norm. -/
theorem pay1 (v68 : FVec Ideal S200x128 .f32) (v76 : FVec Ideal S200x256 .f32) (v77 : Vec Ideal S256x128 .f32) (v79 : Vec Ideal S1x128 .f32) (v102 v106 : Vec Ideal S1x128 .f32) (r : Fin 200) (j : Fin 128) :
    k0_pay1 v68 v76 v77 (constant S200x128 .f32 0x00000000#32) v79 v102 v106 (ix2 r j)
      = norm (fun d => v68 (ix2 r d) + ((∑ l, v76 (ix2 r l) * v77 (ix2 l d)) + v79 (ix2 0 d))) (fun d => v102 (ix2 0 d)) (fun d => v106 (ix2 0 d)) j := by
  pointwise [k0_pay1]
  rfl

/-- The 0/1 matrix of the heads' columns, as the host lines before the kernel build it: the identity of 8, every row 16 times. -/
def heads : FVec Ideal S128x8 .f32 :=
  shapeCast S128x8 (mulf (broadcastInDim S8x16x8x1 ![0, 1, 2, 3] bcast_S8x1x8x1_S8x16x8x1_0_1_2_3 (broadcastInDim S8x1x8x1 ![0, 2] bcast_S8x8_S8x1x8x1_0_2
      (uitofp (F := Ideal) .f32 (cmpi .eq (addi (iotaInDim S8x8 32 0) (broadcastInDim S8x8 ![] bcast_S_S8x8 (constantI S_ 32 0#32))) (iotaInDim S8x8 32 1)))))
    (broadcastInDim S8x16x8x1 ![0, 1, 2, 3] bcast_S1x16x1x1_S8x16x8x1_0_1_2_3 (broadcastInDim S1x16x1x1 ![1, 3] bcast_S16x1_S1x16x1x1_1_3
      (broadcastInDim S16x1 ![] bcast_S_S16x1 (constant (F := Ideal) S_ .f32 0x3F800000#32))))) shapeCasts_S8x16x8x1_S128x8

/-- It is what the kernel is launched on. -/
theorem V_main_v7 (m : (ℓ : Loc nD τ sig) → Buf (Elt Ideal) ℓ) (c : Dev nD) : V m c main_v7 = heads := by
  show StableHlo.after [hostOps0, hostOps0_1, hostOps0_2].flatten (fun b => m (c, b)) (Proc.tc.devRef main_v7) = _
  simp only [List.flatten_cons, List.flatten_nil, List.append_nil, List.cons_append, List.nil_append]
  after_results
  rfl

/-- Its transpose is, too. -/
theorem V_main_v8 (m : (ℓ : Loc nD τ sig) → Buf (Elt Ideal) ℓ) (c : Dev nD) : V m c main_v8 = transpose S8x128 [1, 0] heads transposes_S128x8_S8x128_1_0 := by
  show StableHlo.after [hostOps0, hostOps0_1, hostOps0_2].flatten (fun b => m (c, b)) (Proc.tc.devRef main_v8) = _
  simp only [List.flatten_cons, List.flatten_nil, List.append_nil, List.cons_append, List.nil_append]
  after_results
  rfl

/-- The vectors among the weights are handed to the kernel as one row each. -/
theorem V_main_v9 (m : (ℓ : Loc nD τ sig) → Buf (Elt Ideal) ℓ) (c : Dev nD) : V m c main_v9 = shapeCast S1x128 (m ((c : Thread nD τ).loc main_arg4)) shapeCasts_S128_S1x128 := by
  show StableHlo.after [hostOps0, hostOps0_1, hostOps0_2].flatten (fun b => m (c, b)) (Proc.tc.devRef main_v9) = _
  simp only [List.flatten_cons, List.flatten_nil, List.append_nil, List.cons_append, List.nil_append]
  after_results
  rfl

/-- The first norm's shift. -/
theorem V_main_v10 (m : (ℓ : Loc nD τ sig) → Buf (Elt Ideal) ℓ) (c : Dev nD) : V m c main_v10 = shapeCast S1x128 (m ((c : Thread nD τ).loc main_arg5)) shapeCasts_S128_S1x128 := by
  show StableHlo.after [hostOps0, hostOps0_1, hostOps0_2].flatten (fun b => m (c, b)) (Proc.tc.devRef main_v10) = _
  simp only [List.flatten_cons, List.flatten_nil, List.append_nil, List.cons_append, List.nil_append]
  after_results
  rfl

/-- The hidden layer's shift. -/
theorem V_main_v11 (m : (ℓ : Loc nD τ sig) → Buf (Elt Ideal) ℓ) (c : Dev nD) : V m c main_v11 = shapeCast S1x256 (m ((c : Thread nD τ).loc main_arg7)) shapeCasts_S256_S1x256 := by
  show StableHlo.after [hostOps0, hostOps0_1, hostOps0_2].flatten (fun b => m (c, b)) (Proc.tc.devRef main_v11) = _
  simp only [List.flatten_cons, List.flatten_nil, List.append_nil, List.cons_append, List.nil_append]
  after_results
  rfl

/-- The feed-forward block's shift. -/
theorem V_main_v12 (m : (ℓ : Loc nD τ sig) → Buf (Elt Ideal) ℓ) (c : Dev nD) : V m c main_v12 = shapeCast S1x128 (m ((c : Thread nD τ).loc main_arg9)) shapeCasts_S128_S1x128 := by
  show StableHlo.after [hostOps0, hostOps0_1, hostOps0_2].flatten (fun b => m (c, b)) (Proc.tc.devRef main_v12) = _
  simp only [List.flatten_cons, List.flatten_nil, List.append_nil, List.cons_append, List.nil_append]
  after_results
  rfl

/-- The second norm's scale. -/
theorem V_main_v13 (m : (ℓ : Loc nD τ sig) → Buf (Elt Ideal) ℓ) (c : Dev nD) : V m c main_v13 = shapeCast S1x128 (m ((c : Thread nD τ).loc main_arg10)) shapeCasts_S128_S1x128 := by
  show StableHlo.after [hostOps0, hostOps0_1, hostOps0_2].flatten (fun b => m (c, b)) (Proc.tc.devRef main_v13) = _
  simp only [List.flatten_cons, List.flatten_nil, List.append_nil, List.cons_append, List.nil_append]
  after_results
  rfl

/-- The second norm's shift. -/
theorem V_main_v14 (m : (ℓ : Loc nD τ sig) → Buf (Elt Ideal) ℓ) (c : Dev nD) : V m c main_v14 = shapeCast S1x128 (m ((c : Thread nD τ).loc main_arg11)) shapeCasts_S128_S1x128 := by
  show StableHlo.after [hostOps0, hostOps0_1, hostOps0_2].flatten (fun b => m (c, b)) (Proc.tc.devRef main_v14) = _
  simp only [List.flatten_cons, List.flatten_nil, List.append_nil, List.cons_append, List.nil_append]
  after_results
  rfl

/-- The two bits as numbers. -/
theorem uitofp_one : FloatOps.uitofp (F := Ideal) .f32 1#1 = (1 : EReal) := by
  show (((1#1).toNat : ℝ) : EReal) = 1
  simp

/-- The other bit. -/
theorem uitofp_zero : FloatOps.uitofp (F := Ideal) .f32 0#1 = (0 : EReal) := by
  show (((0#1).toNat : ℝ) : EReal) = 0
  simp

/-- The matrix's entries. -/
theorem heads_apply (j : Fin 128) (h : Fin 8) : heads (ix2 j h) = if headOf j = h then 1 else 0 := by
  pointwise [heads]
  have hadd : IntOp.addi (BitVec.ofNat 32 (j.val / 16)) 0#32 = BitVec.ofNat 32 (j.val / 16) := BitVec.add_zero _
  rw [hadd]
  by_cases e : headOf j = h
  · subst e
    simp only [headOf, if_true]
    simp [IntOp.cmpi]
    exact uitofp_one
  · have e' : BitVec.ofNat 32 (j.val / 16) ≠ BitVec.ofNat 32 h.val := fun hh => e (Fin.ext (by
      have := congrArg BitVec.toNat hh
      simp only [BitVec.toNat_ofNat] at this
      show j.val / 16 = h.val
      omega))
    rw [if_neg e, show IntOp.cmpi .eq (BitVec.ofNat 32 (j.val / 16)) (BitVec.ofNat 32 h.val) = 0#1 by simp only [IntOp.cmpi, beq_eq_false_iff_ne.mpr e']; rfl]
    exact uitofp_zero

/-- The transpose's entries. -/
theorem transposed_apply (h : Fin 8) (j : Fin 128) : (transpose S8x128 [1, 0] heads transposes_S128x8_S8x128_1_0 : FVec Ideal S8x128 .f32) (ix2 h j) = if headOf j = h then 1 else 0 := by
  pointwise
  exact heads_apply j h

/-- The attention of a chunk: every row by itself. -/
def attended (q : Vec Ideal S2000x128 .f32) (kv : Vec Ideal S32000x128 .i32) (hin : Vec Ideal S2000x128 .f32) (wo : Vec Ideal S128x128 .f32)
    (s1 b1 : Vec Ideal S128 .f32) (w1 : Vec Ideal S128x256 .f32) (c1 : Vec Ideal S256 .f32) (w2 : Vec Ideal S256x128 .f32) (c2 s2 b2 : Vec Ideal S128 .f32) :
    Vec Ideal S2000x128 .f32 := fun i =>
  norm (forward (norm (projected (fun d => q (ix2 (i 0) d)) (fun k d => kv (ix2 ⟨(i 0).val * 16 + k.val, by have h : (i 0).val < 2000 := (i 0).isLt; omega⟩ d)) (fun d => hin (ix2 (i 0) d)) fun x d => wo (ix2 x d))
      (fun d => s1 (ix1 d)) fun d => b1 (ix1 d)) (fun d l => w1 (ix2 d l)) (fun l => c1 (ix1 l)) (fun l d => w2 (ix2 l d)) fun d => c2 (ix1 d))
    (fun d => s2 (ix1 d)) (fun d => b2 (ix1 d)) (i 1)

/-- Grid point `t` reads block row `t` of the queries, of the gathered rows and of the input, and writes block row `t` of the result; the rest it reads whole. -/
theorem index0 : ∀ t : Fin cfg0.N, win0_0.index t = ![t.val, 0] := (by decide +kernel : ∀ t : Fin grid0.N, win0_0.index t = ![t.val, 0])
/-- The block of the gathered rows at grid point `t`. -/
theorem index1 : ∀ t : Fin cfg0.N, win0_1.index t = ![t.val, 0] := (by decide +kernel : ∀ t : Fin grid0.N, win0_1.index t = ![t.val, 0])
/-- The block of the input at grid point `t`. -/
theorem index2 : ∀ t : Fin cfg0.N, win0_2.index t = ![t.val, 0] := (by decide +kernel : ∀ t : Fin grid0.N, win0_2.index t = ![t.val, 0])
/-- The block of the heads' matrix at grid point `t`. -/
theorem index3 : ∀ t : Fin cfg0.N, win0_3.index t = ![0, 0] := (by decide +kernel : ∀ t : Fin grid0.N, win0_3.index t = ![0, 0])
/-- The block of its transpose at grid point `t`. -/
theorem index4 : ∀ t : Fin cfg0.N, win0_4.index t = ![0, 0] := (by decide +kernel : ∀ t : Fin grid0.N, win0_4.index t = ![0, 0])
/-- The block of the output projection at grid point `t`. -/
theorem index5 : ∀ t : Fin cfg0.N, win0_5.index t = ![0, 0] := (by decide +kernel : ∀ t : Fin grid0.N, win0_5.index t = ![0, 0])
/-- The block of the first norm's scale at grid point `t`. -/
theorem index6 : ∀ t : Fin cfg0.N, win0_6.index t = ![0, 0] := (by decide +kernel : ∀ t : Fin grid0.N, win0_6.index t = ![0, 0])
/-- The block of the first norm's shift at grid point `t`. -/
theorem index7 : ∀ t : Fin cfg0.N, win0_7.index t = ![0, 0] := (by decide +kernel : ∀ t : Fin grid0.N, win0_7.index t = ![0, 0])
/-- The block of the hidden layer's matrix at grid point `t`. -/
theorem index8 : ∀ t : Fin cfg0.N, win0_8.index t = ![0, 0] := (by decide +kernel : ∀ t : Fin grid0.N, win0_8.index t = ![0, 0])
/-- The block of the hidden layer's shift at grid point `t`. -/
theorem index9 : ∀ t : Fin cfg0.N, win0_9.index t = ![0, 0] := (by decide +kernel : ∀ t : Fin grid0.N, win0_9.index t = ![0, 0])
/-- The block of the second matrix of the feed-forward block at grid point `t`. -/
theorem index10 : ∀ t : Fin cfg0.N, win0_10.index t = ![0, 0] := (by decide +kernel : ∀ t : Fin grid0.N, win0_10.index t = ![0, 0])
/-- The block of its shift at grid point `t`. -/
theorem index11 : ∀ t : Fin cfg0.N, win0_11.index t = ![0, 0] := (by decide +kernel : ∀ t : Fin grid0.N, win0_11.index t = ![0, 0])
/-- The block of the second norm's scale at grid point `t`. -/
theorem index12 : ∀ t : Fin cfg0.N, win0_12.index t = ![0, 0] := (by decide +kernel : ∀ t : Fin grid0.N, win0_12.index t = ![0, 0])
/-- The block of the second norm's shift at grid point `t`. -/
theorem index13 : ∀ t : Fin cfg0.N, win0_13.index t = ![0, 0] := (by decide +kernel : ∀ t : Fin grid0.N, win0_13.index t = ![0, 0])
/-- The block of the result at grid point `t`. -/
theorem index14 : ∀ t : Fin cfg0.N, win0_14.index t = ![t.val, 0] := (by decide +kernel : ∀ t : Fin grid0.N, win0_14.index t = ![t.val, 0])

/-- The whole payload at an index: row `r` of the block, from the block's rows. -/
theorem block (x0 : Vec Ideal S200x128 .f32) (x1 : Vec Ideal S3200x128 .i32) (x2 : Vec Ideal S200x128 .f32) (x3 : Vec Ideal S128x8 .f32) (x4 : Vec Ideal S8x128 .f32)
    (x5 : Vec Ideal S128x128 .f32) (x6 x7 : Vec Ideal S1x128 .f32) (x8 : Vec Ideal S128x256 .f32) (x9 : Vec Ideal S1x256 .f32) (x10 : Vec Ideal S256x128 .f32)
    (x11 x12 x13 : Vec Ideal S1x128 .f32) (h3 : ∀ j h, x3 (ix2 j h) = if headOf j = h then 1 else 0) (h4 : ∀ h j, x4 (ix2 h j) = if headOf j = h then 1 else 0)
    (r : Fin 200) (j : Fin 128) :
    k0_pay1 (k0_pay3 (k0_pay2 x0 x1 x3 x4) x2 x5 x6 x7) (k0_pay4 (k0_pay2 x0 x1 x3 x4) x2 x5 x6 x7 x8 x9) x10 (constant S200x128 .f32 0x00000000#32) x11 x12 x13 (ix2 r j)
      = norm (forward (norm (projected (fun d => x0 (ix2 r d)) (fun k d => x1 (ix2 ⟨r.val * 16 + k.val, by omega⟩ d)) (fun d => x2 (ix2 r d)) fun x d => x5 (ix2 x d))
          (fun d => x6 (ix2 0 d)) fun d => x7 (ix2 0 d)) (fun d l => x8 (ix2 d l)) (fun l => x9 (ix2 0 l)) (fun l d => x10 (ix2 l d)) fun d => x11 (ix2 0 d))
        (fun d => x12 (ix2 0 d)) (fun d => x13 (ix2 0 d)) j := by
  rw [pay1]
  simp only [pay4, pay3, pay2 x0 x1 x3 x4 h3 h4]
  rfl

/-- Row `r` of block `t`. -/
def row (t : Fin cfg0.N) (r : Fin 200) : Fin 2000 := ⟨t.val * 200 + r.val, by have h : t.val < 10 := t.isLt; omega⟩

/-- What each operand's block holds at grid point `t`: rows of the argument, or the whole argument. -/
theorem read0 (m : (ℓ : Loc nD τ sig) → Buf (Elt Ideal) ℓ) (c : Dev nD) (t : Fin cfg0.N) (r : Fin 200) (d : Fin 128) :
    iblk m c 0 t (ix2 r d) = m ((c : Thread nD τ).loc main_arg0) (ix2 (row t r) d) := by
  unfold row
  blk_point [iblk, V, index0]

/-- What it holds of the input. -/
theorem read2 (m : (ℓ : Loc nD τ sig) → Buf (Elt Ideal) ℓ) (c : Dev nD) (t : Fin cfg0.N) (r : Fin 200) (d : Fin 128) :
    iblk m c 2 t (ix2 r d) = m ((c : Thread nD τ).loc main_arg2) (ix2 (row t r) d) := by
  unfold row
  blk_point [iblk, V, index2]

/-- What it holds of the gathered rows. -/
theorem read1 (m : (ℓ : Loc nD τ sig) → Buf (Elt Ideal) ℓ) (c : Dev nD) (t : Fin cfg0.N) (r : Fin 200) (k : Fin 16) (d : Fin 128) :
    iblk m c 1 t (ix2 ⟨r.val * 16 + k.val, by omega⟩ d) = m ((c : Thread nD τ).loc main_arg1) (ix2 ⟨(row t r).val * 16 + k.val, by have := (row t r).isLt; omega⟩ d) := by
  unfold row
  blk_point [iblk, V, index1]

/-- What it holds of the output projection. -/
theorem read5 (m : (ℓ : Loc nD τ sig) → Buf (Elt Ideal) ℓ) (c : Dev nD) (t : Fin cfg0.N) (x : Fin 128) (y : Fin 128) :
    iblk m c 5 t (ix2 x y) = m ((c : Thread nD τ).loc main_arg3) (ix2 x y) := by
  blk_point [iblk, V, index5]

/-- What it holds of the hidden layer's matrix. -/
theorem read8 (m : (ℓ : Loc nD τ sig) → Buf (Elt Ideal) ℓ) (c : Dev nD) (t : Fin cfg0.N) (x : Fin 128) (y : Fin 256) :
    iblk m c 8 t (ix2 x y) = m ((c : Thread nD τ).loc main_arg6) (ix2 x y) := by
  blk_point [iblk, V, index8]

/-- What it holds of the second matrix of the feed-forward block. -/
theorem read10 (m : (ℓ : Loc nD τ sig) → Buf (Elt Ideal) ℓ) (c : Dev nD) (t : Fin cfg0.N) (x : Fin 256) (y : Fin 128) :
    iblk m c 10 t (ix2 x y) = m ((c : Thread nD τ).loc main_arg8) (ix2 x y) := by
  blk_point [iblk, V, index10]

/-- What it holds of the first norm's scale. -/
theorem read6 (m : (ℓ : Loc nD τ sig) → Buf (Elt Ideal) ℓ) (c : Dev nD) (t : Fin cfg0.N) (y : Fin 128) :
    iblk m c 6 t (ix2 0 y) = m ((c : Thread nD τ).loc main_arg4) (ix1 y) := by
  have h : iblk m c 6 t (ix2 0 y) = (shapeCast S1x128 (m ((c : Thread nD τ).loc main_arg4)) shapeCasts_S128_S1x128 : FVec Ideal S1x128 .f32) (ix2 0 y) := by
    rw [← V_main_v9 m c]
    blk_simp [iblk]
    blk_ext [index6]
  rw [h]
  pointwise

/-- What it holds of the first norm's shift. -/
theorem read7 (m : (ℓ : Loc nD τ sig) → Buf (Elt Ideal) ℓ) (c : Dev nD) (t : Fin cfg0.N) (y : Fin 128) :
    iblk m c 7 t (ix2 0 y) = m ((c : Thread nD τ).loc main_arg5) (ix1 y) := by
  have h : iblk m c 7 t (ix2 0 y) = (shapeCast S1x128 (m ((c : Thread nD τ).loc main_arg5)) shapeCasts_S128_S1x128 : FVec Ideal S1x128 .f32) (ix2 0 y) := by
    rw [← V_main_v10 m c]
    blk_simp [iblk]
    blk_ext [index7]
  rw [h]
  pointwise

/-- What it holds of the hidden layer's shift. -/
theorem read9 (m : (ℓ : Loc nD τ sig) → Buf (Elt Ideal) ℓ) (c : Dev nD) (t : Fin cfg0.N) (y : Fin 256) :
    iblk m c 9 t (ix2 0 y) = m ((c : Thread nD τ).loc main_arg7) (ix1 y) := by
  have h : iblk m c 9 t (ix2 0 y) = (shapeCast S1x256 (m ((c : Thread nD τ).loc main_arg7)) shapeCasts_S256_S1x256 : FVec Ideal S1x256 .f32) (ix2 0 y) := by
    rw [← V_main_v11 m c]
    blk_simp [iblk]
    blk_ext [index9]
  rw [h]
  pointwise

/-- What it holds of its shift. -/
theorem read11 (m : (ℓ : Loc nD τ sig) → Buf (Elt Ideal) ℓ) (c : Dev nD) (t : Fin cfg0.N) (y : Fin 128) :
    iblk m c 11 t (ix2 0 y) = m ((c : Thread nD τ).loc main_arg9) (ix1 y) := by
  have h : iblk m c 11 t (ix2 0 y) = (shapeCast S1x128 (m ((c : Thread nD τ).loc main_arg9)) shapeCasts_S128_S1x128 : FVec Ideal S1x128 .f32) (ix2 0 y) := by
    rw [← V_main_v12 m c]
    blk_simp [iblk]
    blk_ext [index11]
  rw [h]
  pointwise

/-- What it holds of the second norm's scale. -/
theorem read12 (m : (ℓ : Loc nD τ sig) → Buf (Elt Ideal) ℓ) (c : Dev nD) (t : Fin cfg0.N) (y : Fin 128) :
    iblk m c 12 t (ix2 0 y) = m ((c : Thread nD τ).loc main_arg10) (ix1 y) := by
  have h : iblk m c 12 t (ix2 0 y) = (shapeCast S1x128 (m ((c : Thread nD τ).loc main_arg10)) shapeCasts_S128_S1x128 : FVec Ideal S1x128 .f32) (ix2 0 y) := by
    rw [← V_main_v13 m c]
    blk_simp [iblk]
    blk_ext [index12]
  rw [h]
  pointwise

/-- What it holds of the second norm's shift. -/
theorem read13 (m : (ℓ : Loc nD τ sig) → Buf (Elt Ideal) ℓ) (c : Dev nD) (t : Fin cfg0.N) (y : Fin 128) :
    iblk m c 13 t (ix2 0 y) = m ((c : Thread nD τ).loc main_arg11) (ix1 y) := by
  have h : iblk m c 13 t (ix2 0 y) = (shapeCast S1x128 (m ((c : Thread nD τ).loc main_arg11)) shapeCasts_S128_S1x128 : FVec Ideal S1x128 .f32) (ix2 0 y) := by
    rw [← V_main_v14 m c]
    blk_simp [iblk]
    blk_ext [index13]
  rw [h]
  pointwise

/-- The two matrices of the heads are read whole. -/
theorem read3 (m : (ℓ : Loc nD τ sig) → Buf (Elt Ideal) ℓ) (c : Dev nD) (t : Fin cfg0.N) (j : Fin 128) (h : Fin 8) :
    iblk m c 3 t (ix2 j h) = heads (ix2 j h) := by
  rw [← V_main_v7 m c]
  blk_simp [iblk]
  blk_ext [index3]

/-- What it holds of its transpose. -/
theorem read4 (m : (ℓ : Loc nD τ sig) → Buf (Elt Ideal) ℓ) (c : Dev nD) (t : Fin cfg0.N) (h : Fin 8) (j : Fin 128) :
    iblk m c 4 t (ix2 h j) = (transpose S8x128 [1, 0] heads transposes_S128x8_S8x128_1_0 : FVec Ideal S8x128 .f32) (ix2 h j) := by
  rw [← V_main_v8 m c]
  blk_simp [iblk]
  blk_ext [index4]

/-- The array the call leaves is the attention of every row: every block is written once, by its own grid point. -/
theorem arrAt_eq (m : (ℓ : Loc nD τ sig) → Buf (Elt Ideal) ℓ) (c : Dev nD) :
    (dats m 0 c).arrAt 14 cfg0.N = attended (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10))
      (m ((c : Thread nD τ).loc main_arg11)) := by
  refine (dats m 0 c).arrAt_eq_of_covers 14 _ (by decide +kernel) fun t hf y => ?_
  blk_simp
  rw [after0_14]
  unfold_out out0_14
  frame_out
  obtain ⟨r, j, rfl⟩ : ∃ (r : Fin 200) (j : Fin 128), y = ix2 r j := ⟨y 0, y 1, eq_ix2 y⟩
  have he : ((View.whole main_v15).slice (win0_14.rect t)).emb (ix2 r j) = ix2 (row t r) j := by
    unfold row
    blk_ext [index14]
  rw [he]
  refine (block _ _ _ _ _ _ _ _ _ _ _ _ _ _ (fun j h => (read3 m c t j h).trans (heads_apply j h)) (fun h j => (read4 m c t h j).trans (transposed_apply h j)) r j).trans ?_
  simp only [read0, read1, read2, read5, read6, read7, read8, read9, read10, read11, read12, read13]
  rfl

end Cert.Proof.Attn
-- ==== Proof.Attn.Reference.lean ====
/-
  The reference's result, read at an index: row `n` of it is the row function of Attn/Row.lean.
-/
module

public import proofs.«01_k».proof.Proof.Attn.Value
public import proofs.«01_k».proof.Proof.Gen.AttnReferenceIdeal
public import proofs.«01_k».proof.Proof.Gen.AttnReferenceIdeal.Run
public import Idealize.ShloMosaic.Lib.Tactic.CleanTypes

@[expose] public section

set_option maxRecDepth 16384

noncomputable section

namespace Cert.Proof.Attn.R

open Cert.AttnReferenceIdeal Cert.AttnReferenceIdeal.Gen Cert.AttnReferenceIdeal.Value Idealize.ShloMosaic Idealize.ShloMosaic.TcCoe Idealize.SL.Sem Idealize.ShloMosaic.StableHlo

set_option maxHeartbeats 1000000

variable (V0 : Valuation τ sig (Elt Ideal))

/-- Row `n` of the queries. -/
def qRow (n : Fin 2000) (d : Fin 128) : EReal := V0 (Proc.tc.devRef main_arg0) (ix2 n d)
/-- Row `n` of the gathered words, 16 for each node. -/
def kvRow (n : Fin 2000) (k : Fin 16) (d : Fin 128) : BitVec 32 := V0 (Proc.tc.devRef main_arg1) (ix2 ⟨n.val * 16 + k.val, by omega⟩ d)
/-- Row `n` of the input. -/
def inRow (n : Fin 2000) (d : Fin 128) : EReal := V0 (Proc.tc.devRef main_arg2) (ix2 n d)

/-- A constant of no axes, at its one index. -/
theorem id_constant (b : BitVec 32) (i : S_.Idx) : (id (constant (F := Ideal) S_ .f32 b) : FVec Ideal S_ .f32) i = Ideal.ofBits .f32 b := rfl

/-- 128 less no degrees of freedom is 128, which is positive. -/
theorem count_eq : Ideal.ofBits .f32 1124073472#32 - FloatOps.sitofp (F := Ideal) .f32 0#32 = Ideal.ofBits .f32 1124073472#32 := by
  have h : FloatOps.sitofp (F := Ideal) .f32 0#32 = (0 : EReal) := by
    show (((0#32).toInt : ℝ) : EReal) = 0
    simp
  rw [h]; exact sub_zero _

/-- That count is positive. -/
theorem count_pos : (0 : EReal) < Ideal.ofBits .f32 1124073472#32 := by
  rw [ofBits_128]; exact EReal.coe_pos.mpr (by norm_num)

/-- The clipped scores. -/
theorem v14_apply (n : Fin 2000) (k : Fin 16) (h : Fin 8) :
    (res_main_v14 V0 (ix3 n k h) : EReal) = score (qRow V0 n) (kvRow V0 n) k h := by
  unfold res_main_v14
  clean_types
  pointwise
  simp only [id_constant]
  unfold score
  refine congrArg _ (congrArg _ (congrArg (fun x => Ideal.div x _) (Finset.sum_congr rfl fun d _ => ?_)))
  exact mul_comm _ _

/-- Their exponentials, off the greatest. -/
theorem v21_apply (n : Fin 2000) (k : Fin 16) (h : Fin 8) :
    (res_main_v21 V0 (ix3 n k h) : EReal)
      = Ideal.exp (score (qRow V0 n) (kvRow V0 n) k h - top fun k' => score (qRow V0 n) (kvRow V0 n) k' h) := by
  unfold res_main_v21
  clean_types
  pointwise
  simp only [v14_apply]
  exact congrArg (fun x => Ideal.exp (_ - x)) (top_of_max _)

/-- The projection added to the input. -/
theorem v29_apply (n : Fin 2000) (j : Fin 128) :
    (res_main_v29 V0 (ix2 n j) : EReal) = projected (qRow V0 n) (kvRow V0 n) (inRow V0 n) (fun x d => V0 (Proc.tc.devRef main_arg3) (ix2 x d)) j := by
  unfold res_main_v29
  clean_types
  pointwise
  simp only [v21_apply]
  rfl

/-- The first layer norm. -/
theorem v47_apply (n : Fin 2000) (j : Fin 128) :
    (res_main_v47 V0 (ix2 n j) : EReal)
      = norm (fun d => res_main_v29 V0 (ix2 n d)) (fun d => V0 (Proc.tc.devRef main_arg4) (ix1 d)) (fun d => V0 (Proc.tc.devRef main_arg5) (ix1 d)) j := by
  unfold res_main_v47 res_main_call1_v5 res_main_call1_v8
  clean_types
  pointwise
  simp only [count_eq, count_pos, if_true]
  rfl

/-- The feed-forward block added to it. -/
theorem v57_apply (n : Fin 2000) (j : Fin 128) :
    (res_main_v57 V0 (ix2 n j) : EReal)
      = forward (fun d => res_main_v47 V0 (ix2 n d)) (fun d l => V0 (Proc.tc.devRef main_arg6) (ix2 d l)) (fun l => V0 (Proc.tc.devRef main_arg7) (ix1 l))
          (fun l d => V0 (Proc.tc.devRef main_arg8) (ix2 l d)) (fun d => V0 (Proc.tc.devRef main_arg9) (ix1 d)) j := by
  unfold res_main_v57
  clean_types
  pointwise
  rfl

/-- The reference's run: the result is the attention of every row by itself, the arguments are as they were. -/
theorem run_attended (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v75) = attended (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) := by
  refine (θ_run defs _ _).mono (fun r h c => ⟨(h c).1.trans ?_, (h c).2⟩) (run m ρ)
  funext i
  obtain ⟨n, j, rfl⟩ : ∃ (n : Fin 2000) (j : Fin 128), i = ix2 n j := ⟨i 0, i 1, eq_ix2 i⟩
  clean_types
  unfold res_main_call3_v5 res_main_call3_v8
  clean_types
  pointwise
  simp only [count_eq, count_pos, if_true]
  refine Eq.trans (b := norm (fun d => (res_main_v57 (launchContents m c) (ix2 n d) : EReal)) (fun d => m ((c.tc : Thread nD τ).loc main_arg10) (ix1 d)) (fun d => m ((c.tc : Thread nD τ).loc main_arg11) (ix1 d)) j) rfl ?_
  simp only [v57_apply, v47_apply, v29_apply]
  rfl

end Cert.Proof.Attn.R
-- ==== Proof.Attn.Claims.lean ====
/-
The claims of the attention call: it ends with its arguments as they were, and computes what its reference computes.
-/
module

public import proofs.«01_k».proof.Defs
public import proofs.«01_k».proof.Proof.Gen.Attn
public import proofs.«01_k».proof.Proof.Gen.Attn.Frame
public import proofs.«01_k».proof.Proof.Attn.Reference
public import Idealize.ShloMosaic.Adequacy
public import Idealize.ShloMosaic.Init

@[expose] public section

noncomputable section

namespace Cert.Proof.Attn

open Idealize.ShloMosaic Idealize.SL.Sem

/-- The frame of the program as printed. -/
theorem frame : Cert.quiescent_Attn := fun m ρ _ => Cert.Attn.Gen.frame (F := Bits) m ρ

/-- The frame of its ideal reading. -/
theorem frameIdeal : Cert.quiescent_AttnIdeal := fun m ρ _ => Cert.AttnIdeal.Gen.frame (F := Ideal) m ρ

/-- The frame of the reference, which has no counter. -/
theorem frameReference : Cert.quiescent_AttnReferenceIdeal := fun m ρ _ =>
  (θ_run Cert.AttnReferenceIdeal.defs _ _).mono (fun r hr => ⟨fun c => (hr c).2, sem_eq_zero_of_no_sems (by decide) r.2⟩)
    (Cert.AttnReferenceIdeal.Value.run m ρ)

/-- The ideal claim: equal results, from the same arguments. -/
theorem algebraic : Cert.algebraic_AttnIdeal_AttnReferenceIdeal := fun m ρ m' ρ' _ hm =>
  ⟨fun c => attended (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7)) (m ((c.tc : Thread Cert.AttnIdeal.nD Cert.AttnIdeal.τ).loc Cert.AttnIdeal.main_arg8)) (m ((c.tc : Thread Cert.AttnIdeal.nD Cert.AttnIdeal.τ).loc Cert.AttnIdeal.main_arg9)) (m ((c.tc : Thread Cert.AttnIdeal.nD Cert.AttnIdeal.τ).loc Cert.AttnIdeal.main_arg10)) (m ((c.tc : Thread Cert.AttnIdeal.nD Cert.AttnIdeal.τ).loc Cert.AttnIdeal.main_arg11)),
    (θ_run Cert.AttnIdeal.defs _ _).mono (fun _ hr c => ⟨(hr c).1.trans (arrAt_eq m c), (hr c).2⟩) (Cert.AttnIdeal.Value.run_blocks (F := Ideal) m ρ),
    (θ_run Cert.AttnReferenceIdeal.defs _ _).mono
      (fun _ hr c => ⟨(hr c).1.trans (by rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1, (hm c).2.2.2.2.2.2.2.2.2.1, (hm c).2.2.2.2.2.2.2.2.2.2.1, (hm c).2.2.2.2.2.2.2.2.2.2.2]), (hr c).2⟩)
      (R.run_attended m' ρ')⟩

end Cert.Proof.Attn

end
-- ==== Proof.Layer.Words.lean ====
/-
  The words of one tile's pipeline: the number of blocks a tile takes, the first of them, and what the carried words
  of the pipeline's loop, its conditions, its checks and its offsets are before trip `s`.
-/
module

public import proofs.«01_k».proof.Proof.Gen.LayerIdeal.Skeleton

@[expose] public section

namespace Cert.Proof.Layer

open Cert.LayerIdeal Cert.LayerIdeal.Gen
open Idealize.ShloMosaic

/-- A tile's number among the thirty-two. -/
def wid (i : grid0.Coords) : ℕ := (i 1).val + 16 * (i 0).val

/-- How many blocks of 128 rows the tile takes: 250 over 32 tiles, the first 26 one more. -/
def nb (i : grid0.Coords) : ℕ := if wid i < 26 then 8 else 7

/-- The tile's first block. -/
def st (i : grid0.Coords) : ℕ := if wid i < 26 then wid i * 8 else wid i * 7 + 26

theorem trips_eq : ∀ i : grid0.Coords, (k0_t1_loop i).trips = nb i := by decide +kernel
theorem trips2_eq : ∀ i : grid0.Coords, (k0_t2_loop i).trips = 0 := by decide +kernel
theorem nb_pos : ∀ i : grid0.Coords, 0 < nb i := by decide +kernel
theorem st_nb_le : ∀ i : grid0.Coords, st i + nb i ≤ 250 := by decide +kernel

/-- The carried words before trip `s`: blocks copied in, waited for, copied out, drained, and the block's number. -/
def w6 (i : grid0.Coords) (s : ℕ) : BitVec 32 := BitVec.ofNat 32 (min (s + 1) (nb i))
def w7 (s : ℕ) : BitVec 32 := BitVec.ofNat 32 s
def w9 (s : ℕ) : BitVec 32 := BitVec.ofNat 32 (s - 1)
def w10 (i : grid0.Coords) (s : ℕ) : BitVec 32 := BitVec.ofNat 32 (if s = nb i then 0 else s)

theorem cond1 : ∀ i : grid0.Coords, k0_cond1 i = 1#1 := by decide +kernel
theorem cond2 : ∀ i : grid0.Coords, k0_cond2 i = 1#1 := by decide +kernel
theorem cond18 : ∀ i : grid0.Coords, k0_cond18 i = 1#1 := by decide +kernel
theorem cond3 : ∀ i : grid0.Coords, ∀ k : Fin (k0_t1_loop i).trips, k0_cond3 i k (w10 i k.val) = 1#1 ↔ k.val + 1 < nb i := by decide +kernel
theorem cond4 : ∀ i : grid0.Coords, ∀ k : Fin (k0_t1_loop i).trips, k0_cond4 i k (w10 i k.val) = 1#1 := by decide +kernel
theorem cond7 : ∀ i : grid0.Coords, ∀ k : Fin (k0_t1_loop i).trips, k0_cond7 i k (w10 i k.val) = 1#1 := by decide +kernel
theorem cond9 : ∀ i : grid0.Coords, ∀ k : Fin (k0_t1_loop i).trips, k0_cond9 i k (w10 i k.val) = 1#1 ↔ 0 < k.val := by decide +kernel

theorem chk3 : ∀ i : grid0.Coords, ∀ k : Fin (k0_t1_loop i).trips, k0_chk3 i (w7 k.val) := by decide +kernel
theorem chk2 : ∀ i : grid0.Coords, ∀ k : Fin (k0_t1_loop i).trips, k0_chk2 i (w7 k.val) := by decide +kernel
theorem chk1 : ∀ i : grid0.Coords, ∀ k : Fin (k0_t1_loop i).trips,
    k0_chk1 i k (w6 i k.val) (w7 k.val) (w7 k.val) (w9 k.val) (w10 i k.val) := by decide +kernel
theorem chk8 : ∀ i : grid0.Coords, k0_chk8 i (w10 i (nb i)) := by decide +kernel
theorem chk7 : ∀ i : grid0.Coords, k0_chk7 i (w9 (nb i)) := by decide +kernel

/-! The offsets, as slot and block numbers. -/

theorem off2 : ∀ i : grid0.Coords, k0_off2 i = ![0, 128 * st i] := by decide +kernel
theorem off4 : ∀ i : grid0.Coords, ∀ k : Fin (k0_t1_loop i).trips, k.val + 1 < nb i → k0_off4 (w6 i k.val) = ![(k.val + 1) % 2, 0, 0] := by decide +kernel
theorem off5 : ∀ i : grid0.Coords, ∀ k : Fin (k0_t1_loop i).trips, k.val + 1 < nb i → k0_off5 i (w10 i k.val) = ![0, 128 * (st i + k.val + 1)] := by decide +kernel
theorem off6 : ∀ i : grid0.Coords, ∀ k : Fin (k0_t1_loop i).trips, k.val + 1 < nb i → k0_off6 (w6 i k.val) = ![(k.val + 1) % 2] := by decide +kernel
theorem off7 : ∀ i : grid0.Coords, ∀ k : Fin (k0_t1_loop i).trips, k0_off7 (w7 k.val) = ![k.val % 2, 0, 0] := by decide +kernel
theorem off8 : ∀ i : grid0.Coords, ∀ k : Fin (k0_t1_loop i).trips, k0_off8 i (w10 i k.val) = ![0, 128 * (st i + k.val)] := by decide +kernel
theorem off9 : ∀ i : grid0.Coords, ∀ k : Fin (k0_t1_loop i).trips, k0_off9 (w7 k.val) = ![k.val % 2] := by decide +kernel
theorem off10 : ∀ i : grid0.Coords, ∀ k : Fin (k0_t1_loop i).trips, k0_off10 (w7 k.val) = ![k.val % 2, 0, 0] := by decide +kernel
theorem off11 : ∀ i : grid0.Coords, ∀ k : Fin (k0_t1_loop i).trips, k0_off11 (w7 k.val) = ![k.val % 2, 0, 0] := by decide +kernel
theorem off12 : ∀ i : grid0.Coords, ∀ k : Fin (k0_t1_loop i).trips, k0_off12 (w7 k.val) = ![k.val % 2, 0, 0] := by decide +kernel
theorem off13 : ∀ i : grid0.Coords, ∀ k : Fin (k0_t1_loop i).trips, k0_off13 i (w10 i k.val) = ![128 * (st i + k.val), 0] := by decide +kernel
theorem off14 : ∀ i : grid0.Coords, ∀ k : Fin (k0_t1_loop i).trips, k0_off14 (w7 k.val) = ![k.val % 2] := by decide +kernel
theorem off15 : ∀ i : grid0.Coords, ∀ k : Fin (k0_t1_loop i).trips, 0 < k.val → k0_off15 (w9 k.val) = ![(k.val + 1) % 2, 0, 0] := by decide +kernel
theorem off16 : ∀ i : grid0.Coords, ∀ k : Fin (k0_t1_loop i).trips, 0 < k.val → k0_off16 i (w10 i k.val) = ![128 * (st i + k.val - 1), 0] := by decide +kernel
theorem off17 : ∀ i : grid0.Coords, ∀ k : Fin (k0_t1_loop i).trips, 0 < k.val → k0_off17 (w9 k.val) = ![(k.val + 1) % 2] := by decide +kernel
theorem off33 : ∀ i : grid0.Coords, k0_off33 i (w10 i (nb i)) = ![128 * (st i + nb i - 1), 0] := by decide +kernel
theorem off34 : ∀ i : grid0.Coords, k0_off34 (w9 (nb i)) = ![(nb i + 1) % 2] := by decide +kernel
theorem off35 : ∀ i : grid0.Coords, k0_off35 (w9 (nb i)) = ![(nb i + 1) % 2, 0, 0] := by decide +kernel
theorem off1 : k0_off1 = ![0, 0, 0] := by decide +kernel
theorem off3 : k0_off3 = ![0] := by decide +kernel

/-! The words a trip hands on are those before the next. -/

/-- The block's number plus one, back to zero past the last; and minus one, the last before zero. -/
abbrev wUp (i : grid0.Coords) (k : ℕ) : BitVec 32 :=
  Scalar.select (Scalar.cmpi CmpIPredicate.eq (Scalar.select (1#1) (Scalar.addi (w10 i k) 1#32) (w10 i k)) (BitVec.ofNat 32 (nb i))) (0#32)
    (Scalar.select (1#1) (Scalar.addi (w10 i k) 1#32) (w10 i k))
abbrev wDown (i : grid0.Coords) (k : ℕ) : BitVec 32 :=
  Scalar.select (Scalar.cmpi CmpIPredicate.eq (Scalar.select (1#1) (Scalar.subi (w10 i k) 1#32) (w10 i k)) 4294967295#32)
    (Scalar.subi (BitVec.ofNat 32 (nb i)) 1#32) (Scalar.select (1#1) (Scalar.subi (w10 i k) 1#32) (w10 i k))
/-- Does the block differ from the next, from the one before; is the trip the last. -/
abbrev wNe (i : grid0.Coords) (k : ℕ) (b : BitVec 32) : BitVec 1 :=
  Scalar.cmpi CmpIPredicate.ne (Scalar.addi (w10 i k) (BitVec.ofNat 32 (st i))) (Scalar.addi b (BitVec.ofNat 32 (st i)))
abbrev wLast (i : grid0.Coords) (k : ℕ) : BitVec 1 :=
  Scalar.cmpi CmpIPredicate.eq (Scf.iv 0#32 1#32 k) (Scalar.subi (Scalar.muli (1#32) (BitVec.ofNat 32 (nb i))) 1#32)

theorem next_words : ∀ i : grid0.Coords, ∀ k : Fin (k0_t1_loop i).trips,
    (Scalar.select (Scalar.andi (Scalar.andi (wNe i k.val (wUp i k.val))
        (Scalar.xori (Scalar.cmpi CmpIPredicate.sge (Scf.iv 0#32 1#32 k.val) (Scalar.addi (Scalar.subi (Scalar.muli (1#32) (BitVec.ofNat 32 (nb i))) 2#32) 1#32)) 1#1)) 1#1)
        (Scalar.addi (w6 i k.val) 1#32) (w6 i k.val),
      Scalar.select (Scalar.ori (wNe i k.val (wUp i k.val)) (wLast i k.val)) (Scalar.addi (w7 k.val) 1#32) (w7 k.val),
      Scalar.select (Scalar.andi (Scalar.ori (wNe i k.val (wUp i k.val)) (wLast i k.val)) 1#1) (Scalar.addi (w7 k.val) 1#32) (w7 k.val),
      Scalar.select (Scalar.andi (Scalar.andi (wNe i k.val (wDown i k.val)) (Scalar.xori (Scalar.cmpi CmpIPredicate.eq (Scf.iv 0#32 1#32 k.val) 0#32) 1#1)) 1#1)
        (Scalar.addi (w9 k.val) 1#32) (w9 k.val),
      wUp i k.val)
    = (w6 i (k.val + 1), w7 (k.val + 1), w7 (k.val + 1), w9 (k.val + 1), w10 i (k.val + 1)) := by decide +kernel

/-- The tile's number as the kernel computes it, and from it the number of its blocks and its first. -/
abbrev wTile (i : grid0.Coords) : BitVec 32 :=
  Scalar.addi (Scalar.addi 0#32 (Scalar.muli (BitVec.ofNat 32 (i 1).val) 1#32)) (Scalar.muli (BitVec.ofNat 32 (i 0).val) 16#32)
theorem v5_eq : ∀ i : grid0.Coords, Scalar.select (Scalar.cmpi .slt (wTile i) 26#32) 8#32 7#32 = BitVec.ofNat 32 (nb i) := by decide +kernel
theorem v10_eq : ∀ i : grid0.Coords, Scalar.select (Scalar.cmpi .slt (wTile i) 26#32) (Scalar.muli (wTile i) (Scalar.select (Scalar.cmpi .slt (wTile i) 26#32) 8#32 7#32))
    (Scalar.addi (Scalar.muli (wTile i) 7#32) 26#32) = BitVec.ofNat 32 (st i) := by decide +kernel
/-- The words the loop starts with. -/
theorem first_words : ∀ i : grid0.Coords,
    (Scalar.select (Scalar.andi 1#1 (Scalar.cmpi .sgt (Scalar.muli 1#32 (Scalar.select (Scalar.cmpi .slt (wTile i) 26#32) 8#32 7#32)) 0#32)) (Scalar.addi 0#32 1#32) 0#32, 0#32, 0#32, 0#32, 0#32)
      = (w6 i 0, w7 0, w7 0, w9 0, w10 i 0) := by decide +kernel

end Cert.Proof.Layer
-- ==== Proof.Layer.Ops.lean ====
/-
  One tile's copies, one lemma each, over any blocks and slots: the copy of a block of row numbers in and its wait, the
  gather of a block's rows and its wait, the copy of a block of rows out and its wait. A slot holding a block's words, and
  a block of the result, are stated by what is read through their windows.
-/
module

public import proofs.«01_k».proof.Defs
public import proofs.«01_k».proof.Proof.Layer.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ViewIndex
public import Idealize.ShloMosaic.Lib.Tactic

@[expose] public section

noncomputable section

namespace Cert.Proof.Layer

open Cert.LayerIdeal Cert.LayerIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The resource algebra: the handshakes' rounds library, the transfers' counters -/

abbrev UH : Type := URounds (GSem nD τ sig) ℕ
/-- The staging cells' rounds library, for the calls on the TensorCore. -/
abbrev UP : Type := URounds (GSem nD τ sig) Unit
abbrev UU : Type := (UH × UP) × Counters

local notation "𝕄" => MT nD τ sig (HIx 5) (Elt F) ℕ UU ℕ

abbrev 𝒱₀ : Variants := Variants.none

abbrev MRef (sp : Space) (s : Shape) (e : EltTy) : Type := Memref sig .scVector sp s e

/-- What one call's kernel is given: the table, the chunk's row numbers, the chunk's rows, the two double buffers and
    the semaphores. -/
structure Ops where
  A2 : MRef .hbm S10000x128 .i32
  h2 : A2.IsWhole
  A3 : MRef .hbm S1x32000 .i32
  h3 : A3.IsWhole
  A4 : MRef .hbm S32000x128 .i32
  h4 : A4.IsWhole
  B0 : MRef .vmem S2x1x128 .i32
  hB0 : B0.IsWhole
  v12 : DmaSems sig S2
  B1 : MRef .vmem S2x128x128 .i32
  hB1 : B1.IsWhole
  v13 : DmaSems sig S2
  r1 : DmaSems sig S_
  r2 : DmaSems sig S_

abbrev cV (i : grid0.Coords) : Fin τ.nSC := (i 0).castLE hcore0
abbrev jV (i : grid0.Coords) : Fin τ.nSub := (i 1).castLE hsub0
/-- The tile's thread. -/
abbrev thr (d : Dev nD) (i : grid0.Coords) : Thread nD τ := V d (cV i) (jV i)

/-! ## The windows: slot `s % 2` of a double buffer, block `j` of a chunk -/

theorem inbI (s : ℕ) : ∀ a, (![s % 2, 0, 0] : Fin 3 → ℕ) a + S1x1x128.size a ≤ S2x1x128.size a := by
  have := Nat.mod_lt s (by decide : 0 < 2)
  intro a; fin_cases a <;> simp [S1x1x128, S2x1x128]; omega
theorem inbR (s : ℕ) : ∀ a, (![s % 2, 0, 0] : Fin 3 → ℕ) a + S1x128x128.size a ≤ S2x128x128.size a := by
  have := Nat.mod_lt s (by decide : 0 < 2)
  intro a; fin_cases a <;> simp [S1x128x128, S2x128x128]; omega
theorem inbX (j : ℕ) : ∀ a, (![0, 128 * (j % 250)] : Fin 2 → ℕ) a + S1x128.size a ≤ S1x32000.size a := by
  have := Nat.mod_lt j (by decide : 0 < 250)
  intro a; fin_cases a <;> simp [S1x128, S1x32000]; omega
theorem inbO (j : ℕ) : ∀ a, (![128 * (j % 250), 0] : Fin 2 → ℕ) a + S128x128.size a ≤ S32000x128.size a := by
  have := Nat.mod_lt j (by decide : 0 < 250)
  intro a; fin_cases a <;> simp [S128x128, S32000x128]; omega
theorem inbS (s : ℕ) : ∀ a, (![s % 2] : Fin 1 → ℕ) a + S1.size a ≤ S2.size a := by
  have := Nat.mod_lt s (by decide : 0 < 2)
  intro a; fin_cases a; simp [S1, S2]; omega

abbrev iS (c : Ops) (s : ℕ) : MRef .vmem S1x128 .i32 :=
  (c.B0.slice (Rect.unit (s := S2x1x128) ![s % 2, 0, 0] S1x1x128.size (inbI s)) (fun _ => rfl)).squeeze S1x128 squeezes_S1x1x128_S1x128
abbrev lS (c : Ops) (s : ℕ) : MRef .vmem S128 .i32 :=
  ((iS c s).slice (Rect.unit (s := S1x128) ![0, 0] S1x128.size inb_S1x128_S1x128_0_0) (fun _ => rfl)).squeeze S128 squeezes_S1x128_S128
abbrev rS (c : Ops) (s : ℕ) : MRef .vmem S128x128 .i32 :=
  (c.B1.slice (Rect.unit (s := S2x128x128) ![s % 2, 0, 0] S1x128x128.size (inbR s)) (fun _ => rfl)).squeeze S128x128 squeezes_S1x128x128_S128x128
abbrev xW (c : Ops) (j : ℕ) : MRef .hbm S1x128 .i32 :=
  c.A3.slice (Rect.unit (s := S1x32000) ![0, 128 * (j % 250)] S1x128.size (inbX j)) (fun _ => rfl)
abbrev oW (c : Ops) (j : ℕ) : MRef .hbm S128x128 .i32 :=
  c.A4.slice (Rect.unit (s := S32000x128) ![128 * (j % 250), 0] S128x128.size (inbO j)) (fun _ => rfl)
abbrev tW (c : Ops) : MRef .hbm S10000x128 .i32 :=
  c.A2.slice (Rect.unit (s := S10000x128) ![0, 0] S10000x128.size inb_S10000x128_S10000x128_0_0) (fun _ => rfl)
abbrev iM (c : Ops) (s : ℕ) : DmaSem sig :=
  ((c.v12.slice (Rect.unit (s := S2) ![s % 2] S1.size (inbS s))).squeeze S_ squeezes_S1_S_).sem
abbrev oM (c : Ops) (s : ℕ) : DmaSem sig :=
  ((c.v13.slice (Rect.unit (s := S2) ![s % 2] S1.size (inbS s))).squeeze S_ squeezes_S1_S_).sem

/-- Where the gather's list finds its words in the slot. -/
def lidx (x : S128.Idx) : S1x128.Idx :=
  (Rect.unit (s := S1x128) ![0, 0] S1x128.size inb_S1x128_S1x128_0_0).emb (Shape.reshapeEquiv (s' := S128) squeezes_S1x128_S128.numel_eq x)

section
variable (c : Ops) (d : Dev nD) (i : grid0.Coords)
variable (fx : Buf (Elt F) (c.A3.view.loc (thr d i))) (ft : Buf (Elt F) (c.A2.view.loc (thr d i)))
  (g : Buf (Elt F) (c.A4.view.loc (thr d i))) (q : PosShare TreeShare)

/-- The row numbers of block `j`, as the gather's list. -/
def lst (j : ℕ) : S128.Idx → Elt F .i32 := fun x => (xW c j).view.read (Elt F) fx (lidx x)

/-- Every row number of the chunk is a row of the table. -/
def InB : Prop := ∀ j x, (lst c d i fx j x).toNat < S10000x128.size gathers_S10000x128_S128x128.axis

/-- The rows of block `j`, gathered. -/
def pay (h : InB c d i fx) (j : ℕ) : S128x128.Idx → Elt F .i32 :=
  SparseCore.gatherPayload gathers_S10000x128_S128x128 ((tW c).view.read (Elt F) ft) (SparseCore.rows (lst c d i fx j) rfl (h j))

/-! ## What is held -/

abbrev IBlk (j : ℕ) : sProp 𝕄 := (xW c j).view.loc (thr d i) ↦[(xW c j).view.set]{fullShare} fx
abbrev OBlk (j : ℕ) (f : Buf (Elt F) (c.A4.view.loc (thr d i))) : sProp 𝕄 := (oW c j).view.loc (thr d i) ↦[(oW c j).view.set]{fullShare} f
abbrev TPts : sProp 𝕄 := (tW c).view.loc (thr d i) ↦[(tW c).view.set]{q} ft
abbrev ISlot (s : ℕ) (f : Buf (Elt F) ((iS c s).view.loc (thr d i))) : sProp 𝕄 := (iS c s).view.loc (thr d i) ↦[(iS c s).view.set]{fullShare} f
abbrev RSlot (s : ℕ) (f : Buf (Elt F) ((rS c s).view.loc (thr d i))) : sProp 𝕄 := (rS c s).view.loc (thr d i) ↦[(rS c s).view.set]{fullShare} f
def iFree (s : ℕ) : sProp 𝕄 := iprop(∃ f, ISlot (F := F) c d i s f)
def rFree (s : ℕ) : sProp 𝕄 := iprop(∃ f, RSlot (F := F) c d i s f)
def iFull (s j : ℕ) : sProp 𝕄 := iprop(∃ f, ⌜(iS c s).view.read (Elt F) f = (xW c j).view.read (Elt F) fx⌝ ∗ ISlot (F := F) c d i s f)
def rFull (s j : ℕ) : sProp 𝕄 := iprop(∃ f, ⌜(rS c s).view.read (Elt F) f = (oW c j).view.read (Elt F) g⌝ ∗ RSlot (F := F) c d i s f)
abbrev iZ (s : ℕ) : sProp 𝕄 := semVal (thr d i, .dma (iM c s)) 0
abbrev oZ (s : ℕ) : sProp 𝕄 := semVal (thr d i, .dma (oM c s)) 0
abbrev gZ : sProp 𝕄 := semVal (thr d i, .dma c.r1.sem) 0
/-- A copy in of block `j` into slot `s`, under way. -/
def InFl (s j : ℕ) : sProp 𝕄 :=
  Transfers.Flight countersEmb (thr d i) (.dma (iM c s)) (default : HIx 5) (iS c s).view.dmaCredit iprop(iFull c d i fx s j ∗ IBlk c d i fx j)
/-- A copy out of slot `s` into block `j`, under way. -/
def OutFl (s j : ℕ) : sProp 𝕄 :=
  Transfers.Flight countersEmb (thr d i) (.dma (oM c s)) (default : HIx 5) (oW c j).view.dmaCredit iprop(OBlk c d i j g ∗ rFree (F := F) c d i s)
/-- What the thread owes, every wait so far either owed from the start or of the kernel's own copies. -/
def Owing (O : CellTallies nD τ sig (HIx 5)) (W : Waits sig (HIx 5)) : sProp 𝕄 :=
  iprop(∃ W', ⌜∀ p ∈ W', p ∈ W ∨ p.2 = none⌝ ∗ owes (thr d i) O W')

variable [FloatOps F]

/-- A block of row numbers starts in. -/
theorem inStart (s j : ℕ) (o4 o5 o6) (h4 : ∀ a, o4 a + S1x1x128.size a ≤ S2x1x128.size a) (h5 : ∀ a, o5 a + S1x128.size a ≤ S1x32000.size a)
    (h6 : ∀ a, o6 a + S1.size a ≤ S2.size a) (e4 : o4 = ![s % 2, 0, 0]) (e5 : o5 = ![0, 128 * (j % 250)]) (e6 : o6 = ![s % 2])
    {hsrc hdst hsem} {α : Type} (k : PUnit → Prog (TpuEff nD τ sig (Elt F) Λ₀ (.scVector (cV i) (jV i))) α) (Q : α → sProp 𝕄) :
    iprop(IBlk c d i fx j ∗ iFree (F := F) c d i s ∗ iZ (F := F) c d i s)
      ⊢ iprop((InFl c d i fx s j -∗ wp frame (wpE (defs₀ (F := F)) 𝒱₀ (thr d i) none) Set.univ (k ⟨⟩) Q)
        -∗ wp frame (wpE (defs₀ (F := F)) 𝒱₀ (thr d i) none) Set.univ
          (.op (.enqueueDma (c.A3.slice (Rect.unit (s := S1x32000) o5 S1x128.size h5) (fun _ => rfl))
            (.here ((c.B0.slice (Rect.unit (s := S2x1x128) o4 S1x1x128.size h4) (fun _ => rfl)).squeeze S1x128 squeezes_S1x1x128_S1x128))
            (.dma ((c.v12.slice (Rect.unit (s := S2) o6 S1.size h6)).squeeze S_ squeezes_S1_S_).sem) hsrc hdst hsem) k) Q) := by
  subst e4 e5 e6
  unfold iFree
  iintro ⟨Hb, ⟨%f, Hs⟩, Hz⟩ Hk
  iapply (Transfers.wp_dmaLocal countersEmb 𝒱₀ (thr d i) none (default : HIx 5) (iS c s).view.dmaCredit rfl (View.dmaCredit_pos _ (by decide))
    (Finset.Subset.refl _)) $$ [Hb Hs Hz]
  · isplitl [Hb]; · iexact Hb
    isplitl [Hs]; · iexact Hs
    iexact Hz
  iintro Hf
  iapply Hk
  unfold InFl
  iapply (Transfers.Flight_mono countersEmb (thr d i) ?_) $$ Hf
  unfold iFull
  iintro ⟨Hs, Hb⟩
  isplitl [Hs]
  · iexists _
    isplitr [Hs]
    rotate_left
    · iexact Hs
    ipureintro
    exact View.read_write_univ _ _
  · iexact Hb

/-- A wait adds only its own cell to what was waited for. -/
theorem owing_insert (O : CellTallies nD τ sig (HIx 5)) (W W' : Waits sig (HIx 5)) (hW : ∀ p ∈ W', p ∈ W ∨ p.2 = none) (sm : SemLoc sig) :
    owes (thr d i) O (insert (sm, (default : HIx 5)) W') ⊢ (Owing (F := F) d i O W : sProp 𝕄) := by
  unfold Owing
  iintro H
  iexists _
  isplitr [H]
  rotate_left
  · iexact H
  ipureintro
  intro p hp
  rcases Finset.mem_insert.mp hp with rfl | hp
  · exact Or.inr rfl
  · exact hW p hp

theorem owing_elim (O : CellTallies nD τ sig (HIx 5)) (W : Waits sig (HIx 5)) :
    (Owing (F := F) d i O W : sProp 𝕄) ⊢ iprop(∃ W', ⌜∀ p ∈ W', p ∈ W ∨ p.2 = none⌝ ∗ owes (thr d i) O W') := by
  unfold Owing
  iintro H
  iexact H

/-- Its wait: the slot holds the block's words. -/
theorem inWait (s j : ℕ) (O : CellTallies nD τ sig (HIx 5)) (W : Waits sig (HIx 5)) (o4 o5 o6) (h4 : ∀ a, o4 a + S1x1x128.size a ≤ S2x1x128.size a) (h5 : ∀ a, o5 a + S1x128.size a ≤ S1x32000.size a)
    (h6 : ∀ a, o6 a + S1.size a ≤ S2.size a) (e4 : o4 = ![s % 2, 0, 0]) (e6 : o6 = ![s % 2])
    {hsrc hdst} {α : Type} (k : PUnit → Prog (TpuEff nD τ sig (Elt F) Λ₀ (.scVector (cV i) (jV i))) α) (Q : α → sProp 𝕄) :
    iprop(InFl c d i fx s j ∗ Owing (F := F) d i O W ∗ Transfers.MayWaits (thr d i) (default : HIx 5) O)
      ⊢ iprop((iprop(iFull c d i fx s j ∗ IBlk c d i fx j ∗ iZ (F := F) c d i s ∗ Owing (F := F) d i O W)
            -∗ wp frame (wpE (defs₀ (F := F)) 𝒱₀ (thr d i) none) Set.univ (k ⟨⟩) Q)
        -∗ wp frame (wpE (defs₀ (F := F)) 𝒱₀ (thr d i) none) Set.univ
          (.op (.waitDma2 ((c.v12.slice (Rect.unit (s := S2) o6 S1.size h6)).squeeze S_ squeezes_S1_S_).sem
            (c.A3.slice (Rect.unit (s := S1x32000) o5 S1x128.size h5) (fun _ => rfl))
            ((c.B0.slice (Rect.unit (s := S2x1x128) o4 S1x1x128.size h4) (fun _ => rfl)).squeeze S1x128 squeezes_S1x1x128_S1x128)
            hsrc hdst) k) Q) := by
  subst e4 e6
  unfold InFl
  iintro ⟨Hf, HO, Hm⟩ Hk
  ihave HO' := (owing_elim d i O W) $$ HO
  icases HO' with ⟨%W', %hW, HO⟩
  iapply (Transfers.wp_waitLocalO countersEmb 𝒱₀ (thr d i) none (default : HIx 5) (rfl : (iS c s).view.dmaCredit = _)) $$ [Hf HO Hm]
  · isplitl [Hf]; · iexact Hf
    isplitl [HO]; · iexact HO
    iapply (Transfers.MayWaits.elim _) $$ Hm
  iintro ⟨⟨Hs, Hb⟩, Hz, HO⟩
  iapply Hk
  isplitl [Hs]; · iexact Hs
  isplitl [Hb]; · iexact Hb
  isplitl [Hz]; · iexact Hz
  iapply (owing_insert d i O W W' hW _) $$ HO

/-- A block of rows starts out. -/
theorem outStart (s j : ℕ) (f₀ : Buf (Elt F) (c.A4.view.loc (thr d i))) (o4 o5 o6) (h4 : ∀ a, o4 a + S1x128x128.size a ≤ S2x128x128.size a) (h5 : ∀ a, o5 a + S128x128.size a ≤ S32000x128.size a)
    (h6 : ∀ a, o6 a + S1.size a ≤ S2.size a) (e4 : o4 = ![s % 2, 0, 0]) (e5 : o5 = ![128 * (j % 250), 0]) (e6 : o6 = ![s % 2])
    {hsrc hdst hsem} {α : Type} (k : PUnit → Prog (TpuEff nD τ sig (Elt F) Λ₀ (.scVector (cV i) (jV i))) α) (Q : α → sProp 𝕄) :
    iprop(rFull c d i g s j ∗ OBlk c d i j f₀ ∗ oZ (F := F) c d i s)
      ⊢ iprop((OutFl c d i g s j -∗ wp frame (wpE (defs₀ (F := F)) 𝒱₀ (thr d i) none) Set.univ (k ⟨⟩) Q)
        -∗ wp frame (wpE (defs₀ (F := F)) 𝒱₀ (thr d i) none) Set.univ
          (.op (.enqueueDma ((c.B1.slice (Rect.unit (s := S2x128x128) o4 S1x128x128.size h4) (fun _ => rfl)).squeeze S128x128 squeezes_S1x128x128_S128x128)
            (.here (c.A4.slice (Rect.unit (s := S32000x128) o5 S128x128.size h5) (fun _ => rfl)))
            (.dma ((c.v13.slice (Rect.unit (s := S2) o6 S1.size h6)).squeeze S_ squeezes_S1_S_).sem) hsrc hdst hsem) k) Q) := by
  subst e4 e5 e6
  unfold rFull
  iintro ⟨⟨%f, %hf, Hs⟩, Hb, Hz⟩ Hk
  iapply (Transfers.wp_dmaLocal countersEmb 𝒱₀ (thr d i) none (default : HIx 5) (oW c j).view.dmaCredit rfl (View.dmaCredit_pos _ (by decide))
    (Finset.Subset.refl _)) $$ [Hb Hs Hz]
  · isplitl [Hs]; · iexact Hs
    isplitl [Hb]; · iexact Hb
    iexact Hz
  iintro Hf
  iapply Hk
  unfold OutFl
  iapply (Transfers.Flight_mono countersEmb (thr d i) ?_) $$ Hf
  unfold rFree
  iintro ⟨Hb, Hs⟩
  isplitl [Hb]
  · iapply (Entails.of_eq (pointsTo_congr fun y hy => by
      obtain ⟨x, -, rfl⟩ := Finset.mem_map.mp hy
      exact View.eq_of_read_eq (v := (oW c j).view) (congrFun ((View.read_write_univ _ _).trans hf) x))) $$ Hb
  · iexists _; iexact Hs

/-- Its wait: the block is written, the slot free. -/
theorem outWait (s j : ℕ) (O : CellTallies nD τ sig (HIx 5)) (W : Waits sig (HIx 5)) (o4 o5 o6) (h4 : ∀ a, o4 a + S1x128x128.size a ≤ S2x128x128.size a) (h5 : ∀ a, o5 a + S128x128.size a ≤ S32000x128.size a)
    (h6 : ∀ a, o6 a + S1.size a ≤ S2.size a) (e5 : o5 = ![128 * (j % 250), 0]) (e6 : o6 = ![s % 2])
    {hsrc hdst} {α : Type} (k : PUnit → Prog (TpuEff nD τ sig (Elt F) Λ₀ (.scVector (cV i) (jV i))) α) (Q : α → sProp 𝕄) :
    iprop(OutFl c d i g s j ∗ Owing (F := F) d i O W ∗ Transfers.MayWaits (thr d i) (default : HIx 5) O)
      ⊢ iprop((iprop(OBlk c d i j g ∗ rFree (F := F) c d i s ∗ oZ (F := F) c d i s ∗ Owing (F := F) d i O W)
            -∗ wp frame (wpE (defs₀ (F := F)) 𝒱₀ (thr d i) none) Set.univ (k ⟨⟩) Q)
        -∗ wp frame (wpE (defs₀ (F := F)) 𝒱₀ (thr d i) none) Set.univ
          (.op (.waitDma2 ((c.v13.slice (Rect.unit (s := S2) o6 S1.size h6)).squeeze S_ squeezes_S1_S_).sem
            ((c.B1.slice (Rect.unit (s := S2x128x128) o4 S1x128x128.size h4) (fun _ => rfl)).squeeze S128x128 squeezes_S1x128x128_S128x128)
            (c.A4.slice (Rect.unit (s := S32000x128) o5 S128x128.size h5) (fun _ => rfl))
            hsrc hdst) k) Q) := by
  subst e5 e6
  unfold OutFl
  iintro ⟨Hf, HO, Hm⟩ Hk
  ihave HO' := (owing_elim d i O W) $$ HO
  icases HO' with ⟨%W', %hW, HO⟩
  iapply (Transfers.wp_waitLocalO countersEmb 𝒱₀ (thr d i) none (default : HIx 5) (rfl : (oW c j).view.dmaCredit = _)) $$ [Hf HO Hm]
  · isplitl [Hf]; · iexact Hf
    isplitl [HO]; · iexact HO
    iapply (Transfers.MayWaits.elim _) $$ Hm
  iintro ⟨⟨Hb, Hs⟩, Hz, HO⟩
  iapply Hk
  isplitl [Hb]; · iexact Hb
  isplitl [Hs]; · iexact Hs
  isplitl [Hz]; · iexact Hz
  iapply (owing_insert d i O W W' hW _) $$ HO

/-- The gather's list is a part of its slot. -/
theorem lS_sub (s : ℕ) : (lS c s).view.set ⊆ (iS c s).view.set := by
  rw [show (lS c s).view.set = ((iS c s).view.slice (Rect.unit (s := S1x128) ![0, 0] S1x128.size inb_S1x128_S1x128_0_0)).set from View.set_reshape _ _]
  exact View.set_slice_subset _ _

theorem gatherPayload_rows_congr {p : S10000x128.Idx → Elt F .i32} {l l' : S128.Idx → Elt F .i32} (e : l = l') {hn hn'} {h : ∀ x, (l x).toNat < S10000x128.size gathers_S10000x128_S128x128.axis}
    {h' : ∀ x, (l' x).toNat < S10000x128.size gathers_S10000x128_S128x128.axis} :
    SparseCore.gatherPayload gathers_S10000x128_S128x128 p (SparseCore.rows l hn h) = SparseCore.gatherPayload gathers_S10000x128_S128x128 p (SparseCore.rows l' hn' h') := by
  subst e; rfl

/-- A block's rows gathered into a slot, and the wait. -/
theorem gatherWait (s j : ℕ) (hin : InB c d i fx) (hg : (oW c j).view.read (Elt F) g = pay c d i fx ft hin j)
    (O : CellTallies nD τ sig (HIx 5)) (W : Waits sig (HIx 5)) (o10 o11) (h10 : ∀ a, o10 a + S1x128x128.size a ≤ S2x128x128.size a) (h11 : ∀ a, o11 a + S1x1x128.size a ≤ S2x1x128.size a)
    (e10 : o10 = ![s % 2, 0, 0]) (e11 : o11 = ![s % 2, 0, 0])
    {hp hn hsrc he hsp hr hsrc' hdst'} {α : Type} (k : PUnit → Prog (TpuEff nD τ sig (Elt F) Λ₀ (.scVector (cV i) (jV i))) α) (Q : α → sProp 𝕄) :
    iprop(iFull c d i fx s j ∗ rFree (F := F) c d i s ∗ TPts c d i ft q ∗ gZ (F := F) c d i ∗ Owing (F := F) d i O W ∗ Transfers.MayWaits (thr d i) (default : HIx 5) O)
      ⊢ iprop((iprop(iFree (F := F) c d i s ∗ rFull c d i g s j ∗ TPts c d i ft q ∗ gZ (F := F) c d i ∗ Owing (F := F) d i O W)
            -∗ wp frame (wpE (defs₀ (F := F)) 𝒱₀ (thr d i) none) Set.univ (k ⟨⟩) Q)
        -∗ wp frame (wpE (defs₀ (F := F)) 𝒱₀ (thr d i) none) Set.univ
          ((SparseCore.enqueueIndirectGather hp (tW c)
              ((c.B1.slice (Rect.unit (s := S2x128x128) o10 S1x128x128.size h10) (fun _ => rfl)).squeeze S128x128 squeezes_S1x128x128_S128x128)
              gathers_S10000x128_S128x128
              ((((c.B0.slice (Rect.unit (s := S2x1x128) o11 S1x1x128.size h11) (fun _ => rfl)).squeeze S1x128 squeezes_S1x1x128_S1x128).slice
                (Rect.unit (s := S1x128) ![0, 0] S1x128.size inb_S1x128_S1x128_0_0) (fun _ => rfl)).squeeze S128 squeezes_S1x128_S128)
              hn c.r1.sem hsrc he hsp hr) >>= fun _ =>
            .op (.waitDma2 c.r1.sem (tW c)
              ((c.B1.slice (Rect.unit (s := S2x128x128) o10 S1x128x128.size h10) (fun _ => rfl)).squeeze S128x128 squeezes_S1x128x128_S128x128)
              hsrc' hdst') k) Q) := by
  subst e10 e11
  unfold iFull rFree
  iintro ⟨⟨%fi, %hfi, Hi⟩, ⟨%fr, Hr⟩, Ht, Hz, HO, Hm⟩ Hk
  have hl : (lS c s).view.read (Elt F) fi = lst c d i fx j := by
    funext x
    exact congrFun hfi (lidx x)
  ihave Hi' := (pointsTo_split_subset (lS_sub c s)).1 $$ Hi
  icases Hi' with ⟨Hl, Hrest⟩
  iapply (SparseCore.wp_indirectGatherLocal countersEmb 𝒱₀ (thr d i) none (src := tW c) (dst := rS c s) (offs := lS c s) (hg := gathers_S10000x128_S128x128) (default : HIx 5)
      (rS c s).view.dmaCredit (SparseCore.sum_rowCredit_eq_dmaCredit (rS c s) _ (fun _ => rfl)) (by decide) (by rw [hl]; exact hin j)) $$ [Hl Hr Ht Hz]
  · isplitl [Ht]; · iexact Ht
    isplitl [Hr]; · iexact Hr
    isplitl [Hl]; · iexact Hl
    iexact Hz
  iintro Hf
  ihave HO' := (owing_elim d i O W) $$ HO
  icases HO' with ⟨%W', %hW, HO⟩
  iapply (Transfers.wp_waitLocalO countersEmb 𝒱₀ (thr d i) none (default : HIx 5) (rfl : (rS c s).view.dmaCredit = _)) $$ [Hf HO Hm]
  · isplitl [Hf]; · iexact Hf
    isplitl [HO]; · iexact HO
    iapply (Transfers.MayWaits.elim _) $$ Hm
  iintro ⟨⟨Hr, Ht, Hl⟩, Hz, HO⟩
  iapply Hk
  isplitl [Hl Hrest]
  · unfold iFree
    iexists fi
    iapply (pointsTo_split_subset (lS_sub c s)).2
    isplitl [Hl]; · iexact Hl
    iexact Hrest
  isplitl [Hr]
  · unfold rFull
    iexists _
    isplitr [Hr]
    rotate_left
    · iexact Hr
    ipureintro
    refine (View.read_write_univ _ _).trans (Eq.trans ?_ hg.symm)
    unfold pay
    exact gatherPayload_rows_congr hl
  isplitl [Ht]; · iexact Ht
  isplitl [Hz]; · iexact Hz
  iapply (owing_insert d i O W W' hW _) $$ HO

end
end Cert.Proof.Layer
-- ==== Proof.Layer.Tile.lean ====
/-
  One tile's pipeline: what is held before each trip, one trip, and the whole of the tile's task.
-/
module

public import proofs.«01_k».proof.Proof.Layer.Ops

@[expose] public section

noncomputable section

namespace Cert.Proof.Layer

open Cert.LayerIdeal Cert.LayerIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

/-! ## Runs of blocks -/

theorem bigSep_Ico_first (Φ : ℕ → sProp 𝕄) {a b : ℕ} (h : a < b) :
    bigSep (Finset.Ico a b) Φ = iprop(Φ a ∗ bigSep (Finset.Ico (a + 1) b) Φ) := by
  rw [show Finset.Ico a b = insert a (Finset.Ico (a + 1) b) from by ext x; simp; omega]
  exact SparseCore.bigSep_insert' (by simp)

theorem bigSep_Ico_last (Φ : ℕ → sProp 𝕄) {a b : ℕ} (h : a ≤ b) :
    bigSep (Finset.Ico a (b + 1)) Φ = iprop(Φ b ∗ bigSep (Finset.Ico a b) Φ) := by
  rw [show Finset.Ico a (b + 1) = insert b (Finset.Ico a b) from by ext x; simp; omega]
  exact SparseCore.bigSep_insert' (by simp)

theorem bigSep_Ico_none (Φ : ℕ → sProp 𝕄) {a b : ℕ} (h : b ≤ a) : bigSep (Finset.Ico a b) Φ = (iprop(emp) : sProp 𝕄) := by
  rw [Finset.Ico_eq_empty_of_le h, bigSep_empty]; rfl

section
variable (c : Ops) (d : Dev nD) (i : grid0.Coords)
variable (fx : Buf (Elt F) (c.A3.view.loc (thr d i))) (ft : Buf (Elt F) (c.A2.view.loc (thr d i)))
  (f₀ g : Buf (Elt F) (c.A4.view.loc (thr d i))) (q : PosShare TreeShare)

theorem iFree_congr {s s' : ℕ} (h : s % 2 = s' % 2) : (iFree (F := F) c d i s : sProp 𝕄) = iFree (F := F) c d i s' := by
  unfold iFree
  have key : ∀ (p p' : ℕ) (_ : p = p') (hp : ∀ a, (![p, 0, 0] : Fin 3 → ℕ) a + S1x1x128.size a ≤ S2x1x128.size a)
      (hp' : ∀ a, (![p', 0, 0] : Fin 3 → ℕ) a + S1x1x128.size a ≤ S2x1x128.size a),
      (iprop(∃ f, ((c.B0.slice (Rect.unit (s := S2x1x128) ![p, 0, 0] S1x1x128.size hp) (fun _ => rfl)).squeeze S1x128 squeezes_S1x1x128_S1x128).view.loc (thr d i)
          ↦[((c.B0.slice (Rect.unit (s := S2x1x128) ![p, 0, 0] S1x1x128.size hp) (fun _ => rfl)).squeeze S1x128 squeezes_S1x1x128_S1x128).view.set]{fullShare} f) : sProp 𝕄)
        = iprop(∃ f, ((c.B0.slice (Rect.unit (s := S2x1x128) ![p', 0, 0] S1x1x128.size hp') (fun _ => rfl)).squeeze S1x128 squeezes_S1x1x128_S1x128).view.loc (thr d i)
          ↦[((c.B0.slice (Rect.unit (s := S2x1x128) ![p', 0, 0] S1x1x128.size hp') (fun _ => rfl)).squeeze S1x128 squeezes_S1x1x128_S1x128).view.set]{fullShare} f) := by
    rintro p _ rfl _ _; rfl
  exact key _ _ h _ _

theorem rFree_congr {s s' : ℕ} (h : s % 2 = s' % 2) : (rFree (F := F) c d i s : sProp 𝕄) = rFree (F := F) c d i s' := by
  unfold rFree
  have key : ∀ (p p' : ℕ) (_ : p = p') (hp : ∀ a, (![p, 0, 0] : Fin 3 → ℕ) a + S1x128x128.size a ≤ S2x128x128.size a)
      (hp' : ∀ a, (![p', 0, 0] : Fin 3 → ℕ) a + S1x128x128.size a ≤ S2x128x128.size a),
      (iprop(∃ f, ((c.B1.slice (Rect.unit (s := S2x128x128) ![p, 0, 0] S1x128x128.size hp) (fun _ => rfl)).squeeze S128x128 squeezes_S1x128x128_S128x128).view.loc (thr d i)
          ↦[((c.B1.slice (Rect.unit (s := S2x128x128) ![p, 0, 0] S1x128x128.size hp) (fun _ => rfl)).squeeze S128x128 squeezes_S1x128x128_S128x128).view.set]{fullShare} f) : sProp 𝕄)
        = iprop(∃ f, ((c.B1.slice (Rect.unit (s := S2x128x128) ![p', 0, 0] S1x128x128.size hp') (fun _ => rfl)).squeeze S128x128 squeezes_S1x128x128_S128x128).view.loc (thr d i)
          ↦[((c.B1.slice (Rect.unit (s := S2x128x128) ![p', 0, 0] S1x128x128.size hp') (fun _ => rfl)).squeeze S128x128 squeezes_S1x128x128_S128x128).view.set]{fullShare} f) := by
    rintro p _ rfl _ _; rfl
  exact key _ _ h _ _

theorem iZ_congr {s s' : ℕ} (h : s % 2 = s' % 2) : (iZ (F := F) c d i s : sProp 𝕄) = iZ (F := F) c d i s' := by
  have key : ∀ (p p' : ℕ) (_ : p = p') (hp : ∀ a, (![p] : Fin 1 → ℕ) a + S1.size a ≤ S2.size a) (hp' : ∀ a, (![p'] : Fin 1 → ℕ) a + S1.size a ≤ S2.size a),
      (semVal (thr d i, SemLoc.dma ((c.v12.slice (Rect.unit (s := S2) ![p] S1.size hp)).squeeze S_ squeezes_S1_S_).sem) 0 : sProp 𝕄)
        = semVal (thr d i, SemLoc.dma ((c.v12.slice (Rect.unit (s := S2) ![p'] S1.size hp')).squeeze S_ squeezes_S1_S_).sem) 0 := by
    rintro p _ rfl _ _; rfl
  exact key _ _ h _ _

theorem oZ_congr {s s' : ℕ} (h : s % 2 = s' % 2) : (oZ (F := F) c d i s : sProp 𝕄) = oZ (F := F) c d i s' := by
  have key : ∀ (p p' : ℕ) (_ : p = p') (hp : ∀ a, (![p] : Fin 1 → ℕ) a + S1.size a ≤ S2.size a) (hp' : ∀ a, (![p'] : Fin 1 → ℕ) a + S1.size a ≤ S2.size a),
      (semVal (thr d i, SemLoc.dma ((c.v13.slice (Rect.unit (s := S2) ![p] S1.size hp)).squeeze S_ squeezes_S1_S_).sem) 0 : sProp 𝕄)
        = semVal (thr d i, SemLoc.dma ((c.v13.slice (Rect.unit (s := S2) ![p'] S1.size hp')).squeeze S_ squeezes_S1_S_).sem) 0 := by
    rintro p _ rfl _ _; rfl
  exact key _ _ h _ _

/-! ## Before trip `k` -/

/-- The words the loop carries before trip `k`. -/
def words (k : ℕ) : BitVec 32 × BitVec 32 × BitVec 32 × BitVec 32 × BitVec 32 := (w6 i k, w7 k, w7 k, w9 k, w10 i k)

/-- Slot `k % 2` of the row numbers: block `st + k` on its way in, or after the last block free. -/
def InSt (k : ℕ) : sProp 𝕄 := if k < nb i then InFl c d i fx k (st i + k) else iprop(iFree (F := F) c d i k ∗ iZ (F := F) c d i k)
/-- The other slot of the rows: the block before on its way out, or before the first block free. -/
def OutSt (k : ℕ) : sProp 𝕄 := if k = 0 then iprop(rFree (F := F) c d i (k + 1) ∗ oZ (F := F) c d i (k + 1)) else OutFl c d i g (k - 1) (st i + k - 1)

variable (O : CellTallies nD τ sig (HIx 5)) (W : Waits sig (HIx 5))

def Inv (k : ℕ) (acc : BitVec 32 × BitVec 32 × BitVec 32 × BitVec 32 × BitVec 32) : sProp 𝕄 :=
  iprop(⌜acc = words i k⌝
    ∗ Transfers.MayWaits (thr d i) (default : HIx 5) O
    ∗ bigSep (Finset.Ico (st i) (st i + k)) (fun j => IBlk c d i fx j)
    ∗ bigSep (Finset.Ico (st i + k + 1) (st i + nb i)) (fun j => IBlk c d i fx j)
    ∗ InSt c d i fx k
    ∗ iFree (F := F) c d i (k + 1) ∗ iZ (F := F) c d i (k + 1)
    ∗ bigSep (Finset.Ico (st i + k) (st i + nb i)) (fun j => OBlk c d i j f₀)
    ∗ bigSep (Finset.Ico (st i) (st i + k - 1)) (fun j => OBlk c d i j g)
    ∗ OutSt c d i g k
    ∗ rFree (F := F) c d i k ∗ oZ (F := F) c d i k
    ∗ gZ (F := F) c d i ∗ TPts c d i ft q ∗ Owing (F := F) d i O W)

variable [FloatOps F]

/-- The copy in of the next block, if there is one. -/
theorem condIn (k : ℕ) (hk : k < nb i) {P : Prop} [Decidable P] (hP : P ↔ k + 1 < nb i) (o4 o5 o6) (h4 : ∀ _ : P, ∀ a, o4 a + S1x1x128.size a ≤ S2x1x128.size a)
    (h5 : ∀ _ : P, ∀ a, o5 a + S1x128.size a ≤ S1x32000.size a) (h6 : ∀ _ : P, ∀ a, o6 a + S1.size a ≤ S2.size a)
    (e4 : k + 1 < nb i → o4 = ![(k + 1) % 2, 0, 0]) (e5 : k + 1 < nb i → o5 = ![0, 128 * (st i + k + 1)]) (e6 : k + 1 < nb i → o6 = ![(k + 1) % 2])
    {hsrc : ∀ h : P, _} {hdst : ∀ h : P, _} {hsem : ∀ h : P, _} {α β : Type} (kk : PUnit → Prog (TpuEff nD τ sig (Elt F) Λ₀ (.scVector (cV i) (jV i))) β)
    (f : β → Prog (TpuEff nD τ sig (Elt F) Λ₀ (.scVector (cV i) (jV i))) α) (Q : α → sProp 𝕄) :
    iprop(bigSep (Finset.Ico (st i + k + 1) (st i + nb i)) (fun j => IBlk c d i fx j) ∗ iFree (F := F) c d i (k + 1) ∗ iZ (F := F) c d i (k + 1))
      ⊢ iprop((iprop(InSt c d i fx (k + 1) ∗ bigSep (Finset.Ico (st i + k + 2) (st i + nb i)) (fun j => IBlk c d i fx j))
            -∗ wp frame (wpE (defs₀ (F := F)) 𝒱₀ (thr d i) none) Set.univ (kk ⟨⟩ >>= f) Q)
        -∗ wp frame (wpE (defs₀ (F := F)) 𝒱₀ (thr d i) none) Set.univ
          ((if h : P then
            .op (.enqueueDma (c.A3.slice (Rect.unit (s := S1x32000) o5 S1x128.size (h5 h)) (fun _ => rfl))
              (.here ((c.B0.slice (Rect.unit (s := S2x1x128) o4 S1x1x128.size (h4 h)) (fun _ => rfl)).squeeze S1x128 squeezes_S1x1x128_S1x128))
              (.dma ((c.v12.slice (Rect.unit (s := S2) o6 S1.size (h6 h))).squeeze S_ squeezes_S1_S_).sem) (hsrc h) (hdst h) (hsem h)) kk
            else kk ⟨⟩) >>= f) Q) := by
  have hst := st_nb_le i
  by_cases hn : k + 1 < nb i
  · have hp := hP.mpr hn
    rw [dif_pos hp, Prog.bind_op, bigSep_Ico_first _ (show st i + k + 1 < st i + nb i by omega)]
    iintro ⟨⟨Hb, Hbs⟩, Hs, Hz⟩ Hk
    iapply (inStart c d i fx (k + 1) (st i + k + 1) o4 o5 o6 (h4 hp) (h5 hp) (h6 hp) (e4 hn) ((e5 hn).trans (by rw [Nat.mod_eq_of_lt (by omega)])) (e6 hn)) $$ [Hb Hs Hz]
    · isplitl [Hb]; · iexact Hb
      isplitl [Hs]; · iexact Hs
      iexact Hz
    iintro Hf
    iapply Hk
    isplitl [Hf]
    · unfold InSt
      rw [if_pos hn]
      iexact Hf
    · iexact Hbs
  · have hp : ¬ P := fun h => hn (hP.mp h)
    rw [dif_neg hp, bigSep_Ico_none _ (show st i + nb i ≤ st i + k + 1 by omega), bigSep_Ico_none _ (show st i + nb i ≤ st i + k + 2 by omega)]
    iintro ⟨Hbs, Hs, Hz⟩ Hk
    iapply Hk
    isplitl [Hs Hz]
    · unfold InSt
      rw [if_neg hn]
      isplitl [Hs]; · iexact Hs
      iexact Hz
    · iexact Hbs

/-- The wait for the block before to be out, if there is one. -/
theorem condOut (k : ℕ) (hk : k < nb i) {P : Prop} [Decidable P] (hP : P ↔ 0 < k) (o4 o5 o6) (h4 : ∀ _ : P, ∀ a, o4 a + S1x128x128.size a ≤ S2x128x128.size a)
    (h5 : ∀ _ : P, ∀ a, o5 a + S128x128.size a ≤ S32000x128.size a) (h6 : ∀ _ : P, ∀ a, o6 a + S1.size a ≤ S2.size a)
    (e5 : 0 < k → o5 = ![128 * (st i + k - 1), 0]) (e6 : 0 < k → o6 = ![(k + 1) % 2])
    {hsrc : ∀ h : P, _} {hdst : ∀ h : P, _} {α : Type} (kk : PUnit → Prog (TpuEff nD τ sig (Elt F) Λ₀ (.scVector (cV i) (jV i))) α) (Q : α → sProp 𝕄) :
    iprop(OutSt c d i g k ∗ bigSep (Finset.Ico (st i) (st i + k - 1)) (fun j => OBlk c d i j g) ∗ Owing (F := F) d i O W ∗ Transfers.MayWaits (thr d i) (default : HIx 5) O)
      ⊢ iprop((iprop(rFree (F := F) c d i (k + 1) ∗ oZ (F := F) c d i (k + 1) ∗ bigSep (Finset.Ico (st i) (st i + k)) (fun j => OBlk c d i j g) ∗ Owing (F := F) d i O W)
            -∗ wp frame (wpE (defs₀ (F := F)) 𝒱₀ (thr d i) none) Set.univ (kk ⟨⟩) Q)
        -∗ wp frame (wpE (defs₀ (F := F)) 𝒱₀ (thr d i) none) Set.univ
          (if h : P then
            .op (.waitDma2 ((c.v13.slice (Rect.unit (s := S2) o6 S1.size (h6 h))).squeeze S_ squeezes_S1_S_).sem
              ((c.B1.slice (Rect.unit (s := S2x128x128) o4 S1x128x128.size (h4 h)) (fun _ => rfl)).squeeze S128x128 squeezes_S1x128x128_S128x128)
              (c.A4.slice (Rect.unit (s := S32000x128) o5 S128x128.size (h5 h)) (fun _ => rfl)) (hsrc h) (hdst h)) kk
            else kk ⟨⟩) Q) := by
  have hst := st_nb_le i
  by_cases hn : 0 < k
  · have hp := hP.mpr hn
    have hm : (k + 1) % 2 = (k - 1) % 2 := by omega
    rw [dif_pos hp, show st i + k = st i + k - 1 + 1 by omega, bigSep_Ico_last _ (show st i ≤ st i + k - 1 by omega), show st i + k - 1 + 1 - 1 = st i + k - 1 by omega,
      rFree_congr c d i hm, oZ_congr c d i hm]
    unfold OutSt
    rw [if_neg (by omega)]
    iintro ⟨Hf, Hbs, HO, Hm⟩ Hk
    iapply (outWait c d i g (k - 1) (st i + k - 1) O W o4 o5 o6 (h4 hp) (h5 hp) (h6 hp) ((e5 hn).trans (by rw [Nat.mod_eq_of_lt (by omega)])) ((e6 hn).trans (by rw [hm]))) $$ [Hf HO Hm]
    · isplitl [Hf]; · iexact Hf
      isplitl [HO]; · iexact HO
      iexact Hm
    iintro ⟨Hb, Hs, Hz, HO⟩
    iapply Hk
    isplitl [Hs]; · iexact Hs
    isplitl [Hz]; · iexact Hz
    isplitl [Hb Hbs]
    · isplitl [Hb]; · iexact Hb
      iexact Hbs
    iexact HO
  · have hp : ¬ P := fun h => hn (hP.mp h)
    obtain rfl : k = 0 := by omega
    rw [dif_neg hp, bigSep_Ico_none _ (show st i + 0 - 1 ≤ st i by omega), bigSep_Ico_none _ (show st i + 0 ≤ st i by omega)]
    unfold OutSt
    rw [if_pos rfl]
    iintro ⟨⟨Hs, Hz⟩, Hbs, HO, -⟩ Hk
    iapply Hk
    isplitl [Hs]; · iexact Hs
    isplitl [Hz]; · iexact Hz
    isplitl [Hbs]; · iexact Hbs
    iexact HO

/-- One trip: what is held before it becomes what is held before the next. -/
theorem trip (hin : InB c d i fx) (hg : ∀ j, (oW c j).view.read (Elt F) g = pay c d i fx ft hin j) (h1 : k0_cond1 i = 1#1)
    (v5 v10 v11 v41 c29 c30 c31 c32 c33 v45 : BitVec 32) (hv5 : v5 = BitVec.ofNat 32 (nb i)) (hv10 : v10 = BitVec.ofNat 32 (st i)) (hc29 : c29 = 0#32)
    (k : Fin (k0_t1_loop i).trips) (acc : BitVec 32 × BitVec 32 × BitVec 32 × BitVec 32 × BitVec 32) :
    Inv c d i fx ft f₀ g q O W k.val acc
      ⊢ wp frame (wpE (defs₀ (F := F)) 𝒱₀ (thr d i) none) Set.univ
          (k0_t1_body i c.A2 c.h2 c.A3 c.h3 c.A4 c.h4 c.B0 c.hB0 c.v12 c.B1 c.hB1 c.v13 c.r1 c.r2 v5 v10 v11 h1 v41 c29 c30 c31 c32 c33 v45 k acc)
          fun acc' => Inv c d i fx ft f₀ g q O W (k.val + 1) acc' := by
  subst hv5 hv10 hc29
  have hk : k.val < nb i := trips_eq i ▸ k.isLt
  unfold Inv
  iintro ⟨%hacc, #Hm, Hi₁, Hi₂, Hin, Hfi, Hzi, Ho₁, Ho₂, Hout, Hfr, Hzr, Hg, Ht, HO⟩
  subst hacc
  unfold k0_t1_body words
  simp only [k0_part1_eq_skeleton]; unfold k0_part1_skel
  simp only [k0_part2_eq_skeleton]; unfold k0_part2_skel
  simp only [Prog.lift, Prog.bind_op, Prog.bind_ret, Prog.pure_eq_ret, Prog.bind_assoc, SparseCore.waitIndirectGather, dif_pos (cond4 i k), dif_pos (cond7 i k), ite_self]
  rw [wp_assume_of _ _ _ _ (chk3 i k), wp_assume_of _ _ _ _ (chk2 i k), wp_assume_of _ _ _ _ (chk1 i k)]
  iapply (condIn c d i fx k.val hk (cond3 i k) _ _ _ _ _ _ (off4 i k) (off5 i k) (off6 i k)) $$ [Hi₂ Hfi Hzi]
  · isplitl [Hi₂]; · iexact Hi₂
    isplitl [Hfi]; · iexact Hfi
    iexact Hzi
  iintro ⟨Hin', Hi₂⟩
  simp only [Prog.bind_ret]
  -- block `k` is in
  ihave Hin := (Entails.of_eq (show (InSt c d i fx k.val : sProp 𝕄) = InFl c d i fx k.val (st i + k.val) from if_pos hk)) $$ Hin
  iapply (inWait c d i fx k.val (st i + k.val) O W _ _ _ _ _ _ (off7 i k) (off9 i k)) $$ [Hin HO]
  · isplitl [Hin]; · iexact Hin
    isplitl [HO]; · iexact HO
    iexact Hm
  iintro ⟨Hfull, Hb, Hzi, HO⟩
  -- its rows are gathered
  iapply (gatherWait c d i fx ft g q k.val (st i + k.val) hin (hg _) O W _ _ _ _ (off10 i k) (off11 i k)) $$ [Hfull Hfr Ht Hg HO]
  · isplitl [Hfull]; · iexact Hfull
    isplitl [Hfr]; · iexact Hfr
    isplitl [Ht]; · iexact Ht
    isplitl [Hg]; · iexact Hg
    isplitl [HO]; · iexact HO
    iexact Hm
  iintro ⟨Hfi, Hrows, Ht, Hg, HO⟩
  -- and start out
  ihave Ho₁ := (Entails.of_eq (bigSep_Ico_first (F := F) _ (show st i + k.val < st i + nb i by omega))) $$ Ho₁
  icases Ho₁ with ⟨Hob, Ho₁⟩
  iapply (outStart c d i g k.val (st i + k.val) f₀ _ _ _ _ _ _ (off12 i k) ((off13 i k).trans (by rw [Nat.mod_eq_of_lt (by have := st_nb_le i; omega)])) (off14 i k)) $$ [Hrows Hob Hzr]
  · isplitl [Hrows]; · iexact Hrows
    isplitl [Hob]; · iexact Hob
    iexact Hzr
  iintro Hfl
  -- the block before is out
  iapply (condOut c d i g O W k.val hk (cond9 i k) _ _ _ _ _ _ (off16 i k) (off17 i k)) $$ [Hout Ho₂ HO]
  · isplitl [Hout]; · iexact Hout
    isplitl [Ho₂]; · iexact Ho₂
    isplitl [HO]; · iexact HO
    iexact Hm
  iintro ⟨Hfr, Hzr, Ho₂, HO⟩
  rw [wp_ret]; imodintro
  isplitr
  · ipureintro
    exact next_words i k
  isplitr; · iexact Hm
  isplitl [Hb Hi₁]
  · iapply (Entails.of_eq (bigSep_Ico_last (F := F) (fun j => IBlk c d i fx j) (show st i ≤ st i + k.val by omega)).symm)
    isplitl [Hb]; · iexact Hb
    iexact Hi₁
  isplitl [Hi₂]; · iexact Hi₂
  isplitl [Hin']; · iexact Hin'
  isplitl [Hfi]
  · rw [iFree_congr c d i (show (k.val + 1 + 1) % 2 = k.val % 2 by omega)]
    iexact Hfi
  isplitl [Hzi]
  · rw [iZ_congr c d i (show (k.val + 1 + 1) % 2 = k.val % 2 by omega)]
    iexact Hzi
  isplitl [Ho₁]; · iexact Ho₁
  isplitl [Ho₂]; · iexact Ho₂
  isplitl [Hfl]
  · unfold OutSt
    rw [if_neg (Nat.succ_ne_zero _)]
    iexact Hfl
  isplitl [Hfr]; · iexact Hfr
  isplitl [Hzr]; · iexact Hzr
  isplitl [Hg]; · iexact Hg
  isplitl [Ht]; · iexact Ht
  iexact HO

theorem iFree_pair (n : ℕ) : (iprop(iFree (F := F) c d i n ∗ iFree (F := F) c d i (n + 1)) : sProp 𝕄) ⊢ iprop(iFree (F := F) c d i 0 ∗ iFree (F := F) c d i 1) := by
  rcases Nat.mod_two_eq_zero_or_one n with h | h
  · rw [iFree_congr c d i (show n % 2 = 0 % 2 from h), iFree_congr c d i (show (n + 1) % 2 = 1 % 2 by omega)]
  · rw [iFree_congr c d i (show n % 2 = 1 % 2 from h), iFree_congr c d i (show (n + 1) % 2 = 0 % 2 by omega)]
    exact sep_comm.1
theorem rFree_pair (n : ℕ) : (iprop(rFree (F := F) c d i n ∗ rFree (F := F) c d i (n + 1)) : sProp 𝕄) ⊢ iprop(rFree (F := F) c d i 0 ∗ rFree (F := F) c d i 1) := by
  rcases Nat.mod_two_eq_zero_or_one n with h | h
  · rw [rFree_congr c d i (show n % 2 = 0 % 2 from h), rFree_congr c d i (show (n + 1) % 2 = 1 % 2 by omega)]
  · rw [rFree_congr c d i (show n % 2 = 1 % 2 from h), rFree_congr c d i (show (n + 1) % 2 = 0 % 2 by omega)]
    exact sep_comm.1
theorem iZ_pair (n : ℕ) : (iprop(iZ (F := F) c d i n ∗ iZ (F := F) c d i (n + 1)) : sProp 𝕄) ⊢ iprop(iZ (F := F) c d i 0 ∗ iZ (F := F) c d i 1) := by
  rcases Nat.mod_two_eq_zero_or_one n with h | h
  · rw [iZ_congr c d i (show n % 2 = 0 % 2 from h), iZ_congr c d i (show (n + 1) % 2 = 1 % 2 by omega)]
  · rw [iZ_congr c d i (show n % 2 = 1 % 2 from h), iZ_congr c d i (show (n + 1) % 2 = 0 % 2 by omega)]
    exact sep_comm.1
theorem oZ_pair (n : ℕ) : (iprop(oZ (F := F) c d i n ∗ oZ (F := F) c d i (n + 1)) : sProp 𝕄) ⊢ iprop(oZ (F := F) c d i 0 ∗ oZ (F := F) c d i 1) := by
  rcases Nat.mod_two_eq_zero_or_one n with h | h
  · rw [oZ_congr c d i (show n % 2 = 0 % 2 from h), oZ_congr c d i (show (n + 1) % 2 = 1 % 2 by omega)]
  · rw [oZ_congr c d i (show n % 2 = 1 % 2 from h), oZ_congr c d i (show (n + 1) % 2 = 0 % 2 by omega)]
    exact sep_comm.1

/-- What the kernel's own storage comes to: the four slots free and the five cells at zero. -/
def Own : sProp 𝕄 :=
  iprop((iFree (F := F) c d i 0 ∗ iFree (F := F) c d i 1) ∗ (rFree (F := F) c d i 0 ∗ rFree (F := F) c d i 1)
    ∗ (iZ (F := F) c d i 0 ∗ iZ (F := F) c d i 1) ∗ (oZ (F := F) c d i 0 ∗ oZ (F := F) c d i 1) ∗ gZ (F := F) c d i)

/-- The tile's task: with its blocks of the row numbers, its blocks of the result at any contents and a share of the
    table, it leaves its blocks of the result at the gathered rows, and the rest as it was. -/
theorem tile (hin : InB c d i fx) (hg : ∀ j, (oW c j).view.read (Elt F) g = pay c d i fx ft hin j) :
    iprop(Transfers.MayWaits (thr d i) (default : HIx 5) O
        ∗ bigSep (Finset.Ico (st i) (st i + nb i)) (fun j => IBlk c d i fx j) ∗ bigSep (Finset.Ico (st i) (st i + nb i)) (fun j => OBlk c d i j f₀)
        ∗ TPts c d i ft q ∗ Own (F := F) c d i ∗ Owing (F := F) d i O W)
      ⊢ wp frame (wpE (defs₀ (F := F)) 𝒱₀ (thr d i) none) Set.univ
          (cc0_gather_kernel i c.A2 c.h2 c.A3 c.h3 c.A4 c.h4 c.B0 c.hB0 c.v12 c.B1 c.hB1 c.v13 c.r1 c.r2)
          fun _ => iprop(bigSep (Finset.Ico (st i) (st i + nb i)) (fun j => IBlk c d i fx j) ∗ bigSep (Finset.Ico (st i) (st i + nb i)) (fun j => OBlk c d i j g)
            ∗ TPts c d i ft q ∗ Own (F := F) c d i ∗ Owing (F := F) d i O W) := by
  have hst := st_nb_le i
  have hnb := nb_pos i
  unfold Own
  iintro ⟨#Hm, Hi, Ho, Ht, ⟨⟨Hi0, Hi1⟩, ⟨Hr0, Hr1⟩, ⟨Hzi0, Hzi1⟩, ⟨Hzr0, Hzr1⟩, Hg⟩, HO⟩
  simp only [cc0_gather_kernel_eq_skeleton]; unfold cc0_gather_kernel_skel
  simp only [dif_pos (cond1 i)]
  simp only [k0_part5_eq_skeleton]; unfold k0_part5_skel
  simp only [k0_part6_eq_skeleton]; unfold k0_part6_skel
  simp only [Prog.lift, Prog.bind_op, Prog.bind_ret, Prog.pure_eq_ret, Prog.bind_assoc, dif_pos (cond2 i)]
  ihave Hi := (Entails.of_eq (bigSep_Ico_first (F := F) _ (show st i < st i + nb i by omega))) $$ Hi
  icases Hi with ⟨Hb, Hi⟩
  iapply (inStart c d i fx 0 (st i) _ _ _ _ _ _ off1 ((off2 i).trans (by rw [Nat.mod_eq_of_lt (by omega)])) off3) $$ [Hb Hi0 Hzi0]
  · isplitl [Hb]; · iexact Hb
    isplitl [Hi0]; · iexact Hi0
    iexact Hzi0
  iintro Hf
  sl_for (Inv c d i fx ft f₀ g q O W) $$ [Hi Ho Ht Hi1 Hr0 Hr1 Hzi1 Hzr0 Hzr1 Hg HO Hf]
  · intro k acc
    exact trip c d i fx ft f₀ g q O W hin hg (cond1 i) _ _ _ _ _ _ _ _ _ _ (v5_eq i) (v10_eq i) rfl k acc
  · unfold Inv
    isplitr
    · ipureintro; exact first_words i
    isplitr; · iexact Hm
    isplitr [Hi Ho Ht Hi1 Hr0 Hr1 Hzi1 Hzr0 Hzr1 Hg HO Hf]
    · rw [bigSep_Ico_none _ (show st i + 0 ≤ st i by omega)]; iempintro
    isplitl [Hi]; · iexact Hi
    isplitl [Hf]
    · unfold InSt; rw [if_pos hnb]; iexact Hf
    isplitl [Hi1]; · iexact Hi1
    isplitl [Hzi1]; · iexact Hzi1
    isplitl [Ho]; · iexact Ho
    isplitr [Ht Hr0 Hr1 Hzr0 Hzr1 Hg HO]
    · rw [bigSep_Ico_none _ (show st i + 0 - 1 ≤ st i by omega)]; iempintro
    isplitl [Hr1 Hzr1]
    · unfold OutSt; rw [if_pos rfl]
      isplitl [Hr1]; · iexact Hr1
      iexact Hzr1
    isplitl [Hr0]; · iexact Hr0
    isplitl [Hzr0]; · iexact Hzr0
    isplitl [Hg]; · iexact Hg
    isplitl [Ht]; · iexact Ht
    iexact HO
  iintro %acc HI
  rw [show Scf.trips (k0_t1_loop i).lb (k0_t1_loop i).ub (k0_t1_loop i).st = nb i from trips_eq i]
  unfold tile.sl.prog.cont_1 Inv
  icases HI with ⟨%hacc, -, Hi₁, Hi₂, Hin, Hfi, Hzi, Ho₁, Ho₂, Hout, Hfr, Hzr, Hg, Ht, HO⟩
  subst hacc
  unfold words
  sl_for0 (trips2_eq i)
  unfold tile.sl.prog.cont_2
  dsimp only
  rw [wp_assume_of _ _ _ _ (chk8 i), wp_assume_of _ _ _ _ (chk7 i)]
  simp only [dif_pos (cond18 i), ite_self, dite_eq_ite]
  ihave Hin := (Entails.of_eq (show (InSt c d i fx (nb i) : sProp 𝕄) = iprop(iFree (F := F) c d i (nb i) ∗ iZ (F := F) c d i (nb i)) from if_neg (Nat.lt_irrefl _))) $$ Hin
  icases Hin with ⟨Hfi', Hzi'⟩
  ihave Hout := (Entails.of_eq (show (OutSt c d i g (nb i) : sProp 𝕄) = OutFl c d i g (nb i - 1) (st i + nb i - 1) from if_neg (by omega))) $$ Hout
  have hm : (nb i + 1) % 2 = (nb i - 1) % 2 := by omega
  iapply (outWait c d i g (nb i - 1) (st i + nb i - 1) O W _ _ _ _ _ _ ((off33 i).trans (by rw [Nat.mod_eq_of_lt (by omega)])) ((off34 i).trans (by rw [hm]))) $$ [Hout HO]
  · isplitl [Hout]; · iexact Hout
    isplitl [HO]; · iexact HO
    iexact Hm
  iintro ⟨Hb, Hfr', Hzr', HO⟩
  ihave Hfr' := (Entails.of_eq (rFree_congr (F := F) c d i hm).symm) $$ Hfr'
  ihave Hzr' := (Entails.of_eq (oZ_congr (F := F) c d i hm).symm) $$ Hzr'
  simp only [Prog.bind]
  rw [wp_ret]; imodintro
  isplitl [Hi₁]; · iexact Hi₁
  isplitl [Hb Ho₂]
  · rw [show st i + nb i = st i + nb i - 1 + 1 by omega, bigSep_Ico_last _ (show st i ≤ st i + nb i - 1 by omega), show st i + nb i - 1 + 1 - 1 = st i + nb i - 1 by omega]
    isplitl [Hb]; · iexact Hb
    iexact Ho₂
  isplitl [Ht]; · iexact Ht
  isplitr [HO]
  rotate_left
  · iexact HO
  isplitl [Hfi Hfi']
  · iapply (iFree_pair c d i (nb i))
    isplitl [Hfi']; · iexact Hfi'
    iexact Hfi
  isplitl [Hfr Hfr']
  · iapply (rFree_pair c d i (nb i))
    isplitl [Hfr]; · iexact Hfr
    iexact Hfr'
  isplitl [Hzi Hzi']
  · iapply (iZ_pair c d i (nb i))
    isplitl [Hzi']; · iexact Hzi'
    iexact Hzi
  isplitl [Hzr Hzr']
  · iapply (oZ_pair c d i (nb i))
    isplitl [Hzr]; · iexact Hzr
    iexact Hzr'
  iexact Hg

end
end Cert.Proof.Layer
-- ==== Proof.Layer.Deal.lean ====
/-
  How a call's arrays are dealt to its thirty-two tiles and joined again: the 250 blocks of 128 row numbers and of 128
  rows, each tile its run of them; the table, each tile a share of it; and a tile's double buffers, slot by slot.
-/
module

public import proofs.«01_k».proof.Proof.Layer.Tile
public import Idealize.ShloMosaic.Lib.ShareLeaves

@[expose] public section

noncomputable section

namespace Cert.Proof.Layer

open Cert.LayerIdeal Cert.LayerIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves

variable {F : FTy → Type}

local notation "𝕄" => MT nD τ sig (HIx 5) (Elt F) ℕ UU ℕ

theorem eq_of_entails {P Q : sProp 𝕄} (h : P ⊢ Q) (h' : Q ⊢ P) : P = Q := BI.Entails.antisymm h h'

/-- The tile on SparseCore `a`, subcore `s`. -/
def coords (a : Fin 2) (s : Fin 16) : grid0.Coords :=
  fun | 0 => a | 1 => s | ⟨_ + 2, h⟩ => absurd h (Nat.not_lt.2 (Nat.le_add_left _ _))

/-- The blocks a tile takes. -/
abbrev blks (i : grid0.Coords) : Finset ℕ := Finset.Ico (st i) (st i + nb i)

theorem blks_disjoint : ∀ p p' : Fin 2 × Fin 16, p ≠ p' → st (coords p.1 p.2) + nb (coords p.1 p.2) ≤ st (coords p'.1 p'.2) ∨
    st (coords p'.1 p'.2) + nb (coords p'.1 p'.2) ≤ st (coords p.1 p.2) := by decide +kernel

theorem blks_cover : ∀ j : Fin 250, ∃ p : Fin 2 × Fin 16, st (coords p.1 p.2) ≤ j.val ∧ j.val < st (coords p.1 p.2) + nb (coords p.1 p.2) := by decide +kernel

/-- The 250 blocks are the tiles' runs of them. -/
theorem bigSep_blks (Φ : ℕ → sProp 𝕄) :
    bigSep (Finset.range 250) Φ = bigSep Finset.univ fun a : Fin 2 => bigSep Finset.univ fun s : Fin 16 => bigSep (blks (coords a s)) Φ := by
  have hu : Finset.range 250 = (Finset.univ : Finset (Fin 2)).biUnion fun a => (Finset.univ : Finset (Fin 16)).biUnion fun s => blks (coords a s) := by
    ext j
    simp only [Finset.mem_range, Finset.mem_biUnion, Finset.mem_univ, true_and, Finset.mem_Ico]
    constructor
    · intro hj
      obtain ⟨p, h⟩ := blks_cover ⟨j, hj⟩
      exact ⟨p.1, p.2, h⟩
    · rintro ⟨a, s, h1, h2⟩
      exact lt_of_lt_of_le h2 (st_nb_le _)
  have hd : ∀ p p' : Fin 2 × Fin 16, p ≠ p' → Disjoint (blks (coords p.1 p.2)) (blks (coords p'.1 p'.2)) := by
    intro p p' h
    rw [Finset.disjoint_left]
    intro j hj hj'
    rw [Finset.mem_Ico] at hj hj'
    rcases blks_disjoint p p' h with h | h <;> omega
  rw [hu, SparseCore.Cfg.bigSep_biUnion_eq]
  · refine bigSep_congr fun a _ => ?_
    refine SparseCore.Cfg.bigSep_biUnion_eq _ _ _ ?_
    intro s _ s' _ h
    exact hd (a, s) (a, s') fun e => h (Prod.mk.inj e).2
  · intro a _ a' _ h
    rw [Finset.disjoint_biUnion_left]
    intro s _
    rw [Finset.disjoint_biUnion_right]
    intro s' _
    exact hd (a, s) (a', s') fun e => h (Prod.mk.inj e).1

/-! ## The blocks of a chunk -/

def xB (j : ℕ) : Finset S1x32000.Idx := (Rect.unit (s := S1x32000) ![0, 128 * (j % 250)] S1x128.size (inbX j)).set
def oB (j : ℕ) : Finset S32000x128.Idx := (Rect.unit (s := S32000x128) ![128 * (j % 250), 0] S128x128.size (inbO j)).set

theorem xB_disjoint : ∀ j ∈ Finset.range 250, ∀ j' ∈ Finset.range 250, j ≠ j' → Disjoint (xB j) (xB j') := by
  intro j hj j' hj' h
  rw [Finset.mem_range] at hj hj'
  refine Rect.unit_disjoint (1 : Fin 2) ?_
  show 128 * (j % 250) + 128 ≤ 128 * (j' % 250) ∨ 128 * (j' % 250) + 128 ≤ 128 * (j % 250)
  rw [Nat.mod_eq_of_lt hj, Nat.mod_eq_of_lt hj']; omega
theorem oB_disjoint : ∀ j ∈ Finset.range 250, ∀ j' ∈ Finset.range 250, j ≠ j' → Disjoint (oB j) (oB j') := by
  intro j hj j' hj' h
  rw [Finset.mem_range] at hj hj'
  refine Rect.unit_disjoint (0 : Fin 2) ?_
  show 128 * (j % 250) + 128 ≤ 128 * (j' % 250) ∨ 128 * (j' % 250) + 128 ≤ 128 * (j % 250)
  rw [Nat.mod_eq_of_lt hj, Nat.mod_eq_of_lt hj']; omega

theorem xB_cover : (Finset.range 250).biUnion xB = Finset.univ := by
  ext x
  simp only [Finset.mem_biUnion, Finset.mem_range, Finset.mem_univ, iff_true]
  have h0 : (x 0).val < 1 := (x 0).isLt
  have h1 : (x 1).val < 32000 := (x 1).isLt
  have hlt : (x 1).val / 128 < 250 := by omega
  refine ⟨(x 1).val / 128, hlt, Rect.mem_set_unit.mpr ?_⟩
  intro a
  match a with
  | 0 => show 0 ≤ (x 0).val ∧ (x 0).val < 0 + 1; omega
  | 1 =>
    show 128 * ((x 1).val / 128 % 250) ≤ (x 1).val ∧ (x 1).val < 128 * ((x 1).val / 128 % 250) + 128
    rw [Nat.mod_eq_of_lt hlt]; omega
theorem oB_cover : (Finset.range 250).biUnion oB = Finset.univ := by
  ext x
  simp only [Finset.mem_biUnion, Finset.mem_range, Finset.mem_univ, iff_true]
  have h0 : (x 0).val < 32000 := (x 0).isLt
  have h1 : (x 1).val < 128 := (x 1).isLt
  have hlt : (x 0).val / 128 < 250 := by omega
  refine ⟨(x 0).val / 128, hlt, Rect.mem_set_unit.mpr ?_⟩
  intro a
  match a with
  | 0 =>
    show 128 * ((x 0).val / 128 % 250) ≤ (x 0).val ∧ (x 0).val < 128 * ((x 0).val / 128 % 250) + 128
    rw [Nat.mod_eq_of_lt hlt]; omega
  | 1 => show 0 ≤ (x 1).val ∧ (x 1).val < 0 + 128; omega

/-- An array in 250 blocks is its tiles' blocks. -/
theorem deal {ℓ : Loc nD τ sig} (B : ℕ → Finset (Idx ℓ)) (hd : ∀ j ∈ Finset.range 250, ∀ j' ∈ Finset.range 250, j ≠ j' → Disjoint (B j) (B j'))
    (hc : (Finset.range 250).biUnion B = Finset.univ) (f : Buf (Elt F) ℓ) :
    (ℓ ↦{fullShare} f : sProp 𝕄) = bigSep Finset.univ fun a : Fin 2 => bigSep Finset.univ fun s : Fin 16 => bigSep (blks (coords a s)) fun j => ℓ ↦[B j]{fullShare} f := by
  rw [← bigSep_blks (F := F) (fun j => ℓ ↦[B j]{fullShare} f), ← pointsTo_biUnion (Finset.range 250) B hd, hc]

/-- A tile's share of the table. -/
def tq (a : Fin 2) (s : Fin 16) : PosShare TreeShare := leaf 4 (leaf 1 fullShare a) s

/-- The table whole is its tiles' shares. -/
theorem deal_share {ℓ : Loc nD τ sig} (f : Buf (Elt F) ℓ) :
    (ℓ ↦{fullShare} f : sProp 𝕄) = bigSep Finset.univ fun a : Fin 2 => bigSep Finset.univ fun s : Fin 16 => ℓ ↦{tq a s} f := by
  rw [pointsTo_leaves Finset.univ f 1 fullShare]
  refine bigSep_congr fun a _ => ?_
  exact pointsTo_leaves Finset.univ f 4 (leaf 1 fullShare a)

/-! ## A double buffer is its two slots -/

section
variable (c : Ops) (d : Dev nD) (i : grid0.Coords)

theorem slots_I : (iprop(∃ f, c.B0.view.loc (thr d i) ↦[c.B0.view.set]{fullShare} f) : sProp 𝕄) = iprop(iFree (F := F) c d i 0 ∗ iFree (F := F) c d i 1) := by
  have e : ∀ s, (iS c s).view.set = (Rect.unit (s := S2x1x128) ![s % 2, 0, 0] S1x1x128.size (inbI s)).set.map c.B0.view.emb := by
    intro s
    exact (View.set_reshape _ _).trans (View.set_slice _ _)
  have hd : Disjoint (iS c 0).view.set (iS c 1).view.set := by
    rw [e, e, Finset.disjoint_map]
    exact Rect.unit_disjoint (0 : Fin 3) (Or.inl (show 0 + 1 ≤ 1 by omega))
  have hu : c.B0.view.set = (iS c 0).view.set ∪ (iS c 1).view.set := by
    rw [e, e, ← Finset.map_union]
    refine congrArg (Finset.map c.B0.view.emb) ?_
    ext x
    simp only [Finset.mem_univ, Finset.mem_union, true_iff]
    have h0 : (x 0).val < 2 := (x 0).isLt
    rcases Nat.lt_or_ge (x 0).val 1 with h | h
    · left; rw [Rect.mem_set_unit]; intro a
      match a with
      | 0 => show 0 ≤ (x 0).val ∧ (x 0).val < 0 + 1; omega
      | 1 => have h1 : (x 1).val < 1 := (x 1).isLt; show 0 ≤ (x 1).val ∧ (x 1).val < 0 + 1; omega
      | 2 => have h1 : (x 2).val < 128 := (x 2).isLt; show 0 ≤ (x 2).val ∧ (x 2).val < 0 + 128; omega
    · right; rw [Rect.mem_set_unit]; intro a
      match a with
      | 0 => show 1 ≤ (x 0).val ∧ (x 0).val < 1 + 1; omega
      | 1 => have h1 : (x 1).val < 1 := (x 1).isLt; show 0 ≤ (x 1).val ∧ (x 1).val < 0 + 1; omega
      | 2 => have h1 : (x 2).val < 128 := (x 2).isLt; show 0 ≤ (x 2).val ∧ (x 2).val < 0 + 128; omega
  unfold iFree
  refine eq_of_entails ?_ ?_
  · iintro ⟨%f, H⟩
    ihave H' := (Entails.of_eq (show (c.B0.view.loc (thr d i) ↦[c.B0.view.set]{fullShare} f : sProp 𝕄)
      = (c.B0.view.loc (thr d i) ↦[(iS c 0).view.set ∪ (iS c 1).view.set]{fullShare} f) by rw [hu])) $$ H
    ihave H'' := (pointsTo_union hd).1 $$ H'
    icases H'' with ⟨H0, H1⟩
    isplitl [H0]
    · iexists f; iexact H0
    · iexists f; iexact H1
  · iintro ⟨⟨%f, H0⟩, ⟨%g, H1⟩⟩
    ihave H := (pointsTo_join (f := f) (g := g) hd) $$ [H0 H1]
    · isplitl [H0]; · iexact H0
      iexact H1
    rw [hu]
    iexists _; iexact H

theorem slots_R : (iprop(∃ f, c.B1.view.loc (thr d i) ↦[c.B1.view.set]{fullShare} f) : sProp 𝕄) = iprop(rFree (F := F) c d i 0 ∗ rFree (F := F) c d i 1) := by
  have e : ∀ s, (rS c s).view.set = (Rect.unit (s := S2x128x128) ![s % 2, 0, 0] S1x128x128.size (inbR s)).set.map c.B1.view.emb := by
    intro s
    exact (View.set_reshape _ _).trans (View.set_slice _ _)
  have hd : Disjoint (rS c 0).view.set (rS c 1).view.set := by
    rw [e, e, Finset.disjoint_map]
    exact Rect.unit_disjoint (0 : Fin 3) (Or.inl (show 0 + 1 ≤ 1 by omega))
  have hu : c.B1.view.set = (rS c 0).view.set ∪ (rS c 1).view.set := by
    rw [e, e, ← Finset.map_union]
    refine congrArg (Finset.map c.B1.view.emb) ?_
    ext x
    simp only [Finset.mem_univ, Finset.mem_union, true_iff]
    have h0 : (x 0).val < 2 := (x 0).isLt
    rcases Nat.lt_or_ge (x 0).val 1 with h | h
    · left; rw [Rect.mem_set_unit]; intro a
      match a with
      | 0 => show 0 ≤ (x 0).val ∧ (x 0).val < 0 + 1; omega
      | 1 => have h1 : (x 1).val < 128 := (x 1).isLt; show 0 ≤ (x 1).val ∧ (x 1).val < 0 + 128; omega
      | 2 => have h1 : (x 2).val < 128 := (x 2).isLt; show 0 ≤ (x 2).val ∧ (x 2).val < 0 + 128; omega
    · right; rw [Rect.mem_set_unit]; intro a
      match a with
      | 0 => show 1 ≤ (x 0).val ∧ (x 0).val < 1 + 1; omega
      | 1 => have h1 : (x 1).val < 128 := (x 1).isLt; show 0 ≤ (x 1).val ∧ (x 1).val < 0 + 128; omega
      | 2 => have h1 : (x 2).val < 128 := (x 2).isLt; show 0 ≤ (x 2).val ∧ (x 2).val < 0 + 128; omega
  unfold rFree
  refine eq_of_entails ?_ ?_
  · iintro ⟨%f, H⟩
    ihave H' := (Entails.of_eq (show (c.B1.view.loc (thr d i) ↦[c.B1.view.set]{fullShare} f : sProp 𝕄)
      = (c.B1.view.loc (thr d i) ↦[(rS c 0).view.set ∪ (rS c 1).view.set]{fullShare} f) by rw [hu])) $$ H
    ihave H'' := (pointsTo_union hd).1 $$ H'
    icases H'' with ⟨H0, H1⟩
    isplitl [H0]
    · iexists f; iexact H0
    · iexists f; iexact H1
  · iintro ⟨⟨%f, H0⟩, ⟨%g, H1⟩⟩
    ihave H := (pointsTo_join (f := f) (g := g) hd) $$ [H0 H1]
    · isplitl [H0]; · iexact H0
      iexact H1
    rw [hu]
    iexists _; iexact H

/-! ## A tile's own buffers and counters -/

/-- Two of the tile's own buffers, and the rest. -/
theorem ownBufs_two (b0 b1 : Ref sig .scVector) (h : b1 ≠ b0) (h0 : ((thr d i).2.devRef b0).owner = .proc (thr d i).2) (h1 : ((thr d i).2.devRef b1).owner = .proc (thr d i).2) :
    (SparseCore.Cfg.ownBufs (thr d i) : sProp 𝕄)
      = iprop((∃ f, (thr d i).loc b0 ↦{fullShare} f) ∗ (∃ f, (thr d i).loc b1 ↦{fullShare} f)
          ∗ bigSep (((SparseCore.Cfg.ownRefs (τ := τ) (thr d i).2).erase ((thr d i).2.devRef b0)).erase ((thr d i).2.devRef b1))
              fun b => iprop(∃ f, ((d, b) : Loc nD τ sig) ↦{fullShare} f)) := by
  unfold SparseCore.Cfg.ownBufs
  refine (SparseCore.bigSep_erase' (SparseCore.Cfg.mem_ownRefs_of_owner (p := (thr d i).2) (b := (thr d i).2.devRef b0) h0)).trans ?_
  rw [SparseCore.bigSep_erase' (Finset.mem_erase.mpr ⟨fun e => absurd (Proc.devRef_injective _ e) h,
    SparseCore.Cfg.mem_ownRefs_of_owner (p := (thr d i).2) (b := (thr d i).2.devRef b1) h1⟩)]

/-- Five of the tile's own counters at zero, and the rest. -/
theorem ownSems0_five (s : Fin 5 → SemLoc sig) (hs : Function.Injective s) (hc : ∀ k, (s k).isScoped .scVector = true) :
    ∃ R : sProp 𝕄, (SparseCore.Cfg.ownSems0 (thr d i) : sProp 𝕄)
      = iprop((semVal (thr d i, s 0) 0 ∗ semVal (thr d i, s 1) 0 ∗ semVal (thr d i, s 2) 0 ∗ semVal (thr d i, s 3) 0 ∗ semVal (thr d i, s 4) 0) ∗ R) := by
  have hm : ∀ k, ((thr d i, s k) : GSem nD τ sig) ∈ SparseCore.Cfg.ownCells (thr d i) := fun k => SparseCore.Cfg.mem_ownCells.mpr ⟨rfl, hc k⟩
  have hne : ∀ k l, k ≠ l → ((thr d i, s k) : GSem nD τ sig) ≠ (thr d i, s l) := fun k l h e => h (hs (Prod.mk.inj e).2)
  refine ⟨bigSep ((((((SparseCore.Cfg.ownCells (thr d i)).erase (thr d i, s 0)).erase (thr d i, s 1)).erase (thr d i, s 2)).erase (thr d i, s 3)).erase (thr d i, s 4))
    fun g => semVal g 0, ?_⟩
  unfold SparseCore.Cfg.ownSems0
  rw [SparseCore.bigSep_erase' (hm 0),
    SparseCore.bigSep_erase' (Finset.mem_erase.mpr ⟨hne 1 0 (by decide), hm 1⟩),
    SparseCore.bigSep_erase' (Finset.mem_erase.mpr ⟨hne 2 1 (by decide), Finset.mem_erase.mpr ⟨hne 2 0 (by decide), hm 2⟩⟩),
    SparseCore.bigSep_erase' (Finset.mem_erase.mpr ⟨hne 3 2 (by decide), Finset.mem_erase.mpr ⟨hne 3 1 (by decide), Finset.mem_erase.mpr ⟨hne 3 0 (by decide), hm 3⟩⟩⟩),
    SparseCore.bigSep_erase' (Finset.mem_erase.mpr ⟨hne 4 3 (by decide), Finset.mem_erase.mpr ⟨hne 4 2 (by decide), Finset.mem_erase.mpr ⟨hne 4 1 (by decide),
      Finset.mem_erase.mpr ⟨hne 4 0 (by decide), hm 4⟩⟩⟩⟩)]
  refine eq_of_entails ?_ ?_
  · iintro ⟨H0, H1, H2, H3, H4, H⟩
    isplitr [H]
    rotate_left
    · iexact H
    isplitl [H0]; · iexact H0
    isplitl [H1]; · iexact H1
    isplitl [H2]; · iexact H2
    isplitl [H3]; · iexact H3
    iexact H4
  · iintro ⟨⟨H0, H1, H2, H3, H4⟩, H⟩
    isplitl [H0]; · iexact H0
    isplitl [H1]; · iexact H1
    isplitl [H2]; · iexact H2
    isplitl [H3]; · iexact H3
    isplitl [H4]; · iexact H4
    iexact H

/-- A tile's own buffers and counters hold what its task asks of them. -/
theorem own_split (b0 b1 : Ref sig .scVector) (h : b1 ≠ b0) (h0 : ((thr d i).2.devRef b0).owner = .proc (thr d i).2) (h1 : ((thr d i).2.devRef b1).owner = .proc (thr d i).2)
    (e0 : (iprop(∃ f, c.B0.view.loc (thr d i) ↦[c.B0.view.set]{fullShare} f) : sProp 𝕄) = iprop(∃ f, (thr d i).loc b0 ↦{fullShare} f))
    (e1 : (iprop(∃ f, c.B1.view.loc (thr d i) ↦[c.B1.view.set]{fullShare} f) : sProp 𝕄) = iprop(∃ f, (thr d i).loc b1 ↦{fullShare} f))
    (hs : Function.Injective (![.dma (iM c 0), .dma (iM c 1), .dma (oM c 0), .dma (oM c 1), .dma c.r1.sem] : Fin 5 → SemLoc sig))
    (hc : ∀ k, ((![.dma (iM c 0), .dma (iM c 1), .dma (oM c 0), .dma (oM c 1), .dma c.r1.sem] : Fin 5 → SemLoc sig) k).isScoped .scVector = true) :
    ∃ R : sProp 𝕄, (iprop(SparseCore.Cfg.ownBufs (thr d i) ∗ SparseCore.Cfg.ownSems0 (thr d i)) : sProp 𝕄) = iprop(Own (F := F) c d i ∗ R) := by
  obtain ⟨R, hR⟩ := ownSems0_five (F := F) d i _ hs hc
  refine ⟨iprop((bigSep (((SparseCore.Cfg.ownRefs (τ := τ) (thr d i).2).erase ((thr d i).2.devRef b0)).erase ((thr d i).2.devRef b1))
              fun b => iprop(∃ f, ((d, b) : Loc nD τ sig) ↦{fullShare} f)) ∗ R), ?_⟩
  rw [hR, ownBufs_two d i b0 b1 h h0 h1, ← e0, ← e1, slots_I, slots_R]
  unfold Own
  refine eq_of_entails ?_ ?_
  · iintro ⟨⟨HI, HR, Hb⟩, ⟨H0, H1, H2, H3, H4⟩, H⟩
    isplitr [Hb H]
    rotate_left
    · isplitl [Hb]; · iexact Hb
      iexact H
    isplitl [HI]; · iexact HI
    isplitl [HR]; · iexact HR
    isplitl [H0 H1]
    · isplitl [H0]; · iexact H0
      iexact H1
    isplitl [H2 H3]
    · isplitl [H2]; · iexact H2
      iexact H3
    iexact H4
  · iintro ⟨⟨HI, HR, ⟨H0, H1⟩, ⟨H2, H3⟩, H4⟩, Hb, H⟩
    isplitl [HI HR Hb]
    · isplitl [HI]; · iexact HI
      isplitl [HR]; · iexact HR
      iexact Hb
    isplitr [H]
    rotate_left
    · iexact H
    isplitl [H0]; · iexact H0
    isplitl [H1]; · iexact H1
    isplitl [H2]; · iexact H2
    isplitl [H3]; · iexact H3
    iexact H4

end
end Cert.Proof.Layer
-- ==== Proof.Layer.Rows.lean ====
/-
  What one call leaves: at each of the chunk's rows, the table's row that the chunk's row number names; and that the block
  each gather delivers is that block of it.
-/
module

public import proofs.«01_k».proof.Proof.Layer.Deal
public import Idealize.ShloMosaic.Lib.ValueIdxCore

@[expose] public section

noncomputable section

namespace Cert.Proof.Layer

open Cert.LayerIdeal Cert.LayerIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 5) (Elt F) ℕ UU ℕ

abbrev xIx (k : Fin 32000) : S1x32000.Idx := ix2 (n0 := 1) (n1 := 32000) 0 k
abbrev tIx (r : Fin 10000) (l : Fin 128) : S10000x128.Idx := ix2 (n0 := 10000) (n1 := 128) r l

/-- The rows of the table `t` that the row numbers `x` name. -/
def rowsOf (t : S10000x128.Idx → Elt F .i32) (x : S1x32000.Idx → Elt F .i32) : S32000x128.Idx → Elt F .i32 :=
  fun y => t (tIx ⟨(x (xIx (y 0))).toNat % 10000, Nat.mod_lt _ (by decide)⟩ (y 1))

section
variable (c : Ops) (d : Dev nD) (i : grid0.Coords)
variable (fx : Buf (Elt F) (c.A3.view.loc (thr d i))) (ft : Buf (Elt F) (c.A2.view.loc (thr d i)))
  (g : Buf (Elt F) (c.A4.view.loc (thr d i)))
variable (t : S10000x128.Idx → Elt F .i32) (x : S1x32000.Idx → Elt F .i32)

theorem inB_of (hx : ∀ j y, (xW c j).view.read (Elt F) fx y = x ((Rect.unit (s := S1x32000) ![0, 128 * (j % 250)] S1x128.size (inbX j)).emb y))
    (hr : ∀ y, (x y).toNat < 10000) : InB c d i fx := by
  intro j y
  unfold lst
  rw [hx]
  exact hr _

theorem pay_of (hx : ∀ j y, (xW c j).view.read (Elt F) fx y = x ((Rect.unit (s := S1x32000) ![0, 128 * (j % 250)] S1x128.size (inbX j)).emb y))
    (hr : ∀ y, (x y).toNat < 10000)
    (ht : ∀ y, (tW c).view.read (Elt F) ft y = t ((Rect.unit (s := S10000x128) ![0, 0] S10000x128.size inb_S10000x128_S10000x128_0_0).emb y))
    (hg : ∀ j y, (oW c j).view.read (Elt F) g y = rowsOf t x ((Rect.unit (s := S32000x128) ![128 * (j % 250), 0] S128x128.size (inbO j)).emb y))
    (hin : InB c d i fx) (j : ℕ) : (oW c j).view.read (Elt F) g = pay c d i fx ft hin j := by
  funext y
  rw [hg]
  unfold pay SparseCore.gatherPayload rowsOf
  rw [ht]
  congr 1
  funext a
  match a with
  | 0 =>
    refine Fin.ext ?_
    rw [Rect.emb_apply]
    show (x _).toNat % 10000 = 0 + 1 * (gathers_S10000x128_S128x128.idx (SparseCore.rows (lst c d i fx j) rfl (hin j)) y (0 : Fin 2)).val
    rw [show gathers_S10000x128_S128x128.idx (SparseCore.rows (lst c d i fx j) rfl (hin j)) y (0 : Fin 2)
      = SparseCore.rows (lst c d i fx j) rfl (hin j) (y 0) from Shape.Gathers.idx_axis _ _ _]
    show _ = 0 + 1 * ((lst c d i fx j) (S128.rowMajor.symm ((y 0).cast _))).toNat
    unfold lst
    rw [hx, Nat.mod_eq_of_lt (hr _), Nat.zero_add, Nat.one_mul]
    congr 2
    funext b
    have hk : ∀ k : Fin S128.numel, ((S128.rowMajor.symm k) 0).val = k.val := by
      intro k
      have := Shape.rowMajor_val_one (d := ![128]) (S128.rowMajor.symm k)
      rw [← this]
      exact congrArg Fin.val (Equiv.apply_symm_apply _ _)
    have hl : ∀ z : S128.Idx, ((lidx z) 1).val = (z 0).val := by
      intro z
      unfold lidx
      rw [Rect.emb_apply]
      show 0 + 1 * _ = _
      have e : Shape.reshapeEquiv (s' := S128) squeezes_S1x128_S128.numel_eq z = ix2 (n0 := 1) (n1 := 128) 0 (z 0) := by
        refine Shape.reshapeEquiv_eq_of_rowMajor _ ?_
        rw [Shape.rowMajor_val_two, Shape.rowMajor_val_one]
        show 0 * 128 + _ = _
        rw [Nat.zero_mul, Nat.zero_add]
      rw [e, Nat.zero_add, Nat.one_mul]
    match b with
    | 0 =>
      refine Fin.ext ?_
      rw [Rect.emb_apply]
      have h0 : ∀ z : S1x128.Idx, (z 0).val = 0 := fun z => Nat.lt_one_iff.mp (z 0).isLt
      show 0 = 0 + 1 * ((lidx _) 0).val
      rw [h0]
    | 1 =>
      refine Fin.ext ?_
      rw [Rect.emb_apply]
      show 128 * (j % 250) + 1 * (y 0).val = 128 * (j % 250) + 1 * ((lidx _) 1).val
      rw [hl, hk]; rfl
  | 1 =>
    refine Fin.ext ?_
    rw [Rect.emb_apply]
    show 0 + 1 * (y 1).val = 0 + 1 * (gathers_S10000x128_S128x128.idx (SparseCore.rows (lst c d i fx j) rfl (hin j)) y (1 : Fin 2)).val
    rw [Shape.Gathers.idx_of_ne _ _ _ _ (show ((1 : Fin 2)).val ≠ 0 by decide)]
    rfl

end
end Cert.Proof.Layer
-- ==== Proof.Layer.Task.lean ====
/-
  What the five calls carry to their tiles and back, and each call's task from it: the tile's pipeline of `Tile`, its
  buffers and counters taken from the tile's own.
-/
module

public import proofs.«01_k».proof.Proof.Layer.Rows

@[expose] public section

noncomputable section

namespace Cert.Proof.Layer

open Cert.LayerIdeal Cert.LayerIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

/-! ## The program as the launch theorem sees it -/

abbrev ΛP : Labels := Pipeline.Sig Λ₀ (Fin 5) fun p => (pcfgs (F := F) p).Adm
abbrev K : SparseCore.Cfg τ sig (ΛP (F := F)) 5 := sc (F := F)
abbrev D [FloatOps F] : Defs nD τ sig (Elt F) (ΛP (F := F)) := Pipeline.defs pcfgs defs₀
abbrev 𝒱 : Variants := 𝒱₀.lift
abbrev v₀ : 𝒱.V := Sum.inl none

theorem nCore_eq (q : Fin 5) : (K (F := F)).nCore q = 2 := match q with | 0 => rfl | 1 => rfl | 2 => rfl | 3 => rfl | 4 => rfl
theorem nSub_eq (q : Fin 5) : (K (F := F)).nSub q = 16 := match q with | 0 => rfl | 1 => rfl | 2 => rfl | 3 => rfl | 4 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

def EH : Emb UH (MT nD τ sig (HIx 5) (Elt F) ℕ UU ℕ) := (Emb.inl : Emb UH (UH × UP)).trans embL
def EP : Emb UP (MT nD τ sig (HIx 5) (Elt F) ℕ UU ℕ) := (Emb.inr : Emb UP (UH × UP)).trans embL
instance EH_landsIn : (EH : Emb UH 𝕄).LandsIn (upEmb : UEmb _ 𝕄) := by unfold EH; infer_instance
instance EP_landsIn : (EP : Emb UP 𝕄).LandsIn (upEmb : UEmb _ 𝕄) := by unfold EP; infer_instance

/-! ## The calls -/

def call0 : Ops := ⟨Memref.whole main_arg0_scv, Memref.isWhole_whole _, Memref.whole main_v10_scv, Memref.isWhole_whole _, Memref.whole main_v11_scv, Memref.isWhole_whole _,
  Memref.whole cc0_scoped0, Memref.isWhole_whole _, cc0_scoped1, Memref.whole cc0_scoped2, Memref.isWhole_whole _, cc0_scoped3, cc0_scoped4, cc0_scoped5⟩
def call1 : Ops := ⟨Memref.whole main_arg0_scv, Memref.isWhole_whole _, Memref.whole main_v21_scv, Memref.isWhole_whole _, Memref.whole main_v22_scv, Memref.isWhole_whole _,
  Memref.whole cc2_scoped0, Memref.isWhole_whole _, cc2_scoped1, Memref.whole cc2_scoped2, Memref.isWhole_whole _, cc2_scoped3, cc2_scoped4, cc2_scoped5⟩
def call2 : Ops := ⟨Memref.whole main_arg0_scv, Memref.isWhole_whole _, Memref.whole main_v32_scv, Memref.isWhole_whole _, Memref.whole main_v33_scv, Memref.isWhole_whole _,
  Memref.whole cc4_scoped0, Memref.isWhole_whole _, cc4_scoped1, Memref.whole cc4_scoped2, Memref.isWhole_whole _, cc4_scoped3, cc4_scoped4, cc4_scoped5⟩
def call3 : Ops := ⟨Memref.whole main_arg0_scv, Memref.isWhole_whole _, Memref.whole main_v43_scv, Memref.isWhole_whole _, Memref.whole main_v44_scv, Memref.isWhole_whole _,
  Memref.whole cc6_scoped0, Memref.isWhole_whole _, cc6_scoped1, Memref.whole cc6_scoped2, Memref.isWhole_whole _, cc6_scoped3, cc6_scoped4, cc6_scoped5⟩
def call4 : Ops := ⟨Memref.whole main_arg0_scv, Memref.isWhole_whole _, Memref.whole main_v54_scv, Memref.isWhole_whole _, Memref.whole main_v55_scv, Memref.isWhole_whole _,
  Memref.whole cc8_scoped0, Memref.isWhole_whole _, cc8_scoped1, Memref.whole cc8_scoped2, Memref.isWhole_whole _, cc8_scoped3, cc8_scoped4, cc8_scoped5⟩

/-! ## What a tile is handed -/

/-- Its blocks of the row numbers, its blocks of the result at `f`, its share of the table. -/
def Go (c : Ops) (d : Dev nD) (a : Fin 2) (s : Fin 16) (fx : Buf (Elt F) (c.A3.view.loc (thr d (coords a s)))) (ft : Buf (Elt F) (c.A2.view.loc (thr d (coords a s))))
    (f : Buf (Elt F) (c.A4.view.loc (thr d (coords a s)))) : sProp 𝕄 :=
  iprop(bigSep (blks (coords a s)) (fun j => IBlk c d (coords a s) fx j) ∗ bigSep (blks (coords a s)) (fun j => OBlk c d (coords a s) j f) ∗ TPts c d (coords a s) ft (tq a s))

instance Go_storable (c : Ops) (d : Dev nD) (a : Fin 2) (s : Fin 16) (fx : Buf (Elt F) (c.A3.view.loc (thr d (coords a s)))) (ft : Buf (Elt F) (c.A2.view.loc (thr d (coords a s))))
    (f : Buf (Elt F) (c.A4.view.loc (thr d (coords a s)))) : BI.Storable (upEmb : UEmb _ 𝕄) (Go c d a s fx ft f) := by
  unfold Go; infer_instance

variable (m : (ℓ : Loc nD τ sig) → Buf (Elt F) ℓ)

/-- The table, the row numbers in one row, and a chunk of them. -/
def tbl (d : Dev nD) : S10000x128.Idx → Elt F .i32 := m ((SparseCore.T d).loc main_arg0)
def nums (d : Dev nD) : S1x163840.Idx → Elt F .i32 := shapeCast S1x163840 (m ((SparseCore.T d).loc main_arg1) : S10240x16.Idx → Elt F .i32) shapeCasts_S10240x16_S1x163840
theorem chunk_slices : ∀ q : Fin 5, S1x163840.Slices ![0, 32000 * q.val] S1x32000 := by decide
def chunk (d : Dev nD) (q : Fin 5) : S1x32000.Idx → Elt F .i32 := extractStridedSlice S1x32000 ![0, 32000 * q.val] (nums m d) (chunk_slices q)
/-- What call `q` leaves. -/
def out (d : Dev nD) (q : Fin 5) : S32000x128.Idx → Elt F .i32 := rowsOf (tbl m d) (chunk m d q)
/-- What its result's array held at the start. -/
def o₀ (d : Dev nD) (q : Fin 5) : S32000x128.Idx → Elt F .i32 :=
  match q with
  | 0 => m ((SparseCore.T d).loc main_v11) | 1 => m ((SparseCore.T d).loc main_v22) | 2 => m ((SparseCore.T d).loc main_v33) | 3 => m ((SparseCore.T d).loc main_v44) | 4 => m ((SparseCore.T d).loc main_v55)

/-- What call `q` hands the tile and takes back, its result's blocks at `f`. -/
def Gq (d : Dev nD) (q : Fin 5) (a : Fin 2) (s : Fin 16) (f : S32000x128.Idx → Elt F .i32) : sProp 𝕄 :=
  match q with
  | 0 => Go call0 d a s (chunk m d 0) (tbl m d) f
  | 1 => Go call1 d a s (chunk m d 1) (tbl m d) f
  | 2 => Go call2 d a s (chunk m d 2) (tbl m d) f
  | 3 => Go call3 d a s (chunk m d 3) (tbl m d) f
  | 4 => Go call4 d a s (chunk m d 4) (tbl m d) f

instance Gq_storable (d : Dev nD) (q : Fin 5) (a : Fin 2) (s : Fin 16) (f : S32000x128.Idx → Elt F .i32) : BI.Storable (upEmb : UEmb _ 𝕄) (Gq m d q a s f) :=
  match q with
  | 0 => Go_storable call0 d a s (chunk m d 0) (tbl m d) f
  | 1 => Go_storable call1 d a s (chunk m d 1) (tbl m d) f
  | 2 => Go_storable call2 d a s (chunk m d 2) (tbl m d) f
  | 3 => Go_storable call3 d a s (chunk m d 3) (tbl m d) f
  | 4 => Go_storable call4 d a s (chunk m d 4) (tbl m d) f

/-- What the handshakes carry. -/
def P : (K (F := F)).Pay (nD := nD) (Val := Elt F) (Name := ℕ) (U := UU) where
  st := fun q d a => bigSep Finset.univ fun s : Fin 16 => Gq m d q (Fin.cast (nCore_eq q) a) s (o₀ m d q)
  dn := fun q d a => bigSep Finset.univ fun s : Fin 16 => Gq m d q (Fin.cast (nCore_eq q) a) s (out m d q)
  go := fun q d a s => Gq m d q (Fin.cast (nCore_eq q) a) (Fin.cast (nSub_eq q) s) (o₀ m d q)
  td := fun q d a s => Gq m d q (Fin.cast (nCore_eq q) a) (Fin.cast (nSub_eq q) s) (out m d q)
  x := fun _ _ => iprop(emp)

instance P_storable : (P (F := F) m).IsStorable where
  st q d a := (inferInstance : BI.Storable (upEmb : UEmb _ 𝕄) (bigSep Finset.univ fun s : Fin 16 => Gq m d q (Fin.cast (nCore_eq q) a) s (o₀ m d q)))
  dn q d a := (inferInstance : BI.Storable (upEmb : UEmb _ 𝕄) (bigSep Finset.univ fun s : Fin 16 => Gq m d q (Fin.cast (nCore_eq q) a) s (out m d q)))
  go q d a s := (inferInstance : BI.Storable (upEmb : UEmb _ 𝕄) (Gq m d q (Fin.cast (nCore_eq q) a) (Fin.cast (nSub_eq q) s) (o₀ m d q)))
  td q d a s := (inferInstance : BI.Storable (upEmb : UEmb _ 𝕄) (Gq m d q (Fin.cast (nCore_eq q) a) (Fin.cast (nSub_eq q) s) (out m d q)))

/-- Every row number of the launch memory is a row of the table. -/
def PreOK : Prop := ∀ (d : Dev nD) (j : S10240x16.Idx), (m ((SparseCore.T d).loc main_arg1) j).toNat < 10000

theorem chunk_lt (h : PreOK m) (d : Dev nD) (q : Fin 5) (y) : (chunk m d q y).toNat < 10000 := h d _

/-! ## The task -/

variable [FloatOps F]

attribute [local irreducible] cc0_gather_kernel

/-- A tile's task: from what it is handed, its own buffers and its own counters. -/
theorem task (c : Ops) (d : Dev nD) (a : Fin 2) (s : Fin 16) (fx : Buf (Elt F) (c.A3.view.loc (thr d (coords a s)))) (ft : Buf (Elt F) (c.A2.view.loc (thr d (coords a s))))
    (f g : Buf (Elt F) (c.A4.view.loc (thr d (coords a s)))) (hin : InB c d (coords a s) fx)
    (hg : ∀ j, (oW c j).view.read (Elt F) g = pay c d (coords a s) fx ft hin j)
    (R : sProp 𝕄) (hR : (iprop(SparseCore.Cfg.ownBufs (thr d (coords a s)) ∗ SparseCore.Cfg.ownSems0 (thr d (coords a s))) : sProp 𝕄) = iprop(Own (F := F) c d (coords a s) ∗ R))
    (O : CellTallies nD τ sig (HIx 5)) (W : Waits sig (HIx 5)) (hO : ∀ g, O g none = 0) :
    iprop(levAts (K (F := F)).L (K (F := F)).lev ∗ emp ∗ Go c d a s fx ft f
        ∗ scopedBufs (thr d (coords a s)) ∗ scopedSems0 (thr d (coords a s)) ∗ owes (thr d (coords a s)) O W)
      ⊢ wp frame (wpE (defs₀ (F := F)) 𝒱₀ (thr d (coords a s)) none) Set.univ
          (cc0_gather_kernel (coords a s) c.A2 c.h2 c.A3 c.h3 c.A4 c.h4 c.B0 c.hB0 c.v12 c.B1 c.hB1 c.v13 c.r1 c.r2)
          fun _ => iprop(Go c d a s fx ft g ∗ scopedBufs (thr d (coords a s)) ∗ scopedSems0 (thr d (coords a s))
            ∗ ∃ W', ⌜∀ p ∈ W', p ∈ W ∨ p.2 = none⌝ ∗ owes (thr d (coords a s)) O W') := by
  have ht := tile c d (coords a s) fx ft f g (tq a s) O W hin hg
  rw [(K (F := F)).scopedBufs_V facts d (cV (coords a s)) (jV (coords a s)), SparseCore.Cfg.scopedSems0_V (Val := Elt F) d (cV (coords a s)) (jV (coords a s))]
  unfold Go
  iintro ⟨#Hlv, -, ⟨Hi, Ho, Ht⟩, Hb, Hs, HO⟩
  ihave Hmw := (show levAts (K (F := F)).L (K (F := F)).lev ⊢ Transfers.MayWaits (thr d (coords a s)) (default : HIx 5) O from
    (K (F := F)).mayWaits_none (thr := thr d (coords a s)) hO) $$ Hlv
  ihave Hown := (Entails.of_eq hR) $$ [Hb Hs]
  · isplitl [Hb]; · iexact Hb
    iexact Hs
  icases Hown with ⟨Hown, HR⟩
  ihave Hwp := ht $$ [Hmw Hi Ho Ht Hown HO]
  · isplitl [Hmw]; · iexact Hmw
    isplitl [Hi]; · iexact Hi
    isplitl [Ho]; · iexact Ho
    isplitl [Ht]; · iexact Ht
    isplitl [Hown]; · iexact Hown
    unfold Owing
    iexists W
    isplitr [HO]
    rotate_left
    · iexact HO
    ipureintro; exact fun p hp => Or.inl hp
  iapply (wp_wand frame _ _) $$ Hwp
  iintro %_ ⟨Hi, Ho, Ht, Hown, HO⟩
  isplitl [Hi Ho Ht]
  · isplitl [Hi]; · iexact Hi
    isplitl [Ho]; · iexact Ho
    iexact Ht
  ihave Hbs := (Entails.of_eq hR.symm) $$ [Hown HR]
  · isplitl [Hown]; · iexact Hown
    iexact HR
  icases Hbs with ⟨Hb, Hs⟩
  isplitl [Hb]; · iexact Hb
  isplitl [Hs]; · iexact Hs
  iapply (owing_elim d (coords a s) O W)
  iexact HO

end Cert.Proof.Layer
-- ==== Proof.Layer.Calls.lean ====
/-
  The five calls' tile obligations, and how a call's payload is split among a core's tiles.
-/
module

public import proofs.«01_k».proof.Proof.Layer.Task
public import proofs.«01_k».proof.Proof.Gen.LayerIdeal.Launch
public import proofs.«01_k».proof.Proof.Gen.LayerIdeal.Points
public import Idealize.ShloMosaic.Lib.Pipeline.Regions

@[expose] public section

noncomputable section

namespace Cert.Proof.Layer

open Cert.LayerIdeal Cert.LayerIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable (m : (ℓ : Loc nD τ sig) → Buf (Elt F) ℓ)

/-! ## Each call's buffers and counters are the tile's own -/

theorem whole_owned (d : Dev nD) (i : grid0.Coords) (b : Ref sig .scVector) :
    (iprop(∃ f, (View.whole b).loc (thr d i) ↦[(View.whole b).set]{fullShare} f) : sProp 𝕄) = iprop(∃ f, (thr d i).loc b ↦{fullShare} f) := by
  rw [View.set_whole]

theorem own0 (d : Dev nD) (i : grid0.Coords) : ∃ R, (iprop(SparseCore.Cfg.ownBufs (thr d i) ∗ SparseCore.Cfg.ownSems0 (thr d i)) : sProp 𝕄) = iprop(Own (F := F) call0 d i ∗ R) :=
  own_split call0 d i cc0_scoped0 cc0_scoped2 (by decide) rfl rfl (whole_owned d i _) (whole_owned d i _) (by decide) (by decide)
theorem own1 (d : Dev nD) (i : grid0.Coords) : ∃ R, (iprop(SparseCore.Cfg.ownBufs (thr d i) ∗ SparseCore.Cfg.ownSems0 (thr d i)) : sProp 𝕄) = iprop(Own (F := F) call1 d i ∗ R) :=
  own_split call1 d i cc2_scoped0 cc2_scoped2 (by decide) rfl rfl (whole_owned d i _) (whole_owned d i _) (by decide) (by decide)
theorem own2 (d : Dev nD) (i : grid0.Coords) : ∃ R, (iprop(SparseCore.Cfg.ownBufs (thr d i) ∗ SparseCore.Cfg.ownSems0 (thr d i)) : sProp 𝕄) = iprop(Own (F := F) call2 d i ∗ R) :=
  own_split call2 d i cc4_scoped0 cc4_scoped2 (by decide) rfl rfl (whole_owned d i _) (whole_owned d i _) (by decide) (by decide)
theorem own3 (d : Dev nD) (i : grid0.Coords) : ∃ R, (iprop(SparseCore.Cfg.ownBufs (thr d i) ∗ SparseCore.Cfg.ownSems0 (thr d i)) : sProp 𝕄) = iprop(Own (F := F) call3 d i ∗ R) :=
  own_split call3 d i cc6_scoped0 cc6_scoped2 (by decide) rfl rfl (whole_owned d i _) (whole_owned d i _) (by decide) (by decide)
theorem own4 (d : Dev nD) (i : grid0.Coords) : ∃ R, (iprop(SparseCore.Cfg.ownBufs (thr d i) ∗ SparseCore.Cfg.ownSems0 (thr d i)) : sProp 𝕄) = iprop(Own (F := F) call4 d i ∗ R) :=
  own_split call4 d i cc8_scoped0 cc8_scoped2 (by decide) rfl rfl (whole_owned d i _) (whole_owned d i _) (by decide) (by decide)

/-! ## Each call's task is the first call's kernel on its own operands -/

variable [FloatOps F]

set_option maxRecDepth 65536 in
theorem defs₀_vector0 (c : Fin τ.nSC) (s : Fin τ.nSub) :
    defs₀ (F := F) (.scVector c s) 0 ()
      = SparseCore.onTile hcore0 hsub0 (fun c s => cc0_gather_kernel (coords c s) (Memref.whole main_arg0_scv) (Memref.isWhole_whole _) (Memref.whole main_v10_scv) (Memref.isWhole_whole _) (Memref.whole main_v11_scv) (Memref.isWhole_whole _)
          (Memref.whole cc0_scoped0) (Memref.isWhole_whole _) cc0_scoped1 (Memref.whole cc0_scoped2) (Memref.isWhole_whole _) cc0_scoped3 cc0_scoped4 cc0_scoped5) ⟨⟩ c s := rfl
set_option maxRecDepth 65536 in
theorem defs₀_vector1 (c : Fin τ.nSC) (s : Fin τ.nSub) :
    defs₀ (F := F) (.scVector c s) 2 ()
      = SparseCore.onTile hcore2 hsub2 (fun c s => cc0_gather_kernel (coords c s) (Memref.whole main_arg0_scv) (Memref.isWhole_whole _) (Memref.whole main_v21_scv) (Memref.isWhole_whole _) (Memref.whole main_v22_scv) (Memref.isWhole_whole _)
          (Memref.whole cc2_scoped0) (Memref.isWhole_whole _) cc2_scoped1 (Memref.whole cc2_scoped2) (Memref.isWhole_whole _) cc2_scoped3 cc2_scoped4 cc2_scoped5) ⟨⟩ c s := rfl
set_option maxRecDepth 65536 in
theorem defs₀_vector2 (c : Fin τ.nSC) (s : Fin τ.nSub) :
    defs₀ (F := F) (.scVector c s) 4 ()
      = SparseCore.onTile hcore4 hsub4 (fun c s => cc0_gather_kernel (coords c s) (Memref.whole main_arg0_scv) (Memref.isWhole_whole _) (Memref.whole main_v32_scv) (Memref.isWhole_whole _) (Memref.whole main_v33_scv) (Memref.isWhole_whole _)
          (Memref.whole cc4_scoped0) (Memref.isWhole_whole _) cc4_scoped1 (Memref.whole cc4_scoped2) (Memref.isWhole_whole _) cc4_scoped3 cc4_scoped4 cc4_scoped5) ⟨⟩ c s := rfl
set_option maxRecDepth 65536 in
theorem defs₀_vector3 (c : Fin τ.nSC) (s : Fin τ.nSub) :
    defs₀ (F := F) (.scVector c s) 6 ()
      = SparseCore.onTile hcore6 hsub6 (fun c s => cc0_gather_kernel (coords c s) (Memref.whole main_arg0_scv) (Memref.isWhole_whole _) (Memref.whole main_v43_scv) (Memref.isWhole_whole _) (Memref.whole main_v44_scv) (Memref.isWhole_whole _)
          (Memref.whole cc6_scoped0) (Memref.isWhole_whole _) cc6_scoped1 (Memref.whole cc6_scoped2) (Memref.isWhole_whole _) cc6_scoped3 cc6_scoped4 cc6_scoped5) ⟨⟩ c s := rfl
set_option maxRecDepth 65536 in
theorem defs₀_vector4 (c : Fin τ.nSC) (s : Fin τ.nSub) :
    defs₀ (F := F) (.scVector c s) 8 ()
      = SparseCore.onTile hcore8 hsub8 (fun c s => cc0_gather_kernel (coords c s) (Memref.whole main_arg0_scv) (Memref.isWhole_whole _) (Memref.whole main_v54_scv) (Memref.isWhole_whole _) (Memref.whole main_v55_scv) (Memref.isWhole_whole _)
          (Memref.whole cc8_scoped0) (Memref.isWhole_whole _) cc8_scoped1 (Memref.whole cc8_scoped2) (Memref.isWhole_whole _) cc8_scoped3 cc8_scoped4 cc8_scoped5) ⟨⟩ c s := rfl

attribute [local irreducible] cc0_gather_kernel

/-- Call 0's task on a tile. -/
theorem task0 (hpre : PreOK m) (d : Dev nD) (a : Fin 2) (s : Fin 16) (O : CellTallies nD τ sig (HIx 5)) (W : Waits sig (HIx 5)) (hO : ∀ g, O g none = 0) :
    iprop(levAts (K (F := F)).L (K (F := F)).lev ∗ emp ∗ Gq m d 0 a s (o₀ m d 0)
        ∗ scopedBufs (thr d (coords a s)) ∗ scopedSems0 (thr d (coords a s)) ∗ owes (thr d (coords a s)) O W)
      ⊢ wp frame (wpE (defs₀ (F := F)) 𝒱₀ (thr d (coords a s)) none) Set.univ
          (cc0_gather_kernel (coords a s) (Memref.whole main_arg0_scv) (Memref.isWhole_whole _) (Memref.whole main_v10_scv) (Memref.isWhole_whole _) (Memref.whole main_v11_scv) (Memref.isWhole_whole _)
          (Memref.whole cc0_scoped0) (Memref.isWhole_whole _) cc0_scoped1 (Memref.whole cc0_scoped2) (Memref.isWhole_whole _) cc0_scoped3 cc0_scoped4 cc0_scoped5)
          fun _ => iprop(Gq m d 0 a s (out m d 0) ∗ scopedBufs (thr d (coords a s)) ∗ scopedSems0 (thr d (coords a s))
            ∗ ∃ W', ⌜∀ p ∈ W', p ∈ W ∨ p.2 = none⌝ ∗ owes (thr d (coords a s)) O W') := by
  obtain ⟨R, hR⟩ := own0 (F := F) d (coords a s)
  exact task call0 d a s (chunk m d 0) (tbl m d) (o₀ m d 0) (out m d 0)
    (inB_of call0 d (coords a s) (chunk m d 0) (chunk m d 0) (fun _ _ => rfl) (chunk_lt m hpre d 0))
    (pay_of call0 d (coords a s) (chunk m d 0) (tbl m d) (out m d 0) (tbl m d) (chunk m d 0) (fun _ _ => rfl) (chunk_lt m hpre d 0) (fun _ => rfl) (fun _ _ => rfl) _)
    R hR O W hO
/-- Call 1's task on a tile. -/
theorem task1 (hpre : PreOK m) (d : Dev nD) (a : Fin 2) (s : Fin 16) (O : CellTallies nD τ sig (HIx 5)) (W : Waits sig (HIx 5)) (hO : ∀ g, O g none = 0) :
    iprop(levAts (K (F := F)).L (K (F := F)).lev ∗ emp ∗ Gq m d 1 a s (o₀ m d 1)
        ∗ scopedBufs (thr d (coords a s)) ∗ scopedSems0 (thr d (coords a s)) ∗ owes (thr d (coords a s)) O W)
      ⊢ wp frame (wpE (defs₀ (F := F)) 𝒱₀ (thr d (coords a s)) none) Set.univ
          (cc0_gather_kernel (coords a s) (Memref.whole main_arg0_scv) (Memref.isWhole_whole _) (Memref.whole main_v21_scv) (Memref.isWhole_whole _) (Memref.whole main_v22_scv) (Memref.isWhole_whole _)
          (Memref.whole cc2_scoped0) (Memref.isWhole_whole _) cc2_scoped1 (Memref.whole cc2_scoped2) (Memref.isWhole_whole _) cc2_scoped3 cc2_scoped4 cc2_scoped5)
          fun _ => iprop(Gq m d 1 a s (out m d 1) ∗ scopedBufs (thr d (coords a s)) ∗ scopedSems0 (thr d (coords a s))
            ∗ ∃ W', ⌜∀ p ∈ W', p ∈ W ∨ p.2 = none⌝ ∗ owes (thr d (coords a s)) O W') := by
  obtain ⟨R, hR⟩ := own1 (F := F) d (coords a s)
  exact task call1 d a s (chunk m d 1) (tbl m d) (o₀ m d 1) (out m d 1)
    (inB_of call1 d (coords a s) (chunk m d 1) (chunk m d 1) (fun _ _ => rfl) (chunk_lt m hpre d 1))
    (pay_of call1 d (coords a s) (chunk m d 1) (tbl m d) (out m d 1) (tbl m d) (chunk m d 1) (fun _ _ => rfl) (chunk_lt m hpre d 1) (fun _ => rfl) (fun _ _ => rfl) _)
    R hR O W hO
/-- Call 2's task on a tile. -/
theorem task2 (hpre : PreOK m) (d : Dev nD) (a : Fin 2) (s : Fin 16) (O : CellTallies nD τ sig (HIx 5)) (W : Waits sig (HIx 5)) (hO : ∀ g, O g none = 0) :
    iprop(levAts (K (F := F)).L (K (F := F)).lev ∗ emp ∗ Gq m d 2 a s (o₀ m d 2)
        ∗ scopedBufs (thr d (coords a s)) ∗ scopedSems0 (thr d (coords a s)) ∗ owes (thr d (coords a s)) O W)
      ⊢ wp frame (wpE (defs₀ (F := F)) 𝒱₀ (thr d (coords a s)) none) Set.univ
          (cc0_gather_kernel (coords a s) (Memref.whole main_arg0_scv) (Memref.isWhole_whole _) (Memref.whole main_v32_scv) (Memref.isWhole_whole _) (Memref.whole main_v33_scv) (Memref.isWhole_whole _)
          (Memref.whole cc4_scoped0) (Memref.isWhole_whole _) cc4_scoped1 (Memref.whole cc4_scoped2) (Memref.isWhole_whole _) cc4_scoped3 cc4_scoped4 cc4_scoped5)
          fun _ => iprop(Gq m d 2 a s (out m d 2) ∗ scopedBufs (thr d (coords a s)) ∗ scopedSems0 (thr d (coords a s))
            ∗ ∃ W', ⌜∀ p ∈ W', p ∈ W ∨ p.2 = none⌝ ∗ owes (thr d (coords a s)) O W') := by
  obtain ⟨R, hR⟩ := own2 (F := F) d (coords a s)
  exact task call2 d a s (chunk m d 2) (tbl m d) (o₀ m d 2) (out m d 2)
    (inB_of call2 d (coords a s) (chunk m d 2) (chunk m d 2) (fun _ _ => rfl) (chunk_lt m hpre d 2))
    (pay_of call2 d (coords a s) (chunk m d 2) (tbl m d) (out m d 2) (tbl m d) (chunk m d 2) (fun _ _ => rfl) (chunk_lt m hpre d 2) (fun _ => rfl) (fun _ _ => rfl) _)
    R hR O W hO
/-- Call 3's task on a tile. -/
theorem task3 (hpre : PreOK m) (d : Dev nD) (a : Fin 2) (s : Fin 16) (O : CellTallies nD τ sig (HIx 5)) (W : Waits sig (HIx 5)) (hO : ∀ g, O g none = 0) :
    iprop(levAts (K (F := F)).L (K (F := F)).lev ∗ emp ∗ Gq m d 3 a s (o₀ m d 3)
        ∗ scopedBufs (thr d (coords a s)) ∗ scopedSems0 (thr d (coords a s)) ∗ owes (thr d (coords a s)) O W)
      ⊢ wp frame (wpE (defs₀ (F := F)) 𝒱₀ (thr d (coords a s)) none) Set.univ
          (cc0_gather_kernel (coords a s) (Memref.whole main_arg0_scv) (Memref.isWhole_whole _) (Memref.whole main_v43_scv) (Memref.isWhole_whole _) (Memref.whole main_v44_scv) (Memref.isWhole_whole _)
          (Memref.whole cc6_scoped0) (Memref.isWhole_whole _) cc6_scoped1 (Memref.whole cc6_scoped2) (Memref.isWhole_whole _) cc6_scoped3 cc6_scoped4 cc6_scoped5)
          fun _ => iprop(Gq m d 3 a s (out m d 3) ∗ scopedBufs (thr d (coords a s)) ∗ scopedSems0 (thr d (coords a s))
            ∗ ∃ W', ⌜∀ p ∈ W', p ∈ W ∨ p.2 = none⌝ ∗ owes (thr d (coords a s)) O W') := by
  obtain ⟨R, hR⟩ := own3 (F := F) d (coords a s)
  exact task call3 d a s (chunk m d 3) (tbl m d) (o₀ m d 3) (out m d 3)
    (inB_of call3 d (coords a s) (chunk m d 3) (chunk m d 3) (fun _ _ => rfl) (chunk_lt m hpre d 3))
    (pay_of call3 d (coords a s) (chunk m d 3) (tbl m d) (out m d 3) (tbl m d) (chunk m d 3) (fun _ _ => rfl) (chunk_lt m hpre d 3) (fun _ => rfl) (fun _ _ => rfl) _)
    R hR O W hO
/-- Call 4's task on a tile. -/
theorem task4 (hpre : PreOK m) (d : Dev nD) (a : Fin 2) (s : Fin 16) (O : CellTallies nD τ sig (HIx 5)) (W : Waits sig (HIx 5)) (hO : ∀ g, O g none = 0) :
    iprop(levAts (K (F := F)).L (K (F := F)).lev ∗ emp ∗ Gq m d 4 a s (o₀ m d 4)
        ∗ scopedBufs (thr d (coords a s)) ∗ scopedSems0 (thr d (coords a s)) ∗ owes (thr d (coords a s)) O W)
      ⊢ wp frame (wpE (defs₀ (F := F)) 𝒱₀ (thr d (coords a s)) none) Set.univ
          (cc0_gather_kernel (coords a s) (Memref.whole main_arg0_scv) (Memref.isWhole_whole _) (Memref.whole main_v54_scv) (Memref.isWhole_whole _) (Memref.whole main_v55_scv) (Memref.isWhole_whole _)
          (Memref.whole cc8_scoped0) (Memref.isWhole_whole _) cc8_scoped1 (Memref.whole cc8_scoped2) (Memref.isWhole_whole _) cc8_scoped3 cc8_scoped4 cc8_scoped5)
          fun _ => iprop(Gq m d 4 a s (out m d 4) ∗ scopedBufs (thr d (coords a s)) ∗ scopedSems0 (thr d (coords a s))
            ∗ ∃ W', ⌜∀ p ∈ W', p ∈ W ∨ p.2 = none⌝ ∗ owes (thr d (coords a s)) O W') := by
  obtain ⟨R, hR⟩ := own4 (F := F) d (coords a s)
  exact task call4 d a s (chunk m d 4) (tbl m d) (o₀ m d 4) (out m d 4)
    (inB_of call4 d (coords a s) (chunk m d 4) (chunk m d 4) (fun _ _ => rfl) (chunk_lt m hpre d 4))
    (pay_of call4 d (coords a s) (chunk m d 4) (tbl m d) (out m d 4) (tbl m d) (chunk m d 4) (fun _ _ => rfl) (chunk_lt m hpre d 4) (fun _ => rfl) (fun _ _ => rfl) _)
    R hR O W hO

omit [FloatOps F] in
theorem obl_post {thr : Thread nD τ} {A B C : sProp 𝕄} {O : CellTallies nD τ sig (HIx 5)} {W : Waits sig (HIx 5)} {q : Fin 5} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

set_option maxRecDepth 16384 in
theorem tileObl0 (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (task0 m hpre d ⟨_, hci.1⟩ ⟨_, hci.2⟩ O W hO).trans (wp_mono frame _ _ fun _ => obl_post)
set_option maxRecDepth 16384 in
theorem tileObl1 (hpre : PreOK m) : (K (F := F)).TileObl (D (F := F)) 𝒱 (P m) v₀ 1 := by
  intro d c i O W hO _ _
  simp only [show (P m).ox = fun _ _ => 0 from rfl, add_zero]
  have hci : ((K (F := F)).core 1 c).val < grid0.bound 0 ∧ ((K (F := F)).sub 1 i).val < grid0.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (task1 m hpre d ⟨_, hci.1⟩ ⟨_, hci.2⟩ O W hO).trans (wp_mono frame _ _ fun _ => obl_post)
set_option maxRecDepth 16384 in
theorem tileObl2 (hpre : PreOK m) : (K (F := F)).TileObl (D (F := F)) 𝒱 (P m) v₀ 2 := by
  intro d c i O W hO _ _
  simp only [show (P m).ox = fun _ _ => 0 from rfl, add_zero]
  have hci : ((K (F := F)).core 2 c).val < grid0.bound 0 ∧ ((K (F := F)).sub 2 i).val < grid0.bound 1 := ⟨c.isLt, i.isLt⟩
  change _ ⊢ wp _ _ _ (Pipeline.liftProg (defs₀ (F := F) (.scVector ((K (F := F)).core 2 c) ((K (F := F)).sub 2 i)) 4 ())) _
  refine BI.Entails.trans ?_ (Pipeline.wp_liftProg (D (F := F)) (Pipeline.defs_kernel pcfgs defs₀) 𝒱₀ _ Set.univ none _ _)
  rw [defs₀_vector2]; simp only [SparseCore.onTile, hci, and_self, ↓reduceDIte]
  exact (task2 m hpre d ⟨_, hci.1⟩ ⟨_, hci.2⟩ O W hO).trans (wp_mono frame _ _ fun _ => obl_post)
set_option maxRecDepth 16384 in
theorem tileObl3 (hpre : PreOK m) : (K (F := F)).TileObl (D (F := F)) 𝒱 (P m) v₀ 3 := by
  intro d c i O W hO _ _
  simp only [show (P m).ox = fun _ _ => 0 from rfl, add_zero]
  have hci : ((K (F := F)).core 3 c).val < grid0.bound 0 ∧ ((K (F := F)).sub 3 i).val < grid0.bound 1 := ⟨c.isLt, i.isLt⟩
  change _ ⊢ wp _ _ _ (Pipeline.liftProg (defs₀ (F := F) (.scVector ((K (F := F)).core 3 c) ((K (F := F)).sub 3 i)) 6 ())) _
  refine BI.Entails.trans ?_ (Pipeline.wp_liftProg (D (F := F)) (Pipeline.defs_kernel pcfgs defs₀) 𝒱₀ _ Set.univ none _ _)
  rw [defs₀_vector3]; simp only [SparseCore.onTile, hci, and_self, ↓reduceDIte]
  exact (task3 m hpre d ⟨_, hci.1⟩ ⟨_, hci.2⟩ O W hO).trans (wp_mono frame _ _ fun _ => obl_post)
set_option maxRecDepth 16384 in
theorem tileObl4 (hpre : PreOK m) : (K (F := F)).TileObl (D (F := F)) 𝒱 (P m) v₀ 4 := by
  intro d c i O W hO _ _
  simp only [show (P m).ox = fun _ _ => 0 from rfl, add_zero]
  have hci : ((K (F := F)).core 4 c).val < grid0.bound 0 ∧ ((K (F := F)).sub 4 i).val < grid0.bound 1 := ⟨c.isLt, i.isLt⟩
  change _ ⊢ wp _ _ _ (Pipeline.liftProg (defs₀ (F := F) (.scVector ((K (F := F)).core 4 c) ((K (F := F)).sub 4 i)) 8 ())) _
  refine BI.Entails.trans ?_ (Pipeline.wp_liftProg (D (F := F)) (Pipeline.defs_kernel pcfgs defs₀) 𝒱₀ _ Set.univ none _ _)
  rw [defs₀_vector4]; simp only [SparseCore.onTile, hci, and_self, ↓reduceDIte]
  exact (task4 m hpre d ⟨_, hci.1⟩ ⟨_, hci.2⟩ O W hO).trans (wp_mono frame _ _ fun _ => obl_post)

/-! ## A core's payload, split among its tiles -/

omit [FloatOps F] in
theorem bigSep_cast {n k : ℕ} (h : n = k) (Φ : Fin k → sProp 𝕄) : (bigSep Finset.univ fun i : Fin n => Φ (Fin.cast h i)) = bigSep Finset.univ Φ := by
  subst h; rfl

omit [FloatOps F] in
theorem vecSplit (q : Fin 5) : (K (F := F)).VecSplit' (P m) q := by
  intro d c
  show (bigSep Finset.univ fun s : Fin 16 => Gq m d q (Fin.cast (nCore_eq q) c) s (o₀ m d q)) ⊢ |={Set.univ}=> iprop(
      (bigSep Finset.univ fun i : Fin ((K (F := F)).nSub q) => Gq m d q (Fin.cast (nCore_eq q) c) (Fin.cast (nSub_eq q) i) (o₀ m d q))
      ∗ ((bigSep Finset.univ fun i : Fin ((K (F := F)).nSub q) => Gq m d q (Fin.cast (nCore_eq q) c) (Fin.cast (nSub_eq q) i) (out m d q))
          -∗ bigSep Finset.univ fun s : Fin 16 => Gq m d q (Fin.cast (nCore_eq q) c) s (out m d q)))
  rw [bigSep_cast (nSub_eq q) (fun s => Gq m d q (Fin.cast (nCore_eq q) c) s (o₀ m d q)), bigSep_cast (nSub_eq q) (fun s => Gq m d q (Fin.cast (nCore_eq q) c) s (out m d q))]
  iintro H; imodintro
  isplitl [H]; · iexact H
  iintro H; iexact H

/-! ## The launch element of the ghost state -/

/-- The pipelines' configurations, none of which takes anything from memory. -/
abbrev adm : (p : Fin 5) → (pcfgs (F := F) p).Adm := fun p => (cfgs p).toPCfg_adm
abbrev pinned : Fin 5 → Pipeline.Cfg sig Λ₀ := Pipeline.pin (pcfgs (F := F)) adm

theorem pinned_inj : Function.Injective (Pipeline.cellOf (nD := nD) (τ := τ) (pinned (F := F))) := cellOf_inj

/-- The rounds of the calls' handshakes beside those of the pipelines' staging cells. -/
def u₀ : UU := ((initOf (K (F := F)).hsCells (K (F := F)).hsToks,
  initOf (Pipeline.cells (pinned (F := F)) pinned_inj) (Pipeline.launchToks (pinned (F := F)) pinned_inj)), 1)

omit [FloatOps F] in
theorem bigSep_emps {I : Type} (s : Finset I) : (bigSep s fun _ => iprop(emp)) = (iprop(emp) : sProp 𝕄) := bigSep_emp_const s

/-- What a TensorCore is dealt for its pipelines at launch. -/
def dealt (d : Dev nD) : sProp 𝕄 :=
  iprop((bigSep Finset.univ fun p : Fin 5 => Pipeline.cellsGhost (pinned (F := F)) (EP (F := F)) p d)
    ∗ bigSep Finset.univ fun p : Fin 5 => Pipeline.toksInit (pinned (F := F)) (EP (F := F)) p d)

/-- The two halves of the rounds' ghost state. -/
theorem own_two (a : UH) (b : UP) : (BI.own ((embL : Emb (UH × UP) 𝕄) (a, b)) : sProp 𝕄) ⊢ iprop(BI.own ((EH (F := F)) a) ∗ BI.own ((EP (F := F)) b)) :=
  own_pair_emb embL a b

theorem hu₀ : (ownU (u₀ (F := F)) : sProp 𝕄)
    ⊢ |={Set.univ}=> iprop(BI.own (EH (initOf (K (F := F)).hsCells (K (F := F)).hsToks)) ∗ (bigSep Finset.univ fun d : Dev nD => dealt (F := F) d)
        ∗ bigSep Finset.univ fun thr : Thread nD τ => bigSep Finset.univ fun q : Fin 5 => (P m).x q thr) := by
  unfold u₀
  iintro Hu
  ihave H := (ownU_pair (initOf (K (F := F)).hsCells (K (F := F)).hsToks,
    initOf (Pipeline.cells (pinned (F := F)) pinned_inj) (Pipeline.launchToks (pinned (F := F)) pinned_inj)) (1 : Counters)) $$ Hu
  icases H with ⟨HH, -⟩
  ihave H := (own_two (initOf (K (F := F)).hsCells (K (F := F)).hsToks)
    (initOf (Pipeline.cells (pinned (F := F)) pinned_inj) (Pipeline.launchToks (pinned (F := F)) pinned_inj))) $$ HH
  icases H with ⟨HH, HP⟩
  imod (Pipeline.fund_ghost (pinned (F := F)) (EP (F := F)) pinned_inj) $$ HP with ⟨Hg, Ht⟩
  imodintro
  isplitl [HH]; · iexact HH
  isplitl [Hg Ht]
  · unfold dealt
    rw [bigSep_sep']
    isplitl [Hg]; · iexact Hg
    iexact Ht
  rw [show (bigSep Finset.univ fun thr : Thread nD τ => bigSep Finset.univ fun q : Fin 5 => (P (F := F) m).x q thr) = iprop(emp) from
    (bigSep_congr fun _ _ => bigSep_emps _).trans (bigSep_emps _)]
  iempintro

end Cert.Proof.Layer
-- ==== Proof.Layer.Body.lean ====
/-
  The body of an attention call: what it leaves in the result's buffer, from the blocks it is handed. The five calls run the
  same body.
-/
module

public import proofs.«01_k».proof.Proof.Layer.Calls
public import Idealize.ShloMosaic.Lib.Pipeline.FrameBody
public import Idealize.ShloMosaic.Lib.Tactic
public import Idealize.ShloMosaic.Lib.UnfoldOut

@[expose] public section

set_option maxRecDepth 65536

noncomputable section

namespace Cert.Proof.Layer

open Cert.LayerIdeal Cert.LayerIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

abbrev rA : Rect S200x128 := Rect.unit (s := S200x128) ![0, 0] S200x128.size inb_S200x128_S200x128_0_0
abbrev rB : Rect S3200x128 := Rect.unit (s := S3200x128) ![0, 0] S3200x128.size inb_S3200x128_S3200x128_0_0
abbrev rC : Rect S128x8 := Rect.unit (s := S128x8) ![0, 0] S128x8.size inb_S128x8_S128x8_0_0
abbrev rD : Rect S8x128 := Rect.unit (s := S8x128) ![0, 0] S8x128.size inb_S8x128_S8x128_0_0
abbrev rE : Rect S128x128 := Rect.unit (s := S128x128) ![0, 0] S128x128.size inb_S128x128_S128x128_0_0
abbrev rF : Rect S1x128 := Rect.unit (s := S1x128) ![0, 0] S1x128.size inb_S1x128_S1x128_0_0
abbrev rG : Rect S128x256 := Rect.unit (s := S128x256) ![0, 0] S128x256.size inb_S128x256_S128x256_0_0
abbrev rH : Rect S1x256 := Rect.unit (s := S1x256) ![0, 0] S1x256.size inb_S1x256_S1x256_0_0
abbrev rI : Rect S256x128 := Rect.unit (s := S256x128) ![0, 0] S256x128.size inb_S256x128_S256x128_0_0

/-- What the body leaves in the result's buffer: one store over the whole of it. -/
def attnOut (x0 : Vec F S200x128 .f32) (x1 : Vec F S3200x128 .i32) (x2 : Vec F S200x128 .f32) (x3 : Vec F S128x8 .f32) (x4 : Vec F S8x128 .f32) (x5 : Vec F S128x128 .f32) (x6 : Vec F S1x128 .f32) (x7 : Vec F S1x128 .f32) (x8 : Vec F S128x256 .f32) (x9 : Vec F S1x256 .f32) (x10 : Vec F S256x128 .f32) (x11 : Vec F S1x128 .f32) (x12 : Vec F S1x128 .f32) (x13 : Vec F S1x128 .f32) : Vec F S200x128 .f32 :=
  View.canon [⟨rA, k1_pay1 (k1_pay3 (k1_pay2 (View.ld x0 rA) (View.ld x1 rB) (View.ld x3 rC) (View.ld x4 rD)) (View.ld x2 rA) (View.ld x5 rE) (View.ld x6 rF) (View.ld x7 rF)) (k1_pay4 (k1_pay2 (View.ld x0 rA) (View.ld x1 rB) (View.ld x3 rC) (View.ld x4 rD)) (View.ld x2 rA) (View.ld x5 rE) (View.ld x6 rF) (View.ld x7 rF) (View.ld x8 rG) (View.ld x9 rH)) (View.ld x10 rI) (View.ld x11 rF) (View.ld x12 rF) (View.ld x13 rF)⟩]

theorem attn_cover (p : Vec F S200x128 .f32) (y : S200x128.Idx) : ∃ pc ∈ ([⟨rA, p⟩] : List (View.Piece (Elt F) S200x128 .f32)), y ∈ pc.1.set :=
  View.cover_of_tiled [⟨rA, p⟩] S200x128.size (by rfl) y

set_option maxHeartbeats 1000000 in
/-- The body, run: the operands' buffers stay, the result's ends at `attnOut` of them. -/
theorem attn_run (c : Dev nD) (E : Set ℕ) (i : grid1.Coords) (a0 : Memref sig .tc .vmem S200x128 .f32) (h0 : a0.IsWhole) (a1 : Memref sig .tc .vmem S3200x128 .i32) (h1 : a1.IsWhole) (a2 : Memref sig .tc .vmem S200x128 .f32) (h2 : a2.IsWhole) (a3 : Memref sig .tc .vmem S128x8 .f32) (h3 : a3.IsWhole) (a4 : Memref sig .tc .vmem S8x128 .f32) (h4 : a4.IsWhole) (a5 : Memref sig .tc .vmem S128x128 .f32) (h5 : a5.IsWhole) (a6 : Memref sig .tc .vmem S1x128 .f32) (h6 : a6.IsWhole) (a7 : Memref sig .tc .vmem S1x128 .f32) (h7 : a7.IsWhole) (a8 : Memref sig .tc .vmem S128x256 .f32) (h8 : a8.IsWhole) (a9 : Memref sig .tc .vmem S1x256 .f32) (h9 : a9.IsWhole) (a10 : Memref sig .tc .vmem S256x128 .f32) (h10 : a10.IsWhole) (a11 : Memref sig .tc .vmem S1x128 .f32) (h11 : a11.IsWhole) (a12 : Memref sig .tc .vmem S1x128 .f32) (h12 : a12.IsWhole) (a13 : Memref sig .tc .vmem S1x128 .f32) (h13 : a13.IsWhole) (a14 : Memref sig .tc .vmem S200x128 .f32) (h14 : a14.IsWhole)
    (x0 : Vec F S200x128 .f32) (x1 : Vec F S3200x128 .i32) (x2 : Vec F S200x128 .f32) (x3 : Vec F S128x8 .f32) (x4 : Vec F S8x128 .f32) (x5 : Vec F S128x128 .f32) (x6 : Vec F S1x128 .f32) (x7 : Vec F S1x128 .f32) (x8 : Vec F S128x256 .f32) (x9 : Vec F S1x256 .f32) (x10 : Vec F S256x128 .f32) (x11 : Vec F S1x128 .f32) (x12 : Vec F S1x128 .f32) (x13 : Vec F S1x128 .f32) (Q : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ (∃ d, owns (c : Thread nD τ) a14 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare (attnOut x0 x1 x2 x3 x4 x5 x6 x7 x8 x9 x10 x11 x12 x13)) -∗ Q ⟨⟩))
      ⊢ wp frame (wpE (defs₀ (F := F)) Variants.none c none) E (cc1__attn_body i a0 h0 a1 h1 a2 h2 a3 h3 a4 h4 a5 h5 a6 h6 a7 h7 a8 h8 a9 h9 a10 h10 a11 h11 a12 h12 a13 h13 a14 h14) Q := by
  simp only [cc1__attn_body_eq_skeleton]; unfold cc1__attn_body_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  refine (View.read_writes_eq_canon _ _ _ (attn_cover _)).trans ?_
  rfl

theorem body3_eq : cc3__attn_body (F := F) = cc1__attn_body (F := F) := rfl
theorem body5_eq : cc5__attn_body (F := F) = cc1__attn_body (F := F) := rfl
theorem body7_eq : cc7__attn_body (F := F) = cc1__attn_body (F := F) := rfl
theorem body9_eq : cc9__attn_body (F := F) = cc1__attn_body (F := F) := rfl

/-- A TensorCore owes nothing at the index its pipelines wait at. -/
theorem Otc_none (d : Dev nD) (n : ℕ) (g : GSem nD τ sig) : (K (F := F)).Otc (N := 5) d n g none = 0 := by
  by_contra h
  have := SparseCore.Cfg.lev_of_Otc_pos (K := K (F := F)) (N := 5) (Nat.pos_of_ne_zero h)
  exact absurd this (by show ¬ (_ + 1 ≤ 0); omega)

/-- What a region's body leaves alone: the scoped buffers no window of its pipeline stages. -/
def inv (p : Fin 5) (c : Dev nD) : sProp 𝕄 :=
  Pipeline.scopedRest (Ix := HIx 5) (Name := ℕ) (U := UU) (Lvl := ℕ) (Val := Elt F) (pinned (F := F) p).spec c

/-- The pairs a TensorCore may have recorded before call `n`. -/
def recs (d : Dev nD) (n : ℕ) : Set (SemLoc sig × HIx 5) := {x | (K (F := F)).lev ((d : Thread nD τ), x.1) x.2 ≤ 8 * n}

end Cert.Proof.Layer
-- ==== Proof.Layer.Region0.lean ====
/-
  The attention call of pipeline 0, as a region of the kernel: the arrays as it finds them, each point's blocks, and its
  body run at a point.
-/
module

public import proofs.«01_k».proof.Proof.Layer.Body

@[expose] public section

set_option maxRecDepth 65536

noncomputable section

namespace Cert.Proof.Layer

open Idealize.ShloMosaic.Pipeline (Dat Cfg Window BodyObligation cellOf)
open Cert.LayerIdeal Cert.LayerIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

variable (V : Dev nD → Valuation τ sig (Elt F))

/-- The block window `w` stages at point `t`. -/
def iblk1 (c : Dev nD) (w : Fin cfg1.W) (t : Fin cfg1.N) : ((cfg1.win w).xblock (grid1.coords t)).Idx → Elt F (cfg1.win w).elt :=
  ((cfg1.win w).blk t).view.read (Elt F) (V c (Proc.devRef .tc (Pipeline.arrRef spec1 w)))

/-- The region's data: the arrays at `V`; each operand's buffer at its block, the result's at what the body leaves; the
    core owing what the later calls need. -/
def dat1 (c : Dev nD) : Dat τ (Elt F) (HIx 5) ℕ UU ℕ cfg1 c where
  A w := V c (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => attnOut (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
  Φ _ := inv (F := F) 0 c
  q _ := fullShare
  owed _ := (K (F := F)).Otc c 1
  recorded _ := recs (F := F) c 1

theorem A1_eq (c : Dev nD) (w : Fin cfg1.W) : (dat1 V c).A w = V c (Proc.devRef .tc (Pipeline.arrRef spec1 w)) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = attnOut (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A1_eq]; try rfl) t d).trans
    (by unfold Dat.fetched Dat.blockOf iblk1; rw [A1_eq]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A1_eq]; try rfl) t d).trans
    (by unfold Dat.fetched Dat.blockOf iblk1; rw [A1_eq]; try rfl)
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A1_eq]; try rfl) t d).trans
    (by unfold Dat.fetched Dat.blockOf iblk1; rw [A1_eq]; try rfl)
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A1_eq]; try rfl) t d).trans
    (by unfold Dat.fetched Dat.blockOf iblk1; rw [A1_eq]; try rfl)
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A1_eq]; try rfl) t d).trans
    (by unfold Dat.fetched Dat.blockOf iblk1; rw [A1_eq]; try rfl)
theorem before1_9 (c : Dev nD) (t : Fin cfg1.N) (d) : (dat1 V c).before 9 t d = iblk1 V c 9 t :=
  ((dat1 V c).before_in_eq_fetched 9 rfl (fun _ => rfl) (fun _ _ _ => rfl) (fun t => by rw [after1_9]; unfold Dat.blockOf iblk1; rw [A1_eq]; try rfl) t d).trans
    (by unfold Dat.fetched Dat.blockOf iblk1; rw [A1_eq]; try rfl)
theorem before1_10 (c : Dev nD) (t : Fin cfg1.N) (d) : (dat1 V c).before 10 t d = iblk1 V c 10 t :=
  ((dat1 V c).before_in_eq_fetched 10 rfl (fun _ => rfl) (fun _ _ _ => rfl) (fun t => by rw [after1_10]; unfold Dat.blockOf iblk1; rw [A1_eq]; try rfl) t d).trans
    (by unfold Dat.fetched Dat.blockOf iblk1; rw [A1_eq]; try rfl)
theorem before1_11 (c : Dev nD) (t : Fin cfg1.N) (d) : (dat1 V c).before 11 t d = iblk1 V c 11 t :=
  ((dat1 V c).before_in_eq_fetched 11 rfl (fun _ => rfl) (fun _ _ _ => rfl) (fun t => by rw [after1_11]; unfold Dat.blockOf iblk1; rw [A1_eq]; try rfl) t d).trans
    (by unfold Dat.fetched Dat.blockOf iblk1; rw [A1_eq]; try rfl)
theorem before1_12 (c : Dev nD) (t : Fin cfg1.N) (d) : (dat1 V c).before 12 t d = iblk1 V c 12 t :=
  ((dat1 V c).before_in_eq_fetched 12 rfl (fun _ => rfl) (fun _ _ _ => rfl) (fun t => by rw [after1_12]; unfold Dat.blockOf iblk1; rw [A1_eq]; try rfl) t d).trans
    (by unfold Dat.fetched Dat.blockOf iblk1; rw [A1_eq]; try rfl)
theorem before1_13 (c : Dev nD) (t : Fin cfg1.N) (d) : (dat1 V c).before 13 t d = iblk1 V c 13 t :=
  ((dat1 V c).before_in_eq_fetched 13 rfl (fun _ => rfl) (fun _ _ _ => rfl) (fun t => by rw [after1_13]; unfold Dat.blockOf iblk1; rw [A1_eq]; try rfl) t d).trans
    (by unfold Dat.fetched Dat.blockOf iblk1; rw [A1_eq]; try rfl)

def pre1 (c : Dev nD) (t : Fin cfg1.N) : sProp 𝕄 :=
  iprop((dat1 V c).Φ t.castSucc ∗ (dat1 V c).owesAt none t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d)))

def post1 (c : Dev nD) (t : Fin cfg1.N) : sProp 𝕄 :=
  iprop((dat1 V c).Φ t.succ ∗ (dat1 V c).owesAt none t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t))

/-- The body at a point: from each operand's block staged, the result's staged. -/
theorem run1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4, before1_5, before1_6, before1_7, before1_8, before1_9, before1_10, before1_11, before1_12, before1_13]
  rw [show (dat1 V c).Φ t.succ = (dat1 V c).Φ t.castSucc from rfl,
    show (dat1 V c).owesAt none t.succ = (dat1 V c).owesAt none t.castSucc from rfl,
    after1_0, after1_1, after1_2, after1_3, after1_4, after1_5, after1_6, after1_7, after1_8, after1_9, after1_10, after1_11, after1_12, after1_13, after1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (attn_run c Set.univ (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem row1 (t : Fin cfg1.N) : (defs₀ (F := F)) .tc cfg1.body (cfg1.bodyArgs t (cfg1.slots t)) = bodyAt1 t := rfl

theorem obligation1 (c : Dev nD) : BodyObligation (dat1 V c) (defs₀ (F := F)) 𝒱₀ none Set.univ := fun t => by
  rw [bigSep_W1, bigSep_W1, row1]
  exact triple_restated (run1 V c t) rfl .rfl fun _ => .rfl

end Cert.Proof.Layer
-- ==== Proof.Layer.Region1.lean ====
/-
  The attention call of pipeline 1, as a region of the kernel: the arrays as it finds them, each point's blocks, and its
  body run at a point.
-/
module

public import proofs.«01_k».proof.Proof.Layer.Body

@[expose] public section

set_option maxRecDepth 65536

noncomputable section

namespace Cert.Proof.Layer

open Idealize.ShloMosaic.Pipeline (Dat Cfg Window BodyObligation cellOf)
open Cert.LayerIdeal Cert.LayerIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

variable (V : Dev nD → Valuation τ sig (Elt F))

/-- The block window `w` stages at point `t`. -/
def iblk3 (c : Dev nD) (w : Fin cfg3.W) (t : Fin cfg3.N) : ((cfg3.win w).xblock (grid3.coords t)).Idx → Elt F (cfg3.win w).elt :=
  ((cfg3.win w).blk t).view.read (Elt F) (V c (Proc.devRef .tc (Pipeline.arrRef spec3 w)))

/-- The region's data: the arrays at `V`; each operand's buffer at its block, the result's at what the body leaves; the
    core owing what the later calls need. -/
def dat3 (c : Dev nD) : Dat τ (Elt F) (HIx 5) ℕ UU ℕ cfg3 c where
  A w := V c (Proc.devRef .tc (Pipeline.arrRef spec3 w))
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => attnOut (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t)
  Φ _ := inv (F := F) 1 c
  q _ := fullShare
  owed _ := (K (F := F)).Otc c 2
  recorded _ := recs (F := F) c 2

theorem A3_eq (c : Dev nD) (w : Fin cfg3.W) : (dat3 V c).A w = V c (Proc.devRef .tc (Pipeline.arrRef spec3 w)) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = attnOut (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A3_eq]; try rfl) t d).trans
    (by unfold Dat.fetched Dat.blockOf iblk3; rw [A3_eq]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A3_eq]; try rfl) t d).trans
    (by unfold Dat.fetched Dat.blockOf iblk3; rw [A3_eq]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A3_eq]; try rfl) t d).trans
    (by unfold Dat.fetched Dat.blockOf iblk3; rw [A3_eq]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A3_eq]; try rfl) t d).trans
    (by unfold Dat.fetched Dat.blockOf iblk3; rw [A3_eq]; try rfl)
theorem before3_4 (c : Dev nD) (t : Fin cfg3.N) (d) : (dat3 V c).before 4 t d = iblk3 V c 4 t :=
  ((dat3 V c).before_in_eq_fetched 4 rfl (fun _ => rfl) (fun _ _ _ => rfl) (fun t => by rw [after3_4]; unfold Dat.blockOf iblk3; rw [A3_eq]; try rfl) t d).trans
    (by unfold Dat.fetched Dat.blockOf iblk3; rw [A3_eq]; try rfl)
theorem before3_5 (c : Dev nD) (t : Fin cfg3.N) (d) : (dat3 V c).before 5 t d = iblk3 V c 5 t :=
  ((dat3 V c).before_in_eq_fetched 5 rfl (fun _ => rfl) (fun _ _ _ => rfl) (fun t => by rw [after3_5]; unfold Dat.blockOf iblk3; rw [A3_eq]; try rfl) t d).trans
    (by unfold Dat.fetched Dat.blockOf iblk3; rw [A3_eq]; try rfl)
theorem before3_6 (c : Dev nD) (t : Fin cfg3.N) (d) : (dat3 V c).before 6 t d = iblk3 V c 6 t :=
  ((dat3 V c).before_in_eq_fetched 6 rfl (fun _ => rfl) (fun _ _ _ => rfl) (fun t => by rw [after3_6]; unfold Dat.blockOf iblk3; rw [A3_eq]; try rfl) t d).trans
    (by unfold Dat.fetched Dat.blockOf iblk3; rw [A3_eq]; try rfl)
theorem before3_7 (c : Dev nD) (t : Fin cfg3.N) (d) : (dat3 V c).before 7 t d = iblk3 V c 7 t :=
  ((dat3 V c).before_in_eq_fetched 7 rfl (fun _ => rfl) (fun _ _ _ => rfl) (fun t => by rw [after3_7]; unfold Dat.blockOf iblk3; rw [A3_eq]; try rfl) t d).trans
    (by unfold Dat.fetched Dat.blockOf iblk3; rw [A3_eq]; try rfl)
theorem before3_8 (c : Dev nD) (t : Fin cfg3.N) (d) : (dat3 V c).before 8 t d = iblk3 V c 8 t :=
  ((dat3 V c).before_in_eq_fetched 8 rfl (fun _ => rfl) (fun _ _ _ => rfl) (fun t => by rw [after3_8]; unfold Dat.blockOf iblk3; rw [A3_eq]; try rfl) t d).trans
    (by unfold Dat.fetched Dat.blockOf iblk3; rw [A3_eq]; try rfl)
theorem before3_9 (c : Dev nD) (t : Fin cfg3.N) (d) : (dat3 V c).before 9 t d = iblk3 V c 9 t :=
  ((dat3 V c).before_in_eq_fetched 9 rfl (fun _ => rfl) (fun _ _ _ => rfl) (fun t => by rw [after3_9]; unfold Dat.blockOf iblk3; rw [A3_eq]; try rfl) t d).trans
    (by unfold Dat.fetched Dat.blockOf iblk3; rw [A3_eq]; try rfl)
theorem before3_10 (c : Dev nD) (t : Fin cfg3.N) (d) : (dat3 V c).before 10 t d = iblk3 V c 10 t :=
  ((dat3 V c).before_in_eq_fetched 10 rfl (fun _ => rfl) (fun _ _ _ => rfl) (fun t => by rw [after3_10]; unfold Dat.blockOf iblk3; rw [A3_eq]; try rfl) t d).trans
    (by unfold Dat.fetched Dat.blockOf iblk3; rw [A3_eq]; try rfl)
theorem before3_11 (c : Dev nD) (t : Fin cfg3.N) (d) : (dat3 V c).before 11 t d = iblk3 V c 11 t :=
  ((dat3 V c).before_in_eq_fetched 11 rfl (fun _ => rfl) (fun _ _ _ => rfl) (fun t => by rw [after3_11]; unfold Dat.blockOf iblk3; rw [A3_eq]; try rfl) t d).trans
    (by unfold Dat.fetched Dat.blockOf iblk3; rw [A3_eq]; try rfl)
theorem before3_12 (c : Dev nD) (t : Fin cfg3.N) (d) : (dat3 V c).before 12 t d = iblk3 V c 12 t :=
  ((dat3 V c).before_in_eq_fetched 12 rfl (fun _ => rfl) (fun _ _ _ => rfl) (fun t => by rw [after3_12]; unfold Dat.blockOf iblk3; rw [A3_eq]; try rfl) t d).trans
    (by unfold Dat.fetched Dat.blockOf iblk3; rw [A3_eq]; try rfl)
theorem before3_13 (c : Dev nD) (t : Fin cfg3.N) (d) : (dat3 V c).before 13 t d = iblk3 V c 13 t :=
  ((dat3 V c).before_in_eq_fetched 13 rfl (fun _ => rfl) (fun _ _ _ => rfl) (fun t => by rw [after3_13]; unfold Dat.blockOf iblk3; rw [A3_eq]; try rfl) t d).trans
    (by unfold Dat.fetched Dat.blockOf iblk3; rw [A3_eq]; try rfl)

def pre3 (c : Dev nD) (t : Fin cfg3.N) : sProp 𝕄 :=
  iprop((dat3 V c).Φ t.castSucc ∗ (dat3 V c).owesAt none t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d)))

def post3 (c : Dev nD) (t : Fin cfg3.N) : sProp 𝕄 :=
  iprop((dat3 V c).Φ t.succ ∗ (dat3 V c).owesAt none t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t))

/-- The body at a point: from each operand's block staged, the result's staged. -/
theorem run3 (c : Dev nD) (t : Fin cfg3.N) :
    pre3 V c t ⊢ wp frame (wpE (defs₀ (F := F)) Variants.none c none) Set.univ (bodyAt3 t) (fun _ => post3 V c t) := by
  unfold pre3 post3 bodyAt3
  rw [body3_eq]
  simp only [before3_0, before3_1, before3_2, before3_3, before3_4, before3_5, before3_6, before3_7, before3_8, before3_9, before3_10, before3_11, before3_12, before3_13]
  rw [show (dat3 V c).Φ t.succ = (dat3 V c).Φ t.castSucc from rfl,
    show (dat3 V c).owesAt none t.succ = (dat3 V c).owesAt none t.castSucc from rfl,
    after3_0, after3_1, after3_2, after3_3, after3_4, after3_5, after3_6, after3_7, after3_8, after3_9, after3_10, after3_11, after3_12, after3_13, after3_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (attn_run c Set.univ (grid3.coords t) _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem row3 (t : Fin cfg3.N) : (defs₀ (F := F)) .tc cfg3.body (cfg3.bodyArgs t (cfg3.slots t)) = bodyAt3 t := rfl

theorem obligation3 (c : Dev nD) : BodyObligation (dat3 V c) (defs₀ (F := F)) 𝒱₀ none Set.univ := fun t => by
  rw [bigSep_W3, bigSep_W3, row3]
  exact triple_restated (run3 V c t) rfl .rfl fun _ => .rfl

end Cert.Proof.Layer
-- ==== Proof.Layer.Region2.lean ====
/-
  The attention call of pipeline 2, as a region of the kernel: the arrays as it finds them, each point's blocks, and its
  body run at a point.
-/
module

public import proofs.«01_k».proof.Proof.Layer.Body

@[expose] public section

set_option maxRecDepth 65536

noncomputable section

namespace Cert.Proof.Layer

open Idealize.ShloMosaic.Pipeline (Dat Cfg Window BodyObligation cellOf)
open Cert.LayerIdeal Cert.LayerIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

variable (V : Dev nD → Valuation τ sig (Elt F))

/-- The block window `w` stages at point `t`. -/
def iblk5 (c : Dev nD) (w : Fin cfg5.W) (t : Fin cfg5.N) : ((cfg5.win w).xblock (grid5.coords t)).Idx → Elt F (cfg5.win w).elt :=
  ((cfg5.win w).blk t).view.read (Elt F) (V c (Proc.devRef .tc (Pipeline.arrRef spec5 w)))

/-- The region's data: the arrays at `V`; each operand's buffer at its block, the result's at what the body leaves; the
    core owing what the later calls need. -/
def dat5 (c : Dev nD) : Dat τ (Elt F) (HIx 5) ℕ UU ℕ cfg5 c where
  A w := V c (Proc.devRef .tc (Pipeline.arrRef spec5 w))
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => iblk5 V c 7 t
    | ⟨8, _⟩ => iblk5 V c 8 t
    | ⟨9, _⟩ => iblk5 V c 9 t
    | ⟨10, _⟩ => iblk5 V c 10 t
    | ⟨11, _⟩ => iblk5 V c 11 t
    | ⟨12, _⟩ => iblk5 V c 12 t
    | ⟨13, _⟩ => iblk5 V c 13 t
    | ⟨14, _⟩ => attnOut (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t)
  Φ _ := inv (F := F) 2 c
  q _ := fullShare
  owed _ := (K (F := F)).Otc c 3
  recorded _ := recs (F := F) c 3

theorem A5_eq (c : Dev nD) (w : Fin cfg5.W) : (dat5 V c).A w = V c (Proc.devRef .tc (Pipeline.arrRef spec5 w)) := by dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t = iblk5 V c 6 t := by dsimp only [dat5]
theorem after5_7 (c : Dev nD) (t : Fin cfg5.N) : (dat5 V c).after 7 t = iblk5 V c 7 t := by dsimp only [dat5]
theorem after5_8 (c : Dev nD) (t : Fin cfg5.N) : (dat5 V c).after 8 t = iblk5 V c 8 t := by dsimp only [dat5]
theorem after5_9 (c : Dev nD) (t : Fin cfg5.N) : (dat5 V c).after 9 t = iblk5 V c 9 t := by dsimp only [dat5]
theorem after5_10 (c : Dev nD) (t : Fin cfg5.N) : (dat5 V c).after 10 t = iblk5 V c 10 t := by dsimp only [dat5]
theorem after5_11 (c : Dev nD) (t : Fin cfg5.N) : (dat5 V c).after 11 t = iblk5 V c 11 t := by dsimp only [dat5]
theorem after5_12 (c : Dev nD) (t : Fin cfg5.N) : (dat5 V c).after 12 t = iblk5 V c 12 t := by dsimp only [dat5]
theorem after5_13 (c : Dev nD) (t : Fin cfg5.N) : (dat5 V c).after 13 t = iblk5 V c 13 t := by dsimp only [dat5]
theorem after5_14 (c : Dev nD) (t : Fin cfg5.N) : (dat5 V c).after 14 t = attnOut (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A5_eq]; try rfl) t d).trans
    (by unfold Dat.fetched Dat.blockOf iblk5; rw [A5_eq]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A5_eq]; try rfl) t d).trans
    (by unfold Dat.fetched Dat.blockOf iblk5; rw [A5_eq]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A5_eq]; try rfl) t d).trans
    (by unfold Dat.fetched Dat.blockOf iblk5; rw [A5_eq]; try rfl)
theorem before5_3 (c : Dev nD) (t : Fin cfg5.N) (d) : (dat5 V c).before 3 t d = iblk5 V c 3 t :=
  ((dat5 V c).before_in_eq_fetched 3 rfl (fun _ => rfl) (fun _ _ _ => rfl) (fun t => by rw [after5_3]; unfold Dat.blockOf iblk5; rw [A5_eq]; try rfl) t d).trans
    (by unfold Dat.fetched Dat.blockOf iblk5; rw [A5_eq]; try rfl)
theorem before5_4 (c : Dev nD) (t : Fin cfg5.N) (d) : (dat5 V c).before 4 t d = iblk5 V c 4 t :=
  ((dat5 V c).before_in_eq_fetched 4 rfl (fun _ => rfl) (fun _ _ _ => rfl) (fun t => by rw [after5_4]; unfold Dat.blockOf iblk5; rw [A5_eq]; try rfl) t d).trans
    (by unfold Dat.fetched Dat.blockOf iblk5; rw [A5_eq]; try rfl)
theorem before5_5 (c : Dev nD) (t : Fin cfg5.N) (d) : (dat5 V c).before 5 t d = iblk5 V c 5 t :=
  ((dat5 V c).before_in_eq_fetched 5 rfl (fun _ => rfl) (fun _ _ _ => rfl) (fun t => by rw [after5_5]; unfold Dat.blockOf iblk5; rw [A5_eq]; try rfl) t d).trans
    (by unfold Dat.fetched Dat.blockOf iblk5; rw [A5_eq]; try rfl)
theorem before5_6 (c : Dev nD) (t : Fin cfg5.N) (d) : (dat5 V c).before 6 t d = iblk5 V c 6 t :=
  ((dat5 V c).before_in_eq_fetched 6 rfl (fun _ => rfl) (fun _ _ _ => rfl) (fun t => by rw [after5_6]; unfold Dat.blockOf iblk5; rw [A5_eq]; try rfl) t d).trans
    (by unfold Dat.fetched Dat.blockOf iblk5; rw [A5_eq]; try rfl)
theorem before5_7 (c : Dev nD) (t : Fin cfg5.N) (d) : (dat5 V c).before 7 t d = iblk5 V c 7 t :=
  ((dat5 V c).before_in_eq_fetched 7 rfl (fun _ => rfl) (fun _ _ _ => rfl) (fun t => by rw [after5_7]; unfold Dat.blockOf iblk5; rw [A5_eq]; try rfl) t d).trans
    (by unfold Dat.fetched Dat.blockOf iblk5; rw [A5_eq]; try rfl)
theorem before5_8 (c : Dev nD) (t : Fin cfg5.N) (d) : (dat5 V c).before 8 t d = iblk5 V c 8 t :=
  ((dat5 V c).before_in_eq_fetched 8 rfl (fun _ => rfl) (fun _ _ _ => rfl) (fun t => by rw [after5_8]; unfold Dat.blockOf iblk5; rw [A5_eq]; try rfl) t d).trans
    (by unfold Dat.fetched Dat.blockOf iblk5; rw [A5_eq]; try rfl)
theorem before5_9 (c : Dev nD) (t : Fin cfg5.N) (d) : (dat5 V c).before 9 t d = iblk5 V c 9 t :=
  ((dat5 V c).before_in_eq_fetched 9 rfl (fun _ => rfl) (fun _ _ _ => rfl) (fun t => by rw [after5_9]; unfold Dat.blockOf iblk5; rw [A5_eq]; try rfl) t d).trans
    (by unfold Dat.fetched Dat.blockOf iblk5; rw [A5_eq]; try rfl)
theorem before5_10 (c : Dev nD) (t : Fin cfg5.N) (d) : (dat5 V c).before 10 t d = iblk5 V c 10 t :=
  ((dat5 V c).before_in_eq_fetched 10 rfl (fun _ => rfl) (fun _ _ _ => rfl) (fun t => by rw [after5_10]; unfold Dat.blockOf iblk5; rw [A5_eq]; try rfl) t d).trans
    (by unfold Dat.fetched Dat.blockOf iblk5; rw [A5_eq]; try rfl)
theorem before5_11 (c : Dev nD) (t : Fin cfg5.N) (d) : (dat5 V c).before 11 t d = iblk5 V c 11 t :=
  ((dat5 V c).before_in_eq_fetched 11 rfl (fun _ => rfl) (fun _ _ _ => rfl) (fun t => by rw [after5_11]; unfold Dat.blockOf iblk5; rw [A5_eq]; try rfl) t d).trans
    (by unfold Dat.fetched Dat.blockOf iblk5; rw [A5_eq]; try rfl)
theorem before5_12 (c : Dev nD) (t : Fin cfg5.N) (d) : (dat5 V c).before 12 t d = iblk5 V c 12 t :=
  ((dat5 V c).before_in_eq_fetched 12 rfl (fun _ => rfl) (fun _ _ _ => rfl) (fun t => by rw [after5_12]; unfold Dat.blockOf iblk5; rw [A5_eq]; try rfl) t d).trans
    (by unfold Dat.fetched Dat.blockOf iblk5; rw [A5_eq]; try rfl)
theorem before5_13 (c : Dev nD) (t : Fin cfg5.N) (d) : (dat5 V c).before 13 t d = iblk5 V c 13 t :=
  ((dat5 V c).before_in_eq_fetched 13 rfl (fun _ => rfl) (fun _ _ _ => rfl) (fun t => by rw [after5_13]; unfold Dat.blockOf iblk5; rw [A5_eq]; try rfl) t d).trans
    (by unfold Dat.fetched Dat.blockOf iblk5; rw [A5_eq]; try rfl)

def pre5 (c : Dev nD) (t : Fin cfg5.N) : sProp 𝕄 :=
  iprop((dat5 V c).Φ t.castSucc ∗ (dat5 V c).owesAt none t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d))
    ∗ (∃ d, owns (c : Thread nD τ) (st5_7 t) fullShare ((dat5 V c).before 7 t d))
    ∗ (∃ d, owns (c : Thread nD τ) (st5_8 t) fullShare ((dat5 V c).before 8 t d))
    ∗ (∃ d, owns (c : Thread nD τ) (st5_9 t) fullShare ((dat5 V c).before 9 t d))
    ∗ (∃ d, owns (c : Thread nD τ) (st5_10 t) fullShare ((dat5 V c).before 10 t d))
    ∗ (∃ d, owns (c : Thread nD τ) (st5_11 t) fullShare ((dat5 V c).before 11 t d))
    ∗ (∃ d, owns (c : Thread nD τ) (st5_12 t) fullShare ((dat5 V c).before 12 t d))
    ∗ (∃ d, owns (c : Thread nD τ) (st5_13 t) fullShare ((dat5 V c).before 13 t d))
    ∗ (∃ d, owns (c : Thread nD τ) (st5_14 t) fullShare ((dat5 V c).before 14 t d)))

def post5 (c : Dev nD) (t : Fin cfg5.N) : sProp 𝕄 :=
  iprop((dat5 V c).Φ t.succ ∗ (dat5 V c).owesAt none t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t)
    ∗ owns (c : Thread nD τ) (st5_7 t) fullShare ((dat5 V c).after 7 t)
    ∗ owns (c : Thread nD τ) (st5_8 t) fullShare ((dat5 V c).after 8 t)
    ∗ owns (c : Thread nD τ) (st5_9 t) fullShare ((dat5 V c).after 9 t)
    ∗ owns (c : Thread nD τ) (st5_10 t) fullShare ((dat5 V c).after 10 t)
    ∗ owns (c : Thread nD τ) (st5_11 t) fullShare ((dat5 V c).after 11 t)
    ∗ owns (c : Thread nD τ) (st5_12 t) fullShare ((dat5 V c).after 12 t)
    ∗ owns (c : Thread nD τ) (st5_13 t) fullShare ((dat5 V c).after 13 t)
    ∗ owns (c : Thread nD τ) (st5_14 t) fullShare ((dat5 V c).after 14 t))

/-- The body at a point: from each operand's block staged, the result's staged. -/
theorem run5 (c : Dev nD) (t : Fin cfg5.N) :
    pre5 V c t ⊢ wp frame (wpE (defs₀ (F := F)) Variants.none c none) Set.univ (bodyAt5 t) (fun _ => post5 V c t) := by
  unfold pre5 post5 bodyAt5
  rw [body5_eq]
  simp only [before5_0, before5_1, before5_2, before5_3, before5_4, before5_5, before5_6, before5_7, before5_8, before5_9, before5_10, before5_11, before5_12, before5_13]
  rw [show (dat5 V c).Φ t.succ = (dat5 V c).Φ t.castSucc from rfl,
    show (dat5 V c).owesAt none t.succ = (dat5 V c).owesAt none t.castSucc from rfl,
    after5_0, after5_1, after5_2, after5_3, after5_4, after5_5, after5_6, after5_7, after5_8, after5_9, after5_10, after5_11, after5_12, after5_13, after5_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (attn_run c Set.univ (grid5.coords t) _ _ _ _ _ _ _ _ _ _ _ _ _ _ _ _ _ _ _ _ _ _ _ _ _ _ _ _ _ _ (iblk5 V c 0 t) (iblk5 V c 1 t) (iblk5 V c 2 t) (iblk5 V c 3 t) (iblk5 V c 4 t) (iblk5 V c 5 t) (iblk5 V c 6 t) (iblk5 V c 7 t) (iblk5 V c 8 t) (iblk5 V c 9 t) (iblk5 V c 10 t) (iblk5 V c 11 t) (iblk5 V c 12 t) (iblk5 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem row5 (t : Fin cfg5.N) : (defs₀ (F := F)) .tc cfg5.body (cfg5.bodyArgs t (cfg5.slots t)) = bodyAt5 t := rfl

theorem obligation5 (c : Dev nD) : BodyObligation (dat5 V c) (defs₀ (F := F)) 𝒱₀ none Set.univ := fun t => by
  rw [bigSep_W5, bigSep_W5, row5]
  exact triple_restated (run5 V c t) rfl .rfl fun _ => .rfl

end Cert.Proof.Layer
-- ==== Proof.Layer.Region3.lean ====
/-
  The attention call of pipeline 3, as a region of the kernel: the arrays as it finds them, each point's blocks, and its
  body run at a point.
-/
module

public import proofs.«01_k».proof.Proof.Layer.Body

@[expose] public section

set_option maxRecDepth 65536

noncomputable section

namespace Cert.Proof.Layer

open Idealize.ShloMosaic.Pipeline (Dat Cfg Window BodyObligation cellOf)
open Cert.LayerIdeal Cert.LayerIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

variable (V : Dev nD → Valuation τ sig (Elt F))

/-- The block window `w` stages at point `t`. -/
def iblk7 (c : Dev nD) (w : Fin cfg7.W) (t : Fin cfg7.N) : ((cfg7.win w).xblock (grid7.coords t)).Idx → Elt F (cfg7.win w).elt :=
  ((cfg7.win w).blk t).view.read (Elt F) (V c (Proc.devRef .tc (Pipeline.arrRef spec7 w)))

/-- The region's data: the arrays at `V`; each operand's buffer at its block, the result's at what the body leaves; the
    core owing what the later calls need. -/
def dat7 (c : Dev nD) : Dat τ (Elt F) (HIx 5) ℕ UU ℕ cfg7 c where
  A w := V c (Proc.devRef .tc (Pipeline.arrRef spec7 w))
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => iblk7 V c 8 t
    | ⟨9, _⟩ => iblk7 V c 9 t
    | ⟨10, _⟩ => iblk7 V c 10 t
    | ⟨11, _⟩ => iblk7 V c 11 t
    | ⟨12, _⟩ => iblk7 V c 12 t
    | ⟨13, _⟩ => iblk7 V c 13 t
    | ⟨14, _⟩ => attnOut (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) (iblk7 V c 11 t) (iblk7 V c 12 t) (iblk7 V c 13 t)
  Φ _ := inv (F := F) 3 c
  q _ := fullShare
  owed _ := (K (F := F)).Otc c 4
  recorded _ := recs (F := F) c 4

theorem A7_eq (c : Dev nD) (w : Fin cfg7.W) : (dat7 V c).A w = V c (Proc.devRef .tc (Pipeline.arrRef spec7 w)) := by dsimp only [dat7]
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = iblk7 V c 8 t := by dsimp only [dat7]
theorem after7_9 (c : Dev nD) (t : Fin cfg7.N) : (dat7 V c).after 9 t = iblk7 V c 9 t := by dsimp only [dat7]
theorem after7_10 (c : Dev nD) (t : Fin cfg7.N) : (dat7 V c).after 10 t = iblk7 V c 10 t := by dsimp only [dat7]
theorem after7_11 (c : Dev nD) (t : Fin cfg7.N) : (dat7 V c).after 11 t = iblk7 V c 11 t := by dsimp only [dat7]
theorem after7_12 (c : Dev nD) (t : Fin cfg7.N) : (dat7 V c).after 12 t = iblk7 V c 12 t := by dsimp only [dat7]
theorem after7_13 (c : Dev nD) (t : Fin cfg7.N) : (dat7 V c).after 13 t = iblk7 V c 13 t := by dsimp only [dat7]
theorem after7_14 (c : Dev nD) (t : Fin cfg7.N) : (dat7 V c).after 14 t = attnOut (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) (iblk7 V c 11 t) (iblk7 V c 12 t) (iblk7 V c 13 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A7_eq]; try rfl) t d).trans
    (by unfold Dat.fetched Dat.blockOf iblk7; rw [A7_eq]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A7_eq]; try rfl) t d).trans
    (by unfold Dat.fetched Dat.blockOf iblk7; rw [A7_eq]; try rfl)
theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A7_eq]; try rfl) t d).trans
    (by unfold Dat.fetched Dat.blockOf iblk7; rw [A7_eq]; try rfl)
theorem before7_3 (c : Dev nD) (t : Fin cfg7.N) (d) : (dat7 V c).before 3 t d = iblk7 V c 3 t :=
  ((dat7 V c).before_in_eq_fetched 3 rfl (fun _ => rfl) (fun _ _ _ => rfl) (fun t => by rw [after7_3]; unfold Dat.blockOf iblk7; rw [A7_eq]; try rfl) t d).trans
    (by unfold Dat.fetched Dat.blockOf iblk7; rw [A7_eq]; try rfl)
theorem before7_4 (c : Dev nD) (t : Fin cfg7.N) (d) : (dat7 V c).before 4 t d = iblk7 V c 4 t :=
  ((dat7 V c).before_in_eq_fetched 4 rfl (fun _ => rfl) (fun _ _ _ => rfl) (fun t => by rw [after7_4]; unfold Dat.blockOf iblk7; rw [A7_eq]; try rfl) t d).trans
    (by unfold Dat.fetched Dat.blockOf iblk7; rw [A7_eq]; try rfl)
theorem before7_5 (c : Dev nD) (t : Fin cfg7.N) (d) : (dat7 V c).before 5 t d = iblk7 V c 5 t :=
  ((dat7 V c).before_in_eq_fetched 5 rfl (fun _ => rfl) (fun _ _ _ => rfl) (fun t => by rw [after7_5]; unfold Dat.blockOf iblk7; rw [A7_eq]; try rfl) t d).trans
    (by unfold Dat.fetched Dat.blockOf iblk7; rw [A7_eq]; try rfl)
theorem before7_6 (c : Dev nD) (t : Fin cfg7.N) (d) : (dat7 V c).before 6 t d = iblk7 V c 6 t :=
  ((dat7 V c).before_in_eq_fetched 6 rfl (fun _ => rfl) (fun _ _ _ => rfl) (fun t => by rw [after7_6]; unfold Dat.blockOf iblk7; rw [A7_eq]; try rfl) t d).trans
    (by unfold Dat.fetched Dat.blockOf iblk7; rw [A7_eq]; try rfl)
theorem before7_7 (c : Dev nD) (t : Fin cfg7.N) (d) : (dat7 V c).before 7 t d = iblk7 V c 7 t :=
  ((dat7 V c).before_in_eq_fetched 7 rfl (fun _ => rfl) (fun _ _ _ => rfl) (fun t => by rw [after7_7]; unfold Dat.blockOf iblk7; rw [A7_eq]; try rfl) t d).trans
    (by unfold Dat.fetched Dat.blockOf iblk7; rw [A7_eq]; try rfl)
theorem before7_8 (c : Dev nD) (t : Fin cfg7.N) (d) : (dat7 V c).before 8 t d = iblk7 V c 8 t :=
  ((dat7 V c).before_in_eq_fetched 8 rfl (fun _ => rfl) (fun _ _ _ => rfl) (fun t => by rw [after7_8]; unfold Dat.blockOf iblk7; rw [A7_eq]; try rfl) t d).trans
    (by unfold Dat.fetched Dat.blockOf iblk7; rw [A7_eq]; try rfl)
theorem before7_9 (c : Dev nD) (t : Fin cfg7.N) (d) : (dat7 V c).before 9 t d = iblk7 V c 9 t :=
  ((dat7 V c).before_in_eq_fetched 9 rfl (fun _ => rfl) (fun _ _ _ => rfl) (fun t => by rw [after7_9]; unfold Dat.blockOf iblk7; rw [A7_eq]; try rfl) t d).trans
    (by unfold Dat.fetched Dat.blockOf iblk7; rw [A7_eq]; try rfl)
theorem before7_10 (c : Dev nD) (t : Fin cfg7.N) (d) : (dat7 V c).before 10 t d = iblk7 V c 10 t :=
  ((dat7 V c).before_in_eq_fetched 10 rfl (fun _ => rfl) (fun _ _ _ => rfl) (fun t => by rw [after7_10]; unfold Dat.blockOf iblk7; rw [A7_eq]; try rfl) t d).trans
    (by unfold Dat.fetched Dat.blockOf iblk7; rw [A7_eq]; try rfl)
theorem before7_11 (c : Dev nD) (t : Fin cfg7.N) (d) : (dat7 V c).before 11 t d = iblk7 V c 11 t :=
  ((dat7 V c).before_in_eq_fetched 11 rfl (fun _ => rfl) (fun _ _ _ => rfl) (fun t => by rw [after7_11]; unfold Dat.blockOf iblk7; rw [A7_eq]; try rfl) t d).trans
    (by unfold Dat.fetched Dat.blockOf iblk7; rw [A7_eq]; try rfl)
theorem before7_12 (c : Dev nD) (t : Fin cfg7.N) (d) : (dat7 V c).before 12 t d = iblk7 V c 12 t :=
  ((dat7 V c).before_in_eq_fetched 12 rfl (fun _ => rfl) (fun _ _ _ => rfl) (fun t => by rw [after7_12]; unfold Dat.blockOf iblk7; rw [A7_eq]; try rfl) t d).trans
    (by unfold Dat.fetched Dat.blockOf iblk7; rw [A7_eq]; try rfl)
theorem before7_13 (c : Dev nD) (t : Fin cfg7.N) (d) : (dat7 V c).before 13 t d = iblk7 V c 13 t :=
  ((dat7 V c).before_in_eq_fetched 13 rfl (fun _ => rfl) (fun _ _ _ => rfl) (fun t => by rw [after7_13]; unfold Dat.blockOf iblk7; rw [A7_eq]; try rfl) t d).trans
    (by unfold Dat.fetched Dat.blockOf iblk7; rw [A7_eq]; try rfl)

def pre7 (c : Dev nD) (t : Fin cfg7.N) : sProp 𝕄 :=
  iprop((dat7 V c).Φ t.castSucc ∗ (dat7 V c).owesAt none t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d))
    ∗ (∃ d, owns (c : Thread nD τ) (st7_9 t) fullShare ((dat7 V c).before 9 t d))
    ∗ (∃ d, owns (c : Thread nD τ) (st7_10 t) fullShare ((dat7 V c).before 10 t d))
    ∗ (∃ d, owns (c : Thread nD τ) (st7_11 t) fullShare ((dat7 V c).before 11 t d))
    ∗ (∃ d, owns (c : Thread nD τ) (st7_12 t) fullShare ((dat7 V c).before 12 t d))
    ∗ (∃ d, owns (c : Thread nD τ) (st7_13 t) fullShare ((dat7 V c).before 13 t d))
    ∗ (∃ d, owns (c : Thread nD τ) (st7_14 t) fullShare ((dat7 V c).before 14 t d)))

def post7 (c : Dev nD) (t : Fin cfg7.N) : sProp 𝕄 :=
  iprop((dat7 V c).Φ t.succ ∗ (dat7 V c).owesAt none t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t)
    ∗ owns (c : Thread nD τ) (st7_9 t) fullShare ((dat7 V c).after 9 t)
    ∗ owns (c : Thread nD τ) (st7_10 t) fullShare ((dat7 V c).after 10 t)
    ∗ owns (c : Thread nD τ) (st7_11 t) fullShare ((dat7 V c).after 11 t)
    ∗ owns (c : Thread nD τ) (st7_12 t) fullShare ((dat7 V c).after 12 t)
    ∗ owns (c : Thread nD τ) (st7_13 t) fullShare ((dat7 V c).after 13 t)
    ∗ owns (c : Thread nD τ) (st7_14 t) fullShare ((dat7 V c).after 14 t))

/-- The body at a point: from each operand's block staged, the result's staged. -/
theorem run7 (c : Dev nD) (t : Fin cfg7.N) :
    pre7 V c t ⊢ wp frame (wpE (defs₀ (F := F)) Variants.none c none) Set.univ (bodyAt7 t) (fun _ => post7 V c t) := by
  unfold pre7 post7 bodyAt7
  rw [body7_eq]
  simp only [before7_0, before7_1, before7_2, before7_3, before7_4, before7_5, before7_6, before7_7, before7_8, before7_9, before7_10, before7_11, before7_12, before7_13]
  rw [show (dat7 V c).Φ t.succ = (dat7 V c).Φ t.castSucc from rfl,
    show (dat7 V c).owesAt none t.succ = (dat7 V c).owesAt none t.castSucc from rfl,
    after7_0, after7_1, after7_2, after7_3, after7_4, after7_5, after7_6, after7_7, after7_8, after7_9, after7_10, after7_11, after7_12, after7_13, after7_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (attn_run c Set.univ (grid7.coords t) _ _ _ _ _ _ _ _ _ _ _ _ _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) (iblk7 V c 8 t) (iblk7 V c 9 t) (iblk7 V c 10 t) (iblk7 V c 11 t) (iblk7 V c 12 t) (iblk7 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem row7 (t : Fin cfg7.N) : (defs₀ (F := F)) .tc cfg7.body (cfg7.bodyArgs t (cfg7.slots t)) = bodyAt7 t := rfl

theorem obligation7 (c : Dev nD) : BodyObligation (dat7 V c) (defs₀ (F := F)) 𝒱₀ none Set.univ := fun t => by
  rw [bigSep_W7, bigSep_W7, row7]
  exact triple_restated (run7 V c t) rfl .rfl fun _ => .rfl

end Cert.Proof.Layer
-- ==== Proof.Layer.Region4.lean ====
/-
  The attention call of pipeline 4, as a region of the kernel: the arrays as it finds them, each point's blocks, and its
  body run at a point.
-/
module

public import proofs.«01_k».proof.Proof.Layer.Body

@[expose] public section

set_option maxRecDepth 65536

noncomputable section

namespace Cert.Proof.Layer

open Idealize.ShloMosaic.Pipeline (Dat Cfg Window BodyObligation cellOf)
open Cert.LayerIdeal Cert.LayerIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

variable (V : Dev nD → Valuation τ sig (Elt F))

/-- The block window `w` stages at point `t`. -/
def iblk9 (c : Dev nD) (w : Fin cfg9.W) (t : Fin cfg9.N) : ((cfg9.win w).xblock (grid9.coords t)).Idx → Elt F (cfg9.win w).elt :=
  ((cfg9.win w).blk t).view.read (Elt F) (V c (Proc.devRef .tc (Pipeline.arrRef spec9 w)))

/-- The region's data: the arrays at `V`; each operand's buffer at its block, the result's at what the body leaves; the
    core owing what the later calls need. -/
def dat9 (c : Dev nD) : Dat τ (Elt F) (HIx 5) ℕ UU ℕ cfg9 c where
  A w := V c (Proc.devRef .tc (Pipeline.arrRef spec9 w))
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => iblk9 V c 8 t
    | ⟨9, _⟩ => iblk9 V c 9 t
    | ⟨10, _⟩ => iblk9 V c 10 t
    | ⟨11, _⟩ => iblk9 V c 11 t
    | ⟨12, _⟩ => iblk9 V c 12 t
    | ⟨13, _⟩ => iblk9 V c 13 t
    | ⟨14, _⟩ => attnOut (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t) (iblk9 V c 11 t) (iblk9 V c 12 t) (iblk9 V c 13 t)
  Φ _ := inv (F := F) 4 c
  q _ := fullShare
  owed _ := (K (F := F)).Otc c 5
  recorded _ := recs (F := F) c 5

theorem A9_eq (c : Dev nD) (w : Fin cfg9.W) : (dat9 V c).A w = V c (Proc.devRef .tc (Pipeline.arrRef spec9 w)) := by dsimp only [dat9]
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = iblk9 V c 7 t := by dsimp only [dat9]
theorem after9_8 (c : Dev nD) (t : Fin cfg9.N) : (dat9 V c).after 8 t = iblk9 V c 8 t := by dsimp only [dat9]
theorem after9_9 (c : Dev nD) (t : Fin cfg9.N) : (dat9 V c).after 9 t = iblk9 V c 9 t := by dsimp only [dat9]
theorem after9_10 (c : Dev nD) (t : Fin cfg9.N) : (dat9 V c).after 10 t = iblk9 V c 10 t := by dsimp only [dat9]
theorem after9_11 (c : Dev nD) (t : Fin cfg9.N) : (dat9 V c).after 11 t = iblk9 V c 11 t := by dsimp only [dat9]
theorem after9_12 (c : Dev nD) (t : Fin cfg9.N) : (dat9 V c).after 12 t = iblk9 V c 12 t := by dsimp only [dat9]
theorem after9_13 (c : Dev nD) (t : Fin cfg9.N) : (dat9 V c).after 13 t = iblk9 V c 13 t := by dsimp only [dat9]
theorem after9_14 (c : Dev nD) (t : Fin cfg9.N) : (dat9 V c).after 14 t = attnOut (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t) (iblk9 V c 11 t) (iblk9 V c 12 t) (iblk9 V c 13 t) := by dsimp only [dat9]

theorem before9_0 (c : Dev nD) (t : Fin cfg9.N) (d) : (dat9 V c).before 0 t d = iblk9 V c 0 t :=
  ((dat9 V c).before_in_eq_fetched 0 rfl (fun _ => rfl) (fun _ _ _ => rfl) (fun t => by rw [after9_0]; unfold Dat.blockOf iblk9; rw [A9_eq]; try rfl) t d).trans
    (by unfold Dat.fetched Dat.blockOf iblk9; rw [A9_eq]; try rfl)
theorem before9_1 (c : Dev nD) (t : Fin cfg9.N) (d) : (dat9 V c).before 1 t d = iblk9 V c 1 t :=
  ((dat9 V c).before_in_eq_fetched 1 rfl (fun _ => rfl) (fun _ _ _ => rfl) (fun t => by rw [after9_1]; unfold Dat.blockOf iblk9; rw [A9_eq]; try rfl) t d).trans
    (by unfold Dat.fetched Dat.blockOf iblk9; rw [A9_eq]; try rfl)
theorem before9_2 (c : Dev nD) (t : Fin cfg9.N) (d) : (dat9 V c).before 2 t d = iblk9 V c 2 t :=
  ((dat9 V c).before_in_eq_fetched 2 rfl (fun _ => rfl) (fun _ _ _ => rfl) (fun t => by rw [after9_2]; unfold Dat.blockOf iblk9; rw [A9_eq]; try rfl) t d).trans
    (by unfold Dat.fetched Dat.blockOf iblk9; rw [A9_eq]; try rfl)
theorem before9_3 (c : Dev nD) (t : Fin cfg9.N) (d) : (dat9 V c).before 3 t d = iblk9 V c 3 t :=
  ((dat9 V c).before_in_eq_fetched 3 rfl (fun _ => rfl) (fun _ _ _ => rfl) (fun t => by rw [after9_3]; unfold Dat.blockOf iblk9; rw [A9_eq]; try rfl) t d).trans
    (by unfold Dat.fetched Dat.blockOf iblk9; rw [A9_eq]; try rfl)
theorem before9_4 (c : Dev nD) (t : Fin cfg9.N) (d) : (dat9 V c).before 4 t d = iblk9 V c 4 t :=
  ((dat9 V c).before_in_eq_fetched 4 rfl (fun _ => rfl) (fun _ _ _ => rfl) (fun t => by rw [after9_4]; unfold Dat.blockOf iblk9; rw [A9_eq]; try rfl) t d).trans
    (by unfold Dat.fetched Dat.blockOf iblk9; rw [A9_eq]; try rfl)
theorem before9_5 (c : Dev nD) (t : Fin cfg9.N) (d) : (dat9 V c).before 5 t d = iblk9 V c 5 t :=
  ((dat9 V c).before_in_eq_fetched 5 rfl (fun _ => rfl) (fun _ _ _ => rfl) (fun t => by rw [after9_5]; unfold Dat.blockOf iblk9; rw [A9_eq]; try rfl) t d).trans
    (by unfold Dat.fetched Dat.blockOf iblk9; rw [A9_eq]; try rfl)
theorem before9_6 (c : Dev nD) (t : Fin cfg9.N) (d) : (dat9 V c).before 6 t d = iblk9 V c 6 t :=
  ((dat9 V c).before_in_eq_fetched 6 rfl (fun _ => rfl) (fun _ _ _ => rfl) (fun t => by rw [after9_6]; unfold Dat.blockOf iblk9; rw [A9_eq]; try rfl) t d).trans
    (by unfold Dat.fetched Dat.blockOf iblk9; rw [A9_eq]; try rfl)
theorem before9_7 (c : Dev nD) (t : Fin cfg9.N) (d) : (dat9 V c).before 7 t d = iblk9 V c 7 t :=
  ((dat9 V c).before_in_eq_fetched 7 rfl (fun _ => rfl) (fun _ _ _ => rfl) (fun t => by rw [after9_7]; unfold Dat.blockOf iblk9; rw [A9_eq]; try rfl) t d).trans
    (by unfold Dat.fetched Dat.blockOf iblk9; rw [A9_eq]; try rfl)
theorem before9_8 (c : Dev nD) (t : Fin cfg9.N) (d) : (dat9 V c).before 8 t d = iblk9 V c 8 t :=
  ((dat9 V c).before_in_eq_fetched 8 rfl (fun _ => rfl) (fun _ _ _ => rfl) (fun t => by rw [after9_8]; unfold Dat.blockOf iblk9; rw [A9_eq]; try rfl) t d).trans
    (by unfold Dat.fetched Dat.blockOf iblk9; rw [A9_eq]; try rfl)
theorem before9_9 (c : Dev nD) (t : Fin cfg9.N) (d) : (dat9 V c).before 9 t d = iblk9 V c 9 t :=
  ((dat9 V c).before_in_eq_fetched 9 rfl (fun _ => rfl) (fun _ _ _ => rfl) (fun t => by rw [after9_9]; unfold Dat.blockOf iblk9; rw [A9_eq]; try rfl) t d).trans
    (by unfold Dat.fetched Dat.blockOf iblk9; rw [A9_eq]; try rfl)
theorem before9_10 (c : Dev nD) (t : Fin cfg9.N) (d) : (dat9 V c).before 10 t d = iblk9 V c 10 t :=
  ((dat9 V c).before_in_eq_fetched 10 rfl (fun _ => rfl) (fun _ _ _ => rfl) (fun t => by rw [after9_10]; unfold Dat.blockOf iblk9; rw [A9_eq]; try rfl) t d).trans
    (by unfold Dat.fetched Dat.blockOf iblk9; rw [A9_eq]; try rfl)
theorem before9_11 (c : Dev nD) (t : Fin cfg9.N) (d) : (dat9 V c).before 11 t d = iblk9 V c 11 t :=
  ((dat9 V c).before_in_eq_fetched 11 rfl (fun _ => rfl) (fun _ _ _ => rfl) (fun t => by rw [after9_11]; unfold Dat.blockOf iblk9; rw [A9_eq]; try rfl) t d).trans
    (by unfold Dat.fetched Dat.blockOf iblk9; rw [A9_eq]; try rfl)
theorem before9_12 (c : Dev nD) (t : Fin cfg9.N) (d) : (dat9 V c).before 12 t d = iblk9 V c 12 t :=
  ((dat9 V c).before_in_eq_fetched 12 rfl (fun _ => rfl) (fun _ _ _ => rfl) (fun t => by rw [after9_12]; unfold Dat.blockOf iblk9; rw [A9_eq]; try rfl) t d).trans
    (by unfold Dat.fetched Dat.blockOf iblk9; rw [A9_eq]; try rfl)
theorem before9_13 (c : Dev nD) (t : Fin cfg9.N) (d) : (dat9 V c).before 13 t d = iblk9 V c 13 t :=
  ((dat9 V c).before_in_eq_fetched 13 rfl (fun _ => rfl) (fun _ _ _ => rfl) (fun t => by rw [after9_13]; unfold Dat.blockOf iblk9; rw [A9_eq]; try rfl) t d).trans
    (by unfold Dat.fetched Dat.blockOf iblk9; rw [A9_eq]; try rfl)

def pre9 (c : Dev nD) (t : Fin cfg9.N) : sProp 𝕄 :=
  iprop((dat9 V c).Φ t.castSucc ∗ (dat9 V c).owesAt none t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d))
    ∗ (∃ d, owns (c : Thread nD τ) (st9_8 t) fullShare ((dat9 V c).before 8 t d))
    ∗ (∃ d, owns (c : Thread nD τ) (st9_9 t) fullShare ((dat9 V c).before 9 t d))
    ∗ (∃ d, owns (c : Thread nD τ) (st9_10 t) fullShare ((dat9 V c).before 10 t d))
    ∗ (∃ d, owns (c : Thread nD τ) (st9_11 t) fullShare ((dat9 V c).before 11 t d))
    ∗ (∃ d, owns (c : Thread nD τ) (st9_12 t) fullShare ((dat9 V c).before 12 t d))
    ∗ (∃ d, owns (c : Thread nD τ) (st9_13 t) fullShare ((dat9 V c).before 13 t d))
    ∗ (∃ d, owns (c : Thread nD τ) (st9_14 t) fullShare ((dat9 V c).before 14 t d)))

def post9 (c : Dev nD) (t : Fin cfg9.N) : sProp 𝕄 :=
  iprop((dat9 V c).Φ t.succ ∗ (dat9 V c).owesAt none t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t)
    ∗ owns (c : Thread nD τ) (st9_8 t) fullShare ((dat9 V c).after 8 t)
    ∗ owns (c : Thread nD τ) (st9_9 t) fullShare ((dat9 V c).after 9 t)
    ∗ owns (c : Thread nD τ) (st9_10 t) fullShare ((dat9 V c).after 10 t)
    ∗ owns (c : Thread nD τ) (st9_11 t) fullShare ((dat9 V c).after 11 t)
    ∗ owns (c : Thread nD τ) (st9_12 t) fullShare ((dat9 V c).after 12 t)
    ∗ owns (c : Thread nD τ) (st9_13 t) fullShare ((dat9 V c).after 13 t)
    ∗ owns (c : Thread nD τ) (st9_14 t) fullShare ((dat9 V c).after 14 t))

/-- The body at a point: from each operand's block staged, the result's staged. -/
theorem run9 (c : Dev nD) (t : Fin cfg9.N) :
    pre9 V c t ⊢ wp frame (wpE (defs₀ (F := F)) Variants.none c none) Set.univ (bodyAt9 t) (fun _ => post9 V c t) := by
  unfold pre9 post9 bodyAt9
  rw [body9_eq]
  simp only [before9_0, before9_1, before9_2, before9_3, before9_4, before9_5, before9_6, before9_7, before9_8, before9_9, before9_10, before9_11, before9_12, before9_13]
  rw [show (dat9 V c).Φ t.succ = (dat9 V c).Φ t.castSucc from rfl,
    show (dat9 V c).owesAt none t.succ = (dat9 V c).owesAt none t.castSucc from rfl,
    after9_0, after9_1, after9_2, after9_3, after9_4, after9_5, after9_6, after9_7, after9_8, after9_9, after9_10, after9_11, after9_12, after9_13, after9_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (attn_run c Set.univ (grid9.coords t) _ _ _ _ _ _ _ _ _ _ _ _ _ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) (iblk9 V c 7 t) (iblk9 V c 8 t) (iblk9 V c 9 t) (iblk9 V c 10 t) (iblk9 V c 11 t) (iblk9 V c 12 t) (iblk9 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

theorem row9 (t : Fin cfg9.N) : (defs₀ (F := F)) .tc cfg9.body (cfg9.bodyArgs t (cfg9.slots t)) = bodyAt9 t := rfl

theorem obligation9 (c : Dev nD) : BodyObligation (dat9 V c) (defs₀ (F := F)) 𝒱₀ none Set.univ := fun t => by
  rw [bigSep_W9, bigSep_W9, row9]
  exact triple_restated (run9 V c t) rfl .rfl fun _ => .rfl

end Cert.Proof.Layer
-- ==== Proof.Layer.Segment.lean ====
/-
  An attention call as a step of the kernel's host program: all the TensorCore's arrays held, its result's array ends at
  what the region writes back, the others as they were; what the TensorCore still owes the later calls passes through.
-/
module

public import proofs.«01_k».proof.Proof.Layer.Region0
public import proofs.«01_k».proof.Proof.Layer.Region1
public import proofs.«01_k».proof.Proof.Layer.Region2
public import proofs.«01_k».proof.Proof.Layer.Region3
public import proofs.«01_k».proof.Proof.Layer.Region4
public import Idealize.ShloMosaic.Lib.Pipeline.RegionArrays

@[expose] public section

set_option maxRecDepth 65536

noncomputable section

namespace Cert.Proof.Layer

open Idealize.ShloMosaic.Pipeline (Dat Cfg Window BodyObligation cellOf RegionSeg)
open Idealize.ShloMosaic.StableHlo (held held_congr)
open Cert.LayerIdeal Cert.LayerIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 5) (Elt F) ℕ UU ℕ

variable (m : (ℓ : Loc nD τ sig) → Buf (Elt F) ℓ)

/-- The five regions' data, each from the arrays `V`. -/
def pdats (V : Dev nD → Valuation τ sig (Elt F)) : (p : Fin 5) → (c : Dev nD) → Dat τ (Elt F) (HIx 5) ℕ UU ℕ (pinned (F := F) p) c
  | 0 => fun c => dat1 V c
  | 1 => fun c => dat3 V c
  | 2 => fun c => dat5 V c
  | 3 => fun c => dat7 V c
  | 4 => fun c => dat9 V c

theorem kit : ∀ p : Fin 5, Pipeline.PLaunchFacts (nD := nD) (τ := τ) (pcfgs (F := F)) p
  | 0 => launch1.toP
  | 1 => launch3.toP
  | 2 => launch5.toP
  | 3 => launch7.toP
  | 4 => launch9.toP

theorem pdats_body (V : Dev nD → Valuation τ sig (Elt F)) : ∀ (p : Fin 5) (c : Dev nD), BodyObligation (pdats V p c) (defs₀ (F := F)) 𝒱₀ none Set.univ
  | 0 => fun c => obligation1 V c
  | 1 => fun c => obligation3 V c
  | 2 => fun c => obligation5 V c
  | 3 => fun c => obligation7 V c
  | 4 => fun c => obligation9 V c

theorem pdats_owed (V : Dev nD → Valuation τ sig (Elt F)) : ∀ (p : Fin 5) (c : Dev nD) (t), (pdats V p c).owed t = (K (F := F)).Otc c (p.val + 1)
  | 0 => fun _ _ => rfl
  | 1 => fun _ _ => rfl
  | 2 => fun _ _ => rfl
  | 3 => fun _ _ => rfl
  | 4 => fun _ _ => rfl

theorem pdats_recorded (V : Dev nD → Valuation τ sig (Elt F)) : ∀ (p : Fin 5) (c : Dev nD) (t), (pdats V p c).recorded t = recs (F := F) c (p.val + 1)
  | 0 => fun _ _ => rfl
  | 1 => fun _ _ => rfl
  | 2 => fun _ _ => rfl
  | 3 => fun _ _ => rfl
  | 4 => fun _ _ => rfl

theorem inv0 (V : Dev nD → Valuation τ sig (Elt F)) (c : Dev nD) (t : Fin (cfg1.N + 1)) : (dat1 V c).Φ t = inv (F := F) 0 c := by dsimp only [dat1]
theorem inv1 (V : Dev nD → Valuation τ sig (Elt F)) (c : Dev nD) (t : Fin (cfg3.N + 1)) : (dat3 V c).Φ t = inv (F := F) 1 c := by dsimp only [dat3]
theorem inv2 (V : Dev nD → Valuation τ sig (Elt F)) (c : Dev nD) (t : Fin (cfg5.N + 1)) : (dat5 V c).Φ t = inv (F := F) 2 c := by dsimp only [dat5]
theorem inv3 (V : Dev nD → Valuation τ sig (Elt F)) (c : Dev nD) (t : Fin (cfg7.N + 1)) : (dat7 V c).Φ t = inv (F := F) 3 c := by dsimp only [dat7]
theorem inv4 (V : Dev nD → Valuation τ sig (Elt F)) (c : Dev nD) (t : Fin (cfg9.N + 1)) : (dat9 V c).Φ t = inv (F := F) 4 c := by dsimp only [dat9]

theorem pdats_inv (V : Dev nD → Valuation τ sig (Elt F)) (p : Fin 5) (c : Dev nD) (t : Fin ((pinned (F := F) p).N + 1)) :
    (pdats V p c).Φ t = inv (F := F) p c :=
  match p with
  | 0 => inv0 V c t
  | 1 => inv1 V c t
  | 2 => inv2 V c t
  | 3 => inv3 V c t
  | 4 => inv4 V c t

theorem pdats_share (V : Dev nD → Valuation τ sig (Elt F)) : ∀ (p : Fin 5) (c : Dev nD) (w), (pdats V p c).share w = fullShare
  | 0 => fun c => (dat1 V c).share_full fun _ => rfl
  | 1 => fun c => (dat3 V c).share_full fun _ => rfl
  | 2 => fun c => (dat5 V c).share_full fun _ => rfl
  | 3 => fun c => (dat7 V c).share_full fun _ => rfl
  | 4 => fun c => (dat9 V c).share_full fun _ => rfl

theorem pdats_start (V : Dev nD → Valuation τ sig (Elt F)) : ∀ (p : Fin 5) (c : Dev nD) (w),
    (pdats V p c).arrAt w 0 = V c (Proc.devRef .tc (Pipeline.arrRef (pinned (F := F) p).spec w))
  | 0 => fun _ _ => rfl
  | 1 => fun _ _ => rfl
  | 2 => fun _ _ => rfl
  | 3 => fun _ _ => rfl
  | 4 => fun _ _ => rfl

theorem pre_none : ∀ p : Fin 5, (pcfgs (F := F) p).pre.K = 0
  | 0 => rfl
  | 1 => rfl
  | 2 => rfl
  | 3 => rfl
  | 4 => rfl

theorem bound_level (V : Dev nD → Valuation τ sig (Elt F)) (p : Fin 5) (c : Dev nD) (t : Fin ((pinned (F := F) p).N + 1)) (x : SemLoc sig × HIx 5)
    (hx : x ∈ (pdats V p c).bound none t) : (K (F := F)).lev ((c : Thread nD τ), x.1) x.2 ≤ 8 * (p.val + 1) := by
  unfold Dat.bound at hx
  rw [pdats_recorded] at hx
  rcases hx with hx | hx
  · exact hx
  · obtain ⟨w, s, rfl⟩ := hx
    exact Nat.zero_le _

set_option backward.isDefEq.respectTransparency.types false in
/-- A call's region, from the arrays at `V` to the arrays at `V'`. -/
def region (V V' : Dev nD → Valuation τ sig (Elt F)) (p : Fin 5)
    (hV' : ∀ c w, (pdats V p c).arrAt w (pinned (F := F) p).N = V' c (Proc.devRef .tc (Pipeline.arrRef (pinned (F := F) p).spec w))) :
    RegionSeg (pcfgs (F := F)) adm (pdats V) none defs₀ 𝒱₀ (K (F := F)).L (K (F := F)).lev p where
  win := (kit (F := F) p).win.to₀
  block_pos := (kit (F := F) p).block_pos
  stage_whole := (kit (F := F) p).stage_whole
  K := PEmpty
  osem k := k.elim
  ho := Pipeline.OwnSemFacts.none _
  hbody c := (pdats_body V p c).loose
  hwaits c := Pipeline.cellsWaits_intro _ _ _ p c fun w s t => by
    rw [pdats_owed]; exact (K (F := F)).mayWait_none _ fun g => Otc_none c _ g
  pre c := iprop(held (c.tc : Thread nD τ) (Pipeline.arrRefs (pcfgs (F := F) p).spec) (V c)
    ∗ ∃ W, ⌜(K (F := F)).WBelow (SparseCore.T c) W (8 * (p.val + 1))⌝ ∗ owes (SparseCore.T c) ((K (F := F)).Otc c (p.val + 1)) W)
  post c := iprop(held (c.tc : Thread nD τ) (Pipeline.arrRefs (pcfgs (F := F) p).spec) (V' c)
    ∗ ∃ W, ⌜(K (F := F)).WBelow (SparseCore.T c) W (8 * (p.val + 1))⌝ ∗ owes (SparseCore.T c) ((K (F := F)).Otc c (p.val + 1)) W)
  X _ := BI.emp
  Y _ := BI.emp
  Z _ := BI.emp
  hentry c := by
    rw [← Pipeline.arrays_held (pcfgs (F := F)) adm (pdats V) p (kit (F := F) p) c (pdats_share V p c) ((pdats V p c).arrAt · 0) (V c) (pdats_start V p c)]
    rw [Pipeline.ownSems0_none, Pipeline.prefHeld_of_none _ (pre_none p)]
    iintro ⟨⟨Ha, %W, %hW, HO⟩, -, -⟩
    imodintro
    isplitl [Ha]; · iexact Ha
    isplitr; · iempintro
    isplitl [HO]
    · unfold Dat.owesAt Pipeline.owesWithin Dat.bound
      rw [pdats_owed, pdats_recorded]
      iexists W; isplitr; · ipureintro; exact fun x hx => Or.inl (hW x hx)
      iexact HO
    isplitr; · iempintro
    iempintro
  hin c := by
    rw [pdats_inv]; unfold inv
    iintro ⟨-, -, Hr⟩; iexact Hr
  hout c := by
    rw [Pipeline.ownSems0_none, pdats_inv]; unfold inv
    iintro Hr
    isplitr; · iempintro
    isplitr; · iempintro
    iexact Hr
  hexit c := by
    rw [← Pipeline.arrays_held (pcfgs (F := F)) adm (pdats V) p (kit (F := F) p) c (pdats_share V p c) ((pdats V p c).arrAt · (pinned (F := F) p).N) (V' c) (hV' c)]
    iintro ⟨Ha, HO, -, -⟩
    imodintro
    isplitl [Ha]; · iexact Ha
    unfold Dat.owesAt Pipeline.owesWithin
    rw [pdats_owed]
    icases HO with ⟨%W, %hW, HO⟩
    iexists W; isplitr; · ipureintro; exact fun x hx => bound_level V p c _ x (hW hx)
    iexact HO

/-- The TensorCore's arrays. -/
abbrev uc : Finset (DevRef τ sig) := Pipeline.ucRefs τ sig
theorem arrs_sub (p : Fin 5) : Pipeline.arrRefs (pcfgs (F := F) p).spec ⊆ uc := Pipeline.arrRefs_sub_ucRefs _ (kit (F := F) p).win.to₀.arr_unscoped

set_option backward.isDefEq.respectTransparency.types false in
/-- An attention call, all the TensorCore's arrays held. -/
theorem region_step [∀ e, Nonempty (Elt F e)] (κ : GSem nD τ sig → ℕ) (d : Dev nD) (p : Fin 5) (V V' : Dev nD → Valuation τ sig (Elt F))
    (hV' : ∀ c w, (pdats V p c).arrAt w (pinned (F := F) p).N = V' c (Proc.devRef .tc (Pipeline.arrRef (pinned (F := F) p).spec w)))
    (hoff : ∀ b, b ∉ Pipeline.arrRefs (τ := τ) (pcfgs (F := F) p).spec → V' d b = V d b) {Φ : PUnit → sProp 𝕄} :
    iprop((K (F := F)).ctx EH (P m) κ ∗ boundary (SparseCore.T d) ∗ (K (F := F)).tcSt EH d (p.val + 1) ∗ held (SparseCore.T d) uc (V d)
        ∗ Pipeline.cellsGhost (pinned (F := F)) (EP (F := F)) p d ∗ Pipeline.toksInit (pinned (F := F)) (EP (F := F)) p d
        ∗ ((boundary (SparseCore.T d) ∗ (K (F := F)).tcSt EH d (p.val + 1) ∗ held (SparseCore.T d) uc (V' d)) -∗ Φ ⟨⟩))
      ⊢ wp frame (wpE ((K (F := F)).defs (D (F := F))) 𝒱 (SparseCore.T d) none) Set.univ
          (Prog.lift (.customCall (SparseCore.inner (Pipeline.entry p)) ())) Φ := by
  refine BI.Entails.trans ?_ ((K (F := F)).wp_liftProg (D (F := F)) 𝒱 (SparseCore.T d) Set.univ none (Prog.lift (.customCall (Pipeline.entry p) ())) Φ)
  refine BI.Entails.trans ?_ ((region V V' p hV').wp (pcfgs (F := F)) adm (pdats V) none pinned_inj (EP (F := F)) defs₀ 𝒱₀ (K (F := F)).L (K (F := F)).lev d none
    (fun u hu => absurd hu (by simp)) Prog.ret Φ)
  rw [StableHlo.held_sub_split (SparseCore.T d) (arrs_sub (F := F) p) (V d), StableHlo.held_sub_split (SparseCore.T d) (arrs_sub (F := F) p) (V' d),
    held_congr (SparseCore.T d) (S := uc \ Pipeline.arrRefs (pcfgs (F := F) p).spec) (V := V' d) (V' := V d) fun b hb => hoff b (Finset.mem_sdiff.mp hb).2]
  unfold SparseCore.Cfg.tcSt
  change (_ : sProp 𝕄) ⊢ iprop((iprop(boundary (SparseCore.T d) ∗ held (SparseCore.T d) (Pipeline.arrRefs (pcfgs (F := F) p).spec) (V' d)
      ∗ ∃ W, ⌜(K (F := F)).WBelow (SparseCore.T d) W (8 * (p.val + 1))⌝ ∗ owes (SparseCore.T d) ((K (F := F)).Otc d (p.val + 1)) W) -∗ _)
    ∗ boundary (SparseCore.T d) ∗ (held (SparseCore.T d) (Pipeline.arrRefs (pcfgs (F := F) p).spec) (V d)
      ∗ ∃ W, ⌜(K (F := F)).WBelow (SparseCore.T d) W (8 * (p.val + 1))⌝ ∗ owes (SparseCore.T d) ((K (F := F)).Otc d (p.val + 1)) W)
    ∗ levAts (K (F := F)).L (K (F := F)).lev ∗ _ ∗ _)
  iintro ⟨#Hctx, Hb, ⟨HO, Hst⟩, ⟨Ha, Hrest⟩, Hg, Ht, Hk⟩
  isplitl [Hst Hrest Hk]
  · iintro ⟨Hb, Ha, HO⟩
    rw [wp_ret]; imodintro
    iapply Hk
    isplitl [Hb]; · iexact Hb
    isplitl [HO Hst]
    · isplitl [HO]; · iexact HO
      iexact Hst
    isplitl [Ha]; · iexact Ha
    iexact Hrest
  isplitl [Hb]; · iexact Hb
  isplitl [Ha HO]
  · isplitl [Ha]; · iexact Ha
    iexact HO
  isplitr
  · iapply (SparseCore.Cfg.ctx_levAts κ)
    iexact Hctx
  isplitl [Hg]; · iexact Hg
  iexact Ht

/-- What the region of pipeline 0 leaves: its result's array written back, the others as they were. -/
def left0 (V : Dev nD → Valuation τ sig (Elt F)) (d : Dev nD) : Valuation τ sig (Elt F) :=
  Function.update (V d) (Proc.devRef .tc main_v20) ((dat1 V d).arrAt 14 cfg1.N)

theorem left0_ne (V : Dev nD → Valuation τ sig (Elt F)) (d : Dev nD) {b : Ref sig .tc} (h : b ≠ main_v20) :
    left0 V d (Proc.devRef .tc b) = V d (Proc.devRef .tc b) := Function.update_of_ne (StableHlo.devRef_ne_of_ne h) _ _
theorem left0_self (V : Dev nD → Valuation τ sig (Elt F)) (d : Dev nD) :
    left0 V d (Proc.devRef .tc main_v20) = (dat1 V d).arrAt 14 cfg1.N := Function.update_self _ _ _

theorem left0_arr0 (V : Dev nD → Valuation τ sig (Elt F)) (d : Dev nD) : (dat1 V d).arrAt 0 cfg1.N = left0 V d (Proc.devRef .tc main_v12) :=
  ((dat1 V d).arrAt_in 0 rfl _).trans (left0_ne V d (b := main_v12) (by decide)).symm
theorem left0_arr1 (V : Dev nD → Valuation τ sig (Elt F)) (d : Dev nD) : (dat1 V d).arrAt 1 cfg1.N = left0 V d (Proc.devRef .tc main_v11) :=
  ((dat1 V d).arrAt_in 1 rfl _).trans (left0_ne V d (b := main_v11) (by decide)).symm
theorem left0_arr2 (V : Dev nD → Valuation τ sig (Elt F)) (d : Dev nD) : (dat1 V d).arrAt 2 cfg1.N = left0 V d (Proc.devRef .tc main_v13) :=
  ((dat1 V d).arrAt_in 2 rfl _).trans (left0_ne V d (b := main_v13) (by decide)).symm
theorem left0_arr3 (V : Dev nD → Valuation τ sig (Elt F)) (d : Dev nD) : (dat1 V d).arrAt 3 cfg1.N = left0 V d (Proc.devRef .tc main_v8) :=
  ((dat1 V d).arrAt_in 3 rfl _).trans (left0_ne V d (b := main_v8) (by decide)).symm
theorem left0_arr4 (V : Dev nD → Valuation τ sig (Elt F)) (d : Dev nD) : (dat1 V d).arrAt 4 cfg1.N = left0 V d (Proc.devRef .tc main_v9) :=
  ((dat1 V d).arrAt_in 4 rfl _).trans (left0_ne V d (b := main_v9) (by decide)).symm
theorem left0_arr5 (V : Dev nD → Valuation τ sig (Elt F)) (d : Dev nD) : (dat1 V d).arrAt 5 cfg1.N = left0 V d (Proc.devRef .tc main_arg4) :=
  ((dat1 V d).arrAt_in 5 rfl _).trans (left0_ne V d (b := main_arg4) (by decide)).symm
theorem left0_arr6 (V : Dev nD → Valuation τ sig (Elt F)) (d : Dev nD) : (dat1 V d).arrAt 6 cfg1.N = left0 V d (Proc.devRef .tc main_v14) :=
  ((dat1 V d).arrAt_in 6 rfl _).trans (left0_ne V d (b := main_v14) (by decide)).symm
theorem left0_arr7 (V : Dev nD → Valuation τ sig (Elt F)) (d : Dev nD) : (dat1 V d).arrAt 7 cfg1.N = left0 V d (Proc.devRef .tc main_v15) :=
  ((dat1 V d).arrAt_in 7 rfl _).trans (left0_ne V d (b := main_v15) (by decide)).symm
theorem left0_arr8 (V : Dev nD → Valuation τ sig (Elt F)) (d : Dev nD) : (dat1 V d).arrAt 8 cfg1.N = left0 V d (Proc.devRef .tc main_arg7) :=
  ((dat1 V d).arrAt_in 8 rfl _).trans (left0_ne V d (b := main_arg7) (by decide)).symm
theorem left0_arr9 (V : Dev nD → Valuation τ sig (Elt F)) (d : Dev nD) : (dat1 V d).arrAt 9 cfg1.N = left0 V d (Proc.devRef .tc main_v16) :=
  ((dat1 V d).arrAt_in 9 rfl _).trans (left0_ne V d (b := main_v16) (by decide)).symm
theorem left0_arr10 (V : Dev nD → Valuation τ sig (Elt F)) (d : Dev nD) : (dat1 V d).arrAt 10 cfg1.N = left0 V d (Proc.devRef .tc main_arg9) :=
  ((dat1 V d).arrAt_in 10 rfl _).trans (left0_ne V d (b := main_arg9) (by decide)).symm
theorem left0_arr11 (V : Dev nD → Valuation τ sig (Elt F)) (d : Dev nD) : (dat1 V d).arrAt 11 cfg1.N = left0 V d (Proc.devRef .tc main_v17) :=
  ((dat1 V d).arrAt_in 11 rfl _).trans (left0_ne V d (b := main_v17) (by decide)).symm
theorem left0_arr12 (V : Dev nD → Valuation τ sig (Elt F)) (d : Dev nD) : (dat1 V d).arrAt 12 cfg1.N = left0 V d (Proc.devRef .tc main_v18) :=
  ((dat1 V d).arrAt_in 12 rfl _).trans (left0_ne V d (b := main_v18) (by decide)).symm
theorem left0_arr13 (V : Dev nD → Valuation τ sig (Elt F)) (d : Dev nD) : (dat1 V d).arrAt 13 cfg1.N = left0 V d (Proc.devRef .tc main_v19) :=
  ((dat1 V d).arrAt_in 13 rfl _).trans (left0_ne V d (b := main_v19) (by decide)).symm

set_option maxHeartbeats 2000000 in
theorem left0_arr (V : Dev nD → Valuation τ sig (Elt F)) (d : Dev nD) (w : Fin cfg1.W) :
    (dat1 V d).arrAt w cfg1.N = left0 V d (Proc.devRef .tc (Pipeline.arrRef spec1 w)) :=
  match w with
  | ⟨0, _⟩ => left0_arr0 V d
  | ⟨1, _⟩ => left0_arr1 V d
  | ⟨2, _⟩ => left0_arr2 V d
  | ⟨3, _⟩ => left0_arr3 V d
  | ⟨4, _⟩ => left0_arr4 V d
  | ⟨5, _⟩ => left0_arr5 V d
  | ⟨6, _⟩ => left0_arr6 V d
  | ⟨7, _⟩ => left0_arr7 V d
  | ⟨8, _⟩ => left0_arr8 V d
  | ⟨9, _⟩ => left0_arr9 V d
  | ⟨10, _⟩ => left0_arr10 V d
  | ⟨11, _⟩ => left0_arr11 V d
  | ⟨12, _⟩ => left0_arr12 V d
  | ⟨13, _⟩ => left0_arr13 V d
  | ⟨14, _⟩ => (left0_self V d).symm

set_option maxHeartbeats 1000000 in
theorem left0_off (V : Dev nD → Valuation τ sig (Elt F)) (d : Dev nD) (b : DevRef τ sig) (h : b ∉ Pipeline.arrRefs (τ := τ) spec1) :
    left0 V d b = V d b :=
  Function.update_of_ne (fun e => h (by
    rw [e]; exact Finset.mem_map.mpr ⟨main_v20, Finset.mem_image.mpr ⟨14, Finset.mem_univ _, rfl⟩, rfl⟩)) _ _

/-- What the region of pipeline 1 leaves: its result's array written back, the others as they were. -/
def left1 (V : Dev nD → Valuation τ sig (Elt F)) (d : Dev nD) : Valuation τ sig (Elt F) :=
  Function.update (V d) (Proc.devRef .tc main_v31) ((dat3 V d).arrAt 14 cfg3.N)

theorem left1_ne (V : Dev nD → Valuation τ sig (Elt F)) (d : Dev nD) {b : Ref sig .tc} (h : b ≠ main_v31) :
    left1 V d (Proc.devRef .tc b) = V d (Proc.devRef .tc b) := Function.update_of_ne (StableHlo.devRef_ne_of_ne h) _ _
theorem left1_self (V : Dev nD → Valuation τ sig (Elt F)) (d : Dev nD) :
    left1 V d (Proc.devRef .tc main_v31) = (dat3 V d).arrAt 14 cfg3.N := Function.update_self _ _ _

theorem left1_arr0 (V : Dev nD → Valuation τ sig (Elt F)) (d : Dev nD) : (dat3 V d).arrAt 0 cfg3.N = left1 V d (Proc.devRef .tc main_v23) :=
  ((dat3 V d).arrAt_in 0 rfl _).trans (left1_ne V d (b := main_v23) (by decide)).symm
theorem left1_arr1 (V : Dev nD → Valuation τ sig (Elt F)) (d : Dev nD) : (dat3 V d).arrAt 1 cfg3.N = left1 V d (Proc.devRef .tc main_v22) :=
  ((dat3 V d).arrAt_in 1 rfl _).trans (left1_ne V d (b := main_v22) (by decide)).symm
theorem left1_arr2 (V : Dev nD → Valuation τ sig (Elt F)) (d : Dev nD) : (dat3 V d).arrAt 2 cfg3.N = left1 V d (Proc.devRef .tc main_v24) :=
  ((dat3 V d).arrAt_in 2 rfl _).trans (left1_ne V d (b := main_v24) (by decide)).symm
theorem left1_arr3 (V : Dev nD → Valuation τ sig (Elt F)) (d : Dev nD) : (dat3 V d).arrAt 3 cfg3.N = left1 V d (Proc.devRef .tc main_v8) :=
  ((dat3 V d).arrAt_in 3 rfl _).trans (left1_ne V d (b := main_v8) (by decide)).symm
theorem left1_arr4 (V : Dev nD → Valuation τ sig (Elt F)) (d : Dev nD) : (dat3 V d).arrAt 4 cfg3.N = left1 V d (Proc.devRef .tc main_v9) :=
  ((dat3 V d).arrAt_in 4 rfl _).trans (left1_ne V d (b := main_v9) (by decide)).symm
theorem left1_arr5 (V : Dev nD → Valuation τ sig (Elt F)) (d : Dev nD) : (dat3 V d).arrAt 5 cfg3.N = left1 V d (Proc.devRef .tc main_arg4) :=
  ((dat3 V d).arrAt_in 5 rfl _).trans (left1_ne V d (b := main_arg4) (by decide)).symm
theorem left1_arr6 (V : Dev nD → Valuation τ sig (Elt F)) (d : Dev nD) : (dat3 V d).arrAt 6 cfg3.N = left1 V d (Proc.devRef .tc main_v25) :=
  ((dat3 V d).arrAt_in 6 rfl _).trans (left1_ne V d (b := main_v25) (by decide)).symm
theorem left1_arr7 (V : Dev nD → Valuation τ sig (Elt F)) (d : Dev nD) : (dat3 V d).arrAt 7 cfg3.N = left1 V d (Proc.devRef .tc main_v26) :=
  ((dat3 V d).arrAt_in 7 rfl _).trans (left1_ne V d (b := main_v26) (by decide)).symm
theorem left1_arr8 (V : Dev nD → Valuation τ sig (Elt F)) (d : Dev nD) : (dat3 V d).arrAt 8 cfg3.N = left1 V d (Proc.devRef .tc main_arg7) :=
  ((dat3 V d).arrAt_in 8 rfl _).trans (left1_ne V d (b := main_arg7) (by decide)).symm
theorem left1_arr9 (V : Dev nD → Valuation τ sig (Elt F)) (d : Dev nD) : (dat3 V d).arrAt 9 cfg3.N = left1 V d (Proc.devRef .tc main_v27) :=
  ((dat3 V d).arrAt_in 9 rfl _).trans (left1_ne V d (b := main_v27) (by decide)).symm
theorem left1_arr10 (V : Dev nD → Valuation τ sig (Elt F)) (d : Dev nD) : (dat3 V d).arrAt 10 cfg3.N = left1 V d (Proc.devRef .tc main_arg9) :=
  ((dat3 V d).arrAt_in 10 rfl _).trans (left1_ne V d (b := main_arg9) (by decide)).symm
theorem left1_arr11 (V : Dev nD → Valuation τ sig (Elt F)) (d : Dev nD) : (dat3 V d).arrAt 11 cfg3.N = left1 V d (Proc.devRef .tc main_v28) :=
  ((dat3 V d).arrAt_in 11 rfl _).trans (left1_ne V d (b := main_v28) (by decide)).symm
theorem left1_arr12 (V : Dev nD → Valuation τ sig (Elt F)) (d : Dev nD) : (dat3 V d).arrAt 12 cfg3.N = left1 V d (Proc.devRef .tc main_v29) :=
  ((dat3 V d).arrAt_in 12 rfl _).trans (left1_ne V d (b := main_v29) (by decide)).symm
theorem left1_arr13 (V : Dev nD → Valuation τ sig (Elt F)) (d : Dev nD) : (dat3 V d).arrAt 13 cfg3.N = left1 V d (Proc.devRef .tc main_v30) :=
  ((dat3 V d).arrAt_in 13 rfl _).trans (left1_ne V d (b := main_v30) (by decide)).symm

set_option maxHeartbeats 2000000 in
theorem left1_arr (V : Dev nD → Valuation τ sig (Elt F)) (d : Dev nD) (w : Fin cfg3.W) :
    (dat3 V d).arrAt w cfg3.N = left1 V d (Proc.devRef .tc (Pipeline.arrRef spec3 w)) :=
  match w with
  | ⟨0, _⟩ => left1_arr0 V d
  | ⟨1, _⟩ => left1_arr1 V d
  | ⟨2, _⟩ => left1_arr2 V d
  | ⟨3, _⟩ => left1_arr3 V d
  | ⟨4, _⟩ => left1_arr4 V d
  | ⟨5, _⟩ => left1_arr5 V d
  | ⟨6, _⟩ => left1_arr6 V d
  | ⟨7, _⟩ => left1_arr7 V d
  | ⟨8, _⟩ => left1_arr8 V d
  | ⟨9, _⟩ => left1_arr9 V d
  | ⟨10, _⟩ => left1_arr10 V d
  | ⟨11, _⟩ => left1_arr11 V d
  | ⟨12, _⟩ => left1_arr12 V d
  | ⟨13, _⟩ => left1_arr13 V d
  | ⟨14, _⟩ => (left1_self V d).symm

set_option maxHeartbeats 1000000 in
theorem left1_off (V : Dev nD → Valuation τ sig (Elt F)) (d : Dev nD) (b : DevRef τ sig) (h : b ∉ Pipeline.arrRefs (τ := τ) spec3) :
    left1 V d b = V d b :=
  Function.update_of_ne (fun e => h (by
    rw [e]; exact Finset.mem_map.mpr ⟨main_v31, Finset.mem_image.mpr ⟨14, Finset.mem_univ _, rfl⟩, rfl⟩)) _ _

/-- What the region of pipeline 2 leaves: its result's array written back, the others as they were. -/
def left2 (V : Dev nD → Valuation τ sig (Elt F)) (d : Dev nD) : Valuation τ sig (Elt F) :=
  Function.update (V d) (Proc.devRef .tc main_v42) ((dat5 V d).arrAt 14 cfg5.N)

theorem left2_ne (V : Dev nD → Valuation τ sig (Elt F)) (d : Dev nD) {b : Ref sig .tc} (h : b ≠ main_v42) :
    left2 V d (Proc.devRef .tc b) = V d (Proc.devRef .tc b) := Function.update_of_ne (StableHlo.devRef_ne_of_ne h) _ _
theorem left2_self (V : Dev nD → Valuation τ sig (Elt F)) (d : Dev nD) :
    left2 V d (Proc.devRef .tc main_v42) = (dat5 V d).arrAt 14 cfg5.N := Function.update_self _ _ _

theorem left2_arr0 (V : Dev nD → Valuation τ sig (Elt F)) (d : Dev nD) : (dat5 V d).arrAt 0 cfg5.N = left2 V d (Proc.devRef .tc main_v34) :=
  ((dat5 V d).arrAt_in 0 rfl _).trans (left2_ne V d (b := main_v34) (by decide)).symm
theorem left2_arr1 (V : Dev nD → Valuation τ sig (Elt F)) (d : Dev nD) : (dat5 V d).arrAt 1 cfg5.N = left2 V d (Proc.devRef .tc main_v33) :=
  ((dat5 V d).arrAt_in 1 rfl _).trans (left2_ne V d (b := main_v33) (by decide)).symm
theorem left2_arr2 (V : Dev nD → Valuation τ sig (Elt F)) (d : Dev nD) : (dat5 V d).arrAt 2 cfg5.N = left2 V d (Proc.devRef .tc main_v35) :=
  ((dat5 V d).arrAt_in 2 rfl _).trans (left2_ne V d (b := main_v35) (by decide)).symm
theorem left2_arr3 (V : Dev nD → Valuation τ sig (Elt F)) (d : Dev nD) : (dat5 V d).arrAt 3 cfg5.N = left2 V d (Proc.devRef .tc main_v8) :=
  ((dat5 V d).arrAt_in 3 rfl _).trans (left2_ne V d (b := main_v8) (by decide)).symm
theorem left2_arr4 (V : Dev nD → Valuation τ sig (Elt F)) (d : Dev nD) : (dat5 V d).arrAt 4 cfg5.N = left2 V d (Proc.devRef .tc main_v9) :=
  ((dat5 V d).arrAt_in 4 rfl _).trans (left2_ne V d (b := main_v9) (by decide)).symm
theorem left2_arr5 (V : Dev nD → Valuation τ sig (Elt F)) (d : Dev nD) : (dat5 V d).arrAt 5 cfg5.N = left2 V d (Proc.devRef .tc main_arg4) :=
  ((dat5 V d).arrAt_in 5 rfl _).trans (left2_ne V d (b := main_arg4) (by decide)).symm
theorem left2_arr6 (V : Dev nD → Valuation τ sig (Elt F)) (d : Dev nD) : (dat5 V d).arrAt 6 cfg5.N = left2 V d (Proc.devRef .tc main_v36) :=
  ((dat5 V d).arrAt_in 6 rfl _).trans (left2_ne V d (b := main_v36) (by decide)).symm
theorem left2_arr7 (V : Dev nD → Valuation τ sig (Elt F)) (d : Dev nD) : (dat5 V d).arrAt 7 cfg5.N = left2 V d (Proc.devRef .tc main_v37) :=
  ((dat5 V d).arrAt_in 7 rfl _).trans (left2_ne V d (b := main_v37) (by decide)).symm
theorem left2_arr8 (V : Dev nD → Valuation τ sig (Elt F)) (d : Dev nD) : (dat5 V d).arrAt 8 cfg5.N = left2 V d (Proc.devRef .tc main_arg7) :=
  ((dat5 V d).arrAt_in 8 rfl _).trans (left2_ne V d (b := main_arg7) (by decide)).symm
theorem left2_arr9 (V : Dev nD → Valuation τ sig (Elt F)) (d : Dev nD) : (dat5 V d).arrAt 9 cfg5.N = left2 V d (Proc.devRef .tc main_v38) :=
  ((dat5 V d).arrAt_in 9 rfl _).trans (left2_ne V d (b := main_v38) (by decide)).symm
theorem left2_arr10 (V : Dev nD → Valuation τ sig (Elt F)) (d : Dev nD) : (dat5 V d).arrAt 10 cfg5.N = left2 V d (Proc.devRef .tc main_arg9) :=
  ((dat5 V d).arrAt_in 10 rfl _).trans (left2_ne V d (b := main_arg9) (by decide)).symm
theorem left2_arr11 (V : Dev nD → Valuation τ sig (Elt F)) (d : Dev nD) : (dat5 V d).arrAt 11 cfg5.N = left2 V d (Proc.devRef .tc main_v39) :=
  ((dat5 V d).arrAt_in 11 rfl _).trans (left2_ne V d (b := main_v39) (by decide)).symm
theorem left2_arr12 (V : Dev nD → Valuation τ sig (Elt F)) (d : Dev nD) : (dat5 V d).arrAt 12 cfg5.N = left2 V d (Proc.devRef .tc main_v40) :=
  ((dat5 V d).arrAt_in 12 rfl _).trans (left2_ne V d (b := main_v40) (by decide)).symm
theorem left2_arr13 (V : Dev nD → Valuation τ sig (Elt F)) (d : Dev nD) : (dat5 V d).arrAt 13 cfg5.N = left2 V d (Proc.devRef .tc main_v41) :=
  ((dat5 V d).arrAt_in 13 rfl _).trans (left2_ne V d (b := main_v41) (by decide)).symm

set_option maxHeartbeats 2000000 in
theorem left2_arr (V : Dev nD → Valuation τ sig (Elt F)) (d : Dev nD) (w : Fin cfg5.W) :
    (dat5 V d).arrAt w cfg5.N = left2 V d (Proc.devRef .tc (Pipeline.arrRef spec5 w)) :=
  match w with
  | ⟨0, _⟩ => left2_arr0 V d
  | ⟨1, _⟩ => left2_arr1 V d
  | ⟨2, _⟩ => left2_arr2 V d
  | ⟨3, _⟩ => left2_arr3 V d
  | ⟨4, _⟩ => left2_arr4 V d
  | ⟨5, _⟩ => left2_arr5 V d
  | ⟨6, _⟩ => left2_arr6 V d
  | ⟨7, _⟩ => left2_arr7 V d
  | ⟨8, _⟩ => left2_arr8 V d
  | ⟨9, _⟩ => left2_arr9 V d
  | ⟨10, _⟩ => left2_arr10 V d
  | ⟨11, _⟩ => left2_arr11 V d
  | ⟨12, _⟩ => left2_arr12 V d
  | ⟨13, _⟩ => left2_arr13 V d
  | ⟨14, _⟩ => (left2_self V d).symm

set_option maxHeartbeats 1000000 in
theorem left2_off (V : Dev nD → Valuation τ sig (Elt F)) (d : Dev nD) (b : DevRef τ sig) (h : b ∉ Pipeline.arrRefs (τ := τ) spec5) :
    left2 V d b = V d b :=
  Function.update_of_ne (fun e => h (by
    rw [e]; exact Finset.mem_map.mpr ⟨main_v42, Finset.mem_image.mpr ⟨14, Finset.mem_univ _, rfl⟩, rfl⟩)) _ _

/-- What the region of pipeline 3 leaves: its result's array written back, the others as they were. -/
def left3 (V : Dev nD → Valuation τ sig (Elt F)) (d : Dev nD) : Valuation τ sig (Elt F) :=
  Function.update (V d) (Proc.devRef .tc main_v53) ((dat7 V d).arrAt 14 cfg7.N)

theorem left3_ne (V : Dev nD → Valuation τ sig (Elt F)) (d : Dev nD) {b : Ref sig .tc} (h : b ≠ main_v53) :
    left3 V d (Proc.devRef .tc b) = V d (Proc.devRef .tc b) := Function.update_of_ne (StableHlo.devRef_ne_of_ne h) _ _
theorem left3_self (V : Dev nD → Valuation τ sig (Elt F)) (d : Dev nD) :
    left3 V d (Proc.devRef .tc main_v53) = (dat7 V d).arrAt 14 cfg7.N := Function.update_self _ _ _

theorem left3_arr0 (V : Dev nD → Valuation τ sig (Elt F)) (d : Dev nD) : (dat7 V d).arrAt 0 cfg7.N = left3 V d (Proc.devRef .tc main_v45) :=
  ((dat7 V d).arrAt_in 0 rfl _).trans (left3_ne V d (b := main_v45) (by decide)).symm
theorem left3_arr1 (V : Dev nD → Valuation τ sig (Elt F)) (d : Dev nD) : (dat7 V d).arrAt 1 cfg7.N = left3 V d (Proc.devRef .tc main_v44) :=
  ((dat7 V d).arrAt_in 1 rfl _).trans (left3_ne V d (b := main_v44) (by decide)).symm
theorem left3_arr2 (V : Dev nD → Valuation τ sig (Elt F)) (d : Dev nD) : (dat7 V d).arrAt 2 cfg7.N = left3 V d (Proc.devRef .tc main_v46) :=
  ((dat7 V d).arrAt_in 2 rfl _).trans (left3_ne V d (b := main_v46) (by decide)).symm
theorem left3_arr3 (V : Dev nD → Valuation τ sig (Elt F)) (d : Dev nD) : (dat7 V d).arrAt 3 cfg7.N = left3 V d (Proc.devRef .tc main_v8) :=
  ((dat7 V d).arrAt_in 3 rfl _).trans (left3_ne V d (b := main_v8) (by decide)).symm
theorem left3_arr4 (V : Dev nD → Valuation τ sig (Elt F)) (d : Dev nD) : (dat7 V d).arrAt 4 cfg7.N = left3 V d (Proc.devRef .tc main_v9) :=
  ((dat7 V d).arrAt_in 4 rfl _).trans (left3_ne V d (b := main_v9) (by decide)).symm
theorem left3_arr5 (V : Dev nD → Valuation τ sig (Elt F)) (d : Dev nD) : (dat7 V d).arrAt 5 cfg7.N = left3 V d (Proc.devRef .tc main_arg4) :=
  ((dat7 V d).arrAt_in 5 rfl _).trans (left3_ne V d (b := main_arg4) (by decide)).symm
theorem left3_arr6 (V : Dev nD → Valuation τ sig (Elt F)) (d : Dev nD) : (dat7 V d).arrAt 6 cfg7.N = left3 V d (Proc.devRef .tc main_v47) :=
  ((dat7 V d).arrAt_in 6 rfl _).trans (left3_ne V d (b := main_v47) (by decide)).symm
theorem left3_arr7 (V : Dev nD → Valuation τ sig (Elt F)) (d : Dev nD) : (dat7 V d).arrAt 7 cfg7.N = left3 V d (Proc.devRef .tc main_v48) :=
  ((dat7 V d).arrAt_in 7 rfl _).trans (left3_ne V d (b := main_v48) (by decide)).symm
theorem left3_arr8 (V : Dev nD → Valuation τ sig (Elt F)) (d : Dev nD) : (dat7 V d).arrAt 8 cfg7.N = left3 V d (Proc.devRef .tc main_arg7) :=
  ((dat7 V d).arrAt_in 8 rfl _).trans (left3_ne V d (b := main_arg7) (by decide)).symm
theorem left3_arr9 (V : Dev nD → Valuation τ sig (Elt F)) (d : Dev nD) : (dat7 V d).arrAt 9 cfg7.N = left3 V d (Proc.devRef .tc main_v49) :=
  ((dat7 V d).arrAt_in 9 rfl _).trans (left3_ne V d (b := main_v49) (by decide)).symm
theorem left3_arr10 (V : Dev nD → Valuation τ sig (Elt F)) (d : Dev nD) : (dat7 V d).arrAt 10 cfg7.N = left3 V d (Proc.devRef .tc main_arg9) :=
  ((dat7 V d).arrAt_in 10 rfl _).trans (left3_ne V d (b := main_arg9) (by decide)).symm
theorem left3_arr11 (V : Dev nD → Valuation τ sig (Elt F)) (d : Dev nD) : (dat7 V d).arrAt 11 cfg7.N = left3 V d (Proc.devRef .tc main_v50) :=
  ((dat7 V d).arrAt_in 11 rfl _).trans (left3_ne V d (b := main_v50) (by decide)).symm
theorem left3_arr12 (V : Dev nD → Valuation τ sig (Elt F)) (d : Dev nD) : (dat7 V d).arrAt 12 cfg7.N = left3 V d (Proc.devRef .tc main_v51) :=
  ((dat7 V d).arrAt_in 12 rfl _).trans (left3_ne V d (b := main_v51) (by decide)).symm
theorem left3_arr13 (V : Dev nD → Valuation τ sig (Elt F)) (d : Dev nD) : (dat7 V d).arrAt 13 cfg7.N = left3 V d (Proc.devRef .tc main_v52) :=
  ((dat7 V d).arrAt_in 13 rfl _).trans (left3_ne V d (b := main_v52) (by decide)).symm

set_option maxHeartbeats 2000000 in
theorem left3_arr (V : Dev nD → Valuation τ sig (Elt F)) (d : Dev nD) (w : Fin cfg7.W) :
    (dat7 V d).arrAt w cfg7.N = left3 V d (Proc.devRef .tc (Pipeline.arrRef spec7 w)) :=
  match w with
  | ⟨0, _⟩ => left3_arr0 V d
  | ⟨1, _⟩ => left3_arr1 V d
  | ⟨2, _⟩ => left3_arr2 V d
  | ⟨3, _⟩ => left3_arr3 V d
  | ⟨4, _⟩ => left3_arr4 V d
  | ⟨5, _⟩ => left3_arr5 V d
  | ⟨6, _⟩ => left3_arr6 V d
  | ⟨7, _⟩ => left3_arr7 V d
  | ⟨8, _⟩ => left3_arr8 V d
  | ⟨9, _⟩ => left3_arr9 V d
  | ⟨10, _⟩ => left3_arr10 V d
  | ⟨11, _⟩ => left3_arr11 V d
  | ⟨12, _⟩ => left3_arr12 V d
  | ⟨13, _⟩ => left3_arr13 V d
  | ⟨14, _⟩ => (left3_self V d).symm

set_option maxHeartbeats 1000000 in
theorem left3_off (V : Dev nD → Valuation τ sig (Elt F)) (d : Dev nD) (b : DevRef τ sig) (h : b ∉ Pipeline.arrRefs (τ := τ) spec7) :
    left3 V d b = V d b :=
  Function.update_of_ne (fun e => h (by
    rw [e]; exact Finset.mem_map.mpr ⟨main_v53, Finset.mem_image.mpr ⟨14, Finset.mem_univ _, rfl⟩, rfl⟩)) _ _

/-- What the region of pipeline 4 leaves: its result's array written back, the others as they were. -/
def left4 (V : Dev nD → Valuation τ sig (Elt F)) (d : Dev nD) : Valuation τ sig (Elt F) :=
  Function.update (V d) (Proc.devRef .tc main_v64) ((dat9 V d).arrAt 14 cfg9.N)

theorem left4_ne (V : Dev nD → Valuation τ sig (Elt F)) (d : Dev nD) {b : Ref sig .tc} (h : b ≠ main_v64) :
    left4 V d (Proc.devRef .tc b) = V d (Proc.devRef .tc b) := Function.update_of_ne (StableHlo.devRef_ne_of_ne h) _ _
theorem left4_self (V : Dev nD → Valuation τ sig (Elt F)) (d : Dev nD) :
    left4 V d (Proc.devRef .tc main_v64) = (dat9 V d).arrAt 14 cfg9.N := Function.update_self _ _ _

theorem left4_arr0 (V : Dev nD → Valuation τ sig (Elt F)) (d : Dev nD) : (dat9 V d).arrAt 0 cfg9.N = left4 V d (Proc.devRef .tc main_v56) :=
  ((dat9 V d).arrAt_in 0 rfl _).trans (left4_ne V d (b := main_v56) (by decide)).symm
theorem left4_arr1 (V : Dev nD → Valuation τ sig (Elt F)) (d : Dev nD) : (dat9 V d).arrAt 1 cfg9.N = left4 V d (Proc.devRef .tc main_v55) :=
  ((dat9 V d).arrAt_in 1 rfl _).trans (left4_ne V d (b := main_v55) (by decide)).symm
theorem left4_arr2 (V : Dev nD → Valuation τ sig (Elt F)) (d : Dev nD) : (dat9 V d).arrAt 2 cfg9.N = left4 V d (Proc.devRef .tc main_v57) :=
  ((dat9 V d).arrAt_in 2 rfl _).trans (left4_ne V d (b := main_v57) (by decide)).symm
theorem left4_arr3 (V : Dev nD → Valuation τ sig (Elt F)) (d : Dev nD) : (dat9 V d).arrAt 3 cfg9.N = left4 V d (Proc.devRef .tc main_v8) :=
  ((dat9 V d).arrAt_in 3 rfl _).trans (left4_ne V d (b := main_v8) (by decide)).symm
theorem left4_arr4 (V : Dev nD → Valuation τ sig (Elt F)) (d : Dev nD) : (dat9 V d).arrAt 4 cfg9.N = left4 V d (Proc.devRef .tc main_v9) :=
  ((dat9 V d).arrAt_in 4 rfl _).trans (left4_ne V d (b := main_v9) (by decide)).symm
theorem left4_arr5 (V : Dev nD → Valuation τ sig (Elt F)) (d : Dev nD) : (dat9 V d).arrAt 5 cfg9.N = left4 V d (Proc.devRef .tc main_arg4) :=
  ((dat9 V d).arrAt_in 5 rfl _).trans (left4_ne V d (b := main_arg4) (by decide)).symm
theorem left4_arr6 (V : Dev nD → Valuation τ sig (Elt F)) (d : Dev nD) : (dat9 V d).arrAt 6 cfg9.N = left4 V d (Proc.devRef .tc main_v58) :=
  ((dat9 V d).arrAt_in 6 rfl _).trans (left4_ne V d (b := main_v58) (by decide)).symm
theorem left4_arr7 (V : Dev nD → Valuation τ sig (Elt F)) (d : Dev nD) : (dat9 V d).arrAt 7 cfg9.N = left4 V d (Proc.devRef .tc main_v59) :=
  ((dat9 V d).arrAt_in 7 rfl _).trans (left4_ne V d (b := main_v59) (by decide)).symm
theorem left4_arr8 (V : Dev nD → Valuation τ sig (Elt F)) (d : Dev nD) : (dat9 V d).arrAt 8 cfg9.N = left4 V d (Proc.devRef .tc main_arg7) :=
  ((dat9 V d).arrAt_in 8 rfl _).trans (left4_ne V d (b := main_arg7) (by decide)).symm
theorem left4_arr9 (V : Dev nD → Valuation τ sig (Elt F)) (d : Dev nD) : (dat9 V d).arrAt 9 cfg9.N = left4 V d (Proc.devRef .tc main_v60) :=
  ((dat9 V d).arrAt_in 9 rfl _).trans (left4_ne V d (b := main_v60) (by decide)).symm
theorem left4_arr10 (V : Dev nD → Valuation τ sig (Elt F)) (d : Dev nD) : (dat9 V d).arrAt 10 cfg9.N = left4 V d (Proc.devRef .tc main_arg9) :=
  ((dat9 V d).arrAt_in 10 rfl _).trans (left4_ne V d (b := main_arg9) (by decide)).symm
theorem left4_arr11 (V : Dev nD → Valuation τ sig (Elt F)) (d : Dev nD) : (dat9 V d).arrAt 11 cfg9.N = left4 V d (Proc.devRef .tc main_v61) :=
  ((dat9 V d).arrAt_in 11 rfl _).trans (left4_ne V d (b := main_v61) (by decide)).symm
theorem left4_arr12 (V : Dev nD → Valuation τ sig (Elt F)) (d : Dev nD) : (dat9 V d).arrAt 12 cfg9.N = left4 V d (Proc.devRef .tc main_v62) :=
  ((dat9 V d).arrAt_in 12 rfl _).trans (left4_ne V d (b := main_v62) (by decide)).symm
theorem left4_arr13 (V : Dev nD → Valuation τ sig (Elt F)) (d : Dev nD) : (dat9 V d).arrAt 13 cfg9.N = left4 V d (Proc.devRef .tc main_v63) :=
  ((dat9 V d).arrAt_in 13 rfl _).trans (left4_ne V d (b := main_v63) (by decide)).symm

set_option maxHeartbeats 2000000 in
theorem left4_arr (V : Dev nD → Valuation τ sig (Elt F)) (d : Dev nD) (w : Fin cfg9.W) :
    (dat9 V d).arrAt w cfg9.N = left4 V d (Proc.devRef .tc (Pipeline.arrRef spec9 w)) :=
  match w with
  | ⟨0, _⟩ => left4_arr0 V d
  | ⟨1, _⟩ => left4_arr1 V d
  | ⟨2, _⟩ => left4_arr2 V d
  | ⟨3, _⟩ => left4_arr3 V d
  | ⟨4, _⟩ => left4_arr4 V d
  | ⟨5, _⟩ => left4_arr5 V d
  | ⟨6, _⟩ => left4_arr6 V d
  | ⟨7, _⟩ => left4_arr7 V d
  | ⟨8, _⟩ => left4_arr8 V d
  | ⟨9, _⟩ => left4_arr9 V d
  | ⟨10, _⟩ => left4_arr10 V d
  | ⟨11, _⟩ => left4_arr11 V d
  | ⟨12, _⟩ => left4_arr12 V d
  | ⟨13, _⟩ => left4_arr13 V d
  | ⟨14, _⟩ => (left4_self V d).symm

set_option maxHeartbeats 1000000 in
theorem left4_off (V : Dev nD → Valuation τ sig (Elt F)) (d : Dev nD) (b : DevRef τ sig) (h : b ∉ Pipeline.arrRefs (τ := τ) spec9) :
    left4 V d b = V d b :=
  Function.update_of_ne (fun e => h (by
    rw [e]; exact Finset.mem_map.mpr ⟨main_v64, Finset.mem_image.mpr ⟨14, Finset.mem_univ _, rfl⟩, rfl⟩)) _ _

end Cert.Proof.Layer
-- ==== Proof.Layer.Steps.lean ====
/-
  The steps of the host's program: a gather, and a line of operations.
-/
module

public import proofs.«01_k».proof.Proof.Layer.Segment
public import Idealize.ShloMosaic.Lib.Pipeline.Frame
public import Idealize.ShloMosaic.Lib.StableHlo.Run

@[expose] public section

noncomputable section

namespace Cert.Proof.Layer

open Cert.LayerIdeal Cert.LayerIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_congr wp_hlo_within)

variable {F : FTy → Type}

local notation "𝕄" => MT nD τ sig (HIx 5) (Elt F) ℕ UU ℕ

variable (m : (ℓ : Loc nD τ sig) → Buf (Elt F) ℓ)

/-! ## A call's arrays are its tiles' payloads -/

theorem table_set : (Rect.unit (s := S10000x128) ![0, 0] S10000x128.size inb_S10000x128_S10000x128_0_0).set = Finset.univ := by
  ext y
  simp only [Rect.mem_set_unit, Finset.mem_univ, iff_true]
  intro a
  have := (y a).isLt
  fin_cases a <;> exact ⟨Nat.zero_le _, by simpa using this⟩

theorem Gq_eq0 (d : Dev nD) (a : Fin 2) (s : Fin 16) (f : S32000x128.Idx → Elt F .i32) :
    Gq m d 0 a s f = iprop((bigSep (blks (coords a s)) fun j => (SparseCore.T d).loc main_v10 ↦[xB j]{fullShare} (chunk m d 0))
      ∗ (bigSep (blks (coords a s)) fun j => (SparseCore.T d).loc main_v11 ↦[oB j]{fullShare} f) ∗ (SparseCore.T d).loc main_arg0 ↦{tq a s} (tbl m d)) := by
  have hx : ∀ j, (xW call0 j).view.set = xB j := fun j => by
    show ((View.whole main_v10_scv).slice _).set = _
    rw [View.set_slice]; exact Finset.map_refl
  have ho : ∀ j, (oW call0 j).view.set = oB j := fun j => by
    show ((View.whole main_v11_scv).slice _).set = _
    rw [View.set_slice]; exact Finset.map_refl
  have ht : (tW call0).view.set = Finset.univ := by
    show ((View.whole main_arg0_scv).slice _).set = _
    rw [View.set_slice]; exact Finset.map_refl.trans table_set
  show Go call0 d a s (chunk m d 0) (tbl m d) f = _
  unfold Go IBlk OBlk TPts
  simp only [hx, ho, ht]
  rfl
theorem Gq_all0 (d : Dev nD) (f : S32000x128.Idx → Elt F .i32) :
    (bigSep Finset.univ fun a : Fin 2 => bigSep Finset.univ fun s : Fin 16 => Gq m d 0 a s f)
      = iprop(((SparseCore.T d).loc main_v10 ↦{fullShare} (chunk m d 0)) ∗ ((SparseCore.T d).loc main_v11 ↦{fullShare} f) ∗ (SparseCore.T d).loc main_arg0 ↦{fullShare} (tbl m d)) := by
  simp only [Gq_eq0, bigSep_sep']
  rw [← deal (F := F) (ℓ := (SparseCore.T d).loc main_v10) xB xB_disjoint xB_cover (chunk m d 0),
    ← deal (F := F) (ℓ := (SparseCore.T d).loc main_v11) oB oB_disjoint oB_cover f, ← deal_share (F := F) (ℓ := (SparseCore.T d).loc main_arg0) (tbl m d)]
theorem Gq_eq1 (d : Dev nD) (a : Fin 2) (s : Fin 16) (f : S32000x128.Idx → Elt F .i32) :
    Gq m d 1 a s f = iprop((bigSep (blks (coords a s)) fun j => (SparseCore.T d).loc main_v21 ↦[xB j]{fullShare} (chunk m d 1))
      ∗ (bigSep (blks (coords a s)) fun j => (SparseCore.T d).loc main_v22 ↦[oB j]{fullShare} f) ∗ (SparseCore.T d).loc main_arg0 ↦{tq a s} (tbl m d)) := by
  have hx : ∀ j, (xW call1 j).view.set = xB j := fun j => by
    show ((View.whole main_v21_scv).slice _).set = _
    rw [View.set_slice]; exact Finset.map_refl
  have ho : ∀ j, (oW call1 j).view.set = oB j := fun j => by
    show ((View.whole main_v22_scv).slice _).set = _
    rw [View.set_slice]; exact Finset.map_refl
  have ht : (tW call1).view.set = Finset.univ := by
    show ((View.whole main_arg0_scv).slice _).set = _
    rw [View.set_slice]; exact Finset.map_refl.trans table_set
  show Go call1 d a s (chunk m d 1) (tbl m d) f = _
  unfold Go IBlk OBlk TPts
  simp only [hx, ho, ht]
  rfl
theorem Gq_all1 (d : Dev nD) (f : S32000x128.Idx → Elt F .i32) :
    (bigSep Finset.univ fun a : Fin 2 => bigSep Finset.univ fun s : Fin 16 => Gq m d 1 a s f)
      = iprop(((SparseCore.T d).loc main_v21 ↦{fullShare} (chunk m d 1)) ∗ ((SparseCore.T d).loc main_v22 ↦{fullShare} f) ∗ (SparseCore.T d).loc main_arg0 ↦{fullShare} (tbl m d)) := by
  simp only [Gq_eq1, bigSep_sep']
  rw [← deal (F := F) (ℓ := (SparseCore.T d).loc main_v21) xB xB_disjoint xB_cover (chunk m d 1),
    ← deal (F := F) (ℓ := (SparseCore.T d).loc main_v22) oB oB_disjoint oB_cover f, ← deal_share (F := F) (ℓ := (SparseCore.T d).loc main_arg0) (tbl m d)]
theorem Gq_eq2 (d : Dev nD) (a : Fin 2) (s : Fin 16) (f : S32000x128.Idx → Elt F .i32) :
    Gq m d 2 a s f = iprop((bigSep (blks (coords a s)) fun j => (SparseCore.T d).loc main_v32 ↦[xB j]{fullShare} (chunk m d 2))
      ∗ (bigSep (blks (coords a s)) fun j => (SparseCore.T d).loc main_v33 ↦[oB j]{fullShare} f) ∗ (SparseCore.T d).loc main_arg0 ↦{tq a s} (tbl m d)) := by
  have hx : ∀ j, (xW call2 j).view.set = xB j := fun j => by
    show ((View.whole main_v32_scv).slice _).set = _
    rw [View.set_slice]; exact Finset.map_refl
  have ho : ∀ j, (oW call2 j).view.set = oB j := fun j => by
    show ((View.whole main_v33_scv).slice _).set = _
    rw [View.set_slice]; exact Finset.map_refl
  have ht : (tW call2).view.set = Finset.univ := by
    show ((View.whole main_arg0_scv).slice _).set = _
    rw [View.set_slice]; exact Finset.map_refl.trans table_set
  show Go call2 d a s (chunk m d 2) (tbl m d) f = _
  unfold Go IBlk OBlk TPts
  simp only [hx, ho, ht]
  rfl
theorem Gq_all2 (d : Dev nD) (f : S32000x128.Idx → Elt F .i32) :
    (bigSep Finset.univ fun a : Fin 2 => bigSep Finset.univ fun s : Fin 16 => Gq m d 2 a s f)
      = iprop(((SparseCore.T d).loc main_v32 ↦{fullShare} (chunk m d 2)) ∗ ((SparseCore.T d).loc main_v33 ↦{fullShare} f) ∗ (SparseCore.T d).loc main_arg0 ↦{fullShare} (tbl m d)) := by
  simp only [Gq_eq2, bigSep_sep']
  rw [← deal (F := F) (ℓ := (SparseCore.T d).loc main_v32) xB xB_disjoint xB_cover (chunk m d 2),
    ← deal (F := F) (ℓ := (SparseCore.T d).loc main_v33) oB oB_disjoint oB_cover f, ← deal_share (F := F) (ℓ := (SparseCore.T d).loc main_arg0) (tbl m d)]
theorem Gq_eq3 (d : Dev nD) (a : Fin 2) (s : Fin 16) (f : S32000x128.Idx → Elt F .i32) :
    Gq m d 3 a s f = iprop((bigSep (blks (coords a s)) fun j => (SparseCore.T d).loc main_v43 ↦[xB j]{fullShare} (chunk m d 3))
      ∗ (bigSep (blks (coords a s)) fun j => (SparseCore.T d).loc main_v44 ↦[oB j]{fullShare} f) ∗ (SparseCore.T d).loc main_arg0 ↦{tq a s} (tbl m d)) := by
  have hx : ∀ j, (xW call3 j).view.set = xB j := fun j => by
    show ((View.whole main_v43_scv).slice _).set = _
    rw [View.set_slice]; exact Finset.map_refl
  have ho : ∀ j, (oW call3 j).view.set = oB j := fun j => by
    show ((View.whole main_v44_scv).slice _).set = _
    rw [View.set_slice]; exact Finset.map_refl
  have ht : (tW call3).view.set = Finset.univ := by
    show ((View.whole main_arg0_scv).slice _).set = _
    rw [View.set_slice]; exact Finset.map_refl.trans table_set
  show Go call3 d a s (chunk m d 3) (tbl m d) f = _
  unfold Go IBlk OBlk TPts
  simp only [hx, ho, ht]
  rfl
theorem Gq_all3 (d : Dev nD) (f : S32000x128.Idx → Elt F .i32) :
    (bigSep Finset.univ fun a : Fin 2 => bigSep Finset.univ fun s : Fin 16 => Gq m d 3 a s f)
      = iprop(((SparseCore.T d).loc main_v43 ↦{fullShare} (chunk m d 3)) ∗ ((SparseCore.T d).loc main_v44 ↦{fullShare} f) ∗ (SparseCore.T d).loc main_arg0 ↦{fullShare} (tbl m d)) := by
  simp only [Gq_eq3, bigSep_sep']
  rw [← deal (F := F) (ℓ := (SparseCore.T d).loc main_v43) xB xB_disjoint xB_cover (chunk m d 3),
    ← deal (F := F) (ℓ := (SparseCore.T d).loc main_v44) oB oB_disjoint oB_cover f, ← deal_share (F := F) (ℓ := (SparseCore.T d).loc main_arg0) (tbl m d)]
theorem Gq_eq4 (d : Dev nD) (a : Fin 2) (s : Fin 16) (f : S32000x128.Idx → Elt F .i32) :
    Gq m d 4 a s f = iprop((bigSep (blks (coords a s)) fun j => (SparseCore.T d).loc main_v54 ↦[xB j]{fullShare} (chunk m d 4))
      ∗ (bigSep (blks (coords a s)) fun j => (SparseCore.T d).loc main_v55 ↦[oB j]{fullShare} f) ∗ (SparseCore.T d).loc main_arg0 ↦{tq a s} (tbl m d)) := by
  have hx : ∀ j, (xW call4 j).view.set = xB j := fun j => by
    show ((View.whole main_v54_scv).slice _).set = _
    rw [View.set_slice]; exact Finset.map_refl
  have ho : ∀ j, (oW call4 j).view.set = oB j := fun j => by
    show ((View.whole main_v55_scv).slice _).set = _
    rw [View.set_slice]; exact Finset.map_refl
  have ht : (tW call4).view.set = Finset.univ := by
    show ((View.whole main_arg0_scv).slice _).set = _
    rw [View.set_slice]; exact Finset.map_refl.trans table_set
  show Go call4 d a s (chunk m d 4) (tbl m d) f = _
  unfold Go IBlk OBlk TPts
  simp only [hx, ho, ht]
  rfl
theorem Gq_all4 (d : Dev nD) (f : S32000x128.Idx → Elt F .i32) :
    (bigSep Finset.univ fun a : Fin 2 => bigSep Finset.univ fun s : Fin 16 => Gq m d 4 a s f)
      = iprop(((SparseCore.T d).loc main_v54 ↦{fullShare} (chunk m d 4)) ∗ ((SparseCore.T d).loc main_v55 ↦{fullShare} f) ∗ (SparseCore.T d).loc main_arg0 ↦{fullShare} (tbl m d)) := by
  simp only [Gq_eq4, bigSep_sep']
  rw [← deal (F := F) (ℓ := (SparseCore.T d).loc main_v54) xB xB_disjoint xB_cover (chunk m d 4),
    ← deal (F := F) (ℓ := (SparseCore.T d).loc main_v55) oB oB_disjoint oB_cover f, ← deal_share (F := F) (ℓ := (SparseCore.T d).loc main_arg0) (tbl m d)]
theorem st_eq0 (d : Dev nD) : (bigSep Finset.univ fun a : Fin ((K (F := F)).nCore 0) => (P m).st 0 d a)
    = iprop(((SparseCore.T d).loc main_v10 ↦{fullShare} (chunk m d 0)) ∗ ((SparseCore.T d).loc main_v11 ↦{fullShare} (o₀ m d 0)) ∗ (SparseCore.T d).loc main_arg0 ↦{fullShare} (tbl m d)) :=
  (bigSep_cast (nCore_eq 0) fun a => bigSep Finset.univ fun s : Fin 16 => Gq m d 0 a s (o₀ m d 0)).trans (Gq_all0 m d _)
theorem dn_eq0 (d : Dev nD) : (bigSep Finset.univ fun a : Fin ((K (F := F)).nCore 0) => (P m).dn 0 d a)
    = iprop(((SparseCore.T d).loc main_v10 ↦{fullShare} (chunk m d 0)) ∗ ((SparseCore.T d).loc main_v11 ↦{fullShare} (out m d 0)) ∗ (SparseCore.T d).loc main_arg0 ↦{fullShare} (tbl m d)) :=
  (bigSep_cast (nCore_eq 0) fun a => bigSep Finset.univ fun s : Fin 16 => Gq m d 0 a s (out m d 0)).trans (Gq_all0 m d _)
theorem st_eq1 (d : Dev nD) : (bigSep Finset.univ fun a : Fin ((K (F := F)).nCore 1) => (P m).st 1 d a)
    = iprop(((SparseCore.T d).loc main_v21 ↦{fullShare} (chunk m d 1)) ∗ ((SparseCore.T d).loc main_v22 ↦{fullShare} (o₀ m d 1)) ∗ (SparseCore.T d).loc main_arg0 ↦{fullShare} (tbl m d)) :=
  (bigSep_cast (nCore_eq 1) fun a => bigSep Finset.univ fun s : Fin 16 => Gq m d 1 a s (o₀ m d 1)).trans (Gq_all1 m d _)
theorem dn_eq1 (d : Dev nD) : (bigSep Finset.univ fun a : Fin ((K (F := F)).nCore 1) => (P m).dn 1 d a)
    = iprop(((SparseCore.T d).loc main_v21 ↦{fullShare} (chunk m d 1)) ∗ ((SparseCore.T d).loc main_v22 ↦{fullShare} (out m d 1)) ∗ (SparseCore.T d).loc main_arg0 ↦{fullShare} (tbl m d)) :=
  (bigSep_cast (nCore_eq 1) fun a => bigSep Finset.univ fun s : Fin 16 => Gq m d 1 a s (out m d 1)).trans (Gq_all1 m d _)
theorem st_eq2 (d : Dev nD) : (bigSep Finset.univ fun a : Fin ((K (F := F)).nCore 2) => (P m).st 2 d a)
    = iprop(((SparseCore.T d).loc main_v32 ↦{fullShare} (chunk m d 2)) ∗ ((SparseCore.T d).loc main_v33 ↦{fullShare} (o₀ m d 2)) ∗ (SparseCore.T d).loc main_arg0 ↦{fullShare} (tbl m d)) :=
  (bigSep_cast (nCore_eq 2) fun a => bigSep Finset.univ fun s : Fin 16 => Gq m d 2 a s (o₀ m d 2)).trans (Gq_all2 m d _)
theorem dn_eq2 (d : Dev nD) : (bigSep Finset.univ fun a : Fin ((K (F := F)).nCore 2) => (P m).dn 2 d a)
    = iprop(((SparseCore.T d).loc main_v32 ↦{fullShare} (chunk m d 2)) ∗ ((SparseCore.T d).loc main_v33 ↦{fullShare} (out m d 2)) ∗ (SparseCore.T d).loc main_arg0 ↦{fullShare} (tbl m d)) :=
  (bigSep_cast (nCore_eq 2) fun a => bigSep Finset.univ fun s : Fin 16 => Gq m d 2 a s (out m d 2)).trans (Gq_all2 m d _)
theorem st_eq3 (d : Dev nD) : (bigSep Finset.univ fun a : Fin ((K (F := F)).nCore 3) => (P m).st 3 d a)
    = iprop(((SparseCore.T d).loc main_v43 ↦{fullShare} (chunk m d 3)) ∗ ((SparseCore.T d).loc main_v44 ↦{fullShare} (o₀ m d 3)) ∗ (SparseCore.T d).loc main_arg0 ↦{fullShare} (tbl m d)) :=
  (bigSep_cast (nCore_eq 3) fun a => bigSep Finset.univ fun s : Fin 16 => Gq m d 3 a s (o₀ m d 3)).trans (Gq_all3 m d _)
theorem dn_eq3 (d : Dev nD) : (bigSep Finset.univ fun a : Fin ((K (F := F)).nCore 3) => (P m).dn 3 d a)
    = iprop(((SparseCore.T d).loc main_v43 ↦{fullShare} (chunk m d 3)) ∗ ((SparseCore.T d).loc main_v44 ↦{fullShare} (out m d 3)) ∗ (SparseCore.T d).loc main_arg0 ↦{fullShare} (tbl m d)) :=
  (bigSep_cast (nCore_eq 3) fun a => bigSep Finset.univ fun s : Fin 16 => Gq m d 3 a s (out m d 3)).trans (Gq_all3 m d _)
theorem st_eq4 (d : Dev nD) : (bigSep Finset.univ fun a : Fin ((K (F := F)).nCore 4) => (P m).st 4 d a)
    = iprop(((SparseCore.T d).loc main_v54 ↦{fullShare} (chunk m d 4)) ∗ ((SparseCore.T d).loc main_v55 ↦{fullShare} (o₀ m d 4)) ∗ (SparseCore.T d).loc main_arg0 ↦{fullShare} (tbl m d)) :=
  (bigSep_cast (nCore_eq 4) fun a => bigSep Finset.univ fun s : Fin 16 => Gq m d 4 a s (o₀ m d 4)).trans (Gq_all4 m d _)
theorem dn_eq4 (d : Dev nD) : (bigSep Finset.univ fun a : Fin ((K (F := F)).nCore 4) => (P m).dn 4 d a)
    = iprop(((SparseCore.T d).loc main_v54 ↦{fullShare} (chunk m d 4)) ∗ ((SparseCore.T d).loc main_v55 ↦{fullShare} (out m d 4)) ∗ (SparseCore.T d).loc main_arg0 ↦{fullShare} (tbl m d)) :=
  (bigSep_cast (nCore_eq 4) fun a => bigSep Finset.univ fun s : Fin 16 => Gq m d 4 a s (out m d 4)).trans (Gq_all4 m d _)

/-! ## The TensorCore's arrays -/

abbrev dr (b : Ref sig .tc) : DevRef τ sig := Proc.devRef .tc b

theorem dr_mem (b : Ref sig .tc) (h : (dr b).isScoped = false) : dr b ∈ uc :=
  Finset.mem_filter.mpr ⟨StableHlo.devRef_mem_tcRefs b, by rw [h]; decide⟩

/-- A call's three arrays out of all. -/
theorem held_three (d : Dev nD) (bx bo : Ref sig .tc) (hx : (dr bx).isScoped = false) (ho : (dr bo).isScoped = false) (hxo : dr bo ≠ dr bx)
    (hax : dr main_arg0 ≠ dr bx) (hao : dr main_arg0 ≠ dr bo) (V : Valuation τ sig (Elt F)) :
    (held (SparseCore.T d) uc V : sProp 𝕄) = iprop((((SparseCore.T d).loc bx ↦{fullShare} V (dr bx)) ∗ ((SparseCore.T d).loc bo ↦{fullShare} V (dr bo))
      ∗ (SparseCore.T d).loc main_arg0 ↦{fullShare} V (dr main_arg0)) ∗ held (SparseCore.T d) (((uc.erase (dr bx)).erase (dr bo)).erase (dr main_arg0)) V) := by
  unfold held
  rw [SparseCore.bigSep_erase' (dr_mem bx hx), SparseCore.bigSep_erase' (Finset.mem_erase.mpr ⟨hxo, dr_mem bo ho⟩),
    SparseCore.bigSep_erase' (Finset.mem_erase.mpr ⟨hao, Finset.mem_erase.mpr ⟨hax, dr_mem main_arg0 rfl⟩⟩)]
  refine eq_of_entails ?_ ?_
  · iintro ⟨Hx, Ho, Ha, H⟩
    isplitr [H]
    · isplitl [Hx]; · iexact Hx
      isplitl [Ho]; · iexact Ho
      iexact Ha
    iexact H
  · iintro ⟨⟨Hx, Ho, Ha⟩, H⟩
    isplitl [Hx]; · iexact Hx
    isplitl [Ho]; · iexact Ho
    isplitl [Ha]; · iexact Ha
    iexact H

variable [FloatOps F]

/-- A call, all the TensorCore's arrays held: its result's array ends at what the call leaves, the others as they were. -/
theorem call_step (κ : GSem nD τ sig → ℕ) (d : Dev nD) (q : Fin 5) (bx bo : Ref sig .tc) (hx : (dr bx).isScoped = false) (ho : (dr bo).isScoped = false)
    (hxo : dr bo ≠ dr bx) (hax : dr main_arg0 ≠ dr bx) (hao : dr main_arg0 ≠ dr bo) (V : Valuation τ sig (Elt F)) (f' : (dr bo).ty.Contents (Elt F))
    (hst : (bigSep Finset.univ fun a : Fin ((K (F := F)).nCore q) => (P m).st q d a) = iprop(((SparseCore.T d).loc bx ↦{fullShare} V (dr bx))
      ∗ ((SparseCore.T d).loc bo ↦{fullShare} V (dr bo)) ∗ (SparseCore.T d).loc main_arg0 ↦{fullShare} V (dr main_arg0)))
    (hdn : (bigSep Finset.univ fun a : Fin ((K (F := F)).nCore q) => (P m).dn q d a) = iprop(((SparseCore.T d).loc bx ↦{fullShare} V (dr bx))
      ∗ ((SparseCore.T d).loc bo ↦{fullShare} f') ∗ (SparseCore.T d).loc main_arg0 ↦{fullShare} V (dr main_arg0)))
    {Φ : PUnit → sProp 𝕄} :
    iprop((K (F := F)).ctx EH (P m) κ ∗ (K (F := F)).tcSt EH d q.val ∗ held (SparseCore.T d) uc V
        ∗ (((K (F := F)).tcSt EH d (q.val + 1) ∗ held (SparseCore.T d) uc (Function.update V (dr bo) f')) -∗ Φ ⟨⟩))
      ⊢ wp frame (wpE ((K (F := F)).defs (D (F := F))) 𝒱 (SparseCore.T d) none) Set.univ ((K (F := F)).run d q) Φ := by
  rw [held_three d bx bo hx ho hxo hax hao V, held_three d bx bo hx ho hxo hax hao (Function.update V (dr bo) f'),
    Function.update_of_ne hxo.symm, Function.update_self, Function.update_of_ne hao,
    held_congr (SparseCore.T d) (V := Function.update V (dr bo) f') (V' := V) fun b hb => Function.update_of_ne (Finset.mem_erase.mp (Finset.mem_erase.mp hb).2).1 _ _,
    ← hst, ← hdn]
  iintro ⟨#Hctx, Hst, ⟨Hthree, Hrest⟩, Hk⟩
  iapply ((K (F := F)).wp_run (D (F := F)) 𝒱 (EH := EH) (P := P m) κ d q) $$ [Hst Hthree Hrest Hk]
  isplitr; · iexact Hctx
  isplitl [Hst]; · iexact Hst
  isplitl [Hthree]; · iexact Hthree
  iintro ⟨Hst, Hdn⟩
  iapply Hk
  isplitl [Hst]; · iexact Hst
  isplitl [Hdn]; · iexact Hdn
  iexact Hrest

/-- A line of the host's program, all the TensorCore's arrays held. -/
theorem host_step (d : Dev nD) (op : HloOp τ sig (Elt F)) (hS : op.bufs ⊆ uc) (hf : op.fresh = ∅) (V : Valuation τ sig (Elt F)) {Φ : PUnit → sProp 𝕄} :
    iprop(boundary (SparseCore.T d) ∗ held (SparseCore.T d) uc V ∗ ((boundary (SparseCore.T d) ∗ held (SparseCore.T d) uc (op.result V)) -∗ Φ ⟨⟩))
      ⊢ wp frame (wpE ((K (F := F)).defs (D (F := F))) 𝒱 (SparseCore.T d) none) Set.univ (hlo rfl op (fun _ => .ret ⟨⟩)) Φ := by
  iintro ⟨Hb, Hheld, Hk⟩
  iapply (wp_hlo_within 𝒱 (SparseCore.T d) none Set.univ (op := op) (S := uc) hS (V := V) (hf := hf)) $$ [Hb Hheld]
  · isplitl [Hb]; · iexact Hb
    iexact Hheld
  iintro ⟨Hb, Hheld⟩
  rw [wp_ret]; imodintro
  iapply Hk
  isplitl [Hb]; · iexact Hb
  iexact Hheld

end Cert.Proof.Layer
-- ==== Proof.Layer.Host.lean ====
/-
  What the TensorCore's arrays hold after each line of the host's program.
-/
module

public import proofs.«01_k».proof.Proof.Layer.Steps

@[expose] public section

set_option maxRecDepth 65536

noncomputable section

namespace Cert.Proof.Layer

open Cert.LayerIdeal Cert.LayerIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_congr wp_hlo_within)

variable {F : FTy → Type}

local notation "𝕄" => MT nD τ sig (HIx 5) (Elt F) ℕ UU ℕ

variable [FloatOps F]

variable (m : (ℓ : Loc nD τ sig) → Buf (Elt F) ℓ)

/-! ## The host's operations -/

abbrev op1 : HloOp τ sig (Elt F) := StableHlo.reshape main_arg1 main_v0 (rfl : (.i32 : EltTy) = .i32) shapeCasts_S10240x16_S1x163840
abbrev op2 : HloOp τ sig (Elt F) := StableHlo.nullary main_v1 (iotaInDim S8x8 32 0)
abbrev op3 : HloOp τ sig (Elt F) := StableHlo.nullary main_v2 (iotaInDim S8x8 32 1)
abbrev op4 : HloOp τ sig (Elt F) := StableHlo.nullary main_c (constantI S_ 32 0#32)
abbrev op5 : HloOp τ sig (Elt F) := StableHlo.unary main_c main_v3 (broadcastInDim S8x8 ![] bcast_S_S8x8 : (⟨S_, .i32⟩ : BufTy).Contents (Elt F) → (⟨S8x8, .i32⟩ : BufTy).Contents (Elt F))
abbrev op6 : HloOp τ sig (Elt F) := StableHlo.binary main_v1 main_v3 main_v4 (addi : (⟨S8x8, .i32⟩ : BufTy).Contents (Elt F) → (⟨S8x8, .i32⟩ : BufTy).Contents (Elt F) → (⟨S8x8, .i32⟩ : BufTy).Contents (Elt F))
abbrev op7 : HloOp τ sig (Elt F) := StableHlo.binary main_v4 main_v2 main_v5 (cmpi .eq : (⟨S8x8, .i32⟩ : BufTy).Contents (Elt F) → (⟨S8x8, .i32⟩ : BufTy).Contents (Elt F) → (⟨S8x8, .i1⟩ : BufTy).Contents (Elt F))
abbrev op8 : HloOp τ sig (Elt F) := StableHlo.unary main_v5 main_v6 (uitofp .f32 : (⟨S8x8, .i1⟩ : BufTy).Contents (Elt F) → (⟨S8x8, .f32⟩ : BufTy).Contents (Elt F))
abbrev op9 : HloOp τ sig (Elt F) := StableHlo.nullary main_cst (constant S_ .f32 0x3F800000#32)
abbrev op10 : HloOp τ sig (Elt F) := StableHlo.unary main_cst main_v7 (broadcastInDim S16x1 ![] bcast_S_S16x1 : (⟨S_, .f32⟩ : BufTy).Contents (Elt F) → (⟨S16x1, .f32⟩ : BufTy).Contents (Elt F))
abbrev op11 : HloOp τ sig (Elt F) := StableHlo.TRef.unary (.of main_v6 : StableHlo.TRef sig ⟨S8x8, .f32⟩) (.of main_call0_v0 : StableHlo.TRef sig ⟨S8x1x8x1, .f32⟩) (broadcastInDim S8x1x8x1 ![0, 2] bcast_S8x8_S8x1x8x1_0_2)
abbrev op12 : HloOp τ sig (Elt F) := StableHlo.TRef.unary (.of main_v7 : StableHlo.TRef sig ⟨S16x1, .f32⟩) (.of main_call0_v1 : StableHlo.TRef sig ⟨S1x16x1x1, .f32⟩) (broadcastInDim S1x16x1x1 ![1, 3] bcast_S16x1_S1x16x1x1_1_3)
abbrev op13 : HloOp τ sig (Elt F) := StableHlo.TRef.unary (.of main_call0_v0 : StableHlo.TRef sig ⟨S8x1x8x1, .f32⟩) (.of main_call0_v2 : StableHlo.TRef sig ⟨S8x16x8x1, .f32⟩) (broadcastInDim S8x16x8x1 ![0, 1, 2, 3] bcast_S8x1x8x1_S8x16x8x1_0_1_2_3)
abbrev op14 : HloOp τ sig (Elt F) := StableHlo.TRef.unary (.of main_call0_v1 : StableHlo.TRef sig ⟨S1x16x1x1, .f32⟩) (.of main_call0_v3 : StableHlo.TRef sig ⟨S8x16x8x1, .f32⟩) (broadcastInDim S8x16x8x1 ![0, 1, 2, 3] bcast_S1x16x1x1_S8x16x8x1_0_1_2_3)
abbrev op15 : HloOp τ sig (Elt F) := StableHlo.TRef.binary (.of main_call0_v2 : StableHlo.TRef sig ⟨S8x16x8x1, .f32⟩) (.of main_call0_v3 : StableHlo.TRef sig ⟨S8x16x8x1, .f32⟩) (.of main_call0_v4 : StableHlo.TRef sig ⟨S8x16x8x1, .f32⟩) mulf
abbrev op16 : HloOp τ sig (Elt F) := StableHlo.TRef.reshape (.of main_call0_v4 : StableHlo.TRef sig ⟨S8x16x8x1, .f32⟩) (.of main_v8 : StableHlo.TRef sig ⟨S128x8, .f32⟩) (rfl : (.f32 : EltTy) = .f32) shapeCasts_S8x16x8x1_S128x8
abbrev op17 : HloOp τ sig (Elt F) := StableHlo.unary main_v8 main_v9 ((transpose S8x128 [1, 0] · transposes_S128x8_S8x128_1_0) : (⟨S128x8, .f32⟩ : BufTy).Contents (Elt F) → (⟨S8x128, .f32⟩ : BufTy).Contents (Elt F))
abbrev op18 : HloOp τ sig (Elt F) := StableHlo.unary main_v0 main_v10 ((extractStridedSlice S1x32000 ![0, 0] · slices_S1x163840_S1x32000_0_0) : (⟨S1x163840, .i32⟩ : BufTy).Contents (Elt F) → (⟨S1x32000, .i32⟩ : BufTy).Contents (Elt F))
abbrev op20 : HloOp τ sig (Elt F) := StableHlo.unary main_arg2 main_v12 ((extractStridedSlice S2000x128 ![0, 0] · slices_S10000x128_S2000x128_0_0) : (⟨S10000x128, .f32⟩ : BufTy).Contents (Elt F) → (⟨S2000x128, .f32⟩ : BufTy).Contents (Elt F))
abbrev op21 : HloOp τ sig (Elt F) := StableHlo.unary main_arg3 main_v13 ((extractStridedSlice S2000x128 ![0, 0] · slices_S10000x128_S2000x128_0_0) : (⟨S10000x128, .f32⟩ : BufTy).Contents (Elt F) → (⟨S2000x128, .f32⟩ : BufTy).Contents (Elt F))
abbrev op22 : HloOp τ sig (Elt F) := StableHlo.reshape main_arg5 main_v14 (rfl : (.f32 : EltTy) = .f32) shapeCasts_S128_S1x128
abbrev op23 : HloOp τ sig (Elt F) := StableHlo.reshape main_arg6 main_v15 (rfl : (.f32 : EltTy) = .f32) shapeCasts_S128_S1x128
abbrev op24 : HloOp τ sig (Elt F) := StableHlo.reshape main_arg8 main_v16 (rfl : (.f32 : EltTy) = .f32) shapeCasts_S256_S1x256
abbrev op25 : HloOp τ sig (Elt F) := StableHlo.reshape main_arg10 main_v17 (rfl : (.f32 : EltTy) = .f32) shapeCasts_S128_S1x128
abbrev op26 : HloOp τ sig (Elt F) := StableHlo.reshape main_arg11 main_v18 (rfl : (.f32 : EltTy) = .f32) shapeCasts_S128_S1x128
abbrev op27 : HloOp τ sig (Elt F) := StableHlo.reshape main_arg12 main_v19 (rfl : (.f32 : EltTy) = .f32) shapeCasts_S128_S1x128
abbrev op29 : HloOp τ sig (Elt F) := StableHlo.unary main_v0 main_v21 ((extractStridedSlice S1x32000 ![0, 32000] · slices_S1x163840_S1x32000_0_32000) : (⟨S1x163840, .i32⟩ : BufTy).Contents (Elt F) → (⟨S1x32000, .i32⟩ : BufTy).Contents (Elt F))
abbrev op31 : HloOp τ sig (Elt F) := StableHlo.unary main_arg2 main_v23 ((extractStridedSlice S2000x128 ![2000, 0] · slices_S10000x128_S2000x128_2000_0) : (⟨S10000x128, .f32⟩ : BufTy).Contents (Elt F) → (⟨S2000x128, .f32⟩ : BufTy).Contents (Elt F))
abbrev op32 : HloOp τ sig (Elt F) := StableHlo.unary main_arg3 main_v24 ((extractStridedSlice S2000x128 ![2000, 0] · slices_S10000x128_S2000x128_2000_0) : (⟨S10000x128, .f32⟩ : BufTy).Contents (Elt F) → (⟨S2000x128, .f32⟩ : BufTy).Contents (Elt F))
abbrev op33 : HloOp τ sig (Elt F) := StableHlo.reshape main_arg5 main_v25 (rfl : (.f32 : EltTy) = .f32) shapeCasts_S128_S1x128
abbrev op34 : HloOp τ sig (Elt F) := StableHlo.reshape main_arg6 main_v26 (rfl : (.f32 : EltTy) = .f32) shapeCasts_S128_S1x128
abbrev op35 : HloOp τ sig (Elt F) := StableHlo.reshape main_arg8 main_v27 (rfl : (.f32 : EltTy) = .f32) shapeCasts_S256_S1x256
abbrev op36 : HloOp τ sig (Elt F) := StableHlo.reshape main_arg10 main_v28 (rfl : (.f32 : EltTy) = .f32) shapeCasts_S128_S1x128
abbrev op37 : HloOp τ sig (Elt F) := StableHlo.reshape main_arg11 main_v29 (rfl : (.f32 : EltTy) = .f32) shapeCasts_S128_S1x128
abbrev op38 : HloOp τ sig (Elt F) := StableHlo.reshape main_arg12 main_v30 (rfl : (.f32 : EltTy) = .f32) shapeCasts_S128_S1x128
abbrev op40 : HloOp τ sig (Elt F) := StableHlo.unary main_v0 main_v32 ((extractStridedSlice S1x32000 ![0, 64000] · slices_S1x163840_S1x32000_0_64000) : (⟨S1x163840, .i32⟩ : BufTy).Contents (Elt F) → (⟨S1x32000, .i32⟩ : BufTy).Contents (Elt F))
abbrev op42 : HloOp τ sig (Elt F) := StableHlo.unary main_arg2 main_v34 ((extractStridedSlice S2000x128 ![4000, 0] · slices_S10000x128_S2000x128_4000_0) : (⟨S10000x128, .f32⟩ : BufTy).Contents (Elt F) → (⟨S2000x128, .f32⟩ : BufTy).Contents (Elt F))
abbrev op43 : HloOp τ sig (Elt F) := StableHlo.unary main_arg3 main_v35 ((extractStridedSlice S2000x128 ![4000, 0] · slices_S10000x128_S2000x128_4000_0) : (⟨S10000x128, .f32⟩ : BufTy).Contents (Elt F) → (⟨S2000x128, .f32⟩ : BufTy).Contents (Elt F))
abbrev op44 : HloOp τ sig (Elt F) := StableHlo.reshape main_arg5 main_v36 (rfl : (.f32 : EltTy) = .f32) shapeCasts_S128_S1x128
abbrev op45 : HloOp τ sig (Elt F) := StableHlo.reshape main_arg6 main_v37 (rfl : (.f32 : EltTy) = .f32) shapeCasts_S128_S1x128
abbrev op46 : HloOp τ sig (Elt F) := StableHlo.reshape main_arg8 main_v38 (rfl : (.f32 : EltTy) = .f32) shapeCasts_S256_S1x256
abbrev op47 : HloOp τ sig (Elt F) := StableHlo.reshape main_arg10 main_v39 (rfl : (.f32 : EltTy) = .f32) shapeCasts_S128_S1x128
abbrev op48 : HloOp τ sig (Elt F) := StableHlo.reshape main_arg11 main_v40 (rfl : (.f32 : EltTy) = .f32) shapeCasts_S128_S1x128
abbrev op49 : HloOp τ sig (Elt F) := StableHlo.reshape main_arg12 main_v41 (rfl : (.f32 : EltTy) = .f32) shapeCasts_S128_S1x128
abbrev op51 : HloOp τ sig (Elt F) := StableHlo.unary main_v0 main_v43 ((extractStridedSlice S1x32000 ![0, 96000] · slices_S1x163840_S1x32000_0_96000) : (⟨S1x163840, .i32⟩ : BufTy).Contents (Elt F) → (⟨S1x32000, .i32⟩ : BufTy).Contents (Elt F))
abbrev op53 : HloOp τ sig (Elt F) := StableHlo.unary main_arg2 main_v45 ((extractStridedSlice S2000x128 ![6000, 0] · slices_S10000x128_S2000x128_6000_0) : (⟨S10000x128, .f32⟩ : BufTy).Contents (Elt F) → (⟨S2000x128, .f32⟩ : BufTy).Contents (Elt F))
abbrev op54 : HloOp τ sig (Elt F) := StableHlo.unary main_arg3 main_v46 ((extractStridedSlice S2000x128 ![6000, 0] · slices_S10000x128_S2000x128_6000_0) : (⟨S10000x128, .f32⟩ : BufTy).Contents (Elt F) → (⟨S2000x128, .f32⟩ : BufTy).Contents (Elt F))
abbrev op55 : HloOp τ sig (Elt F) := StableHlo.reshape main_arg5 main_v47 (rfl : (.f32 : EltTy) = .f32) shapeCasts_S128_S1x128
abbrev op56 : HloOp τ sig (Elt F) := StableHlo.reshape main_arg6 main_v48 (rfl : (.f32 : EltTy) = .f32) shapeCasts_S128_S1x128
abbrev op57 : HloOp τ sig (Elt F) := StableHlo.reshape main_arg8 main_v49 (rfl : (.f32 : EltTy) = .f32) shapeCasts_S256_S1x256
abbrev op58 : HloOp τ sig (Elt F) := StableHlo.reshape main_arg10 main_v50 (rfl : (.f32 : EltTy) = .f32) shapeCasts_S128_S1x128
abbrev op59 : HloOp τ sig (Elt F) := StableHlo.reshape main_arg11 main_v51 (rfl : (.f32 : EltTy) = .f32) shapeCasts_S128_S1x128
abbrev op60 : HloOp τ sig (Elt F) := StableHlo.reshape main_arg12 main_v52 (rfl : (.f32 : EltTy) = .f32) shapeCasts_S128_S1x128
abbrev op62 : HloOp τ sig (Elt F) := StableHlo.unary main_v0 main_v54 ((extractStridedSlice S1x32000 ![0, 128000] · slices_S1x163840_S1x32000_0_128000) : (⟨S1x163840, .i32⟩ : BufTy).Contents (Elt F) → (⟨S1x32000, .i32⟩ : BufTy).Contents (Elt F))
abbrev op64 : HloOp τ sig (Elt F) := StableHlo.unary main_arg2 main_v56 ((extractStridedSlice S2000x128 ![8000, 0] · slices_S10000x128_S2000x128_8000_0) : (⟨S10000x128, .f32⟩ : BufTy).Contents (Elt F) → (⟨S2000x128, .f32⟩ : BufTy).Contents (Elt F))
abbrev op65 : HloOp τ sig (Elt F) := StableHlo.unary main_arg3 main_v57 ((extractStridedSlice S2000x128 ![8000, 0] · slices_S10000x128_S2000x128_8000_0) : (⟨S10000x128, .f32⟩ : BufTy).Contents (Elt F) → (⟨S2000x128, .f32⟩ : BufTy).Contents (Elt F))
abbrev op66 : HloOp τ sig (Elt F) := StableHlo.reshape main_arg5 main_v58 (rfl : (.f32 : EltTy) = .f32) shapeCasts_S128_S1x128
abbrev op67 : HloOp τ sig (Elt F) := StableHlo.reshape main_arg6 main_v59 (rfl : (.f32 : EltTy) = .f32) shapeCasts_S128_S1x128
abbrev op68 : HloOp τ sig (Elt F) := StableHlo.reshape main_arg8 main_v60 (rfl : (.f32 : EltTy) = .f32) shapeCasts_S256_S1x256
abbrev op69 : HloOp τ sig (Elt F) := StableHlo.reshape main_arg10 main_v61 (rfl : (.f32 : EltTy) = .f32) shapeCasts_S128_S1x128
abbrev op70 : HloOp τ sig (Elt F) := StableHlo.reshape main_arg11 main_v62 (rfl : (.f32 : EltTy) = .f32) shapeCasts_S128_S1x128
abbrev op71 : HloOp τ sig (Elt F) := StableHlo.reshape main_arg12 main_v63 (rfl : (.f32 : EltTy) = .f32) shapeCasts_S128_S1x128
abbrev op73 : HloOp τ sig (Elt F) := StableHlo.nary ![main_v20, main_v31, main_v42, main_v53, main_v64] main_v65 (fun u => (concatenate S10000x128 0 [⟨S2000x128, (u 0 : (⟨S2000x128, .f32⟩ : BufTy).Contents (Elt F))⟩, ⟨S2000x128, (u 1 : (⟨S2000x128, .f32⟩ : BufTy).Contents (Elt F))⟩, ⟨S2000x128, (u 2 : (⟨S2000x128, .f32⟩ : BufTy).Contents (Elt F))⟩, ⟨S2000x128, (u 3 : (⟨S2000x128, .f32⟩ : BufTy).Contents (Elt F))⟩, ⟨S2000x128, (u 4 : (⟨S2000x128, .f32⟩ : BufTy).Contents (Elt F))⟩] concatenates_S2000x128_S2000x128_S2000x128_S2000x128_S2000x128_S10000x128_d0 : (⟨S10000x128, .f32⟩ : BufTy).Contents (Elt F)))

/-! ## What the arrays hold at the start, and after each line, gather and attention call -/

def H0 (d : Dev nD) : Valuation τ sig (Elt F) := fun b => m (d, b)
def H1 (d : Dev nD) : Valuation τ sig (Elt F) := (op1 (F := F)).result (H0 m d)
def H2 (d : Dev nD) : Valuation τ sig (Elt F) := (op2 (F := F)).result (H1 m d)
def H3 (d : Dev nD) : Valuation τ sig (Elt F) := (op3 (F := F)).result (H2 m d)
def H4 (d : Dev nD) : Valuation τ sig (Elt F) := (op4 (F := F)).result (H3 m d)
def H5 (d : Dev nD) : Valuation τ sig (Elt F) := (op5 (F := F)).result (H4 m d)
def H6 (d : Dev nD) : Valuation τ sig (Elt F) := (op6 (F := F)).result (H5 m d)
def H7 (d : Dev nD) : Valuation τ sig (Elt F) := (op7 (F := F)).result (H6 m d)
def H8 (d : Dev nD) : Valuation τ sig (Elt F) := (op8 (F := F)).result (H7 m d)
def H9 (d : Dev nD) : Valuation τ sig (Elt F) := (op9 (F := F)).result (H8 m d)
def H10 (d : Dev nD) : Valuation τ sig (Elt F) := (op10 (F := F)).result (H9 m d)
def H11 (d : Dev nD) : Valuation τ sig (Elt F) := (op11 (F := F)).result (H10 m d)
def H12 (d : Dev nD) : Valuation τ sig (Elt F) := (op12 (F := F)).result (H11 m d)
def H13 (d : Dev nD) : Valuation τ sig (Elt F) := (op13 (F := F)).result (H12 m d)
def H14 (d : Dev nD) : Valuation τ sig (Elt F) := (op14 (F := F)).result (H13 m d)
def H15 (d : Dev nD) : Valuation τ sig (Elt F) := (op15 (F := F)).result (H14 m d)
def H16 (d : Dev nD) : Valuation τ sig (Elt F) := (op16 (F := F)).result (H15 m d)
def H17 (d : Dev nD) : Valuation τ sig (Elt F) := (op17 (F := F)).result (H16 m d)
def H18 (d : Dev nD) : Valuation τ sig (Elt F) := (op18 (F := F)).result (H17 m d)
def H19 (d : Dev nD) : Valuation τ sig (Elt F) := Function.update (H18 m d) (dr main_v11) (out m d 0)
def H20 (d : Dev nD) : Valuation τ sig (Elt F) := (op20 (F := F)).result (H19 m d)
def H21 (d : Dev nD) : Valuation τ sig (Elt F) := (op21 (F := F)).result (H20 m d)
def H22 (d : Dev nD) : Valuation τ sig (Elt F) := (op22 (F := F)).result (H21 m d)
def H23 (d : Dev nD) : Valuation τ sig (Elt F) := (op23 (F := F)).result (H22 m d)
def H24 (d : Dev nD) : Valuation τ sig (Elt F) := (op24 (F := F)).result (H23 m d)
def H25 (d : Dev nD) : Valuation τ sig (Elt F) := (op25 (F := F)).result (H24 m d)
def H26 (d : Dev nD) : Valuation τ sig (Elt F) := (op26 (F := F)).result (H25 m d)
def H27 (d : Dev nD) : Valuation τ sig (Elt F) := (op27 (F := F)).result (H26 m d)
def H28 (d : Dev nD) : Valuation τ sig (Elt F) := left0 (H27 m) d
def H29 (d : Dev nD) : Valuation τ sig (Elt F) := (op29 (F := F)).result (H28 m d)
def H30 (d : Dev nD) : Valuation τ sig (Elt F) := Function.update (H29 m d) (dr main_v22) (out m d 1)
def H31 (d : Dev nD) : Valuation τ sig (Elt F) := (op31 (F := F)).result (H30 m d)
def H32 (d : Dev nD) : Valuation τ sig (Elt F) := (op32 (F := F)).result (H31 m d)
def H33 (d : Dev nD) : Valuation τ sig (Elt F) := (op33 (F := F)).result (H32 m d)
def H34 (d : Dev nD) : Valuation τ sig (Elt F) := (op34 (F := F)).result (H33 m d)
def H35 (d : Dev nD) : Valuation τ sig (Elt F) := (op35 (F := F)).result (H34 m d)
def H36 (d : Dev nD) : Valuation τ sig (Elt F) := (op36 (F := F)).result (H35 m d)
def H37 (d : Dev nD) : Valuation τ sig (Elt F) := (op37 (F := F)).result (H36 m d)
def H38 (d : Dev nD) : Valuation τ sig (Elt F) := (op38 (F := F)).result (H37 m d)
def H39 (d : Dev nD) : Valuation τ sig (Elt F) := left1 (H38 m) d
def H40 (d : Dev nD) : Valuation τ sig (Elt F) := (op40 (F := F)).result (H39 m d)
def H41 (d : Dev nD) : Valuation τ sig (Elt F) := Function.update (H40 m d) (dr main_v33) (out m d 2)
def H42 (d : Dev nD) : Valuation τ sig (Elt F) := (op42 (F := F)).result (H41 m d)
def H43 (d : Dev nD) : Valuation τ sig (Elt F) := (op43 (F := F)).result (H42 m d)
def H44 (d : Dev nD) : Valuation τ sig (Elt F) := (op44 (F := F)).result (H43 m d)
def H45 (d : Dev nD) : Valuation τ sig (Elt F) := (op45 (F := F)).result (H44 m d)
def H46 (d : Dev nD) : Valuation τ sig (Elt F) := (op46 (F := F)).result (H45 m d)
def H47 (d : Dev nD) : Valuation τ sig (Elt F) := (op47 (F := F)).result (H46 m d)
def H48 (d : Dev nD) : Valuation τ sig (Elt F) := (op48 (F := F)).result (H47 m d)
def H49 (d : Dev nD) : Valuation τ sig (Elt F) := (op49 (F := F)).result (H48 m d)
def H50 (d : Dev nD) : Valuation τ sig (Elt F) := left2 (H49 m) d
def H51 (d : Dev nD) : Valuation τ sig (Elt F) := (op51 (F := F)).result (H50 m d)
def H52 (d : Dev nD) : Valuation τ sig (Elt F) := Function.update (H51 m d) (dr main_v44) (out m d 3)
def H53 (d : Dev nD) : Valuation τ sig (Elt F) := (op53 (F := F)).result (H52 m d)
def H54 (d : Dev nD) : Valuation τ sig (Elt F) := (op54 (F := F)).result (H53 m d)
def H55 (d : Dev nD) : Valuation τ sig (Elt F) := (op55 (F := F)).result (H54 m d)
def H56 (d : Dev nD) : Valuation τ sig (Elt F) := (op56 (F := F)).result (H55 m d)
def H57 (d : Dev nD) : Valuation τ sig (Elt F) := (op57 (F := F)).result (H56 m d)
def H58 (d : Dev nD) : Valuation τ sig (Elt F) := (op58 (F := F)).result (H57 m d)
def H59 (d : Dev nD) : Valuation τ sig (Elt F) := (op59 (F := F)).result (H58 m d)
def H60 (d : Dev nD) : Valuation τ sig (Elt F) := (op60 (F := F)).result (H59 m d)
def H61 (d : Dev nD) : Valuation τ sig (Elt F) := left3 (H60 m) d
def H62 (d : Dev nD) : Valuation τ sig (Elt F) := (op62 (F := F)).result (H61 m d)
def H63 (d : Dev nD) : Valuation τ sig (Elt F) := Function.update (H62 m d) (dr main_v55) (out m d 4)
def H64 (d : Dev nD) : Valuation τ sig (Elt F) := (op64 (F := F)).result (H63 m d)
def H65 (d : Dev nD) : Valuation τ sig (Elt F) := (op65 (F := F)).result (H64 m d)
def H66 (d : Dev nD) : Valuation τ sig (Elt F) := (op66 (F := F)).result (H65 m d)
def H67 (d : Dev nD) : Valuation τ sig (Elt F) := (op67 (F := F)).result (H66 m d)
def H68 (d : Dev nD) : Valuation τ sig (Elt F) := (op68 (F := F)).result (H67 m d)
def H69 (d : Dev nD) : Valuation τ sig (Elt F) := (op69 (F := F)).result (H68 m d)
def H70 (d : Dev nD) : Valuation τ sig (Elt F) := (op70 (F := F)).result (H69 m d)
def H71 (d : Dev nD) : Valuation τ sig (Elt F) := (op71 (F := F)).result (H70 m d)
def H72 (d : Dev nD) : Valuation τ sig (Elt F) := left4 (H71 m) d
def H73 (d : Dev nD) : Valuation τ sig (Elt F) := (op73 (F := F)).result (H72 m d)

theorem H1_ne (d : Dev nD) {b : Ref sig .tc} (h : b ≠ main_v0) : H1 m d (dr b) = H0 m d (dr b) := StableHlo.reshape_result_ne (h := h) ..
theorem H2_ne (d : Dev nD) {b : Ref sig .tc} (h : b ≠ main_v1) : H2 m d (dr b) = H1 m d (dr b) := StableHlo.nullary_result_ne (h := h) ..
theorem H3_ne (d : Dev nD) {b : Ref sig .tc} (h : b ≠ main_v2) : H3 m d (dr b) = H2 m d (dr b) := StableHlo.nullary_result_ne (h := h) ..
theorem H4_ne (d : Dev nD) {b : Ref sig .tc} (h : b ≠ main_c) : H4 m d (dr b) = H3 m d (dr b) := StableHlo.nullary_result_ne (h := h) ..
theorem H5_ne (d : Dev nD) {b : Ref sig .tc} (h : b ≠ main_v3) : H5 m d (dr b) = H4 m d (dr b) := StableHlo.unary_result_ne (h := h) ..
theorem H6_ne (d : Dev nD) {b : Ref sig .tc} (h : b ≠ main_v4) : H6 m d (dr b) = H5 m d (dr b) := StableHlo.binary_result_ne (h := h) ..
theorem H7_ne (d : Dev nD) {b : Ref sig .tc} (h : b ≠ main_v5) : H7 m d (dr b) = H6 m d (dr b) := StableHlo.binary_result_ne (h := h) ..
theorem H8_ne (d : Dev nD) {b : Ref sig .tc} (h : b ≠ main_v6) : H8 m d (dr b) = H7 m d (dr b) := StableHlo.unary_result_ne (h := h) ..
theorem H9_ne (d : Dev nD) {b : Ref sig .tc} (h : b ≠ main_cst) : H9 m d (dr b) = H8 m d (dr b) := StableHlo.nullary_result_ne (h := h) ..
theorem H10_ne (d : Dev nD) {b : Ref sig .tc} (h : b ≠ main_v7) : H10 m d (dr b) = H9 m d (dr b) := StableHlo.unary_result_ne (h := h) ..
theorem H11_ne (d : Dev nD) {b : Ref sig .tc} (h : b ≠ main_call0_v0) : H11 m d (dr b) = H10 m d (dr b) := StableHlo.unary_result_ne (h := h) ..
theorem H12_ne (d : Dev nD) {b : Ref sig .tc} (h : b ≠ main_call0_v1) : H12 m d (dr b) = H11 m d (dr b) := StableHlo.unary_result_ne (h := h) ..
theorem H13_ne (d : Dev nD) {b : Ref sig .tc} (h : b ≠ main_call0_v2) : H13 m d (dr b) = H12 m d (dr b) := StableHlo.unary_result_ne (h := h) ..
theorem H14_ne (d : Dev nD) {b : Ref sig .tc} (h : b ≠ main_call0_v3) : H14 m d (dr b) = H13 m d (dr b) := StableHlo.unary_result_ne (h := h) ..
theorem H15_ne (d : Dev nD) {b : Ref sig .tc} (h : b ≠ main_call0_v4) : H15 m d (dr b) = H14 m d (dr b) := StableHlo.binary_result_ne (h := h) ..
theorem H16_ne (d : Dev nD) {b : Ref sig .tc} (h : b ≠ main_v8) : H16 m d (dr b) = H15 m d (dr b) := StableHlo.reshape_result_ne (h := h) ..
theorem H17_ne (d : Dev nD) {b : Ref sig .tc} (h : b ≠ main_v9) : H17 m d (dr b) = H16 m d (dr b) := StableHlo.unary_result_ne (h := h) ..
theorem H18_ne (d : Dev nD) {b : Ref sig .tc} (h : b ≠ main_v10) : H18 m d (dr b) = H17 m d (dr b) := StableHlo.unary_result_ne (h := h) ..
theorem H19_ne (d : Dev nD) {b : Ref sig .tc} (h : b ≠ main_v11) : H19 m d (dr b) = H18 m d (dr b) := Function.update_of_ne (StableHlo.devRef_ne_of_ne h) _ _
theorem H20_ne (d : Dev nD) {b : Ref sig .tc} (h : b ≠ main_v12) : H20 m d (dr b) = H19 m d (dr b) := StableHlo.unary_result_ne (h := h) ..
theorem H21_ne (d : Dev nD) {b : Ref sig .tc} (h : b ≠ main_v13) : H21 m d (dr b) = H20 m d (dr b) := StableHlo.unary_result_ne (h := h) ..
theorem H22_ne (d : Dev nD) {b : Ref sig .tc} (h : b ≠ main_v14) : H22 m d (dr b) = H21 m d (dr b) := StableHlo.reshape_result_ne (h := h) ..
theorem H23_ne (d : Dev nD) {b : Ref sig .tc} (h : b ≠ main_v15) : H23 m d (dr b) = H22 m d (dr b) := StableHlo.reshape_result_ne (h := h) ..
theorem H24_ne (d : Dev nD) {b : Ref sig .tc} (h : b ≠ main_v16) : H24 m d (dr b) = H23 m d (dr b) := StableHlo.reshape_result_ne (h := h) ..
theorem H25_ne (d : Dev nD) {b : Ref sig .tc} (h : b ≠ main_v17) : H25 m d (dr b) = H24 m d (dr b) := StableHlo.reshape_result_ne (h := h) ..
theorem H26_ne (d : Dev nD) {b : Ref sig .tc} (h : b ≠ main_v18) : H26 m d (dr b) = H25 m d (dr b) := StableHlo.reshape_result_ne (h := h) ..
theorem H27_ne (d : Dev nD) {b : Ref sig .tc} (h : b ≠ main_v19) : H27 m d (dr b) = H26 m d (dr b) := StableHlo.reshape_result_ne (h := h) ..
theorem H28_ne (d : Dev nD) {b : Ref sig .tc} (h : b ≠ main_v20) : H28 m d (dr b) = H27 m d (dr b) := left0_ne (H27 m) d h
theorem H29_ne (d : Dev nD) {b : Ref sig .tc} (h : b ≠ main_v21) : H29 m d (dr b) = H28 m d (dr b) := StableHlo.unary_result_ne (h := h) ..
theorem H30_ne (d : Dev nD) {b : Ref sig .tc} (h : b ≠ main_v22) : H30 m d (dr b) = H29 m d (dr b) := Function.update_of_ne (StableHlo.devRef_ne_of_ne h) _ _
theorem H31_ne (d : Dev nD) {b : Ref sig .tc} (h : b ≠ main_v23) : H31 m d (dr b) = H30 m d (dr b) := StableHlo.unary_result_ne (h := h) ..
theorem H32_ne (d : Dev nD) {b : Ref sig .tc} (h : b ≠ main_v24) : H32 m d (dr b) = H31 m d (dr b) := StableHlo.unary_result_ne (h := h) ..
theorem H33_ne (d : Dev nD) {b : Ref sig .tc} (h : b ≠ main_v25) : H33 m d (dr b) = H32 m d (dr b) := StableHlo.reshape_result_ne (h := h) ..
theorem H34_ne (d : Dev nD) {b : Ref sig .tc} (h : b ≠ main_v26) : H34 m d (dr b) = H33 m d (dr b) := StableHlo.reshape_result_ne (h := h) ..
theorem H35_ne (d : Dev nD) {b : Ref sig .tc} (h : b ≠ main_v27) : H35 m d (dr b) = H34 m d (dr b) := StableHlo.reshape_result_ne (h := h) ..
theorem H36_ne (d : Dev nD) {b : Ref sig .tc} (h : b ≠ main_v28) : H36 m d (dr b) = H35 m d (dr b) := StableHlo.reshape_result_ne (h := h) ..
theorem H37_ne (d : Dev nD) {b : Ref sig .tc} (h : b ≠ main_v29) : H37 m d (dr b) = H36 m d (dr b) := StableHlo.reshape_result_ne (h := h) ..
theorem H38_ne (d : Dev nD) {b : Ref sig .tc} (h : b ≠ main_v30) : H38 m d (dr b) = H37 m d (dr b) := StableHlo.reshape_result_ne (h := h) ..
theorem H39_ne (d : Dev nD) {b : Ref sig .tc} (h : b ≠ main_v31) : H39 m d (dr b) = H38 m d (dr b) := left1_ne (H38 m) d h
theorem H40_ne (d : Dev nD) {b : Ref sig .tc} (h : b ≠ main_v32) : H40 m d (dr b) = H39 m d (dr b) := StableHlo.unary_result_ne (h := h) ..
theorem H41_ne (d : Dev nD) {b : Ref sig .tc} (h : b ≠ main_v33) : H41 m d (dr b) = H40 m d (dr b) := Function.update_of_ne (StableHlo.devRef_ne_of_ne h) _ _
theorem H42_ne (d : Dev nD) {b : Ref sig .tc} (h : b ≠ main_v34) : H42 m d (dr b) = H41 m d (dr b) := StableHlo.unary_result_ne (h := h) ..
theorem H43_ne (d : Dev nD) {b : Ref sig .tc} (h : b ≠ main_v35) : H43 m d (dr b) = H42 m d (dr b) := StableHlo.unary_result_ne (h := h) ..
theorem H44_ne (d : Dev nD) {b : Ref sig .tc} (h : b ≠ main_v36) : H44 m d (dr b) = H43 m d (dr b) := StableHlo.reshape_result_ne (h := h) ..
theorem H45_ne (d : Dev nD) {b : Ref sig .tc} (h : b ≠ main_v37) : H45 m d (dr b) = H44 m d (dr b) := StableHlo.reshape_result_ne (h := h) ..
theorem H46_ne (d : Dev nD) {b : Ref sig .tc} (h : b ≠ main_v38) : H46 m d (dr b) = H45 m d (dr b) := StableHlo.reshape_result_ne (h := h) ..
theorem H47_ne (d : Dev nD) {b : Ref sig .tc} (h : b ≠ main_v39) : H47 m d (dr b) = H46 m d (dr b) := StableHlo.reshape_result_ne (h := h) ..
theorem H48_ne (d : Dev nD) {b : Ref sig .tc} (h : b ≠ main_v40) : H48 m d (dr b) = H47 m d (dr b) := StableHlo.reshape_result_ne (h := h) ..
theorem H49_ne (d : Dev nD) {b : Ref sig .tc} (h : b ≠ main_v41) : H49 m d (dr b) = H48 m d (dr b) := StableHlo.reshape_result_ne (h := h) ..
theorem H50_ne (d : Dev nD) {b : Ref sig .tc} (h : b ≠ main_v42) : H50 m d (dr b) = H49 m d (dr b) := left2_ne (H49 m) d h
theorem H51_ne (d : Dev nD) {b : Ref sig .tc} (h : b ≠ main_v43) : H51 m d (dr b) = H50 m d (dr b) := StableHlo.unary_result_ne (h := h) ..
theorem H52_ne (d : Dev nD) {b : Ref sig .tc} (h : b ≠ main_v44) : H52 m d (dr b) = H51 m d (dr b) := Function.update_of_ne (StableHlo.devRef_ne_of_ne h) _ _
theorem H53_ne (d : Dev nD) {b : Ref sig .tc} (h : b ≠ main_v45) : H53 m d (dr b) = H52 m d (dr b) := StableHlo.unary_result_ne (h := h) ..
theorem H54_ne (d : Dev nD) {b : Ref sig .tc} (h : b ≠ main_v46) : H54 m d (dr b) = H53 m d (dr b) := StableHlo.unary_result_ne (h := h) ..
theorem H55_ne (d : Dev nD) {b : Ref sig .tc} (h : b ≠ main_v47) : H55 m d (dr b) = H54 m d (dr b) := StableHlo.reshape_result_ne (h := h) ..
theorem H56_ne (d : Dev nD) {b : Ref sig .tc} (h : b ≠ main_v48) : H56 m d (dr b) = H55 m d (dr b) := StableHlo.reshape_result_ne (h := h) ..
theorem H57_ne (d : Dev nD) {b : Ref sig .tc} (h : b ≠ main_v49) : H57 m d (dr b) = H56 m d (dr b) := StableHlo.reshape_result_ne (h := h) ..
theorem H58_ne (d : Dev nD) {b : Ref sig .tc} (h : b ≠ main_v50) : H58 m d (dr b) = H57 m d (dr b) := StableHlo.reshape_result_ne (h := h) ..
theorem H59_ne (d : Dev nD) {b : Ref sig .tc} (h : b ≠ main_v51) : H59 m d (dr b) = H58 m d (dr b) := StableHlo.reshape_result_ne (h := h) ..
theorem H60_ne (d : Dev nD) {b : Ref sig .tc} (h : b ≠ main_v52) : H60 m d (dr b) = H59 m d (dr b) := StableHlo.reshape_result_ne (h := h) ..
theorem H61_ne (d : Dev nD) {b : Ref sig .tc} (h : b ≠ main_v53) : H61 m d (dr b) = H60 m d (dr b) := left3_ne (H60 m) d h
theorem H62_ne (d : Dev nD) {b : Ref sig .tc} (h : b ≠ main_v54) : H62 m d (dr b) = H61 m d (dr b) := StableHlo.unary_result_ne (h := h) ..
theorem H63_ne (d : Dev nD) {b : Ref sig .tc} (h : b ≠ main_v55) : H63 m d (dr b) = H62 m d (dr b) := Function.update_of_ne (StableHlo.devRef_ne_of_ne h) _ _
theorem H64_ne (d : Dev nD) {b : Ref sig .tc} (h : b ≠ main_v56) : H64 m d (dr b) = H63 m d (dr b) := StableHlo.unary_result_ne (h := h) ..
theorem H65_ne (d : Dev nD) {b : Ref sig .tc} (h : b ≠ main_v57) : H65 m d (dr b) = H64 m d (dr b) := StableHlo.unary_result_ne (h := h) ..
theorem H66_ne (d : Dev nD) {b : Ref sig .tc} (h : b ≠ main_v58) : H66 m d (dr b) = H65 m d (dr b) := StableHlo.reshape_result_ne (h := h) ..
theorem H67_ne (d : Dev nD) {b : Ref sig .tc} (h : b ≠ main_v59) : H67 m d (dr b) = H66 m d (dr b) := StableHlo.reshape_result_ne (h := h) ..
theorem H68_ne (d : Dev nD) {b : Ref sig .tc} (h : b ≠ main_v60) : H68 m d (dr b) = H67 m d (dr b) := StableHlo.reshape_result_ne (h := h) ..
theorem H69_ne (d : Dev nD) {b : Ref sig .tc} (h : b ≠ main_v61) : H69 m d (dr b) = H68 m d (dr b) := StableHlo.reshape_result_ne (h := h) ..
theorem H70_ne (d : Dev nD) {b : Ref sig .tc} (h : b ≠ main_v62) : H70 m d (dr b) = H69 m d (dr b) := StableHlo.reshape_result_ne (h := h) ..
theorem H71_ne (d : Dev nD) {b : Ref sig .tc} (h : b ≠ main_v63) : H71 m d (dr b) = H70 m d (dr b) := StableHlo.reshape_result_ne (h := h) ..
theorem H72_ne (d : Dev nD) {b : Ref sig .tc} (h : b ≠ main_v64) : H72 m d (dr b) = H71 m d (dr b) := left4_ne (H71 m) d h
theorem H73_ne (d : Dev nD) {b : Ref sig .tc} (h : b ≠ main_v65) : H73 m d (dr b) = H72 m d (dr b) := StableHlo.nary_result_ne (h := h) ..

/-- After the first line, the lines before the chunks leave the other arrays alone. -/
theorem keep_pre (d : Dev nD) {b : Ref sig .tc} (h : b ∉ [main_v1, main_v2, main_c, main_v3, main_v4, main_v5, main_v6, main_cst, main_v7, main_call0_v0, main_call0_v1, main_call0_v2, main_call0_v3, main_call0_v4, main_v8, main_v9]) : H17 m d (dr b) = H1 m d (dr b) := by
  simp only [List.mem_cons, List.not_mem_nil, or_false, not_or] at h
  obtain ⟨h2, h3, h4, h5, h6, h7, h8, h9, h10, h11, h12, h13, h14, h15, h16, h17⟩ := h
  rw [H17_ne m d h17, H16_ne m d h16, H15_ne m d h15, H14_ne m d h14, H13_ne m d h13, H12_ne m d h12, H11_ne m d h11, H10_ne m d h10, H9_ne m d h9, H8_ne m d h8, H7_ne m d h7, H6_ne m d h6, H5_ne m d h5, H4_ne m d h4, H3_ne m d h3, H2_ne m d h2]
/-- Chunk 0 writes its own arrays only. -/
theorem keep0 (d : Dev nD) {b : Ref sig .tc} (h : b ∉ [main_v10, main_v11, main_v12, main_v13, main_v14, main_v15, main_v16, main_v17, main_v18, main_v19, main_v20]) : H28 m d (dr b) = H17 m d (dr b) := by
  simp only [List.mem_cons, List.not_mem_nil, or_false, not_or] at h
  obtain ⟨h18, h19, h20, h21, h22, h23, h24, h25, h26, h27, h28⟩ := h
  rw [H28_ne m d h28, H27_ne m d h27, H26_ne m d h26, H25_ne m d h25, H24_ne m d h24, H23_ne m d h23, H22_ne m d h22, H21_ne m d h21, H20_ne m d h20, H19_ne m d h19, H18_ne m d h18]
/-- Chunk 1 writes its own arrays only. -/
theorem keep1 (d : Dev nD) {b : Ref sig .tc} (h : b ∉ [main_v21, main_v22, main_v23, main_v24, main_v25, main_v26, main_v27, main_v28, main_v29, main_v30, main_v31]) : H39 m d (dr b) = H28 m d (dr b) := by
  simp only [List.mem_cons, List.not_mem_nil, or_false, not_or] at h
  obtain ⟨h29, h30, h31, h32, h33, h34, h35, h36, h37, h38, h39⟩ := h
  rw [H39_ne m d h39, H38_ne m d h38, H37_ne m d h37, H36_ne m d h36, H35_ne m d h35, H34_ne m d h34, H33_ne m d h33, H32_ne m d h32, H31_ne m d h31, H30_ne m d h30, H29_ne m d h29]
/-- Chunk 2 writes its own arrays only. -/
theorem keep2 (d : Dev nD) {b : Ref sig .tc} (h : b ∉ [main_v32, main_v33, main_v34, main_v35, main_v36, main_v37, main_v38, main_v39, main_v40, main_v41, main_v42]) : H50 m d (dr b) = H39 m d (dr b) := by
  simp only [List.mem_cons, List.not_mem_nil, or_false, not_or] at h
  obtain ⟨h40, h41, h42, h43, h44, h45, h46, h47, h48, h49, h50⟩ := h
  rw [H50_ne m d h50, H49_ne m d h49, H48_ne m d h48, H47_ne m d h47, H46_ne m d h46, H45_ne m d h45, H44_ne m d h44, H43_ne m d h43, H42_ne m d h42, H41_ne m d h41, H40_ne m d h40]
/-- Chunk 3 writes its own arrays only. -/
theorem keep3 (d : Dev nD) {b : Ref sig .tc} (h : b ∉ [main_v43, main_v44, main_v45, main_v46, main_v47, main_v48, main_v49, main_v50, main_v51, main_v52, main_v53]) : H61 m d (dr b) = H50 m d (dr b) := by
  simp only [List.mem_cons, List.not_mem_nil, or_false, not_or] at h
  obtain ⟨h51, h52, h53, h54, h55, h56, h57, h58, h59, h60, h61⟩ := h
  rw [H61_ne m d h61, H60_ne m d h60, H59_ne m d h59, H58_ne m d h58, H57_ne m d h57, H56_ne m d h56, H55_ne m d h55, H54_ne m d h54, H53_ne m d h53, H52_ne m d h52, H51_ne m d h51]
/-- Chunk 4 writes its own arrays only. -/
theorem keep4 (d : Dev nD) {b : Ref sig .tc} (h : b ∉ [main_v54, main_v55, main_v56, main_v57, main_v58, main_v59, main_v60, main_v61, main_v62, main_v63, main_v64]) : H72 m d (dr b) = H61 m d (dr b) := by
  simp only [List.mem_cons, List.not_mem_nil, or_false, not_or] at h
  obtain ⟨h62, h63, h64, h65, h66, h67, h68, h69, h70, h71, h72⟩ := h
  rw [H72_ne m d h72, H71_ne m d h71, H70_ne m d h70, H69_ne m d h69, H68_ne m d h68, H67_ne m d h67, H66_ne m d h66, H65_ne m d h65, H64_ne m d h64, H63_ne m d h63, H62_ne m d h62]
theorem H1_v0 (d : Dev nD) : H1 m d (dr main_v0) = nums m d := by
  unfold H1; rw [StableHlo.reshape_result']; rfl
theorem H18_x (d : Dev nD) : H18 m d (dr main_v10) = chunk m d 0 := by
  unfold H18; rw [StableHlo.unary_result', keep_pre m d (b := main_v0) (by decide), H1_v0]; rfl
theorem H18_o (d : Dev nD) : H18 m d (dr main_v11) = o₀ m d 0 := by
  rw [H18_ne m d (b := main_v11) (by decide), keep_pre m d (b := main_v11) (by decide), H1_ne m d (b := main_v11) (by decide)]; rfl
theorem H18_t (d : Dev nD) : H18 m d (dr main_arg0) = tbl m d := by
  rw [H18_ne m d (b := main_arg0) (by decide), keep_pre m d (b := main_arg0) (by decide), H1_ne m d (b := main_arg0) (by decide)]; rfl
theorem H29_x (d : Dev nD) : H29 m d (dr main_v21) = chunk m d 1 := by
  unfold H29; rw [StableHlo.unary_result', keep0 m d (b := main_v0) (by decide), keep_pre m d (b := main_v0) (by decide), H1_v0]; rfl
theorem H29_o (d : Dev nD) : H29 m d (dr main_v22) = o₀ m d 1 := by
  rw [H29_ne m d (b := main_v22) (by decide), keep0 m d (b := main_v22) (by decide), keep_pre m d (b := main_v22) (by decide), H1_ne m d (b := main_v22) (by decide)]; rfl
theorem H29_t (d : Dev nD) : H29 m d (dr main_arg0) = tbl m d := by
  rw [H29_ne m d (b := main_arg0) (by decide), keep0 m d (b := main_arg0) (by decide), keep_pre m d (b := main_arg0) (by decide), H1_ne m d (b := main_arg0) (by decide)]; rfl
theorem H40_x (d : Dev nD) : H40 m d (dr main_v32) = chunk m d 2 := by
  unfold H40; rw [StableHlo.unary_result', keep1 m d (b := main_v0) (by decide), keep0 m d (b := main_v0) (by decide), keep_pre m d (b := main_v0) (by decide), H1_v0]; rfl
theorem H40_o (d : Dev nD) : H40 m d (dr main_v33) = o₀ m d 2 := by
  rw [H40_ne m d (b := main_v33) (by decide), keep1 m d (b := main_v33) (by decide), keep0 m d (b := main_v33) (by decide), keep_pre m d (b := main_v33) (by decide), H1_ne m d (b := main_v33) (by decide)]; rfl
theorem H40_t (d : Dev nD) : H40 m d (dr main_arg0) = tbl m d := by
  rw [H40_ne m d (b := main_arg0) (by decide), keep1 m d (b := main_arg0) (by decide), keep0 m d (b := main_arg0) (by decide), keep_pre m d (b := main_arg0) (by decide), H1_ne m d (b := main_arg0) (by decide)]; rfl
theorem H51_x (d : Dev nD) : H51 m d (dr main_v43) = chunk m d 3 := by
  unfold H51; rw [StableHlo.unary_result', keep2 m d (b := main_v0) (by decide), keep1 m d (b := main_v0) (by decide), keep0 m d (b := main_v0) (by decide), keep_pre m d (b := main_v0) (by decide), H1_v0]; rfl
theorem H51_o (d : Dev nD) : H51 m d (dr main_v44) = o₀ m d 3 := by
  rw [H51_ne m d (b := main_v44) (by decide), keep2 m d (b := main_v44) (by decide), keep1 m d (b := main_v44) (by decide), keep0 m d (b := main_v44) (by decide), keep_pre m d (b := main_v44) (by decide), H1_ne m d (b := main_v44) (by decide)]; rfl
theorem H51_t (d : Dev nD) : H51 m d (dr main_arg0) = tbl m d := by
  rw [H51_ne m d (b := main_arg0) (by decide), keep2 m d (b := main_arg0) (by decide), keep1 m d (b := main_arg0) (by decide), keep0 m d (b := main_arg0) (by decide), keep_pre m d (b := main_arg0) (by decide), H1_ne m d (b := main_arg0) (by decide)]; rfl
theorem H62_x (d : Dev nD) : H62 m d (dr main_v54) = chunk m d 4 := by
  unfold H62; rw [StableHlo.unary_result', keep3 m d (b := main_v0) (by decide), keep2 m d (b := main_v0) (by decide), keep1 m d (b := main_v0) (by decide), keep0 m d (b := main_v0) (by decide), keep_pre m d (b := main_v0) (by decide), H1_v0]; rfl
theorem H62_o (d : Dev nD) : H62 m d (dr main_v55) = o₀ m d 4 := by
  rw [H62_ne m d (b := main_v55) (by decide), keep3 m d (b := main_v55) (by decide), keep2 m d (b := main_v55) (by decide), keep1 m d (b := main_v55) (by decide), keep0 m d (b := main_v55) (by decide), keep_pre m d (b := main_v55) (by decide), H1_ne m d (b := main_v55) (by decide)]; rfl
theorem H62_t (d : Dev nD) : H62 m d (dr main_arg0) = tbl m d := by
  rw [H62_ne m d (b := main_arg0) (by decide), keep3 m d (b := main_arg0) (by decide), keep2 m d (b := main_arg0) (by decide), keep1 m d (b := main_arg0) (by decide), keep0 m d (b := main_arg0) (by decide), keep_pre m d (b := main_arg0) (by decide), H1_ne m d (b := main_arg0) (by decide)]; rfl
theorem fin_arg0 (d : Dev nD) : H73 m d (dr main_arg0) = m ((SparseCore.T d).loc main_arg0) := by
  rw [H73_ne m d (b := main_arg0) (by decide), keep4 m d (b := main_arg0) (by decide), keep3 m d (b := main_arg0) (by decide), keep2 m d (b := main_arg0) (by decide), keep1 m d (b := main_arg0) (by decide), keep0 m d (b := main_arg0) (by decide), keep_pre m d (b := main_arg0) (by decide), H1_ne m d (b := main_arg0) (by decide)]; rfl
theorem fin_arg1 (d : Dev nD) : H73 m d (dr main_arg1) = m ((SparseCore.T d).loc main_arg1) := by
  rw [H73_ne m d (b := main_arg1) (by decide), keep4 m d (b := main_arg1) (by decide), keep3 m d (b := main_arg1) (by decide), keep2 m d (b := main_arg1) (by decide), keep1 m d (b := main_arg1) (by decide), keep0 m d (b := main_arg1) (by decide), keep_pre m d (b := main_arg1) (by decide), H1_ne m d (b := main_arg1) (by decide)]; rfl
theorem fin_arg2 (d : Dev nD) : H73 m d (dr main_arg2) = m ((SparseCore.T d).loc main_arg2) := by
  rw [H73_ne m d (b := main_arg2) (by decide), keep4 m d (b := main_arg2) (by decide), keep3 m d (b := main_arg2) (by decide), keep2 m d (b := main_arg2) (by decide), keep1 m d (b := main_arg2) (by decide), keep0 m d (b := main_arg2) (by decide), keep_pre m d (b := main_arg2) (by decide), H1_ne m d (b := main_arg2) (by decide)]; rfl
theorem fin_arg3 (d : Dev nD) : H73 m d (dr main_arg3) = m ((SparseCore.T d).loc main_arg3) := by
  rw [H73_ne m d (b := main_arg3) (by decide), keep4 m d (b := main_arg3) (by decide), keep3 m d (b := main_arg3) (by decide), keep2 m d (b := main_arg3) (by decide), keep1 m d (b := main_arg3) (by decide), keep0 m d (b := main_arg3) (by decide), keep_pre m d (b := main_arg3) (by decide), H1_ne m d (b := main_arg3) (by decide)]; rfl
theorem fin_arg4 (d : Dev nD) : H73 m d (dr main_arg4) = m ((SparseCore.T d).loc main_arg4) := by
  rw [H73_ne m d (b := main_arg4) (by decide), keep4 m d (b := main_arg4) (by decide), keep3 m d (b := main_arg4) (by decide), keep2 m d (b := main_arg4) (by decide), keep1 m d (b := main_arg4) (by decide), keep0 m d (b := main_arg4) (by decide), keep_pre m d (b := main_arg4) (by decide), H1_ne m d (b := main_arg4) (by decide)]; rfl
theorem fin_arg5 (d : Dev nD) : H73 m d (dr main_arg5) = m ((SparseCore.T d).loc main_arg5) := by
  rw [H73_ne m d (b := main_arg5) (by decide), keep4 m d (b := main_arg5) (by decide), keep3 m d (b := main_arg5) (by decide), keep2 m d (b := main_arg5) (by decide), keep1 m d (b := main_arg5) (by decide), keep0 m d (b := main_arg5) (by decide), keep_pre m d (b := main_arg5) (by decide), H1_ne m d (b := main_arg5) (by decide)]; rfl
theorem fin_arg6 (d : Dev nD) : H73 m d (dr main_arg6) = m ((SparseCore.T d).loc main_arg6) := by
  rw [H73_ne m d (b := main_arg6) (by decide), keep4 m d (b := main_arg6) (by decide), keep3 m d (b := main_arg6) (by decide), keep2 m d (b := main_arg6) (by decide), keep1 m d (b := main_arg6) (by decide), keep0 m d (b := main_arg6) (by decide), keep_pre m d (b := main_arg6) (by decide), H1_ne m d (b := main_arg6) (by decide)]; rfl
theorem fin_arg7 (d : Dev nD) : H73 m d (dr main_arg7) = m ((SparseCore.T d).loc main_arg7) := by
  rw [H73_ne m d (b := main_arg7) (by decide), keep4 m d (b := main_arg7) (by decide), keep3 m d (b := main_arg7) (by decide), keep2 m d (b := main_arg7) (by decide), keep1 m d (b := main_arg7) (by decide), keep0 m d (b := main_arg7) (by decide), keep_pre m d (b := main_arg7) (by decide), H1_ne m d (b := main_arg7) (by decide)]; rfl
theorem fin_arg8 (d : Dev nD) : H73 m d (dr main_arg8) = m ((SparseCore.T d).loc main_arg8) := by
  rw [H73_ne m d (b := main_arg8) (by decide), keep4 m d (b := main_arg8) (by decide), keep3 m d (b := main_arg8) (by decide), keep2 m d (b := main_arg8) (by decide), keep1 m d (b := main_arg8) (by decide), keep0 m d (b := main_arg8) (by decide), keep_pre m d (b := main_arg8) (by decide), H1_ne m d (b := main_arg8) (by decide)]; rfl
theorem fin_arg9 (d : Dev nD) : H73 m d (dr main_arg9) = m ((SparseCore.T d).loc main_arg9) := by
  rw [H73_ne m d (b := main_arg9) (by decide), keep4 m d (b := main_arg9) (by decide), keep3 m d (b := main_arg9) (by decide), keep2 m d (b := main_arg9) (by decide), keep1 m d (b := main_arg9) (by decide), keep0 m d (b := main_arg9) (by decide), keep_pre m d (b := main_arg9) (by decide), H1_ne m d (b := main_arg9) (by decide)]; rfl
theorem fin_arg10 (d : Dev nD) : H73 m d (dr main_arg10) = m ((SparseCore.T d).loc main_arg10) := by
  rw [H73_ne m d (b := main_arg10) (by decide), keep4 m d (b := main_arg10) (by decide), keep3 m d (b := main_arg10) (by decide), keep2 m d (b := main_arg10) (by decide), keep1 m d (b := main_arg10) (by decide), keep0 m d (b := main_arg10) (by decide), keep_pre m d (b := main_arg10) (by decide), H1_ne m d (b := main_arg10) (by decide)]; rfl
theorem fin_arg11 (d : Dev nD) : H73 m d (dr main_arg11) = m ((SparseCore.T d).loc main_arg11) := by
  rw [H73_ne m d (b := main_arg11) (by decide), keep4 m d (b := main_arg11) (by decide), keep3 m d (b := main_arg11) (by decide), keep2 m d (b := main_arg11) (by decide), keep1 m d (b := main_arg11) (by decide), keep0 m d (b := main_arg11) (by decide), keep_pre m d (b := main_arg11) (by decide), H1_ne m d (b := main_arg11) (by decide)]; rfl
theorem fin_arg12 (d : Dev nD) : H73 m d (dr main_arg12) = m ((SparseCore.T d).loc main_arg12) := by
  rw [H73_ne m d (b := main_arg12) (by decide), keep4 m d (b := main_arg12) (by decide), keep3 m d (b := main_arg12) (by decide), keep2 m d (b := main_arg12) (by decide), keep1 m d (b := main_arg12) (by decide), keep0 m d (b := main_arg12) (by decide), keep_pre m d (b := main_arg12) (by decide), H1_ne m d (b := main_arg12) (by decide)]; rfl

/-- What the five attention calls leave. -/
def parts (d : Dev nD) : Fin 5 → Vec F S2000x128 .f32
  | 0 => (dat1 (H27 m) d).arrAt 14 cfg1.N
  | 1 => (dat3 (H38 m) d).arrAt 14 cfg3.N
  | 2 => (dat5 (H49 m) d).arrAt 14 cfg5.N
  | 3 => (dat7 (H60 m) d).arrAt 14 cfg7.N
  | 4 => (dat9 (H71 m) d).arrAt 14 cfg9.N

/-- They joined. -/
def joined (u : Fin 5 → Vec F S2000x128 .f32) : Vec F S10000x128 .f32 :=
  concatenate S10000x128 0 [⟨S2000x128, u 0⟩, ⟨S2000x128, u 1⟩, ⟨S2000x128, u 2⟩, ⟨S2000x128, u 3⟩, ⟨S2000x128, u 4⟩]
    concatenates_S2000x128_S2000x128_S2000x128_S2000x128_S2000x128_S10000x128_d0
theorem part0 (d : Dev nD) : H72 m d (dr main_v20) = parts m d 0 := by
  rw [keep4 m d (b := main_v20) (by decide), keep3 m d (b := main_v20) (by decide), keep2 m d (b := main_v20) (by decide), keep1 m d (b := main_v20) (by decide)]; exact left0_self (H27 m) d
theorem part1 (d : Dev nD) : H72 m d (dr main_v31) = parts m d 1 := by
  rw [keep4 m d (b := main_v31) (by decide), keep3 m d (b := main_v31) (by decide), keep2 m d (b := main_v31) (by decide)]; exact left1_self (H38 m) d
theorem part2 (d : Dev nD) : H72 m d (dr main_v42) = parts m d 2 := by
  rw [keep4 m d (b := main_v42) (by decide), keep3 m d (b := main_v42) (by decide)]; exact left2_self (H49 m) d
theorem part3 (d : Dev nD) : H72 m d (dr main_v53) = parts m d 3 := by
  rw [keep4 m d (b := main_v53) (by decide)]; exact left3_self (H60 m) d
theorem part4 (d : Dev nD) : H72 m d (dr main_v64) = parts m d 4 := by
  exact left4_self (H71 m) d
theorem fin_result (d : Dev nD) : H73 m d (dr main_v65) = joined (parts m d) := by
  have e : H73 m d (dr main_v65) = joined (F := F) (fun | 0 => H72 m d (dr main_v20) | 1 => H72 m d (dr main_v31) | 2 => H72 m d (dr main_v42) | 3 => H72 m d (dr main_v53) | 4 => H72 m d (dr main_v64)) := by
    unfold H73; rw [StableHlo.nary_result']; rfl
  rw [e, part0, part1, part2, part3, part4]; rfl

end Cert.Proof.Layer
-- ==== Proof.Layer.Main.lean ====
/-
  The program's run: its host lines, the five gathers and the five attention calls, in order.
-/
module

public import proofs.«01_k».proof.Proof.Layer.Host

@[expose] public section

set_option maxRecDepth 65536

noncomputable section

namespace Cert.Proof.Layer

open Cert.LayerIdeal Cert.LayerIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_congr wp_hlo_within)

variable {F : FTy → Type}

local notation "𝕄" => MT nD τ sig (HIx 5) (Elt F) ℕ UU ℕ

variable [FloatOps F]

variable (m : (ℓ : Loc nD τ sig) → Buf (Elt F) ℓ) (ρ : Dev nD → PrngReg)

/-- What the claims read: the thirteen arguments as they were, the result. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1)) ∗ ((SparseCore.T d).loc main_arg2 ↦{fullShare} m ((SparseCore.T d).loc main_arg2)) ∗ ((SparseCore.T d).loc main_arg3 ↦{fullShare} m ((SparseCore.T d).loc main_arg3)) ∗ ((SparseCore.T d).loc main_arg4 ↦{fullShare} m ((SparseCore.T d).loc main_arg4)) ∗ ((SparseCore.T d).loc main_arg5 ↦{fullShare} m ((SparseCore.T d).loc main_arg5)) ∗ ((SparseCore.T d).loc main_arg6 ↦{fullShare} m ((SparseCore.T d).loc main_arg6)) ∗ ((SparseCore.T d).loc main_arg7 ↦{fullShare} m ((SparseCore.T d).loc main_arg7)) ∗ ((SparseCore.T d).loc main_arg8 ↦{fullShare} m ((SparseCore.T d).loc main_arg8)) ∗ ((SparseCore.T d).loc main_arg9 ↦{fullShare} m ((SparseCore.T d).loc main_arg9)) ∗ ((SparseCore.T d).loc main_arg10 ↦{fullShare} m ((SparseCore.T d).loc main_arg10)) ∗ ((SparseCore.T d).loc main_arg11 ↦{fullShare} m ((SparseCore.T d).loc main_arg11)) ∗ ((SparseCore.T d).loc main_arg12 ↦{fullShare} m ((SparseCore.T d).loc main_arg12)) ∗ (SparseCore.T d).loc main_v65 ↦{fullShare} (joined (parts m d)))

set_option maxHeartbeats 4000000 in
theorem held_fin (d : Dev nD) : (held (SparseCore.T d) uc (H73 m d) : sProp 𝕄) ⊢ FIN m d := by
  unfold held FIN
  rw [SparseCore.bigSep_erase' (dr_mem main_arg0 rfl), SparseCore.bigSep_erase' (Finset.mem_erase.mpr ⟨by decide, dr_mem main_arg1 rfl⟩), SparseCore.bigSep_erase' (Finset.mem_erase.mpr ⟨by decide, Finset.mem_erase.mpr ⟨by decide, dr_mem main_arg2 rfl⟩⟩), SparseCore.bigSep_erase' (Finset.mem_erase.mpr ⟨by decide, Finset.mem_erase.mpr ⟨by decide, Finset.mem_erase.mpr ⟨by decide, dr_mem main_arg3 rfl⟩⟩⟩), SparseCore.bigSep_erase' (Finset.mem_erase.mpr ⟨by decide, Finset.mem_erase.mpr ⟨by decide, Finset.mem_erase.mpr ⟨by decide, Finset.mem_erase.mpr ⟨by decide, dr_mem main_arg4 rfl⟩⟩⟩⟩), SparseCore.bigSep_erase' (Finset.mem_erase.mpr ⟨by decide, Finset.mem_erase.mpr ⟨by decide, Finset.mem_erase.mpr ⟨by decide, Finset.mem_erase.mpr ⟨by decide, Finset.mem_erase.mpr ⟨by decide, dr_mem main_arg5 rfl⟩⟩⟩⟩⟩), SparseCore.bigSep_erase' (Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, dr_mem main_arg6 rfl⟩⟩⟩⟩⟩⟩), SparseCore.bigSep_erase' (Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, dr_mem main_arg7 rfl⟩⟩⟩⟩⟩⟩⟩), SparseCore.bigSep_erase' (Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, dr_mem main_arg8 rfl⟩⟩⟩⟩⟩⟩⟩⟩), SparseCore.bigSep_erase' (Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, dr_mem main_arg9 rfl⟩⟩⟩⟩⟩⟩⟩⟩⟩), SparseCore.bigSep_erase' (Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, dr_mem main_arg10 rfl⟩⟩⟩⟩⟩⟩⟩⟩⟩⟩), SparseCore.bigSep_erase' (Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, dr_mem main_arg11 rfl⟩⟩⟩⟩⟩⟩⟩⟩⟩⟩⟩), SparseCore.bigSep_erase' (Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, dr_mem main_arg12 rfl⟩⟩⟩⟩⟩⟩⟩⟩⟩⟩⟩⟩), SparseCore.bigSep_erase' (Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, Finset.mem_erase.mpr ⟨by decide, dr_mem main_v65 rfl⟩⟩⟩⟩⟩⟩⟩⟩⟩⟩⟩⟩⟩),
    fin_arg0, fin_arg1, fin_arg2, fin_arg3, fin_arg4, fin_arg5, fin_arg6, fin_arg7, fin_arg8, fin_arg9, fin_arg10, fin_arg11, fin_arg12, fin_result]
  iintro ⟨G0, G1, G2, G3, G4, G5, G6, G7, G8, G9, G10, G11, G12, G13, -⟩
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [G8]; · iexact G8
  isplitl [G9]; · iexact G9
  isplitl [G10]; · iexact G10
  isplitl [G11]; · iexact G11
  isplitl [G12]; · iexact G12
  iexact G13

theorem dealt_eq (d : Dev nD) : dealt (F := F) d = iprop(
    (Pipeline.cellsGhost (pinned (F := F)) (EP (F := F)) 0 d ∗ Pipeline.cellsGhost (pinned (F := F)) (EP (F := F)) 1 d ∗ Pipeline.cellsGhost (pinned (F := F)) (EP (F := F)) 2 d ∗ Pipeline.cellsGhost (pinned (F := F)) (EP (F := F)) 3 d ∗ Pipeline.cellsGhost (pinned (F := F)) (EP (F := F)) 4 d)
    ∗ (Pipeline.toksInit (pinned (F := F)) (EP (F := F)) 0 d ∗ Pipeline.toksInit (pinned (F := F)) (EP (F := F)) 1 d ∗ Pipeline.toksInit (pinned (F := F)) (EP (F := F)) 2 d ∗ Pipeline.toksInit (pinned (F := F)) (EP (F := F)) 3 d ∗ Pipeline.toksInit (pinned (F := F)) (EP (F := F)) 4 d)) := by
  unfold dealt
  rw [bigSep_univ_eq_bigSepL [(0 : Fin 5), 1, 2, 3, 4] (by decide) (by decide), bigSep_univ_eq_bigSepL [(0 : Fin 5), 1, 2, 3, 4] (by decide) (by decide)]
  rfl

set_option maxHeartbeats 8000000 in
/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ dealt (F := F) d)
      ⊢ wp frame (wpE ((K (F := F)).defs (D (F := F))) 𝒱 (SparseCore.T d) none) Set.univ (main d)
          fun _ => iprop((K (F := F)).tcSt EH d 5 ∗ FIN m d ∗ (K (F := F)).tcEnd d) := by
  unfold SparseCore.Cfg.tcRes SparseCore.Cfg.tcEnd
  rw [show (unscopedBufs d (fun b => m ((SparseCore.T d).loc b)) : sProp 𝕄) = held (SparseCore.T d) uc (H0 m d) from Pipeline.unscopedBufs_held d (H0 m d), dealt_eq]
  simp only [main, main_part0, main_part1, fn_kron.body, wp_bind, wp_pure]
  iintro ⟨#Hctx, Hst, ⟨Hb, Hheld, Hts, -⟩, ⟨Hg0, Hg1, Hg2, Hg3, Hg4⟩, Ht0, Ht1, Ht2, Ht3, Ht4⟩
  iapply (host_step d op1 (Pipeline.sub_ucRefs op1 (StableHlo.reshape_bufs_sub _ _ _ _ _ _)) rfl (H0 m d))
  isplitl [Hb]; · iexact Hb
  isplitl [Hheld]; · iexact Hheld
  iintro ⟨Hb, Hheld⟩
  iapply (host_step d op2 (Pipeline.sub_ucRefs op2 (StableHlo.nullary_bufs_sub _ _ _)) rfl (H1 m d))
  isplitl [Hb]; · iexact Hb
  isplitl [Hheld]; · iexact Hheld
  iintro ⟨Hb, Hheld⟩
  iapply (host_step d op3 (Pipeline.sub_ucRefs op3 (StableHlo.nullary_bufs_sub _ _ _)) rfl (H2 m d))
  isplitl [Hb]; · iexact Hb
  isplitl [Hheld]; · iexact Hheld
  iintro ⟨Hb, Hheld⟩
  iapply (host_step d op4 (Pipeline.sub_ucRefs op4 (StableHlo.nullary_bufs_sub _ _ _)) rfl (H3 m d))
  isplitl [Hb]; · iexact Hb
  isplitl [Hheld]; · iexact Hheld
  iintro ⟨Hb, Hheld⟩
  iapply (host_step d op5 (Pipeline.sub_ucRefs op5 (StableHlo.unary_bufs_sub _ _ _ _ _)) rfl (H4 m d))
  isplitl [Hb]; · iexact Hb
  isplitl [Hheld]; · iexact Hheld
  iintro ⟨Hb, Hheld⟩
  iapply (host_step d op6 (Pipeline.sub_ucRefs op6 (StableHlo.binary_bufs_sub _ _ _ _ _ _ _)) rfl (H5 m d))
  isplitl [Hb]; · iexact Hb
  isplitl [Hheld]; · iexact Hheld
  iintro ⟨Hb, Hheld⟩
  iapply (host_step d op7 (Pipeline.sub_ucRefs op7 (StableHlo.binary_bufs_sub _ _ _ _ _ _ _)) rfl (H6 m d))
  isplitl [Hb]; · iexact Hb
  isplitl [Hheld]; · iexact Hheld
  iintro ⟨Hb, Hheld⟩
  iapply (host_step d op8 (Pipeline.sub_ucRefs op8 (StableHlo.unary_bufs_sub _ _ _ _ _)) rfl (H7 m d))
  isplitl [Hb]; · iexact Hb
  isplitl [Hheld]; · iexact Hheld
  iintro ⟨Hb, Hheld⟩
  iapply (host_step d op9 (Pipeline.sub_ucRefs op9 (StableHlo.nullary_bufs_sub _ _ _)) rfl (H8 m d))
  isplitl [Hb]; · iexact Hb
  isplitl [Hheld]; · iexact Hheld
  iintro ⟨Hb, Hheld⟩
  iapply (host_step d op10 (Pipeline.sub_ucRefs op10 (StableHlo.unary_bufs_sub _ _ _ _ _)) rfl (H9 m d))
  isplitl [Hb]; · iexact Hb
  isplitl [Hheld]; · iexact Hheld
  iintro ⟨Hb, Hheld⟩
  iapply (host_step d op11 (Pipeline.sub_ucRefs op11 (StableHlo.unary_bufs_sub _ _ _ _ _)) rfl (H10 m d))
  isplitl [Hb]; · iexact Hb
  isplitl [Hheld]; · iexact Hheld
  iintro ⟨Hb, Hheld⟩
  iapply (host_step d op12 (Pipeline.sub_ucRefs op12 (StableHlo.unary_bufs_sub _ _ _ _ _)) rfl (H11 m d))
  isplitl [Hb]; · iexact Hb
  isplitl [Hheld]; · iexact Hheld
  iintro ⟨Hb, Hheld⟩
  iapply (host_step d op13 (Pipeline.sub_ucRefs op13 (StableHlo.unary_bufs_sub _ _ _ _ _)) rfl (H12 m d))
  isplitl [Hb]; · iexact Hb
  isplitl [Hheld]; · iexact Hheld
  iintro ⟨Hb, Hheld⟩
  iapply (host_step d op14 (Pipeline.sub_ucRefs op14 (StableHlo.unary_bufs_sub _ _ _ _ _)) rfl (H13 m d))
  isplitl [Hb]; · iexact Hb
  isplitl [Hheld]; · iexact Hheld
  iintro ⟨Hb, Hheld⟩
  iapply (host_step d op15 (Pipeline.sub_ucRefs op15 (StableHlo.binary_bufs_sub _ _ _ _ _ _ _)) rfl (H14 m d))
  isplitl [Hb]; · iexact Hb
  isplitl [Hheld]; · iexact Hheld
  iintro ⟨Hb, Hheld⟩
  iapply (host_step d op16 (Pipeline.sub_ucRefs op16 (StableHlo.reshape_bufs_sub _ _ _ _ _ _)) rfl (H15 m d))
  isplitl [Hb]; · iexact Hb
  isplitl [Hheld]; · iexact Hheld
  iintro ⟨Hb, Hheld⟩
  imodintro
  iapply (host_step d op17 (Pipeline.sub_ucRefs op17 (StableHlo.unary_bufs_sub _ _ _ _ _)) rfl (H16 m d))
  isplitl [Hb]; · iexact Hb
  isplitl [Hheld]; · iexact Hheld
  iintro ⟨Hb, Hheld⟩
  iapply (host_step d op18 (Pipeline.sub_ucRefs op18 (StableHlo.unary_bufs_sub _ _ _ _ _)) rfl (H17 m d))
  isplitl [Hb]; · iexact Hb
  isplitl [Hheld]; · iexact Hheld
  iintro ⟨Hb, Hheld⟩
  iapply (call_step m κ d 0 main_v10 main_v11 rfl rfl (by decide) (by decide) (by decide) (H18 m d) (out m d 0)
    (by rw [st_eq0, H18_x, H18_o, H18_t]) (by rw [dn_eq0, H18_x, H18_t]))
  isplitr; · iexact Hctx
  isplitl [Hst]; · iexact Hst
  isplitl [Hheld]; · iexact Hheld
  iintro ⟨Hst, Hheld⟩
  iapply (host_step d op20 (Pipeline.sub_ucRefs op20 (StableHlo.unary_bufs_sub _ _ _ _ _)) rfl (H19 m d))
  isplitl [Hb]; · iexact Hb
  isplitl [Hheld]; · iexact Hheld
  iintro ⟨Hb, Hheld⟩
  iapply (host_step d op21 (Pipeline.sub_ucRefs op21 (StableHlo.unary_bufs_sub _ _ _ _ _)) rfl (H20 m d))
  isplitl [Hb]; · iexact Hb
  isplitl [Hheld]; · iexact Hheld
  iintro ⟨Hb, Hheld⟩
  iapply (host_step d op22 (Pipeline.sub_ucRefs op22 (StableHlo.reshape_bufs_sub _ _ _ _ _ _)) rfl (H21 m d))
  isplitl [Hb]; · iexact Hb
  isplitl [Hheld]; · iexact Hheld
  iintro ⟨Hb, Hheld⟩
  iapply (host_step d op23 (Pipeline.sub_ucRefs op23 (StableHlo.reshape_bufs_sub _ _ _ _ _ _)) rfl (H22 m d))
  isplitl [Hb]; · iexact Hb
  isplitl [Hheld]; · iexact Hheld
  iintro ⟨Hb, Hheld⟩
  iapply (host_step d op24 (Pipeline.sub_ucRefs op24 (StableHlo.reshape_bufs_sub _ _ _ _ _ _)) rfl (H23 m d))
  isplitl [Hb]; · iexact Hb
  isplitl [Hheld]; · iexact Hheld
  iintro ⟨Hb, Hheld⟩
  iapply (host_step d op25 (Pipeline.sub_ucRefs op25 (StableHlo.reshape_bufs_sub _ _ _ _ _ _)) rfl (H24 m d))
  isplitl [Hb]; · iexact Hb
  isplitl [Hheld]; · iexact Hheld
  iintro ⟨Hb, Hheld⟩
  iapply (host_step d op26 (Pipeline.sub_ucRefs op26 (StableHlo.reshape_bufs_sub _ _ _ _ _ _)) rfl (H25 m d))
  isplitl [Hb]; · iexact Hb
  isplitl [Hheld]; · iexact Hheld
  iintro ⟨Hb, Hheld⟩
  iapply (host_step d op27 (Pipeline.sub_ucRefs op27 (StableHlo.reshape_bufs_sub _ _ _ _ _ _)) rfl (H26 m d))
  isplitl [Hb]; · iexact Hb
  isplitl [Hheld]; · iexact Hheld
  iintro ⟨Hb, Hheld⟩
  iapply (region_step m κ d 0 (H27 m) (left0 (H27 m)) (left0_arr (H27 m)) (left0_off (H27 m) d))
  isplitr; · iexact Hctx
  isplitl [Hb]; · iexact Hb
  isplitl [Hst]; · iexact Hst
  isplitl [Hheld]; · iexact Hheld
  isplitl [Hg0]; · iexact Hg0
  isplitl [Ht0]; · iexact Ht0
  iintro ⟨Hb, Hst, Hheld⟩
  iapply (host_step d op29 (Pipeline.sub_ucRefs op29 (StableHlo.unary_bufs_sub _ _ _ _ _)) rfl (H28 m d))
  isplitl [Hb]; · iexact Hb
  isplitl [Hheld]; · iexact Hheld
  iintro ⟨Hb, Hheld⟩
  iapply (call_step m κ d 1 main_v21 main_v22 rfl rfl (by decide) (by decide) (by decide) (H29 m d) (out m d 1)
    (by rw [st_eq1, H29_x, H29_o, H29_t]) (by rw [dn_eq1, H29_x, H29_t]))
  isplitr; · iexact Hctx
  isplitl [Hst]; · iexact Hst
  isplitl [Hheld]; · iexact Hheld
  iintro ⟨Hst, Hheld⟩
  iapply (host_step d op31 (Pipeline.sub_ucRefs op31 (StableHlo.unary_bufs_sub _ _ _ _ _)) rfl (H30 m d))
  isplitl [Hb]; · iexact Hb
  isplitl [Hheld]; · iexact Hheld
  iintro ⟨Hb, Hheld⟩
  iapply (host_step d op32 (Pipeline.sub_ucRefs op32 (StableHlo.unary_bufs_sub _ _ _ _ _)) rfl (H31 m d))
  isplitl [Hb]; · iexact Hb
  isplitl [Hheld]; · iexact Hheld
  iintro ⟨Hb, Hheld⟩
  iapply (host_step d op33 (Pipeline.sub_ucRefs op33 (StableHlo.reshape_bufs_sub _ _ _ _ _ _)) rfl (H32 m d))
  isplitl [Hb]; · iexact Hb
  isplitl [Hheld]; · iexact Hheld
  iintro ⟨Hb, Hheld⟩
  iapply (host_step d op34 (Pipeline.sub_ucRefs op34 (StableHlo.reshape_bufs_sub _ _ _ _ _ _)) rfl (H33 m d))
  isplitl [Hb]; · iexact Hb
  isplitl [Hheld]; · iexact Hheld
  iintro ⟨Hb, Hheld⟩
  iapply (host_step d op35 (Pipeline.sub_ucRefs op35 (StableHlo.reshape_bufs_sub _ _ _ _ _ _)) rfl (H34 m d))
  isplitl [Hb]; · iexact Hb
  isplitl [Hheld]; · iexact Hheld
  iintro ⟨Hb, Hheld⟩
  iapply (host_step d op36 (Pipeline.sub_ucRefs op36 (StableHlo.reshape_bufs_sub _ _ _ _ _ _)) rfl (H35 m d))
  isplitl [Hb]; · iexact Hb
  isplitl [Hheld]; · iexact Hheld
  iintro ⟨Hb, Hheld⟩
  iapply (host_step d op37 (Pipeline.sub_ucRefs op37 (StableHlo.reshape_bufs_sub _ _ _ _ _ _)) rfl (H36 m d))
  isplitl [Hb]; · iexact Hb
  isplitl [Hheld]; · iexact Hheld
  iintro ⟨Hb, Hheld⟩
  iapply (host_step d op38 (Pipeline.sub_ucRefs op38 (StableHlo.reshape_bufs_sub _ _ _ _ _ _)) rfl (H37 m d))
  isplitl [Hb]; · iexact Hb
  isplitl [Hheld]; · iexact Hheld
  iintro ⟨Hb, Hheld⟩
  iapply (region_step m κ d 1 (H38 m) (left1 (H38 m)) (left1_arr (H38 m)) (left1_off (H38 m) d))
  isplitr; · iexact Hctx
  isplitl [Hb]; · iexact Hb
  isplitl [Hst]; · iexact Hst
  isplitl [Hheld]; · iexact Hheld
  isplitl [Hg1]; · iexact Hg1
  isplitl [Ht1]; · iexact Ht1
  iintro ⟨Hb, Hst, Hheld⟩
  iapply (host_step d op40 (Pipeline.sub_ucRefs op40 (StableHlo.unary_bufs_sub _ _ _ _ _)) rfl (H39 m d))
  isplitl [Hb]; · iexact Hb
  isplitl [Hheld]; · iexact Hheld
  iintro ⟨Hb, Hheld⟩
  iapply (call_step m κ d 2 main_v32 main_v33 rfl rfl (by decide) (by decide) (by decide) (H40 m d) (out m d 2)
    (by rw [st_eq2, H40_x, H40_o, H40_t]) (by rw [dn_eq2, H40_x, H40_t]))
  isplitr; · iexact Hctx
  isplitl [Hst]; · iexact Hst
  isplitl [Hheld]; · iexact Hheld
  iintro ⟨Hst, Hheld⟩
  iapply (host_step d op42 (Pipeline.sub_ucRefs op42 (StableHlo.unary_bufs_sub _ _ _ _ _)) rfl (H41 m d))
  isplitl [Hb]; · iexact Hb
  isplitl [Hheld]; · iexact Hheld
  iintro ⟨Hb, Hheld⟩
  iapply (host_step d op43 (Pipeline.sub_ucRefs op43 (StableHlo.unary_bufs_sub _ _ _ _ _)) rfl (H42 m d))
  isplitl [Hb]; · iexact Hb
  isplitl [Hheld]; · iexact Hheld
  iintro ⟨Hb, Hheld⟩
  iapply (host_step d op44 (Pipeline.sub_ucRefs op44 (StableHlo.reshape_bufs_sub _ _ _ _ _ _)) rfl (H43 m d))
  isplitl [Hb]; · iexact Hb
  isplitl [Hheld]; · iexact Hheld
  iintro ⟨Hb, Hheld⟩
  iapply (host_step d op45 (Pipeline.sub_ucRefs op45 (StableHlo.reshape_bufs_sub _ _ _ _ _ _)) rfl (H44 m d))
  isplitl [Hb]; · iexact Hb
  isplitl [Hheld]; · iexact Hheld
  iintro ⟨Hb, Hheld⟩
  iapply (host_step d op46 (Pipeline.sub_ucRefs op46 (StableHlo.reshape_bufs_sub _ _ _ _ _ _)) rfl (H45 m d))
  isplitl [Hb]; · iexact Hb
  isplitl [Hheld]; · iexact Hheld
  iintro ⟨Hb, Hheld⟩
  iapply (host_step d op47 (Pipeline.sub_ucRefs op47 (StableHlo.reshape_bufs_sub _ _ _ _ _ _)) rfl (H46 m d))
  isplitl [Hb]; · iexact Hb
  isplitl [Hheld]; · iexact Hheld
  iintro ⟨Hb, Hheld⟩
  iapply (host_step d op48 (Pipeline.sub_ucRefs op48 (StableHlo.reshape_bufs_sub _ _ _ _ _ _)) rfl (H47 m d))
  isplitl [Hb]; · iexact Hb
  isplitl [Hheld]; · iexact Hheld
  iintro ⟨Hb, Hheld⟩
  iapply (host_step d op49 (Pipeline.sub_ucRefs op49 (StableHlo.reshape_bufs_sub _ _ _ _ _ _)) rfl (H48 m d))
  isplitl [Hb]; · iexact Hb
  isplitl [Hheld]; · iexact Hheld
  iintro ⟨Hb, Hheld⟩
  iapply (region_step m κ d 2 (H49 m) (left2 (H49 m)) (left2_arr (H49 m)) (left2_off (H49 m) d))
  isplitr; · iexact Hctx
  isplitl [Hb]; · iexact Hb
  isplitl [Hst]; · iexact Hst
  isplitl [Hheld]; · iexact Hheld
  isplitl [Hg2]; · iexact Hg2
  isplitl [Ht2]; · iexact Ht2
  iintro ⟨Hb, Hst, Hheld⟩
  iapply (host_step d op51 (Pipeline.sub_ucRefs op51 (StableHlo.unary_bufs_sub _ _ _ _ _)) rfl (H50 m d))
  isplitl [Hb]; · iexact Hb
  isplitl [Hheld]; · iexact Hheld
  iintro ⟨Hb, Hheld⟩
  iapply (call_step m κ d 3 main_v43 main_v44 rfl rfl (by decide) (by decide) (by decide) (H51 m d) (out m d 3)
    (by rw [st_eq3, H51_x, H51_o, H51_t]) (by rw [dn_eq3, H51_x, H51_t]))
  isplitr; · iexact Hctx
  isplitl [Hst]; · iexact Hst
  isplitl [Hheld]; · iexact Hheld
  iintro ⟨Hst, Hheld⟩
  iapply (host_step d op53 (Pipeline.sub_ucRefs op53 (StableHlo.unary_bufs_sub _ _ _ _ _)) rfl (H52 m d))
  isplitl [Hb]; · iexact Hb
  isplitl [Hheld]; · iexact Hheld
  iintro ⟨Hb, Hheld⟩
  iapply (host_step d op54 (Pipeline.sub_ucRefs op54 (StableHlo.unary_bufs_sub _ _ _ _ _)) rfl (H53 m d))
  isplitl [Hb]; · iexact Hb
  isplitl [Hheld]; · iexact Hheld
  iintro ⟨Hb, Hheld⟩
  iapply (host_step d op55 (Pipeline.sub_ucRefs op55 (StableHlo.reshape_bufs_sub _ _ _ _ _ _)) rfl (H54 m d))
  isplitl [Hb]; · iexact Hb
  isplitl [Hheld]; · iexact Hheld
  iintro ⟨Hb, Hheld⟩
  iapply (host_step d op56 (Pipeline.sub_ucRefs op56 (StableHlo.reshape_bufs_sub _ _ _ _ _ _)) rfl (H55 m d))
  isplitl [Hb]; · iexact Hb
  isplitl [Hheld]; · iexact Hheld
  iintro ⟨Hb, Hheld⟩
  iapply (host_step d op57 (Pipeline.sub_ucRefs op57 (StableHlo.reshape_bufs_sub _ _ _ _ _ _)) rfl (H56 m d))
  isplitl [Hb]; · iexact Hb
  isplitl [Hheld]; · iexact Hheld
  iintro ⟨Hb, Hheld⟩
  iapply (host_step d op58 (Pipeline.sub_ucRefs op58 (StableHlo.reshape_bufs_sub _ _ _ _ _ _)) rfl (H57 m d))
  isplitl [Hb]; · iexact Hb
  isplitl [Hheld]; · iexact Hheld
  iintro ⟨Hb, Hheld⟩
  iapply (host_step d op59 (Pipeline.sub_ucRefs op59 (StableHlo.reshape_bufs_sub _ _ _ _ _ _)) rfl (H58 m d))
  isplitl [Hb]; · iexact Hb
  isplitl [Hheld]; · iexact Hheld
  iintro ⟨Hb, Hheld⟩
  iapply (host_step d op60 (Pipeline.sub_ucRefs op60 (StableHlo.reshape_bufs_sub _ _ _ _ _ _)) rfl (H59 m d))
  isplitl [Hb]; · iexact Hb
  isplitl [Hheld]; · iexact Hheld
  iintro ⟨Hb, Hheld⟩
  iapply (region_step m κ d 3 (H60 m) (left3 (H60 m)) (left3_arr (H60 m)) (left3_off (H60 m) d))
  isplitr; · iexact Hctx
  isplitl [Hb]; · iexact Hb
  isplitl [Hst]; · iexact Hst
  isplitl [Hheld]; · iexact Hheld
  isplitl [Hg3]; · iexact Hg3
  isplitl [Ht3]; · iexact Ht3
  iintro ⟨Hb, Hst, Hheld⟩
  iapply (host_step d op62 (Pipeline.sub_ucRefs op62 (StableHlo.unary_bufs_sub _ _ _ _ _)) rfl (H61 m d))
  isplitl [Hb]; · iexact Hb
  isplitl [Hheld]; · iexact Hheld
  iintro ⟨Hb, Hheld⟩
  iapply (call_step m κ d 4 main_v54 main_v55 rfl rfl (by decide) (by decide) (by decide) (H62 m d) (out m d 4)
    (by rw [st_eq4, H62_x, H62_o, H62_t]) (by rw [dn_eq4, H62_x, H62_t]))
  isplitr; · iexact Hctx
  isplitl [Hst]; · iexact Hst
  isplitl [Hheld]; · iexact Hheld
  iintro ⟨Hst, Hheld⟩
  iapply (host_step d op64 (Pipeline.sub_ucRefs op64 (StableHlo.unary_bufs_sub _ _ _ _ _)) rfl (H63 m d))
  isplitl [Hb]; · iexact Hb
  isplitl [Hheld]; · iexact Hheld
  iintro ⟨Hb, Hheld⟩
  iapply (host_step d op65 (Pipeline.sub_ucRefs op65 (StableHlo.unary_bufs_sub _ _ _ _ _)) rfl (H64 m d))
  isplitl [Hb]; · iexact Hb
  isplitl [Hheld]; · iexact Hheld
  iintro ⟨Hb, Hheld⟩
  iapply (host_step d op66 (Pipeline.sub_ucRefs op66 (StableHlo.reshape_bufs_sub _ _ _ _ _ _)) rfl (H65 m d))
  isplitl [Hb]; · iexact Hb
  isplitl [Hheld]; · iexact Hheld
  iintro ⟨Hb, Hheld⟩
  iapply (host_step d op67 (Pipeline.sub_ucRefs op67 (StableHlo.reshape_bufs_sub _ _ _ _ _ _)) rfl (H66 m d))
  isplitl [Hb]; · iexact Hb
  isplitl [Hheld]; · iexact Hheld
  iintro ⟨Hb, Hheld⟩
  iapply (host_step d op68 (Pipeline.sub_ucRefs op68 (StableHlo.reshape_bufs_sub _ _ _ _ _ _)) rfl (H67 m d))
  isplitl [Hb]; · iexact Hb
  isplitl [Hheld]; · iexact Hheld
  iintro ⟨Hb, Hheld⟩
  iapply (host_step d op69 (Pipeline.sub_ucRefs op69 (StableHlo.reshape_bufs_sub _ _ _ _ _ _)) rfl (H68 m d))
  isplitl [Hb]; · iexact Hb
  isplitl [Hheld]; · iexact Hheld
  iintro ⟨Hb, Hheld⟩
  iapply (host_step d op70 (Pipeline.sub_ucRefs op70 (StableHlo.reshape_bufs_sub _ _ _ _ _ _)) rfl (H69 m d))
  isplitl [Hb]; · iexact Hb
  isplitl [Hheld]; · iexact Hheld
  iintro ⟨Hb, Hheld⟩
  iapply (host_step d op71 (Pipeline.sub_ucRefs op71 (StableHlo.reshape_bufs_sub _ _ _ _ _ _)) rfl (H70 m d))
  isplitl [Hb]; · iexact Hb
  isplitl [Hheld]; · iexact Hheld
  iintro ⟨Hb, Hheld⟩
  iapply (region_step m κ d 4 (H71 m) (left4 (H71 m)) (left4_arr (H71 m)) (left4_off (H71 m) d))
  isplitr; · iexact Hctx
  isplitl [Hb]; · iexact Hb
  isplitl [Hst]; · iexact Hst
  isplitl [Hheld]; · iexact Hheld
  isplitl [Hg4]; · iexact Hg4
  isplitl [Ht4]; · iexact Ht4
  iintro ⟨Hb, Hst, Hheld⟩
  iapply (host_step d op73 (Pipeline.sub_ucRefs op73 (StableHlo.nary_bufs_sub _ _ _ _ _)) rfl (H72 m d))
  isplitl [Hb]; · iexact Hb
  isplitl [Hheld]; · iexact Hheld
  iintro ⟨Hb, Hheld⟩
  imodintro
  isplitl [Hst]; · iexact Hst
  isplitl [Hheld]; · iapply (held_fin m d); iexact Hheld
  isplitl [Hb] <;> iassumption

/-! ## What a final state shows -/

def fq (d : Dev nD) (s' : Phys nD τ sig (Elt F)) : Prop :=
  s'.mem.mem ((SparseCore.T d).loc main_v65) = joined (parts m d)
    ∧ s'.mem.mem ((SparseCore.T d).loc main_arg0) = m ((SparseCore.T d).loc main_arg0) ∧ s'.mem.mem ((SparseCore.T d).loc main_arg1) = m ((SparseCore.T d).loc main_arg1) ∧ s'.mem.mem ((SparseCore.T d).loc main_arg2) = m ((SparseCore.T d).loc main_arg2) ∧ s'.mem.mem ((SparseCore.T d).loc main_arg3) = m ((SparseCore.T d).loc main_arg3) ∧ s'.mem.mem ((SparseCore.T d).loc main_arg4) = m ((SparseCore.T d).loc main_arg4) ∧ s'.mem.mem ((SparseCore.T d).loc main_arg5) = m ((SparseCore.T d).loc main_arg5) ∧ s'.mem.mem ((SparseCore.T d).loc main_arg6) = m ((SparseCore.T d).loc main_arg6) ∧ s'.mem.mem ((SparseCore.T d).loc main_arg7) = m ((SparseCore.T d).loc main_arg7) ∧ s'.mem.mem ((SparseCore.T d).loc main_arg8) = m ((SparseCore.T d).loc main_arg8) ∧ s'.mem.mem ((SparseCore.T d).loc main_arg9) = m ((SparseCore.T d).loc main_arg9) ∧ s'.mem.mem ((SparseCore.T d).loc main_arg10) = m ((SparseCore.T d).loc main_arg10) ∧ s'.mem.mem ((SparseCore.T d).loc main_arg11) = m ((SparseCore.T d).loc main_arg11) ∧ s'.mem.mem ((SparseCore.T d).loc main_arg12) = m ((SparseCore.T d).loc main_arg12)

set_option maxRecDepth 16384 in
theorem hfin (d : Dev nD) (s' : Phys nD τ sig (Elt F)) : iprop(FIN m d ∗ SI s') ⊢ (⌜fq m d s'⌝ : sProp 𝕄) := by
  iintro ⟨⟨G0, G1, G2, G3, G4, G5, G6, G7, G8, G9, G10, G11, G12, G13⟩, HSI⟩
  ihave H := (persistent_entails_right (SI_pointsTo_agree (st := s') (ℓ := (SparseCore.T d).loc main_arg0) (I := Finset.univ) (q := fullShare) (f := m ((SparseCore.T d).loc main_arg0)))) $$ [HSI G0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI G1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI G2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI G3]
  · isplitl [HSI] <;> iassumption
  icases H with ⟨%h3, HSI, -⟩
  ihave H := (persistent_entails_right (SI_pointsTo_agree (st := s') (ℓ := (SparseCore.T d).loc main_arg4) (I := Finset.univ) (q := fullShare) (f := m ((SparseCore.T d).loc main_arg4)))) $$ [HSI G4]
  · isplitl [HSI] <;> iassumption
  icases H with ⟨%h4, HSI, -⟩
  ihave H := (persistent_entails_right (SI_pointsTo_agree (st := s') (ℓ := (SparseCore.T d).loc main_arg5) (I := Finset.univ) (q := fullShare) (f := m ((SparseCore.T d).loc main_arg5)))) $$ [HSI G5]
  · isplitl [HSI] <;> iassumption
  icases H with ⟨%h5, HSI, -⟩
  ihave H := (persistent_entails_right (SI_pointsTo_agree (st := s') (ℓ := (SparseCore.T d).loc main_arg6) (I := Finset.univ) (q := fullShare) (f := m ((SparseCore.T d).loc main_arg6)))) $$ [HSI G6]
  · isplitl [HSI] <;> iassumption
  icases H with ⟨%h6, HSI, -⟩
  ihave H := (persistent_entails_right (SI_pointsTo_agree (st := s') (ℓ := (SparseCore.T d).loc main_arg7) (I := Finset.univ) (q := fullShare) (f := m ((SparseCore.T d).loc main_arg7)))) $$ [HSI G7]
  · isplitl [HSI] <;> iassumption
  icases H with ⟨%h7, HSI, -⟩
  ihave H := (persistent_entails_right (SI_pointsTo_agree (st := s') (ℓ := (SparseCore.T d).loc main_arg8) (I := Finset.univ) (q := fullShare) (f := m ((SparseCore.T d).loc main_arg8)))) $$ [HSI G8]
  · isplitl [HSI] <;> iassumption
  icases H with ⟨%h8, HSI, -⟩
  ihave H := (persistent_entails_right (SI_pointsTo_agree (st := s') (ℓ := (SparseCore.T d).loc main_arg9) (I := Finset.univ) (q := fullShare) (f := m ((SparseCore.T d).loc main_arg9)))) $$ [HSI G9]
  · isplitl [HSI] <;> iassumption
  icases H with ⟨%h9, HSI, -⟩
  ihave H := (persistent_entails_right (SI_pointsTo_agree (st := s') (ℓ := (SparseCore.T d).loc main_arg10) (I := Finset.univ) (q := fullShare) (f := m ((SparseCore.T d).loc main_arg10)))) $$ [HSI G10]
  · isplitl [HSI] <;> iassumption
  icases H with ⟨%h10, HSI, -⟩
  ihave H := (persistent_entails_right (SI_pointsTo_agree (st := s') (ℓ := (SparseCore.T d).loc main_arg11) (I := Finset.univ) (q := fullShare) (f := m ((SparseCore.T d).loc main_arg11)))) $$ [HSI G11]
  · isplitl [HSI] <;> iassumption
  icases H with ⟨%h11, HSI, -⟩
  ihave H := (persistent_entails_right (SI_pointsTo_agree (st := s') (ℓ := (SparseCore.T d).loc main_arg12) (I := Finset.univ) (q := fullShare) (f := m ((SparseCore.T d).loc main_arg12)))) $$ [HSI G12]
  · isplitl [HSI] <;> iassumption
  icases H with ⟨%h12, HSI, -⟩
  ihave H := (SI_pointsTo_agree (st := s') (ℓ := (SparseCore.T d).loc main_v65) (I := Finset.univ) (q := fullShare) (f := joined (parts m d))) $$ [HSI G13]
  · isplitl [HSI] <;> iassumption
  icases H with %h13
  ipureintro
  exact ⟨funext fun i => h13 i (Finset.mem_univ i), funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i), funext fun i => h8 i (Finset.mem_univ i), funext fun i => h9 i (Finset.mem_univ i), funext fun i => h10 i (Finset.mem_univ i), funext fun i => h11 i (Finset.mem_univ i), funext fun i => h12 i (Finset.mem_univ i)⟩

/-! ## The run -/

/-- What every run ends in: the five attentions joined, the arguments as they were, every counter at zero. -/
def QC : PUnit × MemSt nD τ sig (Elt F) → Prop := fun r =>
  (∀ d : Dev nD, r.2.mem ((SparseCore.T d).loc main_v65) = joined (parts m d)
    ∧ r.2.mem ((SparseCore.T d).loc main_arg0) = m ((SparseCore.T d).loc main_arg0) ∧ r.2.mem ((SparseCore.T d).loc main_arg1) = m ((SparseCore.T d).loc main_arg1) ∧ r.2.mem ((SparseCore.T d).loc main_arg2) = m ((SparseCore.T d).loc main_arg2) ∧ r.2.mem ((SparseCore.T d).loc main_arg3) = m ((SparseCore.T d).loc main_arg3) ∧ r.2.mem ((SparseCore.T d).loc main_arg4) = m ((SparseCore.T d).loc main_arg4) ∧ r.2.mem ((SparseCore.T d).loc main_arg5) = m ((SparseCore.T d).loc main_arg5) ∧ r.2.mem ((SparseCore.T d).loc main_arg6) = m ((SparseCore.T d).loc main_arg6) ∧ r.2.mem ((SparseCore.T d).loc main_arg7) = m ((SparseCore.T d).loc main_arg7) ∧ r.2.mem ((SparseCore.T d).loc main_arg8) = m ((SparseCore.T d).loc main_arg8) ∧ r.2.mem ((SparseCore.T d).loc main_arg9) = m ((SparseCore.T d).loc main_arg9) ∧ r.2.mem ((SparseCore.T d).loc main_arg10) = m ((SparseCore.T d).loc main_arg10) ∧ r.2.mem ((SparseCore.T d).loc main_arg11) = m ((SparseCore.T d).loc main_arg11) ∧ r.2.mem ((SparseCore.T d).loc main_arg12) = m ((SparseCore.T d).loc main_arg12)) ∧ r.2.sem = fun _ => 0

theorem run_main [∀ e, Nonempty (Elt F e)] (hpre : PreOK m) :
    θ_run (Cert.LayerIdeal.defs (F := F)) (Cert.LayerIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq | 2 => nomatch hq | 3 => nomatch hq | 4 => nomatch hq)
    (fun q _ => match q with | 0 => tileObl0 m hpre | 1 => tileObl1 m hpre | 2 => tileObl2 m hpre | 3 => tileObl3 m hpre | 4 => tileObl4 m hpre)
    (fun q _ => SparseCore.Cfg.VecSplit.of_plain (vecSplit m q))
    m ρ main (fun d => dealt (F := F) d) (FIN m) (u₀ (F := F)) (sep_elim_left.trans (hu₀ m)) (hmain m ρ) (fq m) (hfin m) (QC m) (fun _ h hz => ⟨h, hz⟩)

end Cert.Proof.Layer
-- ==== Proof.Layer.Entry.lean ====
/-
  What each of the five attention calls finds in its operands' arrays.
-/
module

public import proofs.«01_k».proof.Proof.Layer.Main

@[expose] public section

set_option maxRecDepth 65536

noncomputable section

namespace Cert.Proof.Layer

open Cert.LayerIdeal Cert.LayerIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_congr wp_hlo_within)

variable {F : FTy → Type}

local notation "𝕄" => MT nD τ sig (HIx 5) (Elt F) ℕ UU ℕ

variable [FloatOps F]

variable (m : (ℓ : Loc nD τ sig) → Buf (Elt F) ℓ)

/-- The thirteen arguments. -/
def given : List (Ref sig .tc) := [main_arg0, main_arg1, main_arg2, main_arg3, main_arg4, main_arg5, main_arg6, main_arg7, main_arg8, main_arg9, main_arg10, main_arg11, main_arg12]

/-- No line writes an argument. -/
theorem H0_arg (d : Dev nD) {b : Ref sig .tc} (_ : b ∈ given) : H0 m d (dr b) = m (d, dr b) := rfl
theorem H1_arg (d : Dev nD) {b : Ref sig .tc} (h : b ∈ given) : H1 m d (dr b) = m (d, dr b) := (H1_ne m d (ne_of_mem_of_not_mem h (by decide))).trans (H0_arg m d h)
theorem H2_arg (d : Dev nD) {b : Ref sig .tc} (h : b ∈ given) : H2 m d (dr b) = m (d, dr b) := (H2_ne m d (ne_of_mem_of_not_mem h (by decide))).trans (H1_arg m d h)
theorem H3_arg (d : Dev nD) {b : Ref sig .tc} (h : b ∈ given) : H3 m d (dr b) = m (d, dr b) := (H3_ne m d (ne_of_mem_of_not_mem h (by decide))).trans (H2_arg m d h)
theorem H4_arg (d : Dev nD) {b : Ref sig .tc} (h : b ∈ given) : H4 m d (dr b) = m (d, dr b) := (H4_ne m d (ne_of_mem_of_not_mem h (by decide))).trans (H3_arg m d h)
theorem H5_arg (d : Dev nD) {b : Ref sig .tc} (h : b ∈ given) : H5 m d (dr b) = m (d, dr b) := (H5_ne m d (ne_of_mem_of_not_mem h (by decide))).trans (H4_arg m d h)
theorem H6_arg (d : Dev nD) {b : Ref sig .tc} (h : b ∈ given) : H6 m d (dr b) = m (d, dr b) := (H6_ne m d (ne_of_mem_of_not_mem h (by decide))).trans (H5_arg m d h)
theorem H7_arg (d : Dev nD) {b : Ref sig .tc} (h : b ∈ given) : H7 m d (dr b) = m (d, dr b) := (H7_ne m d (ne_of_mem_of_not_mem h (by decide))).trans (H6_arg m d h)
theorem H8_arg (d : Dev nD) {b : Ref sig .tc} (h : b ∈ given) : H8 m d (dr b) = m (d, dr b) := (H8_ne m d (ne_of_mem_of_not_mem h (by decide))).trans (H7_arg m d h)
theorem H9_arg (d : Dev nD) {b : Ref sig .tc} (h : b ∈ given) : H9 m d (dr b) = m (d, dr b) := (H9_ne m d (ne_of_mem_of_not_mem h (by decide))).trans (H8_arg m d h)
theorem H10_arg (d : Dev nD) {b : Ref sig .tc} (h : b ∈ given) : H10 m d (dr b) = m (d, dr b) := (H10_ne m d (ne_of_mem_of_not_mem h (by decide))).trans (H9_arg m d h)
theorem H11_arg (d : Dev nD) {b : Ref sig .tc} (h : b ∈ given) : H11 m d (dr b) = m (d, dr b) := (H11_ne m d (ne_of_mem_of_not_mem h (by decide))).trans (H10_arg m d h)
theorem H12_arg (d : Dev nD) {b : Ref sig .tc} (h : b ∈ given) : H12 m d (dr b) = m (d, dr b) := (H12_ne m d (ne_of_mem_of_not_mem h (by decide))).trans (H11_arg m d h)
theorem H13_arg (d : Dev nD) {b : Ref sig .tc} (h : b ∈ given) : H13 m d (dr b) = m (d, dr b) := (H13_ne m d (ne_of_mem_of_not_mem h (by decide))).trans (H12_arg m d h)
theorem H14_arg (d : Dev nD) {b : Ref sig .tc} (h : b ∈ given) : H14 m d (dr b) = m (d, dr b) := (H14_ne m d (ne_of_mem_of_not_mem h (by decide))).trans (H13_arg m d h)
theorem H15_arg (d : Dev nD) {b : Ref sig .tc} (h : b ∈ given) : H15 m d (dr b) = m (d, dr b) := (H15_ne m d (ne_of_mem_of_not_mem h (by decide))).trans (H14_arg m d h)
theorem H16_arg (d : Dev nD) {b : Ref sig .tc} (h : b ∈ given) : H16 m d (dr b) = m (d, dr b) := (H16_ne m d (ne_of_mem_of_not_mem h (by decide))).trans (H15_arg m d h)
theorem H17_arg (d : Dev nD) {b : Ref sig .tc} (h : b ∈ given) : H17 m d (dr b) = m (d, dr b) := (H17_ne m d (ne_of_mem_of_not_mem h (by decide))).trans (H16_arg m d h)
theorem H18_arg (d : Dev nD) {b : Ref sig .tc} (h : b ∈ given) : H18 m d (dr b) = m (d, dr b) := (H18_ne m d (ne_of_mem_of_not_mem h (by decide))).trans (H17_arg m d h)
theorem H19_arg (d : Dev nD) {b : Ref sig .tc} (h : b ∈ given) : H19 m d (dr b) = m (d, dr b) := (H19_ne m d (ne_of_mem_of_not_mem h (by decide))).trans (H18_arg m d h)
theorem H20_arg (d : Dev nD) {b : Ref sig .tc} (h : b ∈ given) : H20 m d (dr b) = m (d, dr b) := (H20_ne m d (ne_of_mem_of_not_mem h (by decide))).trans (H19_arg m d h)
theorem H21_arg (d : Dev nD) {b : Ref sig .tc} (h : b ∈ given) : H21 m d (dr b) = m (d, dr b) := (H21_ne m d (ne_of_mem_of_not_mem h (by decide))).trans (H20_arg m d h)
theorem H22_arg (d : Dev nD) {b : Ref sig .tc} (h : b ∈ given) : H22 m d (dr b) = m (d, dr b) := (H22_ne m d (ne_of_mem_of_not_mem h (by decide))).trans (H21_arg m d h)
theorem H23_arg (d : Dev nD) {b : Ref sig .tc} (h : b ∈ given) : H23 m d (dr b) = m (d, dr b) := (H23_ne m d (ne_of_mem_of_not_mem h (by decide))).trans (H22_arg m d h)
theorem H24_arg (d : Dev nD) {b : Ref sig .tc} (h : b ∈ given) : H24 m d (dr b) = m (d, dr b) := (H24_ne m d (ne_of_mem_of_not_mem h (by decide))).trans (H23_arg m d h)
theorem H25_arg (d : Dev nD) {b : Ref sig .tc} (h : b ∈ given) : H25 m d (dr b) = m (d, dr b) := (H25_ne m d (ne_of_mem_of_not_mem h (by decide))).trans (H24_arg m d h)
theorem H26_arg (d : Dev nD) {b : Ref sig .tc} (h : b ∈ given) : H26 m d (dr b) = m (d, dr b) := (H26_ne m d (ne_of_mem_of_not_mem h (by decide))).trans (H25_arg m d h)
theorem H27_arg (d : Dev nD) {b : Ref sig .tc} (h : b ∈ given) : H27 m d (dr b) = m (d, dr b) := (H27_ne m d (ne_of_mem_of_not_mem h (by decide))).trans (H26_arg m d h)
theorem H28_arg (d : Dev nD) {b : Ref sig .tc} (h : b ∈ given) : H28 m d (dr b) = m (d, dr b) := (H28_ne m d (ne_of_mem_of_not_mem h (by decide))).trans (H27_arg m d h)
theorem H29_arg (d : Dev nD) {b : Ref sig .tc} (h : b ∈ given) : H29 m d (dr b) = m (d, dr b) := (H29_ne m d (ne_of_mem_of_not_mem h (by decide))).trans (H28_arg m d h)
theorem H30_arg (d : Dev nD) {b : Ref sig .tc} (h : b ∈ given) : H30 m d (dr b) = m (d, dr b) := (H30_ne m d (ne_of_mem_of_not_mem h (by decide))).trans (H29_arg m d h)
theorem H31_arg (d : Dev nD) {b : Ref sig .tc} (h : b ∈ given) : H31 m d (dr b) = m (d, dr b) := (H31_ne m d (ne_of_mem_of_not_mem h (by decide))).trans (H30_arg m d h)
theorem H32_arg (d : Dev nD) {b : Ref sig .tc} (h : b ∈ given) : H32 m d (dr b) = m (d, dr b) := (H32_ne m d (ne_of_mem_of_not_mem h (by decide))).trans (H31_arg m d h)
theorem H33_arg (d : Dev nD) {b : Ref sig .tc} (h : b ∈ given) : H33 m d (dr b) = m (d, dr b) := (H33_ne m d (ne_of_mem_of_not_mem h (by decide))).trans (H32_arg m d h)
theorem H34_arg (d : Dev nD) {b : Ref sig .tc} (h : b ∈ given) : H34 m d (dr b) = m (d, dr b) := (H34_ne m d (ne_of_mem_of_not_mem h (by decide))).trans (H33_arg m d h)
theorem H35_arg (d : Dev nD) {b : Ref sig .tc} (h : b ∈ given) : H35 m d (dr b) = m (d, dr b) := (H35_ne m d (ne_of_mem_of_not_mem h (by decide))).trans (H34_arg m d h)
theorem H36_arg (d : Dev nD) {b : Ref sig .tc} (h : b ∈ given) : H36 m d (dr b) = m (d, dr b) := (H36_ne m d (ne_of_mem_of_not_mem h (by decide))).trans (H35_arg m d h)
theorem H37_arg (d : Dev nD) {b : Ref sig .tc} (h : b ∈ given) : H37 m d (dr b) = m (d, dr b) := (H37_ne m d (ne_of_mem_of_not_mem h (by decide))).trans (H36_arg m d h)
theorem H38_arg (d : Dev nD) {b : Ref sig .tc} (h : b ∈ given) : H38 m d (dr b) = m (d, dr b) := (H38_ne m d (ne_of_mem_of_not_mem h (by decide))).trans (H37_arg m d h)
theorem H39_arg (d : Dev nD) {b : Ref sig .tc} (h : b ∈ given) : H39 m d (dr b) = m (d, dr b) := (H39_ne m d (ne_of_mem_of_not_mem h (by decide))).trans (H38_arg m d h)
theorem H40_arg (d : Dev nD) {b : Ref sig .tc} (h : b ∈ given) : H40 m d (dr b) = m (d, dr b) := (H40_ne m d (ne_of_mem_of_not_mem h (by decide))).trans (H39_arg m d h)
theorem H41_arg (d : Dev nD) {b : Ref sig .tc} (h : b ∈ given) : H41 m d (dr b) = m (d, dr b) := (H41_ne m d (ne_of_mem_of_not_mem h (by decide))).trans (H40_arg m d h)
theorem H42_arg (d : Dev nD) {b : Ref sig .tc} (h : b ∈ given) : H42 m d (dr b) = m (d, dr b) := (H42_ne m d (ne_of_mem_of_not_mem h (by decide))).trans (H41_arg m d h)
theorem H43_arg (d : Dev nD) {b : Ref sig .tc} (h : b ∈ given) : H43 m d (dr b) = m (d, dr b) := (H43_ne m d (ne_of_mem_of_not_mem h (by decide))).trans (H42_arg m d h)
theorem H44_arg (d : Dev nD) {b : Ref sig .tc} (h : b ∈ given) : H44 m d (dr b) = m (d, dr b) := (H44_ne m d (ne_of_mem_of_not_mem h (by decide))).trans (H43_arg m d h)
theorem H45_arg (d : Dev nD) {b : Ref sig .tc} (h : b ∈ given) : H45 m d (dr b) = m (d, dr b) := (H45_ne m d (ne_of_mem_of_not_mem h (by decide))).trans (H44_arg m d h)
theorem H46_arg (d : Dev nD) {b : Ref sig .tc} (h : b ∈ given) : H46 m d (dr b) = m (d, dr b) := (H46_ne m d (ne_of_mem_of_not_mem h (by decide))).trans (H45_arg m d h)
theorem H47_arg (d : Dev nD) {b : Ref sig .tc} (h : b ∈ given) : H47 m d (dr b) = m (d, dr b) := (H47_ne m d (ne_of_mem_of_not_mem h (by decide))).trans (H46_arg m d h)
theorem H48_arg (d : Dev nD) {b : Ref sig .tc} (h : b ∈ given) : H48 m d (dr b) = m (d, dr b) := (H48_ne m d (ne_of_mem_of_not_mem h (by decide))).trans (H47_arg m d h)
theorem H49_arg (d : Dev nD) {b : Ref sig .tc} (h : b ∈ given) : H49 m d (dr b) = m (d, dr b) := (H49_ne m d (ne_of_mem_of_not_mem h (by decide))).trans (H48_arg m d h)
theorem H50_arg (d : Dev nD) {b : Ref sig .tc} (h : b ∈ given) : H50 m d (dr b) = m (d, dr b) := (H50_ne m d (ne_of_mem_of_not_mem h (by decide))).trans (H49_arg m d h)
theorem H51_arg (d : Dev nD) {b : Ref sig .tc} (h : b ∈ given) : H51 m d (dr b) = m (d, dr b) := (H51_ne m d (ne_of_mem_of_not_mem h (by decide))).trans (H50_arg m d h)
theorem H52_arg (d : Dev nD) {b : Ref sig .tc} (h : b ∈ given) : H52 m d (dr b) = m (d, dr b) := (H52_ne m d (ne_of_mem_of_not_mem h (by decide))).trans (H51_arg m d h)
theorem H53_arg (d : Dev nD) {b : Ref sig .tc} (h : b ∈ given) : H53 m d (dr b) = m (d, dr b) := (H53_ne m d (ne_of_mem_of_not_mem h (by decide))).trans (H52_arg m d h)
theorem H54_arg (d : Dev nD) {b : Ref sig .tc} (h : b ∈ given) : H54 m d (dr b) = m (d, dr b) := (H54_ne m d (ne_of_mem_of_not_mem h (by decide))).trans (H53_arg m d h)
theorem H55_arg (d : Dev nD) {b : Ref sig .tc} (h : b ∈ given) : H55 m d (dr b) = m (d, dr b) := (H55_ne m d (ne_of_mem_of_not_mem h (by decide))).trans (H54_arg m d h)
theorem H56_arg (d : Dev nD) {b : Ref sig .tc} (h : b ∈ given) : H56 m d (dr b) = m (d, dr b) := (H56_ne m d (ne_of_mem_of_not_mem h (by decide))).trans (H55_arg m d h)
theorem H57_arg (d : Dev nD) {b : Ref sig .tc} (h : b ∈ given) : H57 m d (dr b) = m (d, dr b) := (H57_ne m d (ne_of_mem_of_not_mem h (by decide))).trans (H56_arg m d h)
theorem H58_arg (d : Dev nD) {b : Ref sig .tc} (h : b ∈ given) : H58 m d (dr b) = m (d, dr b) := (H58_ne m d (ne_of_mem_of_not_mem h (by decide))).trans (H57_arg m d h)
theorem H59_arg (d : Dev nD) {b : Ref sig .tc} (h : b ∈ given) : H59 m d (dr b) = m (d, dr b) := (H59_ne m d (ne_of_mem_of_not_mem h (by decide))).trans (H58_arg m d h)
theorem H60_arg (d : Dev nD) {b : Ref sig .tc} (h : b ∈ given) : H60 m d (dr b) = m (d, dr b) := (H60_ne m d (ne_of_mem_of_not_mem h (by decide))).trans (H59_arg m d h)
theorem H61_arg (d : Dev nD) {b : Ref sig .tc} (h : b ∈ given) : H61 m d (dr b) = m (d, dr b) := (H61_ne m d (ne_of_mem_of_not_mem h (by decide))).trans (H60_arg m d h)
theorem H62_arg (d : Dev nD) {b : Ref sig .tc} (h : b ∈ given) : H62 m d (dr b) = m (d, dr b) := (H62_ne m d (ne_of_mem_of_not_mem h (by decide))).trans (H61_arg m d h)
theorem H63_arg (d : Dev nD) {b : Ref sig .tc} (h : b ∈ given) : H63 m d (dr b) = m (d, dr b) := (H63_ne m d (ne_of_mem_of_not_mem h (by decide))).trans (H62_arg m d h)
theorem H64_arg (d : Dev nD) {b : Ref sig .tc} (h : b ∈ given) : H64 m d (dr b) = m (d, dr b) := (H64_ne m d (ne_of_mem_of_not_mem h (by decide))).trans (H63_arg m d h)
theorem H65_arg (d : Dev nD) {b : Ref sig .tc} (h : b ∈ given) : H65 m d (dr b) = m (d, dr b) := (H65_ne m d (ne_of_mem_of_not_mem h (by decide))).trans (H64_arg m d h)
theorem H66_arg (d : Dev nD) {b : Ref sig .tc} (h : b ∈ given) : H66 m d (dr b) = m (d, dr b) := (H66_ne m d (ne_of_mem_of_not_mem h (by decide))).trans (H65_arg m d h)
theorem H67_arg (d : Dev nD) {b : Ref sig .tc} (h : b ∈ given) : H67 m d (dr b) = m (d, dr b) := (H67_ne m d (ne_of_mem_of_not_mem h (by decide))).trans (H66_arg m d h)
theorem H68_arg (d : Dev nD) {b : Ref sig .tc} (h : b ∈ given) : H68 m d (dr b) = m (d, dr b) := (H68_ne m d (ne_of_mem_of_not_mem h (by decide))).trans (H67_arg m d h)
theorem H69_arg (d : Dev nD) {b : Ref sig .tc} (h : b ∈ given) : H69 m d (dr b) = m (d, dr b) := (H69_ne m d (ne_of_mem_of_not_mem h (by decide))).trans (H68_arg m d h)
theorem H70_arg (d : Dev nD) {b : Ref sig .tc} (h : b ∈ given) : H70 m d (dr b) = m (d, dr b) := (H70_ne m d (ne_of_mem_of_not_mem h (by decide))).trans (H69_arg m d h)
theorem H71_arg (d : Dev nD) {b : Ref sig .tc} (h : b ∈ given) : H71 m d (dr b) = m (d, dr b) := (H71_ne m d (ne_of_mem_of_not_mem h (by decide))).trans (H70_arg m d h)
theorem H72_arg (d : Dev nD) {b : Ref sig .tc} (h : b ∈ given) : H72 m d (dr b) = m (d, dr b) := (H72_ne m d (ne_of_mem_of_not_mem h (by decide))).trans (H71_arg m d h)

/-! ## What each attention call finds -/

/-- Between the gather of chunk 0 and its attention call, the lines write these. -/
theorem stay0 (d : Dev nD) {b : Ref sig .tc} (h : b ∉ [main_v10, main_v11, main_v12, main_v13, main_v14, main_v15, main_v16, main_v17, main_v18, main_v19]) : H27 m d (dr b) = H17 m d (dr b) := by
  simp only [List.mem_cons, List.not_mem_nil, or_false, not_or] at h
  obtain ⟨h18, h19, h20, h21, h22, h23, h24, h25, h26, h27⟩ := h
  rw [H27_ne m d h27, H26_ne m d h26, H25_ne m d h25, H24_ne m d h24, H23_ne m d h23, H22_ne m d h22, H21_ne m d h21, H20_ne m d h20, H19_ne m d h19, H18_ne m d h18]
/-- The 0/1 matrix and its transpose are as the first lines left them. -/
theorem same0 (d : Dev nD) {b : Ref sig .tc} (h : b ∈ [main_v8, main_v9]) : H27 m d (dr b) = H17 m d (dr b) := by
  simp only [List.mem_cons, List.not_mem_nil, or_false] at h
  rcases h with rfl | rfl
  · rw [stay0 m d (b := main_v8) (by decide)]
  · rw [stay0 m d (b := main_v9) (by decide)]
/-- The gathered rows. -/
theorem rows0 (d : Dev nD) : H27 m d (dr main_v11) = out m d 0 := by
  rw [H27_ne m d (b := main_v11) (by decide), H26_ne m d (b := main_v11) (by decide), H25_ne m d (b := main_v11) (by decide), H24_ne m d (b := main_v11) (by decide), H23_ne m d (b := main_v11) (by decide), H22_ne m d (b := main_v11) (by decide), H21_ne m d (b := main_v11) (by decide), H20_ne m d (b := main_v11) (by decide)]; exact Function.update_self ..
theorem H20_in (d : Dev nD) : H27 m d (dr main_v12) = extractStridedSlice S2000x128 ![0, 0] (m ((SparseCore.T d).loc main_arg2)) slices_S10000x128_S2000x128_0_0 := by
  rw [H27_ne m d (b := main_v12) (by decide), H26_ne m d (b := main_v12) (by decide), H25_ne m d (b := main_v12) (by decide), H24_ne m d (b := main_v12) (by decide), H23_ne m d (b := main_v12) (by decide), H22_ne m d (b := main_v12) (by decide), H21_ne m d (b := main_v12) (by decide)]; unfold H20; rw [StableHlo.unary_result', H19_arg m d (by decide)] <;> rfl
theorem H21_in (d : Dev nD) : H27 m d (dr main_v13) = extractStridedSlice S2000x128 ![0, 0] (m ((SparseCore.T d).loc main_arg3)) slices_S10000x128_S2000x128_0_0 := by
  rw [H27_ne m d (b := main_v13) (by decide), H26_ne m d (b := main_v13) (by decide), H25_ne m d (b := main_v13) (by decide), H24_ne m d (b := main_v13) (by decide), H23_ne m d (b := main_v13) (by decide), H22_ne m d (b := main_v13) (by decide)]; unfold H21; rw [StableHlo.unary_result', H20_arg m d (by decide)] <;> rfl
theorem H22_in (d : Dev nD) : H27 m d (dr main_v14) = shapeCast S1x128 (m ((SparseCore.T d).loc main_arg5)) shapeCasts_S128_S1x128 := by
  rw [H27_ne m d (b := main_v14) (by decide), H26_ne m d (b := main_v14) (by decide), H25_ne m d (b := main_v14) (by decide), H24_ne m d (b := main_v14) (by decide), H23_ne m d (b := main_v14) (by decide)]; unfold H22; rw [StableHlo.reshape_result', H21_arg m d (by decide)] <;> rfl
theorem H23_in (d : Dev nD) : H27 m d (dr main_v15) = shapeCast S1x128 (m ((SparseCore.T d).loc main_arg6)) shapeCasts_S128_S1x128 := by
  rw [H27_ne m d (b := main_v15) (by decide), H26_ne m d (b := main_v15) (by decide), H25_ne m d (b := main_v15) (by decide), H24_ne m d (b := main_v15) (by decide)]; unfold H23; rw [StableHlo.reshape_result', H22_arg m d (by decide)] <;> rfl
theorem H24_in (d : Dev nD) : H27 m d (dr main_v16) = shapeCast S1x256 (m ((SparseCore.T d).loc main_arg8)) shapeCasts_S256_S1x256 := by
  rw [H27_ne m d (b := main_v16) (by decide), H26_ne m d (b := main_v16) (by decide), H25_ne m d (b := main_v16) (by decide)]; unfold H24; rw [StableHlo.reshape_result', H23_arg m d (by decide)] <;> rfl
theorem H25_in (d : Dev nD) : H27 m d (dr main_v17) = shapeCast S1x128 (m ((SparseCore.T d).loc main_arg10)) shapeCasts_S128_S1x128 := by
  rw [H27_ne m d (b := main_v17) (by decide), H26_ne m d (b := main_v17) (by decide)]; unfold H25; rw [StableHlo.reshape_result', H24_arg m d (by decide)] <;> rfl
theorem H26_in (d : Dev nD) : H27 m d (dr main_v18) = shapeCast S1x128 (m ((SparseCore.T d).loc main_arg11)) shapeCasts_S128_S1x128 := by
  rw [H27_ne m d (b := main_v18) (by decide)]; unfold H26; rw [StableHlo.reshape_result', H25_arg m d (by decide)] <;> rfl
theorem H27_in (d : Dev nD) : H27 m d (dr main_v19) = shapeCast S1x128 (m ((SparseCore.T d).loc main_arg12)) shapeCasts_S128_S1x128 := by
  unfold H27; rw [StableHlo.reshape_result', H26_arg m d (by decide)] <;> rfl

/-- Between the gather of chunk 1 and its attention call, the lines write these. -/
theorem stay1 (d : Dev nD) {b : Ref sig .tc} (h : b ∉ [main_v21, main_v22, main_v23, main_v24, main_v25, main_v26, main_v27, main_v28, main_v29, main_v30]) : H38 m d (dr b) = H28 m d (dr b) := by
  simp only [List.mem_cons, List.not_mem_nil, or_false, not_or] at h
  obtain ⟨h29, h30, h31, h32, h33, h34, h35, h36, h37, h38⟩ := h
  rw [H38_ne m d h38, H37_ne m d h37, H36_ne m d h36, H35_ne m d h35, H34_ne m d h34, H33_ne m d h33, H32_ne m d h32, H31_ne m d h31, H30_ne m d h30, H29_ne m d h29]
/-- The 0/1 matrix and its transpose are as the first lines left them. -/
theorem same1 (d : Dev nD) {b : Ref sig .tc} (h : b ∈ [main_v8, main_v9]) : H38 m d (dr b) = H17 m d (dr b) := by
  simp only [List.mem_cons, List.not_mem_nil, or_false] at h
  rcases h with rfl | rfl
  · rw [stay1 m d (b := main_v8) (by decide), keep0 m d (b := main_v8) (by decide)]
  · rw [stay1 m d (b := main_v9) (by decide), keep0 m d (b := main_v9) (by decide)]
/-- The gathered rows. -/
theorem rows1 (d : Dev nD) : H38 m d (dr main_v22) = out m d 1 := by
  rw [H38_ne m d (b := main_v22) (by decide), H37_ne m d (b := main_v22) (by decide), H36_ne m d (b := main_v22) (by decide), H35_ne m d (b := main_v22) (by decide), H34_ne m d (b := main_v22) (by decide), H33_ne m d (b := main_v22) (by decide), H32_ne m d (b := main_v22) (by decide), H31_ne m d (b := main_v22) (by decide)]; exact Function.update_self ..
theorem H31_in (d : Dev nD) : H38 m d (dr main_v23) = extractStridedSlice S2000x128 ![2000, 0] (m ((SparseCore.T d).loc main_arg2)) slices_S10000x128_S2000x128_2000_0 := by
  rw [H38_ne m d (b := main_v23) (by decide), H37_ne m d (b := main_v23) (by decide), H36_ne m d (b := main_v23) (by decide), H35_ne m d (b := main_v23) (by decide), H34_ne m d (b := main_v23) (by decide), H33_ne m d (b := main_v23) (by decide), H32_ne m d (b := main_v23) (by decide)]; unfold H31; rw [StableHlo.unary_result', H30_arg m d (by decide)] <;> rfl
theorem H32_in (d : Dev nD) : H38 m d (dr main_v24) = extractStridedSlice S2000x128 ![2000, 0] (m ((SparseCore.T d).loc main_arg3)) slices_S10000x128_S2000x128_2000_0 := by
  rw [H38_ne m d (b := main_v24) (by decide), H37_ne m d (b := main_v24) (by decide), H36_ne m d (b := main_v24) (by decide), H35_ne m d (b := main_v24) (by decide), H34_ne m d (b := main_v24) (by decide), H33_ne m d (b := main_v24) (by decide)]; unfold H32; rw [StableHlo.unary_result', H31_arg m d (by decide)] <;> rfl
theorem H33_in (d : Dev nD) : H38 m d (dr main_v25) = shapeCast S1x128 (m ((SparseCore.T d).loc main_arg5)) shapeCasts_S128_S1x128 := by
  rw [H38_ne m d (b := main_v25) (by decide), H37_ne m d (b := main_v25) (by decide), H36_ne m d (b := main_v25) (by decide), H35_ne m d (b := main_v25) (by decide), H34_ne m d (b := main_v25) (by decide)]; unfold H33; rw [StableHlo.reshape_result', H32_arg m d (by decide)] <;> rfl
theorem H34_in (d : Dev nD) : H38 m d (dr main_v26) = shapeCast S1x128 (m ((SparseCore.T d).loc main_arg6)) shapeCasts_S128_S1x128 := by
  rw [H38_ne m d (b := main_v26) (by decide), H37_ne m d (b := main_v26) (by decide), H36_ne m d (b := main_v26) (by decide), H35_ne m d (b := main_v26) (by decide)]; unfold H34; rw [StableHlo.reshape_result', H33_arg m d (by decide)] <;> rfl
theorem H35_in (d : Dev nD) : H38 m d (dr main_v27) = shapeCast S1x256 (m ((SparseCore.T d).loc main_arg8)) shapeCasts_S256_S1x256 := by
  rw [H38_ne m d (b := main_v27) (by decide), H37_ne m d (b := main_v27) (by decide), H36_ne m d (b := main_v27) (by decide)]; unfold H35; rw [StableHlo.reshape_result', H34_arg m d (by decide)] <;> rfl
theorem H36_in (d : Dev nD) : H38 m d (dr main_v28) = shapeCast S1x128 (m ((SparseCore.T d).loc main_arg10)) shapeCasts_S128_S1x128 := by
  rw [H38_ne m d (b := main_v28) (by decide), H37_ne m d (b := main_v28) (by decide)]; unfold H36; rw [StableHlo.reshape_result', H35_arg m d (by decide)] <;> rfl
theorem H37_in (d : Dev nD) : H38 m d (dr main_v29) = shapeCast S1x128 (m ((SparseCore.T d).loc main_arg11)) shapeCasts_S128_S1x128 := by
  rw [H38_ne m d (b := main_v29) (by decide)]; unfold H37; rw [StableHlo.reshape_result', H36_arg m d (by decide)] <;> rfl
theorem H38_in (d : Dev nD) : H38 m d (dr main_v30) = shapeCast S1x128 (m ((SparseCore.T d).loc main_arg12)) shapeCasts_S128_S1x128 := by
  unfold H38; rw [StableHlo.reshape_result', H37_arg m d (by decide)] <;> rfl

/-- Between the gather of chunk 2 and its attention call, the lines write these. -/
theorem stay2 (d : Dev nD) {b : Ref sig .tc} (h : b ∉ [main_v32, main_v33, main_v34, main_v35, main_v36, main_v37, main_v38, main_v39, main_v40, main_v41]) : H49 m d (dr b) = H39 m d (dr b) := by
  simp only [List.mem_cons, List.not_mem_nil, or_false, not_or] at h
  obtain ⟨h40, h41, h42, h43, h44, h45, h46, h47, h48, h49⟩ := h
  rw [H49_ne m d h49, H48_ne m d h48, H47_ne m d h47, H46_ne m d h46, H45_ne m d h45, H44_ne m d h44, H43_ne m d h43, H42_ne m d h42, H41_ne m d h41, H40_ne m d h40]
/-- The 0/1 matrix and its transpose are as the first lines left them. -/
theorem same2 (d : Dev nD) {b : Ref sig .tc} (h : b ∈ [main_v8, main_v9]) : H49 m d (dr b) = H17 m d (dr b) := by
  simp only [List.mem_cons, List.not_mem_nil, or_false] at h
  rcases h with rfl | rfl
  · rw [stay2 m d (b := main_v8) (by decide), keep1 m d (b := main_v8) (by decide), keep0 m d (b := main_v8) (by decide)]
  · rw [stay2 m d (b := main_v9) (by decide), keep1 m d (b := main_v9) (by decide), keep0 m d (b := main_v9) (by decide)]
/-- The gathered rows. -/
theorem rows2 (d : Dev nD) : H49 m d (dr main_v33) = out m d 2 := by
  rw [H49_ne m d (b := main_v33) (by decide), H48_ne m d (b := main_v33) (by decide), H47_ne m d (b := main_v33) (by decide), H46_ne m d (b := main_v33) (by decide), H45_ne m d (b := main_v33) (by decide), H44_ne m d (b := main_v33) (by decide), H43_ne m d (b := main_v33) (by decide), H42_ne m d (b := main_v33) (by decide)]; exact Function.update_self ..
theorem H42_in (d : Dev nD) : H49 m d (dr main_v34) = extractStridedSlice S2000x128 ![4000, 0] (m ((SparseCore.T d).loc main_arg2)) slices_S10000x128_S2000x128_4000_0 := by
  rw [H49_ne m d (b := main_v34) (by decide), H48_ne m d (b := main_v34) (by decide), H47_ne m d (b := main_v34) (by decide), H46_ne m d (b := main_v34) (by decide), H45_ne m d (b := main_v34) (by decide), H44_ne m d (b := main_v34) (by decide), H43_ne m d (b := main_v34) (by decide)]; unfold H42; rw [StableHlo.unary_result', H41_arg m d (by decide)] <;> rfl
theorem H43_in (d : Dev nD) : H49 m d (dr main_v35) = extractStridedSlice S2000x128 ![4000, 0] (m ((SparseCore.T d).loc main_arg3)) slices_S10000x128_S2000x128_4000_0 := by
  rw [H49_ne m d (b := main_v35) (by decide), H48_ne m d (b := main_v35) (by decide), H47_ne m d (b := main_v35) (by decide), H46_ne m d (b := main_v35) (by decide), H45_ne m d (b := main_v35) (by decide), H44_ne m d (b := main_v35) (by decide)]; unfold H43; rw [StableHlo.unary_result', H42_arg m d (by decide)] <;> rfl
theorem H44_in (d : Dev nD) : H49 m d (dr main_v36) = shapeCast S1x128 (m ((SparseCore.T d).loc main_arg5)) shapeCasts_S128_S1x128 := by
  rw [H49_ne m d (b := main_v36) (by decide), H48_ne m d (b := main_v36) (by decide), H47_ne m d (b := main_v36) (by decide), H46_ne m d (b := main_v36) (by decide), H45_ne m d (b := main_v36) (by decide)]; unfold H44; rw [StableHlo.reshape_result', H43_arg m d (by decide)] <;> rfl
theorem H45_in (d : Dev nD) : H49 m d (dr main_v37) = shapeCast S1x128 (m ((SparseCore.T d).loc main_arg6)) shapeCasts_S128_S1x128 := by
  rw [H49_ne m d (b := main_v37) (by decide), H48_ne m d (b := main_v37) (by decide), H47_ne m d (b := main_v37) (by decide), H46_ne m d (b := main_v37) (by decide)]; unfold H45; rw [StableHlo.reshape_result', H44_arg m d (by decide)] <;> rfl
theorem H46_in (d : Dev nD) : H49 m d (dr main_v38) = shapeCast S1x256 (m ((SparseCore.T d).loc main_arg8)) shapeCasts_S256_S1x256 := by
  rw [H49_ne m d (b := main_v38) (by decide), H48_ne m d (b := main_v38) (by decide), H47_ne m d (b := main_v38) (by decide)]; unfold H46; rw [StableHlo.reshape_result', H45_arg m d (by decide)] <;> rfl
theorem H47_in (d : Dev nD) : H49 m d (dr main_v39) = shapeCast S1x128 (m ((SparseCore.T d).loc main_arg10)) shapeCasts_S128_S1x128 := by
  rw [H49_ne m d (b := main_v39) (by decide), H48_ne m d (b := main_v39) (by decide)]; unfold H47; rw [StableHlo.reshape_result', H46_arg m d (by decide)] <;> rfl
theorem H48_in (d : Dev nD) : H49 m d (dr main_v40) = shapeCast S1x128 (m ((SparseCore.T d).loc main_arg11)) shapeCasts_S128_S1x128 := by
  rw [H49_ne m d (b := main_v40) (by decide)]; unfold H48; rw [StableHlo.reshape_result', H47_arg m d (by decide)] <;> rfl
theorem H49_in (d : Dev nD) : H49 m d (dr main_v41) = shapeCast S1x128 (m ((SparseCore.T d).loc main_arg12)) shapeCasts_S128_S1x128 := by
  unfold H49; rw [StableHlo.reshape_result', H48_arg m d (by decide)] <;> rfl

/-- Between the gather of chunk 3 and its attention call, the lines write these. -/
theorem stay3 (d : Dev nD) {b : Ref sig .tc} (h : b ∉ [main_v43, main_v44, main_v45, main_v46, main_v47, main_v48, main_v49, main_v50, main_v51, main_v52]) : H60 m d (dr b) = H50 m d (dr b) := by
  simp only [List.mem_cons, List.not_mem_nil, or_false, not_or] at h
  obtain ⟨h51, h52, h53, h54, h55, h56, h57, h58, h59, h60⟩ := h
  rw [H60_ne m d h60, H59_ne m d h59, H58_ne m d h58, H57_ne m d h57, H56_ne m d h56, H55_ne m d h55, H54_ne m d h54, H53_ne m d h53, H52_ne m d h52, H51_ne m d h51]
/-- The 0/1 matrix and its transpose are as the first lines left them. -/
theorem same3 (d : Dev nD) {b : Ref sig .tc} (h : b ∈ [main_v8, main_v9]) : H60 m d (dr b) = H17 m d (dr b) := by
  simp only [List.mem_cons, List.not_mem_nil, or_false] at h
  rcases h with rfl | rfl
  · rw [stay3 m d (b := main_v8) (by decide), keep2 m d (b := main_v8) (by decide), keep1 m d (b := main_v8) (by decide), keep0 m d (b := main_v8) (by decide)]
  · rw [stay3 m d (b := main_v9) (by decide), keep2 m d (b := main_v9) (by decide), keep1 m d (b := main_v9) (by decide), keep0 m d (b := main_v9) (by decide)]
/-- The gathered rows. -/
theorem rows3 (d : Dev nD) : H60 m d (dr main_v44) = out m d 3 := by
  rw [H60_ne m d (b := main_v44) (by decide), H59_ne m d (b := main_v44) (by decide), H58_ne m d (b := main_v44) (by decide), H57_ne m d (b := main_v44) (by decide), H56_ne m d (b := main_v44) (by decide), H55_ne m d (b := main_v44) (by decide), H54_ne m d (b := main_v44) (by decide), H53_ne m d (b := main_v44) (by decide)]; exact Function.update_self ..
theorem H53_in (d : Dev nD) : H60 m d (dr main_v45) = extractStridedSlice S2000x128 ![6000, 0] (m ((SparseCore.T d).loc main_arg2)) slices_S10000x128_S2000x128_6000_0 := by
  rw [H60_ne m d (b := main_v45) (by decide), H59_ne m d (b := main_v45) (by decide), H58_ne m d (b := main_v45) (by decide), H57_ne m d (b := main_v45) (by decide), H56_ne m d (b := main_v45) (by decide), H55_ne m d (b := main_v45) (by decide), H54_ne m d (b := main_v45) (by decide)]; unfold H53; rw [StableHlo.unary_result', H52_arg m d (by decide)] <;> rfl
theorem H54_in (d : Dev nD) : H60 m d (dr main_v46) = extractStridedSlice S2000x128 ![6000, 0] (m ((SparseCore.T d).loc main_arg3)) slices_S10000x128_S2000x128_6000_0 := by
  rw [H60_ne m d (b := main_v46) (by decide), H59_ne m d (b := main_v46) (by decide), H58_ne m d (b := main_v46) (by decide), H57_ne m d (b := main_v46) (by decide), H56_ne m d (b := main_v46) (by decide), H55_ne m d (b := main_v46) (by decide)]; unfold H54; rw [StableHlo.unary_result', H53_arg m d (by decide)] <;> rfl
theorem H55_in (d : Dev nD) : H60 m d (dr main_v47) = shapeCast S1x128 (m ((SparseCore.T d).loc main_arg5)) shapeCasts_S128_S1x128 := by
  rw [H60_ne m d (b := main_v47) (by decide), H59_ne m d (b := main_v47) (by decide), H58_ne m d (b := main_v47) (by decide), H57_ne m d (b := main_v47) (by decide), H56_ne m d (b := main_v47) (by decide)]; unfold H55; rw [StableHlo.reshape_result', H54_arg m d (by decide)] <;> rfl
theorem H56_in (d : Dev nD) : H60 m d (dr main_v48) = shapeCast S1x128 (m ((SparseCore.T d).loc main_arg6)) shapeCasts_S128_S1x128 := by
  rw [H60_ne m d (b := main_v48) (by decide), H59_ne m d (b := main_v48) (by decide), H58_ne m d (b := main_v48) (by decide), H57_ne m d (b := main_v48) (by decide)]; unfold H56; rw [StableHlo.reshape_result', H55_arg m d (by decide)] <;> rfl
theorem H57_in (d : Dev nD) : H60 m d (dr main_v49) = shapeCast S1x256 (m ((SparseCore.T d).loc main_arg8)) shapeCasts_S256_S1x256 := by
  rw [H60_ne m d (b := main_v49) (by decide), H59_ne m d (b := main_v49) (by decide), H58_ne m d (b := main_v49) (by decide)]; unfold H57; rw [StableHlo.reshape_result', H56_arg m d (by decide)] <;> rfl
theorem H58_in (d : Dev nD) : H60 m d (dr main_v50) = shapeCast S1x128 (m ((SparseCore.T d).loc main_arg10)) shapeCasts_S128_S1x128 := by
  rw [H60_ne m d (b := main_v50) (by decide), H59_ne m d (b := main_v50) (by decide)]; unfold H58; rw [StableHlo.reshape_result', H57_arg m d (by decide)] <;> rfl
theorem H59_in (d : Dev nD) : H60 m d (dr main_v51) = shapeCast S1x128 (m ((SparseCore.T d).loc main_arg11)) shapeCasts_S128_S1x128 := by
  rw [H60_ne m d (b := main_v51) (by decide)]; unfold H59; rw [StableHlo.reshape_result', H58_arg m d (by decide)] <;> rfl
theorem H60_in (d : Dev nD) : H60 m d (dr main_v52) = shapeCast S1x128 (m ((SparseCore.T d).loc main_arg12)) shapeCasts_S128_S1x128 := by
  unfold H60; rw [StableHlo.reshape_result', H59_arg m d (by decide)] <;> rfl

/-- Between the gather of chunk 4 and its attention call, the lines write these. -/
theorem stay4 (d : Dev nD) {b : Ref sig .tc} (h : b ∉ [main_v54, main_v55, main_v56, main_v57, main_v58, main_v59, main_v60, main_v61, main_v62, main_v63]) : H71 m d (dr b) = H61 m d (dr b) := by
  simp only [List.mem_cons, List.not_mem_nil, or_false, not_or] at h
  obtain ⟨h62, h63, h64, h65, h66, h67, h68, h69, h70, h71⟩ := h
  rw [H71_ne m d h71, H70_ne m d h70, H69_ne m d h69, H68_ne m d h68, H67_ne m d h67, H66_ne m d h66, H65_ne m d h65, H64_ne m d h64, H63_ne m d h63, H62_ne m d h62]
/-- The 0/1 matrix and its transpose are as the first lines left them. -/
theorem same4 (d : Dev nD) {b : Ref sig .tc} (h : b ∈ [main_v8, main_v9]) : H71 m d (dr b) = H17 m d (dr b) := by
  simp only [List.mem_cons, List.not_mem_nil, or_false] at h
  rcases h with rfl | rfl
  · rw [stay4 m d (b := main_v8) (by decide), keep3 m d (b := main_v8) (by decide), keep2 m d (b := main_v8) (by decide), keep1 m d (b := main_v8) (by decide), keep0 m d (b := main_v8) (by decide)]
  · rw [stay4 m d (b := main_v9) (by decide), keep3 m d (b := main_v9) (by decide), keep2 m d (b := main_v9) (by decide), keep1 m d (b := main_v9) (by decide), keep0 m d (b := main_v9) (by decide)]
/-- The gathered rows. -/
theorem rows4 (d : Dev nD) : H71 m d (dr main_v55) = out m d 4 := by
  rw [H71_ne m d (b := main_v55) (by decide), H70_ne m d (b := main_v55) (by decide), H69_ne m d (b := main_v55) (by decide), H68_ne m d (b := main_v55) (by decide), H67_ne m d (b := main_v55) (by decide), H66_ne m d (b := main_v55) (by decide), H65_ne m d (b := main_v55) (by decide), H64_ne m d (b := main_v55) (by decide)]; exact Function.update_self ..
theorem H64_in (d : Dev nD) : H71 m d (dr main_v56) = extractStridedSlice S2000x128 ![8000, 0] (m ((SparseCore.T d).loc main_arg2)) slices_S10000x128_S2000x128_8000_0 := by
  rw [H71_ne m d (b := main_v56) (by decide), H70_ne m d (b := main_v56) (by decide), H69_ne m d (b := main_v56) (by decide), H68_ne m d (b := main_v56) (by decide), H67_ne m d (b := main_v56) (by decide), H66_ne m d (b := main_v56) (by decide), H65_ne m d (b := main_v56) (by decide)]; unfold H64; rw [StableHlo.unary_result', H63_arg m d (by decide)] <;> rfl
theorem H65_in (d : Dev nD) : H71 m d (dr main_v57) = extractStridedSlice S2000x128 ![8000, 0] (m ((SparseCore.T d).loc main_arg3)) slices_S10000x128_S2000x128_8000_0 := by
  rw [H71_ne m d (b := main_v57) (by decide), H70_ne m d (b := main_v57) (by decide), H69_ne m d (b := main_v57) (by decide), H68_ne m d (b := main_v57) (by decide), H67_ne m d (b := main_v57) (by decide), H66_ne m d (b := main_v57) (by decide)]; unfold H65; rw [StableHlo.unary_result', H64_arg m d (by decide)] <;> rfl
theorem H66_in (d : Dev nD) : H71 m d (dr main_v58) = shapeCast S1x128 (m ((SparseCore.T d).loc main_arg5)) shapeCasts_S128_S1x128 := by
  rw [H71_ne m d (b := main_v58) (by decide), H70_ne m d (b := main_v58) (by decide), H69_ne m d (b := main_v58) (by decide), H68_ne m d (b := main_v58) (by decide), H67_ne m d (b := main_v58) (by decide)]; unfold H66; rw [StableHlo.reshape_result', H65_arg m d (by decide)] <;> rfl
theorem H67_in (d : Dev nD) : H71 m d (dr main_v59) = shapeCast S1x128 (m ((SparseCore.T d).loc main_arg6)) shapeCasts_S128_S1x128 := by
  rw [H71_ne m d (b := main_v59) (by decide), H70_ne m d (b := main_v59) (by decide), H69_ne m d (b := main_v59) (by decide), H68_ne m d (b := main_v59) (by decide)]; unfold H67; rw [StableHlo.reshape_result', H66_arg m d (by decide)] <;> rfl
theorem H68_in (d : Dev nD) : H71 m d (dr main_v60) = shapeCast S1x256 (m ((SparseCore.T d).loc main_arg8)) shapeCasts_S256_S1x256 := by
  rw [H71_ne m d (b := main_v60) (by decide), H70_ne m d (b := main_v60) (by decide), H69_ne m d (b := main_v60) (by decide)]; unfold H68; rw [StableHlo.reshape_result', H67_arg m d (by decide)] <;> rfl
theorem H69_in (d : Dev nD) : H71 m d (dr main_v61) = shapeCast S1x128 (m ((SparseCore.T d).loc main_arg10)) shapeCasts_S128_S1x128 := by
  rw [H71_ne m d (b := main_v61) (by decide), H70_ne m d (b := main_v61) (by decide)]; unfold H69; rw [StableHlo.reshape_result', H68_arg m d (by decide)] <;> rfl
theorem H70_in (d : Dev nD) : H71 m d (dr main_v62) = shapeCast S1x128 (m ((SparseCore.T d).loc main_arg11)) shapeCasts_S128_S1x128 := by
  rw [H71_ne m d (b := main_v62) (by decide)]; unfold H70; rw [StableHlo.reshape_result', H69_arg m d (by decide)] <;> rfl
theorem H71_in (d : Dev nD) : H71 m d (dr main_v63) = shapeCast S1x128 (m ((SparseCore.T d).loc main_arg12)) shapeCasts_S128_S1x128 := by
  unfold H71; rw [StableHlo.reshape_result', H70_arg m d (by decide)] <;> rfl

end Cert.Proof.Layer
-- ==== Proof.Layer.Payload.lean ====
/-
  What the attention body computes: each payload at an index, and the whole of it, row by row.
-/
module

public import proofs.«01_k».proof.Proof.Attn.Row
public import proofs.«01_k».proof.Proof.Gen.LayerIdeal.Skeleton
public import Idealize.ShloMosaic.Lib.Pipeline.ValueKit

@[expose] public section

set_option maxRecDepth 65536

noncomputable section

namespace Cert.Proof.Layer

open Cert.LayerIdeal Cert.LayerIdeal.Gen Idealize.ShloMosaic Idealize.ShloMosaic.TcCoe Idealize.SL.Sem
open Cert.Proof.Attn

set_option maxHeartbeats 2000000

/-- The first payload, at an index: the weighted sum of the values, given the two 0/1 matrices of the heads' columns. -/
theorem pay2 (v0 : Vec Ideal S200x128 .f32) (v5 : Vec Ideal S3200x128 .i32) (v13 : Vec Ideal S128x8 .f32) (v33 : Vec Ideal S8x128 .f32)
    (h13 : ∀ j h, v13 (ix2 j h) = if headOf j = h then 1 else 0) (h33 : ∀ h j, v33 (ix2 h j) = if headOf j = h then 1 else 0) (r : Fin 200) (j : Fin 128) :
    k1_pay2 v0 v5 v13 v33 (ix2 r j) = mixed (fun d => v0 (ix2 r d)) (fun k d => v5 (ix2 ⟨r.val * 16 + k.val, by omega⟩ d)) j := by
  pointwise [k1_pay2]
  simp only [h13, h33, sum_head, sum_heads, quarter]
  rfl

/-- The second: the projection and the first layer norm. -/
theorem pay3 (v38 : FVec Ideal S200x128 .f32) (v39 : Vec Ideal S200x128 .f32) (v40 : Vec Ideal S128x128 .f32) (v61 : Vec Ideal S1x128 .f32) (v65 : Vec Ideal S1x128 .f32) (r : Fin 200) (j : Fin 128) :
    k1_pay3 v38 v39 v40 v61 v65 (ix2 r j)
      = norm (fun d => v39 (ix2 r d) + ∑ x, v38 (ix2 r x) * v40 (ix2 x d)) (fun d => v61 (ix2 0 d)) (fun d => v65 (ix2 0 d)) j := by
  pointwise [k1_pay3]
  rfl

/-- The third: the hidden layer. -/
theorem pay4 (v38 : FVec Ideal S200x128 .f32) (v39 : Vec Ideal S200x128 .f32) (v40 : Vec Ideal S128x128 .f32) (v61 : Vec Ideal S1x128 .f32) (v65 : Vec Ideal S1x128 .f32)
    (v69 : Vec Ideal S128x256 .f32) (v71 : Vec Ideal S1x256 .f32) (r : Fin 200) (l : Fin 256) :
    k1_pay4 v38 v39 v40 v61 v65 v69 v71 (ix2 r l)
      = hidden (fun d => k1_pay3 v38 v39 v40 v61 v65 (ix2 r d)) (fun d l => v69 (ix2 d l)) (fun l => v71 (ix2 0 l)) l := by
  pointwise [k1_pay4]
  rfl

/-- The last: the second residual block and its layer norm. -/
theorem pay1 (v68 : FVec Ideal S200x128 .f32) (v76 : FVec Ideal S200x256 .f32) (v77 : Vec Ideal S256x128 .f32) (v79 : Vec Ideal S1x128 .f32) (v102 v106 : Vec Ideal S1x128 .f32) (r : Fin 200) (j : Fin 128) :
    k1_pay1 v68 v76 v77 v79 v102 v106 (ix2 r j)
      = norm (fun d => v68 (ix2 r d) + ((∑ l, v76 (ix2 r l) * v77 (ix2 l d)) + v79 (ix2 0 d))) (fun d => v102 (ix2 0 d)) (fun d => v106 (ix2 0 d)) j := by
  pointwise [k1_pay1]
  rfl

/-- The 0/1 matrix of the heads' columns, as the host lines before the kernel build it: the identity of 8, every row 16 times. -/
def heads : FVec Ideal S128x8 .f32 :=
  shapeCast S128x8 (mulf (broadcastInDim S8x16x8x1 ![0, 1, 2, 3] bcast_S8x1x8x1_S8x16x8x1_0_1_2_3 (broadcastInDim S8x1x8x1 ![0, 2] bcast_S8x8_S8x1x8x1_0_2
      (uitofp (F := Ideal) .f32 (cmpi .eq (addi (iotaInDim S8x8 32 0) (broadcastInDim S8x8 ![] bcast_S_S8x8 (constantI S_ 32 0#32))) (iotaInDim S8x8 32 1)))))
    (broadcastInDim S8x16x8x1 ![0, 1, 2, 3] bcast_S1x16x1x1_S8x16x8x1_0_1_2_3 (broadcastInDim S1x16x1x1 ![1, 3] bcast_S16x1_S1x16x1x1_1_3
      (broadcastInDim S16x1 ![] bcast_S_S16x1 (constant (F := Ideal) S_ .f32 0x3F800000#32))))) shapeCasts_S8x16x8x1_S128x8

/-- The two bits as numbers. -/
theorem uitofp_one : FloatOps.uitofp (F := Ideal) .f32 1#1 = (1 : EReal) := by
  show (((1#1).toNat : ℝ) : EReal) = 1
  simp

/-- The other bit. -/
theorem uitofp_zero : FloatOps.uitofp (F := Ideal) .f32 0#1 = (0 : EReal) := by
  show (((0#1).toNat : ℝ) : EReal) = 0
  simp

/-- The matrix's entries. -/
theorem heads_apply (j : Fin 128) (h : Fin 8) : heads (ix2 j h) = if headOf j = h then 1 else 0 := by
  pointwise [heads]
  have hadd : IntOp.addi (BitVec.ofNat 32 (j.val / 16)) 0#32 = BitVec.ofNat 32 (j.val / 16) := BitVec.add_zero _
  rw [hadd]
  by_cases e : headOf j = h
  · subst e
    simp only [headOf, if_true]
    simp [IntOp.cmpi]
    exact uitofp_one
  · have e' : BitVec.ofNat 32 (j.val / 16) ≠ BitVec.ofNat 32 h.val := fun hh => e (Fin.ext (by
      have := congrArg BitVec.toNat hh
      simp only [BitVec.toNat_ofNat] at this
      show j.val / 16 = h.val
      omega))
    rw [if_neg e, show IntOp.cmpi .eq (BitVec.ofNat 32 (j.val / 16)) (BitVec.ofNat 32 h.val) = 0#1 by simp only [IntOp.cmpi, beq_eq_false_iff_ne.mpr e']; rfl]
    exact uitofp_zero

/-- The transpose's entries. -/
theorem transposed_apply (h : Fin 8) (j : Fin 128) : (transpose S8x128 [1, 0] heads transposes_S128x8_S8x128_1_0 : FVec Ideal S8x128 .f32) (ix2 h j) = if headOf j = h then 1 else 0 := by
  pointwise
  exact heads_apply j h

/-- The whole payload at an index: row `r` of the block, from the block's rows. -/
theorem block (x0 : Vec Ideal S200x128 .f32) (x1 : Vec Ideal S3200x128 .i32) (x2 : Vec Ideal S200x128 .f32) (x3 : Vec Ideal S128x8 .f32) (x4 : Vec Ideal S8x128 .f32)
    (x5 : Vec Ideal S128x128 .f32) (x6 x7 : Vec Ideal S1x128 .f32) (x8 : Vec Ideal S128x256 .f32) (x9 : Vec Ideal S1x256 .f32) (x10 : Vec Ideal S256x128 .f32)
    (x11 x12 x13 : Vec Ideal S1x128 .f32) (h3 : ∀ j h, x3 (ix2 j h) = if headOf j = h then 1 else 0) (h4 : ∀ h j, x4 (ix2 h j) = if headOf j = h then 1 else 0)
    (r : Fin 200) (j : Fin 128) :
    k1_pay1 (k1_pay3 (k1_pay2 x0 x1 x3 x4) x2 x5 x6 x7) (k1_pay4 (k1_pay2 x0 x1 x3 x4) x2 x5 x6 x7 x8 x9) x10 x11 x12 x13 (ix2 r j)
      = norm (forward (norm (projected (fun d => x0 (ix2 r d)) (fun k d => x1 (ix2 ⟨r.val * 16 + k.val, by omega⟩ d)) (fun d => x2 (ix2 r d)) fun x d => x5 (ix2 x d))
          (fun d => x6 (ix2 0 d)) fun d => x7 (ix2 0 d)) (fun d l => x8 (ix2 d l)) (fun l => x9 (ix2 0 l)) (fun l d => x10 (ix2 l d)) fun d => x11 (ix2 0 d))
        (fun d => x12 (ix2 0 d)) (fun d => x13 (ix2 0 d)) j := by
  rw [pay1]
  simp only [pay4, pay3, pay2 x0 x1 x3 x4 h3 h4]
  rfl

/-- The attention of a chunk: every row by itself, from the arrays as the call takes them. -/
def attended (q : Vec Ideal S2000x128 .f32) (kv : Vec Ideal S32000x128 .i32) (hin : Vec Ideal S2000x128 .f32) (wo : Vec Ideal S128x128 .f32)
    (s1 b1 : Vec Ideal S1x128 .f32) (w1 : Vec Ideal S128x256 .f32) (c1 : Vec Ideal S1x256 .f32) (w2 : Vec Ideal S256x128 .f32) (c2 s2 b2 : Vec Ideal S1x128 .f32) :
    Vec Ideal S2000x128 .f32 := fun i =>
  norm (forward (norm (projected (fun d => q (ix2 (i 0) d)) (fun k d => kv (ix2 ⟨(i 0).val * 16 + k.val, by have h : (i 0).val < 2000 := (i 0).isLt; omega⟩ d)) (fun d => hin (ix2 (i 0) d)) fun x d => wo (ix2 x d))
      (fun d => s1 (ix2 0 d)) fun d => b1 (ix2 0 d)) (fun d l => w1 (ix2 d l)) (fun l => c1 (ix2 0 l)) (fun l d => w2 (ix2 l d)) fun d => c2 (ix2 0 d))
    (fun d => s2 (ix2 0 d)) (fun d => b2 (ix2 0 d)) (i 1)

/-- Row `r` of block `t`. -/
def row (t : Fin 10) (r : Fin 200) : Fin 2000 := ⟨t.val * 200 + r.val, by omega⟩

end Cert.Proof.Layer
-- ==== Proof.Layer.Value0.lean ====
/-
  What attention call 0 leaves: its ten blocks make up the attention of every row.
-/
module

public import proofs.«01_k».proof.Proof.Layer.Region0
public import proofs.«01_k».proof.Proof.Layer.Payload

@[expose] public section

set_option maxRecDepth 65536

noncomputable section

namespace Cert.Proof.Layer

open Cert.LayerIdeal Cert.LayerIdeal.Gen Idealize.ShloMosaic Idealize.ShloMosaic.TcCoe Idealize.SL.Sem
open Cert.Proof.Attn

set_option maxHeartbeats 2000000

variable (V : Dev nD → Valuation τ sig (Elt Ideal)) (c : Dev nD)

/-- Grid point `t` reads block row `t` of the queries, of the gathered rows and of the input, and writes block row `t` of the result; the rest it reads whole. -/
theorem index1_0 : ∀ t : Fin cfg1.N, win1_0.index t = ![t.val, 0] := (by decide +kernel : ∀ t : Fin grid1.N, win1_0.index t = ![t.val, 0])
theorem index1_1 : ∀ t : Fin cfg1.N, win1_1.index t = ![t.val, 0] := (by decide +kernel : ∀ t : Fin grid1.N, win1_1.index t = ![t.val, 0])
theorem index1_2 : ∀ t : Fin cfg1.N, win1_2.index t = ![t.val, 0] := (by decide +kernel : ∀ t : Fin grid1.N, win1_2.index t = ![t.val, 0])
theorem index1_3 : ∀ t : Fin cfg1.N, win1_3.index t = ![0, 0] := (by decide +kernel : ∀ t : Fin grid1.N, win1_3.index t = ![0, 0])
theorem index1_4 : ∀ t : Fin cfg1.N, win1_4.index t = ![0, 0] := (by decide +kernel : ∀ t : Fin grid1.N, win1_4.index t = ![0, 0])
theorem index1_5 : ∀ t : Fin cfg1.N, win1_5.index t = ![0, 0] := (by decide +kernel : ∀ t : Fin grid1.N, win1_5.index t = ![0, 0])
theorem index1_6 : ∀ t : Fin cfg1.N, win1_6.index t = ![0, 0] := (by decide +kernel : ∀ t : Fin grid1.N, win1_6.index t = ![0, 0])
theorem index1_7 : ∀ t : Fin cfg1.N, win1_7.index t = ![0, 0] := (by decide +kernel : ∀ t : Fin grid1.N, win1_7.index t = ![0, 0])
theorem index1_8 : ∀ t : Fin cfg1.N, win1_8.index t = ![0, 0] := (by decide +kernel : ∀ t : Fin grid1.N, win1_8.index t = ![0, 0])
theorem index1_9 : ∀ t : Fin cfg1.N, win1_9.index t = ![0, 0] := (by decide +kernel : ∀ t : Fin grid1.N, win1_9.index t = ![0, 0])
theorem index1_10 : ∀ t : Fin cfg1.N, win1_10.index t = ![0, 0] := (by decide +kernel : ∀ t : Fin grid1.N, win1_10.index t = ![0, 0])
theorem index1_11 : ∀ t : Fin cfg1.N, win1_11.index t = ![0, 0] := (by decide +kernel : ∀ t : Fin grid1.N, win1_11.index t = ![0, 0])
theorem index1_12 : ∀ t : Fin cfg1.N, win1_12.index t = ![0, 0] := (by decide +kernel : ∀ t : Fin grid1.N, win1_12.index t = ![0, 0])
theorem index1_13 : ∀ t : Fin cfg1.N, win1_13.index t = ![0, 0] := (by decide +kernel : ∀ t : Fin grid1.N, win1_13.index t = ![0, 0])
theorem index1_14 : ∀ t : Fin cfg1.N, win1_14.index t = ![t.val, 0] := (by decide +kernel : ∀ t : Fin grid1.N, win1_14.index t = ![t.val, 0])

/-- What each operand's block holds at grid point `t`: rows of its array, or the whole of it. -/
theorem read1_0 (t : Fin cfg1.N) (r : Fin 200) (d : Fin 128) : iblk1 V c 0 t (ix2 r d) = V c (Proc.devRef .tc main_v12) (ix2 (row t r) d) := by
  unfold row; blk_point [iblk1, index1_0]
theorem read1_1 (t : Fin cfg1.N) (r : Fin 200) (k : Fin 16) (d : Fin 128) : iblk1 V c 1 t (ix2 ⟨r.val * 16 + k.val, by omega⟩ d) = V c (Proc.devRef .tc main_v11) (ix2 ⟨(row t r).val * 16 + k.val, by have := (row t r).isLt; omega⟩ d) := by
  unfold row; blk_point [iblk1, index1_1]
theorem read1_2 (t : Fin cfg1.N) (r : Fin 200) (d : Fin 128) : iblk1 V c 2 t (ix2 r d) = V c (Proc.devRef .tc main_v13) (ix2 (row t r) d) := by
  unfold row; blk_point [iblk1, index1_2]
theorem read1_3 (t : Fin cfg1.N) (x : Fin 128) (y : Fin 8) : iblk1 V c 3 t (ix2 x y) = V c (Proc.devRef .tc main_v8) (ix2 x y) := by
  blk_point [iblk1, index1_3]
theorem read1_4 (t : Fin cfg1.N) (x : Fin 8) (y : Fin 128) : iblk1 V c 4 t (ix2 x y) = V c (Proc.devRef .tc main_v9) (ix2 x y) := by
  blk_point [iblk1, index1_4]
theorem read1_5 (t : Fin cfg1.N) (x : Fin 128) (y : Fin 128) : iblk1 V c 5 t (ix2 x y) = V c (Proc.devRef .tc main_arg4) (ix2 x y) := by
  blk_point [iblk1, index1_5]
theorem read1_6 (t : Fin cfg1.N) (y : Fin 128) : iblk1 V c 6 t (ix2 0 y) = V c (Proc.devRef .tc main_v14) (ix2 0 y) := by
  blk_point [iblk1, index1_6]
theorem read1_7 (t : Fin cfg1.N) (y : Fin 128) : iblk1 V c 7 t (ix2 0 y) = V c (Proc.devRef .tc main_v15) (ix2 0 y) := by
  blk_point [iblk1, index1_7]
theorem read1_8 (t : Fin cfg1.N) (x : Fin 128) (y : Fin 256) : iblk1 V c 8 t (ix2 x y) = V c (Proc.devRef .tc main_arg7) (ix2 x y) := by
  blk_point [iblk1, index1_8]
theorem read1_9 (t : Fin cfg1.N) (y : Fin 256) : iblk1 V c 9 t (ix2 0 y) = V c (Proc.devRef .tc main_v16) (ix2 0 y) := by
  blk_point [iblk1, index1_9]
theorem read1_10 (t : Fin cfg1.N) (x : Fin 256) (y : Fin 128) : iblk1 V c 10 t (ix2 x y) = V c (Proc.devRef .tc main_arg9) (ix2 x y) := by
  blk_point [iblk1, index1_10]
theorem read1_11 (t : Fin cfg1.N) (y : Fin 128) : iblk1 V c 11 t (ix2 0 y) = V c (Proc.devRef .tc main_v17) (ix2 0 y) := by
  blk_point [iblk1, index1_11]
theorem read1_12 (t : Fin cfg1.N) (y : Fin 128) : iblk1 V c 12 t (ix2 0 y) = V c (Proc.devRef .tc main_v18) (ix2 0 y) := by
  blk_point [iblk1, index1_12]
theorem read1_13 (t : Fin cfg1.N) (y : Fin 128) : iblk1 V c 13 t (ix2 0 y) = V c (Proc.devRef .tc main_v19) (ix2 0 y) := by
  blk_point [iblk1, index1_13]

/-- The array the call leaves is the attention of every row: every block is written once, by its own grid point. -/
theorem arrAt1_eq (h3 : ∀ j h, V c (Proc.devRef .tc main_v8) (ix2 j h) = if headOf j = h then (1 : EReal) else 0)
    (h4 : ∀ h j, V c (Proc.devRef .tc main_v9) (ix2 h j) = if headOf j = h then (1 : EReal) else 0) :
    (dat1 V c).arrAt 14 cfg1.N = attended (V c (Proc.devRef .tc main_v12)) (V c (Proc.devRef .tc main_v11)) (V c (Proc.devRef .tc main_v13)) (V c (Proc.devRef .tc main_arg4)) (V c (Proc.devRef .tc main_v14)) (V c (Proc.devRef .tc main_v15)) (V c (Proc.devRef .tc main_arg7)) (V c (Proc.devRef .tc main_v16)) (V c (Proc.devRef .tc main_arg9)) (V c (Proc.devRef .tc main_v17)) (V c (Proc.devRef .tc main_v18)) (V c (Proc.devRef .tc main_v19)) := by
  refine (dat1 V c).arrAt_eq_of_covers 14 _ (by decide +kernel) fun t hf y => ?_
  blk_simp
  rw [after1_14]
  unfold attnOut
  frame_out
  obtain ⟨r, j, rfl⟩ : ∃ (r : Fin 200) (j : Fin 128), y = ix2 r j := ⟨y 0, y 1, eq_ix2 y⟩
  have he : ((View.whole main_v20).slice (win1_14.rect t)).emb (ix2 r j) = ix2 (row t r) j := by
    unfold row
    blk_ext [index1_14]
  rw [he]
  refine (block _ _ _ _ _ _ _ _ _ _ _ _ _ _ (fun j h => (read1_3 V c t j h).trans (h3 j h)) (fun h j => (read1_4 V c t h j).trans (h4 h j)) r j).trans ?_
  simp only [read1_0, read1_1, read1_2, read1_5, read1_6, read1_7, read1_8, read1_9, read1_10, read1_11, read1_12, read1_13]
  rfl

end Cert.Proof.Layer
-- ==== Proof.Layer.Value1.lean ====
/-
  What attention call 1 leaves: its ten blocks make up the attention of every row.
-/
module

public import proofs.«01_k».proof.Proof.Layer.Region1
public import proofs.«01_k».proof.Proof.Layer.Payload

@[expose] public section

set_option maxRecDepth 65536

noncomputable section

namespace Cert.Proof.Layer

open Cert.LayerIdeal Cert.LayerIdeal.Gen Idealize.ShloMosaic Idealize.ShloMosaic.TcCoe Idealize.SL.Sem
open Cert.Proof.Attn

set_option maxHeartbeats 2000000

variable (V : Dev nD → Valuation τ sig (Elt Ideal)) (c : Dev nD)

/-- Grid point `t` reads block row `t` of the queries, of the gathered rows and of the input, and writes block row `t` of the result; the rest it reads whole. -/
theorem index3_0 : ∀ t : Fin cfg3.N, win3_0.index t = ![t.val, 0] := (by decide +kernel : ∀ t : Fin grid3.N, win3_0.index t = ![t.val, 0])
theorem index3_1 : ∀ t : Fin cfg3.N, win3_1.index t = ![t.val, 0] := (by decide +kernel : ∀ t : Fin grid3.N, win3_1.index t = ![t.val, 0])
theorem index3_2 : ∀ t : Fin cfg3.N, win3_2.index t = ![t.val, 0] := (by decide +kernel : ∀ t : Fin grid3.N, win3_2.index t = ![t.val, 0])
theorem index3_3 : ∀ t : Fin cfg3.N, win3_3.index t = ![0, 0] := (by decide +kernel : ∀ t : Fin grid3.N, win3_3.index t = ![0, 0])
theorem index3_4 : ∀ t : Fin cfg3.N, win3_4.index t = ![0, 0] := (by decide +kernel : ∀ t : Fin grid3.N, win3_4.index t = ![0, 0])
theorem index3_5 : ∀ t : Fin cfg3.N, win3_5.index t = ![0, 0] := (by decide +kernel : ∀ t : Fin grid3.N, win3_5.index t = ![0, 0])
theorem index3_6 : ∀ t : Fin cfg3.N, win3_6.index t = ![0, 0] := (by decide +kernel : ∀ t : Fin grid3.N, win3_6.index t = ![0, 0])
theorem index3_7 : ∀ t : Fin cfg3.N, win3_7.index t = ![0, 0] := (by decide +kernel : ∀ t : Fin grid3.N, win3_7.index t = ![0, 0])
theorem index3_8 : ∀ t : Fin cfg3.N, win3_8.index t = ![0, 0] := (by decide +kernel : ∀ t : Fin grid3.N, win3_8.index t = ![0, 0])
theorem index3_9 : ∀ t : Fin cfg3.N, win3_9.index t = ![0, 0] := (by decide +kernel : ∀ t : Fin grid3.N, win3_9.index t = ![0, 0])
theorem index3_10 : ∀ t : Fin cfg3.N, win3_10.index t = ![0, 0] := (by decide +kernel : ∀ t : Fin grid3.N, win3_10.index t = ![0, 0])
theorem index3_11 : ∀ t : Fin cfg3.N, win3_11.index t = ![0, 0] := (by decide +kernel : ∀ t : Fin grid3.N, win3_11.index t = ![0, 0])
theorem index3_12 : ∀ t : Fin cfg3.N, win3_12.index t = ![0, 0] := (by decide +kernel : ∀ t : Fin grid3.N, win3_12.index t = ![0, 0])
theorem index3_13 : ∀ t : Fin cfg3.N, win3_13.index t = ![0, 0] := (by decide +kernel : ∀ t : Fin grid3.N, win3_13.index t = ![0, 0])
theorem index3_14 : ∀ t : Fin cfg3.N, win3_14.index t = ![t.val, 0] := (by decide +kernel : ∀ t : Fin grid3.N, win3_14.index t = ![t.val, 0])

/-- What each operand's block holds at grid point `t`: rows of its array, or the whole of it. -/
theorem read3_0 (t : Fin cfg3.N) (r : Fin 200) (d : Fin 128) : iblk3 V c 0 t (ix2 r d) = V c (Proc.devRef .tc main_v23) (ix2 (row t r) d) := by
  unfold row; blk_point [iblk3, index3_0]
theorem read3_1 (t : Fin cfg3.N) (r : Fin 200) (k : Fin 16) (d : Fin 128) : iblk3 V c 1 t (ix2 ⟨r.val * 16 + k.val, by omega⟩ d) = V c (Proc.devRef .tc main_v22) (ix2 ⟨(row t r).val * 16 + k.val, by have := (row t r).isLt; omega⟩ d) := by
  unfold row; blk_point [iblk3, index3_1]
theorem read3_2 (t : Fin cfg3.N) (r : Fin 200) (d : Fin 128) : iblk3 V c 2 t (ix2 r d) = V c (Proc.devRef .tc main_v24) (ix2 (row t r) d) := by
  unfold row; blk_point [iblk3, index3_2]
theorem read3_3 (t : Fin cfg3.N) (x : Fin 128) (y : Fin 8) : iblk3 V c 3 t (ix2 x y) = V c (Proc.devRef .tc main_v8) (ix2 x y) := by
  blk_point [iblk3, index3_3]
theorem read3_4 (t : Fin cfg3.N) (x : Fin 8) (y : Fin 128) : iblk3 V c 4 t (ix2 x y) = V c (Proc.devRef .tc main_v9) (ix2 x y) := by
  blk_point [iblk3, index3_4]
theorem read3_5 (t : Fin cfg3.N) (x : Fin 128) (y : Fin 128) : iblk3 V c 5 t (ix2 x y) = V c (Proc.devRef .tc main_arg4) (ix2 x y) := by
  blk_point [iblk3, index3_5]
theorem read3_6 (t : Fin cfg3.N) (y : Fin 128) : iblk3 V c 6 t (ix2 0 y) = V c (Proc.devRef .tc main_v25) (ix2 0 y) := by
  blk_point [iblk3, index3_6]
theorem read3_7 (t : Fin cfg3.N) (y : Fin 128) : iblk3 V c 7 t (ix2 0 y) = V c (Proc.devRef .tc main_v26) (ix2 0 y) := by
  blk_point [iblk3, index3_7]
theorem read3_8 (t : Fin cfg3.N) (x : Fin 128) (y : Fin 256) : iblk3 V c 8 t (ix2 x y) = V c (Proc.devRef .tc main_arg7) (ix2 x y) := by
  blk_point [iblk3, index3_8]
theorem read3_9 (t : Fin cfg3.N) (y : Fin 256) : iblk3 V c 9 t (ix2 0 y) = V c (Proc.devRef .tc main_v27) (ix2 0 y) := by
  blk_point [iblk3, index3_9]
theorem read3_10 (t : Fin cfg3.N) (x : Fin 256) (y : Fin 128) : iblk3 V c 10 t (ix2 x y) = V c (Proc.devRef .tc main_arg9) (ix2 x y) := by
  blk_point [iblk3, index3_10]
theorem read3_11 (t : Fin cfg3.N) (y : Fin 128) : iblk3 V c 11 t (ix2 0 y) = V c (Proc.devRef .tc main_v28) (ix2 0 y) := by
  blk_point [iblk3, index3_11]
theorem read3_12 (t : Fin cfg3.N) (y : Fin 128) : iblk3 V c 12 t (ix2 0 y) = V c (Proc.devRef .tc main_v29) (ix2 0 y) := by
  blk_point [iblk3, index3_12]
theorem read3_13 (t : Fin cfg3.N) (y : Fin 128) : iblk3 V c 13 t (ix2 0 y) = V c (Proc.devRef .tc main_v30) (ix2 0 y) := by
  blk_point [iblk3, index3_13]

/-- The array the call leaves is the attention of every row: every block is written once, by its own grid point. -/
theorem arrAt3_eq (h3 : ∀ j h, V c (Proc.devRef .tc main_v8) (ix2 j h) = if headOf j = h then (1 : EReal) else 0)
    (h4 : ∀ h j, V c (Proc.devRef .tc main_v9) (ix2 h j) = if headOf j = h then (1 : EReal) else 0) :
    (dat3 V c).arrAt 14 cfg3.N = attended (V c (Proc.devRef .tc main_v23)) (V c (Proc.devRef .tc main_v22)) (V c (Proc.devRef .tc main_v24)) (V c (Proc.devRef .tc main_arg4)) (V c (Proc.devRef .tc main_v25)) (V c (Proc.devRef .tc main_v26)) (V c (Proc.devRef .tc main_arg7)) (V c (Proc.devRef .tc main_v27)) (V c (Proc.devRef .tc main_arg9)) (V c (Proc.devRef .tc main_v28)) (V c (Proc.devRef .tc main_v29)) (V c (Proc.devRef .tc main_v30)) := by
  refine (dat3 V c).arrAt_eq_of_covers 14 _ (by decide +kernel) fun t hf y => ?_
  blk_simp
  rw [after3_14]
  unfold attnOut
  frame_out
  obtain ⟨r, j, rfl⟩ : ∃ (r : Fin 200) (j : Fin 128), y = ix2 r j := ⟨y 0, y 1, eq_ix2 y⟩
  have he : ((View.whole main_v31).slice (win3_14.rect t)).emb (ix2 r j) = ix2 (row t r) j := by
    unfold row
    blk_ext [index3_14]
  rw [he]
  refine (block _ _ _ _ _ _ _ _ _ _ _ _ _ _ (fun j h => (read3_3 V c t j h).trans (h3 j h)) (fun h j => (read3_4 V c t h j).trans (h4 h j)) r j).trans ?_
  simp only [read3_0, read3_1, read3_2, read3_5, read3_6, read3_7, read3_8, read3_9, read3_10, read3_11, read3_12, read3_13]
  rfl

end Cert.Proof.Layer
-- ==== Proof.Layer.Value2.lean ====
/-
  What attention call 2 leaves: its ten blocks make up the attention of every row.
-/
module

public import proofs.«01_k».proof.Proof.Layer.Region2
public import proofs.«01_k».proof.Proof.Layer.Payload

@[expose] public section

set_option maxRecDepth 65536

noncomputable section

namespace Cert.Proof.Layer

open Cert.LayerIdeal Cert.LayerIdeal.Gen Idealize.ShloMosaic Idealize.ShloMosaic.TcCoe Idealize.SL.Sem
open Cert.Proof.Attn

set_option maxHeartbeats 2000000

variable (V : Dev nD → Valuation τ sig (Elt Ideal)) (c : Dev nD)

/-- Grid point `t` reads block row `t` of the queries, of the gathered rows and of the input, and writes block row `t` of the result; the rest it reads whole. -/
theorem index5_0 : ∀ t : Fin cfg5.N, win5_0.index t = ![t.val, 0] := (by decide +kernel : ∀ t : Fin grid5.N, win5_0.index t = ![t.val, 0])
theorem index5_1 : ∀ t : Fin cfg5.N, win5_1.index t = ![t.val, 0] := (by decide +kernel : ∀ t : Fin grid5.N, win5_1.index t = ![t.val, 0])
theorem index5_2 : ∀ t : Fin cfg5.N, win5_2.index t = ![t.val, 0] := (by decide +kernel : ∀ t : Fin grid5.N, win5_2.index t = ![t.val, 0])
theorem index5_3 : ∀ t : Fin cfg5.N, win5_3.index t = ![0, 0] := (by decide +kernel : ∀ t : Fin grid5.N, win5_3.index t = ![0, 0])
theorem index5_4 : ∀ t : Fin cfg5.N, win5_4.index t = ![0, 0] := (by decide +kernel : ∀ t : Fin grid5.N, win5_4.index t = ![0, 0])
theorem index5_5 : ∀ t : Fin cfg5.N, win5_5.index t = ![0, 0] := (by decide +kernel : ∀ t : Fin grid5.N, win5_5.index t = ![0, 0])
theorem index5_6 : ∀ t : Fin cfg5.N, win5_6.index t = ![0, 0] := (by decide +kernel : ∀ t : Fin grid5.N, win5_6.index t = ![0, 0])
theorem index5_7 : ∀ t : Fin cfg5.N, win5_7.index t = ![0, 0] := (by decide +kernel : ∀ t : Fin grid5.N, win5_7.index t = ![0, 0])
theorem index5_8 : ∀ t : Fin cfg5.N, win5_8.index t = ![0, 0] := (by decide +kernel : ∀ t : Fin grid5.N, win5_8.index t = ![0, 0])
theorem index5_9 : ∀ t : Fin cfg5.N, win5_9.index t = ![0, 0] := (by decide +kernel : ∀ t : Fin grid5.N, win5_9.index t = ![0, 0])
theorem index5_10 : ∀ t : Fin cfg5.N, win5_10.index t = ![0, 0] := (by decide +kernel : ∀ t : Fin grid5.N, win5_10.index t = ![0, 0])
theorem index5_11 : ∀ t : Fin cfg5.N, win5_11.index t = ![0, 0] := (by decide +kernel : ∀ t : Fin grid5.N, win5_11.index t = ![0, 0])
theorem index5_12 : ∀ t : Fin cfg5.N, win5_12.index t = ![0, 0] := (by decide +kernel : ∀ t : Fin grid5.N, win5_12.index t = ![0, 0])
theorem index5_13 : ∀ t : Fin cfg5.N, win5_13.index t = ![0, 0] := (by decide +kernel : ∀ t : Fin grid5.N, win5_13.index t = ![0, 0])
theorem index5_14 : ∀ t : Fin cfg5.N, win5_14.index t = ![t.val, 0] := (by decide +kernel : ∀ t : Fin grid5.N, win5_14.index t = ![t.val, 0])

/-- What each operand's block holds at grid point `t`: rows of its array, or the whole of it. -/
theorem read5_0 (t : Fin cfg5.N) (r : Fin 200) (d : Fin 128) : iblk5 V c 0 t (ix2 r d) = V c (Proc.devRef .tc main_v34) (ix2 (row t r) d) := by
  unfold row; blk_point [iblk5, index5_0]
theorem read5_1 (t : Fin cfg5.N) (r : Fin 200) (k : Fin 16) (d : Fin 128) : iblk5 V c 1 t (ix2 ⟨r.val * 16 + k.val, by omega⟩ d) = V c (Proc.devRef .tc main_v33) (ix2 ⟨(row t r).val * 16 + k.val, by have := (row t r).isLt; omega⟩ d) := by
  unfold row; blk_point [iblk5, index5_1]
theorem read5_2 (t : Fin cfg5.N) (r : Fin 200) (d : Fin 128) : iblk5 V c 2 t (ix2 r d) = V c (Proc.devRef .tc main_v35) (ix2 (row t r) d) := by
  unfold row; blk_point [iblk5, index5_2]
theorem read5_3 (t : Fin cfg5.N) (x : Fin 128) (y : Fin 8) : iblk5 V c 3 t (ix2 x y) = V c (Proc.devRef .tc main_v8) (ix2 x y) := by
  blk_point [iblk5, index5_3]
theorem read5_4 (t : Fin cfg5.N) (x : Fin 8) (y : Fin 128) : iblk5 V c 4 t (ix2 x y) = V c (Proc.devRef .tc main_v9) (ix2 x y) := by
  blk_point [iblk5, index5_4]
theorem read5_5 (t : Fin cfg5.N) (x : Fin 128) (y : Fin 128) : iblk5 V c 5 t (ix2 x y) = V c (Proc.devRef .tc main_arg4) (ix2 x y) := by
  blk_point [iblk5, index5_5]
theorem read5_6 (t : Fin cfg5.N) (y : Fin 128) : iblk5 V c 6 t (ix2 0 y) = V c (Proc.devRef .tc main_v36) (ix2 0 y) := by
  blk_point [iblk5, index5_6]
theorem read5_7 (t : Fin cfg5.N) (y : Fin 128) : iblk5 V c 7 t (ix2 0 y) = V c (Proc.devRef .tc main_v37) (ix2 0 y) := by
  blk_point [iblk5, index5_7]
theorem read5_8 (t : Fin cfg5.N) (x : Fin 128) (y : Fin 256) : iblk5 V c 8 t (ix2 x y) = V c (Proc.devRef .tc main_arg7) (ix2 x y) := by
  blk_point [iblk5, index5_8]
theorem read5_9 (t : Fin cfg5.N) (y : Fin 256) : iblk5 V c 9 t (ix2 0 y) = V c (Proc.devRef .tc main_v38) (ix2 0 y) := by
  blk_point [iblk5, index5_9]
theorem read5_10 (t : Fin cfg5.N) (x : Fin 256) (y : Fin 128) : iblk5 V c 10 t (ix2 x y) = V c (Proc.devRef .tc main_arg9) (ix2 x y) := by
  blk_point [iblk5, index5_10]
theorem read5_11 (t : Fin cfg5.N) (y : Fin 128) : iblk5 V c 11 t (ix2 0 y) = V c (Proc.devRef .tc main_v39) (ix2 0 y) := by
  blk_point [iblk5, index5_11]
theorem read5_12 (t : Fin cfg5.N) (y : Fin 128) : iblk5 V c 12 t (ix2 0 y) = V c (Proc.devRef .tc main_v40) (ix2 0 y) := by
  blk_point [iblk5, index5_12]
theorem read5_13 (t : Fin cfg5.N) (y : Fin 128) : iblk5 V c 13 t (ix2 0 y) = V c (Proc.devRef .tc main_v41) (ix2 0 y) := by
  blk_point [iblk5, index5_13]

/-- The array the call leaves is the attention of every row: every block is written once, by its own grid point. -/
theorem arrAt5_eq (h3 : ∀ j h, V c (Proc.devRef .tc main_v8) (ix2 j h) = if headOf j = h then (1 : EReal) else 0)
    (h4 : ∀ h j, V c (Proc.devRef .tc main_v9) (ix2 h j) = if headOf j = h then (1 : EReal) else 0) :
    (dat5 V c).arrAt 14 cfg5.N = attended (V c (Proc.devRef .tc main_v34)) (V c (Proc.devRef .tc main_v33)) (V c (Proc.devRef .tc main_v35)) (V c (Proc.devRef .tc main_arg4)) (V c (Proc.devRef .tc main_v36)) (V c (Proc.devRef .tc main_v37)) (V c (Proc.devRef .tc main_arg7)) (V c (Proc.devRef .tc main_v38)) (V c (Proc.devRef .tc main_arg9)) (V c (Proc.devRef .tc main_v39)) (V c (Proc.devRef .tc main_v40)) (V c (Proc.devRef .tc main_v41)) := by
  refine (dat5 V c).arrAt_eq_of_covers 14 _ (by decide +kernel) fun t hf y => ?_
  blk_simp
  rw [after5_14]
  unfold attnOut
  frame_out
  obtain ⟨r, j, rfl⟩ : ∃ (r : Fin 200) (j : Fin 128), y = ix2 r j := ⟨y 0, y 1, eq_ix2 y⟩
  have he : ((View.whole main_v42).slice (win5_14.rect t)).emb (ix2 r j) = ix2 (row t r) j := by
    unfold row
    blk_ext [index5_14]
  rw [he]
  refine (block _ _ _ _ _ _ _ _ _ _ _ _ _ _ (fun j h => (read5_3 V c t j h).trans (h3 j h)) (fun h j => (read5_4 V c t h j).trans (h4 h j)) r j).trans ?_
  simp only [read5_0, read5_1, read5_2, read5_5, read5_6, read5_7, read5_8, read5_9, read5_10, read5_11, read5_12, read5_13]
  rfl

end Cert.Proof.Layer
-- ==== Proof.Layer.Value3.lean ====
/-
  What attention call 3 leaves: its ten blocks make up the attention of every row.
-/
module

public import proofs.«01_k».proof.Proof.Layer.Region3
public import proofs.«01_k».proof.Proof.Layer.Payload

@[expose] public section

set_option maxRecDepth 65536

noncomputable section

namespace Cert.Proof.Layer

open Cert.LayerIdeal Cert.LayerIdeal.Gen Idealize.ShloMosaic Idealize.ShloMosaic.TcCoe Idealize.SL.Sem
open Cert.Proof.Attn

set_option maxHeartbeats 2000000

variable (V : Dev nD → Valuation τ sig (Elt Ideal)) (c : Dev nD)

/-- Grid point `t` reads block row `t` of the queries, of the gathered rows and of the input, and writes block row `t` of the result; the rest it reads whole. -/
theorem index7_0 : ∀ t : Fin cfg7.N, win7_0.index t = ![t.val, 0] := (by decide +kernel : ∀ t : Fin grid7.N, win7_0.index t = ![t.val, 0])
theorem index7_1 : ∀ t : Fin cfg7.N, win7_1.index t = ![t.val, 0] := (by decide +kernel : ∀ t : Fin grid7.N, win7_1.index t = ![t.val, 0])
theorem index7_2 : ∀ t : Fin cfg7.N, win7_2.index t = ![t.val, 0] := (by decide +kernel : ∀ t : Fin grid7.N, win7_2.index t = ![t.val, 0])
theorem index7_3 : ∀ t : Fin cfg7.N, win7_3.index t = ![0, 0] := (by decide +kernel : ∀ t : Fin grid7.N, win7_3.index t = ![0, 0])
theorem index7_4 : ∀ t : Fin cfg7.N, win7_4.index t = ![0, 0] := (by decide +kernel : ∀ t : Fin grid7.N, win7_4.index t = ![0, 0])
theorem index7_5 : ∀ t : Fin cfg7.N, win7_5.index t = ![0, 0] := (by decide +kernel : ∀ t : Fin grid7.N, win7_5.index t = ![0, 0])
theorem index7_6 : ∀ t : Fin cfg7.N, win7_6.index t = ![0, 0] := (by decide +kernel : ∀ t : Fin grid7.N, win7_6.index t = ![0, 0])
theorem index7_7 : ∀ t : Fin cfg7.N, win7_7.index t = ![0, 0] := (by decide +kernel : ∀ t : Fin grid7.N, win7_7.index t = ![0, 0])
theorem index7_8 : ∀ t : Fin cfg7.N, win7_8.index t = ![0, 0] := (by decide +kernel : ∀ t : Fin grid7.N, win7_8.index t = ![0, 0])
theorem index7_9 : ∀ t : Fin cfg7.N, win7_9.index t = ![0, 0] := (by decide +kernel : ∀ t : Fin grid7.N, win7_9.index t = ![0, 0])
theorem index7_10 : ∀ t : Fin cfg7.N, win7_10.index t = ![0, 0] := (by decide +kernel : ∀ t : Fin grid7.N, win7_10.index t = ![0, 0])
theorem index7_11 : ∀ t : Fin cfg7.N, win7_11.index t = ![0, 0] := (by decide +kernel : ∀ t : Fin grid7.N, win7_11.index t = ![0, 0])
theorem index7_12 : ∀ t : Fin cfg7.N, win7_12.index t = ![0, 0] := (by decide +kernel : ∀ t : Fin grid7.N, win7_12.index t = ![0, 0])
theorem index7_13 : ∀ t : Fin cfg7.N, win7_13.index t = ![0, 0] := (by decide +kernel : ∀ t : Fin grid7.N, win7_13.index t = ![0, 0])
theorem index7_14 : ∀ t : Fin cfg7.N, win7_14.index t = ![t.val, 0] := (by decide +kernel : ∀ t : Fin grid7.N, win7_14.index t = ![t.val, 0])

/-- What each operand's block holds at grid point `t`: rows of its array, or the whole of it. -/
theorem read7_0 (t : Fin cfg7.N) (r : Fin 200) (d : Fin 128) : iblk7 V c 0 t (ix2 r d) = V c (Proc.devRef .tc main_v45) (ix2 (row t r) d) := by
  unfold row; blk_point [iblk7, index7_0]
theorem read7_1 (t : Fin cfg7.N) (r : Fin 200) (k : Fin 16) (d : Fin 128) : iblk7 V c 1 t (ix2 ⟨r.val * 16 + k.val, by omega⟩ d) = V c (Proc.devRef .tc main_v44) (ix2 ⟨(row t r).val * 16 + k.val, by have := (row t r).isLt; omega⟩ d) := by
  unfold row; blk_point [iblk7, index7_1]
theorem read7_2 (t : Fin cfg7.N) (r : Fin 200) (d : Fin 128) : iblk7 V c 2 t (ix2 r d) = V c (Proc.devRef .tc main_v46) (ix2 (row t r) d) := by
  unfold row; blk_point [iblk7, index7_2]
theorem read7_3 (t : Fin cfg7.N) (x : Fin 128) (y : Fin 8) : iblk7 V c 3 t (ix2 x y) = V c (Proc.devRef .tc main_v8) (ix2 x y) := by
  blk_point [iblk7, index7_3]
theorem read7_4 (t : Fin cfg7.N) (x : Fin 8) (y : Fin 128) : iblk7 V c 4 t (ix2 x y) = V c (Proc.devRef .tc main_v9) (ix2 x y) := by
  blk_point [iblk7, index7_4]
theorem read7_5 (t : Fin cfg7.N) (x : Fin 128) (y : Fin 128) : iblk7 V c 5 t (ix2 x y) = V c (Proc.devRef .tc main_arg4) (ix2 x y) := by
  blk_point [iblk7, index7_5]
theorem read7_6 (t : Fin cfg7.N) (y : Fin 128) : iblk7 V c 6 t (ix2 0 y) = V c (Proc.devRef .tc main_v47) (ix2 0 y) := by
  blk_point [iblk7, index7_6]
theorem read7_7 (t : Fin cfg7.N) (y : Fin 128) : iblk7 V c 7 t (ix2 0 y) = V c (Proc.devRef .tc main_v48) (ix2 0 y) := by
  blk_point [iblk7, index7_7]
theorem read7_8 (t : Fin cfg7.N) (x : Fin 128) (y : Fin 256) : iblk7 V c 8 t (ix2 x y) = V c (Proc.devRef .tc main_arg7) (ix2 x y) := by
  blk_point [iblk7, index7_8]
theorem read7_9 (t : Fin cfg7.N) (y : Fin 256) : iblk7 V c 9 t (ix2 0 y) = V c (Proc.devRef .tc main_v49) (ix2 0 y) := by
  blk_point [iblk7, index7_9]
theorem read7_10 (t : Fin cfg7.N) (x : Fin 256) (y : Fin 128) : iblk7 V c 10 t (ix2 x y) = V c (Proc.devRef .tc main_arg9) (ix2 x y) := by
  blk_point [iblk7, index7_10]
theorem read7_11 (t : Fin cfg7.N) (y : Fin 128) : iblk7 V c 11 t (ix2 0 y) = V c (Proc.devRef .tc main_v50) (ix2 0 y) := by
  blk_point [iblk7, index7_11]
theorem read7_12 (t : Fin cfg7.N) (y : Fin 128) : iblk7 V c 12 t (ix2 0 y) = V c (Proc.devRef .tc main_v51) (ix2 0 y) := by
  blk_point [iblk7, index7_12]
theorem read7_13 (t : Fin cfg7.N) (y : Fin 128) : iblk7 V c 13 t (ix2 0 y) = V c (Proc.devRef .tc main_v52) (ix2 0 y) := by
  blk_point [iblk7, index7_13]

/-- The array the call leaves is the attention of every row: every block is written once, by its own grid point. -/
theorem arrAt7_eq (h3 : ∀ j h, V c (Proc.devRef .tc main_v8) (ix2 j h) = if headOf j = h then (1 : EReal) else 0)
    (h4 : ∀ h j, V c (Proc.devRef .tc main_v9) (ix2 h j) = if headOf j = h then (1 : EReal) else 0) :
    (dat7 V c).arrAt 14 cfg7.N = attended (V c (Proc.devRef .tc main_v45)) (V c (Proc.devRef .tc main_v44)) (V c (Proc.devRef .tc main_v46)) (V c (Proc.devRef .tc main_arg4)) (V c (Proc.devRef .tc main_v47)) (V c (Proc.devRef .tc main_v48)) (V c (Proc.devRef .tc main_arg7)) (V c (Proc.devRef .tc main_v49)) (V c (Proc.devRef .tc main_arg9)) (V c (Proc.devRef .tc main_v50)) (V c (Proc.devRef .tc main_v51)) (V c (Proc.devRef .tc main_v52)) := by
  refine (dat7 V c).arrAt_eq_of_covers 14 _ (by decide +kernel) fun t hf y => ?_
  blk_simp
  rw [after7_14]
  unfold attnOut
  frame_out
  obtain ⟨r, j, rfl⟩ : ∃ (r : Fin 200) (j : Fin 128), y = ix2 r j := ⟨y 0, y 1, eq_ix2 y⟩
  have he : ((View.whole main_v53).slice (win7_14.rect t)).emb (ix2 r j) = ix2 (row t r) j := by
    unfold row
    blk_ext [index7_14]
  rw [he]
  refine (block _ _ _ _ _ _ _ _ _ _ _ _ _ _ (fun j h => (read7_3 V c t j h).trans (h3 j h)) (fun h j => (read7_4 V c t h j).trans (h4 h j)) r j).trans ?_
  simp only [read7_0, read7_1, read7_2, read7_5, read7_6, read7_7, read7_8, read7_9, read7_10, read7_11, read7_12, read7_13]
  rfl

end Cert.Proof.Layer
-- ==== Proof.Layer.Value4.lean ====
/-
  What attention call 4 leaves: its ten blocks make up the attention of every row.
-/
module

public import proofs.«01_k».proof.Proof.Layer.Region4
public import proofs.«01_k».proof.Proof.Layer.Payload

@[expose] public section

set_option maxRecDepth 65536

noncomputable section

namespace Cert.Proof.Layer

open Cert.LayerIdeal Cert.LayerIdeal.Gen Idealize.ShloMosaic Idealize.ShloMosaic.TcCoe Idealize.SL.Sem
open Cert.Proof.Attn

set_option maxHeartbeats 2000000

variable (V : Dev nD → Valuation τ sig (Elt Ideal)) (c : Dev nD)

/-- Grid point `t` reads block row `t` of the queries, of the gathered rows and of the input, and writes block row `t` of the result; the rest it reads whole. -/
theorem index9_0 : ∀ t : Fin cfg9.N, win9_0.index t = ![t.val, 0] := (by decide +kernel : ∀ t : Fin grid9.N, win9_0.index t = ![t.val, 0])
theorem index9_1 : ∀ t : Fin cfg9.N, win9_1.index t = ![t.val, 0] := (by decide +kernel : ∀ t : Fin grid9.N, win9_1.index t = ![t.val, 0])
theorem index9_2 : ∀ t : Fin cfg9.N, win9_2.index t = ![t.val, 0] := (by decide +kernel : ∀ t : Fin grid9.N, win9_2.index t = ![t.val, 0])
theorem index9_3 : ∀ t : Fin cfg9.N, win9_3.index t = ![0, 0] := (by decide +kernel : ∀ t : Fin grid9.N, win9_3.index t = ![0, 0])
theorem index9_4 : ∀ t : Fin cfg9.N, win9_4.index t = ![0, 0] := (by decide +kernel : ∀ t : Fin grid9.N, win9_4.index t = ![0, 0])
theorem index9_5 : ∀ t : Fin cfg9.N, win9_5.index t = ![0, 0] := (by decide +kernel : ∀ t : Fin grid9.N, win9_5.index t = ![0, 0])
theorem index9_6 : ∀ t : Fin cfg9.N, win9_6.index t = ![0, 0] := (by decide +kernel : ∀ t : Fin grid9.N, win9_6.index t = ![0, 0])
theorem index9_7 : ∀ t : Fin cfg9.N, win9_7.index t = ![0, 0] := (by decide +kernel : ∀ t : Fin grid9.N, win9_7.index t = ![0, 0])
theorem index9_8 : ∀ t : Fin cfg9.N, win9_8.index t = ![0, 0] := (by decide +kernel : ∀ t : Fin grid9.N, win9_8.index t = ![0, 0])
theorem index9_9 : ∀ t : Fin cfg9.N, win9_9.index t = ![0, 0] := (by decide +kernel : ∀ t : Fin grid9.N, win9_9.index t = ![0, 0])
theorem index9_10 : ∀ t : Fin cfg9.N, win9_10.index t = ![0, 0] := (by decide +kernel : ∀ t : Fin grid9.N, win9_10.index t = ![0, 0])
theorem index9_11 : ∀ t : Fin cfg9.N, win9_11.index t = ![0, 0] := (by decide +kernel : ∀ t : Fin grid9.N, win9_11.index t = ![0, 0])
theorem index9_12 : ∀ t : Fin cfg9.N, win9_12.index t = ![0, 0] := (by decide +kernel : ∀ t : Fin grid9.N, win9_12.index t = ![0, 0])
theorem index9_13 : ∀ t : Fin cfg9.N, win9_13.index t = ![0, 0] := (by decide +kernel : ∀ t : Fin grid9.N, win9_13.index t = ![0, 0])
theorem index9_14 : ∀ t : Fin cfg9.N, win9_14.index t = ![t.val, 0] := (by decide +kernel : ∀ t : Fin grid9.N, win9_14.index t = ![t.val, 0])

/-- What each operand's block holds at grid point `t`: rows of its array, or the whole of it. -/
theorem read9_0 (t : Fin cfg9.N) (r : Fin 200) (d : Fin 128) : iblk9 V c 0 t (ix2 r d) = V c (Proc.devRef .tc main_v56) (ix2 (row t r) d) := by
  unfold row; blk_point [iblk9, index9_0]
theorem read9_1 (t : Fin cfg9.N) (r : Fin 200) (k : Fin 16) (d : Fin 128) : iblk9 V c 1 t (ix2 ⟨r.val * 16 + k.val, by omega⟩ d) = V c (Proc.devRef .tc main_v55) (ix2 ⟨(row t r).val * 16 + k.val, by have := (row t r).isLt; omega⟩ d) := by
  unfold row; blk_point [iblk9, index9_1]
theorem read9_2 (t : Fin cfg9.N) (r : Fin 200) (d : Fin 128) : iblk9 V c 2 t (ix2 r d) = V c (Proc.devRef .tc main_v57) (ix2 (row t r) d) := by
  unfold row; blk_point [iblk9, index9_2]
theorem read9_3 (t : Fin cfg9.N) (x : Fin 128) (y : Fin 8) : iblk9 V c 3 t (ix2 x y) = V c (Proc.devRef .tc main_v8) (ix2 x y) := by
  blk_point [iblk9, index9_3]
theorem read9_4 (t : Fin cfg9.N) (x : Fin 8) (y : Fin 128) : iblk9 V c 4 t (ix2 x y) = V c (Proc.devRef .tc main_v9) (ix2 x y) := by
  blk_point [iblk9, index9_4]
theorem read9_5 (t : Fin cfg9.N) (x : Fin 128) (y : Fin 128) : iblk9 V c 5 t (ix2 x y) = V c (Proc.devRef .tc main_arg4) (ix2 x y) := by
  blk_point [iblk9, index9_5]
theorem read9_6 (t : Fin cfg9.N) (y : Fin 128) : iblk9 V c 6 t (ix2 0 y) = V c (Proc.devRef .tc main_v58) (ix2 0 y) := by
  blk_point [iblk9, index9_6]
theorem read9_7 (t : Fin cfg9.N) (y : Fin 128) : iblk9 V c 7 t (ix2 0 y) = V c (Proc.devRef .tc main_v59) (ix2 0 y) := by
  blk_point [iblk9, index9_7]
theorem read9_8 (t : Fin cfg9.N) (x : Fin 128) (y : Fin 256) : iblk9 V c 8 t (ix2 x y) = V c (Proc.devRef .tc main_arg7) (ix2 x y) := by
  blk_point [iblk9, index9_8]
theorem read9_9 (t : Fin cfg9.N) (y : Fin 256) : iblk9 V c 9 t (ix2 0 y) = V c (Proc.devRef .tc main_v60) (ix2 0 y) := by
  blk_point [iblk9, index9_9]
theorem read9_10 (t : Fin cfg9.N) (x : Fin 256) (y : Fin 128) : iblk9 V c 10 t (ix2 x y) = V c (Proc.devRef .tc main_arg9) (ix2 x y) := by
  blk_point [iblk9, index9_10]
theorem read9_11 (t : Fin cfg9.N) (y : Fin 128) : iblk9 V c 11 t (ix2 0 y) = V c (Proc.devRef .tc main_v61) (ix2 0 y) := by
  blk_point [iblk9, index9_11]
theorem read9_12 (t : Fin cfg9.N) (y : Fin 128) : iblk9 V c 12 t (ix2 0 y) = V c (Proc.devRef .tc main_v62) (ix2 0 y) := by
  blk_point [iblk9, index9_12]
theorem read9_13 (t : Fin cfg9.N) (y : Fin 128) : iblk9 V c 13 t (ix2 0 y) = V c (Proc.devRef .tc main_v63) (ix2 0 y) := by
  blk_point [iblk9, index9_13]

/-- The array the call leaves is the attention of every row: every block is written once, by its own grid point. -/
theorem arrAt9_eq (h3 : ∀ j h, V c (Proc.devRef .tc main_v8) (ix2 j h) = if headOf j = h then (1 : EReal) else 0)
    (h4 : ∀ h j, V c (Proc.devRef .tc main_v9) (ix2 h j) = if headOf j = h then (1 : EReal) else 0) :
    (dat9 V c).arrAt 14 cfg9.N = attended (V c (Proc.devRef .tc main_v56)) (V c (Proc.devRef .tc main_v55)) (V c (Proc.devRef .tc main_v57)) (V c (Proc.devRef .tc main_arg4)) (V c (Proc.devRef .tc main_v58)) (V c (Proc.devRef .tc main_v59)) (V c (Proc.devRef .tc main_arg7)) (V c (Proc.devRef .tc main_v60)) (V c (Proc.devRef .tc main_arg9)) (V c (Proc.devRef .tc main_v61)) (V c (Proc.devRef .tc main_v62)) (V c (Proc.devRef .tc main_v63)) := by
  refine (dat9 V c).arrAt_eq_of_covers 14 _ (by decide +kernel) fun t hf y => ?_
  blk_simp
  rw [after9_14]
  unfold attnOut
  frame_out
  obtain ⟨r, j, rfl⟩ : ∃ (r : Fin 200) (j : Fin 128), y = ix2 r j := ⟨y 0, y 1, eq_ix2 y⟩
  have he : ((View.whole main_v64).slice (win9_14.rect t)).emb (ix2 r j) = ix2 (row t r) j := by
    unfold row
    blk_ext [index9_14]
  rw [he]
  refine (block _ _ _ _ _ _ _ _ _ _ _ _ _ _ (fun j h => (read9_3 V c t j h).trans (h3 j h)) (fun h j => (read9_4 V c t h j).trans (h4 h j)) r j).trans ?_
  simp only [read9_0, read9_1, read9_2, read9_5, read9_6, read9_7, read9_8, read9_9, read9_10, read9_11, read9_12, read9_13]
  rfl

end Cert.Proof.Layer
-- ==== Proof.Layer.Value.lean ====
/-
  The value: the five attentions joined are the layer, row by row.
-/
module

public import proofs.«01_k».proof.Proof.Layer.Entry
public import proofs.«01_k».proof.Proof.Layer.Value0
public import proofs.«01_k».proof.Proof.Layer.Value1
public import proofs.«01_k».proof.Proof.Layer.Value2
public import proofs.«01_k».proof.Proof.Layer.Value3
public import proofs.«01_k».proof.Proof.Layer.Value4
public import Idealize.ShloMosaic.Lib.Pipeline.Value

@[expose] public section

set_option maxRecDepth 65536

noncomputable section

namespace Cert.Proof.Layer

open Cert.LayerIdeal Cert.LayerIdeal.Gen Idealize.ShloMosaic Idealize.ShloMosaic.TcCoe Idealize.SL.Sem
open Cert.Proof.Attn

set_option maxHeartbeats 2000000

abbrev nIx (r : Fin 10240) (s : Fin 16) : S10240x16.Idx := ix2 (n0 := 10240) (n1 := 16) r s

/-- The layer: row `n` of the result is the attention of row `n` over its 16 neighbours' rows of the table. -/
def layered (kv : S10000x128.Idx → BitVec 32) (x : S10240x16.Idx → BitVec 32) (q hin : Vec Ideal S10000x128 .f32) (wo : Vec Ideal S128x128 .f32)
    (s1 b1 : Vec Ideal S128 .f32) (w1 : Vec Ideal S128x256 .f32) (c1 : Vec Ideal S256 .f32) (w2 : Vec Ideal S256x128 .f32) (c2 s2 b2 : Vec Ideal S128 .f32) :
    Vec Ideal S10000x128 .f32 := fun i =>
  norm (forward (norm (projected (fun d => q (ix2 (i 0) d))
        (fun k d => kv (tIx ⟨(x (nIx ⟨(i 0).val, by have h : (i 0).val < 10000 := (i 0).isLt; omega⟩ k)).toNat % 10000, Nat.mod_lt _ (by decide)⟩ d)) (fun d => hin (ix2 (i 0) d)) fun x d => wo (ix2 x d))
      (fun d => s1 (ix1 d)) fun d => b1 (ix1 d)) (fun d l => w1 (ix2 d l)) (fun l => c1 (ix1 l)) (fun l d => w2 (ix2 l d)) fun d => c2 (ix1 d))
    (fun d => s2 (ix1 d)) (fun d => b2 (ix1 d)) (i 1)

/-- A vector handed over as one row. -/
theorem one128 (x : Vec Ideal S128 .f32) (d : Fin 128) : (shapeCast S1x128 x shapeCasts_S128_S1x128 : FVec Ideal S1x128 .f32) (ix2 0 d) = x (ix1 d) := by
  pointwise

/-- The longer one. -/
theorem one256 (x : Vec Ideal S256 .f32) (d : Fin 256) : (shapeCast S1x256 x shapeCasts_S256_S1x256 : FVec Ideal S1x256 .f32) (ix2 0 d) = x (ix1 d) := by
  pointwise

/-- A chunk's rows of an array. -/
theorem slice_apply (o : ℕ) (x : Vec Ideal S10000x128 .f32) (h : S10000x128.Slices ![o, 0] S2000x128) (r : Fin 2000) (j : Fin 128) (hr : o + r.val < 10000) :
    (extractStridedSlice S2000x128 ![o, 0] x h : Vec Ideal S2000x128 .f32) (ix2 r j) = x (ix2 (n0 := 10000) (n1 := 128) ⟨o + r.val, hr⟩ j) :=
  extractStridedSlice_apply _ _ _ _ _ (fun a => match a with
    | ⟨0, _⟩ => rfl
    | ⟨1, _⟩ => (Nat.zero_add _).symm)

variable {F : FTy → Type}

section
variable (m : (ℓ : Loc nD τ sig) → Buf (Elt F) ℓ)

theorem nums_apply (d : Dev nD) (k : Fin 163840) :
    nums m d (ix2 (n0 := 1) (n1 := 163840) 0 k)
      = m ((SparseCore.T d).loc main_arg1) (nIx ⟨k.val / 16, by omega⟩ ⟨k.val % 16, Nat.mod_lt _ (by decide)⟩) := by
  unfold nums
  refine shapeCast_apply _ _ _ _ ?_
  show (S10240x16.rowMajor _).val = (S1x163840.rowMajor _).val
  rw [Shape.rowMajor_val_two, Shape.rowMajor_val_two]
  show k.val / 16 * 16 + k.val % 16 = 0 * 163840 + k.val
  omega

theorem chunk_apply (d : Dev nD) (q : Fin 5) (k : Fin 32000) :
    chunk m d q (xIx k)
      = m ((SparseCore.T d).loc main_arg1) (nIx ⟨(32000 * q.val + k.val) / 16, by omega⟩ ⟨(32000 * q.val + k.val) % 16, Nat.mod_lt _ (by decide)⟩) := by
  rw [← nums_apply m d ⟨32000 * q.val + k.val, by omega⟩]
  unfold chunk
  refine extractStridedSlice_apply _ _ _ _ _ ?_
  intro a
  match a with
  | ⟨0, _⟩ => rfl
  | ⟨1, _⟩ => rfl

/-- Row `16 r + k` of chunk `q`'s gathered rows is the table's row that neighbour `k` of node `2000 q + r` names. -/
theorem out_apply (d : Dev nD) (q : Fin 5) (r : Fin 2000) (k : Fin 16) (j : Fin 128) :
    out m d q (ix2 (n0 := 32000) (n1 := 128) ⟨r.val * 16 + k.val, by omega⟩ j)
      = m ((SparseCore.T d).loc main_arg0) (tIx ⟨(m ((SparseCore.T d).loc main_arg1) (nIx ⟨2000 * q.val + r.val, by omega⟩ k)).toNat % 10000, Nat.mod_lt _ (by decide)⟩ j) := by
  have hk := chunk_apply m d q ⟨r.val * 16 + k.val, by omega⟩
  have e1 : (32000 * q.val + (r.val * 16 + k.val)) / 16 = 2000 * q.val + r.val := by omega
  have e2 : (32000 * q.val + (r.val * 16 + k.val)) % 16 = k.val := by omega
  simp only [e1, e2] at hk
  unfold out rowsOf
  exact congrArg (tbl m d) (congrArg₂ tIx (Fin.ext (congrArg (fun w : BitVec 32 => w.toNat % 10000) hk)) rfl)

end

variable (m : (ℓ : Loc nD τ sig) → Buf (Elt Ideal) ℓ) (d : Dev nD)

/-- The 0/1 matrix of the heads' columns is what the first lines build. -/
theorem H17_heads : H17 m d (dr main_v8) = heads := by
  rw [H17_ne m d (b := main_v8) (by decide)]
  show StableHlo.after [op1, op2, op3, op4, op5, op6, op7, op8, op9, op10, op11, op12, op13, op14, op15, op16] (H0 m d) (Proc.tc.devRef main_v8) = _
  after_results
  rfl

/-- And its transpose. -/
theorem H17_transposed : H17 m d (dr main_v9) = transpose S8x128 [1, 0] heads transposes_S128x8_S8x128_1_0 := by
  unfold H17; rw [StableHlo.unary_result', ← H17_heads m d, H17_ne m d (b := main_v8) (by decide)]

/-- A chunk's attention, row by row, is the layer's rows of that chunk. -/
theorem attended_layered (q : Fin 5) (Q I : Vec Ideal S2000x128 .f32) (kv : Vec Ideal S32000x128 .i32)
    (hQ : ∀ r j, Q (ix2 r j) = m ((SparseCore.T d).loc main_arg2) (ix2 (n0 := 10000) (n1 := 128) ⟨2000 * q.val + r.val, by omega⟩ j))
    (hI : ∀ r j, I (ix2 r j) = m ((SparseCore.T d).loc main_arg3) (ix2 (n0 := 10000) (n1 := 128) ⟨2000 * q.val + r.val, by omega⟩ j))
    (hkv : kv = out m d q) (r : Fin 2000) (j : Fin 128) :
    attended Q kv I (m ((SparseCore.T d).loc main_arg4)) (shapeCast S1x128 (m ((SparseCore.T d).loc main_arg5)) shapeCasts_S128_S1x128) (shapeCast S1x128 (m ((SparseCore.T d).loc main_arg6)) shapeCasts_S128_S1x128) (m ((SparseCore.T d).loc main_arg7)) (shapeCast S1x256 (m ((SparseCore.T d).loc main_arg8)) shapeCasts_S256_S1x256)
        (m ((SparseCore.T d).loc main_arg9)) (shapeCast S1x128 (m ((SparseCore.T d).loc main_arg10)) shapeCasts_S128_S1x128) (shapeCast S1x128 (m ((SparseCore.T d).loc main_arg11)) shapeCasts_S128_S1x128) (shapeCast S1x128 (m ((SparseCore.T d).loc main_arg12)) shapeCasts_S128_S1x128) (ix2 r j)
      = layered (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (m ((SparseCore.T d).loc main_arg9)) (m ((SparseCore.T d).loc main_arg10)) (m ((SparseCore.T d).loc main_arg11)) (m ((SparseCore.T d).loc main_arg12)) (ix2 (n0 := 10000) (n1 := 128) ⟨2000 * q.val + r.val, by omega⟩ j) := by
  subst hkv
  unfold attended
  simp only [one128, one256]
  refine Eq.trans (congrArg₂ (fun a b => norm (forward (norm (projected a b _ _) _ _) _ _ _ _) _ _ _) (funext fun d' => hQ r d') (funext fun k => funext fun d' => out_apply m d q r k d')) ?_
  rw [show (fun d' => I (ix2 (ix2 r j 0) d')) = _ from funext fun d' => hI r d']
  rfl

/-- Attention call 0 leaves the layer's rows from 0 on. -/
theorem part0_layered (r : Fin 2000) (j : Fin 128) : parts m d 0 (ix2 r j) = layered (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (m ((SparseCore.T d).loc main_arg9)) (m ((SparseCore.T d).loc main_arg10)) (m ((SparseCore.T d).loc main_arg11)) (m ((SparseCore.T d).loc main_arg12)) (ix2 (n0 := 10000) (n1 := 128) ⟨0 + r.val, by omega⟩ j) := by
  refine (congrFun (arrAt1_eq (H27 m) d (fun j h => by rw [show H27 m d (Proc.devRef .tc main_v8) = heads from (same0 m d (by decide)).trans (H17_heads m d)]; exact heads_apply j h)
    (fun h j => by rw [show H27 m d (Proc.devRef .tc main_v9) = _ from (same0 m d (by decide)).trans (H17_transposed m d)]; exact transposed_apply h j)) (ix2 r j)).trans ?_
  rw [H20_in, H21_in, H22_in, H23_in, H24_in, H25_in, H26_in, H27_in, H27_arg m d (b := main_arg4) (by decide), H27_arg m d (b := main_arg7) (by decide), H27_arg m d (b := main_arg9) (by decide)]
  exact attended_layered m d 0 _ _ _ (fun r j => slice_apply 0 _ _ r j (by omega)) (fun r j => slice_apply 0 _ _ r j (by omega)) (rows0 m d) r j

/-- Attention call 1 leaves the layer's rows from 2000 on. -/
theorem part1_layered (r : Fin 2000) (j : Fin 128) : parts m d 1 (ix2 r j) = layered (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (m ((SparseCore.T d).loc main_arg9)) (m ((SparseCore.T d).loc main_arg10)) (m ((SparseCore.T d).loc main_arg11)) (m ((SparseCore.T d).loc main_arg12)) (ix2 (n0 := 10000) (n1 := 128) ⟨2000 + r.val, by omega⟩ j) := by
  refine (congrFun (arrAt3_eq (H38 m) d (fun j h => by rw [show H38 m d (Proc.devRef .tc main_v8) = heads from (same1 m d (by decide)).trans (H17_heads m d)]; exact heads_apply j h)
    (fun h j => by rw [show H38 m d (Proc.devRef .tc main_v9) = _ from (same1 m d (by decide)).trans (H17_transposed m d)]; exact transposed_apply h j)) (ix2 r j)).trans ?_
  rw [H31_in, H32_in, H33_in, H34_in, H35_in, H36_in, H37_in, H38_in, H38_arg m d (b := main_arg4) (by decide), H38_arg m d (b := main_arg7) (by decide), H38_arg m d (b := main_arg9) (by decide)]
  exact attended_layered m d 1 _ _ _ (fun r j => slice_apply 2000 _ _ r j (by omega)) (fun r j => slice_apply 2000 _ _ r j (by omega)) (rows1 m d) r j

/-- Attention call 2 leaves the layer's rows from 4000 on. -/
theorem part2_layered (r : Fin 2000) (j : Fin 128) : parts m d 2 (ix2 r j) = layered (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (m ((SparseCore.T d).loc main_arg9)) (m ((SparseCore.T d).loc main_arg10)) (m ((SparseCore.T d).loc main_arg11)) (m ((SparseCore.T d).loc main_arg12)) (ix2 (n0 := 10000) (n1 := 128) ⟨4000 + r.val, by omega⟩ j) := by
  refine (congrFun (arrAt5_eq (H49 m) d (fun j h => by rw [show H49 m d (Proc.devRef .tc main_v8) = heads from (same2 m d (by decide)).trans (H17_heads m d)]; exact heads_apply j h)
    (fun h j => by rw [show H49 m d (Proc.devRef .tc main_v9) = _ from (same2 m d (by decide)).trans (H17_transposed m d)]; exact transposed_apply h j)) (ix2 r j)).trans ?_
  rw [H42_in, H43_in, H44_in, H45_in, H46_in, H47_in, H48_in, H49_in, H49_arg m d (b := main_arg4) (by decide), H49_arg m d (b := main_arg7) (by decide), H49_arg m d (b := main_arg9) (by decide)]
  exact attended_layered m d 2 _ _ _ (fun r j => slice_apply 4000 _ _ r j (by omega)) (fun r j => slice_apply 4000 _ _ r j (by omega)) (rows2 m d) r j

/-- Attention call 3 leaves the layer's rows from 6000 on. -/
theorem part3_layered (r : Fin 2000) (j : Fin 128) : parts m d 3 (ix2 r j) = layered (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (m ((SparseCore.T d).loc main_arg9)) (m ((SparseCore.T d).loc main_arg10)) (m ((SparseCore.T d).loc main_arg11)) (m ((SparseCore.T d).loc main_arg12)) (ix2 (n0 := 10000) (n1 := 128) ⟨6000 + r.val, by omega⟩ j) := by
  refine (congrFun (arrAt7_eq (H60 m) d (fun j h => by rw [show H60 m d (Proc.devRef .tc main_v8) = heads from (same3 m d (by decide)).trans (H17_heads m d)]; exact heads_apply j h)
    (fun h j => by rw [show H60 m d (Proc.devRef .tc main_v9) = _ from (same3 m d (by decide)).trans (H17_transposed m d)]; exact transposed_apply h j)) (ix2 r j)).trans ?_
  rw [H53_in, H54_in, H55_in, H56_in, H57_in, H58_in, H59_in, H60_in, H60_arg m d (b := main_arg4) (by decide), H60_arg m d (b := main_arg7) (by decide), H60_arg m d (b := main_arg9) (by decide)]
  exact attended_layered m d 3 _ _ _ (fun r j => slice_apply 6000 _ _ r j (by omega)) (fun r j => slice_apply 6000 _ _ r j (by omega)) (rows3 m d) r j

/-- Attention call 4 leaves the layer's rows from 8000 on. -/
theorem part4_layered (r : Fin 2000) (j : Fin 128) : parts m d 4 (ix2 r j) = layered (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (m ((SparseCore.T d).loc main_arg9)) (m ((SparseCore.T d).loc main_arg10)) (m ((SparseCore.T d).loc main_arg11)) (m ((SparseCore.T d).loc main_arg12)) (ix2 (n0 := 10000) (n1 := 128) ⟨8000 + r.val, by omega⟩ j) := by
  refine (congrFun (arrAt9_eq (H71 m) d (fun j h => by rw [show H71 m d (Proc.devRef .tc main_v8) = heads from (same4 m d (by decide)).trans (H17_heads m d)]; exact heads_apply j h)
    (fun h j => by rw [show H71 m d (Proc.devRef .tc main_v9) = _ from (same4 m d (by decide)).trans (H17_transposed m d)]; exact transposed_apply h j)) (ix2 r j)).trans ?_
  rw [H64_in, H65_in, H66_in, H67_in, H68_in, H69_in, H70_in, H71_in, H71_arg m d (b := main_arg4) (by decide), H71_arg m d (b := main_arg7) (by decide), H71_arg m d (b := main_arg9) (by decide)]
  exact attended_layered m d 4 _ _ _ (fun r j => slice_apply 8000 _ _ r j (by omega)) (fun r j => slice_apply 8000 _ _ r j (by omega)) (rows4 m d) r j

/-- The five results joined are the layer. -/
theorem joined_layered : joined (parts m d) = layered (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (m ((SparseCore.T d).loc main_arg9)) (m ((SparseCore.T d).loc main_arg10)) (m ((SparseCore.T d).loc main_arg11)) (m ((SparseCore.T d).loc main_arg12)) := by
  funext y
  have h0 : (y 0).val < 10000 := (y 0).isLt
  have h1 : (y 1).val < 128 := (y 1).isLt
  have hp : ∀ (q : Fin 5) (r : Fin 2000) (j : Fin 128), parts m d q (ix2 r j) = layered (m ((SparseCore.T d).loc main_arg0)) (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (m ((SparseCore.T d).loc main_arg9)) (m ((SparseCore.T d).loc main_arg10)) (m ((SparseCore.T d).loc main_arg11)) (m ((SparseCore.T d).loc main_arg12)) (ix2 (n0 := 10000) (n1 := 128) ⟨2000 * q.val + r.val, by omega⟩ j) := fun q r j =>
    match q with
    | 0 => part0_layered m d r j
    | 1 => part1_layered m d r j
    | 2 => part2_layered m d r j
    | 3 => part3_layered m d r j
    | 4 => part4_layered m d r j
  have hc := concatenate_ofFn_apply (t := S10000x128) (s₁ := S2000x128) (0 : Fin 2) (N := 5) (parts m d)
    concatenates_S2000x128_S2000x128_S2000x128_S2000x128_S2000x128_S10000x128_d0 rfl 2000 rfl y ⟨(y 0).val / 2000, by omega⟩ rfl
    (ix2 (n0 := 2000) (n1 := 128) ⟨(y 0).val % 2000, Nat.mod_lt _ (by decide)⟩ ⟨(y 1).val, h1⟩) rfl
    (fun b hb => match b with
      | ⟨0, _⟩ => absurd rfl hb
      | ⟨1, _⟩ => rfl)
  refine (show joined (parts m d) y = _ from hc).trans ((hp _ _ _).trans (congrArg _ ?_))
  funext a
  match a with
  | ⟨0, _⟩ => exact Fin.ext (by show 2000 * ((y 0).val / 2000) + (y 0).val % 2000 = (y 0).val; omega)
  | ⟨1, _⟩ => rfl

end Cert.Proof.Layer
-- ==== Proof.Layer.Reference.lean ====
/-
  The layer's reference's result, read at an index: row `n` of it is the attention's row function of Attn/Row.lean over
  the table's rows that node `n`'s neighbours name.
-/
module

public import proofs.«01_k».proof.Proof.Layer.Value
public import proofs.«01_k».proof.Proof.Attn.Reference
public import proofs.«01_k».proof.Proof.Gen.LayerReferenceIdeal
public import proofs.«01_k».proof.Proof.Gen.LayerReferenceIdeal.Run
public import Idealize.ShloMosaic.Lib.Tactic.CleanTypes

@[expose] public section

set_option maxRecDepth 16384

noncomputable section

namespace Cert.Proof.Layer.R

open Cert.LayerReferenceIdeal Cert.LayerReferenceIdeal.Gen Cert.LayerReferenceIdeal.Value Idealize.ShloMosaic Idealize.ShloMosaic.TcCoe Idealize.SL.Sem Idealize.ShloMosaic.StableHlo
open Cert.Proof.Attn (keyOf valOf col headOf score top softmax mixed mean norm projected hidden forward top_of_max)
open Cert.Proof.Attn.R (id_constant count_eq count_pos)

set_option maxHeartbeats 1000000

/-- The row of the table that neighbour `k` of node `n` names. -/
def nbr (x : IVec S10240x16 32) (n : Fin 10000) (k : Fin 16) : Fin 10000 :=
  ⟨(x (ix2 (n0 := 10240) (n1 := 16) ⟨n.val, by omega⟩ k)).toNat % 10000, Nat.mod_lt _ (by decide)⟩

/-- The host's gather of whole rows of heads, read at an index: the row's number read signed and clamped. -/
theorem gather_rows_apply {α : Type} (t : S10000x8x16.Idx → α) (idx : IVec S10000x16x1 32) (y : S10000x16x8x16.Idx) :
    Host.gather gather_S10000x8x16_S10000x16x1_S10000x16x8x16_23_0_n_n_0_2_1816 t idx y
      = t (ix3 (n0 := 10000) (n1 := 8) (n2 := 16) ⟨min (idx (ix3 (n0 := 10000) (n1 := 16) (n2 := 1) ⟨(y 0).val, (y 0).isLt⟩ ⟨(y 1).val, (y 1).isLt⟩ 0)).toInt.toNat 9999, by omega⟩
          ⟨(y 2).val, (y 2).isLt⟩ ⟨(y 3).val, (y 3).isLt⟩) := by
  unfold Host.gather
  refine congrArg t (funext fun a => Fin.ext ?_)
  set G := gather_S10000x8x16_S10000x16x1_S10000x16x8x16_23_0_n_n_0_2_1816 with hG
  have hb : G.batchCoord y a = 0 := GatherDims.batchCoord_eq_zero _ _ _ List.not_mem_nil
  have hw : ∀ a : Fin 3, a ≠ 0 → G.start y idx a + G.batchCoord y a + G.offCoord y a = G.offCoord y a := by
    intro a ha
    have hb : G.batchCoord y a = 0 := GatherDims.batchCoord_eq_zero _ _ _ List.not_mem_nil
    have hst : G.start y idx a = 0 := by
      unfold GatherDims.start
      rw [dif_neg (show ¬ a ∈ G.startIndexMap from fun h => ha (List.mem_singleton.mp h))]
    rw [hb, hst]; exact Nat.zero_add _
  match a with
  | ⟨0, _⟩ =>
    show G.start y idx 0 + G.batchCoord y 0 + G.offCoord y 0 = _
    have ho : G.offCoord y 0 = 0 := GatherDims.offCoord_eq_zero _ _ _ (fun h => ((GatherDims.mem_sKept _ _).mp h).1 (List.mem_singleton.mpr rfl))
    have hb : G.batchCoord y 0 = 0 := GatherDims.batchCoord_eq_zero _ _ _ List.not_mem_nil
    rw [hb, ho]
    unfold GatherDims.start
    rw [dif_pos (show (0 : Fin 3) ∈ G.startIndexMap from List.mem_singleton.mpr rfl)]
    have hs : ∀ k, G.siIdx y k = ix3 (n0 := 10000) (n1 := 16) (n2 := 1) ⟨(y 0).val, (y 0).isLt⟩ ⟨(y 1).val, (y 1).isLt⟩ 0 := by
      intro k; funext b; refine Fin.ext ?_
      match b with
      | ⟨0, _⟩ => rfl
      | ⟨1, _⟩ => rfl
      | ⟨2, _⟩ => have := k.isLt; show k.val = 0; exact Nat.lt_one_iff.mp this
    rw [hs]
    rfl
  | ⟨1, _⟩ =>
    refine (hw 1 (by decide)).trans ?_
    unfold GatherDims.offCoord
    rw [dif_pos (show (1 : Fin 3) ∈ G.sKept from (GatherDims.mem_sKept _ _).mpr ⟨by decide, List.not_mem_nil⟩)]
    rfl
  | ⟨2, _⟩ =>
    refine (hw 2 (by decide)).trans ?_
    unfold GatherDims.offCoord
    rw [dif_pos (show (2 : Fin 3) ∈ G.sKept from (GatherDims.mem_sKept _ _).mpr ⟨by decide, List.not_mem_nil⟩)]
    rfl

/-- The reference's gather, where every number is a row of the table. -/
theorem gather_eq {α : Type} (t : S10000x8x16.Idx → α) (x : IVec S10240x16 32) (hx : ∀ j, (x j).toNat < 10000) :
    Host.gather gather_S10000x8x16_S10000x16x1_S10000x16x8x16_23_0_n_n_0_2_1816 t
      (broadcastInDim S10000x16x1 ![0, 1] bcast_S10000x16_S10000x16x1_0_1
        (select (cmpi .slt (extractStridedSlice S10000x16 ![0, 0] x slices_S10240x16_S10000x16_0_0) (broadcastInDim S10000x16 ![] bcast_S_S10000x16 (constantI S_ 32 0#32)))
          (addi (extractStridedSlice S10000x16 ![0, 0] x slices_S10240x16_S10000x16_0_0) (broadcastInDim S10000x16 ![] bcast_S_S10000x16 (constantI S_ 32 10000#32)))
          (extractStridedSlice S10000x16 ![0, 0] x slices_S10240x16_S10000x16_0_0)))
      = fun y => t (ix3 (n0 := 10000) (n1 := 8) (n2 := 16) (nbr x ⟨(y 0).val, (y 0).isLt⟩ ⟨(y 1).val, (y 1).isLt⟩) ⟨(y 2).val, (y 2).isLt⟩ ⟨(y 3).val, (y 3).isLt⟩) := by
  funext y
  refine (gather_rows_apply t _ y).trans ?_
  have h0 : (y 0).val < 10000 := (y 0).isLt
  have h1 : (y 1).val < 16 := (y 1).isLt
  have hsl : extractStridedSlice S10000x16 ![0, 0] x slices_S10240x16_S10000x16_0_0 (ix2 (n0 := 10000) (n1 := 16) ⟨(y 0).val, h0⟩ ⟨(y 1).val, h1⟩)
      = x (ix2 (n0 := 10240) (n1 := 16) ⟨(y 0).val, by omega⟩ ⟨(y 1).val, h1⟩) :=
    extractStridedSlice_apply _ _ _ _ _ (fun a => by
      match a with
      | ⟨0, _⟩ => exact (Nat.zero_add _).symm
      | ⟨1, _⟩ => exact (Nat.zero_add _).symm)
  have hlt := hx (ix2 (n0 := 10240) (n1 := 16) ⟨(y 0).val, by omega⟩ ⟨(y 1).val, h1⟩)
  have hint : (x (ix2 (n0 := 10240) (n1 := 16) ⟨(y 0).val, by omega⟩ ⟨(y 1).val, h1⟩)).toInt = ((x (ix2 (n0 := 10240) (n1 := 16) ⟨(y 0).val, by omega⟩ ⟨(y 1).val, h1⟩)).toNat : Int) := by
    rw [BitVec.toInt_eq_toNat_cond, if_pos (by omega)]
  have hsel : ∀ (a b : IVec S10000x16 32) (j : S10000x16.Idx) (z : IVec S10000x16 32), z j = 0#32 → 0 ≤ (b j).toInt → select (cmpi .slt b z) a b j = b j := by
    intro a b j z hz hb
    show (if IntOp.cmpi .slt (b j) (z j) = 1#1 then a j else b j) = b j
    rw [if_neg]
    rw [IntOp.cmpi_slt, hz, show (0#32 : BitVec 32).toInt = 0 from by decide]
    omega
  refine congrArg t (congrArg (fun r => ix3 (n0 := 10000) (n1 := 8) (n2 := 16) r _ _) (Fin.ext ?_))
  refine (congrArg (fun w : BitVec 32 => min w.toInt.toNat 9999) ((broadcastInDim_apply _ _ _ _ (ix2 (n0 := 10000) (n1 := 16) ⟨(y 0).val, h0⟩ ⟨(y 1).val, h1⟩) (fun a => by
    match a with
    | ⟨0, _⟩ => rfl
    | ⟨1, _⟩ => rfl)).trans ((hsel _ _ _ _ rfl (by rw [hsl, hint]; exact Int.natCast_nonneg _)).trans hsl))).trans ?_
  show min (x _).toInt.toNat 9999 = (x _).toNat % 10000
  rw [hint, Int.toNat_natCast, Nat.mod_eq_of_lt hlt]
  omega

variable (V0 : Valuation τ sig (Elt Ideal))

/-- Row `n` of the queries. -/
def qRow (n : Fin 10000) (d : Fin 128) : EReal := V0 (Proc.tc.devRef main_arg2) (ix2 n d)
/-- The words of the rows that node `n`'s neighbours name. -/
def kvRow (n : Fin 10000) (k : Fin 16) (d : Fin 128) : BitVec 32 := V0 (Proc.tc.devRef main_arg0) (ix2 (nbr (V0 (Proc.tc.devRef main_arg1)) n k) d)
/-- Row `n` of the input. -/
def inRow (n : Fin 10000) (d : Fin 128) : EReal := V0 (Proc.tc.devRef main_arg3) (ix2 n d)

/-- The clipped scores. -/
theorem v30_apply (hx : ∀ j : S10240x16.Idx, ((V0 (Proc.tc.devRef main_arg1) : IVec S10240x16 32) j).toNat < 10000) (n : Fin 10000) (k : Fin 16) (h : Fin 8) :
    (res_main_v30 V0 (ix3 n k h) : EReal) = score (qRow V0 n) (kvRow V0 n) k h := by
  unfold res_main_v30 res_main_v9
  clean_types
  rw [gather_eq _ _ hx]
  pointwise
  simp only [id_constant]
  unfold score
  refine congrArg _ (congrArg _ (congrArg (fun x => Ideal.div x _) (Finset.sum_congr rfl fun d _ => ?_)))
  exact mul_comm _ _

/-- Their exponentials, off the greatest. -/
theorem v37_apply (hx : ∀ j : S10240x16.Idx, ((V0 (Proc.tc.devRef main_arg1) : IVec S10240x16 32) j).toNat < 10000) (n : Fin 10000) (k : Fin 16) (h : Fin 8) :
    (res_main_v37 V0 (ix3 n k h) : EReal)
      = Ideal.exp (score (qRow V0 n) (kvRow V0 n) k h - top fun k' => score (qRow V0 n) (kvRow V0 n) k' h) := by
  unfold res_main_v37
  clean_types
  pointwise
  simp only [v30_apply V0 hx]
  exact congrArg (fun x => Ideal.exp (_ - x)) (top_of_max _)

/-- The projection added to the input. -/
theorem v45_apply (hx : ∀ j : S10240x16.Idx, ((V0 (Proc.tc.devRef main_arg1) : IVec S10240x16 32) j).toNat < 10000) (n : Fin 10000) (j : Fin 128) :
    (res_main_v45 V0 (ix2 n j) : EReal) = projected (qRow V0 n) (kvRow V0 n) (inRow V0 n) (fun x d => V0 (Proc.tc.devRef main_arg4) (ix2 x d)) j := by
  unfold res_main_v45 res_main_v17
  have hw := v37_apply V0 hx
  generalize (res_main_v37 V0 : FVec Ideal S10000x16x8 .f32) = w at hw ⊢
  clean_types
  rw [gather_eq _ _ hx]
  have hkv : kvRow V0 = fun n k d => V0 (Proc.tc.devRef main_arg0) (ix2 (nbr (V0 (Proc.tc.devRef main_arg1)) n k) d) := rfl
  rw [hkv] at hw ⊢
  generalize nbr (V0 (Proc.tc.devRef main_arg1)) = nb at hw ⊢
  generalize qRow V0 = q at hw ⊢
  pointwise
  simp only [hw, Nat.div_add_mod']
  rfl

/-- The first layer norm. -/
theorem v63_apply (n : Fin 10000) (j : Fin 128) :
    (res_main_v63 V0 (ix2 n j) : EReal)
      = norm (fun d => res_main_v45 V0 (ix2 n d)) (fun d => V0 (Proc.tc.devRef main_arg5) (ix1 d)) (fun d => V0 (Proc.tc.devRef main_arg6) (ix1 d)) j := by
  unfold res_main_v63 res_main_call1_v5 res_main_call1_v8
  clean_types
  pointwise
  simp only [count_eq, count_pos, if_true]
  rfl

/-- The feed-forward block added to it. -/
theorem v73_apply (n : Fin 10000) (j : Fin 128) :
    (res_main_v73 V0 (ix2 n j) : EReal)
      = forward (fun d => res_main_v63 V0 (ix2 n d)) (fun d l => V0 (Proc.tc.devRef main_arg7) (ix2 d l)) (fun l => V0 (Proc.tc.devRef main_arg8) (ix1 l))
          (fun l d => V0 (Proc.tc.devRef main_arg9) (ix2 l d)) (fun d => V0 (Proc.tc.devRef main_arg10) (ix1 d)) j := by
  unfold res_main_v73
  clean_types
  pointwise
  rfl

/-- The reference's run, where its numbers are rows of the table: the result is the layer, the arguments are as they were. -/
theorem run_layered (m : (ℓ : Loc nD τ sig) → Buf (Elt Ideal) ℓ) (ρ : Dev nD → PrngReg)
    (hx : ∀ (c : Dev nD) (j : S10240x16.Idx), ((m ((c.tc : Thread nD τ).loc main_arg1) : IVec S10240x16 32) j).toNat < 10000) :
    θ_run defs (onTc (τ := τ) (main (F := Ideal))) ⟨m, fun _ => 0, ρ⟩ fun r => ∀ c : Dev nD,
      r.2.mem ((c.tc : Thread nD τ).loc main_v91) = layered (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) := by
  refine (θ_run defs _ _).mono (fun r h c => ⟨(h c).1.trans ?_, (h c).2⟩) (run m ρ)
  funext i
  obtain ⟨n, j, rfl⟩ : ∃ (n : Fin 10000) (j : Fin 128), i = ix2 n j := ⟨i 0, i 1, eq_ix2 i⟩
  clean_types
  unfold res_main_call3_v5 res_main_call3_v8
  clean_types
  pointwise
  simp only [count_eq, count_pos, if_true]
  refine Eq.trans (b := norm (fun d => (res_main_v73 (launchContents m c) (ix2 n d) : EReal)) (fun d => m ((c.tc : Thread nD τ).loc main_arg11) (ix1 d)) (fun d => m ((c.tc : Thread nD τ).loc main_arg12) (ix1 d)) j) rfl ?_
  simp only [v73_apply, v63_apply, v45_apply (launchContents m c) (hx c)]
  rfl

end Cert.Proof.Layer.R
-- ==== Proof.Layer.Claims.lean ====
/-
The claims of the whole layer: it ends with its arguments and its counters as they were, and computes what its reference
computes.
-/
module

public import proofs.«01_k».proof.Defs
public import proofs.«01_k».proof.Proof.Gen.Pre_layer_in_range
public import proofs.«01_k».proof.Proof.Layer.Main
public import proofs.«01_k».proof.Proof.Layer.Reference
public import Idealize.ShloMosaic.Adequacy
public import Idealize.ShloMosaic.Init
public import Idealize.ShloMosaic.Lib.ReduceAll

@[expose] public section

noncomputable section

namespace Cert.Proof.Layer

open Idealize.ShloMosaic Idealize.SL.Sem

variable {F : FTy → Type} [FloatOps F]

/-- What the precondition says: every number names a row of the table. -/
theorem lt_of_pre (a0 : IVec Cert.Pre_layer_in_range.S10000x128 32) (x : IVec Cert.Pre_layer_in_range.S10240x16 32) (a2 a3 : FVec F Cert.Pre_layer_in_range.S10000x128 .f32)
    (a4 : FVec F Cert.Pre_layer_in_range.S128x128 .f32) (a5 a6 : FVec F Cert.Pre_layer_in_range.S128 .f32) (a7 : FVec F Cert.Pre_layer_in_range.S128x256 .f32)
    (a8 : FVec F Cert.Pre_layer_in_range.S256 .f32) (a9 : FVec F Cert.Pre_layer_in_range.S256x128 .f32) (a10 a11 a12 : FVec F Cert.Pre_layer_in_range.S128 .f32)
    (h : Cert.Pre_layer_in_range.fn (F := F) a0 x a2 a3 a4 a5 a6 a7 a8 a9 a10 a11 a12 = fun _ => 1#1) (j : Cert.Pre_layer_in_range.S10240x16.Idx) : (x j).toNat < 10000 := by
  haveI : Subsingleton Cert.Pre_layer_in_range.S_.Idx := ⟨fun a b => funext fun k => k.elim0⟩
  have e := Host.reduce_andi_all _ _ _ _ _ (congrFun h (Shape.Idx.first Cert.Pre_layer_in_range.Gen.h_S_)) j
  obtain ⟨e0, e1⟩ := IntOp.andi_eq_one.mp e
  have h0 : (0#32 : BitVec 32).toInt ≤ (x j).toInt := IntOp.cmpi_sge.mp e0
  have h1 : (x j).toInt < (10000#32 : BitVec 32).toInt := IntOp.cmpi_slt.mp e1
  rw [show (0#32 : BitVec 32).toInt = 0 from by decide] at h0
  rw [show (10000#32 : BitVec 32).toInt = 10000 from by decide] at h1
  rw [BitVec.toInt_eq_toNat_cond] at h0 h1
  have := (x j).isLt
  split at h0 <;> omega

/-- The ideal reading's arguments meet the precondition: every number is a row of the table. -/
theorem preOK (m : (ℓ : Loc Cert.LayerIdeal.nD Cert.LayerIdeal.τ Cert.LayerIdeal.sig) → Buf (Elt Ideal) ℓ) (h : Cert.Pre_LayerIdeal m) : PreOK m :=
  fun d j => lt_of_pre _ _ _ _ _ _ _ _ _ _ _ _ _ (h d) j

/-- The frame of its ideal reading. -/
theorem frameIdeal : Cert.quiescent_LayerIdeal := fun m ρ h =>
  (θ_run Cert.LayerIdeal.defs _ _).mono (fun _ hr => ⟨fun c => (hr.1 c).2, hr.2⟩) (run_main (F := Ideal) m ρ (preOK m h))

/-- The frame of the reference, which has no counter. -/
theorem frameReference (m : (ℓ : Loc Cert.LayerReferenceIdeal.nD Cert.LayerReferenceIdeal.τ Cert.LayerReferenceIdeal.sig) → Buf (Elt Ideal) ℓ)
    (ρ : Dev Cert.LayerReferenceIdeal.nD → PrngReg) :
    θ_run (Cert.LayerReferenceIdeal.defs (F := Ideal)) (onTc (τ := Cert.LayerReferenceIdeal.τ) (Cert.LayerReferenceIdeal.main (F := Ideal))) ⟨m, fun _ => 0, ρ⟩ fun r =>
      (∀ c : Dev Cert.LayerReferenceIdeal.nD, r.2.mem ((c.tc : Thread Cert.LayerReferenceIdeal.nD Cert.LayerReferenceIdeal.τ).loc Cert.LayerReferenceIdeal.main_arg0) = m ((c.tc : Thread Cert.LayerReferenceIdeal.nD Cert.LayerReferenceIdeal.τ).loc Cert.LayerReferenceIdeal.main_arg0)
        ∧ r.2.mem ((c.tc : Thread Cert.LayerReferenceIdeal.nD Cert.LayerReferenceIdeal.τ).loc Cert.LayerReferenceIdeal.main_arg1) = m ((c.tc : Thread Cert.LayerReferenceIdeal.nD Cert.LayerReferenceIdeal.τ).loc Cert.LayerReferenceIdeal.main_arg1)
        ∧ r.2.mem ((c.tc : Thread Cert.LayerReferenceIdeal.nD Cert.LayerReferenceIdeal.τ).loc Cert.LayerReferenceIdeal.main_arg2) = m ((c.tc : Thread Cert.LayerReferenceIdeal.nD Cert.LayerReferenceIdeal.τ).loc Cert.LayerReferenceIdeal.main_arg2)
        ∧ r.2.mem ((c.tc : Thread Cert.LayerReferenceIdeal.nD Cert.LayerReferenceIdeal.τ).loc Cert.LayerReferenceIdeal.main_arg3) = m ((c.tc : Thread Cert.LayerReferenceIdeal.nD Cert.LayerReferenceIdeal.τ).loc Cert.LayerReferenceIdeal.main_arg3)
        ∧ r.2.mem ((c.tc : Thread Cert.LayerReferenceIdeal.nD Cert.LayerReferenceIdeal.τ).loc Cert.LayerReferenceIdeal.main_arg4) = m ((c.tc : Thread Cert.LayerReferenceIdeal.nD Cert.LayerReferenceIdeal.τ).loc Cert.LayerReferenceIdeal.main_arg4)
        ∧ r.2.mem ((c.tc : Thread Cert.LayerReferenceIdeal.nD Cert.LayerReferenceIdeal.τ).loc Cert.LayerReferenceIdeal.main_arg5) = m ((c.tc : Thread Cert.LayerReferenceIdeal.nD Cert.LayerReferenceIdeal.τ).loc Cert.LayerReferenceIdeal.main_arg5)
        ∧ r.2.mem ((c.tc : Thread Cert.LayerReferenceIdeal.nD Cert.LayerReferenceIdeal.τ).loc Cert.LayerReferenceIdeal.main_arg6) = m ((c.tc : Thread Cert.LayerReferenceIdeal.nD Cert.LayerReferenceIdeal.τ).loc Cert.LayerReferenceIdeal.main_arg6)
        ∧ r.2.mem ((c.tc : Thread Cert.LayerReferenceIdeal.nD Cert.LayerReferenceIdeal.τ).loc Cert.LayerReferenceIdeal.main_arg7) = m ((c.tc : Thread Cert.LayerReferenceIdeal.nD Cert.LayerReferenceIdeal.τ).loc Cert.LayerReferenceIdeal.main_arg7)
        ∧ r.2.mem ((c.tc : Thread Cert.LayerReferenceIdeal.nD Cert.LayerReferenceIdeal.τ).loc Cert.LayerReferenceIdeal.main_arg8) = m ((c.tc : Thread Cert.LayerReferenceIdeal.nD Cert.LayerReferenceIdeal.τ).loc Cert.LayerReferenceIdeal.main_arg8)
        ∧ r.2.mem ((c.tc : Thread Cert.LayerReferenceIdeal.nD Cert.LayerReferenceIdeal.τ).loc Cert.LayerReferenceIdeal.main_arg9) = m ((c.tc : Thread Cert.LayerReferenceIdeal.nD Cert.LayerReferenceIdeal.τ).loc Cert.LayerReferenceIdeal.main_arg9)
        ∧ r.2.mem ((c.tc : Thread Cert.LayerReferenceIdeal.nD Cert.LayerReferenceIdeal.τ).loc Cert.LayerReferenceIdeal.main_arg10) = m ((c.tc : Thread Cert.LayerReferenceIdeal.nD Cert.LayerReferenceIdeal.τ).loc Cert.LayerReferenceIdeal.main_arg10)
        ∧ r.2.mem ((c.tc : Thread Cert.LayerReferenceIdeal.nD Cert.LayerReferenceIdeal.τ).loc Cert.LayerReferenceIdeal.main_arg11) = m ((c.tc : Thread Cert.LayerReferenceIdeal.nD Cert.LayerReferenceIdeal.τ).loc Cert.LayerReferenceIdeal.main_arg11)
        ∧ r.2.mem ((c.tc : Thread Cert.LayerReferenceIdeal.nD Cert.LayerReferenceIdeal.τ).loc Cert.LayerReferenceIdeal.main_arg12) = m ((c.tc : Thread Cert.LayerReferenceIdeal.nD Cert.LayerReferenceIdeal.τ).loc Cert.LayerReferenceIdeal.main_arg12)) ∧ r.2.sem = fun _ => 0 :=
  (θ_run Cert.LayerReferenceIdeal.defs _ _).mono (fun r hr => ⟨fun c => (hr c).2, sem_eq_zero_of_no_sems (by decide) r.2⟩)
    (Cert.LayerReferenceIdeal.Value.run m ρ)

set_option maxHeartbeats 4000000 in
/-- The ideal claim: equal results, from the same arguments. -/
theorem algebraic : Cert.algebraic_LayerIdeal_LayerReferenceIdeal := fun m ρ m' ρ' h hm =>
  ⟨fun c => layered (m ((c.tc : Thread Cert.LayerIdeal.nD Cert.LayerIdeal.τ).loc Cert.LayerIdeal.main_arg0)) (m ((c.tc : Thread Cert.LayerIdeal.nD Cert.LayerIdeal.τ).loc Cert.LayerIdeal.main_arg1)) (m ((c.tc : Thread Cert.LayerIdeal.nD Cert.LayerIdeal.τ).loc Cert.LayerIdeal.main_arg2)) (m ((c.tc : Thread Cert.LayerIdeal.nD Cert.LayerIdeal.τ).loc Cert.LayerIdeal.main_arg3)) (m ((c.tc : Thread Cert.LayerIdeal.nD Cert.LayerIdeal.τ).loc Cert.LayerIdeal.main_arg4)) (m ((c.tc : Thread Cert.LayerIdeal.nD Cert.LayerIdeal.τ).loc Cert.LayerIdeal.main_arg5)) (m ((c.tc : Thread Cert.LayerIdeal.nD Cert.LayerIdeal.τ).loc Cert.LayerIdeal.main_arg6)) (m ((c.tc : Thread Cert.LayerIdeal.nD Cert.LayerIdeal.τ).loc Cert.LayerIdeal.main_arg7)) (m ((c.tc : Thread Cert.LayerIdeal.nD Cert.LayerIdeal.τ).loc Cert.LayerIdeal.main_arg8)) (m ((c.tc : Thread Cert.LayerIdeal.nD Cert.LayerIdeal.τ).loc Cert.LayerIdeal.main_arg9)) (m ((c.tc : Thread Cert.LayerIdeal.nD Cert.LayerIdeal.τ).loc Cert.LayerIdeal.main_arg10)) (m ((c.tc : Thread Cert.LayerIdeal.nD Cert.LayerIdeal.τ).loc Cert.LayerIdeal.main_arg11)) (m ((c.tc : Thread Cert.LayerIdeal.nD Cert.LayerIdeal.τ).loc Cert.LayerIdeal.main_arg12)),
    (θ_run Cert.LayerIdeal.defs _ _).mono (fun _ hr c => ⟨(hr.1 c).1.trans (joined_layered m c), (hr.1 c).2⟩) (run_main (F := Ideal) m ρ (preOK m h)),
    (θ_run Cert.LayerReferenceIdeal.defs _ _).mono
      (fun _ hr c => ⟨(hr c).1.trans (by rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2.1, (hm c).2.2.2.2.2.2.2.2.2.1, (hm c).2.2.2.2.2.2.2.2.2.2.1, (hm c).2.2.2.2.2.2.2.2.2.2.2.1, (hm c).2.2.2.2.2.2.2.2.2.2.2.2]), (hr c).2⟩)
      (R.run_layered m' ρ' fun c j => by
        have e := congrFun (hm c).2.1 j
        exact (congrArg BitVec.toNat e).trans_lt (preOK m h c j))⟩

end Cert.Proof.Layer

end
-- ==== Proof.lean ====
/-
  The certificate: one run of the program at any float values (`Gather.run_main`), one run of the reference at any float
  values, and the equality of the two results (`Gather.joined_out`, `Gather.reference_eq`). The frames and the two value
  claims are these, read. The program printed for the machine and the program printed for its ideal reading have the same
  text, and so have the two printings of the reference: a statement about one is a statement about the other. The claims
  of the attention call, of the embedding call and of the whole layer are proved in `Attn.Claims`, `Embed.Claims` and
  `Layer.Claims`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Gen.LayerIdeal
public import proofs.«01_k».proof.Proof.Gen.LayerIdeal.Skeleton
public import proofs.«01_k».proof.Proof.Gen.LayerIdeal.Launch
public import proofs.«01_k».proof.Proof.Gen.LayerIdeal.Points
public import proofs.«01_k».proof.Proof.Gen.LayerReferenceIdeal
public import proofs.«01_k».proof.Proof.Gen.LayerReferenceIdeal.Run
public import proofs.«01_k».proof.Proof.Gen.Pre_layer_in_range
public import proofs.«01_k».proof.Proof.Gather.Value
public import proofs.«01_k».proof.Proof.Embed.Claims
public import proofs.«01_k».proof.Proof.Attn.Claims
public import proofs.«01_k».proof.Proof.Layer.Claims
public import Idealize.ShloMosaic.Adequacy
public import Idealize.ShloMosaic.Init

@[expose] public section

noncomputable section

namespace Cert.Proof

open Idealize.ShloMosaic Idealize.SL.Sem Cert.Proof.Gather

variable {F : FTy → Type} [FloatOps F]

/-- The machine's printing of the reference states what the ideal one states. -/
instance factsReference : Cert.Reference.Facts where
  slices_S10240x16_S10000x16_0_0 := Cert.ReferenceIdeal.Gen.slices_S10240x16_S10000x16_0_0
  bcast_S_S10000x16 := Cert.ReferenceIdeal.Gen.bcast_S_S10000x16
  bcast_S10000x16_S10000x16x1_0_1 := Cert.ReferenceIdeal.Gen.bcast_S10000x16_S10000x16x1_0_1
  shapeCasts_S10000x16x128_S160000x128 := Cert.ReferenceIdeal.Gen.shapeCasts_S10000x16x128_S160000x128
  gather_S10000x128_S10000x16x1_S10000x16x128_2_0_n_n_0_2_1128_wf := Cert.ReferenceIdeal.Gen.gather_S10000x128_S10000x16x1_S10000x16x128_2_0_n_n_0_2_1128_wf

/-- A memory whose arguments meet the precondition holds only numbers of the table's rows. -/
theorem preOK (m : (ℓ : Loc Cert.KernelIdeal.nD Cert.KernelIdeal.τ Cert.KernelIdeal.sig) → Buf (Elt F) ℓ)
    (h : ∀ c : Dev Cert.KernelIdeal.nD, Cert.Pre_in_range.fn (F := F) (m ((SparseCore.T c).loc Cert.KernelIdeal.main_arg0)) (m ((SparseCore.T c).loc Cert.KernelIdeal.main_arg1)) = fun _ => 1#1) :
    PreOK m := fun d j => lt_of_pre _ _ (h d) j

/-- The program's run: the result is the gathered rows, the arguments and the counters are as they were. -/
theorem run_kernel [∀ e, Nonempty (Elt F e)] (m : (ℓ : Loc Cert.KernelIdeal.nD Cert.KernelIdeal.τ Cert.KernelIdeal.sig) → Buf (Elt F) ℓ)
    (ρ : Dev Cert.KernelIdeal.nD → PrngReg) (h : PreOK m) :
    θ_run (Cert.KernelIdeal.defs (F := F)) (Cert.KernelIdeal.threads (F := F)) ⟨m, fun _ => 0, ρ⟩ fun r =>
      (∀ c : Dev Cert.KernelIdeal.nD, r.2.mem ((SparseCore.T c).loc Cert.KernelIdeal.main_v11) = gathered (tbl m c) (m ((SparseCore.T c).loc Cert.KernelIdeal.main_arg1))
        ∧ r.2.mem ((SparseCore.T c).loc Cert.KernelIdeal.main_arg0) = m ((SparseCore.T c).loc Cert.KernelIdeal.main_arg0)
        ∧ r.2.mem ((SparseCore.T c).loc Cert.KernelIdeal.main_arg1) = m ((SparseCore.T c).loc Cert.KernelIdeal.main_arg1)) ∧ r.2.sem = fun _ => 0 :=
  (θ_run Cert.KernelIdeal.defs _ _).mono (fun _ hr => ⟨fun c => ⟨(hr.1 c).1.trans (joined_out m c), (hr.1 c).2⟩, hr.2⟩) (run_main m ρ h)

/-- The reference's run, where its numbers are rows of the table: the result is the gathered rows. -/
theorem run_reference (m : (ℓ : Loc Cert.ReferenceIdeal.nD Cert.ReferenceIdeal.τ Cert.ReferenceIdeal.sig) → Buf (Elt F) ℓ)
    (ρ : Dev Cert.ReferenceIdeal.nD → PrngReg)
    (h : ∀ (c : Dev Cert.ReferenceIdeal.nD) (j : Cert.ReferenceIdeal.S10240x16.Idx), (m ((SparseCore.T c).loc Cert.ReferenceIdeal.main_arg1) j).toNat < 10000) :
    θ_run (Cert.ReferenceIdeal.defs (F := F)) (onTc (τ := Cert.ReferenceIdeal.τ) (Cert.ReferenceIdeal.main (F := F))) ⟨m, fun _ => 0, ρ⟩ fun r =>
      ∀ c : Dev Cert.ReferenceIdeal.nD, r.2.mem ((SparseCore.T c).loc Cert.ReferenceIdeal.main_v8)
          = gathered (F := F) (m ((SparseCore.T c).loc Cert.ReferenceIdeal.main_arg0)) (m ((SparseCore.T c).loc Cert.ReferenceIdeal.main_arg1))
        ∧ r.2.mem ((SparseCore.T c).loc Cert.ReferenceIdeal.main_arg0) = m ((SparseCore.T c).loc Cert.ReferenceIdeal.main_arg0)
        ∧ r.2.mem ((SparseCore.T c).loc Cert.ReferenceIdeal.main_arg1) = m ((SparseCore.T c).loc Cert.ReferenceIdeal.main_arg1) :=
  (θ_run Cert.ReferenceIdeal.defs _ _).mono (fun _ hr c => ⟨(hr c).1.trans (reference_eq _ _ (h c)), (hr c).2⟩)
    (Cert.ReferenceIdeal.Value.run m ρ)

set_option maxHeartbeats 4000000 in
/-- The frame of the program as printed. -/
theorem frame_kernel : Cert.quiescent_Kernel := fun m ρ h =>
  (θ_run Cert.KernelIdeal.defs _ _).mono (fun _ hr => ⟨fun c => (hr.1 c).2, hr.2⟩) (run_kernel (F := Bits) m ρ (preOK m h))

/-- The frame of its ideal reading. -/
theorem frame_kernelIdeal : Cert.quiescent_KernelIdeal := fun m ρ h =>
  (θ_run Cert.KernelIdeal.defs _ _).mono (fun _ hr => ⟨fun c => (hr.1 c).2, hr.2⟩) (run_kernel (F := Ideal) m ρ (preOK m h))

/-- The reference ends with its arguments and its counters as they were (it has no counter), at any float values. -/
theorem frame_reference_any (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩ fun r =>
      (∀ c : Dev Cert.ReferenceIdeal.nD, r.2.mem ((SparseCore.T c).loc Cert.ReferenceIdeal.main_arg0) = m ((SparseCore.T c).loc Cert.ReferenceIdeal.main_arg0)
        ∧ r.2.mem ((SparseCore.T c).loc Cert.ReferenceIdeal.main_arg1) = m ((SparseCore.T c).loc Cert.ReferenceIdeal.main_arg1)) ∧ r.2.sem = fun _ => 0 :=
  (θ_run Cert.ReferenceIdeal.defs _ _).mono (fun r hr => ⟨fun c => (hr c).2, sem_eq_zero_of_no_sems (by decide) r.2⟩)
    (Cert.ReferenceIdeal.Value.run m ρ)

/-- The ideal claim: equal results, from the same arguments. -/
theorem algebraic : Cert.algebraic_KernelIdeal_ReferenceIdeal := fun m ρ m' ρ' h hm =>
  ⟨fun c => gathered (tbl m c) (m ((SparseCore.T c).loc Cert.KernelIdeal.main_arg1)),
    (θ_run Cert.KernelIdeal.defs _ _).mono (fun _ hr => hr.1) (run_kernel (F := Ideal) m ρ (preOK m h)),
    (θ_run Cert.ReferenceIdeal.defs _ _).mono
      (fun _ hr c => ⟨(hr c).1.trans (congrArg₂ (gathered (F := Ideal)) (hm c).1 (hm c).2), (hr c).2⟩)
      (run_reference (F := Ideal) m' ρ' fun c j => by
        have e := congrFun (hm c).2 j
        exact (congrArg BitVec.toNat e).trans_lt (preOK m h c j))⟩

set_option maxHeartbeats 4000000 in
/-- The claim of bits: equal results, from the same arguments. -/
theorem bitexact : Cert.bitexact_Kernel_Reference := fun m ρ m' ρ' h hm =>
  ⟨fun c => gathered (F := Bits) (m ((SparseCore.T c).loc Cert.Kernel.main_arg0)) (m ((SparseCore.T c).loc Cert.Kernel.main_arg1)),
    (θ_run Cert.KernelIdeal.defs _ _).mono (fun _ hr => hr.1) (run_kernel (F := Bits) m ρ (preOK m h)),
    (θ_run Cert.ReferenceIdeal.defs _ _).mono
      (fun _ hr c => ⟨(hr c).1.trans (congrArg₂ (gathered (F := Bits)) (hm c).1 (hm c).2), (hr c).2⟩)
      (run_reference (F := Bits) m' ρ' fun c j => by
        have e := congrFun (hm c).2 j
        exact (congrArg BitVec.toNat e).trans_lt (preOK (F := Bits) m h c j))⟩

/-- All claims of the certificate. -/
theorem claim : Cert.Claim :=
  ⟨Cert.LayerIdeal.Gen.facts, Cert.LayerReferenceIdeal.Gen.facts, Cert.Kernel.Gen.facts, Cert.KernelIdeal.Gen.facts, Cert.ReferenceIdeal.Gen.facts, factsReference,
    Cert.Embed.Gen.facts, Cert.EmbedIdeal.Gen.facts, Cert.EmbedReferenceIdeal.Gen.facts,
    Cert.Attn.Gen.facts, Cert.AttnIdeal.Gen.facts, Cert.AttnReferenceIdeal.Gen.facts, Cert.Pre_layer_in_range.Gen.facts, Cert.Pre_in_range.Gen.facts,
    Layer.frameIdeal, fun m ρ _ => Layer.frameReference m ρ, fun m ρ _ => Layer.frameReference m ρ, frame_kernel, frame_kernelIdeal, fun m ρ _ => frame_reference_any (F := Ideal) m ρ, fun m ρ _ => frame_reference_any (F := Ideal) m ρ,
    fun m ρ _ => frame_reference_any (F := Bits) m ρ,
    Embed.frame, Embed.frameIdeal, Embed.frameReference, Attn.frame, Attn.frameIdeal, Attn.frameReference,
    Layer.algebraic, trivial, algebraic, bitexact, trivial, Embed.algebraic, trivial, Attn.algebraic⟩

end Cert.Proof

end
